-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ConvCtx (m : (ℓ : Loc Cert.ConvCtx.nD Cert.ConvCtx.τ Cert.ConvCtx.sig) → Buf (Elt Bits) ℓ) : Prop :=
  True

def Pre_ConvCtxIdeal (m : (ℓ : Loc Cert.ConvCtxIdeal.nD Cert.ConvCtxIdeal.τ Cert.ConvCtxIdeal.sig) → Buf (Elt Ideal) ℓ) : Prop :=
  True

def Pre_ConvCtxRefIdeal (m : (ℓ : Loc Cert.ConvCtxRefIdeal.nD Cert.ConvCtxRefIdeal.τ Cert.ConvCtxRefIdeal.sig) → Buf (Elt Ideal) ℓ) : Prop :=
  True

def Pre_LruCtx (m : (ℓ : Loc Cert.LruCtx.nD Cert.LruCtx.τ Cert.LruCtx.sig) → Buf (Elt Bits) ℓ) : Prop :=
  True

def Pre_LruCtxIdeal (m : (ℓ : Loc Cert.LruCtxIdeal.nD Cert.LruCtxIdeal.τ Cert.LruCtxIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_mod_finite [hPre_mod_finite : Cert.Pre_mod_finite.Facts] (m : (ℓ : Loc Cert.ModIdeal.nD Cert.ModIdeal.τ Cert.ModIdeal.sig) → Buf (Elt Ideal) ℓ) : Prop :=
  ∀ c : Dev Cert.ModIdeal.nD,
    (Cert.Pre_mod_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4))).1 = (fun _ => 1#1)
    ∧ (Cert.Pre_mod_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4))).2 = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_mod_finite [hPre_mod_finite : Cert.Pre_mod_finite.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_mod_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4))).1 = (fun _ => 1#1)
    ∧ (Cert.Pre_mod_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4))).2 = (fun _ => 1#1)

def Pre_InCtx (m : (ℓ : Loc Cert.InCtx.nD Cert.InCtx.τ Cert.InCtx.sig) → Buf (Elt Bits) ℓ) : Prop :=
  True

def Pre_InCtxIdeal (m : (ℓ : Loc Cert.InCtxIdeal.nD Cert.InCtxIdeal.τ Cert.InCtxIdeal.sig) → Buf (Elt Ideal) ℓ) : Prop :=
  True

def Pre_InCtxRefIdeal (m : (ℓ : Loc Cert.InCtxRefIdeal.nD Cert.InCtxRefIdeal.τ Cert.InCtxRefIdeal.sig) → Buf (Elt Ideal) ℓ) : Prop :=
  True

def Pre_In1 (m : (ℓ : Loc Cert.In1.nD Cert.In1.τ Cert.In1.sig) → Buf (Elt Bits) ℓ) : Prop :=
  True

def Pre_In1Ideal (m : (ℓ : Loc Cert.In1Ideal.nD Cert.In1Ideal.τ Cert.In1Ideal.sig) → Buf (Elt Ideal) ℓ) : Prop :=
  True

def Pre_In1RefIdeal (m : (ℓ : Loc Cert.In1RefIdeal.nD Cert.In1RefIdeal.τ Cert.In1RefIdeal.sig) → Buf (Elt Ideal) ℓ) : Prop :=
  True

def Pre_In0 (m : (ℓ : Loc Cert.In0.nD Cert.In0.τ Cert.In0.sig) → Buf (Elt Bits) ℓ) : Prop :=
  True

def Pre_In0Ideal (m : (ℓ : Loc Cert.In0Ideal.nD Cert.In0Ideal.τ Cert.In0Ideal.sig) → Buf (Elt Ideal) ℓ) : Prop :=
  True

def Pre_In0RefIdeal (m : (ℓ : Loc Cert.In0RefIdeal.nD Cert.In0RefIdeal.τ Cert.In0RefIdeal.sig) → Buf (Elt Ideal) ℓ) : Prop :=
  True

def Pre_Out1B (m : (ℓ : Loc Cert.Out1B.nD Cert.Out1B.τ Cert.Out1B.sig) → Buf (Elt Bits) ℓ) : Prop :=
  True

def Pre_Out1BIdeal (m : (ℓ : Loc Cert.Out1BIdeal.nD Cert.Out1BIdeal.τ Cert.Out1BIdeal.sig) → Buf (Elt Ideal) ℓ) : Prop :=
  True

def Pre_Out1BIdeal_out1b_finite [hPre_out1b_finite : Cert.Pre_out1b_finite.Facts] (m : (ℓ : Loc Cert.Out1BIdeal.nD Cert.Out1BIdeal.τ Cert.Out1BIdeal.sig) → Buf (Elt Ideal) ℓ) : Prop :=
  ∀ c : Dev Cert.Out1BIdeal.nD,
    (Cert.Pre_out1b_finite.fn (F := Ideal) (m ((c.tc : Thread Cert.Out1BIdeal.nD Cert.Out1BIdeal.τ).loc Cert.Out1BIdeal.main_arg0)) (m ((c.tc : Thread Cert.Out1BIdeal.nD Cert.Out1BIdeal.τ).loc Cert.Out1BIdeal.main_arg1)) (m ((c.tc : Thread Cert.Out1BIdeal.nD Cert.Out1BIdeal.τ).loc Cert.Out1BIdeal.main_arg2)) (m ((c.tc : Thread Cert.Out1BIdeal.nD Cert.Out1BIdeal.τ).loc Cert.Out1BIdeal.main_arg3)) (m ((c.tc : Thread Cert.Out1BIdeal.nD Cert.Out1BIdeal.τ).loc Cert.Out1BIdeal.main_arg4)) (m ((c.tc : Thread Cert.Out1BIdeal.nD Cert.Out1BIdeal.τ).loc Cert.Out1BIdeal.main_arg5)) (m ((c.tc : Thread Cert.Out1BIdeal.nD Cert.Out1BIdeal.τ).loc Cert.Out1BIdeal.main_arg6))).1 = (fun _ => 1#1)
    ∧ (Cert.Pre_out1b_finite.fn (F := Ideal) (m ((c.tc : Thread Cert.Out1BIdeal.nD Cert.Out1BIdeal.τ).loc Cert.Out1BIdeal.main_arg0)) (m ((c.tc : Thread Cert.Out1BIdeal.nD Cert.Out1BIdeal.τ).loc Cert.Out1BIdeal.main_arg1)) (m ((c.tc : Thread Cert.Out1BIdeal.nD Cert.Out1BIdeal.τ).loc Cert.Out1BIdeal.main_arg2)) (m ((c.tc : Thread Cert.Out1BIdeal.nD Cert.Out1BIdeal.τ).loc Cert.Out1BIdeal.main_arg3)) (m ((c.tc : Thread Cert.Out1BIdeal.nD Cert.Out1BIdeal.τ).loc Cert.Out1BIdeal.main_arg4)) (m ((c.tc : Thread Cert.Out1BIdeal.nD Cert.Out1BIdeal.τ).loc Cert.Out1BIdeal.main_arg5)) (m ((c.tc : Thread Cert.Out1BIdeal.nD Cert.Out1BIdeal.τ).loc Cert.Out1BIdeal.main_arg6))).2.1 = (fun _ => 1#1)
    ∧ (Cert.Pre_out1b_finite.fn (F := Ideal) (m ((c.tc : Thread Cert.Out1BIdeal.nD Cert.Out1BIdeal.τ).loc Cert.Out1BIdeal.main_arg0)) (m ((c.tc : Thread Cert.Out1BIdeal.nD Cert.Out1BIdeal.τ).loc Cert.Out1BIdeal.main_arg1)) (m ((c.tc : Thread Cert.Out1BIdeal.nD Cert.Out1BIdeal.τ).loc Cert.Out1BIdeal.main_arg2)) (m ((c.tc : Thread Cert.Out1BIdeal.nD Cert.Out1BIdeal.τ).loc Cert.Out1BIdeal.main_arg3)) (m ((c.tc : Thread Cert.Out1BIdeal.nD Cert.Out1BIdeal.τ).loc Cert.Out1BIdeal.main_arg4)) (m ((c.tc : Thread Cert.Out1BIdeal.nD Cert.Out1BIdeal.τ).loc Cert.Out1BIdeal.main_arg5)) (m ((c.tc : Thread Cert.Out1BIdeal.nD Cert.Out1BIdeal.τ).loc Cert.Out1BIdeal.main_arg6))).2.2.1 = (fun _ => 1#1)
    ∧ (Cert.Pre_out1b_finite.fn (F := Ideal) (m ((c.tc : Thread Cert.Out1BIdeal.nD Cert.Out1BIdeal.τ).loc Cert.Out1BIdeal.main_arg0)) (m ((c.tc : Thread Cert.Out1BIdeal.nD Cert.Out1BIdeal.τ).loc Cert.Out1BIdeal.main_arg1)) (m ((c.tc : Thread Cert.Out1BIdeal.nD Cert.Out1BIdeal.τ).loc Cert.Out1BIdeal.main_arg2)) (m ((c.tc : Thread Cert.Out1BIdeal.nD Cert.Out1BIdeal.τ).loc Cert.Out1BIdeal.main_arg3)) (m ((c.tc : Thread Cert.Out1BIdeal.nD Cert.Out1BIdeal.τ).loc Cert.Out1BIdeal.main_arg4)) (m ((c.tc : Thread Cert.Out1BIdeal.nD Cert.Out1BIdeal.τ).loc Cert.Out1BIdeal.main_arg5)) (m ((c.tc : Thread Cert.Out1BIdeal.nD Cert.Out1BIdeal.τ).loc Cert.Out1BIdeal.main_arg6))).2.2.2.1 = (fun _ => 1#1)
    ∧ (Cert.Pre_out1b_finite.fn (F := Ideal) (m ((c.tc : Thread Cert.Out1BIdeal.nD Cert.Out1BIdeal.τ).loc Cert.Out1BIdeal.main_arg0)) (m ((c.tc : Thread Cert.Out1BIdeal.nD Cert.Out1BIdeal.τ).loc Cert.Out1BIdeal.main_arg1)) (m ((c.tc : Thread Cert.Out1BIdeal.nD Cert.Out1BIdeal.τ).loc Cert.Out1BIdeal.main_arg2)) (m ((c.tc : Thread Cert.Out1BIdeal.nD Cert.Out1BIdeal.τ).loc Cert.Out1BIdeal.main_arg3)) (m ((c.tc : Thread Cert.Out1BIdeal.nD Cert.Out1BIdeal.τ).loc Cert.Out1BIdeal.main_arg4)) (m ((c.tc : Thread Cert.Out1BIdeal.nD Cert.Out1BIdeal.τ).loc Cert.Out1BIdeal.main_arg5)) (m ((c.tc : Thread Cert.Out1BIdeal.nD Cert.Out1BIdeal.τ).loc Cert.Out1BIdeal.main_arg6))).2.2.2.2.1 = (fun _ => 1#1)
    ∧ (Cert.Pre_out1b_finite.fn (F := Ideal) (m ((c.tc : Thread Cert.Out1BIdeal.nD Cert.Out1BIdeal.τ).loc Cert.Out1BIdeal.main_arg0)) (m ((c.tc : Thread Cert.Out1BIdeal.nD Cert.Out1BIdeal.τ).loc Cert.Out1BIdeal.main_arg1)) (m ((c.tc : Thread Cert.Out1BIdeal.nD Cert.Out1BIdeal.τ).loc Cert.Out1BIdeal.main_arg2)) (m ((c.tc : Thread Cert.Out1BIdeal.nD Cert.Out1BIdeal.τ).loc Cert.Out1BIdeal.main_arg3)) (m ((c.tc : Thread Cert.Out1BIdeal.nD Cert.Out1BIdeal.τ).loc Cert.Out1BIdeal.main_arg4)) (m ((c.tc : Thread Cert.Out1BIdeal.nD Cert.Out1BIdeal.τ).loc Cert.Out1BIdeal.main_arg5)) (m ((c.tc : Thread Cert.Out1BIdeal.nD Cert.Out1BIdeal.τ).loc Cert.Out1BIdeal.main_arg6))).2.2.2.2.2 = (fun _ => 1#1)

def Pre_Out1BRefIdeal (m : (ℓ : Loc Cert.Out1BRefIdeal.nD Cert.Out1BRefIdeal.τ Cert.Out1BRefIdeal.sig) → Buf (Elt Ideal) ℓ) : Prop :=
  True

def Pre_Out1BRefIdeal_out1b_finite [hPre_out1b_finite : Cert.Pre_out1b_finite.Facts] (m : (ℓ : Loc Cert.Out1BRefIdeal.nD Cert.Out1BRefIdeal.τ Cert.Out1BRefIdeal.sig) → Buf (Elt Ideal) ℓ) : Prop :=
  ∀ c : Dev Cert.Out1BRefIdeal.nD,
    (Cert.Pre_out1b_finite.fn (F := Ideal) (m ((c.tc : Thread Cert.Out1BRefIdeal.nD Cert.Out1BRefIdeal.τ).loc Cert.Out1BRefIdeal.main_arg0)) (m ((c.tc : Thread Cert.Out1BRefIdeal.nD Cert.Out1BRefIdeal.τ).loc Cert.Out1BRefIdeal.main_arg1)) (m ((c.tc : Thread Cert.Out1BRefIdeal.nD Cert.Out1BRefIdeal.τ).loc Cert.Out1BRefIdeal.main_arg2)) (m ((c.tc : Thread Cert.Out1BRefIdeal.nD Cert.Out1BRefIdeal.τ).loc Cert.Out1BRefIdeal.main_arg3)) (m ((c.tc : Thread Cert.Out1BRefIdeal.nD Cert.Out1BRefIdeal.τ).loc Cert.Out1BRefIdeal.main_arg4)) (m ((c.tc : Thread Cert.Out1BRefIdeal.nD Cert.Out1BRefIdeal.τ).loc Cert.Out1BRefIdeal.main_arg5)) (m ((c.tc : Thread Cert.Out1BRefIdeal.nD Cert.Out1BRefIdeal.τ).loc Cert.Out1BRefIdeal.main_arg6))).1 = (fun _ => 1#1)
    ∧ (Cert.Pre_out1b_finite.fn (F := Ideal) (m ((c.tc : Thread Cert.Out1BRefIdeal.nD Cert.Out1BRefIdeal.τ).loc Cert.Out1BRefIdeal.main_arg0)) (m ((c.tc : Thread Cert.Out1BRefIdeal.nD Cert.Out1BRefIdeal.τ).loc Cert.Out1BRefIdeal.main_arg1)) (m ((c.tc : Thread Cert.Out1BRefIdeal.nD Cert.Out1BRefIdeal.τ).loc Cert.Out1BRefIdeal.main_arg2)) (m ((c.tc : Thread Cert.Out1BRefIdeal.nD Cert.Out1BRefIdeal.τ).loc Cert.Out1BRefIdeal.main_arg3)) (m ((c.tc : Thread Cert.Out1BRefIdeal.nD Cert.Out1BRefIdeal.τ).loc Cert.Out1BRefIdeal.main_arg4)) (m ((c.tc : Thread Cert.Out1BRefIdeal.nD Cert.Out1BRefIdeal.τ).loc Cert.Out1BRefIdeal.main_arg5)) (m ((c.tc : Thread Cert.Out1BRefIdeal.nD Cert.Out1BRefIdeal.τ).loc Cert.Out1BRefIdeal.main_arg6))).2.1 = (fun _ => 1#1)
    ∧ (Cert.Pre_out1b_finite.fn (F := Ideal) (m ((c.tc : Thread Cert.Out1BRefIdeal.nD Cert.Out1BRefIdeal.τ).loc Cert.Out1BRefIdeal.main_arg0)) (m ((c.tc : Thread Cert.Out1BRefIdeal.nD Cert.Out1BRefIdeal.τ).loc Cert.Out1BRefIdeal.main_arg1)) (m ((c.tc : Thread Cert.Out1BRefIdeal.nD Cert.Out1BRefIdeal.τ).loc Cert.Out1BRefIdeal.main_arg2)) (m ((c.tc : Thread Cert.Out1BRefIdeal.nD Cert.Out1BRefIdeal.τ).loc Cert.Out1BRefIdeal.main_arg3)) (m ((c.tc : Thread Cert.Out1BRefIdeal.nD Cert.Out1BRefIdeal.τ).loc Cert.Out1BRefIdeal.main_arg4)) (m ((c.tc : Thread Cert.Out1BRefIdeal.nD Cert.Out1BRefIdeal.τ).loc Cert.Out1BRefIdeal.main_arg5)) (m ((c.tc : Thread Cert.Out1BRefIdeal.nD Cert.Out1BRefIdeal.τ).loc Cert.Out1BRefIdeal.main_arg6))).2.2.1 = (fun _ => 1#1)
    ∧ (Cert.Pre_out1b_finite.fn (F := Ideal) (m ((c.tc : Thread Cert.Out1BRefIdeal.nD Cert.Out1BRefIdeal.τ).loc Cert.Out1BRefIdeal.main_arg0)) (m ((c.tc : Thread Cert.Out1BRefIdeal.nD Cert.Out1BRefIdeal.τ).loc Cert.Out1BRefIdeal.main_arg1)) (m ((c.tc : Thread Cert.Out1BRefIdeal.nD Cert.Out1BRefIdeal.τ).loc Cert.Out1BRefIdeal.main_arg2)) (m ((c.tc : Thread Cert.Out1BRefIdeal.nD Cert.Out1BRefIdeal.τ).loc Cert.Out1BRefIdeal.main_arg3)) (m ((c.tc : Thread Cert.Out1BRefIdeal.nD Cert.Out1BRefIdeal.τ).loc Cert.Out1BRefIdeal.main_arg4)) (m ((c.tc : Thread Cert.Out1BRefIdeal.nD Cert.Out1BRefIdeal.τ).loc Cert.Out1BRefIdeal.main_arg5)) (m ((c.tc : Thread Cert.Out1BRefIdeal.nD Cert.Out1BRefIdeal.τ).loc Cert.Out1BRefIdeal.main_arg6))).2.2.2.1 = (fun _ => 1#1)
    ∧ (Cert.Pre_out1b_finite.fn (F := Ideal) (m ((c.tc : Thread Cert.Out1BRefIdeal.nD Cert.Out1BRefIdeal.τ).loc Cert.Out1BRefIdeal.main_arg0)) (m ((c.tc : Thread Cert.Out1BRefIdeal.nD Cert.Out1BRefIdeal.τ).loc Cert.Out1BRefIdeal.main_arg1)) (m ((c.tc : Thread Cert.Out1BRefIdeal.nD Cert.Out1BRefIdeal.τ).loc Cert.Out1BRefIdeal.main_arg2)) (m ((c.tc : Thread Cert.Out1BRefIdeal.nD Cert.Out1BRefIdeal.τ).loc Cert.Out1BRefIdeal.main_arg3)) (m ((c.tc : Thread Cert.Out1BRefIdeal.nD Cert.Out1BRefIdeal.τ).loc Cert.Out1BRefIdeal.main_arg4)) (m ((c.tc : Thread Cert.Out1BRefIdeal.nD Cert.Out1BRefIdeal.τ).loc Cert.Out1BRefIdeal.main_arg5)) (m ((c.tc : Thread Cert.Out1BRefIdeal.nD Cert.Out1BRefIdeal.τ).loc Cert.Out1BRefIdeal.main_arg6))).2.2.2.2.1 = (fun _ => 1#1)
    ∧ (Cert.Pre_out1b_finite.fn (F := Ideal) (m ((c.tc : Thread Cert.Out1BRefIdeal.nD Cert.Out1BRefIdeal.τ).loc Cert.Out1BRefIdeal.main_arg0)) (m ((c.tc : Thread Cert.Out1BRefIdeal.nD Cert.Out1BRefIdeal.τ).loc Cert.Out1BRefIdeal.main_arg1)) (m ((c.tc : Thread Cert.Out1BRefIdeal.nD Cert.Out1BRefIdeal.τ).loc Cert.Out1BRefIdeal.main_arg2)) (m ((c.tc : Thread Cert.Out1BRefIdeal.nD Cert.Out1BRefIdeal.τ).loc Cert.Out1BRefIdeal.main_arg3)) (m ((c.tc : Thread Cert.Out1BRefIdeal.nD Cert.Out1BRefIdeal.τ).loc Cert.Out1BRefIdeal.main_arg4)) (m ((c.tc : Thread Cert.Out1BRefIdeal.nD Cert.Out1BRefIdeal.τ).loc Cert.Out1BRefIdeal.main_arg5)) (m ((c.tc : Thread Cert.Out1BRefIdeal.nD Cert.Out1BRefIdeal.τ).loc Cert.Out1BRefIdeal.main_arg6))).2.2.2.2.2 = (fun _ => 1#1)

def Pre_Out0B (m : (ℓ : Loc Cert.Out0B.nD Cert.Out0B.τ Cert.Out0B.sig) → Buf (Elt Bits) ℓ) : Prop :=
  True

def Pre_Out0BIdeal (m : (ℓ : Loc Cert.Out0BIdeal.nD Cert.Out0BIdeal.τ Cert.Out0BIdeal.sig) → Buf (Elt Ideal) ℓ) : Prop :=
  True

def Pre_Out0BIdeal_out0b_finite [hPre_out0b_finite : Cert.Pre_out0b_finite.Facts] (m : (ℓ : Loc Cert.Out0BIdeal.nD Cert.Out0BIdeal.τ Cert.Out0BIdeal.sig) → Buf (Elt Ideal) ℓ) : Prop :=
  ∀ c : Dev Cert.Out0BIdeal.nD,
    (Cert.Pre_out0b_finite.fn (F := Ideal) (m ((c.tc : Thread Cert.Out0BIdeal.nD Cert.Out0BIdeal.τ).loc Cert.Out0BIdeal.main_arg0)) (m ((c.tc : Thread Cert.Out0BIdeal.nD Cert.Out0BIdeal.τ).loc Cert.Out0BIdeal.main_arg1)) (m ((c.tc : Thread Cert.Out0BIdeal.nD Cert.Out0BIdeal.τ).loc Cert.Out0BIdeal.main_arg2)) (m ((c.tc : Thread Cert.Out0BIdeal.nD Cert.Out0BIdeal.τ).loc Cert.Out0BIdeal.main_arg3)) (m ((c.tc : Thread Cert.Out0BIdeal.nD Cert.Out0BIdeal.τ).loc Cert.Out0BIdeal.main_arg4)) (m ((c.tc : Thread Cert.Out0BIdeal.nD Cert.Out0BIdeal.τ).loc Cert.Out0BIdeal.main_arg5)) (m ((c.tc : Thread Cert.Out0BIdeal.nD Cert.Out0BIdeal.τ).loc Cert.Out0BIdeal.main_arg6)) (m ((c.tc : Thread Cert.Out0BIdeal.nD Cert.Out0BIdeal.τ).loc Cert.Out0BIdeal.main_arg7))).1 = (fun _ => 1#1)
    ∧ (Cert.Pre_out0b_finite.fn (F := Ideal) (m ((c.tc : Thread Cert.Out0BIdeal.nD Cert.Out0BIdeal.τ).loc Cert.Out0BIdeal.main_arg0)) (m ((c.tc : Thread Cert.Out0BIdeal.nD Cert.Out0BIdeal.τ).loc Cert.Out0BIdeal.main_arg1)) (m ((c.tc : Thread Cert.Out0BIdeal.nD Cert.Out0BIdeal.τ).loc Cert.Out0BIdeal.main_arg2)) (m ((c.tc : Thread Cert.Out0BIdeal.nD Cert.Out0BIdeal.τ).loc Cert.Out0BIdeal.main_arg3)) (m ((c.tc : Thread Cert.Out0BIdeal.nD Cert.Out0BIdeal.τ).loc Cert.Out0BIdeal.main_arg4)) (m ((c.tc : Thread Cert.Out0BIdeal.nD Cert.Out0BIdeal.τ).loc Cert.Out0BIdeal.main_arg5)) (m ((c.tc : Thread Cert.Out0BIdeal.nD Cert.Out0BIdeal.τ).loc Cert.Out0BIdeal.main_arg6)) (m ((c.tc : Thread Cert.Out0BIdeal.nD Cert.Out0BIdeal.τ).loc Cert.Out0BIdeal.main_arg7))).2.1 = (fun _ => 1#1)
    ∧ (Cert.Pre_out0b_finite.fn (F := Ideal) (m ((c.tc : Thread Cert.Out0BIdeal.nD Cert.Out0BIdeal.τ).loc Cert.Out0BIdeal.main_arg0)) (m ((c.tc : Thread Cert.Out0BIdeal.nD Cert.Out0BIdeal.τ).loc Cert.Out0BIdeal.main_arg1)) (m ((c.tc : Thread Cert.Out0BIdeal.nD Cert.Out0BIdeal.τ).loc Cert.Out0BIdeal.main_arg2)) (m ((c.tc : Thread Cert.Out0BIdeal.nD Cert.Out0BIdeal.τ).loc Cert.Out0BIdeal.main_arg3)) (m ((c.tc : Thread Cert.Out0BIdeal.nD Cert.Out0BIdeal.τ).loc Cert.Out0BIdeal.main_arg4)) (m ((c.tc : Thread Cert.Out0BIdeal.nD Cert.Out0BIdeal.τ).loc Cert.Out0BIdeal.main_arg5)) (m ((c.tc : Thread Cert.Out0BIdeal.nD Cert.Out0BIdeal.τ).loc Cert.Out0BIdeal.main_arg6)) (m ((c.tc : Thread Cert.Out0BIdeal.nD Cert.Out0BIdeal.τ).loc Cert.Out0BIdeal.main_arg7))).2.2.1 = (fun _ => 1#1)
    ∧ (Cert.Pre_out0b_finite.fn (F := Ideal) (m ((c.tc : Thread Cert.Out0BIdeal.nD Cert.Out0BIdeal.τ).loc Cert.Out0BIdeal.main_arg0)) (m ((c.tc : Thread Cert.Out0BIdeal.nD Cert.Out0BIdeal.τ).loc Cert.Out0BIdeal.main_arg1)) (m ((c.tc : Thread Cert.Out0BIdeal.nD Cert.Out0BIdeal.τ).loc Cert.Out0BIdeal.main_arg2)) (m ((c.tc : Thread Cert.Out0BIdeal.nD Cert.Out0BIdeal.τ).loc Cert.Out0BIdeal.main_arg3)) (m ((c.tc : Thread Cert.Out0BIdeal.nD Cert.Out0BIdeal.τ).loc Cert.Out0BIdeal.main_arg4)) (m ((c.tc : Thread Cert.Out0BIdeal.nD Cert.Out0BIdeal.τ).loc Cert.Out0BIdeal.main_arg5)) (m ((c.tc : Thread Cert.Out0BIdeal.nD Cert.Out0BIdeal.τ).loc Cert.Out0BIdeal.main_arg6)) (m ((c.tc : Thread Cert.Out0BIdeal.nD Cert.Out0BIdeal.τ).loc Cert.Out0BIdeal.main_arg7))).2.2.2.1 = (fun _ => 1#1)
    ∧ (Cert.Pre_out0b_finite.fn (F := Ideal) (m ((c.tc : Thread Cert.Out0BIdeal.nD Cert.Out0BIdeal.τ).loc Cert.Out0BIdeal.main_arg0)) (m ((c.tc : Thread Cert.Out0BIdeal.nD Cert.Out0BIdeal.τ).loc Cert.Out0BIdeal.main_arg1)) (m ((c.tc : Thread Cert.Out0BIdeal.nD Cert.Out0BIdeal.τ).loc Cert.Out0BIdeal.main_arg2)) (m ((c.tc : Thread Cert.Out0BIdeal.nD Cert.Out0BIdeal.τ).loc Cert.Out0BIdeal.main_arg3)) (m ((c.tc : Thread Cert.Out0BIdeal.nD Cert.Out0BIdeal.τ).loc Cert.Out0BIdeal.main_arg4)) (m ((c.tc : Thread Cert.Out0BIdeal.nD Cert.Out0BIdeal.τ).loc Cert.Out0BIdeal.main_arg5)) (m ((c.tc : Thread Cert.Out0BIdeal.nD Cert.Out0BIdeal.τ).loc Cert.Out0BIdeal.main_arg6)) (m ((c.tc : Thread Cert.Out0BIdeal.nD Cert.Out0BIdeal.τ).loc Cert.Out0BIdeal.main_arg7))).2.2.2.2.1 = (fun _ => 1#1)
    ∧ (Cert.Pre_out0b_finite.fn (F := Ideal) (m ((c.tc : Thread Cert.Out0BIdeal.nD Cert.Out0BIdeal.τ).loc Cert.Out0BIdeal.main_arg0)) (m ((c.tc : Thread Cert.Out0BIdeal.nD Cert.Out0BIdeal.τ).loc Cert.Out0BIdeal.main_arg1)) (m ((c.tc : Thread Cert.Out0BIdeal.nD Cert.Out0BIdeal.τ).loc Cert.Out0BIdeal.main_arg2)) (m ((c.tc : Thread Cert.Out0BIdeal.nD Cert.Out0BIdeal.τ).loc Cert.Out0BIdeal.main_arg3)) (m ((c.tc : Thread Cert.Out0BIdeal.nD Cert.Out0BIdeal.τ).loc Cert.Out0BIdeal.main_arg4)) (m ((c.tc : Thread Cert.Out0BIdeal.nD Cert.Out0BIdeal.τ).loc Cert.Out0BIdeal.main_arg5)) (m ((c.tc : Thread Cert.Out0BIdeal.nD Cert.Out0BIdeal.τ).loc Cert.Out0BIdeal.main_arg6)) (m ((c.tc : Thread Cert.Out0BIdeal.nD Cert.Out0BIdeal.τ).loc Cert.Out0BIdeal.main_arg7))).2.2.2.2.2.1 = (fun _ => 1#1)
    ∧ (Cert.Pre_out0b_finite.fn (F := Ideal) (m ((c.tc : Thread Cert.Out0BIdeal.nD Cert.Out0BIdeal.τ).loc Cert.Out0BIdeal.main_arg0)) (m ((c.tc : Thread Cert.Out0BIdeal.nD Cert.Out0BIdeal.τ).loc Cert.Out0BIdeal.main_arg1)) (m ((c.tc : Thread Cert.Out0BIdeal.nD Cert.Out0BIdeal.τ).loc Cert.Out0BIdeal.main_arg2)) (m ((c.tc : Thread Cert.Out0BIdeal.nD Cert.Out0BIdeal.τ).loc Cert.Out0BIdeal.main_arg3)) (m ((c.tc : Thread Cert.Out0BIdeal.nD Cert.Out0BIdeal.τ).loc Cert.Out0BIdeal.main_arg4)) (m ((c.tc : Thread Cert.Out0BIdeal.nD Cert.Out0BIdeal.τ).loc Cert.Out0BIdeal.main_arg5)) (m ((c.tc : Thread Cert.Out0BIdeal.nD Cert.Out0BIdeal.τ).loc Cert.Out0BIdeal.main_arg6)) (m ((c.tc : Thread Cert.Out0BIdeal.nD Cert.Out0BIdeal.τ).loc Cert.Out0BIdeal.main_arg7))).2.2.2.2.2.2.1 = (fun _ => 1#1)
    ∧ (Cert.Pre_out0b_finite.fn (F := Ideal) (m ((c.tc : Thread Cert.Out0BIdeal.nD Cert.Out0BIdeal.τ).loc Cert.Out0BIdeal.main_arg0)) (m ((c.tc : Thread Cert.Out0BIdeal.nD Cert.Out0BIdeal.τ).loc Cert.Out0BIdeal.main_arg1)) (m ((c.tc : Thread Cert.Out0BIdeal.nD Cert.Out0BIdeal.τ).loc Cert.Out0BIdeal.main_arg2)) (m ((c.tc : Thread Cert.Out0BIdeal.nD Cert.Out0BIdeal.τ).loc Cert.Out0BIdeal.main_arg3)) (m ((c.tc : Thread Cert.Out0BIdeal.nD Cert.Out0BIdeal.τ).loc Cert.Out0BIdeal.main_arg4)) (m ((c.tc : Thread Cert.Out0BIdeal.nD Cert.Out0BIdeal.τ).loc Cert.Out0BIdeal.main_arg5)) (m ((c.tc : Thread Cert.Out0BIdeal.nD Cert.Out0BIdeal.τ).loc Cert.Out0BIdeal.main_arg6)) (m ((c.tc : Thread Cert.Out0BIdeal.nD Cert.Out0BIdeal.τ).loc Cert.Out0BIdeal.main_arg7))).2.2.2.2.2.2.2 = (fun _ => 1#1)

def Pre_Out0BRefIdeal (m : (ℓ : Loc Cert.Out0BRefIdeal.nD Cert.Out0BRefIdeal.τ Cert.Out0BRefIdeal.sig) → Buf (Elt Ideal) ℓ) : Prop :=
  True

def Pre_Out0BRefIdeal_out0b_finite [hPre_out0b_finite : Cert.Pre_out0b_finite.Facts] (m : (ℓ : Loc Cert.Out0BRefIdeal.nD Cert.Out0BRefIdeal.τ Cert.Out0BRefIdeal.sig) → Buf (Elt Ideal) ℓ) : Prop :=
  ∀ c : Dev Cert.Out0BRefIdeal.nD,
    (Cert.Pre_out0b_finite.fn (F := Ideal) (m ((c.tc : Thread Cert.Out0BRefIdeal.nD Cert.Out0BRefIdeal.τ).loc Cert.Out0BRefIdeal.main_arg0)) (m ((c.tc : Thread Cert.Out0BRefIdeal.nD Cert.Out0BRefIdeal.τ).loc Cert.Out0BRefIdeal.main_arg1)) (m ((c.tc : Thread Cert.Out0BRefIdeal.nD Cert.Out0BRefIdeal.τ).loc Cert.Out0BRefIdeal.main_arg2)) (m ((c.tc : Thread Cert.Out0BRefIdeal.nD Cert.Out0BRefIdeal.τ).loc Cert.Out0BRefIdeal.main_arg3)) (m ((c.tc : Thread Cert.Out0BRefIdeal.nD Cert.Out0BRefIdeal.τ).loc Cert.Out0BRefIdeal.main_arg4)) (m ((c.tc : Thread Cert.Out0BRefIdeal.nD Cert.Out0BRefIdeal.τ).loc Cert.Out0BRefIdeal.main_arg5)) (m ((c.tc : Thread Cert.Out0BRefIdeal.nD Cert.Out0BRefIdeal.τ).loc Cert.Out0BRefIdeal.main_arg6)) (m ((c.tc : Thread Cert.Out0BRefIdeal.nD Cert.Out0BRefIdeal.τ).loc Cert.Out0BRefIdeal.main_arg7))).1 = (fun _ => 1#1)
    ∧ (Cert.Pre_out0b_finite.fn (F := Ideal) (m ((c.tc : Thread Cert.Out0BRefIdeal.nD Cert.Out0BRefIdeal.τ).loc Cert.Out0BRefIdeal.main_arg0)) (m ((c.tc : Thread Cert.Out0BRefIdeal.nD Cert.Out0BRefIdeal.τ).loc Cert.Out0BRefIdeal.main_arg1)) (m ((c.tc : Thread Cert.Out0BRefIdeal.nD Cert.Out0BRefIdeal.τ).loc Cert.Out0BRefIdeal.main_arg2)) (m ((c.tc : Thread Cert.Out0BRefIdeal.nD Cert.Out0BRefIdeal.τ).loc Cert.Out0BRefIdeal.main_arg3)) (m ((c.tc : Thread Cert.Out0BRefIdeal.nD Cert.Out0BRefIdeal.τ).loc Cert.Out0BRefIdeal.main_arg4)) (m ((c.tc : Thread Cert.Out0BRefIdeal.nD Cert.Out0BRefIdeal.τ).loc Cert.Out0BRefIdeal.main_arg5)) (m ((c.tc : Thread Cert.Out0BRefIdeal.nD Cert.Out0BRefIdeal.τ).loc Cert.Out0BRefIdeal.main_arg6)) (m ((c.tc : Thread Cert.Out0BRefIdeal.nD Cert.Out0BRefIdeal.τ).loc Cert.Out0BRefIdeal.main_arg7))).2.1 = (fun _ => 1#1)
    ∧ (Cert.Pre_out0b_finite.fn (F := Ideal) (m ((c.tc : Thread Cert.Out0BRefIdeal.nD Cert.Out0BRefIdeal.τ).loc Cert.Out0BRefIdeal.main_arg0)) (m ((c.tc : Thread Cert.Out0BRefIdeal.nD Cert.Out0BRefIdeal.τ).loc Cert.Out0BRefIdeal.main_arg1)) (m ((c.tc : Thread Cert.Out0BRefIdeal.nD Cert.Out0BRefIdeal.τ).loc Cert.Out0BRefIdeal.main_arg2)) (m ((c.tc : Thread Cert.Out0BRefIdeal.nD Cert.Out0BRefIdeal.τ).loc Cert.Out0BRefIdeal.main_arg3)) (m ((c.tc : Thread Cert.Out0BRefIdeal.nD Cert.Out0BRefIdeal.τ).loc Cert.Out0BRefIdeal.main_arg4)) (m ((c.tc : Thread Cert.Out0BRefIdeal.nD Cert.Out0BRefIdeal.τ).loc Cert.Out0BRefIdeal.main_arg5)) (m ((c.tc : Thread Cert.Out0BRefIdeal.nD Cert.Out0BRefIdeal.τ).loc Cert.Out0BRefIdeal.main_arg6)) (m ((c.tc : Thread Cert.Out0BRefIdeal.nD Cert.Out0BRefIdeal.τ).loc Cert.Out0BRefIdeal.main_arg7))).2.2.1 = (fun _ => 1#1)
    ∧ (Cert.Pre_out0b_finite.fn (F := Ideal) (m ((c.tc : Thread Cert.Out0BRefIdeal.nD Cert.Out0BRefIdeal.τ).loc Cert.Out0BRefIdeal.main_arg0)) (m ((c.tc : Thread Cert.Out0BRefIdeal.nD Cert.Out0BRefIdeal.τ).loc Cert.Out0BRefIdeal.main_arg1)) (m ((c.tc : Thread Cert.Out0BRefIdeal.nD Cert.Out0BRefIdeal.τ).loc Cert.Out0BRefIdeal.main_arg2)) (m ((c.tc : Thread Cert.Out0BRefIdeal.nD Cert.Out0BRefIdeal.τ).loc Cert.Out0BRefIdeal.main_arg3)) (m ((c.tc : Thread Cert.Out0BRefIdeal.nD Cert.Out0BRefIdeal.τ).loc Cert.Out0BRefIdeal.main_arg4)) (m ((c.tc : Thread Cert.Out0BRefIdeal.nD Cert.Out0BRefIdeal.τ).loc Cert.Out0BRefIdeal.main_arg5)) (m ((c.tc : Thread Cert.Out0BRefIdeal.nD Cert.Out0BRefIdeal.τ).loc Cert.Out0BRefIdeal.main_arg6)) (m ((c.tc : Thread Cert.Out0BRefIdeal.nD Cert.Out0BRefIdeal.τ).loc Cert.Out0BRefIdeal.main_arg7))).2.2.2.1 = (fun _ => 1#1)
    ∧ (Cert.Pre_out0b_finite.fn (F := Ideal) (m ((c.tc : Thread Cert.Out0BRefIdeal.nD Cert.Out0BRefIdeal.τ).loc Cert.Out0BRefIdeal.main_arg0)) (m ((c.tc : Thread Cert.Out0BRefIdeal.nD Cert.Out0BRefIdeal.τ).loc Cert.Out0BRefIdeal.main_arg1)) (m ((c.tc : Thread Cert.Out0BRefIdeal.nD Cert.Out0BRefIdeal.τ).loc Cert.Out0BRefIdeal.main_arg2)) (m ((c.tc : Thread Cert.Out0BRefIdeal.nD Cert.Out0BRefIdeal.τ).loc Cert.Out0BRefIdeal.main_arg3)) (m ((c.tc : Thread Cert.Out0BRefIdeal.nD Cert.Out0BRefIdeal.τ).loc Cert.Out0BRefIdeal.main_arg4)) (m ((c.tc : Thread Cert.Out0BRefIdeal.nD Cert.Out0BRefIdeal.τ).loc Cert.Out0BRefIdeal.main_arg5)) (m ((c.tc : Thread Cert.Out0BRefIdeal.nD Cert.Out0BRefIdeal.τ).loc Cert.Out0BRefIdeal.main_arg6)) (m ((c.tc : Thread Cert.Out0BRefIdeal.nD Cert.Out0BRefIdeal.τ).loc Cert.Out0BRefIdeal.main_arg7))).2.2.2.2.1 = (fun _ => 1#1)
    ∧ (Cert.Pre_out0b_finite.fn (F := Ideal) (m ((c.tc : Thread Cert.Out0BRefIdeal.nD Cert.Out0BRefIdeal.τ).loc Cert.Out0BRefIdeal.main_arg0)) (m ((c.tc : Thread Cert.Out0BRefIdeal.nD Cert.Out0BRefIdeal.τ).loc Cert.Out0BRefIdeal.main_arg1)) (m ((c.tc : Thread Cert.Out0BRefIdeal.nD Cert.Out0BRefIdeal.τ).loc Cert.Out0BRefIdeal.main_arg2)) (m ((c.tc : Thread Cert.Out0BRefIdeal.nD Cert.Out0BRefIdeal.τ).loc Cert.Out0BRefIdeal.main_arg3)) (m ((c.tc : Thread Cert.Out0BRefIdeal.nD Cert.Out0BRefIdeal.τ).loc Cert.Out0BRefIdeal.main_arg4)) (m ((c.tc : Thread Cert.Out0BRefIdeal.nD Cert.Out0BRefIdeal.τ).loc Cert.Out0BRefIdeal.main_arg5)) (m ((c.tc : Thread Cert.Out0BRefIdeal.nD Cert.Out0BRefIdeal.τ).loc Cert.Out0BRefIdeal.main_arg6)) (m ((c.tc : Thread Cert.Out0BRefIdeal.nD Cert.Out0BRefIdeal.τ).loc Cert.Out0BRefIdeal.main_arg7))).2.2.2.2.2.1 = (fun _ => 1#1)
    ∧ (Cert.Pre_out0b_finite.fn (F := Ideal) (m ((c.tc : Thread Cert.Out0BRefIdeal.nD Cert.Out0BRefIdeal.τ).loc Cert.Out0BRefIdeal.main_arg0)) (m ((c.tc : Thread Cert.Out0BRefIdeal.nD Cert.Out0BRefIdeal.τ).loc Cert.Out0BRefIdeal.main_arg1)) (m ((c.tc : Thread Cert.Out0BRefIdeal.nD Cert.Out0BRefIdeal.τ).loc Cert.Out0BRefIdeal.main_arg2)) (m ((c.tc : Thread Cert.Out0BRefIdeal.nD Cert.Out0BRefIdeal.τ).loc Cert.Out0BRefIdeal.main_arg3)) (m ((c.tc : Thread Cert.Out0BRefIdeal.nD Cert.Out0BRefIdeal.τ).loc Cert.Out0BRefIdeal.main_arg4)) (m ((c.tc : Thread Cert.Out0BRefIdeal.nD Cert.Out0BRefIdeal.τ).loc Cert.Out0BRefIdeal.main_arg5)) (m ((c.tc : Thread Cert.Out0BRefIdeal.nD Cert.Out0BRefIdeal.τ).loc Cert.Out0BRefIdeal.main_arg6)) (m ((c.tc : Thread Cert.Out0BRefIdeal.nD Cert.Out0BRefIdeal.τ).loc Cert.Out0BRefIdeal.main_arg7))).2.2.2.2.2.2.1 = (fun _ => 1#1)
    ∧ (Cert.Pre_out0b_finite.fn (F := Ideal) (m ((c.tc : Thread Cert.Out0BRefIdeal.nD Cert.Out0BRefIdeal.τ).loc Cert.Out0BRefIdeal.main_arg0)) (m ((c.tc : Thread Cert.Out0BRefIdeal.nD Cert.Out0BRefIdeal.τ).loc Cert.Out0BRefIdeal.main_arg1)) (m ((c.tc : Thread Cert.Out0BRefIdeal.nD Cert.Out0BRefIdeal.τ).loc Cert.Out0BRefIdeal.main_arg2)) (m ((c.tc : Thread Cert.Out0BRefIdeal.nD Cert.Out0BRefIdeal.τ).loc Cert.Out0BRefIdeal.main_arg3)) (m ((c.tc : Thread Cert.Out0BRefIdeal.nD Cert.Out0BRefIdeal.τ).loc Cert.Out0BRefIdeal.main_arg4)) (m ((c.tc : Thread Cert.Out0BRefIdeal.nD Cert.Out0BRefIdeal.τ).loc Cert.Out0BRefIdeal.main_arg5)) (m ((c.tc : Thread Cert.Out0BRefIdeal.nD Cert.Out0BRefIdeal.τ).loc Cert.Out0BRefIdeal.main_arg6)) (m ((c.tc : Thread Cert.Out0BRefIdeal.nD Cert.Out0BRefIdeal.τ).loc Cert.Out0BRefIdeal.main_arg7))).2.2.2.2.2.2.2 = (fun _ => 1#1)

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1Ideal_out1_finite [hPre_out1_finite : Cert.Pre_out1_finite.Facts] (m : (ℓ : Loc Cert.Out1Ideal.nD Cert.Out1Ideal.τ Cert.Out1Ideal.sig) → Buf (Elt Ideal) ℓ) : Prop :=
  ∀ c : Dev Cert.Out1Ideal.nD,
    (Cert.Pre_out1_finite.fn (F := Ideal) (m ((c.tc : Thread Cert.Out1Ideal.nD Cert.Out1Ideal.τ).loc Cert.Out1Ideal.main_arg0)) (m ((c.tc : Thread Cert.Out1Ideal.nD Cert.Out1Ideal.τ).loc Cert.Out1Ideal.main_arg1)) (m ((c.tc : Thread Cert.Out1Ideal.nD Cert.Out1Ideal.τ).loc Cert.Out1Ideal.main_arg2)) (m ((c.tc : Thread Cert.Out1Ideal.nD Cert.Out1Ideal.τ).loc Cert.Out1Ideal.main_arg3)) (m ((c.tc : Thread Cert.Out1Ideal.nD Cert.Out1Ideal.τ).loc Cert.Out1Ideal.main_arg4)) (m ((c.tc : Thread Cert.Out1Ideal.nD Cert.Out1Ideal.τ).loc Cert.Out1Ideal.main_arg5)) (m ((c.tc : Thread Cert.Out1Ideal.nD Cert.Out1Ideal.τ).loc Cert.Out1Ideal.main_arg6)) (m ((c.tc : Thread Cert.Out1Ideal.nD Cert.Out1Ideal.τ).loc Cert.Out1Ideal.main_arg7)) (m ((c.tc : Thread Cert.Out1Ideal.nD Cert.Out1Ideal.τ).loc Cert.Out1Ideal.main_arg8)) (m ((c.tc : Thread Cert.Out1Ideal.nD Cert.Out1Ideal.τ).loc Cert.Out1Ideal.main_arg9))).1 = (fun _ => 1#1)
    ∧ (Cert.Pre_out1_finite.fn (F := Ideal) (m ((c.tc : Thread Cert.Out1Ideal.nD Cert.Out1Ideal.τ).loc Cert.Out1Ideal.main_arg0)) (m ((c.tc : Thread Cert.Out1Ideal.nD Cert.Out1Ideal.τ).loc Cert.Out1Ideal.main_arg1)) (m ((c.tc : Thread Cert.Out1Ideal.nD Cert.Out1Ideal.τ).loc Cert.Out1Ideal.main_arg2)) (m ((c.tc : Thread Cert.Out1Ideal.nD Cert.Out1Ideal.τ).loc Cert.Out1Ideal.main_arg3)) (m ((c.tc : Thread Cert.Out1Ideal.nD Cert.Out1Ideal.τ).loc Cert.Out1Ideal.main_arg4)) (m ((c.tc : Thread Cert.Out1Ideal.nD Cert.Out1Ideal.τ).loc Cert.Out1Ideal.main_arg5)) (m ((c.tc : Thread Cert.Out1Ideal.nD Cert.Out1Ideal.τ).loc Cert.Out1Ideal.main_arg6)) (m ((c.tc : Thread Cert.Out1Ideal.nD Cert.Out1Ideal.τ).loc Cert.Out1Ideal.main_arg7)) (m ((c.tc : Thread Cert.Out1Ideal.nD Cert.Out1Ideal.τ).loc Cert.Out1Ideal.main_arg8)) (m ((c.tc : Thread Cert.Out1Ideal.nD Cert.Out1Ideal.τ).loc Cert.Out1Ideal.main_arg9))).2.1 = (fun _ => 1#1)
    ∧ (Cert.Pre_out1_finite.fn (F := Ideal) (m ((c.tc : Thread Cert.Out1Ideal.nD Cert.Out1Ideal.τ).loc Cert.Out1Ideal.main_arg0)) (m ((c.tc : Thread Cert.Out1Ideal.nD Cert.Out1Ideal.τ).loc Cert.Out1Ideal.main_arg1)) (m ((c.tc : Thread Cert.Out1Ideal.nD Cert.Out1Ideal.τ).loc Cert.Out1Ideal.main_arg2)) (m ((c.tc : Thread Cert.Out1Ideal.nD Cert.Out1Ideal.τ).loc Cert.Out1Ideal.main_arg3)) (m ((c.tc : Thread Cert.Out1Ideal.nD Cert.Out1Ideal.τ).loc Cert.Out1Ideal.main_arg4)) (m ((c.tc : Thread Cert.Out1Ideal.nD Cert.Out1Ideal.τ).loc Cert.Out1Ideal.main_arg5)) (m ((c.tc : Thread Cert.Out1Ideal.nD Cert.Out1Ideal.τ).loc Cert.Out1Ideal.main_arg6)) (m ((c.tc : Thread Cert.Out1Ideal.nD Cert.Out1Ideal.τ).loc Cert.Out1Ideal.main_arg7)) (m ((c.tc : Thread Cert.Out1Ideal.nD Cert.Out1Ideal.τ).loc Cert.Out1Ideal.main_arg8)) (m ((c.tc : Thread Cert.Out1Ideal.nD Cert.Out1Ideal.τ).loc Cert.Out1Ideal.main_arg9))).2.2.1 = (fun _ => 1#1)
    ∧ (Cert.Pre_out1_finite.fn (F := Ideal) (m ((c.tc : Thread Cert.Out1Ideal.nD Cert.Out1Ideal.τ).loc Cert.Out1Ideal.main_arg0)) (m ((c.tc : Thread Cert.Out1Ideal.nD Cert.Out1Ideal.τ).loc Cert.Out1Ideal.main_arg1)) (m ((c.tc : Thread Cert.Out1Ideal.nD Cert.Out1Ideal.τ).loc Cert.Out1Ideal.main_arg2)) (m ((c.tc : Thread Cert.Out1Ideal.nD Cert.Out1Ideal.τ).loc Cert.Out1Ideal.main_arg3)) (m ((c.tc : Thread Cert.Out1Ideal.nD Cert.Out1Ideal.τ).loc Cert.Out1Ideal.main_arg4)) (m ((c.tc : Thread Cert.Out1Ideal.nD Cert.Out1Ideal.τ).loc Cert.Out1Ideal.main_arg5)) (m ((c.tc : Thread Cert.Out1Ideal.nD Cert.Out1Ideal.τ).loc Cert.Out1Ideal.main_arg6)) (m ((c.tc : Thread Cert.Out1Ideal.nD Cert.Out1Ideal.τ).loc Cert.Out1Ideal.main_arg7)) (m ((c.tc : Thread Cert.Out1Ideal.nD Cert.Out1Ideal.τ).loc Cert.Out1Ideal.main_arg8)) (m ((c.tc : Thread Cert.Out1Ideal.nD Cert.Out1Ideal.τ).loc Cert.Out1Ideal.main_arg9))).2.2.2.1 = (fun _ => 1#1)
    ∧ (Cert.Pre_out1_finite.fn (F := Ideal) (m ((c.tc : Thread Cert.Out1Ideal.nD Cert.Out1Ideal.τ).loc Cert.Out1Ideal.main_arg0)) (m ((c.tc : Thread Cert.Out1Ideal.nD Cert.Out1Ideal.τ).loc Cert.Out1Ideal.main_arg1)) (m ((c.tc : Thread Cert.Out1Ideal.nD Cert.Out1Ideal.τ).loc Cert.Out1Ideal.main_arg2)) (m ((c.tc : Thread Cert.Out1Ideal.nD Cert.Out1Ideal.τ).loc Cert.Out1Ideal.main_arg3)) (m ((c.tc : Thread Cert.Out1Ideal.nD Cert.Out1Ideal.τ).loc Cert.Out1Ideal.main_arg4)) (m ((c.tc : Thread Cert.Out1Ideal.nD Cert.Out1Ideal.τ).loc Cert.Out1Ideal.main_arg5)) (m ((c.tc : Thread Cert.Out1Ideal.nD Cert.Out1Ideal.τ).loc Cert.Out1Ideal.main_arg6)) (m ((c.tc : Thread Cert.Out1Ideal.nD Cert.Out1Ideal.τ).loc Cert.Out1Ideal.main_arg7)) (m ((c.tc : Thread Cert.Out1Ideal.nD Cert.Out1Ideal.τ).loc Cert.Out1Ideal.main_arg8)) (m ((c.tc : Thread Cert.Out1Ideal.nD Cert.Out1Ideal.τ).loc Cert.Out1Ideal.main_arg9))).2.2.2.2.1 = (fun _ => 1#1)
    ∧ (Cert.Pre_out1_finite.fn (F := Ideal) (m ((c.tc : Thread Cert.Out1Ideal.nD Cert.Out1Ideal.τ).loc Cert.Out1Ideal.main_arg0)) (m ((c.tc : Thread Cert.Out1Ideal.nD Cert.Out1Ideal.τ).loc Cert.Out1Ideal.main_arg1)) (m ((c.tc : Thread Cert.Out1Ideal.nD Cert.Out1Ideal.τ).loc Cert.Out1Ideal.main_arg2)) (m ((c.tc : Thread Cert.Out1Ideal.nD Cert.Out1Ideal.τ).loc Cert.Out1Ideal.main_arg3)) (m ((c.tc : Thread Cert.Out1Ideal.nD Cert.Out1Ideal.τ).loc Cert.Out1Ideal.main_arg4)) (m ((c.tc : Thread Cert.Out1Ideal.nD Cert.Out1Ideal.τ).loc Cert.Out1Ideal.main_arg5)) (m ((c.tc : Thread Cert.Out1Ideal.nD Cert.Out1Ideal.τ).loc Cert.Out1Ideal.main_arg6)) (m ((c.tc : Thread Cert.Out1Ideal.nD Cert.Out1Ideal.τ).loc Cert.Out1Ideal.main_arg7)) (m ((c.tc : Thread Cert.Out1Ideal.nD Cert.Out1Ideal.τ).loc Cert.Out1Ideal.main_arg8)) (m ((c.tc : Thread Cert.Out1Ideal.nD Cert.Out1Ideal.τ).loc Cert.Out1Ideal.main_arg9))).2.2.2.2.2.1 = (fun _ => 1#1)
    ∧ (Cert.Pre_out1_finite.fn (F := Ideal) (m ((c.tc : Thread Cert.Out1Ideal.nD Cert.Out1Ideal.τ).loc Cert.Out1Ideal.main_arg0)) (m ((c.tc : Thread Cert.Out1Ideal.nD Cert.Out1Ideal.τ).loc Cert.Out1Ideal.main_arg1)) (m ((c.tc : Thread Cert.Out1Ideal.nD Cert.Out1Ideal.τ).loc Cert.Out1Ideal.main_arg2)) (m ((c.tc : Thread Cert.Out1Ideal.nD Cert.Out1Ideal.τ).loc Cert.Out1Ideal.main_arg3)) (m ((c.tc : Thread Cert.Out1Ideal.nD Cert.Out1Ideal.τ).loc Cert.Out1Ideal.main_arg4)) (m ((c.tc : Thread Cert.Out1Ideal.nD Cert.Out1Ideal.τ).loc Cert.Out1Ideal.main_arg5)) (m ((c.tc : Thread Cert.Out1Ideal.nD Cert.Out1Ideal.τ).loc Cert.Out1Ideal.main_arg6)) (m ((c.tc : Thread Cert.Out1Ideal.nD Cert.Out1Ideal.τ).loc Cert.Out1Ideal.main_arg7)) (m ((c.tc : Thread Cert.Out1Ideal.nD Cert.Out1Ideal.τ).loc Cert.Out1Ideal.main_arg8)) (m ((c.tc : Thread Cert.Out1Ideal.nD Cert.Out1Ideal.τ).loc Cert.Out1Ideal.main_arg9))).2.2.2.2.2.2.1 = (fun _ => 1#1)
    ∧ (Cert.Pre_out1_finite.fn (F := Ideal) (m ((c.tc : Thread Cert.Out1Ideal.nD Cert.Out1Ideal.τ).loc Cert.Out1Ideal.main_arg0)) (m ((c.tc : Thread Cert.Out1Ideal.nD Cert.Out1Ideal.τ).loc Cert.Out1Ideal.main_arg1)) (m ((c.tc : Thread Cert.Out1Ideal.nD Cert.Out1Ideal.τ).loc Cert.Out1Ideal.main_arg2)) (m ((c.tc : Thread Cert.Out1Ideal.nD Cert.Out1Ideal.τ).loc Cert.Out1Ideal.main_arg3)) (m ((c.tc : Thread Cert.Out1Ideal.nD Cert.Out1Ideal.τ).loc Cert.Out1Ideal.main_arg4)) (m ((c.tc : Thread Cert.Out1Ideal.nD Cert.Out1Ideal.τ).loc Cert.Out1Ideal.main_arg5)) (m ((c.tc : Thread Cert.Out1Ideal.nD Cert.Out1Ideal.τ).loc Cert.Out1Ideal.main_arg6)) (m ((c.tc : Thread Cert.Out1Ideal.nD Cert.Out1Ideal.τ).loc Cert.Out1Ideal.main_arg7)) (m ((c.tc : Thread Cert.Out1Ideal.nD Cert.Out1Ideal.τ).loc Cert.Out1Ideal.main_arg8)) (m ((c.tc : Thread Cert.Out1Ideal.nD Cert.Out1Ideal.τ).loc Cert.Out1Ideal.main_arg9))).2.2.2.2.2.2.2.1 = (fun _ => 1#1)
    ∧ (Cert.Pre_out1_finite.fn (F := Ideal) (m ((c.tc : Thread Cert.Out1Ideal.nD Cert.Out1Ideal.τ).loc Cert.Out1Ideal.main_arg0)) (m ((c.tc : Thread Cert.Out1Ideal.nD Cert.Out1Ideal.τ).loc Cert.Out1Ideal.main_arg1)) (m ((c.tc : Thread Cert.Out1Ideal.nD Cert.Out1Ideal.τ).loc Cert.Out1Ideal.main_arg2)) (m ((c.tc : Thread Cert.Out1Ideal.nD Cert.Out1Ideal.τ).loc Cert.Out1Ideal.main_arg3)) (m ((c.tc : Thread Cert.Out1Ideal.nD Cert.Out1Ideal.τ).loc Cert.Out1Ideal.main_arg4)) (m ((c.tc : Thread Cert.Out1Ideal.nD Cert.Out1Ideal.τ).loc Cert.Out1Ideal.main_arg5)) (m ((c.tc : Thread Cert.Out1Ideal.nD Cert.Out1Ideal.τ).loc Cert.Out1Ideal.main_arg6)) (m ((c.tc : Thread Cert.Out1Ideal.nD Cert.Out1Ideal.τ).loc Cert.Out1Ideal.main_arg7)) (m ((c.tc : Thread Cert.Out1Ideal.nD Cert.Out1Ideal.τ).loc Cert.Out1Ideal.main_arg8)) (m ((c.tc : Thread Cert.Out1Ideal.nD Cert.Out1Ideal.τ).loc Cert.Out1Ideal.main_arg9))).2.2.2.2.2.2.2.2.1 = (fun _ => 1#1)
    ∧ (Cert.Pre_out1_finite.fn (F := Ideal) (m ((c.tc : Thread Cert.Out1Ideal.nD Cert.Out1Ideal.τ).loc Cert.Out1Ideal.main_arg0)) (m ((c.tc : Thread Cert.Out1Ideal.nD Cert.Out1Ideal.τ).loc Cert.Out1Ideal.main_arg1)) (m ((c.tc : Thread Cert.Out1Ideal.nD Cert.Out1Ideal.τ).loc Cert.Out1Ideal.main_arg2)) (m ((c.tc : Thread Cert.Out1Ideal.nD Cert.Out1Ideal.τ).loc Cert.Out1Ideal.main_arg3)) (m ((c.tc : Thread Cert.Out1Ideal.nD Cert.Out1Ideal.τ).loc Cert.Out1Ideal.main_arg4)) (m ((c.tc : Thread Cert.Out1Ideal.nD Cert.Out1Ideal.τ).loc Cert.Out1Ideal.main_arg5)) (m ((c.tc : Thread Cert.Out1Ideal.nD Cert.Out1Ideal.τ).loc Cert.Out1Ideal.main_arg6)) (m ((c.tc : Thread Cert.Out1Ideal.nD Cert.Out1Ideal.τ).loc Cert.Out1Ideal.main_arg7)) (m ((c.tc : Thread Cert.Out1Ideal.nD Cert.Out1Ideal.τ).loc Cert.Out1Ideal.main_arg8)) (m ((c.tc : Thread Cert.Out1Ideal.nD Cert.Out1Ideal.τ).loc Cert.Out1Ideal.main_arg9))).2.2.2.2.2.2.2.2.2 = (fun _ => 1#1)

def Pre_Out1RefIdeal (m : (ℓ : Loc Cert.Out1RefIdeal.nD Cert.Out1RefIdeal.τ Cert.Out1RefIdeal.sig) → Buf (Elt Ideal) ℓ) : Prop :=
  True

def Pre_Out1RefIdeal_out1_finite [hPre_out1_finite : Cert.Pre_out1_finite.Facts] (m : (ℓ : Loc Cert.Out1RefIdeal.nD Cert.Out1RefIdeal.τ Cert.Out1RefIdeal.sig) → Buf (Elt Ideal) ℓ) : Prop :=
  ∀ c : Dev Cert.Out1RefIdeal.nD,
    (Cert.Pre_out1_finite.fn (F := Ideal) (m ((c.tc : Thread Cert.Out1RefIdeal.nD Cert.Out1RefIdeal.τ).loc Cert.Out1RefIdeal.main_arg0)) (m ((c.tc : Thread Cert.Out1RefIdeal.nD Cert.Out1RefIdeal.τ).loc Cert.Out1RefIdeal.main_arg1)) (m ((c.tc : Thread Cert.Out1RefIdeal.nD Cert.Out1RefIdeal.τ).loc Cert.Out1RefIdeal.main_arg2)) (m ((c.tc : Thread Cert.Out1RefIdeal.nD Cert.Out1RefIdeal.τ).loc Cert.Out1RefIdeal.main_arg3)) (m ((c.tc : Thread Cert.Out1RefIdeal.nD Cert.Out1RefIdeal.τ).loc Cert.Out1RefIdeal.main_arg4)) (m ((c.tc : Thread Cert.Out1RefIdeal.nD Cert.Out1RefIdeal.τ).loc Cert.Out1RefIdeal.main_arg5)) (m ((c.tc : Thread Cert.Out1RefIdeal.nD Cert.Out1RefIdeal.τ).loc Cert.Out1RefIdeal.main_arg6)) (m ((c.tc : Thread Cert.Out1RefIdeal.nD Cert.Out1RefIdeal.τ).loc Cert.Out1RefIdeal.main_arg7)) (m ((c.tc : Thread Cert.Out1RefIdeal.nD Cert.Out1RefIdeal.τ).loc Cert.Out1RefIdeal.main_arg8)) (m ((c.tc : Thread Cert.Out1RefIdeal.nD Cert.Out1RefIdeal.τ).loc Cert.Out1RefIdeal.main_arg9))).1 = (fun _ => 1#1)
    ∧ (Cert.Pre_out1_finite.fn (F := Ideal) (m ((c.tc : Thread Cert.Out1RefIdeal.nD Cert.Out1RefIdeal.τ).loc Cert.Out1RefIdeal.main_arg0)) (m ((c.tc : Thread Cert.Out1RefIdeal.nD Cert.Out1RefIdeal.τ).loc Cert.Out1RefIdeal.main_arg1)) (m ((c.tc : Thread Cert.Out1RefIdeal.nD Cert.Out1RefIdeal.τ).loc Cert.Out1RefIdeal.main_arg2)) (m ((c.tc : Thread Cert.Out1RefIdeal.nD Cert.Out1RefIdeal.τ).loc Cert.Out1RefIdeal.main_arg3)) (m ((c.tc : Thread Cert.Out1RefIdeal.nD Cert.Out1RefIdeal.τ).loc Cert.Out1RefIdeal.main_arg4)) (m ((c.tc : Thread Cert.Out1RefIdeal.nD Cert.Out1RefIdeal.τ).loc Cert.Out1RefIdeal.main_arg5)) (m ((c.tc : Thread Cert.Out1RefIdeal.nD Cert.Out1RefIdeal.τ).loc Cert.Out1RefIdeal.main_arg6)) (m ((c.tc : Thread Cert.Out1RefIdeal.nD Cert.Out1RefIdeal.τ).loc Cert.Out1RefIdeal.main_arg7)) (m ((c.tc : Thread Cert.Out1RefIdeal.nD Cert.Out1RefIdeal.τ).loc Cert.Out1RefIdeal.main_arg8)) (m ((c.tc : Thread Cert.Out1RefIdeal.nD Cert.Out1RefIdeal.τ).loc Cert.Out1RefIdeal.main_arg9))).2.1 = (fun _ => 1#1)
    ∧ (Cert.Pre_out1_finite.fn (F := Ideal) (m ((c.tc : Thread Cert.Out1RefIdeal.nD Cert.Out1RefIdeal.τ).loc Cert.Out1RefIdeal.main_arg0)) (m ((c.tc : Thread Cert.Out1RefIdeal.nD Cert.Out1RefIdeal.τ).loc Cert.Out1RefIdeal.main_arg1)) (m ((c.tc : Thread Cert.Out1RefIdeal.nD Cert.Out1RefIdeal.τ).loc Cert.Out1RefIdeal.main_arg2)) (m ((c.tc : Thread Cert.Out1RefIdeal.nD Cert.Out1RefIdeal.τ).loc Cert.Out1RefIdeal.main_arg3)) (m ((c.tc : Thread Cert.Out1RefIdeal.nD Cert.Out1RefIdeal.τ).loc Cert.Out1RefIdeal.main_arg4)) (m ((c.tc : Thread Cert.Out1RefIdeal.nD Cert.Out1RefIdeal.τ).loc Cert.Out1RefIdeal.main_arg5)) (m ((c.tc : Thread Cert.Out1RefIdeal.nD Cert.Out1RefIdeal.τ).loc Cert.Out1RefIdeal.main_arg6)) (m ((c.tc : Thread Cert.Out1RefIdeal.nD Cert.Out1RefIdeal.τ).loc Cert.Out1RefIdeal.main_arg7)) (m ((c.tc : Thread Cert.Out1RefIdeal.nD Cert.Out1RefIdeal.τ).loc Cert.Out1RefIdeal.main_arg8)) (m ((c.tc : Thread Cert.Out1RefIdeal.nD Cert.Out1RefIdeal.τ).loc Cert.Out1RefIdeal.main_arg9))).2.2.1 = (fun _ => 1#1)
    ∧ (Cert.Pre_out1_finite.fn (F := Ideal) (m ((c.tc : Thread Cert.Out1RefIdeal.nD Cert.Out1RefIdeal.τ).loc Cert.Out1RefIdeal.main_arg0)) (m ((c.tc : Thread Cert.Out1RefIdeal.nD Cert.Out1RefIdeal.τ).loc Cert.Out1RefIdeal.main_arg1)) (m ((c.tc : Thread Cert.Out1RefIdeal.nD Cert.Out1RefIdeal.τ).loc Cert.Out1RefIdeal.main_arg2)) (m ((c.tc : Thread Cert.Out1RefIdeal.nD Cert.Out1RefIdeal.τ).loc Cert.Out1RefIdeal.main_arg3)) (m ((c.tc : Thread Cert.Out1RefIdeal.nD Cert.Out1RefIdeal.τ).loc Cert.Out1RefIdeal.main_arg4)) (m ((c.tc : Thread Cert.Out1RefIdeal.nD Cert.Out1RefIdeal.τ).loc Cert.Out1RefIdeal.main_arg5)) (m ((c.tc : Thread Cert.Out1RefIdeal.nD Cert.Out1RefIdeal.τ).loc Cert.Out1RefIdeal.main_arg6)) (m ((c.tc : Thread Cert.Out1RefIdeal.nD Cert.Out1RefIdeal.τ).loc Cert.Out1RefIdeal.main_arg7)) (m ((c.tc : Thread Cert.Out1RefIdeal.nD Cert.Out1RefIdeal.τ).loc Cert.Out1RefIdeal.main_arg8)) (m ((c.tc : Thread Cert.Out1RefIdeal.nD Cert.Out1RefIdeal.τ).loc Cert.Out1RefIdeal.main_arg9))).2.2.2.1 = (fun _ => 1#1)
    ∧ (Cert.Pre_out1_finite.fn (F := Ideal) (m ((c.tc : Thread Cert.Out1RefIdeal.nD Cert.Out1RefIdeal.τ).loc Cert.Out1RefIdeal.main_arg0)) (m ((c.tc : Thread Cert.Out1RefIdeal.nD Cert.Out1RefIdeal.τ).loc Cert.Out1RefIdeal.main_arg1)) (m ((c.tc : Thread Cert.Out1RefIdeal.nD Cert.Out1RefIdeal.τ).loc Cert.Out1RefIdeal.main_arg2)) (m ((c.tc : Thread Cert.Out1RefIdeal.nD Cert.Out1RefIdeal.τ).loc Cert.Out1RefIdeal.main_arg3)) (m ((c.tc : Thread Cert.Out1RefIdeal.nD Cert.Out1RefIdeal.τ).loc Cert.Out1RefIdeal.main_arg4)) (m ((c.tc : Thread Cert.Out1RefIdeal.nD Cert.Out1RefIdeal.τ).loc Cert.Out1RefIdeal.main_arg5)) (m ((c.tc : Thread Cert.Out1RefIdeal.nD Cert.Out1RefIdeal.τ).loc Cert.Out1RefIdeal.main_arg6)) (m ((c.tc : Thread Cert.Out1RefIdeal.nD Cert.Out1RefIdeal.τ).loc Cert.Out1RefIdeal.main_arg7)) (m ((c.tc : Thread Cert.Out1RefIdeal.nD Cert.Out1RefIdeal.τ).loc Cert.Out1RefIdeal.main_arg8)) (m ((c.tc : Thread Cert.Out1RefIdeal.nD Cert.Out1RefIdeal.τ).loc Cert.Out1RefIdeal.main_arg9))).2.2.2.2.1 = (fun _ => 1#1)
    ∧ (Cert.Pre_out1_finite.fn (F := Ideal) (m ((c.tc : Thread Cert.Out1RefIdeal.nD Cert.Out1RefIdeal.τ).loc Cert.Out1RefIdeal.main_arg0)) (m ((c.tc : Thread Cert.Out1RefIdeal.nD Cert.Out1RefIdeal.τ).loc Cert.Out1RefIdeal.main_arg1)) (m ((c.tc : Thread Cert.Out1RefIdeal.nD Cert.Out1RefIdeal.τ).loc Cert.Out1RefIdeal.main_arg2)) (m ((c.tc : Thread Cert.Out1RefIdeal.nD Cert.Out1RefIdeal.τ).loc Cert.Out1RefIdeal.main_arg3)) (m ((c.tc : Thread Cert.Out1RefIdeal.nD Cert.Out1RefIdeal.τ).loc Cert.Out1RefIdeal.main_arg4)) (m ((c.tc : Thread Cert.Out1RefIdeal.nD Cert.Out1RefIdeal.τ).loc Cert.Out1RefIdeal.main_arg5)) (m ((c.tc : Thread Cert.Out1RefIdeal.nD Cert.Out1RefIdeal.τ).loc Cert.Out1RefIdeal.main_arg6)) (m ((c.tc : Thread Cert.Out1RefIdeal.nD Cert.Out1RefIdeal.τ).loc Cert.Out1RefIdeal.main_arg7)) (m ((c.tc : Thread Cert.Out1RefIdeal.nD Cert.Out1RefIdeal.τ).loc Cert.Out1RefIdeal.main_arg8)) (m ((c.tc : Thread Cert.Out1RefIdeal.nD Cert.Out1RefIdeal.τ).loc Cert.Out1RefIdeal.main_arg9))).2.2.2.2.2.1 = (fun _ => 1#1)
    ∧ (Cert.Pre_out1_finite.fn (F := Ideal) (m ((c.tc : Thread Cert.Out1RefIdeal.nD Cert.Out1RefIdeal.τ).loc Cert.Out1RefIdeal.main_arg0)) (m ((c.tc : Thread Cert.Out1RefIdeal.nD Cert.Out1RefIdeal.τ).loc Cert.Out1RefIdeal.main_arg1)) (m ((c.tc : Thread Cert.Out1RefIdeal.nD Cert.Out1RefIdeal.τ).loc Cert.Out1RefIdeal.main_arg2)) (m ((c.tc : Thread Cert.Out1RefIdeal.nD Cert.Out1RefIdeal.τ).loc Cert.Out1RefIdeal.main_arg3)) (m ((c.tc : Thread Cert.Out1RefIdeal.nD Cert.Out1RefIdeal.τ).loc Cert.Out1RefIdeal.main_arg4)) (m ((c.tc : Thread Cert.Out1RefIdeal.nD Cert.Out1RefIdeal.τ).loc Cert.Out1RefIdeal.main_arg5)) (m ((c.tc : Thread Cert.Out1RefIdeal.nD Cert.Out1RefIdeal.τ).loc Cert.Out1RefIdeal.main_arg6)) (m ((c.tc : Thread Cert.Out1RefIdeal.nD Cert.Out1RefIdeal.τ).loc Cert.Out1RefIdeal.main_arg7)) (m ((c.tc : Thread Cert.Out1RefIdeal.nD Cert.Out1RefIdeal.τ).loc Cert.Out1RefIdeal.main_arg8)) (m ((c.tc : Thread Cert.Out1RefIdeal.nD Cert.Out1RefIdeal.τ).loc Cert.Out1RefIdeal.main_arg9))).2.2.2.2.2.2.1 = (fun _ => 1#1)
    ∧ (Cert.Pre_out1_finite.fn (F := Ideal) (m ((c.tc : Thread Cert.Out1RefIdeal.nD Cert.Out1RefIdeal.τ).loc Cert.Out1RefIdeal.main_arg0)) (m ((c.tc : Thread Cert.Out1RefIdeal.nD Cert.Out1RefIdeal.τ).loc Cert.Out1RefIdeal.main_arg1)) (m ((c.tc : Thread Cert.Out1RefIdeal.nD Cert.Out1RefIdeal.τ).loc Cert.Out1RefIdeal.main_arg2)) (m ((c.tc : Thread Cert.Out1RefIdeal.nD Cert.Out1RefIdeal.τ).loc Cert.Out1RefIdeal.main_arg3)) (m ((c.tc : Thread Cert.Out1RefIdeal.nD Cert.Out1RefIdeal.τ).loc Cert.Out1RefIdeal.main_arg4)) (m ((c.tc : Thread Cert.Out1RefIdeal.nD Cert.Out1RefIdeal.τ).loc Cert.Out1RefIdeal.main_arg5)) (m ((c.tc : Thread Cert.Out1RefIdeal.nD Cert.Out1RefIdeal.τ).loc Cert.Out1RefIdeal.main_arg6)) (m ((c.tc : Thread Cert.Out1RefIdeal.nD Cert.Out1RefIdeal.τ).loc Cert.Out1RefIdeal.main_arg7)) (m ((c.tc : Thread Cert.Out1RefIdeal.nD Cert.Out1RefIdeal.τ).loc Cert.Out1RefIdeal.main_arg8)) (m ((c.tc : Thread Cert.Out1RefIdeal.nD Cert.Out1RefIdeal.τ).loc Cert.Out1RefIdeal.main_arg9))).2.2.2.2.2.2.2.1 = (fun _ => 1#1)
    ∧ (Cert.Pre_out1_finite.fn (F := Ideal) (m ((c.tc : Thread Cert.Out1RefIdeal.nD Cert.Out1RefIdeal.τ).loc Cert.Out1RefIdeal.main_arg0)) (m ((c.tc : Thread Cert.Out1RefIdeal.nD Cert.Out1RefIdeal.τ).loc Cert.Out1RefIdeal.main_arg1)) (m ((c.tc : Thread Cert.Out1RefIdeal.nD Cert.Out1RefIdeal.τ).loc Cert.Out1RefIdeal.main_arg2)) (m ((c.tc : Thread Cert.Out1RefIdeal.nD Cert.Out1RefIdeal.τ).loc Cert.Out1RefIdeal.main_arg3)) (m ((c.tc : Thread Cert.Out1RefIdeal.nD Cert.Out1RefIdeal.τ).loc Cert.Out1RefIdeal.main_arg4)) (m ((c.tc : Thread Cert.Out1RefIdeal.nD Cert.Out1RefIdeal.τ).loc Cert.Out1RefIdeal.main_arg5)) (m ((c.tc : Thread Cert.Out1RefIdeal.nD Cert.Out1RefIdeal.τ).loc Cert.Out1RefIdeal.main_arg6)) (m ((c.tc : Thread Cert.Out1RefIdeal.nD Cert.Out1RefIdeal.τ).loc Cert.Out1RefIdeal.main_arg7)) (m ((c.tc : Thread Cert.Out1RefIdeal.nD Cert.Out1RefIdeal.τ).loc Cert.Out1RefIdeal.main_arg8)) (m ((c.tc : Thread Cert.Out1RefIdeal.nD Cert.Out1RefIdeal.τ).loc Cert.Out1RefIdeal.main_arg9))).2.2.2.2.2.2.2.2.1 = (fun _ => 1#1)
    ∧ (Cert.Pre_out1_finite.fn (F := Ideal) (m ((c.tc : Thread Cert.Out1RefIdeal.nD Cert.Out1RefIdeal.τ).loc Cert.Out1RefIdeal.main_arg0)) (m ((c.tc : Thread Cert.Out1RefIdeal.nD Cert.Out1RefIdeal.τ).loc Cert.Out1RefIdeal.main_arg1)) (m ((c.tc : Thread Cert.Out1RefIdeal.nD Cert.Out1RefIdeal.τ).loc Cert.Out1RefIdeal.main_arg2)) (m ((c.tc : Thread Cert.Out1RefIdeal.nD Cert.Out1RefIdeal.τ).loc Cert.Out1RefIdeal.main_arg3)) (m ((c.tc : Thread Cert.Out1RefIdeal.nD Cert.Out1RefIdeal.τ).loc Cert.Out1RefIdeal.main_arg4)) (m ((c.tc : Thread Cert.Out1RefIdeal.nD Cert.Out1RefIdeal.τ).loc Cert.Out1RefIdeal.main_arg5)) (m ((c.tc : Thread Cert.Out1RefIdeal.nD Cert.Out1RefIdeal.τ).loc Cert.Out1RefIdeal.main_arg6)) (m ((c.tc : Thread Cert.Out1RefIdeal.nD Cert.Out1RefIdeal.τ).loc Cert.Out1RefIdeal.main_arg7)) (m ((c.tc : Thread Cert.Out1RefIdeal.nD Cert.Out1RefIdeal.τ).loc Cert.Out1RefIdeal.main_arg8)) (m ((c.tc : Thread Cert.Out1RefIdeal.nD Cert.Out1RefIdeal.τ).loc Cert.Out1RefIdeal.main_arg9))).2.2.2.2.2.2.2.2.2 = (fun _ => 1#1)

def Pre_Out0F (m : (ℓ : Loc Cert.Out0F.nD Cert.Out0F.τ Cert.Out0F.sig) → Buf (Elt Bits) ℓ) : Prop :=
  True

def Pre_Out0FIdeal (m : (ℓ : Loc Cert.Out0FIdeal.nD Cert.Out0FIdeal.τ Cert.Out0FIdeal.sig) → Buf (Elt Ideal) ℓ) : Prop :=
  True

def Pre_Out0FRefIdeal (m : (ℓ : Loc Cert.Out0FRefIdeal.nD Cert.Out0FRefIdeal.τ Cert.Out0FRefIdeal.sig) → Buf (Elt Ideal) ℓ) : Prop :=
  True

def Pre_LruCtxB (m : (ℓ : Loc Cert.LruCtxB.nD Cert.LruCtxB.τ Cert.LruCtxB.sig) → Buf (Elt Bits) ℓ) : Prop :=
  True

def Pre_LruCtxBIdeal (m : (ℓ : Loc Cert.LruCtxBIdeal.nD Cert.LruCtxBIdeal.τ Cert.LruCtxBIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_InCtxF (m : (ℓ : Loc Cert.InCtxF.nD Cert.InCtxF.τ Cert.InCtxF.sig) → Buf (Elt Bits) ℓ) : Prop :=
  True

def Pre_InCtxFIdeal (m : (ℓ : Loc Cert.InCtxFIdeal.nD Cert.InCtxFIdeal.τ Cert.InCtxFIdeal.sig) → Buf (Elt Ideal) ℓ) : Prop :=
  True

def Pre_InCtxFRefIdeal (m : (ℓ : Loc Cert.InCtxFRefIdeal.nD Cert.InCtxFRefIdeal.τ Cert.InCtxFRefIdeal.sig) → Buf (Elt Ideal) ℓ) : Prop :=
  True

def Pre_ModF (m : (ℓ : Loc Cert.ModF.nD Cert.ModF.τ Cert.ModF.sig) → Buf (Elt Bits) ℓ) : Prop :=
  True

def Pre_ModFIdeal (m : (ℓ : Loc Cert.ModFIdeal.nD Cert.ModFIdeal.τ Cert.ModFIdeal.sig) → Buf (Elt Ideal) ℓ) : Prop :=
  True

def Pre_ModFRefIdeal (m : (ℓ : Loc Cert.ModFRefIdeal.nD Cert.ModFRefIdeal.τ Cert.ModFRefIdeal.sig) → Buf (Elt Ideal) ℓ) : Prop :=
  True

def Pre_LruF (m : (ℓ : Loc Cert.LruF.nD Cert.LruF.τ Cert.LruF.sig) → Buf (Elt Bits) ℓ) : Prop :=
  True

def Pre_LruFIdeal (m : (ℓ : Loc Cert.LruFIdeal.nD Cert.LruFIdeal.τ Cert.LruFIdeal.sig) → Buf (Elt Ideal) ℓ) : Prop :=
  True

def Pre_LruB (m : (ℓ : Loc Cert.LruB.nD Cert.LruB.τ Cert.LruB.sig) → Buf (Elt Bits) ℓ) : Prop :=
  True

def Pre_LruBIdeal (m : (ℓ : Loc Cert.LruBIdeal.nD Cert.LruBIdeal.τ Cert.LruBIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ConvCtx [hConvCtx : Cert.ConvCtx.Facts] : Prop :=
  ∀ (m : (ℓ : Loc Cert.ConvCtx.nD Cert.ConvCtx.τ Cert.ConvCtx.sig) → Buf (Elt Bits) ℓ) (g : Dev Cert.ConvCtx.nD → PrngReg), Pre_ConvCtx m →
    θ_run (Cert.ConvCtx.defs (F := Bits)) (onTc (τ := Cert.ConvCtx.τ) (Cert.ConvCtx.main (F := Bits))) ⟨m, fun _ => 0, g⟩ (fun r => (∀ c : Dev Cert.ConvCtx.nD,
      r.2.mem ((c.tc : Thread Cert.ConvCtx.nD Cert.ConvCtx.τ).loc Cert.ConvCtx.main_arg0) = m ((c.tc : Thread Cert.ConvCtx.nD Cert.ConvCtx.τ).loc Cert.ConvCtx.main_arg0)
      ∧ r.2.mem ((c.tc : Thread Cert.ConvCtx.nD Cert.ConvCtx.τ).loc Cert.ConvCtx.main_arg1) = m ((c.tc : Thread Cert.ConvCtx.nD Cert.ConvCtx.τ).loc Cert.ConvCtx.main_arg1)
      ∧ r.2.mem ((c.tc : Thread Cert.ConvCtx.nD Cert.ConvCtx.τ).loc Cert.ConvCtx.main_arg2) = m ((c.tc : Thread Cert.ConvCtx.nD Cert.ConvCtx.τ).loc Cert.ConvCtx.main_arg2)
      ∧ r.2.mem ((c.tc : Thread Cert.ConvCtx.nD Cert.ConvCtx.τ).loc Cert.ConvCtx.main_arg3) = m ((c.tc : Thread Cert.ConvCtx.nD Cert.ConvCtx.τ).loc Cert.ConvCtx.main_arg3))
      ∧ r.2.sem = fun _ => 0)

def quiescent_ConvCtxIdeal [hConvCtxIdeal : Cert.ConvCtxIdeal.Facts] : Prop :=
  ∀ (m : (ℓ : Loc Cert.ConvCtxIdeal.nD Cert.ConvCtxIdeal.τ Cert.ConvCtxIdeal.sig) → Buf (Elt Ideal) ℓ) (g : Dev Cert.ConvCtxIdeal.nD → PrngReg), Pre_ConvCtxIdeal m →
    θ_run (Cert.ConvCtxIdeal.defs (F := Ideal)) (onTc (τ := Cert.ConvCtxIdeal.τ) (Cert.ConvCtxIdeal.main (F := Ideal))) ⟨m, fun _ => 0, g⟩ (fun r => (∀ c : Dev Cert.ConvCtxIdeal.nD,
      r.2.mem ((c.tc : Thread Cert.ConvCtxIdeal.nD Cert.ConvCtxIdeal.τ).loc Cert.ConvCtxIdeal.main_arg0) = m ((c.tc : Thread Cert.ConvCtxIdeal.nD Cert.ConvCtxIdeal.τ).loc Cert.ConvCtxIdeal.main_arg0)
      ∧ r.2.mem ((c.tc : Thread Cert.ConvCtxIdeal.nD Cert.ConvCtxIdeal.τ).loc Cert.ConvCtxIdeal.main_arg1) = m ((c.tc : Thread Cert.ConvCtxIdeal.nD Cert.ConvCtxIdeal.τ).loc Cert.ConvCtxIdeal.main_arg1)
      ∧ r.2.mem ((c.tc : Thread Cert.ConvCtxIdeal.nD Cert.ConvCtxIdeal.τ).loc Cert.ConvCtxIdeal.main_arg2) = m ((c.tc : Thread Cert.ConvCtxIdeal.nD Cert.ConvCtxIdeal.τ).loc Cert.ConvCtxIdeal.main_arg2)
      ∧ r.2.mem ((c.tc : Thread Cert.ConvCtxIdeal.nD Cert.ConvCtxIdeal.τ).loc Cert.ConvCtxIdeal.main_arg3) = m ((c.tc : Thread Cert.ConvCtxIdeal.nD Cert.ConvCtxIdeal.τ).loc Cert.ConvCtxIdeal.main_arg3))
      ∧ r.2.sem = fun _ => 0)

def quiescent_ConvCtxRefIdeal [hConvCtxRefIdeal : Cert.ConvCtxRefIdeal.Facts] : Prop :=
  ∀ (m : (ℓ : Loc Cert.ConvCtxRefIdeal.nD Cert.ConvCtxRefIdeal.τ Cert.ConvCtxRefIdeal.sig) → Buf (Elt Ideal) ℓ) (g : Dev Cert.ConvCtxRefIdeal.nD → PrngReg), Pre_ConvCtxRefIdeal m →
    θ_run (Cert.ConvCtxRefIdeal.defs (F := Ideal)) (onTc (τ := Cert.ConvCtxRefIdeal.τ) (Cert.ConvCtxRefIdeal.main (F := Ideal))) ⟨m, fun _ => 0, g⟩ (fun r => (∀ c : Dev Cert.ConvCtxRefIdeal.nD,
      r.2.mem ((c.tc : Thread Cert.ConvCtxRefIdeal.nD Cert.ConvCtxRefIdeal.τ).loc Cert.ConvCtxRefIdeal.main_arg0) = m ((c.tc : Thread Cert.ConvCtxRefIdeal.nD Cert.ConvCtxRefIdeal.τ).loc Cert.ConvCtxRefIdeal.main_arg0)
      ∧ r.2.mem ((c.tc : Thread Cert.ConvCtxRefIdeal.nD Cert.ConvCtxRefIdeal.τ).loc Cert.ConvCtxRefIdeal.main_arg1) = m ((c.tc : Thread Cert.ConvCtxRefIdeal.nD Cert.ConvCtxRefIdeal.τ).loc Cert.ConvCtxRefIdeal.main_arg1)
      ∧ r.2.mem ((c.tc : Thread Cert.ConvCtxRefIdeal.nD Cert.ConvCtxRefIdeal.τ).loc Cert.ConvCtxRefIdeal.main_arg2) = m ((c.tc : Thread Cert.ConvCtxRefIdeal.nD Cert.ConvCtxRefIdeal.τ).loc Cert.ConvCtxRefIdeal.main_arg2)
      ∧ r.2.mem ((c.tc : Thread Cert.ConvCtxRefIdeal.nD Cert.ConvCtxRefIdeal.τ).loc Cert.ConvCtxRefIdeal.main_arg3) = m ((c.tc : Thread Cert.ConvCtxRefIdeal.nD Cert.ConvCtxRefIdeal.τ).loc Cert.ConvCtxRefIdeal.main_arg3))
      ∧ r.2.sem = fun _ => 0)

def quiescent_LruCtx [hLruCtx : Cert.LruCtx.Facts] : Prop :=
  ∀ (m : (ℓ : Loc Cert.LruCtx.nD Cert.LruCtx.τ Cert.LruCtx.sig) → Buf (Elt Bits) ℓ) (g : Dev Cert.LruCtx.nD → PrngReg), Pre_LruCtx m →
    θ_run (Cert.LruCtx.defs (F := Bits)) (onTc (τ := Cert.LruCtx.τ) (Cert.LruCtx.main (F := Bits))) ⟨m, fun _ => 0, g⟩ (fun r => (∀ c : Dev Cert.LruCtx.nD,
      r.2.mem ((c.tc : Thread Cert.LruCtx.nD Cert.LruCtx.τ).loc Cert.LruCtx.main_arg0) = m ((c.tc : Thread Cert.LruCtx.nD Cert.LruCtx.τ).loc Cert.LruCtx.main_arg0)
      ∧ r.2.mem ((c.tc : Thread Cert.LruCtx.nD Cert.LruCtx.τ).loc Cert.LruCtx.main_arg1) = m ((c.tc : Thread Cert.LruCtx.nD Cert.LruCtx.τ).loc Cert.LruCtx.main_arg1)
      ∧ r.2.mem ((c.tc : Thread Cert.LruCtx.nD Cert.LruCtx.τ).loc Cert.LruCtx.main_arg2) = m ((c.tc : Thread Cert.LruCtx.nD Cert.LruCtx.τ).loc Cert.LruCtx.main_arg2)
      ∧ r.2.mem ((c.tc : Thread Cert.LruCtx.nD Cert.LruCtx.τ).loc Cert.LruCtx.main_arg3) = m ((c.tc : Thread Cert.LruCtx.nD Cert.LruCtx.τ).loc Cert.LruCtx.main_arg3)
      ∧ r.2.mem ((c.tc : Thread Cert.LruCtx.nD Cert.LruCtx.τ).loc Cert.LruCtx.main_arg4) = m ((c.tc : Thread Cert.LruCtx.nD Cert.LruCtx.τ).loc Cert.LruCtx.main_arg4)
      ∧ r.2.mem ((c.tc : Thread Cert.LruCtx.nD Cert.LruCtx.τ).loc Cert.LruCtx.main_arg5) = m ((c.tc : Thread Cert.LruCtx.nD Cert.LruCtx.τ).loc Cert.LruCtx.main_arg5)
      ∧ r.2.mem ((c.tc : Thread Cert.LruCtx.nD Cert.LruCtx.τ).loc Cert.LruCtx.main_arg6) = m ((c.tc : Thread Cert.LruCtx.nD Cert.LruCtx.τ).loc Cert.LruCtx.main_arg6)
      ∧ r.2.mem ((c.tc : Thread Cert.LruCtx.nD Cert.LruCtx.τ).loc Cert.LruCtx.main_arg7) = m ((c.tc : Thread Cert.LruCtx.nD Cert.LruCtx.τ).loc Cert.LruCtx.main_arg7)
      ∧ r.2.mem ((c.tc : Thread Cert.LruCtx.nD Cert.LruCtx.τ).loc Cert.LruCtx.main_arg8) = m ((c.tc : Thread Cert.LruCtx.nD Cert.LruCtx.τ).loc Cert.LruCtx.main_arg8))
      ∧ r.2.sem = fun _ => 0)

def quiescent_LruCtxIdeal [hLruCtxIdeal : Cert.LruCtxIdeal.Facts] : Prop :=
  ∀ (m : (ℓ : Loc Cert.LruCtxIdeal.nD Cert.LruCtxIdeal.τ Cert.LruCtxIdeal.sig) → Buf (Elt Ideal) ℓ) (g : Dev Cert.LruCtxIdeal.nD → PrngReg), Pre_LruCtxIdeal m →
    θ_run (Cert.LruCtxIdeal.defs (F := Ideal)) (onTc (τ := Cert.LruCtxIdeal.τ) (Cert.LruCtxIdeal.main (F := Ideal))) ⟨m, fun _ => 0, g⟩ (fun r => (∀ c : Dev Cert.LruCtxIdeal.nD,
      r.2.mem ((c.tc : Thread Cert.LruCtxIdeal.nD Cert.LruCtxIdeal.τ).loc Cert.LruCtxIdeal.main_arg0) = m ((c.tc : Thread Cert.LruCtxIdeal.nD Cert.LruCtxIdeal.τ).loc Cert.LruCtxIdeal.main_arg0)
      ∧ r.2.mem ((c.tc : Thread Cert.LruCtxIdeal.nD Cert.LruCtxIdeal.τ).loc Cert.LruCtxIdeal.main_arg1) = m ((c.tc : Thread Cert.LruCtxIdeal.nD Cert.LruCtxIdeal.τ).loc Cert.LruCtxIdeal.main_arg1)
      ∧ r.2.mem ((c.tc : Thread Cert.LruCtxIdeal.nD Cert.LruCtxIdeal.τ).loc Cert.LruCtxIdeal.main_arg2) = m ((c.tc : Thread Cert.LruCtxIdeal.nD Cert.LruCtxIdeal.τ).loc Cert.LruCtxIdeal.main_arg2)
      ∧ r.2.mem ((c.tc : Thread Cert.LruCtxIdeal.nD Cert.LruCtxIdeal.τ).loc Cert.LruCtxIdeal.main_arg3) = m ((c.tc : Thread Cert.LruCtxIdeal.nD Cert.LruCtxIdeal.τ).loc Cert.LruCtxIdeal.main_arg3)
      ∧ r.2.mem ((c.tc : Thread Cert.LruCtxIdeal.nD Cert.LruCtxIdeal.τ).loc Cert.LruCtxIdeal.main_arg4) = m ((c.tc : Thread Cert.LruCtxIdeal.nD Cert.LruCtxIdeal.τ).loc Cert.LruCtxIdeal.main_arg4)
      ∧ r.2.mem ((c.tc : Thread Cert.LruCtxIdeal.nD Cert.LruCtxIdeal.τ).loc Cert.LruCtxIdeal.main_arg5) = m ((c.tc : Thread Cert.LruCtxIdeal.nD Cert.LruCtxIdeal.τ).loc Cert.LruCtxIdeal.main_arg5)
      ∧ r.2.mem ((c.tc : Thread Cert.LruCtxIdeal.nD Cert.LruCtxIdeal.τ).loc Cert.LruCtxIdeal.main_arg6) = m ((c.tc : Thread Cert.LruCtxIdeal.nD Cert.LruCtxIdeal.τ).loc Cert.LruCtxIdeal.main_arg6)
      ∧ r.2.mem ((c.tc : Thread Cert.LruCtxIdeal.nD Cert.LruCtxIdeal.τ).loc Cert.LruCtxIdeal.main_arg7) = m ((c.tc : Thread Cert.LruCtxIdeal.nD Cert.LruCtxIdeal.τ).loc Cert.LruCtxIdeal.main_arg7)
      ∧ r.2.mem ((c.tc : Thread Cert.LruCtxIdeal.nD Cert.LruCtxIdeal.τ).loc Cert.LruCtxIdeal.main_arg8) = m ((c.tc : Thread Cert.LruCtxIdeal.nD Cert.LruCtxIdeal.τ).loc Cert.LruCtxIdeal.main_arg8))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3)
      ∧ r.2.mem ((c.tc : Thread Cert.Mod.nD Cert.Mod.τ).loc Cert.Mod.main_arg4) = m ((c.tc : Thread Cert.Mod.nD Cert.Mod.τ).loc Cert.Mod.main_arg4))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4))
      ∧ r.2.sem = fun _ => 0)

def quiescent_ModIdeal_pre_mod_finite [hModIdeal : Cert.ModIdeal.Facts] [hPre_mod_finite : Cert.Pre_mod_finite.Facts] : Prop :=
  ∀ (m : (ℓ : Loc Cert.ModIdeal.nD Cert.ModIdeal.τ Cert.ModIdeal.sig) → Buf (Elt Ideal) ℓ) (g : Dev Cert.ModIdeal.nD → PrngReg), Pre_ModIdeal_mod_finite m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4))
      ∧ r.2.sem = fun _ => 0)

def quiescent_ModRefIdeal_pre_mod_finite [hModRefIdeal : Cert.ModRefIdeal.Facts] [hPre_mod_finite : Cert.Pre_mod_finite.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_mod_finite m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4))
      ∧ r.2.sem = fun _ => 0)

def quiescent_InCtx [hInCtx : Cert.InCtx.Facts] : Prop :=
  ∀ (m : (ℓ : Loc Cert.InCtx.nD Cert.InCtx.τ Cert.InCtx.sig) → Buf (Elt Bits) ℓ) (g : Dev Cert.InCtx.nD → PrngReg), Pre_InCtx m →
    θ_run (Cert.InCtx.defs (F := Bits)) (onTc (τ := Cert.InCtx.τ) (Cert.InCtx.main (F := Bits))) ⟨m, fun _ => 0, g⟩ (fun r => (∀ c : Dev Cert.InCtx.nD,
      r.2.mem ((c.tc : Thread Cert.InCtx.nD Cert.InCtx.τ).loc Cert.InCtx.main_arg0) = m ((c.tc : Thread Cert.InCtx.nD Cert.InCtx.τ).loc Cert.InCtx.main_arg0)
      ∧ r.2.mem ((c.tc : Thread Cert.InCtx.nD Cert.InCtx.τ).loc Cert.InCtx.main_arg1) = m ((c.tc : Thread Cert.InCtx.nD Cert.InCtx.τ).loc Cert.InCtx.main_arg1)
      ∧ r.2.mem ((c.tc : Thread Cert.InCtx.nD Cert.InCtx.τ).loc Cert.InCtx.main_arg2) = m ((c.tc : Thread Cert.InCtx.nD Cert.InCtx.τ).loc Cert.InCtx.main_arg2)
      ∧ r.2.mem ((c.tc : Thread Cert.InCtx.nD Cert.InCtx.τ).loc Cert.InCtx.main_arg3) = m ((c.tc : Thread Cert.InCtx.nD Cert.InCtx.τ).loc Cert.InCtx.main_arg3)
      ∧ r.2.mem ((c.tc : Thread Cert.InCtx.nD Cert.InCtx.τ).loc Cert.InCtx.main_arg4) = m ((c.tc : Thread Cert.InCtx.nD Cert.InCtx.τ).loc Cert.InCtx.main_arg4))
      ∧ r.2.sem = fun _ => 0)

def quiescent_InCtxIdeal [hInCtxIdeal : Cert.InCtxIdeal.Facts] : Prop :=
  ∀ (m : (ℓ : Loc Cert.InCtxIdeal.nD Cert.InCtxIdeal.τ Cert.InCtxIdeal.sig) → Buf (Elt Ideal) ℓ) (g : Dev Cert.InCtxIdeal.nD → PrngReg), Pre_InCtxIdeal m →
    θ_run (Cert.InCtxIdeal.defs (F := Ideal)) (onTc (τ := Cert.InCtxIdeal.τ) (Cert.InCtxIdeal.main (F := Ideal))) ⟨m, fun _ => 0, g⟩ (fun r => (∀ c : Dev Cert.InCtxIdeal.nD,
      r.2.mem ((c.tc : Thread Cert.InCtxIdeal.nD Cert.InCtxIdeal.τ).loc Cert.InCtxIdeal.main_arg0) = m ((c.tc : Thread Cert.InCtxIdeal.nD Cert.InCtxIdeal.τ).loc Cert.InCtxIdeal.main_arg0)
      ∧ r.2.mem ((c.tc : Thread Cert.InCtxIdeal.nD Cert.InCtxIdeal.τ).loc Cert.InCtxIdeal.main_arg1) = m ((c.tc : Thread Cert.InCtxIdeal.nD Cert.InCtxIdeal.τ).loc Cert.InCtxIdeal.main_arg1)
      ∧ r.2.mem ((c.tc : Thread Cert.InCtxIdeal.nD Cert.InCtxIdeal.τ).loc Cert.InCtxIdeal.main_arg2) = m ((c.tc : Thread Cert.InCtxIdeal.nD Cert.InCtxIdeal.τ).loc Cert.InCtxIdeal.main_arg2)
      ∧ r.2.mem ((c.tc : Thread Cert.InCtxIdeal.nD Cert.InCtxIdeal.τ).loc Cert.InCtxIdeal.main_arg3) = m ((c.tc : Thread Cert.InCtxIdeal.nD Cert.InCtxIdeal.τ).loc Cert.InCtxIdeal.main_arg3)
      ∧ r.2.mem ((c.tc : Thread Cert.InCtxIdeal.nD Cert.InCtxIdeal.τ).loc Cert.InCtxIdeal.main_arg4) = m ((c.tc : Thread Cert.InCtxIdeal.nD Cert.InCtxIdeal.τ).loc Cert.InCtxIdeal.main_arg4))
      ∧ r.2.sem = fun _ => 0)

def quiescent_InCtxRefIdeal [hInCtxRefIdeal : Cert.InCtxRefIdeal.Facts] : Prop :=
  ∀ (m : (ℓ : Loc Cert.InCtxRefIdeal.nD Cert.InCtxRefIdeal.τ Cert.InCtxRefIdeal.sig) → Buf (Elt Ideal) ℓ) (g : Dev Cert.InCtxRefIdeal.nD → PrngReg), Pre_InCtxRefIdeal m →
    θ_run (Cert.InCtxRefIdeal.defs (F := Ideal)) (onTc (τ := Cert.InCtxRefIdeal.τ) (Cert.InCtxRefIdeal.main (F := Ideal))) ⟨m, fun _ => 0, g⟩ (fun r => (∀ c : Dev Cert.InCtxRefIdeal.nD,
      r.2.mem ((c.tc : Thread Cert.InCtxRefIdeal.nD Cert.InCtxRefIdeal.τ).loc Cert.InCtxRefIdeal.main_arg0) = m ((c.tc : Thread Cert.InCtxRefIdeal.nD Cert.InCtxRefIdeal.τ).loc Cert.InCtxRefIdeal.main_arg0)
      ∧ r.2.mem ((c.tc : Thread Cert.InCtxRefIdeal.nD Cert.InCtxRefIdeal.τ).loc Cert.InCtxRefIdeal.main_arg1) = m ((c.tc : Thread Cert.InCtxRefIdeal.nD Cert.InCtxRefIdeal.τ).loc Cert.InCtxRefIdeal.main_arg1)
      ∧ r.2.mem ((c.tc : Thread Cert.InCtxRefIdeal.nD Cert.InCtxRefIdeal.τ).loc Cert.InCtxRefIdeal.main_arg2) = m ((c.tc : Thread Cert.InCtxRefIdeal.nD Cert.InCtxRefIdeal.τ).loc Cert.InCtxRefIdeal.main_arg2)
      ∧ r.2.mem ((c.tc : Thread Cert.InCtxRefIdeal.nD Cert.InCtxRefIdeal.τ).loc Cert.InCtxRefIdeal.main_arg3) = m ((c.tc : Thread Cert.InCtxRefIdeal.nD Cert.InCtxRefIdeal.τ).loc Cert.InCtxRefIdeal.main_arg3)
      ∧ r.2.mem ((c.tc : Thread Cert.InCtxRefIdeal.nD Cert.InCtxRefIdeal.τ).loc Cert.InCtxRefIdeal.main_arg4) = m ((c.tc : Thread Cert.InCtxRefIdeal.nD Cert.InCtxRefIdeal.τ).loc Cert.InCtxRefIdeal.main_arg4))
      ∧ r.2.sem = fun _ => 0)

def quiescent_In1 [hIn1 : Cert.In1.Facts] : Prop :=
  ∀ (m : (ℓ : Loc Cert.In1.nD Cert.In1.τ Cert.In1.sig) → Buf (Elt Bits) ℓ) (g : Dev Cert.In1.nD → PrngReg), Pre_In1 m →
    θ_run (Cert.In1.defs (F := Bits)) (onTc (τ := Cert.In1.τ) (Cert.In1.main (F := Bits))) ⟨m, fun _ => 0, g⟩ (fun r => (∀ c : Dev Cert.In1.nD,
      r.2.mem ((c.tc : Thread Cert.In1.nD Cert.In1.τ).loc Cert.In1.main_arg0) = m ((c.tc : Thread Cert.In1.nD Cert.In1.τ).loc Cert.In1.main_arg0)
      ∧ r.2.mem ((c.tc : Thread Cert.In1.nD Cert.In1.τ).loc Cert.In1.main_arg1) = m ((c.tc : Thread Cert.In1.nD Cert.In1.τ).loc Cert.In1.main_arg1)
      ∧ r.2.mem ((c.tc : Thread Cert.In1.nD Cert.In1.τ).loc Cert.In1.main_arg2) = m ((c.tc : Thread Cert.In1.nD Cert.In1.τ).loc Cert.In1.main_arg2)
      ∧ r.2.mem ((c.tc : Thread Cert.In1.nD Cert.In1.τ).loc Cert.In1.main_arg3) = m ((c.tc : Thread Cert.In1.nD Cert.In1.τ).loc Cert.In1.main_arg3)
      ∧ r.2.mem ((c.tc : Thread Cert.In1.nD Cert.In1.τ).loc Cert.In1.main_arg4) = m ((c.tc : Thread Cert.In1.nD Cert.In1.τ).loc Cert.In1.main_arg4)
      ∧ r.2.mem ((c.tc : Thread Cert.In1.nD Cert.In1.τ).loc Cert.In1.main_arg5) = m ((c.tc : Thread Cert.In1.nD Cert.In1.τ).loc Cert.In1.main_arg5)
      ∧ r.2.mem ((c.tc : Thread Cert.In1.nD Cert.In1.τ).loc Cert.In1.main_arg6) = m ((c.tc : Thread Cert.In1.nD Cert.In1.τ).loc Cert.In1.main_arg6))
      ∧ r.2.sem = fun _ => 0)

def quiescent_In1Ideal [hIn1Ideal : Cert.In1Ideal.Facts] : Prop :=
  ∀ (m : (ℓ : Loc Cert.In1Ideal.nD Cert.In1Ideal.τ Cert.In1Ideal.sig) → Buf (Elt Ideal) ℓ) (g : Dev Cert.In1Ideal.nD → PrngReg), Pre_In1Ideal m →
    θ_run (Cert.In1Ideal.defs (F := Ideal)) (onTc (τ := Cert.In1Ideal.τ) (Cert.In1Ideal.main (F := Ideal))) ⟨m, fun _ => 0, g⟩ (fun r => (∀ c : Dev Cert.In1Ideal.nD,
      r.2.mem ((c.tc : Thread Cert.In1Ideal.nD Cert.In1Ideal.τ).loc Cert.In1Ideal.main_arg0) = m ((c.tc : Thread Cert.In1Ideal.nD Cert.In1Ideal.τ).loc Cert.In1Ideal.main_arg0)
      ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
      ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
      ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
      ∧ r.2.mem ((c.tc : Thread Cert.In1Ideal.nD Cert.In1Ideal.τ).loc Cert.In1Ideal.main_arg4) = m ((c.tc : Thread Cert.In1Ideal.nD Cert.In1Ideal.τ).loc Cert.In1Ideal.main_arg4)
      ∧ r.2.mem ((c.tc : Thread Cert.In1Ideal.nD Cert.In1Ideal.τ).loc Cert.In1Ideal.main_arg5) = m ((c.tc : Thread Cert.In1Ideal.nD Cert.In1Ideal.τ).loc Cert.In1Ideal.main_arg5)
      ∧ r.2.mem ((c.tc : Thread Cert.In1Ideal.nD Cert.In1Ideal.τ).loc Cert.In1Ideal.main_arg6) = m ((c.tc : Thread Cert.In1Ideal.nD Cert.In1Ideal.τ).loc Cert.In1Ideal.main_arg6))
      ∧ r.2.sem = fun _ => 0)

def quiescent_In1RefIdeal [hIn1RefIdeal : Cert.In1RefIdeal.Facts] : Prop :=
  ∀ (m : (ℓ : Loc Cert.In1RefIdeal.nD Cert.In1RefIdeal.τ Cert.In1RefIdeal.sig) → Buf (Elt Ideal) ℓ) (g : Dev Cert.In1RefIdeal.nD → PrngReg), Pre_In1RefIdeal m →
    θ_run (Cert.In1RefIdeal.defs (F := Ideal)) (onTc (τ := Cert.In1RefIdeal.τ) (Cert.In1RefIdeal.main (F := Ideal))) ⟨m, fun _ => 0, g⟩ (fun r => (∀ c : Dev Cert.In1RefIdeal.nD,
      r.2.mem ((c.tc : Thread Cert.In1RefIdeal.nD Cert.In1RefIdeal.τ).loc Cert.In1RefIdeal.main_arg0) = m ((c.tc : Thread Cert.In1RefIdeal.nD Cert.In1RefIdeal.τ).loc Cert.In1RefIdeal.main_arg0)
      ∧ r.2.mem ((c.tc : Thread Cert.In1RefIdeal.nD Cert.In1RefIdeal.τ).loc Cert.In1RefIdeal.main_arg1) = m ((c.tc : Thread Cert.In1RefIdeal.nD Cert.In1RefIdeal.τ).loc Cert.In1RefIdeal.main_arg1)
      ∧ r.2.mem ((c.tc : Thread Cert.In1RefIdeal.nD Cert.In1RefIdeal.τ).loc Cert.In1RefIdeal.main_arg2) = m ((c.tc : Thread Cert.In1RefIdeal.nD Cert.In1RefIdeal.τ).loc Cert.In1RefIdeal.main_arg2)
      ∧ r.2.mem ((c.tc : Thread Cert.In1RefIdeal.nD Cert.In1RefIdeal.τ).loc Cert.In1RefIdeal.main_arg3) = m ((c.tc : Thread Cert.In1RefIdeal.nD Cert.In1RefIdeal.τ).loc Cert.In1RefIdeal.main_arg3)
      ∧ r.2.mem ((c.tc : Thread Cert.In1RefIdeal.nD Cert.In1RefIdeal.τ).loc Cert.In1RefIdeal.main_arg4) = m ((c.tc : Thread Cert.In1RefIdeal.nD Cert.In1RefIdeal.τ).loc Cert.In1RefIdeal.main_arg4)
      ∧ r.2.mem ((c.tc : Thread Cert.In1RefIdeal.nD Cert.In1RefIdeal.τ).loc Cert.In1RefIdeal.main_arg5) = m ((c.tc : Thread Cert.In1RefIdeal.nD Cert.In1RefIdeal.τ).loc Cert.In1RefIdeal.main_arg5)
      ∧ r.2.mem ((c.tc : Thread Cert.In1RefIdeal.nD Cert.In1RefIdeal.τ).loc Cert.In1RefIdeal.main_arg6) = m ((c.tc : Thread Cert.In1RefIdeal.nD Cert.In1RefIdeal.τ).loc Cert.In1RefIdeal.main_arg6))
      ∧ r.2.sem = fun _ => 0)

def quiescent_In0 [hIn0 : Cert.In0.Facts] : Prop :=
  ∀ (m : (ℓ : Loc Cert.In0.nD Cert.In0.τ Cert.In0.sig) → Buf (Elt Bits) ℓ) (g : Dev Cert.In0.nD → PrngReg), Pre_In0 m →
    θ_run (Cert.In0.defs (F := Bits)) (onTc (τ := Cert.In0.τ) (Cert.In0.main (F := Bits))) ⟨m, fun _ => 0, g⟩ (fun r => (∀ c : Dev Cert.In0.nD,
      r.2.mem ((c.tc : Thread Cert.In0.nD Cert.In0.τ).loc Cert.In0.main_arg0) = m ((c.tc : Thread Cert.In0.nD Cert.In0.τ).loc Cert.In0.main_arg0)
      ∧ r.2.mem ((c.tc : Thread Cert.In0.nD Cert.In0.τ).loc Cert.In0.main_arg1) = m ((c.tc : Thread Cert.In0.nD Cert.In0.τ).loc Cert.In0.main_arg1)
      ∧ r.2.mem ((c.tc : Thread Cert.In0.nD Cert.In0.τ).loc Cert.In0.main_arg2) = m ((c.tc : Thread Cert.In0.nD Cert.In0.τ).loc Cert.In0.main_arg2)
      ∧ r.2.mem ((c.tc : Thread Cert.In0.nD Cert.In0.τ).loc Cert.In0.main_arg3) = m ((c.tc : Thread Cert.In0.nD Cert.In0.τ).loc Cert.In0.main_arg3)
      ∧ r.2.mem ((c.tc : Thread Cert.In0.nD Cert.In0.τ).loc Cert.In0.main_arg4) = m ((c.tc : Thread Cert.In0.nD Cert.In0.τ).loc Cert.In0.main_arg4)
      ∧ r.2.mem ((c.tc : Thread Cert.In0.nD Cert.In0.τ).loc Cert.In0.main_arg5) = m ((c.tc : Thread Cert.In0.nD Cert.In0.τ).loc Cert.In0.main_arg5)
      ∧ r.2.mem ((c.tc : Thread Cert.In0.nD Cert.In0.τ).loc Cert.In0.main_arg6) = m ((c.tc : Thread Cert.In0.nD Cert.In0.τ).loc Cert.In0.main_arg6)
      ∧ r.2.mem ((c.tc : Thread Cert.In0.nD Cert.In0.τ).loc Cert.In0.main_arg7) = m ((c.tc : Thread Cert.In0.nD Cert.In0.τ).loc Cert.In0.main_arg7))
      ∧ r.2.sem = fun _ => 0)

def quiescent_In0Ideal [hIn0Ideal : Cert.In0Ideal.Facts] : Prop :=
  ∀ (m : (ℓ : Loc Cert.In0Ideal.nD Cert.In0Ideal.τ Cert.In0Ideal.sig) → Buf (Elt Ideal) ℓ) (g : Dev Cert.In0Ideal.nD → PrngReg), Pre_In0Ideal m →
    θ_run (Cert.In0Ideal.defs (F := Ideal)) (onTc (τ := Cert.In0Ideal.τ) (Cert.In0Ideal.main (F := Ideal))) ⟨m, fun _ => 0, g⟩ (fun r => (∀ c : Dev Cert.In0Ideal.nD,
      r.2.mem ((c.tc : Thread Cert.In0Ideal.nD Cert.In0Ideal.τ).loc Cert.In0Ideal.main_arg0) = m ((c.tc : Thread Cert.In0Ideal.nD Cert.In0Ideal.τ).loc Cert.In0Ideal.main_arg0)
      ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
      ∧ r.2.mem ((c.tc : Thread Cert.In0Ideal.nD Cert.In0Ideal.τ).loc Cert.In0Ideal.main_arg2) = m ((c.tc : Thread Cert.In0Ideal.nD Cert.In0Ideal.τ).loc Cert.In0Ideal.main_arg2)
      ∧ r.2.mem ((c.tc : Thread Cert.In0Ideal.nD Cert.In0Ideal.τ).loc Cert.In0Ideal.main_arg3) = m ((c.tc : Thread Cert.In0Ideal.nD Cert.In0Ideal.τ).loc Cert.In0Ideal.main_arg3)
      ∧ r.2.mem ((c.tc : Thread Cert.In0Ideal.nD Cert.In0Ideal.τ).loc Cert.In0Ideal.main_arg4) = m ((c.tc : Thread Cert.In0Ideal.nD Cert.In0Ideal.τ).loc Cert.In0Ideal.main_arg4)
      ∧ r.2.mem ((c.tc : Thread Cert.In0Ideal.nD Cert.In0Ideal.τ).loc Cert.In0Ideal.main_arg5) = m ((c.tc : Thread Cert.In0Ideal.nD Cert.In0Ideal.τ).loc Cert.In0Ideal.main_arg5)
      ∧ r.2.mem ((c.tc : Thread Cert.In0Ideal.nD Cert.In0Ideal.τ).loc Cert.In0Ideal.main_arg6) = m ((c.tc : Thread Cert.In0Ideal.nD Cert.In0Ideal.τ).loc Cert.In0Ideal.main_arg6)
      ∧ r.2.mem ((c.tc : Thread Cert.In0Ideal.nD Cert.In0Ideal.τ).loc Cert.In0Ideal.main_arg7) = m ((c.tc : Thread Cert.In0Ideal.nD Cert.In0Ideal.τ).loc Cert.In0Ideal.main_arg7))
      ∧ r.2.sem = fun _ => 0)

def quiescent_In0RefIdeal [hIn0RefIdeal : Cert.In0RefIdeal.Facts] : Prop :=
  ∀ (m : (ℓ : Loc Cert.In0RefIdeal.nD Cert.In0RefIdeal.τ Cert.In0RefIdeal.sig) → Buf (Elt Ideal) ℓ) (g : Dev Cert.In0RefIdeal.nD → PrngReg), Pre_In0RefIdeal m →
    θ_run (Cert.In0RefIdeal.defs (F := Ideal)) (onTc (τ := Cert.In0RefIdeal.τ) (Cert.In0RefIdeal.main (F := Ideal))) ⟨m, fun _ => 0, g⟩ (fun r => (∀ c : Dev Cert.In0RefIdeal.nD,
      r.2.mem ((c.tc : Thread Cert.In0RefIdeal.nD Cert.In0RefIdeal.τ).loc Cert.In0RefIdeal.main_arg0) = m ((c.tc : Thread Cert.In0RefIdeal.nD Cert.In0RefIdeal.τ).loc Cert.In0RefIdeal.main_arg0)
      ∧ r.2.mem ((c.tc : Thread Cert.In0RefIdeal.nD Cert.In0RefIdeal.τ).loc Cert.In0RefIdeal.main_arg1) = m ((c.tc : Thread Cert.In0RefIdeal.nD Cert.In0RefIdeal.τ).loc Cert.In0RefIdeal.main_arg1)
      ∧ r.2.mem ((c.tc : Thread Cert.In0RefIdeal.nD Cert.In0RefIdeal.τ).loc Cert.In0RefIdeal.main_arg2) = m ((c.tc : Thread Cert.In0RefIdeal.nD Cert.In0RefIdeal.τ).loc Cert.In0RefIdeal.main_arg2)
      ∧ r.2.mem ((c.tc : Thread Cert.In0RefIdeal.nD Cert.In0RefIdeal.τ).loc Cert.In0RefIdeal.main_arg3) = m ((c.tc : Thread Cert.In0RefIdeal.nD Cert.In0RefIdeal.τ).loc Cert.In0RefIdeal.main_arg3)
      ∧ r.2.mem ((c.tc : Thread Cert.In0RefIdeal.nD Cert.In0RefIdeal.τ).loc Cert.In0RefIdeal.main_arg4) = m ((c.tc : Thread Cert.In0RefIdeal.nD Cert.In0RefIdeal.τ).loc Cert.In0RefIdeal.main_arg4)
      ∧ r.2.mem ((c.tc : Thread Cert.In0RefIdeal.nD Cert.In0RefIdeal.τ).loc Cert.In0RefIdeal.main_arg5) = m ((c.tc : Thread Cert.In0RefIdeal.nD Cert.In0RefIdeal.τ).loc Cert.In0RefIdeal.main_arg5)
      ∧ r.2.mem ((c.tc : Thread Cert.In0RefIdeal.nD Cert.In0RefIdeal.τ).loc Cert.In0RefIdeal.main_arg6) = m ((c.tc : Thread Cert.In0RefIdeal.nD Cert.In0RefIdeal.τ).loc Cert.In0RefIdeal.main_arg6)
      ∧ r.2.mem ((c.tc : Thread Cert.In0RefIdeal.nD Cert.In0RefIdeal.τ).loc Cert.In0RefIdeal.main_arg7) = m ((c.tc : Thread Cert.In0RefIdeal.nD Cert.In0RefIdeal.τ).loc Cert.In0RefIdeal.main_arg7))
      ∧ r.2.sem = fun _ => 0)

def quiescent_Out1B [hOut1B : Cert.Out1B.Facts] : Prop :=
  ∀ (m : (ℓ : Loc Cert.Out1B.nD Cert.Out1B.τ Cert.Out1B.sig) → Buf (Elt Bits) ℓ) (g : Dev Cert.Out1B.nD → PrngReg), Pre_Out1B m →
    θ_run (Cert.Out1B.defs (F := Bits)) (onTc (τ := Cert.Out1B.τ) (Cert.Out1B.main (F := Bits))) ⟨m, fun _ => 0, g⟩ (fun r => (∀ c : Dev Cert.Out1B.nD,
      r.2.mem ((c.tc : Thread Cert.Out1B.nD Cert.Out1B.τ).loc Cert.Out1B.main_arg0) = m ((c.tc : Thread Cert.Out1B.nD Cert.Out1B.τ).loc Cert.Out1B.main_arg0)
      ∧ r.2.mem ((c.tc : Thread Cert.Out1B.nD Cert.Out1B.τ).loc Cert.Out1B.main_arg1) = m ((c.tc : Thread Cert.Out1B.nD Cert.Out1B.τ).loc Cert.Out1B.main_arg1)
      ∧ r.2.mem ((c.tc : Thread Cert.Out1B.nD Cert.Out1B.τ).loc Cert.Out1B.main_arg2) = m ((c.tc : Thread Cert.Out1B.nD Cert.Out1B.τ).loc Cert.Out1B.main_arg2)
      ∧ r.2.mem ((c.tc : Thread Cert.Out1B.nD Cert.Out1B.τ).loc Cert.Out1B.main_arg3) = m ((c.tc : Thread Cert.Out1B.nD Cert.Out1B.τ).loc Cert.Out1B.main_arg3)
      ∧ r.2.mem ((c.tc : Thread Cert.Out1B.nD Cert.Out1B.τ).loc Cert.Out1B.main_arg4) = m ((c.tc : Thread Cert.Out1B.nD Cert.Out1B.τ).loc Cert.Out1B.main_arg4)
      ∧ r.2.mem ((c.tc : Thread Cert.Out1B.nD Cert.Out1B.τ).loc Cert.Out1B.main_arg5) = m ((c.tc : Thread Cert.Out1B.nD Cert.Out1B.τ).loc Cert.Out1B.main_arg5)
      ∧ r.2.mem ((c.tc : Thread Cert.Out1B.nD Cert.Out1B.τ).loc Cert.Out1B.main_arg6) = m ((c.tc : Thread Cert.Out1B.nD Cert.Out1B.τ).loc Cert.Out1B.main_arg6))
      ∧ r.2.sem = fun _ => 0)

def quiescent_Out1BIdeal [hOut1BIdeal : Cert.Out1BIdeal.Facts] : Prop :=
  ∀ (m : (ℓ : Loc Cert.Out1BIdeal.nD Cert.Out1BIdeal.τ Cert.Out1BIdeal.sig) → Buf (Elt Ideal) ℓ) (g : Dev Cert.Out1BIdeal.nD → PrngReg), Pre_Out1BIdeal m →
    θ_run (Cert.Out1BIdeal.defs (F := Ideal)) (onTc (τ := Cert.Out1BIdeal.τ) (Cert.Out1BIdeal.main (F := Ideal))) ⟨m, fun _ => 0, g⟩ (fun r => (∀ c : Dev Cert.Out1BIdeal.nD,
      r.2.mem ((c.tc : Thread Cert.Out1BIdeal.nD Cert.Out1BIdeal.τ).loc Cert.Out1BIdeal.main_arg0) = m ((c.tc : Thread Cert.Out1BIdeal.nD Cert.Out1BIdeal.τ).loc Cert.Out1BIdeal.main_arg0)
      ∧ r.2.mem ((c.tc : Thread Cert.Out1BIdeal.nD Cert.Out1BIdeal.τ).loc Cert.Out1BIdeal.main_arg1) = m ((c.tc : Thread Cert.Out1BIdeal.nD Cert.Out1BIdeal.τ).loc Cert.Out1BIdeal.main_arg1)
      ∧ r.2.mem ((c.tc : Thread Cert.Out1BIdeal.nD Cert.Out1BIdeal.τ).loc Cert.Out1BIdeal.main_arg2) = m ((c.tc : Thread Cert.Out1BIdeal.nD Cert.Out1BIdeal.τ).loc Cert.Out1BIdeal.main_arg2)
      ∧ r.2.mem ((c.tc : Thread Cert.Out1BIdeal.nD Cert.Out1BIdeal.τ).loc Cert.Out1BIdeal.main_arg3) = m ((c.tc : Thread Cert.Out1BIdeal.nD Cert.Out1BIdeal.τ).loc Cert.Out1BIdeal.main_arg3)
      ∧ r.2.mem ((c.tc : Thread Cert.Out1BIdeal.nD Cert.Out1BIdeal.τ).loc Cert.Out1BIdeal.main_arg4) = m ((c.tc : Thread Cert.Out1BIdeal.nD Cert.Out1BIdeal.τ).loc Cert.Out1BIdeal.main_arg4)
      ∧ r.2.mem ((c.tc : Thread Cert.Out1BIdeal.nD Cert.Out1BIdeal.τ).loc Cert.Out1BIdeal.main_arg5) = m ((c.tc : Thread Cert.Out1BIdeal.nD Cert.Out1BIdeal.τ).loc Cert.Out1BIdeal.main_arg5)
      ∧ r.2.mem ((c.tc : Thread Cert.Out1BIdeal.nD Cert.Out1BIdeal.τ).loc Cert.Out1BIdeal.main_arg6) = m ((c.tc : Thread Cert.Out1BIdeal.nD Cert.Out1BIdeal.τ).loc Cert.Out1BIdeal.main_arg6))
      ∧ r.2.sem = fun _ => 0)

def quiescent_Out1BIdeal_pre_out1b_finite [hOut1BIdeal : Cert.Out1BIdeal.Facts] [hPre_out1b_finite : Cert.Pre_out1b_finite.Facts] : Prop :=
  ∀ (m : (ℓ : Loc Cert.Out1BIdeal.nD Cert.Out1BIdeal.τ Cert.Out1BIdeal.sig) → Buf (Elt Ideal) ℓ) (g : Dev Cert.Out1BIdeal.nD → PrngReg), Pre_Out1BIdeal_out1b_finite m →
    θ_run (Cert.Out1BIdeal.defs (F := Ideal)) (onTc (τ := Cert.Out1BIdeal.τ) (Cert.Out1BIdeal.main (F := Ideal))) ⟨m, fun _ => 0, g⟩ (fun r => (∀ c : Dev Cert.Out1BIdeal.nD,
      r.2.mem ((c.tc : Thread Cert.Out1BIdeal.nD Cert.Out1BIdeal.τ).loc Cert.Out1BIdeal.main_arg0) = m ((c.tc : Thread Cert.Out1BIdeal.nD Cert.Out1BIdeal.τ).loc Cert.Out1BIdeal.main_arg0)
      ∧ r.2.mem ((c.tc : Thread Cert.Out1BIdeal.nD Cert.Out1BIdeal.τ).loc Cert.Out1BIdeal.main_arg1) = m ((c.tc : Thread Cert.Out1BIdeal.nD Cert.Out1BIdeal.τ).loc Cert.Out1BIdeal.main_arg1)
      ∧ r.2.mem ((c.tc : Thread Cert.Out1BIdeal.nD Cert.Out1BIdeal.τ).loc Cert.Out1BIdeal.main_arg2) = m ((c.tc : Thread Cert.Out1BIdeal.nD Cert.Out1BIdeal.τ).loc Cert.Out1BIdeal.main_arg2)
      ∧ r.2.mem ((c.tc : Thread Cert.Out1BIdeal.nD Cert.Out1BIdeal.τ).loc Cert.Out1BIdeal.main_arg3) = m ((c.tc : Thread Cert.Out1BIdeal.nD Cert.Out1BIdeal.τ).loc Cert.Out1BIdeal.main_arg3)
      ∧ r.2.mem ((c.tc : Thread Cert.Out1BIdeal.nD Cert.Out1BIdeal.τ).loc Cert.Out1BIdeal.main_arg4) = m ((c.tc : Thread Cert.Out1BIdeal.nD Cert.Out1BIdeal.τ).loc Cert.Out1BIdeal.main_arg4)
      ∧ r.2.mem ((c.tc : Thread Cert.Out1BIdeal.nD Cert.Out1BIdeal.τ).loc Cert.Out1BIdeal.main_arg5) = m ((c.tc : Thread Cert.Out1BIdeal.nD Cert.Out1BIdeal.τ).loc Cert.Out1BIdeal.main_arg5)
      ∧ r.2.mem ((c.tc : Thread Cert.Out1BIdeal.nD Cert.Out1BIdeal.τ).loc Cert.Out1BIdeal.main_arg6) = m ((c.tc : Thread Cert.Out1BIdeal.nD Cert.Out1BIdeal.τ).loc Cert.Out1BIdeal.main_arg6))
      ∧ r.2.sem = fun _ => 0)

def quiescent_Out1BRefIdeal [hOut1BRefIdeal : Cert.Out1BRefIdeal.Facts] : Prop :=
  ∀ (m : (ℓ : Loc Cert.Out1BRefIdeal.nD Cert.Out1BRefIdeal.τ Cert.Out1BRefIdeal.sig) → Buf (Elt Ideal) ℓ) (g : Dev Cert.Out1BRefIdeal.nD → PrngReg), Pre_Out1BRefIdeal m →
    θ_run (Cert.Out1BRefIdeal.defs (F := Ideal)) (onTc (τ := Cert.Out1BRefIdeal.τ) (Cert.Out1BRefIdeal.main (F := Ideal))) ⟨m, fun _ => 0, g⟩ (fun r => (∀ c : Dev Cert.Out1BRefIdeal.nD,
      r.2.mem ((c.tc : Thread Cert.Out1BRefIdeal.nD Cert.Out1BRefIdeal.τ).loc Cert.Out1BRefIdeal.main_arg0) = m ((c.tc : Thread Cert.Out1BRefIdeal.nD Cert.Out1BRefIdeal.τ).loc Cert.Out1BRefIdeal.main_arg0)
      ∧ r.2.mem ((c.tc : Thread Cert.Out1BRefIdeal.nD Cert.Out1BRefIdeal.τ).loc Cert.Out1BRefIdeal.main_arg1) = m ((c.tc : Thread Cert.Out1BRefIdeal.nD Cert.Out1BRefIdeal.τ).loc Cert.Out1BRefIdeal.main_arg1)
      ∧ r.2.mem ((c.tc : Thread Cert.Out1BRefIdeal.nD Cert.Out1BRefIdeal.τ).loc Cert.Out1BRefIdeal.main_arg2) = m ((c.tc : Thread Cert.Out1BRefIdeal.nD Cert.Out1BRefIdeal.τ).loc Cert.Out1BRefIdeal.main_arg2)
      ∧ r.2.mem ((c.tc : Thread Cert.Out1BRefIdeal.nD Cert.Out1BRefIdeal.τ).loc Cert.Out1BRefIdeal.main_arg3) = m ((c.tc : Thread Cert.Out1BRefIdeal.nD Cert.Out1BRefIdeal.τ).loc Cert.Out1BRefIdeal.main_arg3)
      ∧ r.2.mem ((c.tc : Thread Cert.Out1BRefIdeal.nD Cert.Out1BRefIdeal.τ).loc Cert.Out1BRefIdeal.main_arg4) = m ((c.tc : Thread Cert.Out1BRefIdeal.nD Cert.Out1BRefIdeal.τ).loc Cert.Out1BRefIdeal.main_arg4)
      ∧ r.2.mem ((c.tc : Thread Cert.Out1BRefIdeal.nD Cert.Out1BRefIdeal.τ).loc Cert.Out1BRefIdeal.main_arg5) = m ((c.tc : Thread Cert.Out1BRefIdeal.nD Cert.Out1BRefIdeal.τ).loc Cert.Out1BRefIdeal.main_arg5)
      ∧ r.2.mem ((c.tc : Thread Cert.Out1BRefIdeal.nD Cert.Out1BRefIdeal.τ).loc Cert.Out1BRefIdeal.main_arg6) = m ((c.tc : Thread Cert.Out1BRefIdeal.nD Cert.Out1BRefIdeal.τ).loc Cert.Out1BRefIdeal.main_arg6))
      ∧ r.2.sem = fun _ => 0)

def quiescent_Out1BRefIdeal_pre_out1b_finite [hOut1BRefIdeal : Cert.Out1BRefIdeal.Facts] [hPre_out1b_finite : Cert.Pre_out1b_finite.Facts] : Prop :=
  ∀ (m : (ℓ : Loc Cert.Out1BRefIdeal.nD Cert.Out1BRefIdeal.τ Cert.Out1BRefIdeal.sig) → Buf (Elt Ideal) ℓ) (g : Dev Cert.Out1BRefIdeal.nD → PrngReg), Pre_Out1BRefIdeal_out1b_finite m →
    θ_run (Cert.Out1BRefIdeal.defs (F := Ideal)) (onTc (τ := Cert.Out1BRefIdeal.τ) (Cert.Out1BRefIdeal.main (F := Ideal))) ⟨m, fun _ => 0, g⟩ (fun r => (∀ c : Dev Cert.Out1BRefIdeal.nD,
      r.2.mem ((c.tc : Thread Cert.Out1BRefIdeal.nD Cert.Out1BRefIdeal.τ).loc Cert.Out1BRefIdeal.main_arg0) = m ((c.tc : Thread Cert.Out1BRefIdeal.nD Cert.Out1BRefIdeal.τ).loc Cert.Out1BRefIdeal.main_arg0)
      ∧ r.2.mem ((c.tc : Thread Cert.Out1BRefIdeal.nD Cert.Out1BRefIdeal.τ).loc Cert.Out1BRefIdeal.main_arg1) = m ((c.tc : Thread Cert.Out1BRefIdeal.nD Cert.Out1BRefIdeal.τ).loc Cert.Out1BRefIdeal.main_arg1)
      ∧ r.2.mem ((c.tc : Thread Cert.Out1BRefIdeal.nD Cert.Out1BRefIdeal.τ).loc Cert.Out1BRefIdeal.main_arg2) = m ((c.tc : Thread Cert.Out1BRefIdeal.nD Cert.Out1BRefIdeal.τ).loc Cert.Out1BRefIdeal.main_arg2)
      ∧ r.2.mem ((c.tc : Thread Cert.Out1BRefIdeal.nD Cert.Out1BRefIdeal.τ).loc Cert.Out1BRefIdeal.main_arg3) = m ((c.tc : Thread Cert.Out1BRefIdeal.nD Cert.Out1BRefIdeal.τ).loc Cert.Out1BRefIdeal.main_arg3)
      ∧ r.2.mem ((c.tc : Thread Cert.Out1BRefIdeal.nD Cert.Out1BRefIdeal.τ).loc Cert.Out1BRefIdeal.main_arg4) = m ((c.tc : Thread Cert.Out1BRefIdeal.nD Cert.Out1BRefIdeal.τ).loc Cert.Out1BRefIdeal.main_arg4)
      ∧ r.2.mem ((c.tc : Thread Cert.Out1BRefIdeal.nD Cert.Out1BRefIdeal.τ).loc Cert.Out1BRefIdeal.main_arg5) = m ((c.tc : Thread Cert.Out1BRefIdeal.nD Cert.Out1BRefIdeal.τ).loc Cert.Out1BRefIdeal.main_arg5)
      ∧ r.2.mem ((c.tc : Thread Cert.Out1BRefIdeal.nD Cert.Out1BRefIdeal.τ).loc Cert.Out1BRefIdeal.main_arg6) = m ((c.tc : Thread Cert.Out1BRefIdeal.nD Cert.Out1BRefIdeal.τ).loc Cert.Out1BRefIdeal.main_arg6))
      ∧ r.2.sem = fun _ => 0)

def quiescent_Out0B [hOut0B : Cert.Out0B.Facts] : Prop :=
  ∀ (m : (ℓ : Loc Cert.Out0B.nD Cert.Out0B.τ Cert.Out0B.sig) → Buf (Elt Bits) ℓ) (g : Dev Cert.Out0B.nD → PrngReg), Pre_Out0B m →
    θ_run (Cert.Out0B.defs (F := Bits)) (onTc (τ := Cert.Out0B.τ) (Cert.Out0B.main (F := Bits))) ⟨m, fun _ => 0, g⟩ (fun r => (∀ c : Dev Cert.Out0B.nD,
      r.2.mem ((c.tc : Thread Cert.Out0B.nD Cert.Out0B.τ).loc Cert.Out0B.main_arg0) = m ((c.tc : Thread Cert.Out0B.nD Cert.Out0B.τ).loc Cert.Out0B.main_arg0)
      ∧ r.2.mem ((c.tc : Thread Cert.Out0B.nD Cert.Out0B.τ).loc Cert.Out0B.main_arg1) = m ((c.tc : Thread Cert.Out0B.nD Cert.Out0B.τ).loc Cert.Out0B.main_arg1)
      ∧ r.2.mem ((c.tc : Thread Cert.Out0B.nD Cert.Out0B.τ).loc Cert.Out0B.main_arg2) = m ((c.tc : Thread Cert.Out0B.nD Cert.Out0B.τ).loc Cert.Out0B.main_arg2)
      ∧ r.2.mem ((c.tc : Thread Cert.Out0B.nD Cert.Out0B.τ).loc Cert.Out0B.main_arg3) = m ((c.tc : Thread Cert.Out0B.nD Cert.Out0B.τ).loc Cert.Out0B.main_arg3)
      ∧ r.2.mem ((c.tc : Thread Cert.Out0B.nD Cert.Out0B.τ).loc Cert.Out0B.main_arg4) = m ((c.tc : Thread Cert.Out0B.nD Cert.Out0B.τ).loc Cert.Out0B.main_arg4)
      ∧ r.2.mem ((c.tc : Thread Cert.Out0B.nD Cert.Out0B.τ).loc Cert.Out0B.main_arg5) = m ((c.tc : Thread Cert.Out0B.nD Cert.Out0B.τ).loc Cert.Out0B.main_arg5)
      ∧ r.2.mem ((c.tc : Thread Cert.Out0B.nD Cert.Out0B.τ).loc Cert.Out0B.main_arg6) = m ((c.tc : Thread Cert.Out0B.nD Cert.Out0B.τ).loc Cert.Out0B.main_arg6)
      ∧ r.2.mem ((c.tc : Thread Cert.Out0B.nD Cert.Out0B.τ).loc Cert.Out0B.main_arg7) = m ((c.tc : Thread Cert.Out0B.nD Cert.Out0B.τ).loc Cert.Out0B.main_arg7))
      ∧ r.2.sem = fun _ => 0)

def quiescent_Out0BIdeal [hOut0BIdeal : Cert.Out0BIdeal.Facts] : Prop :=
  ∀ (m : (ℓ : Loc Cert.Out0BIdeal.nD Cert.Out0BIdeal.τ Cert.Out0BIdeal.sig) → Buf (Elt Ideal) ℓ) (g : Dev Cert.Out0BIdeal.nD → PrngReg), Pre_Out0BIdeal m →
    θ_run (Cert.Out0BIdeal.defs (F := Ideal)) (onTc (τ := Cert.Out0BIdeal.τ) (Cert.Out0BIdeal.main (F := Ideal))) ⟨m, fun _ => 0, g⟩ (fun r => (∀ c : Dev Cert.Out0BIdeal.nD,
      r.2.mem ((c.tc : Thread Cert.Out0BIdeal.nD Cert.Out0BIdeal.τ).loc Cert.Out0BIdeal.main_arg0) = m ((c.tc : Thread Cert.Out0BIdeal.nD Cert.Out0BIdeal.τ).loc Cert.Out0BIdeal.main_arg0)
      ∧ r.2.mem ((c.tc : Thread Cert.Out0BIdeal.nD Cert.Out0BIdeal.τ).loc Cert.Out0BIdeal.main_arg1) = m ((c.tc : Thread Cert.Out0BIdeal.nD Cert.Out0BIdeal.τ).loc Cert.Out0BIdeal.main_arg1)
      ∧ r.2.mem ((c.tc : Thread Cert.Out0BIdeal.nD Cert.Out0BIdeal.τ).loc Cert.Out0BIdeal.main_arg2) = m ((c.tc : Thread Cert.Out0BIdeal.nD Cert.Out0BIdeal.τ).loc Cert.Out0BIdeal.main_arg2)
      ∧ r.2.mem ((c.tc : Thread Cert.Out0BIdeal.nD Cert.Out0BIdeal.τ).loc Cert.Out0BIdeal.main_arg3) = m ((c.tc : Thread Cert.Out0BIdeal.nD Cert.Out0BIdeal.τ).loc Cert.Out0BIdeal.main_arg3)
      ∧ r.2.mem ((c.tc : Thread Cert.Out0BIdeal.nD Cert.Out0BIdeal.τ).loc Cert.Out0BIdeal.main_arg4) = m ((c.tc : Thread Cert.Out0BIdeal.nD Cert.Out0BIdeal.τ).loc Cert.Out0BIdeal.main_arg4)
      ∧ r.2.mem ((c.tc : Thread Cert.Out0BIdeal.nD Cert.Out0BIdeal.τ).loc Cert.Out0BIdeal.main_arg5) = m ((c.tc : Thread Cert.Out0BIdeal.nD Cert.Out0BIdeal.τ).loc Cert.Out0BIdeal.main_arg5)
      ∧ r.2.mem ((c.tc : Thread Cert.Out0BIdeal.nD Cert.Out0BIdeal.τ).loc Cert.Out0BIdeal.main_arg6) = m ((c.tc : Thread Cert.Out0BIdeal.nD Cert.Out0BIdeal.τ).loc Cert.Out0BIdeal.main_arg6)
      ∧ r.2.mem ((c.tc : Thread Cert.Out0BIdeal.nD Cert.Out0BIdeal.τ).loc Cert.Out0BIdeal.main_arg7) = m ((c.tc : Thread Cert.Out0BIdeal.nD Cert.Out0BIdeal.τ).loc Cert.Out0BIdeal.main_arg7))
      ∧ r.2.sem = fun _ => 0)

def quiescent_Out0BIdeal_pre_out0b_finite [hOut0BIdeal : Cert.Out0BIdeal.Facts] [hPre_out0b_finite : Cert.Pre_out0b_finite.Facts] : Prop :=
  ∀ (m : (ℓ : Loc Cert.Out0BIdeal.nD Cert.Out0BIdeal.τ Cert.Out0BIdeal.sig) → Buf (Elt Ideal) ℓ) (g : Dev Cert.Out0BIdeal.nD → PrngReg), Pre_Out0BIdeal_out0b_finite m →
    θ_run (Cert.Out0BIdeal.defs (F := Ideal)) (onTc (τ := Cert.Out0BIdeal.τ) (Cert.Out0BIdeal.main (F := Ideal))) ⟨m, fun _ => 0, g⟩ (fun r => (∀ c : Dev Cert.Out0BIdeal.nD,
      r.2.mem ((c.tc : Thread Cert.Out0BIdeal.nD Cert.Out0BIdeal.τ).loc Cert.Out0BIdeal.main_arg0) = m ((c.tc : Thread Cert.Out0BIdeal.nD Cert.Out0BIdeal.τ).loc Cert.Out0BIdeal.main_arg0)
      ∧ r.2.mem ((c.tc : Thread Cert.Out0BIdeal.nD Cert.Out0BIdeal.τ).loc Cert.Out0BIdeal.main_arg1) = m ((c.tc : Thread Cert.Out0BIdeal.nD Cert.Out0BIdeal.τ).loc Cert.Out0BIdeal.main_arg1)
      ∧ r.2.mem ((c.tc : Thread Cert.Out0BIdeal.nD Cert.Out0BIdeal.τ).loc Cert.Out0BIdeal.main_arg2) = m ((c.tc : Thread Cert.Out0BIdeal.nD Cert.Out0BIdeal.τ).loc Cert.Out0BIdeal.main_arg2)
      ∧ r.2.mem ((c.tc : Thread Cert.Out0BIdeal.nD Cert.Out0BIdeal.τ).loc Cert.Out0BIdeal.main_arg3) = m ((c.tc : Thread Cert.Out0BIdeal.nD Cert.Out0BIdeal.τ).loc Cert.Out0BIdeal.main_arg3)
      ∧ r.2.mem ((c.tc : Thread Cert.Out0BIdeal.nD Cert.Out0BIdeal.τ).loc Cert.Out0BIdeal.main_arg4) = m ((c.tc : Thread Cert.Out0BIdeal.nD Cert.Out0BIdeal.τ).loc Cert.Out0BIdeal.main_arg4)
      ∧ r.2.mem ((c.tc : Thread Cert.Out0BIdeal.nD Cert.Out0BIdeal.τ).loc Cert.Out0BIdeal.main_arg5) = m ((c.tc : Thread Cert.Out0BIdeal.nD Cert.Out0BIdeal.τ).loc Cert.Out0BIdeal.main_arg5)
      ∧ r.2.mem ((c.tc : Thread Cert.Out0BIdeal.nD Cert.Out0BIdeal.τ).loc Cert.Out0BIdeal.main_arg6) = m ((c.tc : Thread Cert.Out0BIdeal.nD Cert.Out0BIdeal.τ).loc Cert.Out0BIdeal.main_arg6)
      ∧ r.2.mem ((c.tc : Thread Cert.Out0BIdeal.nD Cert.Out0BIdeal.τ).loc Cert.Out0BIdeal.main_arg7) = m ((c.tc : Thread Cert.Out0BIdeal.nD Cert.Out0BIdeal.τ).loc Cert.Out0BIdeal.main_arg7))
      ∧ r.2.sem = fun _ => 0)

def quiescent_Out0BRefIdeal [hOut0BRefIdeal : Cert.Out0BRefIdeal.Facts] : Prop :=
  ∀ (m : (ℓ : Loc Cert.Out0BRefIdeal.nD Cert.Out0BRefIdeal.τ Cert.Out0BRefIdeal.sig) → Buf (Elt Ideal) ℓ) (g : Dev Cert.Out0BRefIdeal.nD → PrngReg), Pre_Out0BRefIdeal m →
    θ_run (Cert.Out0BRefIdeal.defs (F := Ideal)) (onTc (τ := Cert.Out0BRefIdeal.τ) (Cert.Out0BRefIdeal.main (F := Ideal))) ⟨m, fun _ => 0, g⟩ (fun r => (∀ c : Dev Cert.Out0BRefIdeal.nD,
      r.2.mem ((c.tc : Thread Cert.Out0BRefIdeal.nD Cert.Out0BRefIdeal.τ).loc Cert.Out0BRefIdeal.main_arg0) = m ((c.tc : Thread Cert.Out0BRefIdeal.nD Cert.Out0BRefIdeal.τ).loc Cert.Out0BRefIdeal.main_arg0)
      ∧ r.2.mem ((c.tc : Thread Cert.Out0BRefIdeal.nD Cert.Out0BRefIdeal.τ).loc Cert.Out0BRefIdeal.main_arg1) = m ((c.tc : Thread Cert.Out0BRefIdeal.nD Cert.Out0BRefIdeal.τ).loc Cert.Out0BRefIdeal.main_arg1)
      ∧ r.2.mem ((c.tc : Thread Cert.Out0BRefIdeal.nD Cert.Out0BRefIdeal.τ).loc Cert.Out0BRefIdeal.main_arg2) = m ((c.tc : Thread Cert.Out0BRefIdeal.nD Cert.Out0BRefIdeal.τ).loc Cert.Out0BRefIdeal.main_arg2)
      ∧ r.2.mem ((c.tc : Thread Cert.Out0BRefIdeal.nD Cert.Out0BRefIdeal.τ).loc Cert.Out0BRefIdeal.main_arg3) = m ((c.tc : Thread Cert.Out0BRefIdeal.nD Cert.Out0BRefIdeal.τ).loc Cert.Out0BRefIdeal.main_arg3)
      ∧ r.2.mem ((c.tc : Thread Cert.Out0BRefIdeal.nD Cert.Out0BRefIdeal.τ).loc Cert.Out0BRefIdeal.main_arg4) = m ((c.tc : Thread Cert.Out0BRefIdeal.nD Cert.Out0BRefIdeal.τ).loc Cert.Out0BRefIdeal.main_arg4)
      ∧ r.2.mem ((c.tc : Thread Cert.Out0BRefIdeal.nD Cert.Out0BRefIdeal.τ).loc Cert.Out0BRefIdeal.main_arg5) = m ((c.tc : Thread Cert.Out0BRefIdeal.nD Cert.Out0BRefIdeal.τ).loc Cert.Out0BRefIdeal.main_arg5)
      ∧ r.2.mem ((c.tc : Thread Cert.Out0BRefIdeal.nD Cert.Out0BRefIdeal.τ).loc Cert.Out0BRefIdeal.main_arg6) = m ((c.tc : Thread Cert.Out0BRefIdeal.nD Cert.Out0BRefIdeal.τ).loc Cert.Out0BRefIdeal.main_arg6)
      ∧ r.2.mem ((c.tc : Thread Cert.Out0BRefIdeal.nD Cert.Out0BRefIdeal.τ).loc Cert.Out0BRefIdeal.main_arg7) = m ((c.tc : Thread Cert.Out0BRefIdeal.nD Cert.Out0BRefIdeal.τ).loc Cert.Out0BRefIdeal.main_arg7))
      ∧ r.2.sem = fun _ => 0)

def quiescent_Out0BRefIdeal_pre_out0b_finite [hOut0BRefIdeal : Cert.Out0BRefIdeal.Facts] [hPre_out0b_finite : Cert.Pre_out0b_finite.Facts] : Prop :=
  ∀ (m : (ℓ : Loc Cert.Out0BRefIdeal.nD Cert.Out0BRefIdeal.τ Cert.Out0BRefIdeal.sig) → Buf (Elt Ideal) ℓ) (g : Dev Cert.Out0BRefIdeal.nD → PrngReg), Pre_Out0BRefIdeal_out0b_finite m →
    θ_run (Cert.Out0BRefIdeal.defs (F := Ideal)) (onTc (τ := Cert.Out0BRefIdeal.τ) (Cert.Out0BRefIdeal.main (F := Ideal))) ⟨m, fun _ => 0, g⟩ (fun r => (∀ c : Dev Cert.Out0BRefIdeal.nD,
      r.2.mem ((c.tc : Thread Cert.Out0BRefIdeal.nD Cert.Out0BRefIdeal.τ).loc Cert.Out0BRefIdeal.main_arg0) = m ((c.tc : Thread Cert.Out0BRefIdeal.nD Cert.Out0BRefIdeal.τ).loc Cert.Out0BRefIdeal.main_arg0)
      ∧ r.2.mem ((c.tc : Thread Cert.Out0BRefIdeal.nD Cert.Out0BRefIdeal.τ).loc Cert.Out0BRefIdeal.main_arg1) = m ((c.tc : Thread Cert.Out0BRefIdeal.nD Cert.Out0BRefIdeal.τ).loc Cert.Out0BRefIdeal.main_arg1)
      ∧ r.2.mem ((c.tc : Thread Cert.Out0BRefIdeal.nD Cert.Out0BRefIdeal.τ).loc Cert.Out0BRefIdeal.main_arg2) = m ((c.tc : Thread Cert.Out0BRefIdeal.nD Cert.Out0BRefIdeal.τ).loc Cert.Out0BRefIdeal.main_arg2)
      ∧ r.2.mem ((c.tc : Thread Cert.Out0BRefIdeal.nD Cert.Out0BRefIdeal.τ).loc Cert.Out0BRefIdeal.main_arg3) = m ((c.tc : Thread Cert.Out0BRefIdeal.nD Cert.Out0BRefIdeal.τ).loc Cert.Out0BRefIdeal.main_arg3)
      ∧ r.2.mem ((c.tc : Thread Cert.Out0BRefIdeal.nD Cert.Out0BRefIdeal.τ).loc Cert.Out0BRefIdeal.main_arg4) = m ((c.tc : Thread Cert.Out0BRefIdeal.nD Cert.Out0BRefIdeal.τ).loc Cert.Out0BRefIdeal.main_arg4)
      ∧ r.2.mem ((c.tc : Thread Cert.Out0BRefIdeal.nD Cert.Out0BRefIdeal.τ).loc Cert.Out0BRefIdeal.main_arg5) = m ((c.tc : Thread Cert.Out0BRefIdeal.nD Cert.Out0BRefIdeal.τ).loc Cert.Out0BRefIdeal.main_arg5)
      ∧ r.2.mem ((c.tc : Thread Cert.Out0BRefIdeal.nD Cert.Out0BRefIdeal.τ).loc Cert.Out0BRefIdeal.main_arg6) = m ((c.tc : Thread Cert.Out0BRefIdeal.nD Cert.Out0BRefIdeal.τ).loc Cert.Out0BRefIdeal.main_arg6)
      ∧ r.2.mem ((c.tc : Thread Cert.Out0BRefIdeal.nD Cert.Out0BRefIdeal.τ).loc Cert.Out0BRefIdeal.main_arg7) = m ((c.tc : Thread Cert.Out0BRefIdeal.nD Cert.Out0BRefIdeal.τ).loc Cert.Out0BRefIdeal.main_arg7))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2)
      ∧ r.2.mem ((c.tc : Thread Cert.Out1.nD Cert.Out1.τ).loc Cert.Out1.main_arg3) = m ((c.tc : Thread Cert.Out1.nD Cert.Out1.τ).loc Cert.Out1.main_arg3)
      ∧ r.2.mem ((c.tc : Thread Cert.Out1.nD Cert.Out1.τ).loc Cert.Out1.main_arg4) = m ((c.tc : Thread Cert.Out1.nD Cert.Out1.τ).loc Cert.Out1.main_arg4)
      ∧ r.2.mem ((c.tc : Thread Cert.Out1.nD Cert.Out1.τ).loc Cert.Out1.main_arg5) = m ((c.tc : Thread Cert.Out1.nD Cert.Out1.τ).loc Cert.Out1.main_arg5)
      ∧ r.2.mem ((c.tc : Thread Cert.Out1.nD Cert.Out1.τ).loc Cert.Out1.main_arg6) = m ((c.tc : Thread Cert.Out1.nD Cert.Out1.τ).loc Cert.Out1.main_arg6)
      ∧ r.2.mem ((c.tc : Thread Cert.Out1.nD Cert.Out1.τ).loc Cert.Out1.main_arg7) = m ((c.tc : Thread Cert.Out1.nD Cert.Out1.τ).loc Cert.Out1.main_arg7)
      ∧ r.2.mem ((c.tc : Thread Cert.Out1.nD Cert.Out1.τ).loc Cert.Out1.main_arg8) = m ((c.tc : Thread Cert.Out1.nD Cert.Out1.τ).loc Cert.Out1.main_arg8)
      ∧ r.2.mem ((c.tc : Thread Cert.Out1.nD Cert.Out1.τ).loc Cert.Out1.main_arg9) = m ((c.tc : Thread Cert.Out1.nD Cert.Out1.τ).loc Cert.Out1.main_arg9))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
      ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
      ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5)
      ∧ r.2.mem ((c.tc : Thread Cert.Out1Ideal.nD Cert.Out1Ideal.τ).loc Cert.Out1Ideal.main_arg6) = m ((c.tc : Thread Cert.Out1Ideal.nD Cert.Out1Ideal.τ).loc Cert.Out1Ideal.main_arg6)
      ∧ r.2.mem ((c.tc : Thread Cert.Out1Ideal.nD Cert.Out1Ideal.τ).loc Cert.Out1Ideal.main_arg7) = m ((c.tc : Thread Cert.Out1Ideal.nD Cert.Out1Ideal.τ).loc Cert.Out1Ideal.main_arg7)
      ∧ r.2.mem ((c.tc : Thread Cert.Out1Ideal.nD Cert.Out1Ideal.τ).loc Cert.Out1Ideal.main_arg8) = m ((c.tc : Thread Cert.Out1Ideal.nD Cert.Out1Ideal.τ).loc Cert.Out1Ideal.main_arg8)
      ∧ r.2.mem ((c.tc : Thread Cert.Out1Ideal.nD Cert.Out1Ideal.τ).loc Cert.Out1Ideal.main_arg9) = m ((c.tc : Thread Cert.Out1Ideal.nD Cert.Out1Ideal.τ).loc Cert.Out1Ideal.main_arg9))
      ∧ r.2.sem = fun _ => 0)

def quiescent_Out1Ideal_pre_out1_finite [hOut1Ideal : Cert.Out1Ideal.Facts] [hPre_out1_finite : Cert.Pre_out1_finite.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal_out1_finite m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
      ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
      ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5)
      ∧ r.2.mem ((c.tc : Thread Cert.Out1Ideal.nD Cert.Out1Ideal.τ).loc Cert.Out1Ideal.main_arg6) = m ((c.tc : Thread Cert.Out1Ideal.nD Cert.Out1Ideal.τ).loc Cert.Out1Ideal.main_arg6)
      ∧ r.2.mem ((c.tc : Thread Cert.Out1Ideal.nD Cert.Out1Ideal.τ).loc Cert.Out1Ideal.main_arg7) = m ((c.tc : Thread Cert.Out1Ideal.nD Cert.Out1Ideal.τ).loc Cert.Out1Ideal.main_arg7)
      ∧ r.2.mem ((c.tc : Thread Cert.Out1Ideal.nD Cert.Out1Ideal.τ).loc Cert.Out1Ideal.main_arg8) = m ((c.tc : Thread Cert.Out1Ideal.nD Cert.Out1Ideal.τ).loc Cert.Out1Ideal.main_arg8)
      ∧ r.2.mem ((c.tc : Thread Cert.Out1Ideal.nD Cert.Out1Ideal.τ).loc Cert.Out1Ideal.main_arg9) = m ((c.tc : Thread Cert.Out1Ideal.nD Cert.Out1Ideal.τ).loc Cert.Out1Ideal.main_arg9))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3)
      ∧ r.2.mem ((c.tc : Thread Cert.Out1RefIdeal.nD Cert.Out1RefIdeal.τ).loc Cert.Out1RefIdeal.main_arg4) = m ((c.tc : Thread Cert.Out1RefIdeal.nD Cert.Out1RefIdeal.τ).loc Cert.Out1RefIdeal.main_arg4)
      ∧ r.2.mem ((c.tc : Thread Cert.Out1RefIdeal.nD Cert.Out1RefIdeal.τ).loc Cert.Out1RefIdeal.main_arg5) = m ((c.tc : Thread Cert.Out1RefIdeal.nD Cert.Out1RefIdeal.τ).loc Cert.Out1RefIdeal.main_arg5)
      ∧ r.2.mem ((c.tc : Thread Cert.Out1RefIdeal.nD Cert.Out1RefIdeal.τ).loc Cert.Out1RefIdeal.main_arg6) = m ((c.tc : Thread Cert.Out1RefIdeal.nD Cert.Out1RefIdeal.τ).loc Cert.Out1RefIdeal.main_arg6)
      ∧ r.2.mem ((c.tc : Thread Cert.Out1RefIdeal.nD Cert.Out1RefIdeal.τ).loc Cert.Out1RefIdeal.main_arg7) = m ((c.tc : Thread Cert.Out1RefIdeal.nD Cert.Out1RefIdeal.τ).loc Cert.Out1RefIdeal.main_arg7)
      ∧ r.2.mem ((c.tc : Thread Cert.Out1RefIdeal.nD Cert.Out1RefIdeal.τ).loc Cert.Out1RefIdeal.main_arg8) = m ((c.tc : Thread Cert.Out1RefIdeal.nD Cert.Out1RefIdeal.τ).loc Cert.Out1RefIdeal.main_arg8)
      ∧ r.2.mem ((c.tc : Thread Cert.Out1RefIdeal.nD Cert.Out1RefIdeal.τ).loc Cert.Out1RefIdeal.main_arg9) = m ((c.tc : Thread Cert.Out1RefIdeal.nD Cert.Out1RefIdeal.τ).loc Cert.Out1RefIdeal.main_arg9))
      ∧ r.2.sem = fun _ => 0)

def quiescent_Out1RefIdeal_pre_out1_finite [hOut1RefIdeal : Cert.Out1RefIdeal.Facts] [hPre_out1_finite : Cert.Pre_out1_finite.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal_out1_finite m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3)
      ∧ r.2.mem ((c.tc : Thread Cert.Out1RefIdeal.nD Cert.Out1RefIdeal.τ).loc Cert.Out1RefIdeal.main_arg4) = m ((c.tc : Thread Cert.Out1RefIdeal.nD Cert.Out1RefIdeal.τ).loc Cert.Out1RefIdeal.main_arg4)
      ∧ r.2.mem ((c.tc : Thread Cert.Out1RefIdeal.nD Cert.Out1RefIdeal.τ).loc Cert.Out1RefIdeal.main_arg5) = m ((c.tc : Thread Cert.Out1RefIdeal.nD Cert.Out1RefIdeal.τ).loc Cert.Out1RefIdeal.main_arg5)
      ∧ r.2.mem ((c.tc : Thread Cert.Out1RefIdeal.nD Cert.Out1RefIdeal.τ).loc Cert.Out1RefIdeal.main_arg6) = m ((c.tc : Thread Cert.Out1RefIdeal.nD Cert.Out1RefIdeal.τ).loc Cert.Out1RefIdeal.main_arg6)
      ∧ r.2.mem ((c.tc : Thread Cert.Out1RefIdeal.nD Cert.Out1RefIdeal.τ).loc Cert.Out1RefIdeal.main_arg7) = m ((c.tc : Thread Cert.Out1RefIdeal.nD Cert.Out1RefIdeal.τ).loc Cert.Out1RefIdeal.main_arg7)
      ∧ r.2.mem ((c.tc : Thread Cert.Out1RefIdeal.nD Cert.Out1RefIdeal.τ).loc Cert.Out1RefIdeal.main_arg8) = m ((c.tc : Thread Cert.Out1RefIdeal.nD Cert.Out1RefIdeal.τ).loc Cert.Out1RefIdeal.main_arg8)
      ∧ r.2.mem ((c.tc : Thread Cert.Out1RefIdeal.nD Cert.Out1RefIdeal.τ).loc Cert.Out1RefIdeal.main_arg9) = m ((c.tc : Thread Cert.Out1RefIdeal.nD Cert.Out1RefIdeal.τ).loc Cert.Out1RefIdeal.main_arg9))
      ∧ r.2.sem = fun _ => 0)

def quiescent_Out0F [hOut0F : Cert.Out0F.Facts] : Prop :=
  ∀ (m : (ℓ : Loc Cert.Out0F.nD Cert.Out0F.τ Cert.Out0F.sig) → Buf (Elt Bits) ℓ) (g : Dev Cert.Out0F.nD → PrngReg), Pre_Out0F m →
    θ_run (Cert.Out0F.defs (F := Bits)) (onTc (τ := Cert.Out0F.τ) (Cert.Out0F.main (F := Bits))) ⟨m, fun _ => 0, g⟩ (fun r => (∀ c : Dev Cert.Out0F.nD,
      r.2.mem ((c.tc : Thread Cert.Out0F.nD Cert.Out0F.τ).loc Cert.Out0F.main_arg0) = m ((c.tc : Thread Cert.Out0F.nD Cert.Out0F.τ).loc Cert.Out0F.main_arg0)
      ∧ r.2.mem ((c.tc : Thread Cert.Out0F.nD Cert.Out0F.τ).loc Cert.Out0F.main_arg1) = m ((c.tc : Thread Cert.Out0F.nD Cert.Out0F.τ).loc Cert.Out0F.main_arg1)
      ∧ r.2.mem ((c.tc : Thread Cert.Out0F.nD Cert.Out0F.τ).loc Cert.Out0F.main_arg2) = m ((c.tc : Thread Cert.Out0F.nD Cert.Out0F.τ).loc Cert.Out0F.main_arg2)
      ∧ r.2.mem ((c.tc : Thread Cert.Out0F.nD Cert.Out0F.τ).loc Cert.Out0F.main_arg3) = m ((c.tc : Thread Cert.Out0F.nD Cert.Out0F.τ).loc Cert.Out0F.main_arg3)
      ∧ r.2.mem ((c.tc : Thread Cert.Out0F.nD Cert.Out0F.τ).loc Cert.Out0F.main_arg4) = m ((c.tc : Thread Cert.Out0F.nD Cert.Out0F.τ).loc Cert.Out0F.main_arg4)
      ∧ r.2.mem ((c.tc : Thread Cert.Out0F.nD Cert.Out0F.τ).loc Cert.Out0F.main_arg5) = m ((c.tc : Thread Cert.Out0F.nD Cert.Out0F.τ).loc Cert.Out0F.main_arg5)
      ∧ r.2.mem ((c.tc : Thread Cert.Out0F.nD Cert.Out0F.τ).loc Cert.Out0F.main_arg6) = m ((c.tc : Thread Cert.Out0F.nD Cert.Out0F.τ).loc Cert.Out0F.main_arg6)
      ∧ r.2.mem ((c.tc : Thread Cert.Out0F.nD Cert.Out0F.τ).loc Cert.Out0F.main_arg7) = m ((c.tc : Thread Cert.Out0F.nD Cert.Out0F.τ).loc Cert.Out0F.main_arg7)
      ∧ r.2.mem ((c.tc : Thread Cert.Out0F.nD Cert.Out0F.τ).loc Cert.Out0F.main_arg8) = m ((c.tc : Thread Cert.Out0F.nD Cert.Out0F.τ).loc Cert.Out0F.main_arg8)
      ∧ r.2.mem ((c.tc : Thread Cert.Out0F.nD Cert.Out0F.τ).loc Cert.Out0F.main_arg9) = m ((c.tc : Thread Cert.Out0F.nD Cert.Out0F.τ).loc Cert.Out0F.main_arg9)
      ∧ r.2.mem ((c.tc : Thread Cert.Out0F.nD Cert.Out0F.τ).loc Cert.Out0F.main_arg10) = m ((c.tc : Thread Cert.Out0F.nD Cert.Out0F.τ).loc Cert.Out0F.main_arg10))
      ∧ r.2.sem = fun _ => 0)

def quiescent_Out0FIdeal [hOut0FIdeal : Cert.Out0FIdeal.Facts] : Prop :=
  ∀ (m : (ℓ : Loc Cert.Out0FIdeal.nD Cert.Out0FIdeal.τ Cert.Out0FIdeal.sig) → Buf (Elt Ideal) ℓ) (g : Dev Cert.Out0FIdeal.nD → PrngReg), Pre_Out0FIdeal m →
    θ_run (Cert.Out0FIdeal.defs (F := Ideal)) (onTc (τ := Cert.Out0FIdeal.τ) (Cert.Out0FIdeal.main (F := Ideal))) ⟨m, fun _ => 0, g⟩ (fun r => (∀ c : Dev Cert.Out0FIdeal.nD,
      r.2.mem ((c.tc : Thread Cert.Out0FIdeal.nD Cert.Out0FIdeal.τ).loc Cert.Out0FIdeal.main_arg0) = m ((c.tc : Thread Cert.Out0FIdeal.nD Cert.Out0FIdeal.τ).loc Cert.Out0FIdeal.main_arg0)
      ∧ r.2.mem ((c.tc : Thread Cert.Out0FIdeal.nD Cert.Out0FIdeal.τ).loc Cert.Out0FIdeal.main_arg1) = m ((c.tc : Thread Cert.Out0FIdeal.nD Cert.Out0FIdeal.τ).loc Cert.Out0FIdeal.main_arg1)
      ∧ r.2.mem ((c.tc : Thread Cert.Out0FIdeal.nD Cert.Out0FIdeal.τ).loc Cert.Out0FIdeal.main_arg2) = m ((c.tc : Thread Cert.Out0FIdeal.nD Cert.Out0FIdeal.τ).loc Cert.Out0FIdeal.main_arg2)
      ∧ r.2.mem ((c.tc : Thread Cert.Out0FIdeal.nD Cert.Out0FIdeal.τ).loc Cert.Out0FIdeal.main_arg3) = m ((c.tc : Thread Cert.Out0FIdeal.nD Cert.Out0FIdeal.τ).loc Cert.Out0FIdeal.main_arg3)
      ∧ r.2.mem ((c.tc : Thread Cert.Out0FIdeal.nD Cert.Out0FIdeal.τ).loc Cert.Out0FIdeal.main_arg4) = m ((c.tc : Thread Cert.Out0FIdeal.nD Cert.Out0FIdeal.τ).loc Cert.Out0FIdeal.main_arg4)
      ∧ r.2.mem ((c.tc : Thread Cert.Out0FIdeal.nD Cert.Out0FIdeal.τ).loc Cert.Out0FIdeal.main_arg5) = m ((c.tc : Thread Cert.Out0FIdeal.nD Cert.Out0FIdeal.τ).loc Cert.Out0FIdeal.main_arg5)
      ∧ r.2.mem ((c.tc : Thread Cert.Out0FIdeal.nD Cert.Out0FIdeal.τ).loc Cert.Out0FIdeal.main_arg6) = m ((c.tc : Thread Cert.Out0FIdeal.nD Cert.Out0FIdeal.τ).loc Cert.Out0FIdeal.main_arg6)
      ∧ r.2.mem ((c.tc : Thread Cert.Out0FIdeal.nD Cert.Out0FIdeal.τ).loc Cert.Out0FIdeal.main_arg7) = m ((c.tc : Thread Cert.Out0FIdeal.nD Cert.Out0FIdeal.τ).loc Cert.Out0FIdeal.main_arg7)
      ∧ r.2.mem ((c.tc : Thread Cert.Out0FIdeal.nD Cert.Out0FIdeal.τ).loc Cert.Out0FIdeal.main_arg8) = m ((c.tc : Thread Cert.Out0FIdeal.nD Cert.Out0FIdeal.τ).loc Cert.Out0FIdeal.main_arg8)
      ∧ r.2.mem ((c.tc : Thread Cert.Out0FIdeal.nD Cert.Out0FIdeal.τ).loc Cert.Out0FIdeal.main_arg9) = m ((c.tc : Thread Cert.Out0FIdeal.nD Cert.Out0FIdeal.τ).loc Cert.Out0FIdeal.main_arg9)
      ∧ r.2.mem ((c.tc : Thread Cert.Out0FIdeal.nD Cert.Out0FIdeal.τ).loc Cert.Out0FIdeal.main_arg10) = m ((c.tc : Thread Cert.Out0FIdeal.nD Cert.Out0FIdeal.τ).loc Cert.Out0FIdeal.main_arg10))
      ∧ r.2.sem = fun _ => 0)

def quiescent_Out0FRefIdeal [hOut0FRefIdeal : Cert.Out0FRefIdeal.Facts] : Prop :=
  ∀ (m : (ℓ : Loc Cert.Out0FRefIdeal.nD Cert.Out0FRefIdeal.τ Cert.Out0FRefIdeal.sig) → Buf (Elt Ideal) ℓ) (g : Dev Cert.Out0FRefIdeal.nD → PrngReg), Pre_Out0FRefIdeal m →
    θ_run (Cert.Out0FRefIdeal.defs (F := Ideal)) (onTc (τ := Cert.Out0FRefIdeal.τ) (Cert.Out0FRefIdeal.main (F := Ideal))) ⟨m, fun _ => 0, g⟩ (fun r => (∀ c : Dev Cert.Out0FRefIdeal.nD,
      r.2.mem ((c.tc : Thread Cert.Out0FRefIdeal.nD Cert.Out0FRefIdeal.τ).loc Cert.Out0FRefIdeal.main_arg0) = m ((c.tc : Thread Cert.Out0FRefIdeal.nD Cert.Out0FRefIdeal.τ).loc Cert.Out0FRefIdeal.main_arg0)
      ∧ r.2.mem ((c.tc : Thread Cert.Out0FRefIdeal.nD Cert.Out0FRefIdeal.τ).loc Cert.Out0FRefIdeal.main_arg1) = m ((c.tc : Thread Cert.Out0FRefIdeal.nD Cert.Out0FRefIdeal.τ).loc Cert.Out0FRefIdeal.main_arg1)
      ∧ r.2.mem ((c.tc : Thread Cert.Out0FRefIdeal.nD Cert.Out0FRefIdeal.τ).loc Cert.Out0FRefIdeal.main_arg2) = m ((c.tc : Thread Cert.Out0FRefIdeal.nD Cert.Out0FRefIdeal.τ).loc Cert.Out0FRefIdeal.main_arg2)
      ∧ r.2.mem ((c.tc : Thread Cert.Out0FRefIdeal.nD Cert.Out0FRefIdeal.τ).loc Cert.Out0FRefIdeal.main_arg3) = m ((c.tc : Thread Cert.Out0FRefIdeal.nD Cert.Out0FRefIdeal.τ).loc Cert.Out0FRefIdeal.main_arg3)
      ∧ r.2.mem ((c.tc : Thread Cert.Out0FRefIdeal.nD Cert.Out0FRefIdeal.τ).loc Cert.Out0FRefIdeal.main_arg4) = m ((c.tc : Thread Cert.Out0FRefIdeal.nD Cert.Out0FRefIdeal.τ).loc Cert.Out0FRefIdeal.main_arg4)
      ∧ r.2.mem ((c.tc : Thread Cert.Out0FRefIdeal.nD Cert.Out0FRefIdeal.τ).loc Cert.Out0FRefIdeal.main_arg5) = m ((c.tc : Thread Cert.Out0FRefIdeal.nD Cert.Out0FRefIdeal.τ).loc Cert.Out0FRefIdeal.main_arg5)
      ∧ r.2.mem ((c.tc : Thread Cert.Out0FRefIdeal.nD Cert.Out0FRefIdeal.τ).loc Cert.Out0FRefIdeal.main_arg6) = m ((c.tc : Thread Cert.Out0FRefIdeal.nD Cert.Out0FRefIdeal.τ).loc Cert.Out0FRefIdeal.main_arg6)
      ∧ r.2.mem ((c.tc : Thread Cert.Out0FRefIdeal.nD Cert.Out0FRefIdeal.τ).loc Cert.Out0FRefIdeal.main_arg7) = m ((c.tc : Thread Cert.Out0FRefIdeal.nD Cert.Out0FRefIdeal.τ).loc Cert.Out0FRefIdeal.main_arg7)
      ∧ r.2.mem ((c.tc : Thread Cert.Out0FRefIdeal.nD Cert.Out0FRefIdeal.τ).loc Cert.Out0FRefIdeal.main_arg8) = m ((c.tc : Thread Cert.Out0FRefIdeal.nD Cert.Out0FRefIdeal.τ).loc Cert.Out0FRefIdeal.main_arg8)
      ∧ r.2.mem ((c.tc : Thread Cert.Out0FRefIdeal.nD Cert.Out0FRefIdeal.τ).loc Cert.Out0FRefIdeal.main_arg9) = m ((c.tc : Thread Cert.Out0FRefIdeal.nD Cert.Out0FRefIdeal.τ).loc Cert.Out0FRefIdeal.main_arg9)
      ∧ r.2.mem ((c.tc : Thread Cert.Out0FRefIdeal.nD Cert.Out0FRefIdeal.τ).loc Cert.Out0FRefIdeal.main_arg10) = m ((c.tc : Thread Cert.Out0FRefIdeal.nD Cert.Out0FRefIdeal.τ).loc Cert.Out0FRefIdeal.main_arg10))
      ∧ r.2.sem = fun _ => 0)

def quiescent_LruCtxB [hLruCtxB : Cert.LruCtxB.Facts] : Prop :=
  ∀ (m : (ℓ : Loc Cert.LruCtxB.nD Cert.LruCtxB.τ Cert.LruCtxB.sig) → Buf (Elt Bits) ℓ) (g : Dev Cert.LruCtxB.nD → PrngReg), Pre_LruCtxB m →
    θ_run (Cert.LruCtxB.defs (F := Bits)) (onTc (τ := Cert.LruCtxB.τ) (Cert.LruCtxB.main (F := Bits))) ⟨m, fun _ => 0, g⟩ (fun r => (∀ c : Dev Cert.LruCtxB.nD,
      r.2.mem ((c.tc : Thread Cert.LruCtxB.nD Cert.LruCtxB.τ).loc Cert.LruCtxB.main_arg0) = m ((c.tc : Thread Cert.LruCtxB.nD Cert.LruCtxB.τ).loc Cert.LruCtxB.main_arg0)
      ∧ r.2.mem ((c.tc : Thread Cert.LruCtxB.nD Cert.LruCtxB.τ).loc Cert.LruCtxB.main_arg1) = m ((c.tc : Thread Cert.LruCtxB.nD Cert.LruCtxB.τ).loc Cert.LruCtxB.main_arg1)
      ∧ r.2.mem ((c.tc : Thread Cert.LruCtxB.nD Cert.LruCtxB.τ).loc Cert.LruCtxB.main_arg2) = m ((c.tc : Thread Cert.LruCtxB.nD Cert.LruCtxB.τ).loc Cert.LruCtxB.main_arg2)
      ∧ r.2.mem ((c.tc : Thread Cert.LruCtxB.nD Cert.LruCtxB.τ).loc Cert.LruCtxB.main_arg3) = m ((c.tc : Thread Cert.LruCtxB.nD Cert.LruCtxB.τ).loc Cert.LruCtxB.main_arg3)
      ∧ r.2.mem ((c.tc : Thread Cert.LruCtxB.nD Cert.LruCtxB.τ).loc Cert.LruCtxB.main_arg4) = m ((c.tc : Thread Cert.LruCtxB.nD Cert.LruCtxB.τ).loc Cert.LruCtxB.main_arg4)
      ∧ r.2.mem ((c.tc : Thread Cert.LruCtxB.nD Cert.LruCtxB.τ).loc Cert.LruCtxB.main_arg5) = m ((c.tc : Thread Cert.LruCtxB.nD Cert.LruCtxB.τ).loc Cert.LruCtxB.main_arg5)
      ∧ r.2.mem ((c.tc : Thread Cert.LruCtxB.nD Cert.LruCtxB.τ).loc Cert.LruCtxB.main_arg6) = m ((c.tc : Thread Cert.LruCtxB.nD Cert.LruCtxB.τ).loc Cert.LruCtxB.main_arg6)
      ∧ r.2.mem ((c.tc : Thread Cert.LruCtxB.nD Cert.LruCtxB.τ).loc Cert.LruCtxB.main_arg7) = m ((c.tc : Thread Cert.LruCtxB.nD Cert.LruCtxB.τ).loc Cert.LruCtxB.main_arg7)
      ∧ r.2.mem ((c.tc : Thread Cert.LruCtxB.nD Cert.LruCtxB.τ).loc Cert.LruCtxB.main_arg8) = m ((c.tc : Thread Cert.LruCtxB.nD Cert.LruCtxB.τ).loc Cert.LruCtxB.main_arg8)
      ∧ r.2.mem ((c.tc : Thread Cert.LruCtxB.nD Cert.LruCtxB.τ).loc Cert.LruCtxB.main_arg9) = m ((c.tc : Thread Cert.LruCtxB.nD Cert.LruCtxB.τ).loc Cert.LruCtxB.main_arg9))
      ∧ r.2.sem = fun _ => 0)

def quiescent_LruCtxBIdeal [hLruCtxBIdeal : Cert.LruCtxBIdeal.Facts] : Prop :=
  ∀ (m : (ℓ : Loc Cert.LruCtxBIdeal.nD Cert.LruCtxBIdeal.τ Cert.LruCtxBIdeal.sig) → Buf (Elt Ideal) ℓ) (g : Dev Cert.LruCtxBIdeal.nD → PrngReg), Pre_LruCtxBIdeal m →
    θ_run (Cert.LruCtxBIdeal.defs (F := Ideal)) (onTc (τ := Cert.LruCtxBIdeal.τ) (Cert.LruCtxBIdeal.main (F := Ideal))) ⟨m, fun _ => 0, g⟩ (fun r => (∀ c : Dev Cert.LruCtxBIdeal.nD,
      r.2.mem ((c.tc : Thread Cert.LruCtxBIdeal.nD Cert.LruCtxBIdeal.τ).loc Cert.LruCtxBIdeal.main_arg0) = m ((c.tc : Thread Cert.LruCtxBIdeal.nD Cert.LruCtxBIdeal.τ).loc Cert.LruCtxBIdeal.main_arg0)
      ∧ r.2.mem ((c.tc : Thread Cert.LruCtxBIdeal.nD Cert.LruCtxBIdeal.τ).loc Cert.LruCtxBIdeal.main_arg1) = m ((c.tc : Thread Cert.LruCtxBIdeal.nD Cert.LruCtxBIdeal.τ).loc Cert.LruCtxBIdeal.main_arg1)
      ∧ r.2.mem ((c.tc : Thread Cert.LruCtxBIdeal.nD Cert.LruCtxBIdeal.τ).loc Cert.LruCtxBIdeal.main_arg2) = m ((c.tc : Thread Cert.LruCtxBIdeal.nD Cert.LruCtxBIdeal.τ).loc Cert.LruCtxBIdeal.main_arg2)
      ∧ r.2.mem ((c.tc : Thread Cert.LruCtxBIdeal.nD Cert.LruCtxBIdeal.τ).loc Cert.LruCtxBIdeal.main_arg3) = m ((c.tc : Thread Cert.LruCtxBIdeal.nD Cert.LruCtxBIdeal.τ).loc Cert.LruCtxBIdeal.main_arg3)
      ∧ r.2.mem ((c.tc : Thread Cert.LruCtxBIdeal.nD Cert.LruCtxBIdeal.τ).loc Cert.LruCtxBIdeal.main_arg4) = m ((c.tc : Thread Cert.LruCtxBIdeal.nD Cert.LruCtxBIdeal.τ).loc Cert.LruCtxBIdeal.main_arg4)
      ∧ r.2.mem ((c.tc : Thread Cert.LruCtxBIdeal.nD Cert.LruCtxBIdeal.τ).loc Cert.LruCtxBIdeal.main_arg5) = m ((c.tc : Thread Cert.LruCtxBIdeal.nD Cert.LruCtxBIdeal.τ).loc Cert.LruCtxBIdeal.main_arg5)
      ∧ r.2.mem ((c.tc : Thread Cert.LruCtxBIdeal.nD Cert.LruCtxBIdeal.τ).loc Cert.LruCtxBIdeal.main_arg6) = m ((c.tc : Thread Cert.LruCtxBIdeal.nD Cert.LruCtxBIdeal.τ).loc Cert.LruCtxBIdeal.main_arg6)
      ∧ r.2.mem ((c.tc : Thread Cert.LruCtxBIdeal.nD Cert.LruCtxBIdeal.τ).loc Cert.LruCtxBIdeal.main_arg7) = m ((c.tc : Thread Cert.LruCtxBIdeal.nD Cert.LruCtxBIdeal.τ).loc Cert.LruCtxBIdeal.main_arg7)
      ∧ r.2.mem ((c.tc : Thread Cert.LruCtxBIdeal.nD Cert.LruCtxBIdeal.τ).loc Cert.LruCtxBIdeal.main_arg8) = m ((c.tc : Thread Cert.LruCtxBIdeal.nD Cert.LruCtxBIdeal.τ).loc Cert.LruCtxBIdeal.main_arg8)
      ∧ r.2.mem ((c.tc : Thread Cert.LruCtxBIdeal.nD Cert.LruCtxBIdeal.τ).loc Cert.LruCtxBIdeal.main_arg9) = m ((c.tc : Thread Cert.LruCtxBIdeal.nD Cert.LruCtxBIdeal.τ).loc Cert.LruCtxBIdeal.main_arg9))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2)
      ∧ r.2.mem ((c.tc : Thread Cert.InF.nD Cert.InF.τ).loc Cert.InF.main_arg3) = m ((c.tc : Thread Cert.InF.nD Cert.InF.τ).loc Cert.InF.main_arg3))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2)
      ∧ r.2.mem ((c.tc : Thread Cert.InFIdeal.nD Cert.InFIdeal.τ).loc Cert.InFIdeal.main_arg3) = m ((c.tc : Thread Cert.InFIdeal.nD Cert.InFIdeal.τ).loc Cert.InFIdeal.main_arg3))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1)
      ∧ r.2.mem ((c.tc : Thread Cert.InFRefIdeal.nD Cert.InFRefIdeal.τ).loc Cert.InFRefIdeal.main_arg2) = m ((c.tc : Thread Cert.InFRefIdeal.nD Cert.InFRefIdeal.τ).loc Cert.InFRefIdeal.main_arg2)
      ∧ r.2.mem ((c.tc : Thread Cert.InFRefIdeal.nD Cert.InFRefIdeal.τ).loc Cert.InFRefIdeal.main_arg3) = m ((c.tc : Thread Cert.InFRefIdeal.nD Cert.InFRefIdeal.τ).loc Cert.InFRefIdeal.main_arg3))
      ∧ r.2.sem = fun _ => 0)

def quiescent_InCtxF [hInCtxF : Cert.InCtxF.Facts] : Prop :=
  ∀ (m : (ℓ : Loc Cert.InCtxF.nD Cert.InCtxF.τ Cert.InCtxF.sig) → Buf (Elt Bits) ℓ) (g : Dev Cert.InCtxF.nD → PrngReg), Pre_InCtxF m →
    θ_run (Cert.InCtxF.defs (F := Bits)) (onTc (τ := Cert.InCtxF.τ) (Cert.InCtxF.main (F := Bits))) ⟨m, fun _ => 0, g⟩ (fun r => (∀ c : Dev Cert.InCtxF.nD,
      r.2.mem ((c.tc : Thread Cert.InCtxF.nD Cert.InCtxF.τ).loc Cert.InCtxF.main_arg0) = m ((c.tc : Thread Cert.InCtxF.nD Cert.InCtxF.τ).loc Cert.InCtxF.main_arg0)
      ∧ r.2.mem ((c.tc : Thread Cert.InCtxF.nD Cert.InCtxF.τ).loc Cert.InCtxF.main_arg1) = m ((c.tc : Thread Cert.InCtxF.nD Cert.InCtxF.τ).loc Cert.InCtxF.main_arg1)
      ∧ r.2.mem ((c.tc : Thread Cert.InCtxF.nD Cert.InCtxF.τ).loc Cert.InCtxF.main_arg2) = m ((c.tc : Thread Cert.InCtxF.nD Cert.InCtxF.τ).loc Cert.InCtxF.main_arg2)
      ∧ r.2.mem ((c.tc : Thread Cert.InCtxF.nD Cert.InCtxF.τ).loc Cert.InCtxF.main_arg3) = m ((c.tc : Thread Cert.InCtxF.nD Cert.InCtxF.τ).loc Cert.InCtxF.main_arg3))
      ∧ r.2.sem = fun _ => 0)

def quiescent_InCtxFIdeal [hInCtxFIdeal : Cert.InCtxFIdeal.Facts] : Prop :=
  ∀ (m : (ℓ : Loc Cert.InCtxFIdeal.nD Cert.InCtxFIdeal.τ Cert.InCtxFIdeal.sig) → Buf (Elt Ideal) ℓ) (g : Dev Cert.InCtxFIdeal.nD → PrngReg), Pre_InCtxFIdeal m →
    θ_run (Cert.InCtxFIdeal.defs (F := Ideal)) (onTc (τ := Cert.InCtxFIdeal.τ) (Cert.InCtxFIdeal.main (F := Ideal))) ⟨m, fun _ => 0, g⟩ (fun r => (∀ c : Dev Cert.InCtxFIdeal.nD,
      r.2.mem ((c.tc : Thread Cert.InCtxFIdeal.nD Cert.InCtxFIdeal.τ).loc Cert.InCtxFIdeal.main_arg0) = m ((c.tc : Thread Cert.InCtxFIdeal.nD Cert.InCtxFIdeal.τ).loc Cert.InCtxFIdeal.main_arg0)
      ∧ r.2.mem ((c.tc : Thread Cert.InCtxFIdeal.nD Cert.InCtxFIdeal.τ).loc Cert.InCtxFIdeal.main_arg1) = m ((c.tc : Thread Cert.InCtxFIdeal.nD Cert.InCtxFIdeal.τ).loc Cert.InCtxFIdeal.main_arg1)
      ∧ r.2.mem ((c.tc : Thread Cert.InCtxFIdeal.nD Cert.InCtxFIdeal.τ).loc Cert.InCtxFIdeal.main_arg2) = m ((c.tc : Thread Cert.InCtxFIdeal.nD Cert.InCtxFIdeal.τ).loc Cert.InCtxFIdeal.main_arg2)
      ∧ r.2.mem ((c.tc : Thread Cert.InCtxFIdeal.nD Cert.InCtxFIdeal.τ).loc Cert.InCtxFIdeal.main_arg3) = m ((c.tc : Thread Cert.InCtxFIdeal.nD Cert.InCtxFIdeal.τ).loc Cert.InCtxFIdeal.main_arg3))
      ∧ r.2.sem = fun _ => 0)

def quiescent_InCtxFRefIdeal [hInCtxFRefIdeal : Cert.InCtxFRefIdeal.Facts] : Prop :=
  ∀ (m : (ℓ : Loc Cert.InCtxFRefIdeal.nD Cert.InCtxFRefIdeal.τ Cert.InCtxFRefIdeal.sig) → Buf (Elt Ideal) ℓ) (g : Dev Cert.InCtxFRefIdeal.nD → PrngReg), Pre_InCtxFRefIdeal m →
    θ_run (Cert.InCtxFRefIdeal.defs (F := Ideal)) (onTc (τ := Cert.InCtxFRefIdeal.τ) (Cert.InCtxFRefIdeal.main (F := Ideal))) ⟨m, fun _ => 0, g⟩ (fun r => (∀ c : Dev Cert.InCtxFRefIdeal.nD,
      r.2.mem ((c.tc : Thread Cert.InCtxFRefIdeal.nD Cert.InCtxFRefIdeal.τ).loc Cert.InCtxFRefIdeal.main_arg0) = m ((c.tc : Thread Cert.InCtxFRefIdeal.nD Cert.InCtxFRefIdeal.τ).loc Cert.InCtxFRefIdeal.main_arg0)
      ∧ r.2.mem ((c.tc : Thread Cert.InCtxFRefIdeal.nD Cert.InCtxFRefIdeal.τ).loc Cert.InCtxFRefIdeal.main_arg1) = m ((c.tc : Thread Cert.InCtxFRefIdeal.nD Cert.InCtxFRefIdeal.τ).loc Cert.InCtxFRefIdeal.main_arg1)
      ∧ r.2.mem ((c.tc : Thread Cert.InCtxFRefIdeal.nD Cert.InCtxFRefIdeal.τ).loc Cert.InCtxFRefIdeal.main_arg2) = m ((c.tc : Thread Cert.InCtxFRefIdeal.nD Cert.InCtxFRefIdeal.τ).loc Cert.InCtxFRefIdeal.main_arg2)
      ∧ r.2.mem ((c.tc : Thread Cert.InCtxFRefIdeal.nD Cert.InCtxFRefIdeal.τ).loc Cert.InCtxFRefIdeal.main_arg3) = m ((c.tc : Thread Cert.InCtxFRefIdeal.nD Cert.InCtxFRefIdeal.τ).loc Cert.InCtxFRefIdeal.main_arg3))
      ∧ r.2.sem = fun _ => 0)

def quiescent_ModF [hModF : Cert.ModF.Facts] : Prop :=
  ∀ (m : (ℓ : Loc Cert.ModF.nD Cert.ModF.τ Cert.ModF.sig) → Buf (Elt Bits) ℓ) (g : Dev Cert.ModF.nD → PrngReg), Pre_ModF m →
    θ_run (Cert.ModF.defs (F := Bits)) (onTc (τ := Cert.ModF.τ) (Cert.ModF.main (F := Bits))) ⟨m, fun _ => 0, g⟩ (fun r => (∀ c : Dev Cert.ModF.nD,
      r.2.mem ((c.tc : Thread Cert.ModF.nD Cert.ModF.τ).loc Cert.ModF.main_arg0) = m ((c.tc : Thread Cert.ModF.nD Cert.ModF.τ).loc Cert.ModF.main_arg0)
      ∧ r.2.mem ((c.tc : Thread Cert.ModF.nD Cert.ModF.τ).loc Cert.ModF.main_arg1) = m ((c.tc : Thread Cert.ModF.nD Cert.ModF.τ).loc Cert.ModF.main_arg1)
      ∧ r.2.mem ((c.tc : Thread Cert.ModF.nD Cert.ModF.τ).loc Cert.ModF.main_arg2) = m ((c.tc : Thread Cert.ModF.nD Cert.ModF.τ).loc Cert.ModF.main_arg2)
      ∧ r.2.mem ((c.tc : Thread Cert.ModF.nD Cert.ModF.τ).loc Cert.ModF.main_arg3) = m ((c.tc : Thread Cert.ModF.nD Cert.ModF.τ).loc Cert.ModF.main_arg3))
      ∧ r.2.sem = fun _ => 0)

def quiescent_ModFIdeal [hModFIdeal : Cert.ModFIdeal.Facts] : Prop :=
  ∀ (m : (ℓ : Loc Cert.ModFIdeal.nD Cert.ModFIdeal.τ Cert.ModFIdeal.sig) → Buf (Elt Ideal) ℓ) (g : Dev Cert.ModFIdeal.nD → PrngReg), Pre_ModFIdeal m →
    θ_run (Cert.ModFIdeal.defs (F := Ideal)) (onTc (τ := Cert.ModFIdeal.τ) (Cert.ModFIdeal.main (F := Ideal))) ⟨m, fun _ => 0, g⟩ (fun r => (∀ c : Dev Cert.ModFIdeal.nD,
      r.2.mem ((c.tc : Thread Cert.ModFIdeal.nD Cert.ModFIdeal.τ).loc Cert.ModFIdeal.main_arg0) = m ((c.tc : Thread Cert.ModFIdeal.nD Cert.ModFIdeal.τ).loc Cert.ModFIdeal.main_arg0)
      ∧ r.2.mem ((c.tc : Thread Cert.ModFIdeal.nD Cert.ModFIdeal.τ).loc Cert.ModFIdeal.main_arg1) = m ((c.tc : Thread Cert.ModFIdeal.nD Cert.ModFIdeal.τ).loc Cert.ModFIdeal.main_arg1)
      ∧ r.2.mem ((c.tc : Thread Cert.ModFIdeal.nD Cert.ModFIdeal.τ).loc Cert.ModFIdeal.main_arg2) = m ((c.tc : Thread Cert.ModFIdeal.nD Cert.ModFIdeal.τ).loc Cert.ModFIdeal.main_arg2)
      ∧ r.2.mem ((c.tc : Thread Cert.ModFIdeal.nD Cert.ModFIdeal.τ).loc Cert.ModFIdeal.main_arg3) = m ((c.tc : Thread Cert.ModFIdeal.nD Cert.ModFIdeal.τ).loc Cert.ModFIdeal.main_arg3))
      ∧ r.2.sem = fun _ => 0)

def quiescent_ModFRefIdeal [hModFRefIdeal : Cert.ModFRefIdeal.Facts] : Prop :=
  ∀ (m : (ℓ : Loc Cert.ModFRefIdeal.nD Cert.ModFRefIdeal.τ Cert.ModFRefIdeal.sig) → Buf (Elt Ideal) ℓ) (g : Dev Cert.ModFRefIdeal.nD → PrngReg), Pre_ModFRefIdeal m →
    θ_run (Cert.ModFRefIdeal.defs (F := Ideal)) (onTc (τ := Cert.ModFRefIdeal.τ) (Cert.ModFRefIdeal.main (F := Ideal))) ⟨m, fun _ => 0, g⟩ (fun r => (∀ c : Dev Cert.ModFRefIdeal.nD,
      r.2.mem ((c.tc : Thread Cert.ModFRefIdeal.nD Cert.ModFRefIdeal.τ).loc Cert.ModFRefIdeal.main_arg0) = m ((c.tc : Thread Cert.ModFRefIdeal.nD Cert.ModFRefIdeal.τ).loc Cert.ModFRefIdeal.main_arg0)
      ∧ r.2.mem ((c.tc : Thread Cert.ModFRefIdeal.nD Cert.ModFRefIdeal.τ).loc Cert.ModFRefIdeal.main_arg1) = m ((c.tc : Thread Cert.ModFRefIdeal.nD Cert.ModFRefIdeal.τ).loc Cert.ModFRefIdeal.main_arg1)
      ∧ r.2.mem ((c.tc : Thread Cert.ModFRefIdeal.nD Cert.ModFRefIdeal.τ).loc Cert.ModFRefIdeal.main_arg2) = m ((c.tc : Thread Cert.ModFRefIdeal.nD Cert.ModFRefIdeal.τ).loc Cert.ModFRefIdeal.main_arg2)
      ∧ r.2.mem ((c.tc : Thread Cert.ModFRefIdeal.nD Cert.ModFRefIdeal.τ).loc Cert.ModFRefIdeal.main_arg3) = m ((c.tc : Thread Cert.ModFRefIdeal.nD Cert.ModFRefIdeal.τ).loc Cert.ModFRefIdeal.main_arg3))
      ∧ r.2.sem = fun _ => 0)

def quiescent_LruF [hLruF : Cert.LruF.Facts] : Prop :=
  ∀ (m : (ℓ : Loc Cert.LruF.nD Cert.LruF.τ Cert.LruF.sig) → Buf (Elt Bits) ℓ) (g : Dev Cert.LruF.nD → PrngReg), Pre_LruF m →
    θ_run (Cert.LruF.defs (F := Bits)) (onTc (τ := Cert.LruF.τ) (Cert.LruF.main (F := Bits))) ⟨m, fun _ => 0, g⟩ (fun r => (∀ c : Dev Cert.LruF.nD,
      r.2.mem ((c.tc : Thread Cert.LruF.nD Cert.LruF.τ).loc Cert.LruF.main_arg0) = m ((c.tc : Thread Cert.LruF.nD Cert.LruF.τ).loc Cert.LruF.main_arg0)
      ∧ r.2.mem ((c.tc : Thread Cert.LruF.nD Cert.LruF.τ).loc Cert.LruF.main_arg1) = m ((c.tc : Thread Cert.LruF.nD Cert.LruF.τ).loc Cert.LruF.main_arg1)
      ∧ r.2.mem ((c.tc : Thread Cert.LruF.nD Cert.LruF.τ).loc Cert.LruF.main_arg2) = m ((c.tc : Thread Cert.LruF.nD Cert.LruF.τ).loc Cert.LruF.main_arg2)
      ∧ r.2.mem ((c.tc : Thread Cert.LruF.nD Cert.LruF.τ).loc Cert.LruF.main_arg3) = m ((c.tc : Thread Cert.LruF.nD Cert.LruF.τ).loc Cert.LruF.main_arg3)
      ∧ r.2.mem ((c.tc : Thread Cert.LruF.nD Cert.LruF.τ).loc Cert.LruF.main_arg4) = m ((c.tc : Thread Cert.LruF.nD Cert.LruF.τ).loc Cert.LruF.main_arg4)
      ∧ r.2.mem ((c.tc : Thread Cert.LruF.nD Cert.LruF.τ).loc Cert.LruF.main_arg5) = m ((c.tc : Thread Cert.LruF.nD Cert.LruF.τ).loc Cert.LruF.main_arg5)
      ∧ r.2.mem ((c.tc : Thread Cert.LruF.nD Cert.LruF.τ).loc Cert.LruF.main_arg6) = m ((c.tc : Thread Cert.LruF.nD Cert.LruF.τ).loc Cert.LruF.main_arg6)
      ∧ r.2.mem ((c.tc : Thread Cert.LruF.nD Cert.LruF.τ).loc Cert.LruF.main_arg7) = m ((c.tc : Thread Cert.LruF.nD Cert.LruF.τ).loc Cert.LruF.main_arg7)
      ∧ r.2.mem ((c.tc : Thread Cert.LruF.nD Cert.LruF.τ).loc Cert.LruF.main_arg8) = m ((c.tc : Thread Cert.LruF.nD Cert.LruF.τ).loc Cert.LruF.main_arg8)
      ∧ r.2.mem ((c.tc : Thread Cert.LruF.nD Cert.LruF.τ).loc Cert.LruF.main_arg9) = m ((c.tc : Thread Cert.LruF.nD Cert.LruF.τ).loc Cert.LruF.main_arg9))
      ∧ r.2.sem = fun _ => 0)

def quiescent_LruFIdeal [hLruFIdeal : Cert.LruFIdeal.Facts] : Prop :=
  ∀ (m : (ℓ : Loc Cert.LruFIdeal.nD Cert.LruFIdeal.τ Cert.LruFIdeal.sig) → Buf (Elt Ideal) ℓ) (g : Dev Cert.LruFIdeal.nD → PrngReg), Pre_LruFIdeal m →
    θ_run (Cert.LruFIdeal.defs (F := Ideal)) (onTc (τ := Cert.LruFIdeal.τ) (Cert.LruFIdeal.main (F := Ideal))) ⟨m, fun _ => 0, g⟩ (fun r => (∀ c : Dev Cert.LruFIdeal.nD,
      r.2.mem ((c.tc : Thread Cert.LruFIdeal.nD Cert.LruFIdeal.τ).loc Cert.LruFIdeal.main_arg0) = m ((c.tc : Thread Cert.LruFIdeal.nD Cert.LruFIdeal.τ).loc Cert.LruFIdeal.main_arg0)
      ∧ r.2.mem ((c.tc : Thread Cert.LruFIdeal.nD Cert.LruFIdeal.τ).loc Cert.LruFIdeal.main_arg1) = m ((c.tc : Thread Cert.LruFIdeal.nD Cert.LruFIdeal.τ).loc Cert.LruFIdeal.main_arg1)
      ∧ r.2.mem ((c.tc : Thread Cert.LruFIdeal.nD Cert.LruFIdeal.τ).loc Cert.LruFIdeal.main_arg2) = m ((c.tc : Thread Cert.LruFIdeal.nD Cert.LruFIdeal.τ).loc Cert.LruFIdeal.main_arg2)
      ∧ r.2.mem ((c.tc : Thread Cert.LruFIdeal.nD Cert.LruFIdeal.τ).loc Cert.LruFIdeal.main_arg3) = m ((c.tc : Thread Cert.LruFIdeal.nD Cert.LruFIdeal.τ).loc Cert.LruFIdeal.main_arg3)
      ∧ r.2.mem ((c.tc : Thread Cert.LruFIdeal.nD Cert.LruFIdeal.τ).loc Cert.LruFIdeal.main_arg4) = m ((c.tc : Thread Cert.LruFIdeal.nD Cert.LruFIdeal.τ).loc Cert.LruFIdeal.main_arg4)
      ∧ r.2.mem ((c.tc : Thread Cert.LruFIdeal.nD Cert.LruFIdeal.τ).loc Cert.LruFIdeal.main_arg5) = m ((c.tc : Thread Cert.LruFIdeal.nD Cert.LruFIdeal.τ).loc Cert.LruFIdeal.main_arg5)
      ∧ r.2.mem ((c.tc : Thread Cert.LruFIdeal.nD Cert.LruFIdeal.τ).loc Cert.LruFIdeal.main_arg6) = m ((c.tc : Thread Cert.LruFIdeal.nD Cert.LruFIdeal.τ).loc Cert.LruFIdeal.main_arg6)
      ∧ r.2.mem ((c.tc : Thread Cert.LruFIdeal.nD Cert.LruFIdeal.τ).loc Cert.LruFIdeal.main_arg7) = m ((c.tc : Thread Cert.LruFIdeal.nD Cert.LruFIdeal.τ).loc Cert.LruFIdeal.main_arg7)
      ∧ r.2.mem ((c.tc : Thread Cert.LruFIdeal.nD Cert.LruFIdeal.τ).loc Cert.LruFIdeal.main_arg8) = m ((c.tc : Thread Cert.LruFIdeal.nD Cert.LruFIdeal.τ).loc Cert.LruFIdeal.main_arg8)
      ∧ r.2.mem ((c.tc : Thread Cert.LruFIdeal.nD Cert.LruFIdeal.τ).loc Cert.LruFIdeal.main_arg9) = m ((c.tc : Thread Cert.LruFIdeal.nD Cert.LruFIdeal.τ).loc Cert.LruFIdeal.main_arg9))
      ∧ r.2.sem = fun _ => 0)

def quiescent_LruB [hLruB : Cert.LruB.Facts] : Prop :=
  ∀ (m : (ℓ : Loc Cert.LruB.nD Cert.LruB.τ Cert.LruB.sig) → Buf (Elt Bits) ℓ) (g : Dev Cert.LruB.nD → PrngReg), Pre_LruB m →
    θ_run (Cert.LruB.defs (F := Bits)) (onTc (τ := Cert.LruB.τ) (Cert.LruB.main (F := Bits))) ⟨m, fun _ => 0, g⟩ (fun r => (∀ c : Dev Cert.LruB.nD,
      r.2.mem ((c.tc : Thread Cert.LruB.nD Cert.LruB.τ).loc Cert.LruB.main_arg0) = m ((c.tc : Thread Cert.LruB.nD Cert.LruB.τ).loc Cert.LruB.main_arg0)
      ∧ r.2.mem ((c.tc : Thread Cert.LruB.nD Cert.LruB.τ).loc Cert.LruB.main_arg1) = m ((c.tc : Thread Cert.LruB.nD Cert.LruB.τ).loc Cert.LruB.main_arg1)
      ∧ r.2.mem ((c.tc : Thread Cert.LruB.nD Cert.LruB.τ).loc Cert.LruB.main_arg2) = m ((c.tc : Thread Cert.LruB.nD Cert.LruB.τ).loc Cert.LruB.main_arg2)
      ∧ r.2.mem ((c.tc : Thread Cert.LruB.nD Cert.LruB.τ).loc Cert.LruB.main_arg3) = m ((c.tc : Thread Cert.LruB.nD Cert.LruB.τ).loc Cert.LruB.main_arg3)
      ∧ r.2.mem ((c.tc : Thread Cert.LruB.nD Cert.LruB.τ).loc Cert.LruB.main_arg4) = m ((c.tc : Thread Cert.LruB.nD Cert.LruB.τ).loc Cert.LruB.main_arg4)
      ∧ r.2.mem ((c.tc : Thread Cert.LruB.nD Cert.LruB.τ).loc Cert.LruB.main_arg5) = m ((c.tc : Thread Cert.LruB.nD Cert.LruB.τ).loc Cert.LruB.main_arg5)
      ∧ r.2.mem ((c.tc : Thread Cert.LruB.nD Cert.LruB.τ).loc Cert.LruB.main_arg6) = m ((c.tc : Thread Cert.LruB.nD Cert.LruB.τ).loc Cert.LruB.main_arg6)
      ∧ r.2.mem ((c.tc : Thread Cert.LruB.nD Cert.LruB.τ).loc Cert.LruB.main_arg7) = m ((c.tc : Thread Cert.LruB.nD Cert.LruB.τ).loc Cert.LruB.main_arg7)
      ∧ r.2.mem ((c.tc : Thread Cert.LruB.nD Cert.LruB.τ).loc Cert.LruB.main_arg8) = m ((c.tc : Thread Cert.LruB.nD Cert.LruB.τ).loc Cert.LruB.main_arg8)
      ∧ r.2.mem ((c.tc : Thread Cert.LruB.nD Cert.LruB.τ).loc Cert.LruB.main_arg9) = m ((c.tc : Thread Cert.LruB.nD Cert.LruB.τ).loc Cert.LruB.main_arg9))
      ∧ r.2.sem = fun _ => 0)

def quiescent_LruBIdeal [hLruBIdeal : Cert.LruBIdeal.Facts] : Prop :=
  ∀ (m : (ℓ : Loc Cert.LruBIdeal.nD Cert.LruBIdeal.τ Cert.LruBIdeal.sig) → Buf (Elt Ideal) ℓ) (g : Dev Cert.LruBIdeal.nD → PrngReg), Pre_LruBIdeal m →
    θ_run (Cert.LruBIdeal.defs (F := Ideal)) (onTc (τ := Cert.LruBIdeal.τ) (Cert.LruBIdeal.main (F := Ideal))) ⟨m, fun _ => 0, g⟩ (fun r => (∀ c : Dev Cert.LruBIdeal.nD,
      r.2.mem ((c.tc : Thread Cert.LruBIdeal.nD Cert.LruBIdeal.τ).loc Cert.LruBIdeal.main_arg0) = m ((c.tc : Thread Cert.LruBIdeal.nD Cert.LruBIdeal.τ).loc Cert.LruBIdeal.main_arg0)
      ∧ r.2.mem ((c.tc : Thread Cert.LruBIdeal.nD Cert.LruBIdeal.τ).loc Cert.LruBIdeal.main_arg1) = m ((c.tc : Thread Cert.LruBIdeal.nD Cert.LruBIdeal.τ).loc Cert.LruBIdeal.main_arg1)
      ∧ r.2.mem ((c.tc : Thread Cert.LruBIdeal.nD Cert.LruBIdeal.τ).loc Cert.LruBIdeal.main_arg2) = m ((c.tc : Thread Cert.LruBIdeal.nD Cert.LruBIdeal.τ).loc Cert.LruBIdeal.main_arg2)
      ∧ r.2.mem ((c.tc : Thread Cert.LruBIdeal.nD Cert.LruBIdeal.τ).loc Cert.LruBIdeal.main_arg3) = m ((c.tc : Thread Cert.LruBIdeal.nD Cert.LruBIdeal.τ).loc Cert.LruBIdeal.main_arg3)
      ∧ r.2.mem ((c.tc : Thread Cert.LruBIdeal.nD Cert.LruBIdeal.τ).loc Cert.LruBIdeal.main_arg4) = m ((c.tc : Thread Cert.LruBIdeal.nD Cert.LruBIdeal.τ).loc Cert.LruBIdeal.main_arg4)
      ∧ r.2.mem ((c.tc : Thread Cert.LruBIdeal.nD Cert.LruBIdeal.τ).loc Cert.LruBIdeal.main_arg5) = m ((c.tc : Thread Cert.LruBIdeal.nD Cert.LruBIdeal.τ).loc Cert.LruBIdeal.main_arg5)
      ∧ r.2.mem ((c.tc : Thread Cert.LruBIdeal.nD Cert.LruBIdeal.τ).loc Cert.LruBIdeal.main_arg6) = m ((c.tc : Thread Cert.LruBIdeal.nD Cert.LruBIdeal.τ).loc Cert.LruBIdeal.main_arg6)
      ∧ r.2.mem ((c.tc : Thread Cert.LruBIdeal.nD Cert.LruBIdeal.τ).loc Cert.LruBIdeal.main_arg7) = m ((c.tc : Thread Cert.LruBIdeal.nD Cert.LruBIdeal.τ).loc Cert.LruBIdeal.main_arg7)
      ∧ r.2.mem ((c.tc : Thread Cert.LruBIdeal.nD Cert.LruBIdeal.τ).loc Cert.LruBIdeal.main_arg8) = m ((c.tc : Thread Cert.LruBIdeal.nD Cert.LruBIdeal.τ).loc Cert.LruBIdeal.main_arg8)
      ∧ r.2.mem ((c.tc : Thread Cert.LruBIdeal.nD Cert.LruBIdeal.τ).loc Cert.LruBIdeal.main_arg9) = m ((c.tc : Thread Cert.LruBIdeal.nD Cert.LruBIdeal.τ).loc Cert.LruBIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_ConvCtx_ConvCtxIdeal : Prop :=
  True

def algebraic_ConvCtxIdeal_ConvCtxRefIdeal [hConvCtxIdeal : Cert.ConvCtxIdeal.Facts] [hConvCtxRefIdeal : Cert.ConvCtxRefIdeal.Facts] : Prop :=
  ∀ (m : (ℓ : Loc Cert.ConvCtxIdeal.nD Cert.ConvCtxIdeal.τ Cert.ConvCtxIdeal.sig) → Buf (Elt Ideal) ℓ) (g : Dev Cert.ConvCtxIdeal.nD → PrngReg)
    (m' : (ℓ : Loc Cert.ConvCtxRefIdeal.nD Cert.ConvCtxRefIdeal.τ Cert.ConvCtxRefIdeal.sig) → Buf (Elt Ideal) ℓ) (g' : Dev Cert.ConvCtxRefIdeal.nD → PrngReg), Pre_ConvCtxIdeal m →
    (∀ c : Dev Cert.ConvCtxIdeal.nD,
      m' ((c.tc : Thread Cert.ConvCtxRefIdeal.nD Cert.ConvCtxRefIdeal.τ).loc Cert.ConvCtxRefIdeal.main_arg0) = m ((c.tc : Thread Cert.ConvCtxIdeal.nD Cert.ConvCtxIdeal.τ).loc Cert.ConvCtxIdeal.main_arg0)
      ∧ m' ((c.tc : Thread Cert.ConvCtxRefIdeal.nD Cert.ConvCtxRefIdeal.τ).loc Cert.ConvCtxRefIdeal.main_arg1) = m ((c.tc : Thread Cert.ConvCtxIdeal.nD Cert.ConvCtxIdeal.τ).loc Cert.ConvCtxIdeal.main_arg1)
      ∧ m' ((c.tc : Thread Cert.ConvCtxRefIdeal.nD Cert.ConvCtxRefIdeal.τ).loc Cert.ConvCtxRefIdeal.main_arg2) = m ((c.tc : Thread Cert.ConvCtxIdeal.nD Cert.ConvCtxIdeal.τ).loc Cert.ConvCtxIdeal.main_arg2)
      ∧ m' ((c.tc : Thread Cert.ConvCtxRefIdeal.nD Cert.ConvCtxRefIdeal.τ).loc Cert.ConvCtxRefIdeal.main_arg3) = m ((c.tc : Thread Cert.ConvCtxIdeal.nD Cert.ConvCtxIdeal.τ).loc Cert.ConvCtxIdeal.main_arg3)) →
    ∃ (v0 : (c : Dev Cert.ConvCtxIdeal.nD) → Buf (Elt Ideal) ((c.tc : Thread Cert.ConvCtxIdeal.nD Cert.ConvCtxIdeal.τ).loc Cert.ConvCtxIdeal.main_v0_0)) (v1 : (c : Dev Cert.ConvCtxIdeal.nD) → Buf (Elt Ideal) ((c.tc : Thread Cert.ConvCtxIdeal.nD Cert.ConvCtxIdeal.τ).loc Cert.ConvCtxIdeal.main_v0_1)),
      θ_run (Cert.ConvCtxIdeal.defs (F := Ideal)) (onTc (τ := Cert.ConvCtxIdeal.τ) (Cert.ConvCtxIdeal.main (F := Ideal))) ⟨m, fun _ => 0, g⟩ (fun r => ∀ c : Dev Cert.ConvCtxIdeal.nD,
          r.2.mem ((c.tc : Thread Cert.ConvCtxIdeal.nD Cert.ConvCtxIdeal.τ).loc Cert.ConvCtxIdeal.main_v0_0) = v0 c
          ∧ r.2.mem ((c.tc : Thread Cert.ConvCtxIdeal.nD Cert.ConvCtxIdeal.τ).loc Cert.ConvCtxIdeal.main_v0_1) = v1 c
          ∧ r.2.mem ((c.tc : Thread Cert.ConvCtxIdeal.nD Cert.ConvCtxIdeal.τ).loc Cert.ConvCtxIdeal.main_arg0) = m ((c.tc : Thread Cert.ConvCtxIdeal.nD Cert.ConvCtxIdeal.τ).loc Cert.ConvCtxIdeal.main_arg0)
          ∧ r.2.mem ((c.tc : Thread Cert.ConvCtxIdeal.nD Cert.ConvCtxIdeal.τ).loc Cert.ConvCtxIdeal.main_arg1) = m ((c.tc : Thread Cert.ConvCtxIdeal.nD Cert.ConvCtxIdeal.τ).loc Cert.ConvCtxIdeal.main_arg1)
          ∧ r.2.mem ((c.tc : Thread Cert.ConvCtxIdeal.nD Cert.ConvCtxIdeal.τ).loc Cert.ConvCtxIdeal.main_arg2) = m ((c.tc : Thread Cert.ConvCtxIdeal.nD Cert.ConvCtxIdeal.τ).loc Cert.ConvCtxIdeal.main_arg2)
          ∧ r.2.mem ((c.tc : Thread Cert.ConvCtxIdeal.nD Cert.ConvCtxIdeal.τ).loc Cert.ConvCtxIdeal.main_arg3) = m ((c.tc : Thread Cert.ConvCtxIdeal.nD Cert.ConvCtxIdeal.τ).loc Cert.ConvCtxIdeal.main_arg3))
      ∧ θ_run (Cert.ConvCtxRefIdeal.defs (F := Ideal)) (onTc (τ := Cert.ConvCtxRefIdeal.τ) (Cert.ConvCtxRefIdeal.main (F := Ideal))) ⟨m', fun _ => 0, g'⟩ (fun r => ∀ c : Dev Cert.ConvCtxRefIdeal.nD,
          r.2.mem ((c.tc : Thread Cert.ConvCtxRefIdeal.nD Cert.ConvCtxRefIdeal.τ).loc Cert.ConvCtxRefIdeal.main_v87) = v0 c
          ∧ r.2.mem ((c.tc : Thread Cert.ConvCtxRefIdeal.nD Cert.ConvCtxRefIdeal.τ).loc Cert.ConvCtxRefIdeal.main_v90) = v1 c
          ∧ r.2.mem ((c.tc : Thread Cert.ConvCtxRefIdeal.nD Cert.ConvCtxRefIdeal.τ).loc Cert.ConvCtxRefIdeal.main_arg0) = m' ((c.tc : Thread Cert.ConvCtxRefIdeal.nD Cert.ConvCtxRefIdeal.τ).loc Cert.ConvCtxRefIdeal.main_arg0)
          ∧ r.2.mem ((c.tc : Thread Cert.ConvCtxRefIdeal.nD Cert.ConvCtxRefIdeal.τ).loc Cert.ConvCtxRefIdeal.main_arg1) = m' ((c.tc : Thread Cert.ConvCtxRefIdeal.nD Cert.ConvCtxRefIdeal.τ).loc Cert.ConvCtxRefIdeal.main_arg1)
          ∧ r.2.mem ((c.tc : Thread Cert.ConvCtxRefIdeal.nD Cert.ConvCtxRefIdeal.τ).loc Cert.ConvCtxRefIdeal.main_arg2) = m' ((c.tc : Thread Cert.ConvCtxRefIdeal.nD Cert.ConvCtxRefIdeal.τ).loc Cert.ConvCtxRefIdeal.main_arg2)
          ∧ r.2.mem ((c.tc : Thread Cert.ConvCtxRefIdeal.nD Cert.ConvCtxRefIdeal.τ).loc Cert.ConvCtxRefIdeal.main_arg3) = m' ((c.tc : Thread Cert.ConvCtxRefIdeal.nD Cert.ConvCtxRefIdeal.τ).loc Cert.ConvCtxRefIdeal.main_arg3))

def preserves_LruCtx_LruCtxIdeal : Prop :=
  True

def preserves_Mod_ModIdeal : Prop :=
  True

def algebraic_ModIdeal_ModRefIdeal_pre_mod_finite [hModIdeal : Cert.ModIdeal.Facts] [hModRefIdeal : Cert.ModRefIdeal.Facts] [hPre_mod_finite : Cert.Pre_mod_finite.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_mod_finite m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)
      ∧ m' ((c.tc : Thread Cert.ModRefIdeal.nD Cert.ModRefIdeal.τ).loc Cert.ModRefIdeal.main_arg4) = m ((c.tc : Thread Cert.ModIdeal.nD Cert.ModIdeal.τ).loc Cert.ModIdeal.main_arg4)) →
    ∃ (v0 : (c : Dev Cert.ModIdeal.nD) → Buf (Elt Ideal) ((c.tc : Thread Cert.ModIdeal.nD Cert.ModIdeal.τ).loc Cert.ModIdeal.main_v8_0)) (v1 : (c : Dev Cert.ModIdeal.nD) → Buf (Elt Ideal) ((c.tc : Thread Cert.ModIdeal.nD Cert.ModIdeal.τ).loc Cert.ModIdeal.main_v8_1)) (v2 : (c : Dev Cert.ModIdeal.nD) → Buf (Elt Ideal) ((c.tc : Thread Cert.ModIdeal.nD Cert.ModIdeal.τ).loc Cert.ModIdeal.main_v8_2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v8_0) = v0 c
          ∧ r.2.mem ((c.tc : Thread Cert.ModIdeal.nD Cert.ModIdeal.τ).loc Cert.ModIdeal.main_v8_1) = v1 c
          ∧ r.2.mem ((c.tc : Thread Cert.ModIdeal.nD Cert.ModIdeal.τ).loc Cert.ModIdeal.main_v8_2) = v2 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
          ∧ r.2.mem ((c.tc : Thread Cert.ModIdeal.nD Cert.ModIdeal.τ).loc Cert.ModIdeal.main_arg4) = m ((c.tc : Thread Cert.ModIdeal.nD Cert.ModIdeal.τ).loc Cert.ModIdeal.main_arg4))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v57) = v0 c
          ∧ r.2.mem ((c.tc : Thread Cert.ModRefIdeal.nD Cert.ModRefIdeal.τ).loc Cert.ModRefIdeal.main_v62) = v1 c
          ∧ r.2.mem ((c.tc : Thread Cert.ModRefIdeal.nD Cert.ModRefIdeal.τ).loc Cert.ModRefIdeal.main_v63) = v2 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3)
          ∧ r.2.mem ((c.tc : Thread Cert.ModRefIdeal.nD Cert.ModRefIdeal.τ).loc Cert.ModRefIdeal.main_arg4) = m' ((c.tc : Thread Cert.ModRefIdeal.nD Cert.ModRefIdeal.τ).loc Cert.ModRefIdeal.main_arg4))

def preserves_InCtx_InCtxIdeal : Prop :=
  True

def algebraic_InCtxIdeal_InCtxRefIdeal [hInCtxIdeal : Cert.InCtxIdeal.Facts] [hInCtxRefIdeal : Cert.InCtxRefIdeal.Facts] : Prop :=
  ∀ (m : (ℓ : Loc Cert.InCtxIdeal.nD Cert.InCtxIdeal.τ Cert.InCtxIdeal.sig) → Buf (Elt Ideal) ℓ) (g : Dev Cert.InCtxIdeal.nD → PrngReg)
    (m' : (ℓ : Loc Cert.InCtxRefIdeal.nD Cert.InCtxRefIdeal.τ Cert.InCtxRefIdeal.sig) → Buf (Elt Ideal) ℓ) (g' : Dev Cert.InCtxRefIdeal.nD → PrngReg), Pre_InCtxIdeal m →
    (∀ c : Dev Cert.InCtxIdeal.nD,
      m' ((c.tc : Thread Cert.InCtxRefIdeal.nD Cert.InCtxRefIdeal.τ).loc Cert.InCtxRefIdeal.main_arg0) = m ((c.tc : Thread Cert.InCtxIdeal.nD Cert.InCtxIdeal.τ).loc Cert.InCtxIdeal.main_arg0)
      ∧ m' ((c.tc : Thread Cert.InCtxRefIdeal.nD Cert.InCtxRefIdeal.τ).loc Cert.InCtxRefIdeal.main_arg1) = m ((c.tc : Thread Cert.InCtxIdeal.nD Cert.InCtxIdeal.τ).loc Cert.InCtxIdeal.main_arg1)
      ∧ m' ((c.tc : Thread Cert.InCtxRefIdeal.nD Cert.InCtxRefIdeal.τ).loc Cert.InCtxRefIdeal.main_arg2) = m ((c.tc : Thread Cert.InCtxIdeal.nD Cert.InCtxIdeal.τ).loc Cert.InCtxIdeal.main_arg2)
      ∧ m' ((c.tc : Thread Cert.InCtxRefIdeal.nD Cert.InCtxRefIdeal.τ).loc Cert.InCtxRefIdeal.main_arg3) = m ((c.tc : Thread Cert.InCtxIdeal.nD Cert.InCtxIdeal.τ).loc Cert.InCtxIdeal.main_arg3)
      ∧ m' ((c.tc : Thread Cert.InCtxRefIdeal.nD Cert.InCtxRefIdeal.τ).loc Cert.InCtxRefIdeal.main_arg4) = m ((c.tc : Thread Cert.InCtxIdeal.nD Cert.InCtxIdeal.τ).loc Cert.InCtxIdeal.main_arg4)) →
    ∃ (v0 : (c : Dev Cert.InCtxIdeal.nD) → Buf (Elt Ideal) ((c.tc : Thread Cert.InCtxIdeal.nD Cert.InCtxIdeal.τ).loc Cert.InCtxIdeal.main_v5_0)) (v1 : (c : Dev Cert.InCtxIdeal.nD) → Buf (Elt Ideal) ((c.tc : Thread Cert.InCtxIdeal.nD Cert.InCtxIdeal.τ).loc Cert.InCtxIdeal.main_v5_1)),
      θ_run (Cert.InCtxIdeal.defs (F := Ideal)) (onTc (τ := Cert.InCtxIdeal.τ) (Cert.InCtxIdeal.main (F := Ideal))) ⟨m, fun _ => 0, g⟩ (fun r => ∀ c : Dev Cert.InCtxIdeal.nD,
          r.2.mem ((c.tc : Thread Cert.InCtxIdeal.nD Cert.InCtxIdeal.τ).loc Cert.InCtxIdeal.main_v5_0) = v0 c
          ∧ r.2.mem ((c.tc : Thread Cert.InCtxIdeal.nD Cert.InCtxIdeal.τ).loc Cert.InCtxIdeal.main_v5_1) = v1 c
          ∧ r.2.mem ((c.tc : Thread Cert.InCtxIdeal.nD Cert.InCtxIdeal.τ).loc Cert.InCtxIdeal.main_arg0) = m ((c.tc : Thread Cert.InCtxIdeal.nD Cert.InCtxIdeal.τ).loc Cert.InCtxIdeal.main_arg0)
          ∧ r.2.mem ((c.tc : Thread Cert.InCtxIdeal.nD Cert.InCtxIdeal.τ).loc Cert.InCtxIdeal.main_arg1) = m ((c.tc : Thread Cert.InCtxIdeal.nD Cert.InCtxIdeal.τ).loc Cert.InCtxIdeal.main_arg1)
          ∧ r.2.mem ((c.tc : Thread Cert.InCtxIdeal.nD Cert.InCtxIdeal.τ).loc Cert.InCtxIdeal.main_arg2) = m ((c.tc : Thread Cert.InCtxIdeal.nD Cert.InCtxIdeal.τ).loc Cert.InCtxIdeal.main_arg2)
          ∧ r.2.mem ((c.tc : Thread Cert.InCtxIdeal.nD Cert.InCtxIdeal.τ).loc Cert.InCtxIdeal.main_arg3) = m ((c.tc : Thread Cert.InCtxIdeal.nD Cert.InCtxIdeal.τ).loc Cert.InCtxIdeal.main_arg3)
          ∧ r.2.mem ((c.tc : Thread Cert.InCtxIdeal.nD Cert.InCtxIdeal.τ).loc Cert.InCtxIdeal.main_arg4) = m ((c.tc : Thread Cert.InCtxIdeal.nD Cert.InCtxIdeal.τ).loc Cert.InCtxIdeal.main_arg4))
      ∧ θ_run (Cert.InCtxRefIdeal.defs (F := Ideal)) (onTc (τ := Cert.InCtxRefIdeal.τ) (Cert.InCtxRefIdeal.main (F := Ideal))) ⟨m', fun _ => 0, g'⟩ (fun r => ∀ c : Dev Cert.InCtxRefIdeal.nD,
          r.2.mem ((c.tc : Thread Cert.InCtxRefIdeal.nD Cert.InCtxRefIdeal.τ).loc Cert.InCtxRefIdeal.main_v21) = v0 c
          ∧ r.2.mem ((c.tc : Thread Cert.InCtxRefIdeal.nD Cert.InCtxRefIdeal.τ).loc Cert.InCtxRefIdeal.main_v25) = v1 c
          ∧ r.2.mem ((c.tc : Thread Cert.InCtxRefIdeal.nD Cert.InCtxRefIdeal.τ).loc Cert.InCtxRefIdeal.main_arg0) = m' ((c.tc : Thread Cert.InCtxRefIdeal.nD Cert.InCtxRefIdeal.τ).loc Cert.InCtxRefIdeal.main_arg0)
          ∧ r.2.mem ((c.tc : Thread Cert.InCtxRefIdeal.nD Cert.InCtxRefIdeal.τ).loc Cert.InCtxRefIdeal.main_arg1) = m' ((c.tc : Thread Cert.InCtxRefIdeal.nD Cert.InCtxRefIdeal.τ).loc Cert.InCtxRefIdeal.main_arg1)
          ∧ r.2.mem ((c.tc : Thread Cert.InCtxRefIdeal.nD Cert.InCtxRefIdeal.τ).loc Cert.InCtxRefIdeal.main_arg2) = m' ((c.tc : Thread Cert.InCtxRefIdeal.nD Cert.InCtxRefIdeal.τ).loc Cert.InCtxRefIdeal.main_arg2)
          ∧ r.2.mem ((c.tc : Thread Cert.InCtxRefIdeal.nD Cert.InCtxRefIdeal.τ).loc Cert.InCtxRefIdeal.main_arg3) = m' ((c.tc : Thread Cert.InCtxRefIdeal.nD Cert.InCtxRefIdeal.τ).loc Cert.InCtxRefIdeal.main_arg3)
          ∧ r.2.mem ((c.tc : Thread Cert.InCtxRefIdeal.nD Cert.InCtxRefIdeal.τ).loc Cert.InCtxRefIdeal.main_arg4) = m' ((c.tc : Thread Cert.InCtxRefIdeal.nD Cert.InCtxRefIdeal.τ).loc Cert.InCtxRefIdeal.main_arg4))

def preserves_In1_In1Ideal : Prop :=
  True

def algebraic_In1Ideal_In1RefIdeal [hIn1Ideal : Cert.In1Ideal.Facts] [hIn1RefIdeal : Cert.In1RefIdeal.Facts] : Prop :=
  ∀ (m : (ℓ : Loc Cert.In1Ideal.nD Cert.In1Ideal.τ Cert.In1Ideal.sig) → Buf (Elt Ideal) ℓ) (g : Dev Cert.In1Ideal.nD → PrngReg)
    (m' : (ℓ : Loc Cert.In1RefIdeal.nD Cert.In1RefIdeal.τ Cert.In1RefIdeal.sig) → Buf (Elt Ideal) ℓ) (g' : Dev Cert.In1RefIdeal.nD → PrngReg), Pre_In1Ideal m →
    (∀ c : Dev Cert.In1Ideal.nD,
      m' ((c.tc : Thread Cert.In1RefIdeal.nD Cert.In1RefIdeal.τ).loc Cert.In1RefIdeal.main_arg0) = m ((c.tc : Thread Cert.In1Ideal.nD Cert.In1Ideal.τ).loc Cert.In1Ideal.main_arg0)
      ∧ m' ((c.tc : Thread Cert.In1RefIdeal.nD Cert.In1RefIdeal.τ).loc Cert.In1RefIdeal.main_arg1) = m ((c.tc : Thread Cert.In1Ideal.nD Cert.In1Ideal.τ).loc Cert.In1Ideal.main_arg1)
      ∧ m' ((c.tc : Thread Cert.In1RefIdeal.nD Cert.In1RefIdeal.τ).loc Cert.In1RefIdeal.main_arg2) = m ((c.tc : Thread Cert.In1Ideal.nD Cert.In1Ideal.τ).loc Cert.In1Ideal.main_arg2)
      ∧ m' ((c.tc : Thread Cert.In1RefIdeal.nD Cert.In1RefIdeal.τ).loc Cert.In1RefIdeal.main_arg3) = m ((c.tc : Thread Cert.In1Ideal.nD Cert.In1Ideal.τ).loc Cert.In1Ideal.main_arg3)
      ∧ m' ((c.tc : Thread Cert.In1RefIdeal.nD Cert.In1RefIdeal.τ).loc Cert.In1RefIdeal.main_arg4) = m ((c.tc : Thread Cert.In1Ideal.nD Cert.In1Ideal.τ).loc Cert.In1Ideal.main_arg4)
      ∧ m' ((c.tc : Thread Cert.In1RefIdeal.nD Cert.In1RefIdeal.τ).loc Cert.In1RefIdeal.main_arg5) = m ((c.tc : Thread Cert.In1Ideal.nD Cert.In1Ideal.τ).loc Cert.In1Ideal.main_arg5)
      ∧ m' ((c.tc : Thread Cert.In1RefIdeal.nD Cert.In1RefIdeal.τ).loc Cert.In1RefIdeal.main_arg6) = m ((c.tc : Thread Cert.In1Ideal.nD Cert.In1Ideal.τ).loc Cert.In1Ideal.main_arg6)) →
    ∃ (v0 : (c : Dev Cert.In1Ideal.nD) → Buf (Elt Ideal) ((c.tc : Thread Cert.In1Ideal.nD Cert.In1Ideal.τ).loc Cert.In1Ideal.main_v5_0)) (v1 : (c : Dev Cert.In1Ideal.nD) → Buf (Elt Ideal) ((c.tc : Thread Cert.In1Ideal.nD Cert.In1Ideal.τ).loc Cert.In1Ideal.main_v5_1)) (v2 : (c : Dev Cert.In1Ideal.nD) → Buf (Elt Ideal) ((c.tc : Thread Cert.In1Ideal.nD Cert.In1Ideal.τ).loc Cert.In1Ideal.main_v5_2)),
      θ_run (Cert.In1Ideal.defs (F := Ideal)) (onTc (τ := Cert.In1Ideal.τ) (Cert.In1Ideal.main (F := Ideal))) ⟨m, fun _ => 0, g⟩ (fun r => ∀ c : Dev Cert.In1Ideal.nD,
          r.2.mem ((c.tc : Thread Cert.In1Ideal.nD Cert.In1Ideal.τ).loc Cert.In1Ideal.main_v5_0) = v0 c
          ∧ r.2.mem ((c.tc : Thread Cert.In1Ideal.nD Cert.In1Ideal.τ).loc Cert.In1Ideal.main_v5_1) = v1 c
          ∧ r.2.mem ((c.tc : Thread Cert.In1Ideal.nD Cert.In1Ideal.τ).loc Cert.In1Ideal.main_v5_2) = v2 c
          ∧ r.2.mem ((c.tc : Thread Cert.In1Ideal.nD Cert.In1Ideal.τ).loc Cert.In1Ideal.main_arg0) = m ((c.tc : Thread Cert.In1Ideal.nD Cert.In1Ideal.τ).loc Cert.In1Ideal.main_arg0)
          ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
          ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
          ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
          ∧ r.2.mem ((c.tc : Thread Cert.In1Ideal.nD Cert.In1Ideal.τ).loc Cert.In1Ideal.main_arg4) = m ((c.tc : Thread Cert.In1Ideal.nD Cert.In1Ideal.τ).loc Cert.In1Ideal.main_arg4)
          ∧ r.2.mem ((c.tc : Thread Cert.In1Ideal.nD Cert.In1Ideal.τ).loc Cert.In1Ideal.main_arg5) = m ((c.tc : Thread Cert.In1Ideal.nD Cert.In1Ideal.τ).loc Cert.In1Ideal.main_arg5)
          ∧ r.2.mem ((c.tc : Thread Cert.In1Ideal.nD Cert.In1Ideal.τ).loc Cert.In1Ideal.main_arg6) = m ((c.tc : Thread Cert.In1Ideal.nD Cert.In1Ideal.τ).loc Cert.In1Ideal.main_arg6))
      ∧ θ_run (Cert.In1RefIdeal.defs (F := Ideal)) (onTc (τ := Cert.In1RefIdeal.τ) (Cert.In1RefIdeal.main (F := Ideal))) ⟨m', fun _ => 0, g'⟩ (fun r => ∀ c : Dev Cert.In1RefIdeal.nD,
          r.2.mem ((c.tc : Thread Cert.In1RefIdeal.nD Cert.In1RefIdeal.τ).loc Cert.In1RefIdeal.main_v29) = v0 c
          ∧ r.2.mem ((c.tc : Thread Cert.In1RefIdeal.nD Cert.In1RefIdeal.τ).loc Cert.In1RefIdeal.main_v32) = v1 c
          ∧ r.2.mem ((c.tc : Thread Cert.In1RefIdeal.nD Cert.In1RefIdeal.τ).loc Cert.In1RefIdeal.main_v36) = v2 c
          ∧ r.2.mem ((c.tc : Thread Cert.In1RefIdeal.nD Cert.In1RefIdeal.τ).loc Cert.In1RefIdeal.main_arg0) = m' ((c.tc : Thread Cert.In1RefIdeal.nD Cert.In1RefIdeal.τ).loc Cert.In1RefIdeal.main_arg0)
          ∧ r.2.mem ((c.tc : Thread Cert.In1RefIdeal.nD Cert.In1RefIdeal.τ).loc Cert.In1RefIdeal.main_arg1) = m' ((c.tc : Thread Cert.In1RefIdeal.nD Cert.In1RefIdeal.τ).loc Cert.In1RefIdeal.main_arg1)
          ∧ r.2.mem ((c.tc : Thread Cert.In1RefIdeal.nD Cert.In1RefIdeal.τ).loc Cert.In1RefIdeal.main_arg2) = m' ((c.tc : Thread Cert.In1RefIdeal.nD Cert.In1RefIdeal.τ).loc Cert.In1RefIdeal.main_arg2)
          ∧ r.2.mem ((c.tc : Thread Cert.In1RefIdeal.nD Cert.In1RefIdeal.τ).loc Cert.In1RefIdeal.main_arg3) = m' ((c.tc : Thread Cert.In1RefIdeal.nD Cert.In1RefIdeal.τ).loc Cert.In1RefIdeal.main_arg3)
          ∧ r.2.mem ((c.tc : Thread Cert.In1RefIdeal.nD Cert.In1RefIdeal.τ).loc Cert.In1RefIdeal.main_arg4) = m' ((c.tc : Thread Cert.In1RefIdeal.nD Cert.In1RefIdeal.τ).loc Cert.In1RefIdeal.main_arg4)
          ∧ r.2.mem ((c.tc : Thread Cert.In1RefIdeal.nD Cert.In1RefIdeal.τ).loc Cert.In1RefIdeal.main_arg5) = m' ((c.tc : Thread Cert.In1RefIdeal.nD Cert.In1RefIdeal.τ).loc Cert.In1RefIdeal.main_arg5)
          ∧ r.2.mem ((c.tc : Thread Cert.In1RefIdeal.nD Cert.In1RefIdeal.τ).loc Cert.In1RefIdeal.main_arg6) = m' ((c.tc : Thread Cert.In1RefIdeal.nD Cert.In1RefIdeal.τ).loc Cert.In1RefIdeal.main_arg6))

def preserves_In0_In0Ideal : Prop :=
  True

def algebraic_In0Ideal_In0RefIdeal [hIn0Ideal : Cert.In0Ideal.Facts] [hIn0RefIdeal : Cert.In0RefIdeal.Facts] : Prop :=
  ∀ (m : (ℓ : Loc Cert.In0Ideal.nD Cert.In0Ideal.τ Cert.In0Ideal.sig) → Buf (Elt Ideal) ℓ) (g : Dev Cert.In0Ideal.nD → PrngReg)
    (m' : (ℓ : Loc Cert.In0RefIdeal.nD Cert.In0RefIdeal.τ Cert.In0RefIdeal.sig) → Buf (Elt Ideal) ℓ) (g' : Dev Cert.In0RefIdeal.nD → PrngReg), Pre_In0Ideal m →
    (∀ c : Dev Cert.In0Ideal.nD,
      m' ((c.tc : Thread Cert.In0RefIdeal.nD Cert.In0RefIdeal.τ).loc Cert.In0RefIdeal.main_arg0) = m ((c.tc : Thread Cert.In0Ideal.nD Cert.In0Ideal.τ).loc Cert.In0Ideal.main_arg0)
      ∧ m' ((c.tc : Thread Cert.In0RefIdeal.nD Cert.In0RefIdeal.τ).loc Cert.In0RefIdeal.main_arg1) = m ((c.tc : Thread Cert.In0Ideal.nD Cert.In0Ideal.τ).loc Cert.In0Ideal.main_arg1)
      ∧ m' ((c.tc : Thread Cert.In0RefIdeal.nD Cert.In0RefIdeal.τ).loc Cert.In0RefIdeal.main_arg2) = m ((c.tc : Thread Cert.In0Ideal.nD Cert.In0Ideal.τ).loc Cert.In0Ideal.main_arg2)
      ∧ m' ((c.tc : Thread Cert.In0RefIdeal.nD Cert.In0RefIdeal.τ).loc Cert.In0RefIdeal.main_arg3) = m ((c.tc : Thread Cert.In0Ideal.nD Cert.In0Ideal.τ).loc Cert.In0Ideal.main_arg3)
      ∧ m' ((c.tc : Thread Cert.In0RefIdeal.nD Cert.In0RefIdeal.τ).loc Cert.In0RefIdeal.main_arg4) = m ((c.tc : Thread Cert.In0Ideal.nD Cert.In0Ideal.τ).loc Cert.In0Ideal.main_arg4)
      ∧ m' ((c.tc : Thread Cert.In0RefIdeal.nD Cert.In0RefIdeal.τ).loc Cert.In0RefIdeal.main_arg5) = m ((c.tc : Thread Cert.In0Ideal.nD Cert.In0Ideal.τ).loc Cert.In0Ideal.main_arg5)
      ∧ m' ((c.tc : Thread Cert.In0RefIdeal.nD Cert.In0RefIdeal.τ).loc Cert.In0RefIdeal.main_arg6) = m ((c.tc : Thread Cert.In0Ideal.nD Cert.In0Ideal.τ).loc Cert.In0Ideal.main_arg6)
      ∧ m' ((c.tc : Thread Cert.In0RefIdeal.nD Cert.In0RefIdeal.τ).loc Cert.In0RefIdeal.main_arg7) = m ((c.tc : Thread Cert.In0Ideal.nD Cert.In0Ideal.τ).loc Cert.In0Ideal.main_arg7)) →
    ∃ (v0 : (c : Dev Cert.In0Ideal.nD) → Buf (Elt Ideal) ((c.tc : Thread Cert.In0Ideal.nD Cert.In0Ideal.τ).loc Cert.In0Ideal.main_v7_0)) (v1 : (c : Dev Cert.In0Ideal.nD) → Buf (Elt Ideal) ((c.tc : Thread Cert.In0Ideal.nD Cert.In0Ideal.τ).loc Cert.In0Ideal.main_v7_1)) (v2 : (c : Dev Cert.In0Ideal.nD) → Buf (Elt Ideal) ((c.tc : Thread Cert.In0Ideal.nD Cert.In0Ideal.τ).loc Cert.In0Ideal.main_v7_2)),
      θ_run (Cert.In0Ideal.defs (F := Ideal)) (onTc (τ := Cert.In0Ideal.τ) (Cert.In0Ideal.main (F := Ideal))) ⟨m, fun _ => 0, g⟩ (fun r => ∀ c : Dev Cert.In0Ideal.nD,
          r.2.mem ((c.tc : Thread Cert.In0Ideal.nD Cert.In0Ideal.τ).loc Cert.In0Ideal.main_v7_0) = v0 c
          ∧ r.2.mem ((c.tc : Thread Cert.In0Ideal.nD Cert.In0Ideal.τ).loc Cert.In0Ideal.main_v7_1) = v1 c
          ∧ r.2.mem ((c.tc : Thread Cert.In0Ideal.nD Cert.In0Ideal.τ).loc Cert.In0Ideal.main_v7_2) = v2 c
          ∧ r.2.mem ((c.tc : Thread Cert.In0Ideal.nD Cert.In0Ideal.τ).loc Cert.In0Ideal.main_arg0) = m ((c.tc : Thread Cert.In0Ideal.nD Cert.In0Ideal.τ).loc Cert.In0Ideal.main_arg0)
          ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
          ∧ r.2.mem ((c.tc : Thread Cert.In0Ideal.nD Cert.In0Ideal.τ).loc Cert.In0Ideal.main_arg2) = m ((c.tc : Thread Cert.In0Ideal.nD Cert.In0Ideal.τ).loc Cert.In0Ideal.main_arg2)
          ∧ r.2.mem ((c.tc : Thread Cert.In0Ideal.nD Cert.In0Ideal.τ).loc Cert.In0Ideal.main_arg3) = m ((c.tc : Thread Cert.In0Ideal.nD Cert.In0Ideal.τ).loc Cert.In0Ideal.main_arg3)
          ∧ r.2.mem ((c.tc : Thread Cert.In0Ideal.nD Cert.In0Ideal.τ).loc Cert.In0Ideal.main_arg4) = m ((c.tc : Thread Cert.In0Ideal.nD Cert.In0Ideal.τ).loc Cert.In0Ideal.main_arg4)
          ∧ r.2.mem ((c.tc : Thread Cert.In0Ideal.nD Cert.In0Ideal.τ).loc Cert.In0Ideal.main_arg5) = m ((c.tc : Thread Cert.In0Ideal.nD Cert.In0Ideal.τ).loc Cert.In0Ideal.main_arg5)
          ∧ r.2.mem ((c.tc : Thread Cert.In0Ideal.nD Cert.In0Ideal.τ).loc Cert.In0Ideal.main_arg6) = m ((c.tc : Thread Cert.In0Ideal.nD Cert.In0Ideal.τ).loc Cert.In0Ideal.main_arg6)
          ∧ r.2.mem ((c.tc : Thread Cert.In0Ideal.nD Cert.In0Ideal.τ).loc Cert.In0Ideal.main_arg7) = m ((c.tc : Thread Cert.In0Ideal.nD Cert.In0Ideal.τ).loc Cert.In0Ideal.main_arg7))
      ∧ θ_run (Cert.In0RefIdeal.defs (F := Ideal)) (onTc (τ := Cert.In0RefIdeal.τ) (Cert.In0RefIdeal.main (F := Ideal))) ⟨m', fun _ => 0, g'⟩ (fun r => ∀ c : Dev Cert.In0RefIdeal.nD,
          r.2.mem ((c.tc : Thread Cert.In0RefIdeal.nD Cert.In0RefIdeal.τ).loc Cert.In0RefIdeal.main_v29) = v0 c
          ∧ r.2.mem ((c.tc : Thread Cert.In0RefIdeal.nD Cert.In0RefIdeal.τ).loc Cert.In0RefIdeal.main_v35) = v1 c
          ∧ r.2.mem ((c.tc : Thread Cert.In0RefIdeal.nD Cert.In0RefIdeal.τ).loc Cert.In0RefIdeal.main_v39) = v2 c
          ∧ r.2.mem ((c.tc : Thread Cert.In0RefIdeal.nD Cert.In0RefIdeal.τ).loc Cert.In0RefIdeal.main_arg0) = m' ((c.tc : Thread Cert.In0RefIdeal.nD Cert.In0RefIdeal.τ).loc Cert.In0RefIdeal.main_arg0)
          ∧ r.2.mem ((c.tc : Thread Cert.In0RefIdeal.nD Cert.In0RefIdeal.τ).loc Cert.In0RefIdeal.main_arg1) = m' ((c.tc : Thread Cert.In0RefIdeal.nD Cert.In0RefIdeal.τ).loc Cert.In0RefIdeal.main_arg1)
          ∧ r.2.mem ((c.tc : Thread Cert.In0RefIdeal.nD Cert.In0RefIdeal.τ).loc Cert.In0RefIdeal.main_arg2) = m' ((c.tc : Thread Cert.In0RefIdeal.nD Cert.In0RefIdeal.τ).loc Cert.In0RefIdeal.main_arg2)
          ∧ r.2.mem ((c.tc : Thread Cert.In0RefIdeal.nD Cert.In0RefIdeal.τ).loc Cert.In0RefIdeal.main_arg3) = m' ((c.tc : Thread Cert.In0RefIdeal.nD Cert.In0RefIdeal.τ).loc Cert.In0RefIdeal.main_arg3)
          ∧ r.2.mem ((c.tc : Thread Cert.In0RefIdeal.nD Cert.In0RefIdeal.τ).loc Cert.In0RefIdeal.main_arg4) = m' ((c.tc : Thread Cert.In0RefIdeal.nD Cert.In0RefIdeal.τ).loc Cert.In0RefIdeal.main_arg4)
          ∧ r.2.mem ((c.tc : Thread Cert.In0RefIdeal.nD Cert.In0RefIdeal.τ).loc Cert.In0RefIdeal.main_arg5) = m' ((c.tc : Thread Cert.In0RefIdeal.nD Cert.In0RefIdeal.τ).loc Cert.In0RefIdeal.main_arg5)
          ∧ r.2.mem ((c.tc : Thread Cert.In0RefIdeal.nD Cert.In0RefIdeal.τ).loc Cert.In0RefIdeal.main_arg6) = m' ((c.tc : Thread Cert.In0RefIdeal.nD Cert.In0RefIdeal.τ).loc Cert.In0RefIdeal.main_arg6)
          ∧ r.2.mem ((c.tc : Thread Cert.In0RefIdeal.nD Cert.In0RefIdeal.τ).loc Cert.In0RefIdeal.main_arg7) = m' ((c.tc : Thread Cert.In0RefIdeal.nD Cert.In0RefIdeal.τ).loc Cert.In0RefIdeal.main_arg7))

def preserves_Out1B_Out1BIdeal : Prop :=
  True

def algebraic_Out1BIdeal_Out1BRefIdeal_pre_out1b_finite [hOut1BIdeal : Cert.Out1BIdeal.Facts] [hOut1BRefIdeal : Cert.Out1BRefIdeal.Facts] [hPre_out1b_finite : Cert.Pre_out1b_finite.Facts] : Prop :=
  ∀ (m : (ℓ : Loc Cert.Out1BIdeal.nD Cert.Out1BIdeal.τ Cert.Out1BIdeal.sig) → Buf (Elt Ideal) ℓ) (g : Dev Cert.Out1BIdeal.nD → PrngReg)
    (m' : (ℓ : Loc Cert.Out1BRefIdeal.nD Cert.Out1BRefIdeal.τ Cert.Out1BRefIdeal.sig) → Buf (Elt Ideal) ℓ) (g' : Dev Cert.Out1BRefIdeal.nD → PrngReg), Pre_Out1BIdeal_out1b_finite m →
    (∀ c : Dev Cert.Out1BIdeal.nD,
      m' ((c.tc : Thread Cert.Out1BRefIdeal.nD Cert.Out1BRefIdeal.τ).loc Cert.Out1BRefIdeal.main_arg0) = m ((c.tc : Thread Cert.Out1BIdeal.nD Cert.Out1BIdeal.τ).loc Cert.Out1BIdeal.main_arg0)
      ∧ m' ((c.tc : Thread Cert.Out1BRefIdeal.nD Cert.Out1BRefIdeal.τ).loc Cert.Out1BRefIdeal.main_arg1) = m ((c.tc : Thread Cert.Out1BIdeal.nD Cert.Out1BIdeal.τ).loc Cert.Out1BIdeal.main_arg1)
      ∧ m' ((c.tc : Thread Cert.Out1BRefIdeal.nD Cert.Out1BRefIdeal.τ).loc Cert.Out1BRefIdeal.main_arg2) = m ((c.tc : Thread Cert.Out1BIdeal.nD Cert.Out1BIdeal.τ).loc Cert.Out1BIdeal.main_arg2)
      ∧ m' ((c.tc : Thread Cert.Out1BRefIdeal.nD Cert.Out1BRefIdeal.τ).loc Cert.Out1BRefIdeal.main_arg3) = m ((c.tc : Thread Cert.Out1BIdeal.nD Cert.Out1BIdeal.τ).loc Cert.Out1BIdeal.main_arg3)
      ∧ m' ((c.tc : Thread Cert.Out1BRefIdeal.nD Cert.Out1BRefIdeal.τ).loc Cert.Out1BRefIdeal.main_arg4) = m ((c.tc : Thread Cert.Out1BIdeal.nD Cert.Out1BIdeal.τ).loc Cert.Out1BIdeal.main_arg4)
      ∧ m' ((c.tc : Thread Cert.Out1BRefIdeal.nD Cert.Out1BRefIdeal.τ).loc Cert.Out1BRefIdeal.main_arg5) = m ((c.tc : Thread Cert.Out1BIdeal.nD Cert.Out1BIdeal.τ).loc Cert.Out1BIdeal.main_arg5)
      ∧ m' ((c.tc : Thread Cert.Out1BRefIdeal.nD Cert.Out1BRefIdeal.τ).loc Cert.Out1BRefIdeal.main_arg6) = m ((c.tc : Thread Cert.Out1BIdeal.nD Cert.Out1BIdeal.τ).loc Cert.Out1BIdeal.main_arg6)) →
    ∃ (v0 : (c : Dev Cert.Out1BIdeal.nD) → Buf (Elt Ideal) ((c.tc : Thread Cert.Out1BIdeal.nD Cert.Out1BIdeal.τ).loc Cert.Out1BIdeal.main_v11_0)) (v1 : (c : Dev Cert.Out1BIdeal.nD) → Buf (Elt Ideal) ((c.tc : Thread Cert.Out1BIdeal.nD Cert.Out1BIdeal.τ).loc Cert.Out1BIdeal.main_v11_1)) (v2 : (c : Dev Cert.Out1BIdeal.nD) → Buf (Elt Ideal) ((c.tc : Thread Cert.Out1BIdeal.nD Cert.Out1BIdeal.τ).loc Cert.Out1BIdeal.main_v11_2)) (v3 : (c : Dev Cert.Out1BIdeal.nD) → Buf (Elt Ideal) ((c.tc : Thread Cert.Out1BIdeal.nD Cert.Out1BIdeal.τ).loc Cert.Out1BIdeal.main_v11_3)) (v4 : (c : Dev Cert.Out1BIdeal.nD) → Buf (Elt Ideal) ((c.tc : Thread Cert.Out1BIdeal.nD Cert.Out1BIdeal.τ).loc Cert.Out1BIdeal.main_v11_4)),
      θ_run (Cert.Out1BIdeal.defs (F := Ideal)) (onTc (τ := Cert.Out1BIdeal.τ) (Cert.Out1BIdeal.main (F := Ideal))) ⟨m, fun _ => 0, g⟩ (fun r => ∀ c : Dev Cert.Out1BIdeal.nD,
          r.2.mem ((c.tc : Thread Cert.Out1BIdeal.nD Cert.Out1BIdeal.τ).loc Cert.Out1BIdeal.main_v11_0) = v0 c
          ∧ r.2.mem ((c.tc : Thread Cert.Out1BIdeal.nD Cert.Out1BIdeal.τ).loc Cert.Out1BIdeal.main_v11_1) = v1 c
          ∧ r.2.mem ((c.tc : Thread Cert.Out1BIdeal.nD Cert.Out1BIdeal.τ).loc Cert.Out1BIdeal.main_v11_2) = v2 c
          ∧ r.2.mem ((c.tc : Thread Cert.Out1BIdeal.nD Cert.Out1BIdeal.τ).loc Cert.Out1BIdeal.main_v11_3) = v3 c
          ∧ r.2.mem ((c.tc : Thread Cert.Out1BIdeal.nD Cert.Out1BIdeal.τ).loc Cert.Out1BIdeal.main_v11_4) = v4 c
          ∧ r.2.mem ((c.tc : Thread Cert.Out1BIdeal.nD Cert.Out1BIdeal.τ).loc Cert.Out1BIdeal.main_arg0) = m ((c.tc : Thread Cert.Out1BIdeal.nD Cert.Out1BIdeal.τ).loc Cert.Out1BIdeal.main_arg0)
          ∧ r.2.mem ((c.tc : Thread Cert.Out1BIdeal.nD Cert.Out1BIdeal.τ).loc Cert.Out1BIdeal.main_arg1) = m ((c.tc : Thread Cert.Out1BIdeal.nD Cert.Out1BIdeal.τ).loc Cert.Out1BIdeal.main_arg1)
          ∧ r.2.mem ((c.tc : Thread Cert.Out1BIdeal.nD Cert.Out1BIdeal.τ).loc Cert.Out1BIdeal.main_arg2) = m ((c.tc : Thread Cert.Out1BIdeal.nD Cert.Out1BIdeal.τ).loc Cert.Out1BIdeal.main_arg2)
          ∧ r.2.mem ((c.tc : Thread Cert.Out1BIdeal.nD Cert.Out1BIdeal.τ).loc Cert.Out1BIdeal.main_arg3) = m ((c.tc : Thread Cert.Out1BIdeal.nD Cert.Out1BIdeal.τ).loc Cert.Out1BIdeal.main_arg3)
          ∧ r.2.mem ((c.tc : Thread Cert.Out1BIdeal.nD Cert.Out1BIdeal.τ).loc Cert.Out1BIdeal.main_arg4) = m ((c.tc : Thread Cert.Out1BIdeal.nD Cert.Out1BIdeal.τ).loc Cert.Out1BIdeal.main_arg4)
          ∧ r.2.mem ((c.tc : Thread Cert.Out1BIdeal.nD Cert.Out1BIdeal.τ).loc Cert.Out1BIdeal.main_arg5) = m ((c.tc : Thread Cert.Out1BIdeal.nD Cert.Out1BIdeal.τ).loc Cert.Out1BIdeal.main_arg5)
          ∧ r.2.mem ((c.tc : Thread Cert.Out1BIdeal.nD Cert.Out1BIdeal.τ).loc Cert.Out1BIdeal.main_arg6) = m ((c.tc : Thread Cert.Out1BIdeal.nD Cert.Out1BIdeal.τ).loc Cert.Out1BIdeal.main_arg6))
      ∧ θ_run (Cert.Out1BRefIdeal.defs (F := Ideal)) (onTc (τ := Cert.Out1BRefIdeal.τ) (Cert.Out1BRefIdeal.main (F := Ideal))) ⟨m', fun _ => 0, g'⟩ (fun r => ∀ c : Dev Cert.Out1BRefIdeal.nD,
          r.2.mem ((c.tc : Thread Cert.Out1BRefIdeal.nD Cert.Out1BRefIdeal.τ).loc Cert.Out1BRefIdeal.main_v33) = v0 c
          ∧ r.2.mem ((c.tc : Thread Cert.Out1BRefIdeal.nD Cert.Out1BRefIdeal.τ).loc Cert.Out1BRefIdeal.main_v34) = v1 c
          ∧ r.2.mem ((c.tc : Thread Cert.Out1BRefIdeal.nD Cert.Out1BRefIdeal.τ).loc Cert.Out1BRefIdeal.main_v16) = v2 c
          ∧ r.2.mem ((c.tc : Thread Cert.Out1BRefIdeal.nD Cert.Out1BRefIdeal.τ).loc Cert.Out1BRefIdeal.main_v32) = v3 c
          ∧ r.2.mem ((c.tc : Thread Cert.Out1BRefIdeal.nD Cert.Out1BRefIdeal.τ).loc Cert.Out1BRefIdeal.main_v37) = v4 c
          ∧ r.2.mem ((c.tc : Thread Cert.Out1BRefIdeal.nD Cert.Out1BRefIdeal.τ).loc Cert.Out1BRefIdeal.main_arg0) = m' ((c.tc : Thread Cert.Out1BRefIdeal.nD Cert.Out1BRefIdeal.τ).loc Cert.Out1BRefIdeal.main_arg0)
          ∧ r.2.mem ((c.tc : Thread Cert.Out1BRefIdeal.nD Cert.Out1BRefIdeal.τ).loc Cert.Out1BRefIdeal.main_arg1) = m' ((c.tc : Thread Cert.Out1BRefIdeal.nD Cert.Out1BRefIdeal.τ).loc Cert.Out1BRefIdeal.main_arg1)
          ∧ r.2.mem ((c.tc : Thread Cert.Out1BRefIdeal.nD Cert.Out1BRefIdeal.τ).loc Cert.Out1BRefIdeal.main_arg2) = m' ((c.tc : Thread Cert.Out1BRefIdeal.nD Cert.Out1BRefIdeal.τ).loc Cert.Out1BRefIdeal.main_arg2)
          ∧ r.2.mem ((c.tc : Thread Cert.Out1BRefIdeal.nD Cert.Out1BRefIdeal.τ).loc Cert.Out1BRefIdeal.main_arg3) = m' ((c.tc : Thread Cert.Out1BRefIdeal.nD Cert.Out1BRefIdeal.τ).loc Cert.Out1BRefIdeal.main_arg3)
          ∧ r.2.mem ((c.tc : Thread Cert.Out1BRefIdeal.nD Cert.Out1BRefIdeal.τ).loc Cert.Out1BRefIdeal.main_arg4) = m' ((c.tc : Thread Cert.Out1BRefIdeal.nD Cert.Out1BRefIdeal.τ).loc Cert.Out1BRefIdeal.main_arg4)
          ∧ r.2.mem ((c.tc : Thread Cert.Out1BRefIdeal.nD Cert.Out1BRefIdeal.τ).loc Cert.Out1BRefIdeal.main_arg5) = m' ((c.tc : Thread Cert.Out1BRefIdeal.nD Cert.Out1BRefIdeal.τ).loc Cert.Out1BRefIdeal.main_arg5)
          ∧ r.2.mem ((c.tc : Thread Cert.Out1BRefIdeal.nD Cert.Out1BRefIdeal.τ).loc Cert.Out1BRefIdeal.main_arg6) = m' ((c.tc : Thread Cert.Out1BRefIdeal.nD Cert.Out1BRefIdeal.τ).loc Cert.Out1BRefIdeal.main_arg6))

def preserves_Out0B_Out0BIdeal : Prop :=
  True

def algebraic_Out0BIdeal_Out0BRefIdeal_pre_out0b_finite [hOut0BIdeal : Cert.Out0BIdeal.Facts] [hOut0BRefIdeal : Cert.Out0BRefIdeal.Facts] [hPre_out0b_finite : Cert.Pre_out0b_finite.Facts] : Prop :=
  ∀ (m : (ℓ : Loc Cert.Out0BIdeal.nD Cert.Out0BIdeal.τ Cert.Out0BIdeal.sig) → Buf (Elt Ideal) ℓ) (g : Dev Cert.Out0BIdeal.nD → PrngReg)
    (m' : (ℓ : Loc Cert.Out0BRefIdeal.nD Cert.Out0BRefIdeal.τ Cert.Out0BRefIdeal.sig) → Buf (Elt Ideal) ℓ) (g' : Dev Cert.Out0BRefIdeal.nD → PrngReg), Pre_Out0BIdeal_out0b_finite m →
    (∀ c : Dev Cert.Out0BIdeal.nD,
      m' ((c.tc : Thread Cert.Out0BRefIdeal.nD Cert.Out0BRefIdeal.τ).loc Cert.Out0BRefIdeal.main_arg0) = m ((c.tc : Thread Cert.Out0BIdeal.nD Cert.Out0BIdeal.τ).loc Cert.Out0BIdeal.main_arg0)
      ∧ m' ((c.tc : Thread Cert.Out0BRefIdeal.nD Cert.Out0BRefIdeal.τ).loc Cert.Out0BRefIdeal.main_arg1) = m ((c.tc : Thread Cert.Out0BIdeal.nD Cert.Out0BIdeal.τ).loc Cert.Out0BIdeal.main_arg1)
      ∧ m' ((c.tc : Thread Cert.Out0BRefIdeal.nD Cert.Out0BRefIdeal.τ).loc Cert.Out0BRefIdeal.main_arg2) = m ((c.tc : Thread Cert.Out0BIdeal.nD Cert.Out0BIdeal.τ).loc Cert.Out0BIdeal.main_arg2)
      ∧ m' ((c.tc : Thread Cert.Out0BRefIdeal.nD Cert.Out0BRefIdeal.τ).loc Cert.Out0BRefIdeal.main_arg3) = m ((c.tc : Thread Cert.Out0BIdeal.nD Cert.Out0BIdeal.τ).loc Cert.Out0BIdeal.main_arg3)
      ∧ m' ((c.tc : Thread Cert.Out0BRefIdeal.nD Cert.Out0BRefIdeal.τ).loc Cert.Out0BRefIdeal.main_arg4) = m ((c.tc : Thread Cert.Out0BIdeal.nD Cert.Out0BIdeal.τ).loc Cert.Out0BIdeal.main_arg4)
      ∧ m' ((c.tc : Thread Cert.Out0BRefIdeal.nD Cert.Out0BRefIdeal.τ).loc Cert.Out0BRefIdeal.main_arg5) = m ((c.tc : Thread Cert.Out0BIdeal.nD Cert.Out0BIdeal.τ).loc Cert.Out0BIdeal.main_arg5)
      ∧ m' ((c.tc : Thread Cert.Out0BRefIdeal.nD Cert.Out0BRefIdeal.τ).loc Cert.Out0BRefIdeal.main_arg6) = m ((c.tc : Thread Cert.Out0BIdeal.nD Cert.Out0BIdeal.τ).loc Cert.Out0BIdeal.main_arg6)
      ∧ m' ((c.tc : Thread Cert.Out0BRefIdeal.nD Cert.Out0BRefIdeal.τ).loc Cert.Out0BRefIdeal.main_arg7) = m ((c.tc : Thread Cert.Out0BIdeal.nD Cert.Out0BIdeal.τ).loc Cert.Out0BIdeal.main_arg7)) →
    ∃ (v0 : (c : Dev Cert.Out0BIdeal.nD) → Buf (Elt Ideal) ((c.tc : Thread Cert.Out0BIdeal.nD Cert.Out0BIdeal.τ).loc Cert.Out0BIdeal.main_v22_0)) (v1 : (c : Dev Cert.Out0BIdeal.nD) → Buf (Elt Ideal) ((c.tc : Thread Cert.Out0BIdeal.nD Cert.Out0BIdeal.τ).loc Cert.Out0BIdeal.main_v22_1)) (v2 : (c : Dev Cert.Out0BIdeal.nD) → Buf (Elt Ideal) ((c.tc : Thread Cert.Out0BIdeal.nD Cert.Out0BIdeal.τ).loc Cert.Out0BIdeal.main_v22_2)) (v3 : (c : Dev Cert.Out0BIdeal.nD) → Buf (Elt Ideal) ((c.tc : Thread Cert.Out0BIdeal.nD Cert.Out0BIdeal.τ).loc Cert.Out0BIdeal.main_v22_3)) (v4 : (c : Dev Cert.Out0BIdeal.nD) → Buf (Elt Ideal) ((c.tc : Thread Cert.Out0BIdeal.nD Cert.Out0BIdeal.τ).loc Cert.Out0BIdeal.main_v22_4)),
      θ_run (Cert.Out0BIdeal.defs (F := Ideal)) (onTc (τ := Cert.Out0BIdeal.τ) (Cert.Out0BIdeal.main (F := Ideal))) ⟨m, fun _ => 0, g⟩ (fun r => ∀ c : Dev Cert.Out0BIdeal.nD,
          r.2.mem ((c.tc : Thread Cert.Out0BIdeal.nD Cert.Out0BIdeal.τ).loc Cert.Out0BIdeal.main_v22_0) = v0 c
          ∧ r.2.mem ((c.tc : Thread Cert.Out0BIdeal.nD Cert.Out0BIdeal.τ).loc Cert.Out0BIdeal.main_v22_1) = v1 c
          ∧ r.2.mem ((c.tc : Thread Cert.Out0BIdeal.nD Cert.Out0BIdeal.τ).loc Cert.Out0BIdeal.main_v22_2) = v2 c
          ∧ r.2.mem ((c.tc : Thread Cert.Out0BIdeal.nD Cert.Out0BIdeal.τ).loc Cert.Out0BIdeal.main_v22_3) = v3 c
          ∧ r.2.mem ((c.tc : Thread Cert.Out0BIdeal.nD Cert.Out0BIdeal.τ).loc Cert.Out0BIdeal.main_v22_4) = v4 c
          ∧ r.2.mem ((c.tc : Thread Cert.Out0BIdeal.nD Cert.Out0BIdeal.τ).loc Cert.Out0BIdeal.main_arg0) = m ((c.tc : Thread Cert.Out0BIdeal.nD Cert.Out0BIdeal.τ).loc Cert.Out0BIdeal.main_arg0)
          ∧ r.2.mem ((c.tc : Thread Cert.Out0BIdeal.nD Cert.Out0BIdeal.τ).loc Cert.Out0BIdeal.main_arg1) = m ((c.tc : Thread Cert.Out0BIdeal.nD Cert.Out0BIdeal.τ).loc Cert.Out0BIdeal.main_arg1)
          ∧ r.2.mem ((c.tc : Thread Cert.Out0BIdeal.nD Cert.Out0BIdeal.τ).loc Cert.Out0BIdeal.main_arg2) = m ((c.tc : Thread Cert.Out0BIdeal.nD Cert.Out0BIdeal.τ).loc Cert.Out0BIdeal.main_arg2)
          ∧ r.2.mem ((c.tc : Thread Cert.Out0BIdeal.nD Cert.Out0BIdeal.τ).loc Cert.Out0BIdeal.main_arg3) = m ((c.tc : Thread Cert.Out0BIdeal.nD Cert.Out0BIdeal.τ).loc Cert.Out0BIdeal.main_arg3)
          ∧ r.2.mem ((c.tc : Thread Cert.Out0BIdeal.nD Cert.Out0BIdeal.τ).loc Cert.Out0BIdeal.main_arg4) = m ((c.tc : Thread Cert.Out0BIdeal.nD Cert.Out0BIdeal.τ).loc Cert.Out0BIdeal.main_arg4)
          ∧ r.2.mem ((c.tc : Thread Cert.Out0BIdeal.nD Cert.Out0BIdeal.τ).loc Cert.Out0BIdeal.main_arg5) = m ((c.tc : Thread Cert.Out0BIdeal.nD Cert.Out0BIdeal.τ).loc Cert.Out0BIdeal.main_arg5)
          ∧ r.2.mem ((c.tc : Thread Cert.Out0BIdeal.nD Cert.Out0BIdeal.τ).loc Cert.Out0BIdeal.main_arg6) = m ((c.tc : Thread Cert.Out0BIdeal.nD Cert.Out0BIdeal.τ).loc Cert.Out0BIdeal.main_arg6)
          ∧ r.2.mem ((c.tc : Thread Cert.Out0BIdeal.nD Cert.Out0BIdeal.τ).loc Cert.Out0BIdeal.main_arg7) = m ((c.tc : Thread Cert.Out0BIdeal.nD Cert.Out0BIdeal.τ).loc Cert.Out0BIdeal.main_arg7))
      ∧ θ_run (Cert.Out0BRefIdeal.defs (F := Ideal)) (onTc (τ := Cert.Out0BRefIdeal.τ) (Cert.Out0BRefIdeal.main (F := Ideal))) ⟨m', fun _ => 0, g'⟩ (fun r => ∀ c : Dev Cert.Out0BRefIdeal.nD,
          r.2.mem ((c.tc : Thread Cert.Out0BRefIdeal.nD Cert.Out0BRefIdeal.τ).loc Cert.Out0BRefIdeal.main_v73) = v0 c
          ∧ r.2.mem ((c.tc : Thread Cert.Out0BRefIdeal.nD Cert.Out0BRefIdeal.τ).loc Cert.Out0BRefIdeal.main_v91) = v1 c
          ∧ r.2.mem ((c.tc : Thread Cert.Out0BRefIdeal.nD Cert.Out0BRefIdeal.τ).loc Cert.Out0BRefIdeal.main_v92) = v2 c
          ∧ r.2.mem ((c.tc : Thread Cert.Out0BRefIdeal.nD Cert.Out0BRefIdeal.τ).loc Cert.Out0BRefIdeal.main_v81) = v3 c
          ∧ r.2.mem ((c.tc : Thread Cert.Out0BRefIdeal.nD Cert.Out0BRefIdeal.τ).loc Cert.Out0BRefIdeal.main_v90) = v4 c
          ∧ r.2.mem ((c.tc : Thread Cert.Out0BRefIdeal.nD Cert.Out0BRefIdeal.τ).loc Cert.Out0BRefIdeal.main_arg0) = m' ((c.tc : Thread Cert.Out0BRefIdeal.nD Cert.Out0BRefIdeal.τ).loc Cert.Out0BRefIdeal.main_arg0)
          ∧ r.2.mem ((c.tc : Thread Cert.Out0BRefIdeal.nD Cert.Out0BRefIdeal.τ).loc Cert.Out0BRefIdeal.main_arg1) = m' ((c.tc : Thread Cert.Out0BRefIdeal.nD Cert.Out0BRefIdeal.τ).loc Cert.Out0BRefIdeal.main_arg1)
          ∧ r.2.mem ((c.tc : Thread Cert.Out0BRefIdeal.nD Cert.Out0BRefIdeal.τ).loc Cert.Out0BRefIdeal.main_arg2) = m' ((c.tc : Thread Cert.Out0BRefIdeal.nD Cert.Out0BRefIdeal.τ).loc Cert.Out0BRefIdeal.main_arg2)
          ∧ r.2.mem ((c.tc : Thread Cert.Out0BRefIdeal.nD Cert.Out0BRefIdeal.τ).loc Cert.Out0BRefIdeal.main_arg3) = m' ((c.tc : Thread Cert.Out0BRefIdeal.nD Cert.Out0BRefIdeal.τ).loc Cert.Out0BRefIdeal.main_arg3)
          ∧ r.2.mem ((c.tc : Thread Cert.Out0BRefIdeal.nD Cert.Out0BRefIdeal.τ).loc Cert.Out0BRefIdeal.main_arg4) = m' ((c.tc : Thread Cert.Out0BRefIdeal.nD Cert.Out0BRefIdeal.τ).loc Cert.Out0BRefIdeal.main_arg4)
          ∧ r.2.mem ((c.tc : Thread Cert.Out0BRefIdeal.nD Cert.Out0BRefIdeal.τ).loc Cert.Out0BRefIdeal.main_arg5) = m' ((c.tc : Thread Cert.Out0BRefIdeal.nD Cert.Out0BRefIdeal.τ).loc Cert.Out0BRefIdeal.main_arg5)
          ∧ r.2.mem ((c.tc : Thread Cert.Out0BRefIdeal.nD Cert.Out0BRefIdeal.τ).loc Cert.Out0BRefIdeal.main_arg6) = m' ((c.tc : Thread Cert.Out0BRefIdeal.nD Cert.Out0BRefIdeal.τ).loc Cert.Out0BRefIdeal.main_arg6)
          ∧ r.2.mem ((c.tc : Thread Cert.Out0BRefIdeal.nD Cert.Out0BRefIdeal.τ).loc Cert.Out0BRefIdeal.main_arg7) = m' ((c.tc : Thread Cert.Out0BRefIdeal.nD Cert.Out0BRefIdeal.τ).loc Cert.Out0BRefIdeal.main_arg7))

def preserves_Out1_Out1Ideal : Prop :=
  True

def algebraic_Out1Ideal_Out1RefIdeal_pre_out1_finite [hOut1Ideal : Cert.Out1Ideal.Facts] [hOut1RefIdeal : Cert.Out1RefIdeal.Facts] [hPre_out1_finite : Cert.Pre_out1_finite.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal_out1_finite m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)
      ∧ m' ((c.tc : Thread Cert.Out1RefIdeal.nD Cert.Out1RefIdeal.τ).loc Cert.Out1RefIdeal.main_arg2) = m ((c.tc : Thread Cert.Out1Ideal.nD Cert.Out1Ideal.τ).loc Cert.Out1Ideal.main_arg2)
      ∧ m' ((c.tc : Thread Cert.Out1RefIdeal.nD Cert.Out1RefIdeal.τ).loc Cert.Out1RefIdeal.main_arg3) = m ((c.tc : Thread Cert.Out1Ideal.nD Cert.Out1Ideal.τ).loc Cert.Out1Ideal.main_arg3)
      ∧ m' ((c.tc : Thread Cert.Out1RefIdeal.nD Cert.Out1RefIdeal.τ).loc Cert.Out1RefIdeal.main_arg4) = m ((c.tc : Thread Cert.Out1Ideal.nD Cert.Out1Ideal.τ).loc Cert.Out1Ideal.main_arg4)
      ∧ m' ((c.tc : Thread Cert.Out1RefIdeal.nD Cert.Out1RefIdeal.τ).loc Cert.Out1RefIdeal.main_arg5) = m ((c.tc : Thread Cert.Out1Ideal.nD Cert.Out1Ideal.τ).loc Cert.Out1Ideal.main_arg5)
      ∧ m' ((c.tc : Thread Cert.Out1RefIdeal.nD Cert.Out1RefIdeal.τ).loc Cert.Out1RefIdeal.main_arg6) = m ((c.tc : Thread Cert.Out1Ideal.nD Cert.Out1Ideal.τ).loc Cert.Out1Ideal.main_arg6)
      ∧ m' ((c.tc : Thread Cert.Out1RefIdeal.nD Cert.Out1RefIdeal.τ).loc Cert.Out1RefIdeal.main_arg7) = m ((c.tc : Thread Cert.Out1Ideal.nD Cert.Out1Ideal.τ).loc Cert.Out1Ideal.main_arg7)
      ∧ m' ((c.tc : Thread Cert.Out1RefIdeal.nD Cert.Out1RefIdeal.τ).loc Cert.Out1RefIdeal.main_arg8) = m ((c.tc : Thread Cert.Out1Ideal.nD Cert.Out1Ideal.τ).loc Cert.Out1Ideal.main_arg8)
      ∧ m' ((c.tc : Thread Cert.Out1RefIdeal.nD Cert.Out1RefIdeal.τ).loc Cert.Out1RefIdeal.main_arg9) = m ((c.tc : Thread Cert.Out1Ideal.nD Cert.Out1Ideal.τ).loc Cert.Out1Ideal.main_arg9)) →
    ∃ (v0 : (c : Dev Cert.Out1Ideal.nD) → Buf (Elt Ideal) ((c.tc : Thread Cert.Out1Ideal.nD Cert.Out1Ideal.τ).loc Cert.Out1Ideal.main_v8_0)) (v1 : (c : Dev Cert.Out1Ideal.nD) → Buf (Elt Ideal) ((c.tc : Thread Cert.Out1Ideal.nD Cert.Out1Ideal.τ).loc Cert.Out1Ideal.main_v8_1)) (v2 : (c : Dev Cert.Out1Ideal.nD) → Buf (Elt Ideal) ((c.tc : Thread Cert.Out1Ideal.nD Cert.Out1Ideal.τ).loc Cert.Out1Ideal.main_v8_2)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v8_0) = v0 c
          ∧ r.2.mem ((c.tc : Thread Cert.Out1Ideal.nD Cert.Out1Ideal.τ).loc Cert.Out1Ideal.main_v8_1) = v1 c
          ∧ r.2.mem ((c.tc : Thread Cert.Out1Ideal.nD Cert.Out1Ideal.τ).loc Cert.Out1Ideal.main_v8_2) = v2 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
          ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
          ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
          ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5)
          ∧ r.2.mem ((c.tc : Thread Cert.Out1Ideal.nD Cert.Out1Ideal.τ).loc Cert.Out1Ideal.main_arg6) = m ((c.tc : Thread Cert.Out1Ideal.nD Cert.Out1Ideal.τ).loc Cert.Out1Ideal.main_arg6)
          ∧ r.2.mem ((c.tc : Thread Cert.Out1Ideal.nD Cert.Out1Ideal.τ).loc Cert.Out1Ideal.main_arg7) = m ((c.tc : Thread Cert.Out1Ideal.nD Cert.Out1Ideal.τ).loc Cert.Out1Ideal.main_arg7)
          ∧ r.2.mem ((c.tc : Thread Cert.Out1Ideal.nD Cert.Out1Ideal.τ).loc Cert.Out1Ideal.main_arg8) = m ((c.tc : Thread Cert.Out1Ideal.nD Cert.Out1Ideal.τ).loc Cert.Out1Ideal.main_arg8)
          ∧ r.2.mem ((c.tc : Thread Cert.Out1Ideal.nD Cert.Out1Ideal.τ).loc Cert.Out1Ideal.main_arg9) = m ((c.tc : Thread Cert.Out1Ideal.nD Cert.Out1Ideal.τ).loc Cert.Out1Ideal.main_arg9))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v93) = v0 c
          ∧ r.2.mem ((c.tc : Thread Cert.Out1RefIdeal.nD Cert.Out1RefIdeal.τ).loc Cert.Out1RefIdeal.main_v139) = v1 c
          ∧ r.2.mem ((c.tc : Thread Cert.Out1RefIdeal.nD Cert.Out1RefIdeal.τ).loc Cert.Out1RefIdeal.main_v140) = v2 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1)
          ∧ r.2.mem ((c.tc : Thread Cert.Out1RefIdeal.nD Cert.Out1RefIdeal.τ).loc Cert.Out1RefIdeal.main_arg2) = m' ((c.tc : Thread Cert.Out1RefIdeal.nD Cert.Out1RefIdeal.τ).loc Cert.Out1RefIdeal.main_arg2)
          ∧ r.2.mem ((c.tc : Thread Cert.Out1RefIdeal.nD Cert.Out1RefIdeal.τ).loc Cert.Out1RefIdeal.main_arg3) = m' ((c.tc : Thread Cert.Out1RefIdeal.nD Cert.Out1RefIdeal.τ).loc Cert.Out1RefIdeal.main_arg3)
          ∧ r.2.mem ((c.tc : Thread Cert.Out1RefIdeal.nD Cert.Out1RefIdeal.τ).loc Cert.Out1RefIdeal.main_arg4) = m' ((c.tc : Thread Cert.Out1RefIdeal.nD Cert.Out1RefIdeal.τ).loc Cert.Out1RefIdeal.main_arg4)
          ∧ r.2.mem ((c.tc : Thread Cert.Out1RefIdeal.nD Cert.Out1RefIdeal.τ).loc Cert.Out1RefIdeal.main_arg5) = m' ((c.tc : Thread Cert.Out1RefIdeal.nD Cert.Out1RefIdeal.τ).loc Cert.Out1RefIdeal.main_arg5)
          ∧ r.2.mem ((c.tc : Thread Cert.Out1RefIdeal.nD Cert.Out1RefIdeal.τ).loc Cert.Out1RefIdeal.main_arg6) = m' ((c.tc : Thread Cert.Out1RefIdeal.nD Cert.Out1RefIdeal.τ).loc Cert.Out1RefIdeal.main_arg6)
          ∧ r.2.mem ((c.tc : Thread Cert.Out1RefIdeal.nD Cert.Out1RefIdeal.τ).loc Cert.Out1RefIdeal.main_arg7) = m' ((c.tc : Thread Cert.Out1RefIdeal.nD Cert.Out1RefIdeal.τ).loc Cert.Out1RefIdeal.main_arg7)
          ∧ r.2.mem ((c.tc : Thread Cert.Out1RefIdeal.nD Cert.Out1RefIdeal.τ).loc Cert.Out1RefIdeal.main_arg8) = m' ((c.tc : Thread Cert.Out1RefIdeal.nD Cert.Out1RefIdeal.τ).loc Cert.Out1RefIdeal.main_arg8)
          ∧ r.2.mem ((c.tc : Thread Cert.Out1RefIdeal.nD Cert.Out1RefIdeal.τ).loc Cert.Out1RefIdeal.main_arg9) = m' ((c.tc : Thread Cert.Out1RefIdeal.nD Cert.Out1RefIdeal.τ).loc Cert.Out1RefIdeal.main_arg9))

def preserves_Out0F_Out0FIdeal : Prop :=
  True

def algebraic_Out0FIdeal_Out0FRefIdeal [hOut0FIdeal : Cert.Out0FIdeal.Facts] [hOut0FRefIdeal : Cert.Out0FRefIdeal.Facts] : Prop :=
  ∀ (m : (ℓ : Loc Cert.Out0FIdeal.nD Cert.Out0FIdeal.τ Cert.Out0FIdeal.sig) → Buf (Elt Ideal) ℓ) (g : Dev Cert.Out0FIdeal.nD → PrngReg)
    (m' : (ℓ : Loc Cert.Out0FRefIdeal.nD Cert.Out0FRefIdeal.τ Cert.Out0FRefIdeal.sig) → Buf (Elt Ideal) ℓ) (g' : Dev Cert.Out0FRefIdeal.nD → PrngReg), Pre_Out0FIdeal m →
    (∀ c : Dev Cert.Out0FIdeal.nD,
      m' ((c.tc : Thread Cert.Out0FRefIdeal.nD Cert.Out0FRefIdeal.τ).loc Cert.Out0FRefIdeal.main_arg0) = m ((c.tc : Thread Cert.Out0FIdeal.nD Cert.Out0FIdeal.τ).loc Cert.Out0FIdeal.main_arg0)
      ∧ m' ((c.tc : Thread Cert.Out0FRefIdeal.nD Cert.Out0FRefIdeal.τ).loc Cert.Out0FRefIdeal.main_arg1) = m ((c.tc : Thread Cert.Out0FIdeal.nD Cert.Out0FIdeal.τ).loc Cert.Out0FIdeal.main_arg1)
      ∧ m' ((c.tc : Thread Cert.Out0FRefIdeal.nD Cert.Out0FRefIdeal.τ).loc Cert.Out0FRefIdeal.main_arg2) = m ((c.tc : Thread Cert.Out0FIdeal.nD Cert.Out0FIdeal.τ).loc Cert.Out0FIdeal.main_arg2)
      ∧ m' ((c.tc : Thread Cert.Out0FRefIdeal.nD Cert.Out0FRefIdeal.τ).loc Cert.Out0FRefIdeal.main_arg3) = m ((c.tc : Thread Cert.Out0FIdeal.nD Cert.Out0FIdeal.τ).loc Cert.Out0FIdeal.main_arg3)
      ∧ m' ((c.tc : Thread Cert.Out0FRefIdeal.nD Cert.Out0FRefIdeal.τ).loc Cert.Out0FRefIdeal.main_arg4) = m ((c.tc : Thread Cert.Out0FIdeal.nD Cert.Out0FIdeal.τ).loc Cert.Out0FIdeal.main_arg4)
      ∧ m' ((c.tc : Thread Cert.Out0FRefIdeal.nD Cert.Out0FRefIdeal.τ).loc Cert.Out0FRefIdeal.main_arg5) = m ((c.tc : Thread Cert.Out0FIdeal.nD Cert.Out0FIdeal.τ).loc Cert.Out0FIdeal.main_arg5)
      ∧ m' ((c.tc : Thread Cert.Out0FRefIdeal.nD Cert.Out0FRefIdeal.τ).loc Cert.Out0FRefIdeal.main_arg6) = m ((c.tc : Thread Cert.Out0FIdeal.nD Cert.Out0FIdeal.τ).loc Cert.Out0FIdeal.main_arg6)
      ∧ m' ((c.tc : Thread Cert.Out0FRefIdeal.nD Cert.Out0FRefIdeal.τ).loc Cert.Out0FRefIdeal.main_arg7) = m ((c.tc : Thread Cert.Out0FIdeal.nD Cert.Out0FIdeal.τ).loc Cert.Out0FIdeal.main_arg7)
      ∧ m' ((c.tc : Thread Cert.Out0FRefIdeal.nD Cert.Out0FRefIdeal.τ).loc Cert.Out0FRefIdeal.main_arg8) = m ((c.tc : Thread Cert.Out0FIdeal.nD Cert.Out0FIdeal.τ).loc Cert.Out0FIdeal.main_arg8)
      ∧ m' ((c.tc : Thread Cert.Out0FRefIdeal.nD Cert.Out0FRefIdeal.τ).loc Cert.Out0FRefIdeal.main_arg9) = m ((c.tc : Thread Cert.Out0FIdeal.nD Cert.Out0FIdeal.τ).loc Cert.Out0FIdeal.main_arg9)
      ∧ m' ((c.tc : Thread Cert.Out0FRefIdeal.nD Cert.Out0FRefIdeal.τ).loc Cert.Out0FRefIdeal.main_arg10) = m ((c.tc : Thread Cert.Out0FIdeal.nD Cert.Out0FIdeal.τ).loc Cert.Out0FIdeal.main_arg10)) →
    ∃ (v0 : (c : Dev Cert.Out0FIdeal.nD) → Buf (Elt Ideal) ((c.tc : Thread Cert.Out0FIdeal.nD Cert.Out0FIdeal.τ).loc Cert.Out0FIdeal.main_v12_0)) (v1 : (c : Dev Cert.Out0FIdeal.nD) → Buf (Elt Ideal) ((c.tc : Thread Cert.Out0FIdeal.nD Cert.Out0FIdeal.τ).loc Cert.Out0FIdeal.main_v12_1)) (v2 : (c : Dev Cert.Out0FIdeal.nD) → Buf (Elt Ideal) ((c.tc : Thread Cert.Out0FIdeal.nD Cert.Out0FIdeal.τ).loc Cert.Out0FIdeal.main_v12_2)) (v3 : (c : Dev Cert.Out0FIdeal.nD) → Buf (Elt Ideal) ((c.tc : Thread Cert.Out0FIdeal.nD Cert.Out0FIdeal.τ).loc Cert.Out0FIdeal.main_v12_3)),
      θ_run (Cert.Out0FIdeal.defs (F := Ideal)) (onTc (τ := Cert.Out0FIdeal.τ) (Cert.Out0FIdeal.main (F := Ideal))) ⟨m, fun _ => 0, g⟩ (fun r => ∀ c : Dev Cert.Out0FIdeal.nD,
          r.2.mem ((c.tc : Thread Cert.Out0FIdeal.nD Cert.Out0FIdeal.τ).loc Cert.Out0FIdeal.main_v12_0) = v0 c
          ∧ r.2.mem ((c.tc : Thread Cert.Out0FIdeal.nD Cert.Out0FIdeal.τ).loc Cert.Out0FIdeal.main_v12_1) = v1 c
          ∧ r.2.mem ((c.tc : Thread Cert.Out0FIdeal.nD Cert.Out0FIdeal.τ).loc Cert.Out0FIdeal.main_v12_2) = v2 c
          ∧ r.2.mem ((c.tc : Thread Cert.Out0FIdeal.nD Cert.Out0FIdeal.τ).loc Cert.Out0FIdeal.main_v12_3) = v3 c
          ∧ r.2.mem ((c.tc : Thread Cert.Out0FIdeal.nD Cert.Out0FIdeal.τ).loc Cert.Out0FIdeal.main_arg0) = m ((c.tc : Thread Cert.Out0FIdeal.nD Cert.Out0FIdeal.τ).loc Cert.Out0FIdeal.main_arg0)
          ∧ r.2.mem ((c.tc : Thread Cert.Out0FIdeal.nD Cert.Out0FIdeal.τ).loc Cert.Out0FIdeal.main_arg1) = m ((c.tc : Thread Cert.Out0FIdeal.nD Cert.Out0FIdeal.τ).loc Cert.Out0FIdeal.main_arg1)
          ∧ r.2.mem ((c.tc : Thread Cert.Out0FIdeal.nD Cert.Out0FIdeal.τ).loc Cert.Out0FIdeal.main_arg2) = m ((c.tc : Thread Cert.Out0FIdeal.nD Cert.Out0FIdeal.τ).loc Cert.Out0FIdeal.main_arg2)
          ∧ r.2.mem ((c.tc : Thread Cert.Out0FIdeal.nD Cert.Out0FIdeal.τ).loc Cert.Out0FIdeal.main_arg3) = m ((c.tc : Thread Cert.Out0FIdeal.nD Cert.Out0FIdeal.τ).loc Cert.Out0FIdeal.main_arg3)
          ∧ r.2.mem ((c.tc : Thread Cert.Out0FIdeal.nD Cert.Out0FIdeal.τ).loc Cert.Out0FIdeal.main_arg4) = m ((c.tc : Thread Cert.Out0FIdeal.nD Cert.Out0FIdeal.τ).loc Cert.Out0FIdeal.main_arg4)
          ∧ r.2.mem ((c.tc : Thread Cert.Out0FIdeal.nD Cert.Out0FIdeal.τ).loc Cert.Out0FIdeal.main_arg5) = m ((c.tc : Thread Cert.Out0FIdeal.nD Cert.Out0FIdeal.τ).loc Cert.Out0FIdeal.main_arg5)
          ∧ r.2.mem ((c.tc : Thread Cert.Out0FIdeal.nD Cert.Out0FIdeal.τ).loc Cert.Out0FIdeal.main_arg6) = m ((c.tc : Thread Cert.Out0FIdeal.nD Cert.Out0FIdeal.τ).loc Cert.Out0FIdeal.main_arg6)
          ∧ r.2.mem ((c.tc : Thread Cert.Out0FIdeal.nD Cert.Out0FIdeal.τ).loc Cert.Out0FIdeal.main_arg7) = m ((c.tc : Thread Cert.Out0FIdeal.nD Cert.Out0FIdeal.τ).loc Cert.Out0FIdeal.main_arg7)
          ∧ r.2.mem ((c.tc : Thread Cert.Out0FIdeal.nD Cert.Out0FIdeal.τ).loc Cert.Out0FIdeal.main_arg8) = m ((c.tc : Thread Cert.Out0FIdeal.nD Cert.Out0FIdeal.τ).loc Cert.Out0FIdeal.main_arg8)
          ∧ r.2.mem ((c.tc : Thread Cert.Out0FIdeal.nD Cert.Out0FIdeal.τ).loc Cert.Out0FIdeal.main_arg9) = m ((c.tc : Thread Cert.Out0FIdeal.nD Cert.Out0FIdeal.τ).loc Cert.Out0FIdeal.main_arg9)
          ∧ r.2.mem ((c.tc : Thread Cert.Out0FIdeal.nD Cert.Out0FIdeal.τ).loc Cert.Out0FIdeal.main_arg10) = m ((c.tc : Thread Cert.Out0FIdeal.nD Cert.Out0FIdeal.τ).loc Cert.Out0FIdeal.main_arg10))
      ∧ θ_run (Cert.Out0FRefIdeal.defs (F := Ideal)) (onTc (τ := Cert.Out0FRefIdeal.τ) (Cert.Out0FRefIdeal.main (F := Ideal))) ⟨m', fun _ => 0, g'⟩ (fun r => ∀ c : Dev Cert.Out0FRefIdeal.nD,
          r.2.mem ((c.tc : Thread Cert.Out0FRefIdeal.nD Cert.Out0FRefIdeal.τ).loc Cert.Out0FRefIdeal.main_v33) = v0 c
          ∧ r.2.mem ((c.tc : Thread Cert.Out0FRefIdeal.nD Cert.Out0FRefIdeal.τ).loc Cert.Out0FRefIdeal.main_v45) = v1 c
          ∧ r.2.mem ((c.tc : Thread Cert.Out0FRefIdeal.nD Cert.Out0FRefIdeal.τ).loc Cert.Out0FRefIdeal.main_v46) = v2 c
          ∧ r.2.mem ((c.tc : Thread Cert.Out0FRefIdeal.nD Cert.Out0FRefIdeal.τ).loc Cert.Out0FRefIdeal.main_v47) = v3 c
          ∧ r.2.mem ((c.tc : Thread Cert.Out0FRefIdeal.nD Cert.Out0FRefIdeal.τ).loc Cert.Out0FRefIdeal.main_arg0) = m' ((c.tc : Thread Cert.Out0FRefIdeal.nD Cert.Out0FRefIdeal.τ).loc Cert.Out0FRefIdeal.main_arg0)
          ∧ r.2.mem ((c.tc : Thread Cert.Out0FRefIdeal.nD Cert.Out0FRefIdeal.τ).loc Cert.Out0FRefIdeal.main_arg1) = m' ((c.tc : Thread Cert.Out0FRefIdeal.nD Cert.Out0FRefIdeal.τ).loc Cert.Out0FRefIdeal.main_arg1)
          ∧ r.2.mem ((c.tc : Thread Cert.Out0FRefIdeal.nD Cert.Out0FRefIdeal.τ).loc Cert.Out0FRefIdeal.main_arg2) = m' ((c.tc : Thread Cert.Out0FRefIdeal.nD Cert.Out0FRefIdeal.τ).loc Cert.Out0FRefIdeal.main_arg2)
          ∧ r.2.mem ((c.tc : Thread Cert.Out0FRefIdeal.nD Cert.Out0FRefIdeal.τ).loc Cert.Out0FRefIdeal.main_arg3) = m' ((c.tc : Thread Cert.Out0FRefIdeal.nD Cert.Out0FRefIdeal.τ).loc Cert.Out0FRefIdeal.main_arg3)
          ∧ r.2.mem ((c.tc : Thread Cert.Out0FRefIdeal.nD Cert.Out0FRefIdeal.τ).loc Cert.Out0FRefIdeal.main_arg4) = m' ((c.tc : Thread Cert.Out0FRefIdeal.nD Cert.Out0FRefIdeal.τ).loc Cert.Out0FRefIdeal.main_arg4)
          ∧ r.2.mem ((c.tc : Thread Cert.Out0FRefIdeal.nD Cert.Out0FRefIdeal.τ).loc Cert.Out0FRefIdeal.main_arg5) = m' ((c.tc : Thread Cert.Out0FRefIdeal.nD Cert.Out0FRefIdeal.τ).loc Cert.Out0FRefIdeal.main_arg5)
          ∧ r.2.mem ((c.tc : Thread Cert.Out0FRefIdeal.nD Cert.Out0FRefIdeal.τ).loc Cert.Out0FRefIdeal.main_arg6) = m' ((c.tc : Thread Cert.Out0FRefIdeal.nD Cert.Out0FRefIdeal.τ).loc Cert.Out0FRefIdeal.main_arg6)
          ∧ r.2.mem ((c.tc : Thread Cert.Out0FRefIdeal.nD Cert.Out0FRefIdeal.τ).loc Cert.Out0FRefIdeal.main_arg7) = m' ((c.tc : Thread Cert.Out0FRefIdeal.nD Cert.Out0FRefIdeal.τ).loc Cert.Out0FRefIdeal.main_arg7)
          ∧ r.2.mem ((c.tc : Thread Cert.Out0FRefIdeal.nD Cert.Out0FRefIdeal.τ).loc Cert.Out0FRefIdeal.main_arg8) = m' ((c.tc : Thread Cert.Out0FRefIdeal.nD Cert.Out0FRefIdeal.τ).loc Cert.Out0FRefIdeal.main_arg8)
          ∧ r.2.mem ((c.tc : Thread Cert.Out0FRefIdeal.nD Cert.Out0FRefIdeal.τ).loc Cert.Out0FRefIdeal.main_arg9) = m' ((c.tc : Thread Cert.Out0FRefIdeal.nD Cert.Out0FRefIdeal.τ).loc Cert.Out0FRefIdeal.main_arg9)
          ∧ r.2.mem ((c.tc : Thread Cert.Out0FRefIdeal.nD Cert.Out0FRefIdeal.τ).loc Cert.Out0FRefIdeal.main_arg10) = m' ((c.tc : Thread Cert.Out0FRefIdeal.nD Cert.Out0FRefIdeal.τ).loc Cert.Out0FRefIdeal.main_arg10))

def preserves_LruCtxB_LruCtxBIdeal : Prop :=
  True

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)
      ∧ m' ((c.tc : Thread Cert.InFRefIdeal.nD Cert.InFRefIdeal.τ).loc Cert.InFRefIdeal.main_arg2) = m ((c.tc : Thread Cert.InFIdeal.nD Cert.InFIdeal.τ).loc Cert.InFIdeal.main_arg2)
      ∧ m' ((c.tc : Thread Cert.InFRefIdeal.nD Cert.InFRefIdeal.τ).loc Cert.InFRefIdeal.main_arg3) = m ((c.tc : Thread Cert.InFIdeal.nD Cert.InFIdeal.τ).loc Cert.InFIdeal.main_arg3)) →
    ∃ (v0 : (c : Dev Cert.InFIdeal.nD) → Buf (Elt Ideal) ((c.tc : Thread Cert.InFIdeal.nD Cert.InFIdeal.τ).loc Cert.InFIdeal.main_v5_0)) (v1 : (c : Dev Cert.InFIdeal.nD) → Buf (Elt Ideal) ((c.tc : Thread Cert.InFIdeal.nD Cert.InFIdeal.τ).loc Cert.InFIdeal.main_v5_1)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v5_0) = v0 c
          ∧ r.2.mem ((c.tc : Thread Cert.InFIdeal.nD Cert.InFIdeal.τ).loc Cert.InFIdeal.main_v5_1) = v1 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2)
          ∧ r.2.mem ((c.tc : Thread Cert.InFIdeal.nD Cert.InFIdeal.τ).loc Cert.InFIdeal.main_arg3) = m ((c.tc : Thread Cert.InFIdeal.nD Cert.InFIdeal.τ).loc Cert.InFIdeal.main_arg3))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v9) = v0 c
          ∧ r.2.mem ((c.tc : Thread Cert.InFRefIdeal.nD Cert.InFRefIdeal.τ).loc Cert.InFRefIdeal.main_v11) = v1 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1)
          ∧ r.2.mem ((c.tc : Thread Cert.InFRefIdeal.nD Cert.InFRefIdeal.τ).loc Cert.InFRefIdeal.main_arg2) = m' ((c.tc : Thread Cert.InFRefIdeal.nD Cert.InFRefIdeal.τ).loc Cert.InFRefIdeal.main_arg2)
          ∧ r.2.mem ((c.tc : Thread Cert.InFRefIdeal.nD Cert.InFRefIdeal.τ).loc Cert.InFRefIdeal.main_arg3) = m' ((c.tc : Thread Cert.InFRefIdeal.nD Cert.InFRefIdeal.τ).loc Cert.InFRefIdeal.main_arg3))

def preserves_InCtxF_InCtxFIdeal : Prop :=
  True

def algebraic_InCtxFIdeal_InCtxFRefIdeal [hInCtxFIdeal : Cert.InCtxFIdeal.Facts] [hInCtxFRefIdeal : Cert.InCtxFRefIdeal.Facts] : Prop :=
  ∀ (m : (ℓ : Loc Cert.InCtxFIdeal.nD Cert.InCtxFIdeal.τ Cert.InCtxFIdeal.sig) → Buf (Elt Ideal) ℓ) (g : Dev Cert.InCtxFIdeal.nD → PrngReg)
    (m' : (ℓ : Loc Cert.InCtxFRefIdeal.nD Cert.InCtxFRefIdeal.τ Cert.InCtxFRefIdeal.sig) → Buf (Elt Ideal) ℓ) (g' : Dev Cert.InCtxFRefIdeal.nD → PrngReg), Pre_InCtxFIdeal m →
    (∀ c : Dev Cert.InCtxFIdeal.nD,
      m' ((c.tc : Thread Cert.InCtxFRefIdeal.nD Cert.InCtxFRefIdeal.τ).loc Cert.InCtxFRefIdeal.main_arg0) = m ((c.tc : Thread Cert.InCtxFIdeal.nD Cert.InCtxFIdeal.τ).loc Cert.InCtxFIdeal.main_arg0)
      ∧ m' ((c.tc : Thread Cert.InCtxFRefIdeal.nD Cert.InCtxFRefIdeal.τ).loc Cert.InCtxFRefIdeal.main_arg1) = m ((c.tc : Thread Cert.InCtxFIdeal.nD Cert.InCtxFIdeal.τ).loc Cert.InCtxFIdeal.main_arg1)
      ∧ m' ((c.tc : Thread Cert.InCtxFRefIdeal.nD Cert.InCtxFRefIdeal.τ).loc Cert.InCtxFRefIdeal.main_arg2) = m ((c.tc : Thread Cert.InCtxFIdeal.nD Cert.InCtxFIdeal.τ).loc Cert.InCtxFIdeal.main_arg2)
      ∧ m' ((c.tc : Thread Cert.InCtxFRefIdeal.nD Cert.InCtxFRefIdeal.τ).loc Cert.InCtxFRefIdeal.main_arg3) = m ((c.tc : Thread Cert.InCtxFIdeal.nD Cert.InCtxFIdeal.τ).loc Cert.InCtxFIdeal.main_arg3)) →
    ∃ (v0 : (c : Dev Cert.InCtxFIdeal.nD) → Buf (Elt Ideal) ((c.tc : Thread Cert.InCtxFIdeal.nD Cert.InCtxFIdeal.τ).loc Cert.InCtxFIdeal.main_v5_0)) (v1 : (c : Dev Cert.InCtxFIdeal.nD) → Buf (Elt Ideal) ((c.tc : Thread Cert.InCtxFIdeal.nD Cert.InCtxFIdeal.τ).loc Cert.InCtxFIdeal.main_v5_1)),
      θ_run (Cert.InCtxFIdeal.defs (F := Ideal)) (onTc (τ := Cert.InCtxFIdeal.τ) (Cert.InCtxFIdeal.main (F := Ideal))) ⟨m, fun _ => 0, g⟩ (fun r => ∀ c : Dev Cert.InCtxFIdeal.nD,
          r.2.mem ((c.tc : Thread Cert.InCtxFIdeal.nD Cert.InCtxFIdeal.τ).loc Cert.InCtxFIdeal.main_v5_0) = v0 c
          ∧ r.2.mem ((c.tc : Thread Cert.InCtxFIdeal.nD Cert.InCtxFIdeal.τ).loc Cert.InCtxFIdeal.main_v5_1) = v1 c
          ∧ r.2.mem ((c.tc : Thread Cert.InCtxFIdeal.nD Cert.InCtxFIdeal.τ).loc Cert.InCtxFIdeal.main_arg0) = m ((c.tc : Thread Cert.InCtxFIdeal.nD Cert.InCtxFIdeal.τ).loc Cert.InCtxFIdeal.main_arg0)
          ∧ r.2.mem ((c.tc : Thread Cert.InCtxFIdeal.nD Cert.InCtxFIdeal.τ).loc Cert.InCtxFIdeal.main_arg1) = m ((c.tc : Thread Cert.InCtxFIdeal.nD Cert.InCtxFIdeal.τ).loc Cert.InCtxFIdeal.main_arg1)
          ∧ r.2.mem ((c.tc : Thread Cert.InCtxFIdeal.nD Cert.InCtxFIdeal.τ).loc Cert.InCtxFIdeal.main_arg2) = m ((c.tc : Thread Cert.InCtxFIdeal.nD Cert.InCtxFIdeal.τ).loc Cert.InCtxFIdeal.main_arg2)
          ∧ r.2.mem ((c.tc : Thread Cert.InCtxFIdeal.nD Cert.InCtxFIdeal.τ).loc Cert.InCtxFIdeal.main_arg3) = m ((c.tc : Thread Cert.InCtxFIdeal.nD Cert.InCtxFIdeal.τ).loc Cert.InCtxFIdeal.main_arg3))
      ∧ θ_run (Cert.InCtxFRefIdeal.defs (F := Ideal)) (onTc (τ := Cert.InCtxFRefIdeal.τ) (Cert.InCtxFRefIdeal.main (F := Ideal))) ⟨m', fun _ => 0, g'⟩ (fun r => ∀ c : Dev Cert.InCtxFRefIdeal.nD,
          r.2.mem ((c.tc : Thread Cert.InCtxFRefIdeal.nD Cert.InCtxFRefIdeal.τ).loc Cert.InCtxFRefIdeal.main_v9) = v0 c
          ∧ r.2.mem ((c.tc : Thread Cert.InCtxFRefIdeal.nD Cert.InCtxFRefIdeal.τ).loc Cert.InCtxFRefIdeal.main_v11) = v1 c
          ∧ r.2.mem ((c.tc : Thread Cert.InCtxFRefIdeal.nD Cert.InCtxFRefIdeal.τ).loc Cert.InCtxFRefIdeal.main_arg0) = m' ((c.tc : Thread Cert.InCtxFRefIdeal.nD Cert.InCtxFRefIdeal.τ).loc Cert.InCtxFRefIdeal.main_arg0)
          ∧ r.2.mem ((c.tc : Thread Cert.InCtxFRefIdeal.nD Cert.InCtxFRefIdeal.τ).loc Cert.InCtxFRefIdeal.main_arg1) = m' ((c.tc : Thread Cert.InCtxFRefIdeal.nD Cert.InCtxFRefIdeal.τ).loc Cert.InCtxFRefIdeal.main_arg1)
          ∧ r.2.mem ((c.tc : Thread Cert.InCtxFRefIdeal.nD Cert.InCtxFRefIdeal.τ).loc Cert.InCtxFRefIdeal.main_arg2) = m' ((c.tc : Thread Cert.InCtxFRefIdeal.nD Cert.InCtxFRefIdeal.τ).loc Cert.InCtxFRefIdeal.main_arg2)
          ∧ r.2.mem ((c.tc : Thread Cert.InCtxFRefIdeal.nD Cert.InCtxFRefIdeal.τ).loc Cert.InCtxFRefIdeal.main_arg3) = m' ((c.tc : Thread Cert.InCtxFRefIdeal.nD Cert.InCtxFRefIdeal.τ).loc Cert.InCtxFRefIdeal.main_arg3))

def preserves_ModF_ModFIdeal : Prop :=
  True

def algebraic_ModFIdeal_ModFRefIdeal [hModFIdeal : Cert.ModFIdeal.Facts] [hModFRefIdeal : Cert.ModFRefIdeal.Facts] : Prop :=
  ∀ (m : (ℓ : Loc Cert.ModFIdeal.nD Cert.ModFIdeal.τ Cert.ModFIdeal.sig) → Buf (Elt Ideal) ℓ) (g : Dev Cert.ModFIdeal.nD → PrngReg)
    (m' : (ℓ : Loc Cert.ModFRefIdeal.nD Cert.ModFRefIdeal.τ Cert.ModFRefIdeal.sig) → Buf (Elt Ideal) ℓ) (g' : Dev Cert.ModFRefIdeal.nD → PrngReg), Pre_ModFIdeal m →
    (∀ c : Dev Cert.ModFIdeal.nD,
      m' ((c.tc : Thread Cert.ModFRefIdeal.nD Cert.ModFRefIdeal.τ).loc Cert.ModFRefIdeal.main_arg0) = m ((c.tc : Thread Cert.ModFIdeal.nD Cert.ModFIdeal.τ).loc Cert.ModFIdeal.main_arg0)
      ∧ m' ((c.tc : Thread Cert.ModFRefIdeal.nD Cert.ModFRefIdeal.τ).loc Cert.ModFRefIdeal.main_arg1) = m ((c.tc : Thread Cert.ModFIdeal.nD Cert.ModFIdeal.τ).loc Cert.ModFIdeal.main_arg1)
      ∧ m' ((c.tc : Thread Cert.ModFRefIdeal.nD Cert.ModFRefIdeal.τ).loc Cert.ModFRefIdeal.main_arg2) = m ((c.tc : Thread Cert.ModFIdeal.nD Cert.ModFIdeal.τ).loc Cert.ModFIdeal.main_arg2)
      ∧ m' ((c.tc : Thread Cert.ModFRefIdeal.nD Cert.ModFRefIdeal.τ).loc Cert.ModFRefIdeal.main_arg3) = m ((c.tc : Thread Cert.ModFIdeal.nD Cert.ModFIdeal.τ).loc Cert.ModFIdeal.main_arg3)) →
    ∃ (v0 : (c : Dev Cert.ModFIdeal.nD) → Buf (Elt Ideal) ((c.tc : Thread Cert.ModFIdeal.nD Cert.ModFIdeal.τ).loc Cert.ModFIdeal.main_v4)),
      θ_run (Cert.ModFIdeal.defs (F := Ideal)) (onTc (τ := Cert.ModFIdeal.τ) (Cert.ModFIdeal.main (F := Ideal))) ⟨m, fun _ => 0, g⟩ (fun r => ∀ c : Dev Cert.ModFIdeal.nD,
          r.2.mem ((c.tc : Thread Cert.ModFIdeal.nD Cert.ModFIdeal.τ).loc Cert.ModFIdeal.main_v4) = v0 c
          ∧ r.2.mem ((c.tc : Thread Cert.ModFIdeal.nD Cert.ModFIdeal.τ).loc Cert.ModFIdeal.main_arg0) = m ((c.tc : Thread Cert.ModFIdeal.nD Cert.ModFIdeal.τ).loc Cert.ModFIdeal.main_arg0)
          ∧ r.2.mem ((c.tc : Thread Cert.ModFIdeal.nD Cert.ModFIdeal.τ).loc Cert.ModFIdeal.main_arg1) = m ((c.tc : Thread Cert.ModFIdeal.nD Cert.ModFIdeal.τ).loc Cert.ModFIdeal.main_arg1)
          ∧ r.2.mem ((c.tc : Thread Cert.ModFIdeal.nD Cert.ModFIdeal.τ).loc Cert.ModFIdeal.main_arg2) = m ((c.tc : Thread Cert.ModFIdeal.nD Cert.ModFIdeal.τ).loc Cert.ModFIdeal.main_arg2)
          ∧ r.2.mem ((c.tc : Thread Cert.ModFIdeal.nD Cert.ModFIdeal.τ).loc Cert.ModFIdeal.main_arg3) = m ((c.tc : Thread Cert.ModFIdeal.nD Cert.ModFIdeal.τ).loc Cert.ModFIdeal.main_arg3))
      ∧ θ_run (Cert.ModFRefIdeal.defs (F := Ideal)) (onTc (τ := Cert.ModFRefIdeal.τ) (Cert.ModFRefIdeal.main (F := Ideal))) ⟨m', fun _ => 0, g'⟩ (fun r => ∀ c : Dev Cert.ModFRefIdeal.nD,
          r.2.mem ((c.tc : Thread Cert.ModFRefIdeal.nD Cert.ModFRefIdeal.τ).loc Cert.ModFRefIdeal.main_v41) = v0 c
          ∧ r.2.mem ((c.tc : Thread Cert.ModFRefIdeal.nD Cert.ModFRefIdeal.τ).loc Cert.ModFRefIdeal.main_arg0) = m' ((c.tc : Thread Cert.ModFRefIdeal.nD Cert.ModFRefIdeal.τ).loc Cert.ModFRefIdeal.main_arg0)
          ∧ r.2.mem ((c.tc : Thread Cert.ModFRefIdeal.nD Cert.ModFRefIdeal.τ).loc Cert.ModFRefIdeal.main_arg1) = m' ((c.tc : Thread Cert.ModFRefIdeal.nD Cert.ModFRefIdeal.τ).loc Cert.ModFRefIdeal.main_arg1)
          ∧ r.2.mem ((c.tc : Thread Cert.ModFRefIdeal.nD Cert.ModFRefIdeal.τ).loc Cert.ModFRefIdeal.main_arg2) = m' ((c.tc : Thread Cert.ModFRefIdeal.nD Cert.ModFRefIdeal.τ).loc Cert.ModFRefIdeal.main_arg2)
          ∧ r.2.mem ((c.tc : Thread Cert.ModFRefIdeal.nD Cert.ModFRefIdeal.τ).loc Cert.ModFRefIdeal.main_arg3) = m' ((c.tc : Thread Cert.ModFRefIdeal.nD Cert.ModFRefIdeal.τ).loc Cert.ModFRefIdeal.main_arg3))

def preserves_LruF_LruFIdeal : Prop :=
  True

def preserves_LruB_LruBIdeal : Prop :=
  True

def Claim : Prop :=
  ∃ (hKernel : Cert.Kernel.Facts) (hKernelIdeal : Cert.KernelIdeal.Facts) (hReferenceIdeal : Cert.ReferenceIdeal.Facts) (hConvCtx : Cert.ConvCtx.Facts) (hConvCtxIdeal : Cert.ConvCtxIdeal.Facts) (hConvCtxRefIdeal : Cert.ConvCtxRefIdeal.Facts) (hLruCtx : Cert.LruCtx.Facts) (hLruCtxIdeal : Cert.LruCtxIdeal.Facts) (hMod : Cert.Mod.Facts) (hModIdeal : Cert.ModIdeal.Facts) (hModRefIdeal : Cert.ModRefIdeal.Facts) (hInCtx : Cert.InCtx.Facts) (hInCtxIdeal : Cert.InCtxIdeal.Facts) (hInCtxRefIdeal : Cert.InCtxRefIdeal.Facts) (hIn1 : Cert.In1.Facts) (hIn1Ideal : Cert.In1Ideal.Facts) (hIn1RefIdeal : Cert.In1RefIdeal.Facts) (hIn0 : Cert.In0.Facts) (hIn0Ideal : Cert.In0Ideal.Facts) (hIn0RefIdeal : Cert.In0RefIdeal.Facts) (hOut1B : Cert.Out1B.Facts) (hOut1BIdeal : Cert.Out1BIdeal.Facts) (hOut1BRefIdeal : Cert.Out1BRefIdeal.Facts) (hOut0B : Cert.Out0B.Facts) (hOut0BIdeal : Cert.Out0BIdeal.Facts) (hOut0BRefIdeal : Cert.Out0BRefIdeal.Facts) (hOut1 : Cert.Out1.Facts) (hOut1Ideal : Cert.Out1Ideal.Facts) (hOut1RefIdeal : Cert.Out1RefIdeal.Facts) (hOut0F : Cert.Out0F.Facts) (hOut0FIdeal : Cert.Out0FIdeal.Facts) (hOut0FRefIdeal : Cert.Out0FRefIdeal.Facts) (hLruCtxB : Cert.LruCtxB.Facts) (hLruCtxBIdeal : Cert.LruCtxBIdeal.Facts) (hInF : Cert.InF.Facts) (hInFIdeal : Cert.InFIdeal.Facts) (hInFRefIdeal : Cert.InFRefIdeal.Facts) (hInCtxF : Cert.InCtxF.Facts) (hInCtxFIdeal : Cert.InCtxFIdeal.Facts) (hInCtxFRefIdeal : Cert.InCtxFRefIdeal.Facts) (hModF : Cert.ModF.Facts) (hModFIdeal : Cert.ModFIdeal.Facts) (hModFRefIdeal : Cert.ModFRefIdeal.Facts) (hLruF : Cert.LruF.Facts) (hLruFIdeal : Cert.LruFIdeal.Facts) (hLruB : Cert.LruB.Facts) (hLruBIdeal : Cert.LruBIdeal.Facts) (hPre_mod_finite : Cert.Pre_mod_finite.Facts) (hPre_out1b_finite : Cert.Pre_out1b_finite.Facts) (hPre_out0b_finite : Cert.Pre_out0b_finite.Facts) (hPre_out1_finite : Cert.Pre_out1_finite.Facts),
    quiescent_Kernel (hKernel := hKernel)
    ∧ quiescent_KernelIdeal (hKernelIdeal := hKernelIdeal)
    ∧ quiescent_ReferenceIdeal (hReferenceIdeal := hReferenceIdeal)
    ∧ quiescent_ConvCtx (hConvCtx := hConvCtx)
    ∧ quiescent_ConvCtxIdeal (hConvCtxIdeal := hConvCtxIdeal)
    ∧ quiescent_ConvCtxRefIdeal (hConvCtxRefIdeal := hConvCtxRefIdeal)
    ∧ quiescent_LruCtx (hLruCtx := hLruCtx)
    ∧ quiescent_LruCtxIdeal (hLruCtxIdeal := hLruCtxIdeal)
    ∧ quiescent_Mod (hMod := hMod)
    ∧ quiescent_ModIdeal (hModIdeal := hModIdeal)
    ∧ quiescent_ModIdeal_pre_mod_finite (hModIdeal := hModIdeal) (hPre_mod_finite := hPre_mod_finite)
    ∧ quiescent_ModRefIdeal (hModRefIdeal := hModRefIdeal)
    ∧ quiescent_ModRefIdeal_pre_mod_finite (hModRefIdeal := hModRefIdeal) (hPre_mod_finite := hPre_mod_finite)
    ∧ quiescent_InCtx (hInCtx := hInCtx)
    ∧ quiescent_InCtxIdeal (hInCtxIdeal := hInCtxIdeal)
    ∧ quiescent_InCtxRefIdeal (hInCtxRefIdeal := hInCtxRefIdeal)
    ∧ quiescent_In1 (hIn1 := hIn1)
    ∧ quiescent_In1Ideal (hIn1Ideal := hIn1Ideal)
    ∧ quiescent_In1RefIdeal (hIn1RefIdeal := hIn1RefIdeal)
    ∧ quiescent_In0 (hIn0 := hIn0)
    ∧ quiescent_In0Ideal (hIn0Ideal := hIn0Ideal)
    ∧ quiescent_In0RefIdeal (hIn0RefIdeal := hIn0RefIdeal)
    ∧ quiescent_Out1B (hOut1B := hOut1B)
    ∧ quiescent_Out1BIdeal (hOut1BIdeal := hOut1BIdeal)
    ∧ quiescent_Out1BIdeal_pre_out1b_finite (hOut1BIdeal := hOut1BIdeal) (hPre_out1b_finite := hPre_out1b_finite)
    ∧ quiescent_Out1BRefIdeal (hOut1BRefIdeal := hOut1BRefIdeal)
    ∧ quiescent_Out1BRefIdeal_pre_out1b_finite (hOut1BRefIdeal := hOut1BRefIdeal) (hPre_out1b_finite := hPre_out1b_finite)
    ∧ quiescent_Out0B (hOut0B := hOut0B)
    ∧ quiescent_Out0BIdeal (hOut0BIdeal := hOut0BIdeal)
    ∧ quiescent_Out0BIdeal_pre_out0b_finite (hOut0BIdeal := hOut0BIdeal) (hPre_out0b_finite := hPre_out0b_finite)
    ∧ quiescent_Out0BRefIdeal (hOut0BRefIdeal := hOut0BRefIdeal)
    ∧ quiescent_Out0BRefIdeal_pre_out0b_finite (hOut0BRefIdeal := hOut0BRefIdeal) (hPre_out0b_finite := hPre_out0b_finite)
    ∧ quiescent_Out1 (hOut1 := hOut1)
    ∧ quiescent_Out1Ideal (hOut1Ideal := hOut1Ideal)
    ∧ quiescent_Out1Ideal_pre_out1_finite (hOut1Ideal := hOut1Ideal) (hPre_out1_finite := hPre_out1_finite)
    ∧ quiescent_Out1RefIdeal (hOut1RefIdeal := hOut1RefIdeal)
    ∧ quiescent_Out1RefIdeal_pre_out1_finite (hOut1RefIdeal := hOut1RefIdeal) (hPre_out1_finite := hPre_out1_finite)
    ∧ quiescent_Out0F (hOut0F := hOut0F)
    ∧ quiescent_Out0FIdeal (hOut0FIdeal := hOut0FIdeal)
    ∧ quiescent_Out0FRefIdeal (hOut0FRefIdeal := hOut0FRefIdeal)
    ∧ quiescent_LruCtxB (hLruCtxB := hLruCtxB)
    ∧ quiescent_LruCtxBIdeal (hLruCtxBIdeal := hLruCtxBIdeal)
    ∧ quiescent_InF (hInF := hInF)
    ∧ quiescent_InFIdeal (hInFIdeal := hInFIdeal)
    ∧ quiescent_InFRefIdeal (hInFRefIdeal := hInFRefIdeal)
    ∧ quiescent_InCtxF (hInCtxF := hInCtxF)
    ∧ quiescent_InCtxFIdeal (hInCtxFIdeal := hInCtxFIdeal)
    ∧ quiescent_InCtxFRefIdeal (hInCtxFRefIdeal := hInCtxFRefIdeal)
    ∧ quiescent_ModF (hModF := hModF)
    ∧ quiescent_ModFIdeal (hModFIdeal := hModFIdeal)
    ∧ quiescent_ModFRefIdeal (hModFRefIdeal := hModFRefIdeal)
    ∧ quiescent_LruF (hLruF := hLruF)
    ∧ quiescent_LruFIdeal (hLruFIdeal := hLruFIdeal)
    ∧ quiescent_LruB (hLruB := hLruB)
    ∧ quiescent_LruBIdeal (hLruBIdeal := hLruBIdeal)
    ∧ preserves_Kernel_KernelIdeal
    ∧ algebraic_KernelIdeal_ReferenceIdeal (hKernelIdeal := hKernelIdeal) (hReferenceIdeal := hReferenceIdeal)
    ∧ preserves_ConvCtx_ConvCtxIdeal
    ∧ algebraic_ConvCtxIdeal_ConvCtxRefIdeal (hConvCtxIdeal := hConvCtxIdeal) (hConvCtxRefIdeal := hConvCtxRefIdeal)
    ∧ preserves_LruCtx_LruCtxIdeal
    ∧ preserves_Mod_ModIdeal
    ∧ algebraic_ModIdeal_ModRefIdeal_pre_mod_finite (hModIdeal := hModIdeal) (hModRefIdeal := hModRefIdeal) (hPre_mod_finite := hPre_mod_finite)
    ∧ preserves_InCtx_InCtxIdeal
    ∧ algebraic_InCtxIdeal_InCtxRefIdeal (hInCtxIdeal := hInCtxIdeal) (hInCtxRefIdeal := hInCtxRefIdeal)
    ∧ preserves_In1_In1Ideal
    ∧ algebraic_In1Ideal_In1RefIdeal (hIn1Ideal := hIn1Ideal) (hIn1RefIdeal := hIn1RefIdeal)
    ∧ preserves_In0_In0Ideal
    ∧ algebraic_In0Ideal_In0RefIdeal (hIn0Ideal := hIn0Ideal) (hIn0RefIdeal := hIn0RefIdeal)
    ∧ preserves_Out1B_Out1BIdeal
    ∧ algebraic_Out1BIdeal_Out1BRefIdeal_pre_out1b_finite (hOut1BIdeal := hOut1BIdeal) (hOut1BRefIdeal := hOut1BRefIdeal) (hPre_out1b_finite := hPre_out1b_finite)
    ∧ preserves_Out0B_Out0BIdeal
    ∧ algebraic_Out0BIdeal_Out0BRefIdeal_pre_out0b_finite (hOut0BIdeal := hOut0BIdeal) (hOut0BRefIdeal := hOut0BRefIdeal) (hPre_out0b_finite := hPre_out0b_finite)
    ∧ preserves_Out1_Out1Ideal
    ∧ algebraic_Out1Ideal_Out1RefIdeal_pre_out1_finite (hOut1Ideal := hOut1Ideal) (hOut1RefIdeal := hOut1RefIdeal) (hPre_out1_finite := hPre_out1_finite)
    ∧ preserves_Out0F_Out0FIdeal
    ∧ algebraic_Out0FIdeal_Out0FRefIdeal (hOut0FIdeal := hOut0FIdeal) (hOut0FRefIdeal := hOut0FRefIdeal)
    ∧ preserves_LruCtxB_LruCtxBIdeal
    ∧ preserves_InF_InFIdeal
    ∧ algebraic_InFIdeal_InFRefIdeal (hInFIdeal := hInFIdeal) (hInFRefIdeal := hInFRefIdeal)
    ∧ preserves_InCtxF_InCtxFIdeal
    ∧ algebraic_InCtxFIdeal_InCtxFRefIdeal (hInCtxFIdeal := hInCtxFIdeal) (hInCtxFRefIdeal := hInCtxFRefIdeal)
    ∧ preserves_ModF_ModFIdeal
    ∧ algebraic_ModFIdeal_ModFRefIdeal (hModFIdeal := hModFIdeal) (hModFRefIdeal := hModFRefIdeal)
    ∧ preserves_LruF_LruFIdeal
    ∧ preserves_LruB_LruBIdeal
-- ==== Pre_mod_finite.lean ====
abbrev S8x1024 : Shape := ⟨2, ![8, 1024]⟩
abbrev S1024 : Shape := ⟨1, ![1024]⟩
abbrev S2x8x3072 : Shape := ⟨3, ![2, 8, 3072]⟩
abbrev S8x3072 : Shape := ⟨2, ![8, 3072]⟩
abbrev S2x1024x384 : Shape := ⟨3, ![2, 1024, 384]⟩
abbrev S_ : Shape := ⟨0, ![]⟩

class Facts : Prop where
  bcast_S_S8x3072 : S_.BroadcastsInDim S8x3072 (![] : Fin 0 → Fin S8x3072.rank)
  bcast_S_S2x1024x384 : S_.BroadcastsInDim S2x1024x384 (![] : Fin 0 → Fin S2x1024x384.rank)

variable [Facts]

def fn {F : FTy → Type} [FloatOps F] (main_arg0 : FVec F S8x1024 .f32) (main_arg1 : FVec F S1024 .f32) (main_arg2 : FVec F S2x8x3072 .f32) (main_arg3 : FVec F S8x3072 .f32) (main_arg4 : FVec F S2x1024x384 .f32) : IVec S8x3072 1 × IVec S2x1024x384 1 :=
  let main_v0 : FVec F S8x3072 .f32 := Host.absf main_arg3
  let main_cst : FVec F S_ .f32 := constant S_ .f32 0x7F800000#32
  let main_v1 : FVec F S8x3072 .f32 := broadcastInDim S8x3072 ![] bcast_S_S8x3072 main_cst
  let main_v2 : IVec S8x3072 1 := cmpf .olt main_v0 main_v1
  let main_v3 : FVec F S2x1024x384 .f32 := Host.absf main_arg4
  let main_cst_0 : FVec F S_ .f32 := constant S_ .f32 0x7F800000#32
  let main_v4 : FVec F S2x1024x384 .f32 := broadcastInDim S2x1024x384 ![] bcast_S_S2x1024x384 main_cst_0
  let main_v5 : IVec S2x1024x384 1 := cmpf .olt main_v3 main_v4
  (main_v2, main_v5)
-- ==== Pre_out0b_finite.lean ====
abbrev S8192x1024 : Shape := ⟨2, ![8192, 1024]⟩
abbrev S8192x2048 : Shape := ⟨2, ![8192, 2048]⟩
abbrev S1024 : Shape := ⟨1, ![1024]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  bcast_S_S8192x2048 : S_.BroadcastsInDim S8192x2048 (![] : Fin 0 → Fin S8192x2048.rank)
  bcast_S_S1024 : S_.BroadcastsInDim S1024 (![] : Fin 0 → Fin S1024.rank)
  bcast_S_S2048x1024 : S_.BroadcastsInDim S2048x1024 (![] : Fin 0 → Fin S2048x1024.rank)

variable [Facts]

def fn_part1 {F : FTy → Type} [FloatOps F] (main_arg6 : FVec F S2048x1024 .f32) (main_arg7 : FVec F S1024 .f32) (main_v2 : IVec S8192x1024 1) (main_v5 : IVec S8192x1024 1) (main_v8 : IVec S8192x2048 1) (main_v11 : IVec S8192x2048 1) (main_v14 : IVec S8192x2048 1) (main_v17 : IVec S1024 1) : IVec S8192x1024 1 × IVec S8192x1024 1 × IVec S8192x2048 1 × IVec S8192x2048 1 × IVec S8192x2048 1 × IVec S1024 1 × IVec S2048x1024 1 × IVec S1024 1 :=
  let main_v18 : FVec F S2048x1024 .f32 := Host.absf main_arg6
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  (main_v2, main_v5, main_v8, main_v11, main_v14, main_v17, main_v20, main_v23)

def fn {F : FTy → Type} [FloatOps F] (main_arg0 : FVec F S8192x1024 .f32) (main_arg1 : FVec F S8192x1024 .f32) (main_arg2 : FVec F S8192x2048 .f32) (main_arg3 : FVec F S8192x2048 .f32) (main_arg4 : FVec F S8192x2048 .f32) (main_arg5 : FVec F S1024 .f32) (main_arg6 : FVec F S2048x1024 .f32) (main_arg7 : FVec F S1024 .f32) : IVec S8192x1024 1 × IVec S8192x1024 1 × IVec S8192x2048 1 × IVec S8192x2048 1 × IVec S8192x2048 1 × IVec S1024 1 × IVec S2048x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_v12 : FVec F S8192x2048 .f32 := Host.absf main_arg4
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_v2 main_v5 main_v8 main_v11 main_v14 main_v17
-- ==== Pre_out1_finite.lean ====
abbrev S8192x2048 : Shape := ⟨2, ![8192, 2048]⟩
abbrev S4x512x512 : Shape := ⟨3, ![4, 512, 512]⟩
abbrev S2048 : Shape := ⟨1, ![2048]⟩
abbrev S8192x1024 : Shape := ⟨2, ![8192, 1024]⟩
abbrev S1024 : Shape := ⟨1, ![1024]⟩
abbrev S2048x1024 : Shape := ⟨2, ![2048, 1024]⟩
abbrev S_ : Shape := ⟨0, ![]⟩

class Facts : Prop where
  bcast_S_S8192x2048 : S_.BroadcastsInDim S8192x2048 (![] : Fin 0 → Fin S8192x2048.rank)
  bcast_S_S4x512x512 : S_.BroadcastsInDim S4x512x512 (![] : Fin 0 → Fin S4x512x512.rank)
  bcast_S_S2048 : S_.BroadcastsInDim S2048 (![] : Fin 0 → Fin S2048.rank)
  bcast_S_S8192x1024 : S_.BroadcastsInDim S8192x1024 (![] : Fin 0 → Fin S8192x1024.rank)
  bcast_S_S1024 : S_.BroadcastsInDim S1024 (![] : Fin 0 → Fin S1024.rank)
  bcast_S_S2048x1024 : S_.BroadcastsInDim S2048x1024 (![] : Fin 0 → Fin S2048x1024.rank)

variable [Facts]

def fn_part1 {F : FTy → Type} [FloatOps F] (main_arg6 : FVec F S2048x1024 .f32) (main_arg7 : FVec F S1024 .f32) (main_arg8 : FVec F S1024 .f32) (main_arg9 : FVec F S8192x1024 .f32) (main_v2 : IVec S8192x2048 1) (main_v5 : IVec S4x512x512 1) (main_v8 : IVec S2048 1) (main_v11 : IVec S8192x2048 1) (main_v14 : IVec S8192x1024 1) (main_v17 : IVec S1024 1) : IVec S8192x2048 1 × IVec S4x512x512 1 × IVec S2048 1 × IVec S8192x2048 1 × IVec S8192x1024 1 × IVec S1024 1 × IVec S2048x1024 1 × IVec S1024 1 × IVec S1024 1 × IVec S8192x1024 1 :=
  let main_v18 : FVec F S2048x1024 .f32 := Host.absf main_arg6
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S8192x1024 .f32 := Host.absf main_arg9
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  (main_v2, main_v5, main_v8, main_v11, main_v14, main_v17, main_v20, main_v23, main_v26, main_v29)

def fn {F : FTy → Type} [FloatOps F] (main_arg0 : FVec F S8192x2048 .f32) (main_arg1 : FVec F S4x512x512 .f32) (main_arg2 : FVec F S2048 .f32) (main_arg3 : FVec F S8192x2048 .f32) (main_arg4 : FVec F S8192x1024 .f32) (main_arg5 : FVec F S1024 .f32) (main_arg6 : FVec F S2048x1024 .f32) (main_arg7 : FVec F S1024 .f32) (main_arg8 : FVec F S1024 .f32) (main_arg9 : FVec F S8192x1024 .f32) : IVec S8192x2048 1 × IVec S4x512x512 1 × IVec S2048 1 × IVec S8192x2048 1 × IVec S8192x1024 1 × IVec S1024 1 × IVec S2048x1024 1 × IVec S1024 1 × IVec S1024 1 × IVec S8192x1024 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S4x512x512 .f32 := Host.absf main_arg1
  let main_cst_0 : FVec F S_ .f32 := constant S_ .f32 0x7F800000#32
  let main_v4 : FVec F S4x512x512 .f32 := broadcastInDim S4x512x512 ![] bcast_S_S4x512x512 main_cst_0
  let main_v5 : IVec S4x512x512 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_v2 main_v5 main_v8 main_v11 main_v14 main_v17
-- ==== Pre_out1b_finite.lean ====
abbrev S8192x1024 : Shape := ⟨2, ![8192, 1024]⟩
abbrev S8192x2048 : Shape := ⟨2, ![8192, 2048]⟩
abbrev S4x512x512 : Shape := ⟨3, ![4, 512, 512]⟩
abbrev S2048 : Shape := ⟨1, ![2048]⟩
abbrev S1024 : Shape := ⟨1, ![1024]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  bcast_S_S8192x2048 : S_.BroadcastsInDim S8192x2048 (![] : Fin 0 → Fin S8192x2048.rank)
  bcast_S_S4x512x512 : S_.BroadcastsInDim S4x512x512 (![] : Fin 0 → Fin S4x512x512.rank)
  bcast_S_S2048 : S_.BroadcastsInDim S2048 (![] : Fin 0 → Fin S2048.rank)
  bcast_S_S1024 : S_.BroadcastsInDim S1024 (![] : Fin 0 → Fin S1024.rank)
  bcast_S_S2048x1024 : S_.BroadcastsInDim S2048x1024 (![] : Fin 0 → Fin S2048x1024.rank)

variable [Facts]

def fn {F : FTy → Type} [FloatOps F] (main_arg0 : FVec F S8192x1024 .f32) (main_arg1 : FVec F S8192x2048 .f32) (main_arg2 : FVec F S8192x2048 .f32) (main_arg3 : FVec F S4x512x512 .f32) (main_arg4 : FVec F S2048 .f32) (main_arg5 : FVec F S1024 .f32) (main_arg6 : FVec F S2048x1024 .f32) : IVec S8192x1024 1 × IVec S8192x2048 1 × IVec S4x512x512 1 × IVec S2048 1 × IVec S1024 1 × IVec S2048x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S4x512x512 .f32 := Host.absf main_arg3
  let main_cst_1 : FVec F S_ .f32 := constant S_ .f32 0x7F800000#32
  let main_v7 : FVec F S4x512x512 .f32 := broadcastInDim S4x512x512 ![] bcast_S_S4x512x512 main_cst_1
  let main_v8 : IVec S4x512x512 1 := cmpf .olt main_v6 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S1024 .f32 := Host.absf main_arg5
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S2048x1024 .f32 := Host.absf main_arg6
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  (main_v2, main_v5, main_v8, main_v11, main_v14, main_v17)
-- ==== Kernel.lean ====
abbrev S8192x2048 : Shape := ⟨2, ![8192, 2048]⟩
abbrev S4x2048 : Shape := ⟨2, ![4, 2048]⟩
abbrev S8x2048 : Shape := ⟨2, ![8, 2048]⟩
abbrev S1024x1024 : Shape := ⟨2, ![1024, 1024]⟩
abbrev S16x1024 : Shape := ⟨2, ![16, 1024]⟩
abbrev S4x1024 : Shape := ⟨2, ![4, 1024]⟩
abbrev S8x1024 : Shape := ⟨2, ![8, 1024]⟩
abbrev S1040x1024 : Shape := ⟨2, ![1040, 1024]⟩
abbrev S1x1024 : Shape := ⟨2, ![1, 1024]⟩
abbrev S1024 : Shape := ⟨1, ![1024]⟩

abbrev nBuf : Space → Nat
  | .hbm => 6
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S4x2048, .f32⟩
  | .hbm, ⟨4, _⟩ => ⟨S8192x2048, .bf16⟩
  | .hbm, ⟨5, _⟩ => ⟨S8x2048, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x1024, .bf16⟩
  | .local _ .vmem, ⟨7, _⟩ => ⟨S1024x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S1024x1024, .f32⟩
  | .local _ .vmem, ⟨13, _⟩ => ⟨S1024x1024, .f32⟩
  | .local _ .vmem, ⟨14, _⟩ => ⟨S4x1024, .f32⟩
  | .local _ .vmem, ⟨15, _⟩ => ⟨S4x1024, .f32⟩
  | .local _ .vmem, ⟨16, _⟩ => ⟨S1024x1024, .bf16⟩
  | .local _ .vmem, ⟨17, _⟩ => ⟨S1024x1024, .bf16⟩
  | .local _ .vmem, ⟨18, _⟩ => ⟨S8x1024, .f32⟩
  | .local _ .vmem, ⟨19, _⟩ => ⟨S8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8192x2048 : Shape := ⟨2, ![8192, 2048]⟩
abbrev S4x2048 : Shape := ⟨2, ![4, 2048]⟩
abbrev S_ : Shape := ⟨0, ![]⟩
abbrev S2048 : Shape := ⟨1, ![2048]⟩
abbrev S2x2048 : Shape := ⟨2, ![2, 2048]⟩
abbrev S1x2048 : Shape := ⟨2, ![1, 2048]⟩
abbrev S8195x2048 : Shape := ⟨2, ![8195, 2048]⟩
abbrev S3x2048 : Shape := ⟨2, ![3, 2048]⟩
abbrev S8x2048 : Shape := ⟨2, ![8, 2048]⟩

abbrev nBuf : Space → Nat
  | .hbm => 119
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S4x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2x2048, .f32⟩
  | .hbm, ⟨11, _⟩ => ⟨S_, .f32⟩
  | .hbm, ⟨12, _⟩ => ⟨S1x2048, .f32⟩
  | .hbm, ⟨13, _⟩ => ⟨S8195x2048, .f32⟩
  | .hbm, ⟨14, _⟩ => ⟨S_, .f32⟩
  | .hbm, ⟨15, _⟩ => ⟨S2x2048, .f32⟩
  | .hbm, ⟨16, _⟩ => ⟨S_, .f32⟩
  | .hbm, ⟨17, _⟩ => ⟨S1x2048, .f32⟩
  | .hbm, ⟨18, _⟩ => ⟨S8192x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S_, .f32⟩
  | .hbm, ⟨52, _⟩ => ⟨S2048, .f32⟩
  | .hbm, ⟨53, _⟩ => ⟨S8192x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S_, .f32⟩
  | .hbm, ⟨63, _⟩ => ⟨S4x2048, .f32⟩
  | .hbm, ⟨64, _⟩ => ⟨S_, .f32⟩
  | .hbm, ⟨65, _⟩ => ⟨S8195x2048, .f32⟩
  | .hbm, ⟨66, _⟩ => ⟨S8192x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S8192x2048, .f32⟩
  | .hbm, ⟨71, _⟩ => ⟨S8192x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S_, .f32⟩
  | .hbm, ⟨76, _⟩ => ⟨S4x2048, .f32⟩
  | .hbm, ⟨77, _⟩ => ⟨S4x2048, .f32⟩
  | .hbm, ⟨78, _⟩ => ⟨S_, .f32⟩
  | .hbm, ⟨79, _⟩ => ⟨S8195x2048, .f32⟩
  | .hbm, ⟨80, _⟩ => ⟨S8195x2048, .f32⟩
  | .hbm, ⟨81, _⟩ => ⟨S8192x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S8192x2048, .f32⟩
  | .hbm, ⟨86, _⟩ => ⟨S8192x2048, .f32⟩
  | .hbm, ⟨87, _⟩ => ⟨S_, .f32⟩
  | .hbm, ⟨88, _⟩ => ⟨S2048, .f32⟩
  | .hbm, ⟨89, _⟩ => ⟨S1x2048, .f32⟩
  | .hbm, ⟨90, _⟩ => ⟨S_, .f32⟩
  | .hbm, ⟨91, _⟩ => ⟨S4x2048, .f32⟩
  | .hbm, ⟨92, _⟩ => ⟨S4x2048, .f32⟩
  | .hbm, ⟨93, _⟩ => ⟨S_, .f32⟩
  | .hbm, ⟨94, _⟩ => ⟨S8195x2048, .f32⟩
  | .hbm, ⟨95, _⟩ => ⟨S8195x2048, .f32⟩
  | .hbm, ⟨96, _⟩ => ⟨S8192x2048, .f32⟩
  | .hbm, ⟨97, _⟩ => ⟨S_, .f32⟩
  | .hbm, ⟨98, _⟩ => ⟨S2048, .f32⟩
  | .hbm, ⟨99, _⟩ => ⟨S1x2048, .f32⟩
  | .hbm, ⟨100, _⟩ => ⟨S8192x2048, .f32⟩
  | .hbm, ⟨101, _⟩ => ⟨S8192x2048, .f32⟩
  | .hbm, ⟨102, _⟩ => ⟨S_, .f32⟩
  | .hbm, ⟨103, _⟩ => ⟨S2048, .f32⟩
  | .hbm, ⟨104, _⟩ => ⟨S1x2048, .f32⟩
  | .hbm, ⟨105, _⟩ => ⟨S_, .f32⟩
  | .hbm, ⟨106, _⟩ => ⟨S4x2048, .f32⟩
  | .hbm, ⟨107, _⟩ => ⟨S4x2048, .f32⟩
  | .hbm, ⟨108, _⟩ => ⟨S_, .f32⟩
  | .hbm, ⟨109, _⟩ => ⟨S8195x2048, .f32⟩
  | .hbm, ⟨110, _⟩ => ⟨S8195x2048, .f32⟩
  | .hbm, ⟨111, _⟩ => ⟨S2x2048, .f32⟩
  | .hbm, ⟨112, _⟩ => ⟨S8192x2048, .f32⟩
  | .hbm, ⟨113, _⟩ => ⟨S1x2048, .f32⟩
  | .hbm, ⟨114, _⟩ => ⟨S8192x2048, .bf16⟩
  | .hbm, ⟨115, _⟩ => ⟨S1x2048, .f32⟩
  | .hbm, ⟨116, _⟩ => ⟨S_, .f32⟩
  | .hbm, ⟨117, _⟩ => ⟨S3x2048, .f32⟩
  | .hbm, ⟨118, _⟩ => ⟨S8x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_14 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_15 : Ref sig .tc := ⟨.hbm, 87, rfl⟩
abbrev main_v67 : Ref sig .tc := ⟨.hbm, 88, rfl⟩
abbrev main_v68 : Ref sig .tc := ⟨.hbm, 89, rfl⟩
abbrev main_cst_16 : Ref sig .tc := ⟨.hbm, 90, rfl⟩
abbrev main_v69 : Ref sig .tc := ⟨.hbm, 91, rfl⟩
abbrev main_v70 : Ref sig .tc := ⟨.hbm, 92, rfl⟩
abbrev main_cst_17 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_18 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_19 : Ref sig .tc := ⟨.hbm, 102, rfl⟩
abbrev main_v78 : Ref sig .tc := ⟨.hbm, 103, rfl⟩
abbrev main_v79 : Ref sig .tc := ⟨.hbm, 104, rfl⟩
abbrev main_cst_20 : Ref sig .tc := ⟨.hbm, 105, rfl⟩
abbrev main_v80 : Ref sig .tc := ⟨.hbm, 106, rfl⟩
abbrev main_v81 : Ref sig .tc := ⟨.hbm, 107, rfl⟩
abbrev main_cst_21 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_22 : Ref sig .tc := ⟨.hbm, 116, rfl⟩
abbrev main_v89 : Ref sig .tc := ⟨.hbm, 117, rfl⟩
abbrev main_v90 : Ref sig .tc := ⟨.hbm, 118, rfl⟩

abbrev nD : Nat := 1
abbrev τ : Topo := Topo.v7x

variable {F : FTy → Type} [FloatOps F]
-- ==== ConvCtx.lean ====
abbrev S256x2048 : Shape := ⟨2, ![256, 2048]⟩
abbrev S4x2048 : Shape := ⟨2, ![4, 2048]⟩
abbrev S8x2048 : Shape := ⟨2, ![8, 2048]⟩
abbrev S256x1024 : Shape := ⟨2, ![256, 1024]⟩
abbrev S16x1024 : Shape := ⟨2, ![16, 1024]⟩
abbrev S4x1024 : Shape := ⟨2, ![4, 1024]⟩
abbrev S8x1024 : Shape := ⟨2, ![8, 1024]⟩
abbrev S272x1024 : Shape := ⟨2, ![272, 1024]⟩
abbrev S1x1024 : Shape := ⟨2, ![1, 1024]⟩
abbrev S1024 : Shape := ⟨1, ![1024]⟩

abbrev nBuf : Space → Nat
  | .hbm => 6
  | .vmem => 20
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S256x2048, .f32⟩
  | .hbm, ⟨3, _⟩ => ⟨S4x2048, .f32⟩
  | .hbm, ⟨4, _⟩ => ⟨S256x2048, .bf16⟩
  | .hbm, ⟨5, _⟩ => ⟨S8x2048, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S256x1024, .f32⟩
  | .local _ .vmem, ⟨13, _⟩ => ⟨S256x1024, .f32⟩
  | .local _ .vmem, ⟨14, _⟩ => ⟨S4x1024, .f32⟩
  | .local _ .vmem, ⟨15, _⟩ => ⟨S4x1024, .f32⟩
  | .local _ .vmem, ⟨16, _⟩ => ⟨S256x1024, .bf16⟩
  | .local _ .vmem, ⟨17, _⟩ => ⟨S256x1024, .bf16⟩
  | .local _ .vmem, ⟨18, _⟩ => ⟨S8x1024, .f32⟩
  | .local _ .vmem, ⟨19, _⟩ => ⟨S8x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c15_i32 : BitVec 32 := 15#32
  let v2 : BitVec 32 := Scalar.minsi v1 c15_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c15_i32 : BitVec 32 := 15#32
  let v2 : BitVec 32 := Scalar.minsi v1 c15_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvCtxRefIdeal.lean ====
abbrev S256x2048 : Shape := ⟨2, ![256, 2048]⟩
abbrev S4x2048 : Shape := ⟨2, ![4, 2048]⟩
abbrev S_ : Shape := ⟨0, ![]⟩
abbrev S2048 : Shape := ⟨1, ![2048]⟩
abbrev S2x2048 : Shape := ⟨2, ![2, 2048]⟩
abbrev S1x2048 : Shape := ⟨2, ![1, 2048]⟩
abbrev S259x2048 : Shape := ⟨2, ![259, 2048]⟩
abbrev S3x2048 : Shape := ⟨2, ![3, 2048]⟩
abbrev S8x2048 : Shape := ⟨2, ![8, 2048]⟩

abbrev nBuf : Space → Nat
  | .hbm => 119
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S256x2048, .f32⟩
  | .hbm, ⟨3, _⟩ => ⟨S4x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2x2048, .f32⟩
  | .hbm, ⟨11, _⟩ => ⟨S_, .f32⟩
  | .hbm, ⟨12, _⟩ => ⟨S1x2048, .f32⟩
  | .hbm, ⟨13, _⟩ => ⟨S259x2048, .f32⟩
  | .hbm, ⟨14, _⟩ => ⟨S_, .f32⟩
  | .hbm, ⟨15, _⟩ => ⟨S2x2048, .f32⟩
  | .hbm, ⟨16, _⟩ => ⟨S_, .f32⟩
  | .hbm, ⟨17, _⟩ => ⟨S1x2048, .f32⟩
  | .hbm, ⟨18, _⟩ => ⟨S256x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S1x2048, .f32⟩
  | .hbm, ⟨40, _⟩ => ⟨S2048, .f32⟩
  | .hbm, ⟨41, _⟩ => ⟨S1x2048, .f32⟩
  | .hbm, ⟨42, _⟩ => ⟨S256x2048, .f32⟩
  | .hbm, ⟨43, _⟩ => ⟨S256x2048, .f32⟩
  | .hbm, ⟨44, _⟩ => ⟨S256x2048, .f32⟩
  | .hbm, ⟨45, _⟩ => ⟨S1x2048, .f32⟩
  | .hbm, ⟨46, _⟩ => ⟨S256x2048, .f32⟩
  | .hbm, ⟨47, _⟩ => ⟨S256x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S_, .f32⟩
  | .hbm, ⟨52, _⟩ => ⟨S2048, .f32⟩
  | .hbm, ⟨53, _⟩ => ⟨S256x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S256x2048, .f32⟩
  | .hbm, ⟨58, _⟩ => ⟨S256x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S_, .f32⟩
  | .hbm, ⟨63, _⟩ => ⟨S4x2048, .f32⟩
  | .hbm, ⟨64, _⟩ => ⟨S_, .f32⟩
  | .hbm, ⟨65, _⟩ => ⟨S259x2048, .f32⟩
  | .hbm, ⟨66, _⟩ => ⟨S256x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S256x2048, .f32⟩
  | .hbm, ⟨71, _⟩ => ⟨S256x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S_, .f32⟩
  | .hbm, ⟨76, _⟩ => ⟨S4x2048, .f32⟩
  | .hbm, ⟨77, _⟩ => ⟨S4x2048, .f32⟩
  | .hbm, ⟨78, _⟩ => ⟨S_, .f32⟩
  | .hbm, ⟨79, _⟩ => ⟨S259x2048, .f32⟩
  | .hbm, ⟨80, _⟩ => ⟨S259x2048, .f32⟩
  | .hbm, ⟨81, _⟩ => ⟨S256x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S256x2048, .f32⟩
  | .hbm, ⟨86, _⟩ => ⟨S256x2048, .f32⟩
  | .hbm, ⟨87, _⟩ => ⟨S_, .f32⟩
  | .hbm, ⟨88, _⟩ => ⟨S2048, .f32⟩
  | .hbm, ⟨89, _⟩ => ⟨S1x2048, .f32⟩
  | .hbm, ⟨90, _⟩ => ⟨S_, .f32⟩
  | .hbm, ⟨91, _⟩ => ⟨S4x2048, .f32⟩
  | .hbm, ⟨92, _⟩ => ⟨S4x2048, .f32⟩
  | .hbm, ⟨93, _⟩ => ⟨S_, .f32⟩
  | .hbm, ⟨94, _⟩ => ⟨S259x2048, .f32⟩
  | .hbm, ⟨95, _⟩ => ⟨S259x2048, .f32⟩
  | .hbm, ⟨96, _⟩ => ⟨S256x2048, .f32⟩
  | .hbm, ⟨97, _⟩ => ⟨S_, .f32⟩
  | .hbm, ⟨98, _⟩ => ⟨S2048, .f32⟩
  | .hbm, ⟨99, _⟩ => ⟨S1x2048, .f32⟩
  | .hbm, ⟨100, _⟩ => ⟨S256x2048, .f32⟩
  | .hbm, ⟨101, _⟩ => ⟨S256x2048, .f32⟩
  | .hbm, ⟨102, _⟩ => ⟨S_, .f32⟩
  | .hbm, ⟨103, _⟩ => ⟨S2048, .f32⟩
  | .hbm, ⟨104, _⟩ => ⟨S1x2048, .f32⟩
  | .hbm, ⟨105, _⟩ => ⟨S_, .f32⟩
  | .hbm, ⟨106, _⟩ => ⟨S4x2048, .f32⟩
  | .hbm, ⟨107, _⟩ => ⟨S4x2048, .f32⟩
  | .hbm, ⟨108, _⟩ => ⟨S_, .f32⟩
  | .hbm, ⟨109, _⟩ => ⟨S259x2048, .f32⟩
  | .hbm, ⟨110, _⟩ => ⟨S259x2048, .f32⟩
  | .hbm, ⟨111, _⟩ => ⟨S2x2048, .f32⟩
  | .hbm, ⟨112, _⟩ => ⟨S256x2048, .f32⟩
  | .hbm, ⟨113, _⟩ => ⟨S1x2048, .f32⟩
  | .hbm, ⟨114, _⟩ => ⟨S256x2048, .bf16⟩
  | .hbm, ⟨115, _⟩ => ⟨S1x2048, .f32⟩
  | .hbm, ⟨116, _⟩ => ⟨S_, .f32⟩
  | .hbm, ⟨117, _⟩ => ⟨S3x2048, .f32⟩
  | .hbm, ⟨118, _⟩ => ⟨S8x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_14 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_15 : Ref sig .tc := ⟨.hbm, 87, rfl⟩
abbrev main_v67 : Ref sig .tc := ⟨.hbm, 88, rfl⟩
abbrev main_v68 : Ref sig .tc := ⟨.hbm, 89, rfl⟩
abbrev main_cst_16 : Ref sig .tc := ⟨.hbm, 90, rfl⟩
abbrev main_v69 : Ref sig .tc := ⟨.hbm, 91, rfl⟩
abbrev main_v70 : Ref sig .tc := ⟨.hbm, 92, rfl⟩
abbrev main_cst_17 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_18 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_19 : Ref sig .tc := ⟨.hbm, 102, rfl⟩
abbrev main_v78 : Ref sig .tc := ⟨.hbm, 103, rfl⟩
abbrev main_v79 : Ref sig .tc := ⟨.hbm, 104, rfl⟩
abbrev main_cst_20 : Ref sig .tc := ⟨.hbm, 105, rfl⟩
abbrev main_v80 : Ref sig .tc := ⟨.hbm, 106, rfl⟩
abbrev main_v81 : Ref sig .tc := ⟨.hbm, 107, rfl⟩
abbrev main_cst_21 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_22 : Ref sig .tc := ⟨.hbm, 116, rfl⟩
abbrev main_v89 : Ref sig .tc := ⟨.hbm, 117, rfl⟩
abbrev main_v90 : Ref sig .tc := ⟨.hbm, 118, rfl⟩

abbrev nD : Nat := 1
abbrev τ : Topo := Topo.v7x

variable {F : FTy → Type} [FloatOps F]
-- ==== LruCtx.lean ====
abbrev S256x2048 : Shape := ⟨2, ![256, 2048]⟩
abbrev S1x2048 : Shape := ⟨2, ![1, 2048]⟩
abbrev S2x16x128x128 : Shape := ⟨4, ![2, 16, 128, 128]⟩
abbrev S2x2048 : Shape := ⟨2, ![2, 2048]⟩
abbrev S_ : Shape := ⟨0, ![]⟩
abbrev S2x1x2048 : Shape := ⟨3, ![2, 1, 2048]⟩
abbrev S1x16x128x128 : Shape := ⟨4, ![1, 16, 128, 128]⟩
abbrev S16x128x128 : Shape := ⟨3, ![16, 128, 128]⟩
abbrev S2048 : Shape := ⟨1, ![2048]⟩
abbrev S256x16x128 : Shape := ⟨3, ![256, 16, 128]⟩
abbrev S16x128x256 : Shape := ⟨3, ![16, 128, 256]⟩
abbrev S255x2048 : Shape := ⟨2, ![255, 2048]⟩
abbrev S128x2048 : Shape := ⟨2, ![128, 2048]⟩
abbrev S64x2048 : Shape := ⟨2, ![64, 2048]⟩
abbrev S32x2048 : Shape := ⟨2, ![32, 2048]⟩
abbrev S16x2048 : Shape := ⟨2, ![16, 2048]⟩
abbrev S8x2048 : Shape := ⟨2, ![8, 2048]⟩
abbrev S4x2048 : Shape := ⟨2, ![4, 2048]⟩
abbrev S0x2048 : Shape := ⟨2, ![0, 2048]⟩
abbrev S3x2048 : Shape := ⟨2, ![3, 2048]⟩
abbrev S7x2048 : Shape := ⟨2, ![7, 2048]⟩
abbrev S15x2048 : Shape := ⟨2, ![15, 2048]⟩
abbrev S31x2048 : Shape := ⟨2, ![31, 2048]⟩
abbrev S63x2048 : Shape := ⟨2, ![63, 2048]⟩
abbrev S127x2048 : Shape := ⟨2, ![127, 2048]⟩
abbrev S256x512 : Shape := ⟨2, ![256, 512]⟩
abbrev S16x512 : Shape := ⟨2, ![16, 512]⟩
abbrev S1x4x128x128 : Shape := ⟨4, ![1, 4, 128, 128]⟩
abbrev S1x1x512 : Shape := ⟨3, ![1, 1, 512]⟩
abbrev S1x512 : Shape := ⟨2, ![1, 512]⟩
abbrev S4x128x128 : Shape := ⟨3, ![4, 128, 128]⟩
abbrev S8x512 : Shape := ⟨2, ![8, 512]⟩
abbrev S4x544x128 : Shape := ⟨3, ![4, 544, 128]⟩
abbrev S256x128 : Shape := ⟨2, ![256, 128]⟩
abbrev S1x1x128x128 : Shape := ⟨4, ![1, 1, 128, 128]⟩
abbrev S128x128 : Shape := ⟨2, ![128, 128]⟩
abbrev S1x128 : Shape := ⟨2, ![1, 128]⟩
abbrev S8x128 : Shape := ⟨2, ![8, 128]⟩
abbrev S1x8x128 : Shape := ⟨3, ![1, 8, 128]⟩
abbrev S272x512 : Shape := ⟨2, ![272, 512]⟩
abbrev S1x128x128 : Shape := ⟨3, ![1, 128, 128]⟩
abbrev S128 : Shape := ⟨1, ![128]⟩
abbrev S2x512 : Shape := ⟨2, ![2, 512]⟩

abbrev nBuf : Space → Nat
  | .hbm => 332
  | .vmem => 40
  | .smem => 0
  | _ => 0

abbrev hbmTy0_0 (i : Nat) : BufTy := match i % 128 with
  | 0 => ⟨S256x2048, .f32⟩
  | 1 => ⟨S256x2048, .bf16⟩
  | 2 => ⟨S1x2048, .f32⟩
  | 3 => ⟨S1x2048, .f32⟩
  | 4 => ⟨S2x16x128x128, .f32⟩
  | 5 => ⟨S2x2048, .f32⟩
  | 6 => ⟨S2x16x128x128, .f32⟩
  | 7 => ⟨S2x2048, .f32⟩
  | 8 => ⟨S2x2048, .f32⟩
  | 9 => ⟨S_, .f32⟩
  | 10 => ⟨S2x16x128x128, .f32⟩
  | 11 => ⟨S2x16x128x128, .f32⟩
  | 12 => ⟨S2x16x128x128, .bf16⟩
  | 13 => ⟨S_, .f32⟩
  | 14 => ⟨S2x16x128x128, .f32⟩
  | 15 => ⟨S2x16x128x128, .f32⟩
  | 16 => ⟨S2x16x128x128, .bf16⟩
  | 17 => ⟨S2x1x2048, .f32⟩
  | 18 => ⟨S_, .f32⟩
  | 19 => ⟨S2x1x2048, .f32⟩
  | 20 => ⟨S2x1x2048, .f32⟩
  | 21 => ⟨S2x1x2048, .f32⟩
  | 22 => ⟨S_, .f32⟩
  | 23 => ⟨S2x1x2048, .f32⟩
  | 24 => ⟨S2x1x2048, .f32⟩
  | 25 => ⟨S2x1x2048, .f32⟩
  | 26 => ⟨S1x16x128x128, .f32⟩
  | 27 => ⟨S16x128x128, .f32⟩
  | 28 => ⟨S1x2048, .f32⟩
  | 29 => ⟨S2048, .f32⟩
  | 30 => ⟨S1x16x128x128, .f32⟩
  | 31 => ⟨S16x128x128, .f32⟩
  | 32 => ⟨S1x2048, .f32⟩
  | 33 => ⟨S2048, .f32⟩
  | 34 => ⟨S1x2048, .f32⟩
  | 35 => ⟨S2048, .f32⟩
  | 36 => ⟨S256x16x128, .f32⟩
  | 37 => ⟨S16x128x256, .f32⟩
  | 38 => ⟨S256x16x128, .f32⟩
  | 39 => ⟨S256x2048, .f32⟩
  | 40 => ⟨S1x2048, .f32⟩
  | 41 => ⟨S256x2048, .f32⟩
  | 42 => ⟨S256x2048, .f32⟩
  | 43 => ⟨S256x2048, .f32⟩
  | 44 => ⟨S256x2048, .f32⟩
  | 45 => ⟨S_, .f32⟩
  | 46 => ⟨S256x2048, .f32⟩
  | 47 => ⟨S256x2048, .f32⟩
  | 48 => ⟨S_, .f32⟩
  | 49 => ⟨S256x2048, .f32⟩
  | 50 => ⟨S256x2048, .f32⟩
  | 51 => ⟨S16x128x256, .f32⟩
  | 52 => ⟨S256x16x128, .f32⟩
  | 53 => ⟨S256x2048, .f32⟩
  | 54 => ⟨S1x2048, .f32⟩
  | 55 => ⟨S256x2048, .f32⟩
  | 56 => ⟨S256x2048, .f32⟩
  | 57 => ⟨S256x2048, .f32⟩
  | 58 => ⟨S256x2048, .f32⟩
  | 59 => ⟨S_, .f32⟩
  | 60 => ⟨S256x2048, .f32⟩
  | 61 => ⟨S256x2048, .f32⟩
  | 62 => ⟨S_, .f32⟩
  | 63 => ⟨S256x2048, .f32⟩
  | 64 => ⟨S256x2048, .f32⟩
  | 65 => ⟨S_, .f32⟩
  | 66 => ⟨S256x2048, .f32⟩
  | 67 => ⟨S256x2048, .f32⟩
  | 68 => ⟨S2048, .f32⟩
  | 69 => ⟨S_, .f32⟩
  | 70 => ⟨S2048, .f32⟩
  | 71 => ⟨S2048, .f32⟩
  | 72 => ⟨S2048, .f32⟩
  | 73 => ⟨S2048, .f32⟩
  | 74 => ⟨S2048, .i1⟩
  | 75 => ⟨S2048, .f32⟩
  | 76 => ⟨S2048, .f32⟩
  | 77 => ⟨S2048, .f32⟩
  | 78 => ⟨S2048, .f32⟩
  | 79 => ⟨S2048, .f32⟩
  | 80 => ⟨S2048, .f32⟩
  | 81 => ⟨S2048, .f32⟩
  | 82 => ⟨S2048, .f32⟩
  | 83 => ⟨S2048, .f32⟩
  | 84 => ⟨S1x2048, .f32⟩
  | 85 => ⟨S256x2048, .f32⟩
  | 86 => ⟨S256x2048, .f32⟩
  | 87 => ⟨S256x2048, .f32⟩
  | 88 => ⟨S_, .f32⟩
  | 89 => ⟨S256x2048, .f32⟩
  | 90 => ⟨S256x2048, .f32⟩
  | 91 => ⟨S256x2048, .f32⟩
  | 92 => ⟨S256x2048, .f32⟩
  | 93 => ⟨S256x2048, .f32⟩
  | 94 => ⟨S256x2048, .f32⟩
  | 95 => ⟨S256x2048, .f32⟩
  | 96 => ⟨S1x2048, .f32⟩
  | 97 => ⟨S1x2048, .f32⟩
  | 98 => ⟨S1x2048, .f32⟩
  | 99 => ⟨S1x2048, .f32⟩
  | 100 => ⟨S255x2048, .f32⟩
  | 101 => ⟨S256x2048, .f32⟩
  | 102 => ⟨S128x2048, .f32⟩
  | 103 => ⟨S128x2048, .f32⟩
  | 104 => ⟨S128x2048, .f32⟩
  | 105 => ⟨S128x2048, .f32⟩
  | 106 => ⟨S128x2048, .f32⟩
  | 107 => ⟨S128x2048, .f32⟩
  | 108 => ⟨S128x2048, .f32⟩
  | 109 => ⟨S64x2048, .f32⟩
  | 110 => ⟨S64x2048, .f32⟩
  | 111 => ⟨S64x2048, .f32⟩
  | 112 => ⟨S64x2048, .f32⟩
  | 113 => ⟨S64x2048, .f32⟩
  | 114 => ⟨S64x2048, .f32⟩
  | 115 => ⟨S64x2048, .f32⟩
  | 116 => ⟨S32x2048, .f32⟩
  | 117 => ⟨S32x2048, .f32⟩
  | 118 => ⟨S32x2048, .f32⟩
  | 119 => ⟨S32x2048, .f32⟩
  | 120 => ⟨S32x2048, .f32⟩
  | 121 => ⟨S32x2048, .f32⟩
  | 122 => ⟨S32x2048, .f32⟩
  | 123 => ⟨S16x2048, .f32⟩
  | 124 => ⟨S16x2048, .f32⟩
  | 125 => ⟨S16x2048, .f32⟩
  | 126 => ⟨S16x2048, .f32⟩
  | 127 => ⟨S16x2048, .f32⟩
  | _ => ⟨S256x2048, .f32⟩

abbrev hbmTy0_1 (i : Nat) : BufTy := match i % 128 with
  | 0 => ⟨S16x2048, .f32⟩
  | 1 => ⟨S16x2048, .f32⟩
  | 2 => ⟨S8x2048, .f32⟩
  | 3 => ⟨S8x2048, .f32⟩
  | 4 => ⟨S8x2048, .f32⟩
  | 5 => ⟨S8x2048, .f32⟩
  | 6 => ⟨S8x2048, .f32⟩
  | 7 => ⟨S8x2048, .f32⟩
  | 8 => ⟨S8x2048, .f32⟩
  | 9 => ⟨S4x2048, .f32⟩
  | 10 => ⟨S4x2048, .f32⟩
  | 11 => ⟨S4x2048, .f32⟩
  | 12 => ⟨S4x2048, .f32⟩
  | 13 => ⟨S4x2048, .f32⟩
  | 14 => ⟨S4x2048, .f32⟩
  | 15 => ⟨S4x2048, .f32⟩
  | 16 => ⟨S2x2048, .f32⟩
  | 17 => ⟨S2x2048, .f32⟩
  | 18 => ⟨S2x2048, .f32⟩
  | 19 => ⟨S2x2048, .f32⟩
  | 20 => ⟨S2x2048, .f32⟩
  | 21 => ⟨S2x2048, .f32⟩
  | 22 => ⟨S2x2048, .f32⟩
  | 23 => ⟨S1x2048, .f32⟩
  | 24 => ⟨S1x2048, .f32⟩
  | 25 => ⟨S1x2048, .f32⟩
  | 26 => ⟨S1x2048, .f32⟩
  | 27 => ⟨S1x2048, .f32⟩
  | 28 => ⟨S1x2048, .f32⟩
  | 29 => ⟨S1x2048, .f32⟩
  | 30 => ⟨S0x2048, .f32⟩
  | 31 => ⟨S0x2048, .f32⟩
  | 32 => ⟨S0x2048, .f32⟩
  | 33 => ⟨S0x2048, .f32⟩
  | 34 => ⟨S0x2048, .f32⟩
  | 35 => ⟨S0x2048, .f32⟩
  | 36 => ⟨S0x2048, .f32⟩
  | 37 => ⟨S1x2048, .f32⟩
  | 38 => ⟨S1x2048, .f32⟩
  | 39 => ⟨S1x2048, .f32⟩
  | 40 => ⟨S1x2048, .f32⟩
  | 41 => ⟨S_, .f32⟩
  | 42 => ⟨S2x2048, .f32⟩
  | 43 => ⟨S_, .f32⟩
  | 44 => ⟨S2x2048, .f32⟩
  | 45 => ⟨S2x2048, .f32⟩
  | 46 => ⟨S_, .f32⟩
  | 47 => ⟨S2x2048, .f32⟩
  | 48 => ⟨S_, .f32⟩
  | 49 => ⟨S2x2048, .f32⟩
  | 50 => ⟨S2x2048, .f32⟩
  | 51 => ⟨S1x2048, .f32⟩
  | 52 => ⟨S1x2048, .f32⟩
  | 53 => ⟨S1x2048, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S2x2048, .f32⟩
  | 60 => ⟨S1x2048, .f32⟩
  | 61 => ⟨S2x2048, .f32⟩
  | 62 => ⟨S_, .f32⟩
  | 63 => ⟨S4x2048, .f32⟩
  | 64 => ⟨S_, .f32⟩
  | 65 => ⟨S4x2048, .f32⟩
  | 66 => ⟨S4x2048, .f32⟩
  | 67 => ⟨S_, .f32⟩
  | 68 => ⟨S4x2048, .f32⟩
  | 69 => ⟨S_, .f32⟩
  | 70 => ⟨S4x2048, .f32⟩
  | 71 => ⟨S4x2048, .f32⟩
  | 72 => ⟨S3x2048, .f32⟩
  | 73 => ⟨S3x2048, .f32⟩
  | 74 => ⟨S3x2048, .f32⟩
  | 75 => ⟨S3x2048, .f32⟩
  | 76 => ⟨S3x2048, .f32⟩
  | 77 => ⟨S3x2048, .f32⟩
  | 78 => ⟨S3x2048, .f32⟩
  | 79 => ⟨S1x2048, .f32⟩
  | 80 => ⟨S4x2048, .f32⟩
  | 81 => ⟨S1x2048, .f32⟩
  | 82 => ⟨S4x2048, .f32⟩
  | 83 => ⟨S_, .f32⟩
  | 84 => ⟨S8x2048, .f32⟩
  | 85 => ⟨S_, .f32⟩
  | 86 => ⟨S8x2048, .f32⟩
  | 87 => ⟨S8x2048, .f32⟩
  | 88 => ⟨S_, .f32⟩
  | 89 => ⟨S8x2048, .f32⟩
  | 90 => ⟨S_, .f32⟩
  | 91 => ⟨S8x2048, .f32⟩
  | 92 => ⟨S8x2048, .f32⟩
  | 93 => ⟨S7x2048, .f32⟩
  | 94 => ⟨S7x2048, .f32⟩
  | 95 => ⟨S7x2048, .f32⟩
  | 96 => ⟨S7x2048, .f32⟩
  | 97 => ⟨S7x2048, .f32⟩
  | 98 => ⟨S7x2048, .f32⟩
  | 99 => ⟨S7x2048, .f32⟩
  | 100 => ⟨S1x2048, .f32⟩
  | 101 => ⟨S8x2048, .f32⟩
  | 102 => ⟨S1x2048, .f32⟩
  | 103 => ⟨S8x2048, .f32⟩
  | 104 => ⟨S_, .f32⟩
  | 105 => ⟨S16x2048, .f32⟩
  | 106 => ⟨S_, .f32⟩
  | 107 => ⟨S16x2048, .f32⟩
  | 108 => ⟨S16x2048, .f32⟩
  | 109 => ⟨S_, .f32⟩
  | 110 => ⟨S16x2048, .f32⟩
  | 111 => ⟨S_, .f32⟩
  | 112 => ⟨S16x2048, .f32⟩
  | 113 => ⟨S16x2048, .f32⟩
  | 114 => ⟨S15x2048, .f32⟩
  | 115 => ⟨S15x2048, .f32⟩
  | 116 => ⟨S15x2048, .f32⟩
  | 117 => ⟨S15x2048, .f32⟩
  | 118 => ⟨S15x2048, .f32⟩
  | 119 => ⟨S15x2048, .f32⟩
  | 120 => ⟨S15x2048, .f32⟩
  | 121 => ⟨S1x2048, .f32⟩
  | 122 => ⟨S16x2048, .f32⟩
  | 123 => ⟨S1x2048, .f32⟩
  | 124 => ⟨S16x2048, .f32⟩
  | 125 => ⟨S_, .f32⟩
  | 126 => ⟨S32x2048, .f32⟩
  | 127 => ⟨S_, .f32⟩
  | _ => ⟨S256x2048, .f32⟩

abbrev hbmTy0_2 (i : Nat) : BufTy := match i % 128 with
  | 0 => ⟨S32x2048, .f32⟩
  | 1 => ⟨S32x2048, .f32⟩
  | 2 => ⟨S_, .f32⟩
  | 3 => ⟨S32x2048, .f32⟩
  | 4 => ⟨S_, .f32⟩
  | 5 => ⟨S32x2048, .f32⟩
  | 6 => ⟨S32x2048, .f32⟩
  | 7 => ⟨S31x2048, .f32⟩
  | 8 => ⟨S31x2048, .f32⟩
  | 9 => ⟨S31x2048, .f32⟩
  | 10 => ⟨S31x2048, .f32⟩
  | 11 => ⟨S31x2048, .f32⟩
  | 12 => ⟨S31x2048, .f32⟩
  | 13 => ⟨S31x2048, .f32⟩
  | 14 => ⟨S1x2048, .f32⟩
  | 15 => ⟨S32x2048, .f32⟩
  | 16 => ⟨S1x2048, .f32⟩
  | 17 => ⟨S32x2048, .f32⟩
  | 18 => ⟨S_, .f32⟩
  | 19 => ⟨S64x2048, .f32⟩
  | 20 => ⟨S_, .f32⟩
  | 21 => ⟨S64x2048, .f32⟩
  | 22 => ⟨S64x2048, .f32⟩
  | 23 => ⟨S_, .f32⟩
  | 24 => ⟨S64x2048, .f32⟩
  | 25 => ⟨S_, .f32⟩
  | 26 => ⟨S64x2048, .f32⟩
  | 27 => ⟨S64x2048, .f32⟩
  | 28 => ⟨S63x2048, .f32⟩
  | 29 => ⟨S63x2048, .f32⟩
  | 30 => ⟨S63x2048, .f32⟩
  | 31 => ⟨S63x2048, .f32⟩
  | 32 => ⟨S63x2048, .f32⟩
  | 33 => ⟨S63x2048, .f32⟩
  | 34 => ⟨S63x2048, .f32⟩
  | 35 => ⟨S1x2048, .f32⟩
  | 36 => ⟨S64x2048, .f32⟩
  | 37 => ⟨S1x2048, .f32⟩
  | 38 => ⟨S64x2048, .f32⟩
  | 39 => ⟨S_, .f32⟩
  | 40 => ⟨S128x2048, .f32⟩
  | 41 => ⟨S_, .f32⟩
  | 42 => ⟨S128x2048, .f32⟩
  | 43 => ⟨S128x2048, .f32⟩
  | 44 => ⟨S_, .f32⟩
  | 45 => ⟨S128x2048, .f32⟩
  | 46 => ⟨S_, .f32⟩
  | 47 => ⟨S128x2048, .f32⟩
  | 48 => ⟨S128x2048, .f32⟩
  | 49 => ⟨S127x2048, .f32⟩
  | 50 => ⟨S127x2048, .f32⟩
  | 51 => ⟨S127x2048, .f32⟩
  | 52 => ⟨S127x2048, .f32⟩
  | 53 => ⟨S127x2048, .f32⟩
  | 54 => ⟨S127x2048, .f32⟩
  | 55 => ⟨S127x2048, .f32⟩
  | 56 => ⟨S1x2048, .f32⟩
  | 57 => ⟨S128x2048, .f32⟩
  | 58 => ⟨S1x2048, .f32⟩
  | 59 => ⟨S128x2048, .f32⟩
  | 60 => ⟨S_, .f32⟩
  | 61 => ⟨S256x2048, .f32⟩
  | 62 => ⟨S_, .f32⟩
  | 63 => ⟨S256x2048, .f32⟩
  | 64 => ⟨S256x2048, .f32⟩
  | 65 => ⟨S_, .f32⟩
  | 66 => ⟨S256x2048, .f32⟩
  | 67 => ⟨S_, .f32⟩
  | 68 => ⟨S256x2048, .f32⟩
  | 69 => ⟨S256x2048, .f32⟩
  | 70 => ⟨S256x2048, .bf16⟩
  | 71 => ⟨S256x2048, .bf16⟩
  | 72 => ⟨S16x128x128, .f32⟩
  | 73 => ⟨S16x128x128, .f32⟩
  | 74 => ⟨S8x2048, .f32⟩
  | 75 => ⟨S1x2048, .f32⟩
  | _ => ⟨S256x2048, .f32⟩

abbrev hbmTy (i : Nat) : BufTy := match i / 128 with
  | 0 => hbmTy0_0 i
  | 1 => hbmTy0_1 i
  | 2 => hbmTy0_2 i
  | _ => ⟨S256x2048, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S16x512, .bf16⟩
  | .local _ .vmem, ⟨7, _⟩ => ⟨S16x512, .bf16⟩
  | .local _ .vmem, ⟨8, _⟩ => ⟨S1x4x128x128, .bf16⟩
  | .local _ .vmem, ⟨9, _⟩ => ⟨S1x4x128x128, .bf16⟩
  | .local _ .vmem, ⟨10, _⟩ => ⟨S1x4x128x128, .bf16⟩
  | .local _ .vmem, ⟨11, _⟩ => ⟨S1x4x128x128, .bf16⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S256x512, .bf16⟩
  | .local _ .vmem, ⟨23, _⟩ => ⟨S256x512, .bf16⟩
  | .local _ .vmem, ⟨24, _⟩ => ⟨S4x128x128, .f32⟩
  | .local _ .vmem, ⟨25, _⟩ => ⟨S4x128x128, .f32⟩
  | .local _ .vmem, ⟨26, _⟩ => ⟨S4x128x128, .f32⟩
  | .local _ .vmem, ⟨27, _⟩ => ⟨S4x128x128, .f32⟩
  | .local _ .vmem, ⟨28, _⟩ => ⟨S8x512, .f32⟩
  | .local _ .vmem, ⟨29, _⟩ => ⟨S8x512, .f32⟩
  | .local _ .vmem, ⟨30, _⟩ => ⟨S1x512, .f32⟩
  | .local _ .vmem, ⟨31, _⟩ => ⟨S1x512, .f32⟩
  | .local _ .vmem, ⟨32, _⟩ => ⟨S4x544x128, .f32⟩
  | .local _ .vmem, ⟨33, _⟩ => ⟨S4x544x128, .f32⟩
  | .local _ .vmem, ⟨34, _⟩ => ⟨S256x512, .f32⟩
  | .local _ .vmem, ⟨35, _⟩ => ⟨S256x512, .bf16⟩
  | .local _ .vmem, ⟨36, _⟩ => ⟨S256x512, .bf16⟩
  | .local _ .vmem, ⟨37, _⟩ => ⟨S256x512, .bf16⟩
  | .local _ .vmem, ⟨38, _⟩ => ⟨S256x512, .bf16⟩
  | .local _ .vmem, ⟨39, _⟩ => ⟨S256x512, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_call0_v0 : Ref sig .tc := ⟨.hbm, 68, rfl⟩
abbrev main_call0_call0_cst : Ref sig .tc := ⟨.hbm, 69, rfl⟩
abbrev main_call0_call0_v0 : Ref sig .tc := ⟨.hbm, 70, rfl⟩
abbrev main_call0_call0_v1 : Ref sig .tc := ⟨.hbm, 71, rfl⟩
abbrev main_call0_call0_v2 : Ref sig .tc := ⟨.hbm, 72, rfl⟩
abbrev main_call0_call0_v3 : Ref sig .tc := ⟨.hbm, 73, rfl⟩
abbrev main_call0_call0_v4 : Ref sig .tc := ⟨.hbm, 74, rfl⟩
abbrev main_call0_call0_v5 : Ref sig .tc := ⟨.hbm, 75, rfl⟩
abbrev main_call0_call0_v6 : Ref sig .tc := ⟨.hbm, 76, rfl⟩
abbrev main_call0_call0_v7 : Ref sig .tc := ⟨.hbm, 77, rfl⟩
abbrev main_call0_call0_v8 : Ref sig .tc := ⟨.hbm, 78, rfl⟩
abbrev main_call0_call0_v9 : Ref sig .tc := ⟨.hbm, 79, rfl⟩
abbrev main_call0_call0_v10 : Ref sig .tc := ⟨.hbm, 80, rfl⟩
abbrev main_call0_call0_v11 : Ref sig .tc := ⟨.hbm, 81, rfl⟩
abbrev main_call0_v1 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_8 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_9 : Ref sig .tc := ⟨.hbm, 169, rfl⟩
abbrev main_v135 : Ref sig .tc := ⟨.hbm, 170, rfl⟩
abbrev main_cst_10 : Ref sig .tc := ⟨.hbm, 171, rfl⟩
abbrev main_v136 : Ref sig .tc := ⟨.hbm, 172, rfl⟩
abbrev main_v137 : Ref sig .tc := ⟨.hbm, 173, rfl⟩
abbrev main_cst_11 : Ref sig .tc := ⟨.hbm, 174, rfl⟩
abbrev main_v138 : Ref sig .tc := ⟨.hbm, 175, rfl⟩
abbrev main_cst_12 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_13 : Ref sig .tc := ⟨.hbm, 190, rfl⟩
abbrev main_v152 : Ref sig .tc := ⟨.hbm, 191, rfl⟩
abbrev main_cst_14 : Ref sig .tc := ⟨.hbm, 192, rfl⟩
abbrev main_v153 : Ref sig .tc := ⟨.hbm, 193, rfl⟩
abbrev main_v154 : Ref sig .tc := ⟨.hbm, 194, rfl⟩
abbrev main_cst_15 : Ref sig .tc := ⟨.hbm, 195, rfl⟩
abbrev main_v155 : Ref sig .tc := ⟨.hbm, 196, rfl⟩
abbrev main_cst_16 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_17 : Ref sig .tc := ⟨.hbm, 211, rfl⟩
abbrev main_v169 : Ref sig .tc := ⟨.hbm, 212, rfl⟩
abbrev main_cst_18 : Ref sig .tc := ⟨.hbm, 213, rfl⟩
abbrev main_v170 : Ref sig .tc := ⟨.hbm, 214, rfl⟩
abbrev main_v171 : Ref sig .tc := ⟨.hbm, 215, rfl⟩
abbrev main_cst_19 : Ref sig .tc := ⟨.hbm, 216, rfl⟩
abbrev main_v172 : Ref sig .tc := ⟨.hbm, 217, rfl⟩
abbrev main_cst_20 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_cst_21 : Ref sig .tc := ⟨.hbm, 232, rfl⟩
abbrev main_v186 : Ref sig .tc := ⟨.hbm, 233, rfl⟩
abbrev main_cst_22 : Ref sig .tc := ⟨.hbm, 234, rfl⟩
abbrev main_v187 : Ref sig .tc := ⟨.hbm, 235, rfl⟩
abbrev main_v188 : Ref sig .tc := ⟨.hbm, 236, rfl⟩
abbrev main_cst_23 : Ref sig .tc := ⟨.hbm, 237, rfl⟩
abbrev main_v189 : Ref sig .tc := ⟨.hbm, 238, rfl⟩
abbrev main_cst_24 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_cst_25 : Ref sig .tc := ⟨.hbm, 253, rfl⟩
abbrev main_v203 : Ref sig .tc := ⟨.hbm, 254, rfl⟩
abbrev main_cst_26 : Ref sig .tc := ⟨.hbm, 255, rfl⟩
abbrev main_v204 : Ref sig .tc := ⟨.hbm, 256, rfl⟩
abbrev main_v205 : Ref sig .tc := ⟨.hbm, 257, rfl⟩
abbrev main_cst_27 : Ref sig .tc := ⟨.hbm, 258, rfl⟩
abbrev main_v206 : Ref sig .tc := ⟨.hbm, 259, rfl⟩
abbrev main_cst_28 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_cst_29 : Ref sig .tc := ⟨.hbm, 274, rfl⟩
abbrev main_v220 : Ref sig .tc := ⟨.hbm, 275, rfl⟩
abbrev main_cst_30 : Ref sig .tc := ⟨.hbm, 276, rfl⟩
abbrev main_v221 : Ref sig .tc := ⟨.hbm, 277, rfl⟩
abbrev main_v222 : Ref sig .tc := ⟨.hbm, 278, rfl⟩
abbrev main_cst_31 : Ref sig .tc := ⟨.hbm, 279, rfl⟩
abbrev main_v223 : Ref sig .tc := ⟨.hbm, 280, rfl⟩
abbrev main_cst_32 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_cst_33 : Ref sig .tc := ⟨.hbm, 295, rfl⟩
abbrev main_v237 : Ref sig .tc := ⟨.hbm, 296, rfl⟩
abbrev main_cst_34 : Ref sig .tc := ⟨.hbm, 297, rfl⟩
abbrev main_v238 : Ref sig .tc := ⟨.hbm, 298, rfl⟩
abbrev main_v239 : Ref sig .tc := ⟨.hbm, 299, rfl⟩
abbrev main_cst_35 : Ref sig .tc := ⟨.hbm, 300, rfl⟩
abbrev main_v240 : Ref sig .tc := ⟨.hbm, 301, rfl⟩
abbrev main_cst_36 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_cst_37 : Ref sig .tc := ⟨.hbm, 316, rfl⟩
abbrev main_v254 : Ref sig .tc := ⟨.hbm, 317, rfl⟩
abbrev main_cst_38 : Ref sig .tc := ⟨.hbm, 318, rfl⟩
abbrev main_v255 : Ref sig .tc := ⟨.hbm, 319, rfl⟩
abbrev main_v256 : Ref sig .tc := ⟨.hbm, 320, rfl⟩
abbrev main_cst_39 : Ref sig .tc := ⟨.hbm, 321, rfl⟩
abbrev main_v257 : Ref sig .tc := ⟨.hbm, 322, rfl⟩
abbrev main_cst_40 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_v261_0 : Ref sig .tc := ⟨.hbm, 327, rfl⟩
abbrev main_v261_1 : Ref sig .tc := ⟨.hbm, 328, rfl⟩
abbrev main_v261_2 : Ref sig .tc := ⟨.hbm, 329, rfl⟩
abbrev main_v261_3 : Ref sig .tc := ⟨.hbm, 330, rfl⟩
abbrev main_v261_4 : Ref sig .tc := ⟨.hbm, 331, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 1], ![false, false]⟩

@[reducible] def k0_t1_loop : Scf.Loop 32 :=
  let c0_i32_871 : BitVec 32 := 0#32
  let c8_i32 : BitVec 32 := 8#32
  let v1318 : BitVec 32 := Scalar.addi c0_i32_871 c8_i32
  let c1_i32 : BitVec 32 := 1#32
  ⟨c0_i32_871, v1318, c1_i32⟩
def k0_off1 (k0_t1 : Fin k0_t1_loop.trips) (c3_i32 : BitVec 32) : Fin 3 → Nat :=
  let c0_2115 : Index := 0#32
  let c7_i32 : BitVec 32 := 7#32
  let c0_i32_871 : BitVec 32 := 0#32
  let c1_i32 : BitVec 32 := 1#32
  let arg26 : BitVec 32 := Scf.iv c0_i32_871 c1_i32 k0_t1
  let v3121 : BitVec 32 := Scalar.subi c7_i32 arg26
  let c4_i32 : BitVec 32 := 4#32
  let v3122 : BitVec 32 := Scalar.muli v3121 c4_i32
  let v3123 : BitVec 32 := Scalar.addi v3122 c3_i32
  let c17_i32 : BitVec 32 := 17#32
  let v3124 : BitVec 32 := Scalar.muli v3123 c17_i32
  let v3125 : Index := Scalar.indexCast v3124
  let c0_2116 : Index := 0#32
  ![0, v3125.toNat, 0]
def k0_off2 (k0_t1 : Fin k0_t1_loop.trips) (c3_i32 : BitVec 32) : Fin 3 → Nat :=
  let c1_2123 : Index := 1#32
  let c7_i32 : BitVec 32 := 7#32
  let c0_i32_871 : BitVec 32 := 0#32
  let c1_i32 : BitVec 32 := 1#32
  let arg26 : BitVec 32 := Scf.iv c0_i32_871 c1_i32 k0_t1
  let v3121 : BitVec 32 := Scalar.subi c7_i32 arg26
  let c4_i32 : BitVec 32 := 4#32
  let v3122 : BitVec 32 := Scalar.muli v3121 c4_i32
  let v3123 : BitVec 32 := Scalar.addi v3122 c3_i32
  let c17_i32 : BitVec 32 := 17#32
  let v3124 : BitVec 32 := Scalar.muli v3123 c17_i32
  let v3142 : Index := Scalar.indexCast v3124
  let c0_2124 : Index := 0#32
  ![1, v3142.toNat, 0]
def k0_off3 (k0_t1 : Fin k0_t1_loop.trips) (c3_i32 : BitVec 32) : Fin 3 → Nat :=
  let c2_2131 : Index := 2#32
  let c7_i32 : BitVec 32 := 7#32
  let c0_i32_871 : BitVec 32 := 0#32
  let c1_i32 : BitVec 32 := 1#32
  let arg26 : BitVec 32 := Scf.iv c0_i32_871 c1_i32 k0_t1
  let v3121 : BitVec 32 := Scalar.subi c7_i32 arg26
  let c4_i32 : BitVec 32 := 4#32
  let v3122 : BitVec 32 := Scalar.muli v3121 c4_i32
  let v3123 : BitVec 32 := Scalar.addi v3122 c3_i32
  let c17_i32 : BitVec 32 := 17#32
  let v3124 : BitVec 32 := Scalar.muli v3123 c17_i32
  let v3159 : Index := Scalar.indexCast v3124
  let c0_2132 : Index := 0#32
  ![2, v3159.toNat, 0]
def k0_off4 (k0_t1 : Fin k0_t1_loop.trips) (c3_i32 : BitVec 32) : Fin 3 → Nat :=
  let c3_2139 : Index := 3#32
  let c7_i32 : BitVec 32 := 7#32
  let c0_i32_871 : BitVec 32 := 0#32
  let c1_i32 : BitVec 32 := 1#32
  let arg26 : BitVec 32 := Scf.iv c0_i32_871 c1_i32 k0_t1
  let v3121 : BitVec 32 := Scalar.subi c7_i32 arg26
  let c4_i32 : BitVec 32 := 4#32
  let v3122 : BitVec 32 := Scalar.muli v3121 c4_i32
  let v3123 : BitVec 32 := Scalar.addi v3122 c3_i32
  let c17_i32 : BitVec 32 := 17#32
  let v3124 : BitVec 32 := Scalar.muli v3123 c17_i32
  let v3176 : Index := Scalar.indexCast v3124
  let c0_2140 : Index := 0#32
  ![3, v3176.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c16_i32 : BitVec 32 := 16#32
  let v1 : BitVec 32 := Scalar.muli v0 c16_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  ![v3.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Mod.lean ====
abbrev S8x1024 : Shape := ⟨2, ![8, 1024]⟩
abbrev S1024 : Shape := ⟨1, ![1024]⟩
abbrev S2x8x3072 : Shape := ⟨3, ![2, 8, 3072]⟩
abbrev S8x3072 : Shape := ⟨2, ![8, 3072]⟩
abbrev S2x1024x384 : Shape := ⟨3, ![2, 1024, 384]⟩
abbrev S1x1024 : Shape := ⟨2, ![1, 1024]⟩
abbrev S16x1024 : Shape := ⟨2, ![16, 1024]⟩
abbrev S1x8x3072 : Shape := ⟨3, ![1, 8, 3072]⟩
abbrev S_ : Shape := ⟨0, ![]⟩
abbrev S2x16x3072 : Shape := ⟨3, ![2, 16, 3072]⟩
abbrev S2x16x384 : Shape := ⟨3, ![2, 16, 384]⟩
abbrev S2x1x3072 : Shape := ⟨3, ![2, 1, 3072]⟩
abbrev S1x16x384 : Shape := ⟨3, ![1, 16, 384]⟩
abbrev S16x384 : Shape := ⟨2, ![16, 384]⟩
abbrev S1024x384 : Shape := ⟨2, ![1024, 384]⟩
abbrev S1x1024x384 : Shape := ⟨3, ![1, 1024, 384]⟩
abbrev S1x16x3072 : Shape := ⟨3, ![1, 16, 3072]⟩
abbrev S16x3072 : Shape := ⟨2, ![16, 3072]⟩
abbrev S3072 : Shape := ⟨1, ![3072]⟩
abbrev S1x3072 : Shape := ⟨2, ![1, 3072]⟩
abbrev S1x1x3072 : Shape := ⟨3, ![1, 1, 3072]⟩

abbrev nBuf : Space → Nat
  | .hbm => 17
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x8x3072, .f32⟩
  | .hbm, ⟨3, _⟩ => ⟨S8x3072, .f32⟩
  | .hbm, ⟨4, _⟩ => ⟨S2x1024x384, .f32⟩
  | .hbm, ⟨5, _⟩ => ⟨S1x1024, .f32⟩
  | .hbm, ⟨6, _⟩ => ⟨S8x1024, .f32⟩
  | .hbm, ⟨7, _⟩ => ⟨S16x1024, .f32⟩
  | .hbm, ⟨8, _⟩ => ⟨S1x8x3072, .f32⟩
  | .hbm, ⟨9, _⟩ => ⟨S_, .f32⟩
  | .hbm, ⟨10, _⟩ => ⟨S1x8x3072, .f32⟩
  | .hbm, ⟨11, _⟩ => ⟨S2x8x3072, .f32⟩
  | .hbm, ⟨12, _⟩ => ⟨S2x16x3072, .f32⟩
  | .hbm, ⟨13, _⟩ => ⟨S2x16x384, .f32⟩
  | .hbm, ⟨14, _⟩ => ⟨S2x1024x384, .f32⟩
  | .hbm, ⟨15, _⟩ => ⟨S2x1x3072, .f32⟩
  | .hbm, ⟨16, _⟩ => ⟨S1x1024, .f32⟩
  | .local _ .vmem, ⟨0, _⟩ => ⟨S16x1024, .f32⟩
  | .local _ .vmem, ⟨1, _⟩ => ⟨S2x16x3072, .f32⟩
  | .local _ .vmem, ⟨2, _⟩ => ⟨S2x16x384, .f32⟩
  | .local _ .vmem, ⟨3, _⟩ => ⟨S2x1024x384, .f32⟩
  | .local _ .vmem, ⟨4, _⟩ => ⟨S2x1024x384, .f32⟩
  | .local _ .vmem, ⟨5, _⟩ => ⟨S2x1x3072, .f32⟩
  | .local _ .vmem, ⟨6, _⟩ => ⟨S1x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ModRefIdeal.lean ====
abbrev S8x1024 : Shape := ⟨2, ![8, 1024]⟩
abbrev S1024 : Shape := ⟨1, ![1024]⟩
abbrev S2x8x3072 : Shape := ⟨3, ![2, 8, 3072]⟩
abbrev S8x3072 : Shape := ⟨2, ![8, 3072]⟩
abbrev S2x1024x384 : Shape := ⟨3, ![2, 1024, 384]⟩
abbrev S_ : Shape := ⟨0, ![]⟩
abbrev S2x3072 : Shape := ⟨2, ![2, 3072]⟩
abbrev S1x1024 : Shape := ⟨2, ![1, 1024]⟩
abbrev S1x1024x384 : Shape := ⟨3, ![1, 1024, 384]⟩
abbrev S1024x384 : Shape := ⟨2, ![1024, 384]⟩
abbrev S8x384 : Shape := ⟨2, ![8, 384]⟩
abbrev S1x3072 : Shape := ⟨2, ![1, 3072]⟩
abbrev S3072 : Shape := ⟨1, ![3072]⟩
abbrev S1x8x384 : Shape := ⟨3, ![1, 8, 384]⟩
abbrev S1x8x3072 : Shape := ⟨3, ![1, 8, 3072]⟩
abbrev S384x1024 : Shape := ⟨2, ![384, 1024]⟩
abbrev S2x1x3072 : Shape := ⟨3, ![2, 1, 3072]⟩

abbrev nBuf : Space → Nat
  | .hbm => 104
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x8x3072, .f32⟩
  | .hbm, ⟨3, _⟩ => ⟨S8x3072, .f32⟩
  | .hbm, ⟨4, _⟩ => ⟨S2x1024x384, .f32⟩
  | .hbm, ⟨5, _⟩ => ⟨S_, .f32⟩
  | .hbm, ⟨6, _⟩ => ⟨S2x3072, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S1x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S8x1024, .f32⟩
  | .hbm, ⟨31, _⟩ => ⟨S1x1024x384, .f32⟩
  | .hbm, ⟨32, _⟩ => ⟨S1024x384, .f32⟩
  | .hbm, ⟨33, _⟩ => ⟨S8x384, .f32⟩
  | .hbm, ⟨34, _⟩ => ⟨S1x1024x384, .f32⟩
  | .hbm, ⟨35, _⟩ => ⟨S1024x384, .f32⟩
  | .hbm, ⟨36, _⟩ => ⟨S8x384, .f32⟩
  | .hbm, ⟨37, _⟩ => ⟨S1x1024x384, .f32⟩
  | .hbm, ⟨38, _⟩ => ⟨S1024x384, .f32⟩
  | .hbm, ⟨39, _⟩ => ⟨S8x384, .f32⟩
  | .hbm, ⟨40, _⟩ => ⟨S1x3072, .f32⟩
  | .hbm, ⟨41, _⟩ => ⟨S3072, .f32⟩
  | .hbm, ⟨42, _⟩ => ⟨S8x3072, .f32⟩
  | .hbm, ⟨43, _⟩ => ⟨S1x3072, .f32⟩
  | .hbm, ⟨44, _⟩ => ⟨S3072, .f32⟩
  | .hbm, ⟨45, _⟩ => ⟨S8x3072, .f32⟩
  | .hbm, ⟨46, _⟩ => ⟨S1x3072, .f32⟩
  | .hbm, ⟨47, _⟩ => ⟨S3072, .f32⟩
  | .hbm, ⟨48, _⟩ => ⟨S8x3072, .f32⟩
  | .hbm, ⟨49, _⟩ => ⟨S1x8x384, .f32⟩
  | .hbm, ⟨50, _⟩ => ⟨S8x384, .f32⟩
  | .hbm, ⟨51, _⟩ => ⟨S1x8x384, .f32⟩
  | .hbm, ⟨52, _⟩ => ⟨S8x384, .f32⟩
  | .hbm, ⟨53, _⟩ => ⟨S8x384, .f32⟩
  | .hbm, ⟨54, _⟩ => ⟨S1x8x3072, .f32⟩
  | .hbm, ⟨55, _⟩ => ⟨S8x3072, .f32⟩
  | .hbm, ⟨56, _⟩ => ⟨S1x8x3072, .f32⟩
  | .hbm, ⟨57, _⟩ => ⟨S8x3072, .f32⟩
  | .hbm, ⟨58, _⟩ => ⟨S_, .f32⟩
  | .hbm, ⟨59, _⟩ => ⟨S3072, .f32⟩
  | .hbm, ⟨60, _⟩ => ⟨S1x3072, .f32⟩
  | .hbm, ⟨61, _⟩ => ⟨S_, .f32⟩
  | .hbm, ⟨62, _⟩ => ⟨S2x3072, .f32⟩
  | .hbm, ⟨63, _⟩ => ⟨S_, .f32⟩
  | .hbm, ⟨64, _⟩ => ⟨S3072, .f32⟩
  | .hbm, ⟨65, _⟩ => ⟨S1x3072, .f32⟩
  | .hbm, ⟨66, _⟩ => ⟨S_, .f32⟩
  | .hbm, ⟨67, _⟩ => ⟨S2x3072, .f32⟩
  | .hbm, ⟨68, _⟩ => ⟨S2x3072, .f32⟩
  | .hbm, ⟨69, _⟩ => ⟨S_, .f32⟩
  | .hbm, ⟨70, _⟩ => ⟨S3072, .f32⟩
  | .hbm, ⟨71, _⟩ => ⟨S1x3072, .f32⟩
  | .hbm, ⟨72, _⟩ => ⟨S_, .f32⟩
  | .hbm, ⟨73, _⟩ => ⟨S2x3072, .f32⟩
  | .hbm, ⟨74, _⟩ => ⟨S2x3072, .f32⟩
  | .hbm, ⟨75, _⟩ => ⟨S384x1024, .f32⟩
  | .hbm, ⟨76, _⟩ => ⟨S1024x384, .f32⟩
  | .hbm, ⟨77, _⟩ => ⟨S8x1024, .f32⟩
  | .hbm, ⟨78, _⟩ => ⟨S1x1024x384, .f32⟩
  | .hbm, ⟨79, _⟩ => ⟨S_, .f32⟩
  | .hbm, ⟨80, _⟩ => ⟨S2x1024x384, .f32⟩
  | .hbm, ⟨81, _⟩ => ⟨S384x1024, .f32⟩
  | .hbm, ⟨82, _⟩ => ⟨S1024x384, .f32⟩
  | .hbm, ⟨83, _⟩ => ⟨S1x1024x384, .f32⟩
  | .hbm, ⟨84, _⟩ => ⟨S_, .f32⟩
  | .hbm, ⟨85, _⟩ => ⟨S2x1024x384, .f32⟩
  | .hbm, ⟨86, _⟩ => ⟨S2x1024x384, .f32⟩
  | .hbm, ⟨87, _⟩ => ⟨S384x1024, .f32⟩
  | .hbm, ⟨88, _⟩ => ⟨S1024x384, .f32⟩
  | .hbm, ⟨89, _⟩ => ⟨S1x1024x384, .f32⟩
  | .hbm, ⟨90, _⟩ => ⟨S_, .f32⟩
  | .hbm, ⟨91, _⟩ => ⟨S2x1024x384, .f32⟩
  | .hbm, ⟨92, _⟩ => ⟨S2x1024x384, .f32⟩
  | .hbm, ⟨93, _⟩ => ⟨S8x1024, .f32⟩
  | .hbm, ⟨94, _⟩ => ⟨S8x1024, .f32⟩
  | .hbm, ⟨95, _⟩ => ⟨S8x1024, .f32⟩
  | .hbm, ⟨96, _⟩ => ⟨S8x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S_, .f32⟩
  | .hbm, ⟨101, _⟩ => ⟨S1024, .f32⟩
  | .hbm, ⟨102, _⟩ => ⟨S2x1x3072, .f32⟩
  | .hbm, ⟨103, _⟩ => ⟨S1x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_v4_2 : Ref sig .tc := ⟨.hbm, 25, rfl⟩
abbrev main_call1_cst_1 : Ref sig .tc := ⟨.hbm, 26, rfl⟩
abbrev main_call1_v6 : Ref sig .tc := ⟨.hbm, 27, rfl⟩
abbrev main_call1_v7 : Ref sig .tc := ⟨.hbm, 28, rfl⟩
abbrev main_v4_1 : Ref sig .tc := ⟨.hbm, 29, rfl⟩
abbrev main_v4_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_0 : Ref sig .tc := ⟨.hbm, 58, rfl⟩
abbrev main_v32 : Ref sig .tc := ⟨.hbm, 59, rfl⟩
abbrev main_v33 : Ref sig .tc := ⟨.hbm, 60, rfl⟩
abbrev main_cst_1 : Ref sig .tc := ⟨.hbm, 61, rfl⟩
abbrev main_v34 : Ref sig .tc := ⟨.hbm, 62, rfl⟩
abbrev main_cst_2 : Ref sig .tc := ⟨.hbm, 63, rfl⟩
abbrev main_v35 : Ref sig .tc := ⟨.hbm, 64, rfl⟩
abbrev main_v36 : Ref sig .tc := ⟨.hbm, 65, rfl⟩
abbrev main_cst_3 : Ref sig .tc := ⟨.hbm, 66, rfl⟩
abbrev main_v37 : Ref sig .tc := ⟨.hbm, 67, rfl⟩
abbrev main_v38 : Ref sig .tc := ⟨.hbm, 68, rfl⟩
abbrev main_cst_4 : Ref sig .tc := ⟨.hbm, 69, rfl⟩
abbrev main_v39 : Ref sig .tc := ⟨.hbm, 70, rfl⟩
abbrev main_v40 : Ref sig .tc := ⟨.hbm, 71, rfl⟩
abbrev main_cst_5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_6 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_7 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_8 : Ref sig .tc := ⟨.hbm, 90, rfl⟩
abbrev main_v56 : Ref sig .tc := ⟨.hbm, 91, rfl⟩
abbrev main_v57 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v58 : Ref sig .tc := ⟨.hbm, 96, rfl⟩
abbrev main_cst_9 : Ref sig .tc := ⟨.hbm, 97, rfl⟩
abbrev main_v59 : Ref sig .tc := ⟨.hbm, 98, rfl⟩
abbrev main_v60 : Ref sig .tc := ⟨.hbm, 99, rfl⟩
abbrev main_cst_10 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩

abbrev nD : Nat := 1
abbrev τ : Topo := Topo.v7x

variable {F : FTy → Type} [FloatOps F]
-- ==== InCtx.lean ====
abbrev S256x2048 : Shape := ⟨2, ![256, 2048]⟩
abbrev S256x1024 : Shape := ⟨2, ![256, 1024]⟩
abbrev S1024 : Shape := ⟨1, ![1024]⟩
abbrev S1024x2048 : Shape := ⟨2, ![1024, 2048]⟩
abbrev S1x1024 : Shape := ⟨2, ![1, 1024]⟩
abbrev S1024x4x512 : Shape := ⟨3, ![1024, 4, 512]⟩
abbrev S4x1024x512 : Shape := ⟨3, ![4, 1024, 512]⟩
abbrev S8x1024 : Shape := ⟨2, ![8, 1024]⟩
abbrev S_ : Shape := ⟨0, ![]⟩
abbrev S1024x512 : Shape := ⟨2, ![1024, 512]⟩
abbrev S1x1024x512 : Shape := ⟨3, ![1, 1024, 512]⟩
abbrev S256x512 : Shape := ⟨2, ![256, 512]⟩

abbrev nBuf : Space → Nat
  | .hbm => 12
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S1x1024, .f32⟩
  | .hbm, ⟨6, _⟩ => ⟨S1x1024, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | .hbm, ⟨10, _⟩ => ⟨S4x1024x512, .f32⟩
  | .hbm, ⟨11, _⟩ => ⟨S8x1024, .f32⟩
  | .local _ .vmem, ⟨0, _⟩ => ⟨S256x2048, .bf16⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S4x1024x512, .bf16⟩
  | .local _ .vmem, ⟨5, _⟩ => ⟨S8x1024, .f32⟩
  | .local _ .vmem, ⟨6, _⟩ => ⟨S4x1024x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InCtxRefIdeal.lean ====
abbrev S256x2048 : Shape := ⟨2, ![256, 2048]⟩
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S1x1024 : Shape := ⟨2, ![1, 1024]⟩
abbrev S2048x1024 : Shape := ⟨2, ![2048, 1024]⟩
abbrev S1024x4x512 : Shape := ⟨3, ![1024, 4, 512]⟩
abbrev S4x1024x512 : Shape := ⟨3, ![4, 1024, 512]⟩
abbrev S6x1024 : Shape := ⟨2, ![6, 1024]⟩
abbrev S8x1024 : Shape := ⟨2, ![8, 1024]⟩

abbrev nBuf : Space → Nat
  | .hbm => 37
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S256x1024, .f32⟩
  | .hbm, ⟨10, _⟩ => ⟨S256x1024, .f32⟩
  | .hbm, ⟨11, _⟩ => ⟨S1x1024, .f32⟩
  | .hbm, ⟨12, _⟩ => ⟨S256x1024, .f32⟩
  | .hbm, ⟨13, _⟩ => ⟨S256x1024, .f32⟩
  | .hbm, ⟨14, _⟩ => ⟨S256x2048, .f32⟩
  | .hbm, ⟨15, _⟩ => ⟨S256x2048, .f32⟩
  | .hbm, ⟨16, _⟩ => ⟨S2048x1024, .f32⟩
  | .hbm, ⟨17, _⟩ => ⟨S1024x2048, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S_, .f32⟩
  | .hbm, ⟨23, _⟩ => ⟨S1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1024, .f32⟩
  | .hbm, ⟨30, _⟩ => ⟨S1024x4x512, .f32⟩
  | .hbm, ⟨31, _⟩ => ⟨S4x1024x512, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S6x1024, .f32⟩
  | .hbm, ⟨36, _⟩ => ⟨S8x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== In1.lean ====
abbrev S8192x2048 : Shape := ⟨2, ![8192, 2048]⟩
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S1024x8x512 : Shape := ⟨3, ![1024, 8, 512]⟩
abbrev S8x1024x512 : Shape := ⟨3, ![8, 1024, 512]⟩
abbrev S8x1024 : Shape := ⟨2, ![8, 1024]⟩
abbrev S512x2048 : Shape := ⟨2, ![512, 2048]⟩
abbrev S512x1024 : Shape := ⟨2, ![512, 1024]⟩
abbrev S_ : Shape := ⟨0, ![]⟩
abbrev S1024x512 : Shape := ⟨2, ![1024, 512]⟩
abbrev S1x1024x512 : Shape := ⟨3, ![1, 1024, 512]⟩
abbrev S512x512 : Shape := ⟨2, ![512, 512]⟩

abbrev nBuf : Space → Nat
  | .hbm => 15
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S1x1024, .f32⟩
  | .hbm, ⟨8, _⟩ => ⟨S1x1024, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | .hbm, ⟨12, _⟩ => ⟨S8192x1024, .f32⟩
  | .hbm, ⟨13, _⟩ => ⟨S8x1024x512, .f32⟩
  | .hbm, ⟨14, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S8x1024x512, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S8x1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== In1RefIdeal.lean ====
abbrev S8192x2048 : Shape := ⟨2, ![8192, 2048]⟩
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S1x1024 : Shape := ⟨2, ![1, 1024]⟩
abbrev S8192x4096 : Shape := ⟨2, ![8192, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S6x1024 : Shape := ⟨2, ![6, 1024]⟩
abbrev S8x1024 : Shape := ⟨2, ![8, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x4096, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x4096, .f32⟩
  | .hbm, ⟨28, _⟩ => ⟨S4096x1024, .f32⟩
  | .hbm, ⟨29, _⟩ => ⟨S1024x4096, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1024x8x512, .f32⟩
  | .hbm, ⟨46, _⟩ => ⟨S8x1024x512, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S6x1024, .f32⟩
  | .hbm, ⟨51, _⟩ => ⟨S8x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== In0.lean ====
abbrev S8192x2048 : Shape := ⟨2, ![8192, 2048]⟩
abbrev S8192x1024 : Shape := ⟨2, ![8192, 1024]⟩
abbrev S1024 : Shape := ⟨1, ![1024]⟩
abbrev S1024x4096 : Shape := ⟨2, ![1024, 4096]⟩
abbrev S1024x2048 : Shape := ⟨2, ![1024, 2048]⟩
abbrev S1x1024 : Shape := ⟨2, ![1, 1024]⟩
abbrev S1024x8x512 : Shape := ⟨3, ![1024, 8, 512]⟩
abbrev S8x1024x512 : Shape := ⟨3, ![8, 1024, 512]⟩
abbrev S1024x4x512 : Shape := ⟨3, ![1024, 4, 512]⟩
abbrev S4x1024x512 : Shape := ⟨3, ![4, 1024, 512]⟩
abbrev S8x1024 : Shape := ⟨2, ![8, 1024]⟩
abbrev S512x2048 : Shape := ⟨2, ![512, 2048]⟩
abbrev S512x1024 : Shape := ⟨2, ![512, 1024]⟩
abbrev S_ : Shape := ⟨0, ![]⟩
abbrev S1024x512 : Shape := ⟨2, ![1024, 512]⟩
abbrev S1x1024x512 : Shape := ⟨3, ![1, 1024, 512]⟩
abbrev S512x512 : Shape := ⟨2, ![512, 512]⟩

abbrev nBuf : Space → Nat
  | .hbm => 18
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S1024x2048, .f32⟩
  | .hbm, ⟨8, _⟩ => ⟨S1x1024, .f32⟩
  | .hbm, ⟨9, _⟩ => ⟨S1x1024, .f32⟩
  | .hbm, ⟨10, _⟩ => ⟨S1024x8x512, .f32⟩
  | .hbm, ⟨11, _⟩ => ⟨S8x1024x512, .f32⟩
  | .hbm, ⟨12, _⟩ => ⟨S8x1024x512, .bf16⟩
  | .hbm, ⟨13, _⟩ => ⟨S1024x4x512, .f32⟩
  | .hbm, ⟨14, _⟩ => ⟨S4x1024x512, .f32⟩
  | .hbm, ⟨15, _⟩ => ⟨S8192x1024, .f32⟩
  | .hbm, ⟨16, _⟩ => ⟨S8x1024x512, .f32⟩
  | .hbm, ⟨17, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S8x1024x512, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S8x1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== In0RefIdeal.lean ====
abbrev S8192x2048 : Shape := ⟨2, ![8192, 2048]⟩
abbrev S8192x1024 : Shape := ⟨2, ![8192, 1024]⟩
abbrev S1024 : Shape := ⟨1, ![1024]⟩
abbrev S1024x4096 : Shape := ⟨2, ![1024, 4096]⟩
abbrev S1024x2048 : Shape := ⟨2, ![1024, 2048]⟩
abbrev S_ : Shape := ⟨0, ![]⟩
abbrev S1x1024 : Shape := ⟨2, ![1, 1024]⟩
abbrev S8192x4096 : Shape := ⟨2, ![8192, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S6x1024 : Shape := ⟨2, ![6, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S1024x2048, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x4096, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x4096, .f32⟩
  | .hbm, ⟨29, _⟩ => ⟨S4096x1024, .f32⟩
  | .hbm, ⟨30, _⟩ => ⟨S1024x4096, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S1024x2048, .f32⟩
  | .hbm, ⟨48, _⟩ => ⟨S1024x4096, .f32⟩
  | .hbm, ⟨49, _⟩ => ⟨S1024x4096, .f32⟩
  | .hbm, ⟨50, _⟩ => ⟨S1024x8x512, .f32⟩
  | .hbm, ⟨51, _⟩ => ⟨S8x1024x512, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S6x1024, .f32⟩
  | .hbm, ⟨56, _⟩ => ⟨S8x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Out1B.lean ====
abbrev S8192x1024 : Shape := ⟨2, ![8192, 1024]⟩
abbrev S8192x2048 : Shape := ⟨2, ![8192, 2048]⟩
abbrev S4x512x512 : Shape := ⟨3, ![4, 512, 512]⟩
abbrev S2048 : Shape := ⟨1, ![2048]⟩
abbrev S1024 : Shape := ⟨1, ![1024]⟩
abbrev S2048x1024 : Shape := ⟨2, ![2048, 1024]⟩
abbrev S8192x4x512 : Shape := ⟨3, ![8192, 4, 512]⟩
abbrev S4x512x8192 : Shape := ⟨3, ![4, 512, 8192]⟩
abbrev S1x2048 : Shape := ⟨2, ![1, 2048]⟩
abbrev S1x1024 : Shape := ⟨2, ![1, 1024]⟩
abbrev S8x2048 : Shape := ⟨2, ![8, 2048]⟩
abbrev S512x1024 : Shape := ⟨2, ![512, 1024]⟩
abbrev S512x2048 : Shape := ⟨2, ![512, 2048]⟩
abbrev S2 : Shape := ⟨1, ![2]⟩
abbrev S512x512 : Shape := ⟨2, ![512, 512]⟩
abbrev S1x512 : Shape := ⟨2, ![1, 512]⟩
abbrev S512 : Shape := ⟨1, ![512]⟩
abbrev S1x512x512 : Shape := ⟨3, ![1, 512, 512]⟩
abbrev S1 : Shape := ⟨1, ![1]⟩
abbrev S_ : Shape := ⟨0, ![]⟩

abbrev nBuf : Space → Nat
  | .hbm => 23
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S4x512x512, .f32⟩
  | .hbm, ⟨4, _⟩ => ⟨S2048, .f32⟩
  | .hbm, ⟨5, _⟩ => ⟨S1024, .f32⟩
  | .hbm, ⟨6, _⟩ => ⟨S2048x1024, .f32⟩
  | .hbm, ⟨7, _⟩ => ⟨S8192x2048, .bf16⟩
  | .hbm, ⟨8, _⟩ => ⟨S4x512x512, .bf16⟩
  | .hbm, ⟨9, _⟩ => ⟨S8192x4x512, .bf16⟩
  | .hbm, ⟨10, _⟩ => ⟨S4x512x8192, .f32⟩
  | .hbm, ⟨11, _⟩ => ⟨S8192x4x512, .f32⟩
  | .hbm, ⟨12, _⟩ => ⟨S8192x2048, .f32⟩
  | .hbm, ⟨13, _⟩ => ⟨S8192x2048, .bf16⟩
  | .hbm, ⟨14, _⟩ => ⟨S8192x2048, .bf16⟩
  | .hbm, ⟨15, _⟩ => ⟨S1x2048, .f32⟩
  | .hbm, ⟨16, _⟩ => ⟨S1x1024, .f32⟩
  | .hbm, ⟨17, _⟩ => ⟨S2048x1024, .bf16⟩
  | .hbm, ⟨18, _⟩ => ⟨S8192x2048, .f32⟩
  | .hbm, ⟨19, _⟩ => ⟨S8192x2048, .bf16⟩
  | .hbm, ⟨20, _⟩ => ⟨S2048x1024, .f32⟩
  | .hbm, ⟨21, _⟩ => ⟨S4x512x512, .f32⟩
  | .hbm, ⟨22, _⟩ => ⟨S8x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S4x512x512, .bf16⟩
  | .local _ .vmem, ⟨9, _⟩ => ⟨S1x2048, .f32⟩
  | .local _ .vmem, ⟨10, _⟩ => ⟨S1x1024, .f32⟩
  | .local _ .vmem, ⟨11, _⟩ => ⟨S2048x1024, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S8x2048, .f32⟩
  | .local _ .vmem, ⟨17, _⟩ => ⟨S2048x1024, .f32⟩
  | .local _ .vmem, ⟨18, _⟩ => ⟨S4x512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Out1BRefIdeal.lean ====
abbrev S8192x1024 : Shape := ⟨2, ![8192, 1024]⟩
abbrev S8192x2048 : Shape := ⟨2, ![8192, 2048]⟩
abbrev S4x512x512 : Shape := ⟨3, ![4, 512, 512]⟩
abbrev S2048 : Shape := ⟨1, ![2048]⟩
abbrev S1024 : Shape := ⟨1, ![1024]⟩
abbrev S2048x1024 : Shape := ⟨2, ![2048, 1024]⟩
abbrev S8192x4x512 : Shape := ⟨3, ![8192, 4, 512]⟩
abbrev S4x512x8192 : Shape := ⟨3, ![4, 512, 8192]⟩
abbrev S1x2048 : Shape := ⟨2, ![1, 2048]⟩
abbrev S_ : Shape := ⟨0, ![]⟩
abbrev S1x1024 : Shape := ⟨2, ![1, 1024]⟩
abbrev S1024x2048 : Shape := ⟨2, ![1024, 2048]⟩
abbrev S4x8192x512 : Shape := ⟨3, ![4, 8192, 512]⟩
abbrev S7x2048 : Shape := ⟨2, ![7, 2048]⟩
abbrev S8x2048 : Shape := ⟨2, ![8, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S4x512x512, .f32⟩
  | .hbm, ⟨4, _⟩ => ⟨S2048, .f32⟩
  | .hbm, ⟨5, _⟩ => ⟨S1024, .f32⟩
  | .hbm, ⟨6, _⟩ => ⟨S2048x1024, .f32⟩
  | .hbm, ⟨7, _⟩ => ⟨S8192x4x512, .f32⟩
  | .hbm, ⟨8, _⟩ => ⟨S4x512x8192, .f32⟩
  | .hbm, ⟨9, _⟩ => ⟨S8192x4x512, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1024x2048, .f32⟩
  | .hbm, ⟨35, _⟩ => ⟨S2048x1024, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S2048, .f32⟩
  | .hbm, ⟨51, _⟩ => ⟨S8192x4x512, .f32⟩
  | .hbm, ⟨52, _⟩ => ⟨S4x512x8192, .f32⟩
  | .hbm, ⟨53, _⟩ => ⟨S4x8192x512, .f32⟩
  | .hbm, ⟨54, _⟩ => ⟨S8192x4x512, .f32⟩
  | .hbm, ⟨55, _⟩ => ⟨S4x512x512, .f32⟩
  | .hbm, ⟨56, _⟩ => ⟨S4x512x512, .f32⟩
  | .hbm, ⟨57, _⟩ => ⟨S8192x2048, .f32⟩
  | .hbm, ⟨58, _⟩ => ⟨S8192x2048, .bf16⟩
  | .hbm, ⟨59, _⟩ => ⟨S1x2048, .f32⟩
  | .hbm, ⟨60, _⟩ => ⟨S_, .f32⟩
  | .hbm, ⟨61, _⟩ => ⟨S7x2048, .f32⟩
  | .hbm, ⟨62, _⟩ => ⟨S8x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v7_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v7_1 : Ref sig .tc := ⟨.hbm, 25, rfl⟩
abbrev main_v7_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_v21 : Ref sig .tc := ⟨.hbm, 43, rfl⟩
abbrev main_cst : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_1 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== Out0B.lean ====
abbrev S8192x1024 : Shape := ⟨2, ![8192, 1024]⟩
abbrev S8192x2048 : Shape := ⟨2, ![8192, 2048]⟩
abbrev S1024 : Shape := ⟨1, ![1024]⟩
abbrev S2048x1024 : Shape := ⟨2, ![2048, 1024]⟩
abbrev S_ : Shape := ⟨0, ![]⟩
abbrev S1x1024 : Shape := ⟨2, ![1, 1024]⟩
abbrev S8x1024 : Shape := ⟨2, ![8, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩

abbrev nBuf : Space → Nat
  | .hbm => 38
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S8192x2048, .bf16⟩
  | .hbm, ⟨9, _⟩ => ⟨S8192x2048, .bf16⟩
  | .hbm, ⟨10, _⟩ => ⟨S8192x2048, .bf16⟩
  | .hbm, ⟨11, _⟩ => ⟨S2048x1024, .bf16⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | .hbm, ⟨29, _⟩ => ⟨S8192x1024, .f32⟩
  | .hbm, ⟨30, _⟩ => ⟨S8192x1024, .bf16⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x2048, .bf16⟩
  | .hbm, ⟨35, _⟩ => ⟨S8192x2048, .bf16⟩
  | .hbm, ⟨36, _⟩ => ⟨S2048x1024, .f32⟩
  | .hbm, ⟨37, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S1x1024, .f32⟩
  | .local _ .vmem, ⟨14, _⟩ => ⟨S2048x1024, .bf16⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S8x1024, .f32⟩
  | .local _ .vmem, ⟨22, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Out0BRefIdeal.lean ====
abbrev S8192x1024 : Shape := ⟨2, ![8192, 1024]⟩
abbrev S8192x2048 : Shape := ⟨2, ![8192, 2048]⟩
abbrev S1024 : Shape := ⟨1, ![1024]⟩
abbrev S2048x1024 : Shape := ⟨2, ![2048, 1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S1024x2048 : Shape := ⟨2, ![1024, 2048]⟩
abbrev S5x1024 : Shape := ⟨2, ![5, 1024]⟩
abbrev S8x1024 : Shape := ⟨2, ![8, 1024]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S8192x1024, .f32⟩
  | 2 => ⟨S8192x2048, .f32⟩
  | 3 => ⟨S8192x2048, .f32⟩
  | 4 => ⟨S8192x2048, .f32⟩
  | 5 => ⟨S1024, .f32⟩
  | 6 => ⟨S2048x1024, .f32⟩
  | 7 => ⟨S1024, .f32⟩
  | 8 => ⟨S_, .f32⟩
  | 9 => ⟨S8192x1024, .f32⟩
  | 10 => ⟨S8192x1024, .f32⟩
  | 11 => ⟨S8192x2048, .f32⟩
  | 12 => ⟨S_, .f32⟩
  | 13 => ⟨S1024, .f32⟩
  | 14 => ⟨S8192x2048, .f32⟩
  | 15 => ⟨S8192x2048, .f32⟩
  | 16 => ⟨S_, .f32⟩
  | 17 => ⟨S8192x2048, .f32⟩
  | 18 => ⟨S8192x2048, .f32⟩
  | 19 => ⟨S_, .f32⟩
  | 20 => ⟨S8192x2048, .f32⟩
  | 21 => ⟨S8192x2048, .f32⟩
  | 22 => ⟨S_, .f32⟩
  | 23 => ⟨S8192x2048, .f32⟩
  | 24 => ⟨S8192x2048, .f32⟩
  | 25 => ⟨S8192x2048, .f32⟩
  | 26 => ⟨S8192x2048, .f32⟩
  | 27 => ⟨S8192x2048, .f32⟩
  | 28 => ⟨S8192x1024, .f32⟩
  | 29 => ⟨S1x1024, .f32⟩
  | 30 => ⟨S8192x1024, .f32⟩
  | 31 => ⟨S8192x1024, .f32⟩
  | 32 => ⟨S8192x1024, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S8192x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S8192x1024, .f32⟩
  | 52 => ⟨S8192x1024, .f32⟩
  | 53 => ⟨S_, .f32⟩
  | 54 => ⟨S8192x1, .f32⟩
  | 55 => ⟨S8192x1, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S1x1024, .f32⟩
  | 64 => ⟨S8192x1024, .f32⟩
  | 65 => ⟨S8192x1024, .f32⟩
  | 66 => ⟨S1x1024, .f32⟩
  | 67 => ⟨S8192x1024, .f32⟩
  | 68 => ⟨S8192x1024, .f32⟩
  | 69 => ⟨S8192x1024, .f32⟩
  | 70 => ⟨S_, .f32⟩
  | 71 => ⟨S1024, .f32⟩
  | 72 => ⟨S1x1024, .f32⟩
  | 73 => ⟨S_, .f32⟩
  | 74 => ⟨S1024, .f32⟩
  | 75 => ⟨S8192x1024, .f32⟩
  | 76 => ⟨S_, .f32⟩
  | 77 => ⟨S1024, .f32⟩
  | 78 => ⟨S1x1024, .f32⟩
  | 79 => ⟨S8192x1024, .f32⟩
  | 80 => ⟨S8192x1024, .f32⟩
  | 81 => ⟨S_, .f32⟩
  | 82 => ⟨S1024, .f32⟩
  | 83 => ⟨S8192x1024, .f32⟩
  | 84 => ⟨S_, .f32⟩
  | 85 => ⟨S8192, .f32⟩
  | 86 => ⟨S8192x1, .f32⟩
  | 87 => ⟨S8192x1024, .f32⟩
  | 88 => ⟨S8192x1024, .f32⟩
  | 89 => ⟨S8192x1, .f32⟩
  | 90 => ⟨S8192x1024, .f32⟩
  | 91 => ⟨S_, .f32⟩
  | 92 => ⟨S8192, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192, .f32⟩
  | 99 => ⟨S8192x1024, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S8192x1024, .f32⟩
  | 106 => ⟨S8192x1, .f32⟩
  | 107 => ⟨S_, .f32⟩
  | 108 => ⟨S8192x1, .f32⟩
  | 109 => ⟨S8192x1, .f32⟩
  | 110 => ⟨S_, .f32⟩
  | 111 => ⟨S8192, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S_, .f32⟩
  | 118 => ⟨S1024, .f32⟩
  | 119 => ⟨S1x1024, .f32⟩
  | 120 => ⟨S_, .f32⟩
  | 121 => ⟨S1024, .f32⟩
  | 122 => ⟨S1024x2048, .f32⟩
  | 123 => ⟨S2048x1024, .f32⟩
  | 124 => ⟨S8192x2048, .f32⟩
  | 125 => ⟨S8192x2048, .f32⟩
  | 126 => ⟨S8192x2048, .f32⟩
  | 127 => ⟨S8192x2048, .f32⟩
  | _ => ⟨S8192x1024, .f32⟩

abbrev hbmTy0_1 (i : Nat) : BufTy := match i % 128 with
  | 0 => ⟨S8192x2048, .f32⟩
  | 1 => ⟨S8192x2048, .f32⟩
  | 2 => ⟨S8192x2048, .f32⟩
  | 3 => ⟨S1x1024, .f32⟩
  | 4 => ⟨S1x1024, .f32⟩
  | 5 => ⟨S1x1024, .f32⟩
  | 6 => ⟨S_, .f32⟩
  | 7 => ⟨S5x1024, .f32⟩
  | 8 => ⟨S8x1024, .f32⟩
  | 9 => ⟨S8192x2048, .bf16⟩
  | 10 => ⟨S8192x2048, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v4_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v4_1 : Ref sig .tc := ⟨.hbm, 25, rfl⟩
abbrev main_v4_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_cst_5 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_7 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_cst_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_v60 : Ref sig .tc := ⟨.hbm, 96, rfl⟩
abbrev main_cst_15 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_16 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_17 : Ref sig .tc := ⟨.hbm, 107, rfl⟩
abbrev main_v69 : Ref sig .tc := ⟨.hbm, 108, rfl⟩
abbrev main_v70 : Ref sig .tc := ⟨.hbm, 109, rfl⟩
abbrev main_cst_18 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_19 : Ref sig .tc := ⟨.hbm, 117, rfl⟩
abbrev main_v77 : Ref sig .tc := ⟨.hbm, 118, rfl⟩
abbrev main_v78 : Ref sig .tc := ⟨.hbm, 119, rfl⟩
abbrev main_cst_20 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_21 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩

abbrev nD : Nat := 1
abbrev τ : Topo := Topo.v7x

variable {F : FTy → Type} [FloatOps F]
-- ==== Out1.lean ====
abbrev S8192x2048 : Shape := ⟨2, ![8192, 2048]⟩
abbrev S4x512x512 : Shape := ⟨3, ![4, 512, 512]⟩
abbrev S2048 : Shape := ⟨1, ![2048]⟩
abbrev S8192x1024 : Shape := ⟨2, ![8192, 1024]⟩
abbrev S1024 : Shape := ⟨1, ![1024]⟩
abbrev S2048x1024 : Shape := ⟨2, ![2048, 1024]⟩
abbrev S1x2048 : Shape := ⟨2, ![1, 2048]⟩
abbrev S1x1024 : Shape := ⟨2, ![1, 1024]⟩
abbrev S8x1024 : Shape := ⟨2, ![8, 1024]⟩
abbrev S512x2048 : Shape := ⟨2, ![512, 2048]⟩
abbrev S512x1024 : Shape := ⟨2, ![512, 1024]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩
abbrev S512x1 : Shape := ⟨2, ![512, 1]⟩

abbrev nBuf : Space → Nat
  | .hbm => 21
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S2048, .f32⟩
  | .hbm, ⟨3, _⟩ => ⟨S8192x2048, .f32⟩
  | .hbm, ⟨4, _⟩ => ⟨S8192x1024, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S8192x2048, .bf16⟩
  | .hbm, ⟨11, _⟩ => ⟨S4x512x512, .bf16⟩
  | .hbm, ⟨12, _⟩ => ⟨S1x2048, .f32⟩
  | .hbm, ⟨13, _⟩ => ⟨S8192x2048, .bf16⟩
  | .hbm, ⟨14, _⟩ => ⟨S1x1024, .f32⟩
  | .hbm, ⟨15, _⟩ => ⟨S2048x1024, .bf16⟩
  | .hbm, ⟨16, _⟩ => ⟨S1x1024, .f32⟩
  | .hbm, ⟨17, _⟩ => ⟨S1x1024, .f32⟩
  | .hbm, ⟨18, _⟩ => ⟨S8192x1024, .f32⟩
  | .hbm, ⟨19, _⟩ => ⟨S8x1024, .f32⟩
  | .hbm, ⟨20, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S4x512x512, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S2048x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S512x2048, .bf16⟩
  | .local _ .vmem, ⟨18, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Out1RefIdeal.lean ====
abbrev S8192x2048 : Shape := ⟨2, ![8192, 2048]⟩
abbrev S4x512x512 : Shape := ⟨3, ![4, 512, 512]⟩
abbrev S2048 : Shape := ⟨1, ![2048]⟩
abbrev S8192x1024 : Shape := ⟨2, ![8192, 1024]⟩
abbrev S1024 : Shape := ⟨1, ![1024]⟩
abbrev S2048x1024 : Shape := ⟨2, ![2048, 1024]⟩
abbrev S8192x4x512 : Shape := ⟨3, ![8192, 4, 512]⟩
abbrev S4x512x8192 : Shape := ⟨3, ![4, 512, 8192]⟩
abbrev S1x2048 : Shape := ⟨2, ![1, 2048]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S4x1024 : Shape := ⟨2, ![4, 1024]⟩
abbrev S8x1024 : Shape := ⟨2, ![8, 1024]⟩

abbrev nBuf : Space → Nat
  | .hbm => 203
  | .vmem => 0
  | .smem => 0
  | _ => 0

abbrev hbmTy0_0 (i : Nat) : BufTy := match i % 128 with
  | 0 => ⟨S8192x2048, .f32⟩
  | 1 => ⟨S4x512x512, .f32⟩
  | 2 => ⟨S2048, .f32⟩
  | 3 => ⟨S8192x2048, .f32⟩
  | 4 => ⟨S8192x1024, .f32⟩
  | 5 => ⟨S1024, .f32⟩
  | 6 => ⟨S2048x1024, .f32⟩
  | 7 => ⟨S1024, .f32⟩
  | 8 => ⟨S1024, .f32⟩
  | 9 => ⟨S8192x1024, .f32⟩
  | 10 => ⟨S8192x4x512, .f32⟩
  | 11 => ⟨S4x512x8192, .f32⟩
  | 12 => ⟨S8192x4x512, .f32⟩
  | 13 => ⟨S8192x2048, .f32⟩
  | 14 => ⟨S1x2048, .f32⟩
  | 15 => ⟨S8192x2048, .f32⟩
  | 16 => ⟨S8192x2048, .f32⟩
  | 17 => ⟨S_, .f32⟩
  | 18 => ⟨S8192x1024, .f32⟩
  | 19 => ⟨S8192x1024, .f32⟩
  | 20 => ⟨S8192x2048, .f32⟩
  | 21 => ⟨S8192x2048, .f32⟩
  | 22 => ⟨S_, .f32⟩
  | 23 => ⟨S8192x2048, .f32⟩
  | 24 => ⟨S8192x2048, .f32⟩
  | 25 => ⟨S_, .f32⟩
  | 26 => ⟨S8192x2048, .f32⟩
  | 27 => ⟨S8192x2048, .f32⟩
  | 28 => ⟨S8192x2048, .f32⟩
  | 29 => ⟨S8192x2048, .f32⟩
  | 30 => ⟨S8192x1024, .f32⟩
  | 31 => ⟨S1x1024, .f32⟩
  | 32 => ⟨S8192x1024, .f32⟩
  | 33 => ⟨S8192x1024, .f32⟩
  | 34 => ⟨S8192x1024, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x1024, .f32⟩
  | 54 => ⟨S8192x1024, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S8192, .f32⟩
  | 78 => ⟨S_, .f32⟩
  | 79 => ⟨S8192, .f32⟩
  | 80 => ⟨S8192, .f32⟩
  | 81 => ⟨S_, .f32⟩
  | 82 => ⟨S8192, .f32⟩
  | 83 => ⟨S8192, .f32⟩
  | 84 => ⟨S_, .f32⟩
  | 85 => ⟨S8192, .f32⟩
  | 86 => ⟨S_, .f32⟩
  | 87 => ⟨S8192, .f32⟩
  | 88 => ⟨S8192, .f32⟩
  | 89 => ⟨S_, .f32⟩
  | 90 => ⟨S8192, .f32⟩
  | 91 => ⟨S8192, .f32⟩
  | 92 => ⟨S8192x1024, .f32⟩
  | 93 => ⟨S8192x1024, .f32⟩
  | 94 => ⟨S_, .f32⟩
  | 95 => ⟨S1024, .f32⟩
  | 96 => ⟨S1x1024, .f32⟩
  | 97 => ⟨S_, .f32⟩
  | 98 => ⟨S1024, .f32⟩
  | 99 => ⟨S8192x1024, .f32⟩
  | 100 => ⟨S_, .f32⟩
  | 101 => ⟨S1024, .f32⟩
  | 102 => ⟨S1x1024, .f32⟩
  | 103 => ⟨S8192x1024, .f32⟩
  | 104 => ⟨S8192x1024, .f32⟩
  | 105 => ⟨S_, .f32⟩
  | 106 => ⟨S1024, .f32⟩
  | 107 => ⟨S8192x1024, .f32⟩
  | 108 => ⟨S_, .f32⟩
  | 109 => ⟨S8192, .f32⟩
  | 110 => ⟨S8192x1, .f32⟩
  | 111 => ⟨S8192x1024, .f32⟩
  | 112 => ⟨S8192x1024, .f32⟩
  | 113 => ⟨S8192x1, .f32⟩
  | 114 => ⟨S8192x1024, .f32⟩
  | 115 => ⟨S_, .f32⟩
  | 116 => ⟨S8192, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192, .f32⟩
  | 123 => ⟨S8192x1024, .f32⟩
  | 124 => ⟨S8192x1024, .f32⟩
  | 125 => ⟨S8192x1024, .f32⟩
  | 126 => ⟨S_, .f32⟩
  | 127 => ⟨S8192, .f32⟩
  | _ => ⟨S8192x2048, .f32⟩

abbrev hbmTy0_1 (i : Nat) : BufTy := match i % 128 with
  | 0 => ⟨S8192x1, .f32⟩
  | 1 => ⟨S8192x1024, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S8192x1024, .f32⟩
  | 11 => ⟨S_, .f32⟩
  | 12 => ⟨S1024, .f32⟩
  | 13 => ⟨S1x1024, .f32⟩
  | 14 => ⟨S_, .f32⟩
  | 15 => ⟨S1024, .f32⟩
  | 16 => ⟨S_, .f32⟩
  | 17 => ⟨S8192x1024, .f32⟩
  | 18 => ⟨S8192x1024, .f32⟩
  | 19 => ⟨S8192x2048, .f32⟩
  | 20 => ⟨S8192x2048, .f32⟩
  | 21 => ⟨S_, .f32⟩
  | 22 => ⟨S8192x2048, .f32⟩
  | 23 => ⟨S8192x2048, .f32⟩
  | 24 => ⟨S_, .f32⟩
  | 25 => ⟨S8192x2048, .f32⟩
  | 26 => ⟨S8192x2048, .f32⟩
  | 27 => ⟨S8192x2048, .f32⟩
  | 28 => ⟨S8192x2048, .f32⟩
  | 29 => ⟨S8192x1024, .f32⟩
  | 30 => ⟨S1x1024, .f32⟩
  | 31 => ⟨S8192x1024, .f32⟩
  | 32 => ⟨S8192x1024, .f32⟩
  | 33 => ⟨S8192x1024, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S8192x1024, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x1024, .f32⟩
  | 50 => ⟨S8192x1024, .f32⟩
  | 51 => ⟨S_, .f32⟩
  | 52 => ⟨S8192x1, .f32⟩
  | 53 => ⟨S8192x1, .f32⟩
  | 54 => ⟨S8192x1, .f32⟩
  | 55 => ⟨S8192x1024, .f32⟩
  | 56 => ⟨S8192x1024, .f32⟩
  | 57 => ⟨S1x1024, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S1024, .f32⟩
  | 67 => ⟨S1x1024, .f32⟩
  | 68 => ⟨S1x1024, .f32⟩
  | 69 => ⟨S1x1024, .f32⟩
  | 70 => ⟨S1x1024, .f32⟩
  | 71 => ⟨S_, .f32⟩
  | 72 => ⟨S4x1024, .f32⟩
  | 73 => ⟨S8x1024, .f32⟩
  | 74 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_cst_13 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_14 : Ref sig .tc := ⟨.hbm, 94, rfl⟩
abbrev main_v61 : Ref sig .tc := ⟨.hbm, 95, rfl⟩
abbrev main_v62 : Ref sig .tc := ⟨.hbm, 96, rfl⟩
abbrev main_cst_15 : Ref sig .tc := ⟨.hbm, 97, rfl⟩
abbrev main_v63 : Ref sig .tc := ⟨.hbm, 98, rfl⟩
abbrev main_v64 : Ref sig .tc := ⟨.hbm, 99, rfl⟩
abbrev main_cst_16 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_cst_18 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_19 : Ref sig .tc := ⟨.hbm, 115, rfl⟩
abbrev main_v77 : Ref sig .tc := ⟨.hbm, 116, rfl⟩
abbrev main_v78 : Ref sig .tc := ⟨.hbm, 117, rfl⟩
abbrev main_cst_20 : Ref sig .tc := ⟨.hbm, 118, rfl⟩
abbrev main_v79 : Ref sig .tc := ⟨.hbm, 119, rfl⟩
abbrev main_v80 : Ref sig .tc := ⟨.hbm, 120, rfl⟩
abbrev main_cst_21 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_22 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_23 : Ref sig .tc := ⟨.hbm, 131, rfl⟩
abbrev main_v89 : Ref sig .tc := ⟨.hbm, 132, rfl⟩
abbrev main_v90 : Ref sig .tc := ⟨.hbm, 133, rfl⟩
abbrev main_cst_24 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_25 : Ref sig .tc := ⟨.hbm, 139, rfl⟩
abbrev main_v95 : Ref sig .tc := ⟨.hbm, 140, rfl⟩
abbrev main_v96 : Ref sig .tc := ⟨.hbm, 141, rfl⟩
abbrev main_cst_26 : Ref sig .tc := ⟨.hbm, 142, rfl⟩
abbrev main_v97 : Ref sig .tc := ⟨.hbm, 143, rfl⟩
abbrev main_cst_27 : Ref sig .tc := ⟨.hbm, 144, rfl⟩
abbrev main_v98 : Ref sig .tc := ⟨.hbm, 145, rfl⟩
abbrev main_v99 : Ref sig .tc := ⟨.hbm, 146, rfl⟩
abbrev main_call1_v0 : Ref sig .tc := ⟨.hbm, 147, rfl⟩
abbrev main_call1_v1 : Ref sig .tc := ⟨.hbm, 148, rfl⟩
abbrev main_call1_cst : Ref sig .tc := ⟨.hbm, 149, rfl⟩
abbrev main_call1_v2 : Ref sig .tc := ⟨.hbm, 150, rfl⟩
abbrev main_call1_v3 : Ref sig .tc := ⟨.hbm, 151, rfl⟩
abbrev main_call1_cst_0 : Ref sig .tc := ⟨.hbm, 152, rfl⟩
abbrev main_call1_v4 : Ref sig .tc := ⟨.hbm, 153, rfl⟩
abbrev main_call1_v5 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_cst_28 : Ref sig .tc := ⟨.hbm, 162, rfl⟩
abbrev main_v107 : Ref sig .tc := ⟨.hbm, 163, rfl⟩
abbrev main_v108 : Ref sig .tc := ⟨.hbm, 164, rfl⟩
abbrev main_cst_29 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_30 : Ref sig .tc := ⟨.hbm, 171, rfl⟩
abbrev main_v114 : Ref sig .tc := ⟨.hbm, 172, rfl⟩
abbrev main_v115 : Ref sig .tc := ⟨.hbm, 173, rfl⟩
abbrev main_cst_31 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_cst_32 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_33 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_cst_34 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩

abbrev nD : Nat := 1
abbrev τ : Topo := Topo.v7x

variable {F : FTy → Type} [FloatOps F]
-- ==== Out0F.lean ====
abbrev S8192x2048 : Shape := ⟨2, ![8192, 2048]⟩
abbrev S8192x1024 : Shape := ⟨2, ![8192, 1024]⟩
abbrev S1024 : Shape := ⟨1, ![1024]⟩
abbrev S2048x1024 : Shape := ⟨2, ![2048, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x1024 : Shape := ⟨2, ![1, 1024]⟩
abbrev S512x2048 : Shape := ⟨2, ![512, 2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩

abbrev nBuf : Space → Nat
  | .hbm => 27
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S1024x4096, .bf16⟩
  | .hbm, ⟨12, _⟩ => ⟨S1024x8x512, .bf16⟩
  | .hbm, ⟨13, _⟩ => ⟨S8x1024x512, .bf16⟩
  | .hbm, ⟨14, _⟩ => ⟨S8192x2048, .bf16⟩
  | .hbm, ⟨15, _⟩ => ⟨S8192x2048, .bf16⟩
  | .hbm, ⟨16, _⟩ => ⟨S8192x2048, .bf16⟩
  | .hbm, ⟨17, _⟩ => ⟨S1x1024, .f32⟩
  | .hbm, ⟨18, _⟩ => ⟨S2048x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .bf16⟩
  | .hbm, ⟨25, _⟩ => ⟨S8192x2048, .bf16⟩
  | .hbm, ⟨26, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S2048x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S8x1024x512, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Out0FRefIdeal.lean ====
abbrev S8192x2048 : Shape := ⟨2, ![8192, 2048]⟩
abbrev S8192x1024 : Shape := ⟨2, ![8192, 1024]⟩
abbrev S1024 : Shape := ⟨1, ![1024]⟩
abbrev S2048x1024 : Shape := ⟨2, ![2048, 1024]⟩
abbrev S1024x4096 : Shape := ⟨2, ![1024, 4096]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x4096, .f32⟩
  | .hbm, ⟨69, _⟩ => ⟨S8192x2048, .f32⟩
  | .hbm, ⟨70, _⟩ => ⟨S8192x2048, .f32⟩
  | .hbm, ⟨71, _⟩ => ⟨S8192x1024, .bf16⟩
  | .hbm, ⟨72, _⟩ => ⟨S8192x2048, .bf16⟩
  | .hbm, ⟨73, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== LruCtxB.lean ====
abbrev S256x2048 : Shape := ⟨2, ![256, 2048]⟩
abbrev S1x2048 : Shape := ⟨2, ![1, 2048]⟩
abbrev S2x16x128x128 : Shape := ⟨4, ![2, 16, 128, 128]⟩
abbrev S2x2048 : Shape := ⟨2, ![2, 2048]⟩
abbrev S_ : Shape := ⟨0, ![]⟩
abbrev S2x1x2048 : Shape := ⟨3, ![2, 1, 2048]⟩
abbrev S16x128x128 : Shape := ⟨3, ![16, 128, 128]⟩
abbrev S8x2048 : Shape := ⟨2, ![8, 2048]⟩
abbrev S256x512 : Shape := ⟨2, ![256, 512]⟩
abbrev S16x512 : Shape := ⟨2, ![16, 512]⟩
abbrev S1x4x128x128 : Shape := ⟨4, ![1, 4, 128, 128]⟩
abbrev S1x1x512 : Shape := ⟨3, ![1, 1, 512]⟩
abbrev S1x512 : Shape := ⟨2, ![1, 512]⟩
abbrev S4x128x128 : Shape := ⟨3, ![4, 128, 128]⟩
abbrev S8x512 : Shape := ⟨2, ![8, 512]⟩
abbrev S4x544x128 : Shape := ⟨3, ![4, 544, 128]⟩
abbrev S256x128 : Shape := ⟨2, ![256, 128]⟩
abbrev S1x1x128x128 : Shape := ⟨4, ![1, 1, 128, 128]⟩
abbrev S128x128 : Shape := ⟨2, ![128, 128]⟩
abbrev S1x128 : Shape := ⟨2, ![1, 128]⟩
abbrev S8x128 : Shape := ⟨2, ![8, 128]⟩
abbrev S1x8x128 : Shape := ⟨3, ![1, 8, 128]⟩
abbrev S272x512 : Shape := ⟨2, ![272, 512]⟩
abbrev S1x128x128 : Shape := ⟨3, ![1, 128, 128]⟩
abbrev S128 : Shape := ⟨1, ![128]⟩
abbrev S2x512 : Shape := ⟨2, ![2, 512]⟩

abbrev nBuf : Space → Nat
  | .hbm => 32
  | .vmem => 40
  | .smem => 0
  | _ => 0

abbrev bufTy : (tb : Table) → Fin (tcTables nBuf tb) → BufTy
  | .hbm, ⟨0, _⟩ => ⟨S256x2048, .f32⟩
  | .hbm, ⟨1, _⟩ => ⟨S256x2048, .bf16⟩
  | .hbm, ⟨2, _⟩ => ⟨S256x2048, .bf16⟩
  | .hbm, ⟨3, _⟩ => ⟨S1x2048, .f32⟩
  | .hbm, ⟨4, _⟩ => ⟨S1x2048, .f32⟩
  | .hbm, ⟨5, _⟩ => ⟨S2x16x128x128, .f32⟩
  | .hbm, ⟨6, _⟩ => ⟨S2x2048, .f32⟩
  | .hbm, ⟨7, _⟩ => ⟨S2x16x128x128, .f32⟩
  | .hbm, ⟨8, _⟩ => ⟨S2x2048, .f32⟩
  | .hbm, ⟨9, _⟩ => ⟨S2x2048, .f32⟩
  | .hbm, ⟨10, _⟩ => ⟨S_, .f32⟩
  | .hbm, ⟨11, _⟩ => ⟨S2x16x128x128, .f32⟩
  | .hbm, ⟨12, _⟩ => ⟨S2x16x128x128, .f32⟩
  | .hbm, ⟨13, _⟩ => ⟨S2x16x128x128, .bf16⟩
  | .hbm, ⟨14, _⟩ => ⟨S_, .f32⟩
  | .hbm, ⟨15, _⟩ => ⟨S2x16x128x128, .f32⟩
  | .hbm, ⟨16, _⟩ => ⟨S2x16x128x128, .f32⟩
  | .hbm, ⟨17, _⟩ => ⟨S2x16x128x128, .bf16⟩
  | .hbm, ⟨18, _⟩ => ⟨S2x1x2048, .f32⟩
  | .hbm, ⟨19, _⟩ => ⟨S_, .f32⟩
  | .hbm, ⟨20, _⟩ => ⟨S2x1x2048, .f32⟩
  | .hbm, ⟨21, _⟩ => ⟨S2x1x2048, .f32⟩
  | .hbm, ⟨22, _⟩ => ⟨S2x1x2048, .f32⟩
  | .hbm, ⟨23, _⟩ => ⟨S_, .f32⟩
  | .hbm, ⟨24, _⟩ => ⟨S2x1x2048, .f32⟩
  | .hbm, ⟨25, _⟩ => ⟨S2x1x2048, .f32⟩
  | .hbm, ⟨26, _⟩ => ⟨S2x1x2048, .f32⟩
  | .hbm, ⟨27, _⟩ => ⟨S256x2048, .bf16⟩
  | .hbm, ⟨28, _⟩ => ⟨S16x128x128, .f32⟩
  | .hbm, ⟨29, _⟩ => ⟨S16x128x128, .f32⟩
  | .hbm, ⟨30, _⟩ => ⟨S8x2048, .f32⟩
  | .hbm, ⟨31, _⟩ => ⟨S1x2048, .f32⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S16x512, .bf16⟩
  | .local _ .vmem, ⟨7, _⟩ => ⟨S16x512, .bf16⟩
  | .local _ .vmem, ⟨8, _⟩ => ⟨S1x4x128x128, .bf16⟩
  | .local _ .vmem, ⟨9, _⟩ => ⟨S1x4x128x128, .bf16⟩
  | .local _ .vmem, ⟨10, _⟩ => ⟨S1x4x128x128, .bf16⟩
  | .local _ .vmem, ⟨11, _⟩ => ⟨S1x4x128x128, .bf16⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S256x512, .bf16⟩
  | .local _ .vmem, ⟨23, _⟩ => ⟨S256x512, .bf16⟩
  | .local _ .vmem, ⟨24, _⟩ => ⟨S4x128x128, .f32⟩
  | .local _ .vmem, ⟨25, _⟩ => ⟨S4x128x128, .f32⟩
  | .local _ .vmem, ⟨26, _⟩ => ⟨S4x128x128, .f32⟩
  | .local _ .vmem, ⟨27, _⟩ => ⟨S4x128x128, .f32⟩
  | .local _ .vmem, ⟨28, _⟩ => ⟨S8x512, .f32⟩
  | .local _ .vmem, ⟨29, _⟩ => ⟨S8x512, .f32⟩
  | .local _ .vmem, ⟨30, _⟩ => ⟨S1x512, .f32⟩
  | .local _ .vmem, ⟨31, _⟩ => ⟨S1x512, .f32⟩
  | .local _ .vmem, ⟨32, _⟩ => ⟨S4x544x128, .f32⟩
  | .local _ .vmem, ⟨33, _⟩ => ⟨S4x544x128, .f32⟩
  | .local _ .vmem, ⟨34, _⟩ => ⟨S256x512, .f32⟩
  | .local _ .vmem, ⟨35, _⟩ => ⟨S256x512, .bf16⟩
  | .local _ .vmem, ⟨36, _⟩ => ⟨S256x512, .bf16⟩
  | .local _ .vmem, ⟨37, _⟩ => ⟨S256x512, .bf16⟩
  | .local _ .vmem, ⟨38, _⟩ => ⟨S256x512, .bf16⟩
  | .local _ .vmem, ⟨39, _⟩ => ⟨S256x512, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v13_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 1], ![false, false]⟩

@[reducible] def k0_t1_loop : Scf.Loop 32 :=
  let c0_i32_870 : BitVec 32 := 0#32
  let c8_i32 : BitVec 32 := 8#32
  let v1317 : BitVec 32 := Scalar.addi c0_i32_870 c8_i32
  let c1_i32 : BitVec 32 := 1#32
  ⟨c0_i32_870, v1317, c1_i32⟩
def k0_off1 (k0_t1 : Fin k0_t1_loop.trips) (c0_i32_2114 : BitVec 32) : Fin 3 → Nat :=
  let c0_2115 : Index := 0#32
  let c0_i32_870 : BitVec 32 := 0#32
  let c1_i32 : BitVec 32 := 1#32
  let arg26 : BitVec 32 := Scf.iv c0_i32_870 c1_i32 k0_t1
  let c4_i32 : BitVec 32 := 4#32
  let v3118 : BitVec 32 := Scalar.muli arg26 c4_i32
  let v3119 : BitVec 32 := Scalar.addi v3118 c0_i32_2114
  let c17_i32 : BitVec 32 := 17#32
  let v3120 : BitVec 32 := Scalar.muli v3119 c17_i32
  let v3121 : Index := Scalar.indexCast v3120
  let c0_2116 : Index := 0#32
  ![0, v3121.toNat, 0]
def k0_off2 (k0_t1 : Fin k0_t1_loop.trips) (c0_i32_2114 : BitVec 32) : Fin 3 → Nat :=
  let c1_2123 : Index := 1#32
  let c0_i32_870 : BitVec 32 := 0#32
  let c1_i32 : BitVec 32 := 1#32
  let arg26 : BitVec 32 := Scf.iv c0_i32_870 c1_i32 k0_t1
  let c4_i32 : BitVec 32 := 4#32
  let v3118 : BitVec 32 := Scalar.muli arg26 c4_i32
  let v3119 : BitVec 32 := Scalar.addi v3118 c0_i32_2114
  let c17_i32 : BitVec 32 := 17#32
  let v3120 : BitVec 32 := Scalar.muli v3119 c17_i32
  let v3138 : Index := Scalar.indexCast v3120
  let c0_2124 : Index := 0#32
  ![1, v3138.toNat, 0]
def k0_off3 (k0_t1 : Fin k0_t1_loop.trips) (c0_i32_2114 : BitVec 32) : Fin 3 → Nat :=
  let c2_2131 : Index := 2#32
  let c0_i32_870 : BitVec 32 := 0#32
  let c1_i32 : BitVec 32 := 1#32
  let arg26 : BitVec 32 := Scf.iv c0_i32_870 c1_i32 k0_t1
  let c4_i32 : BitVec 32 := 4#32
  let v3118 : BitVec 32 := Scalar.muli arg26 c4_i32
  let v3119 : BitVec 32 := Scalar.addi v3118 c0_i32_2114
  let c17_i32 : BitVec 32 := 17#32
  let v3120 : BitVec 32 := Scalar.muli v3119 c17_i32
  let v3155 : Index := Scalar.indexCast v3120
  let c0_2132 : Index := 0#32
  ![2, v3155.toNat, 0]
def k0_off4 (k0_t1 : Fin k0_t1_loop.trips) (c0_i32_2114 : BitVec 32) : Fin 3 → Nat :=
  let c3_2139 : Index := 3#32
  let c0_i32_870 : BitVec 32 := 0#32
  let c1_i32 : BitVec 32 := 1#32
  let arg26 : BitVec 32 := Scf.iv c0_i32_870 c1_i32 k0_t1
  let c4_i32 : BitVec 32 := 4#32
  let v3118 : BitVec 32 := Scalar.muli arg26 c4_i32
  let v3119 : BitVec 32 := Scalar.addi v3118 c0_i32_2114
  let c17_i32 : BitVec 32 := 17#32
  let v3120 : BitVec 32 := Scalar.muli v3119 c17_i32
  let v3172 : Index := Scalar.indexCast v3120
  let c0_2140 : Index := 0#32
  ![3, v3172.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c15_i32 : BitVec 32 := 15#32
  let v2 : BitVec 32 := Scalar.minsi v1 c15_i32
  let c0_i32 : BitVec 32 := 0#32
  ![v2.toNat, arg0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== InF.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S1024x8x512 : Shape := ⟨3, ![1024, 8, 512]⟩
abbrev S8x1024x512 : Shape := ⟨3, ![8, 1024, 512]⟩
abbrev S8192x2048 : Shape := ⟨2, ![8192, 2048]⟩
abbrev S512x1024 : Shape := ⟨2, ![512, 1024]⟩
abbrev S512x2048 : Shape := ⟨2, ![512, 2048]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 11
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S1x1024, .f32⟩
  | .hbm, ⟨5, _⟩ => ⟨S1x1024, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | .hbm, ⟨9, _⟩ => ⟨S8192x2048, .f32⟩
  | .hbm, ⟨10, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S8x1024x512, .bf16⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InFRefIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S1x1024 : Shape := ⟨2, ![1, 1024]⟩
abbrev S8192x4096 : Shape := ⟨2, ![8192, 4096]⟩
abbrev S8192x2048 : Shape := ⟨2, ![8192, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x4096, .f32⟩
  | .hbm, ⟨14, _⟩ => ⟨S8192x2048, .f32⟩
  | .hbm, ⟨15, _⟩ => ⟨S8192x2048, .f32⟩
  | .hbm, ⟨16, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== InCtxF.lean ====
abbrev S256x1024 : Shape := ⟨2, ![256, 1024]⟩
abbrev S1024 : Shape := ⟨1, ![1024]⟩
abbrev S1024x4096 : Shape := ⟨2, ![1024, 4096]⟩
abbrev S1x1024 : Shape := ⟨2, ![1, 1024]⟩
abbrev S1024x8x512 : Shape := ⟨3, ![1024, 8, 512]⟩
abbrev S8x1024x512 : Shape := ⟨3, ![8, 1024, 512]⟩
abbrev S256x2048 : Shape := ⟨2, ![256, 2048]⟩
abbrev S1x1024x512 : Shape := ⟨3, ![1, 1024, 512]⟩
abbrev S1024x512 : Shape := ⟨2, ![1024, 512]⟩
abbrev S256x512 : Shape := ⟨2, ![256, 512]⟩

abbrev nBuf : Space → Nat
  | .hbm => 11
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S1x1024, .f32⟩
  | .hbm, ⟨5, _⟩ => ⟨S1x1024, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | .hbm, ⟨9, _⟩ => ⟨S256x2048, .f32⟩
  | .hbm, ⟨10, _⟩ => ⟨S256x2048, .bf16⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S8x1024x512, .bf16⟩
  | .local _ .vmem, ⟨4, _⟩ => ⟨S256x2048, .f32⟩
  | .local _ .vmem, ⟨5, _⟩ => ⟨S256x2048, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== InCtxFRefIdeal.lean ====
abbrev S256x1024 : Shape := ⟨2, ![256, 1024]⟩
abbrev S1024 : Shape := ⟨1, ![1024]⟩
abbrev S1024x4096 : Shape := ⟨2, ![1024, 4096]⟩
abbrev S_ : Shape := ⟨0, ![]⟩
abbrev S1x1024 : Shape := ⟨2, ![1, 1024]⟩
abbrev S256x4096 : Shape := ⟨2, ![256, 4096]⟩
abbrev S256x2048 : Shape := ⟨2, ![256, 2048]⟩

abbrev nBuf : Space → Nat
  | .hbm => 17
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S256x1024, .f32⟩
  | .hbm, ⟨9, _⟩ => ⟨S256x1024, .f32⟩
  | .hbm, ⟨10, _⟩ => ⟨S1x1024, .f32⟩
  | .hbm, ⟨11, _⟩ => ⟨S256x1024, .f32⟩
  | .hbm, ⟨12, _⟩ => ⟨S256x1024, .f32⟩
  | .hbm, ⟨13, _⟩ => ⟨S256x4096, .f32⟩
  | .hbm, ⟨14, _⟩ => ⟨S256x2048, .f32⟩
  | .hbm, ⟨15, _⟩ => ⟨S256x2048, .f32⟩
  | .hbm, ⟨16, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== ModF.lean ====
abbrev S8x1024 : Shape := ⟨2, ![8, 1024]⟩
abbrev S1024 : Shape := ⟨1, ![1024]⟩
abbrev S2x1024x384 : Shape := ⟨3, ![2, 1024, 384]⟩
abbrev S2x384 : Shape := ⟨2, ![2, 384]⟩
abbrev S1x1024 : Shape := ⟨2, ![1, 1024]⟩
abbrev S16x1024 : Shape := ⟨2, ![16, 1024]⟩
abbrev S2x1x384 : Shape := ⟨3, ![2, 1, 384]⟩
abbrev S2x16x384 : Shape := ⟨3, ![2, 16, 384]⟩
abbrev S1x1024x384 : Shape := ⟨3, ![1, 1024, 384]⟩
abbrev S1024x384 : Shape := ⟨2, ![1024, 384]⟩
abbrev S16x384 : Shape := ⟨2, ![16, 384]⟩
abbrev S1x1x384 : Shape := ⟨3, ![1, 1, 384]⟩
abbrev S1x384 : Shape := ⟨2, ![1, 384]⟩
abbrev S1x16x384 : Shape := ⟨3, ![1, 16, 384]⟩

abbrev nBuf : Space → Nat
  | .hbm => 9
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x384, .f32⟩
  | .hbm, ⟨3, _⟩ => ⟨S2x384, .f32⟩
  | .hbm, ⟨4, _⟩ => ⟨S1x1024, .f32⟩
  | .hbm, ⟨5, _⟩ => ⟨S8x1024, .f32⟩
  | .hbm, ⟨6, _⟩ => ⟨S16x1024, .f32⟩
  | .hbm, ⟨7, _⟩ => ⟨S2x1x384, .f32⟩
  | .hbm, ⟨8, _⟩ => ⟨S2x16x384, .f32⟩
  | .local _ .vmem, ⟨0, _⟩ => ⟨S16x1024, .f32⟩
  | .local _ .vmem, ⟨1, _⟩ => ⟨S2x1024x384, .f32⟩
  | .local _ .vmem, ⟨2, _⟩ => ⟨S2x1x384, .f32⟩
  | .local _ .vmem, ⟨3, _⟩ => ⟨S2x16x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ModFRefIdeal.lean ====
abbrev S8x1024 : Shape := ⟨2, ![8, 1024]⟩
abbrev S1024 : Shape := ⟨1, ![1024]⟩
abbrev S2x1024x384 : Shape := ⟨3, ![2, 1024, 384]⟩
abbrev S2x384 : Shape := ⟨2, ![2, 384]⟩
abbrev S_ : Shape := ⟨0, ![]⟩
abbrev S1x1024x384 : Shape := ⟨3, ![1, 1024, 384]⟩
abbrev S1024x384 : Shape := ⟨2, ![1024, 384]⟩
abbrev S8x384 : Shape := ⟨2, ![8, 384]⟩
abbrev S1x384 : Shape := ⟨2, ![1, 384]⟩
abbrev S384 : Shape := ⟨1, ![384]⟩
abbrev S1x8x384 : Shape := ⟨3, ![1, 8, 384]⟩
abbrev S2x8x384 : Shape := ⟨3, ![2, 8, 384]⟩
abbrev S1x1024 : Shape := ⟨2, ![1, 1024]⟩
abbrev S1x1x384 : Shape := ⟨3, ![1, 1, 384]⟩
abbrev S2x1x384 : Shape := ⟨3, ![2, 1, 384]⟩
abbrev S2x16x384 : Shape := ⟨3, ![2, 16, 384]⟩

abbrev nBuf : Space → Nat
  | .hbm => 62
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x384, .f32⟩
  | .hbm, ⟨3, _⟩ => ⟨S2x384, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x384, .f32⟩
  | .hbm, ⟨23, _⟩ => ⟨S1024x384, .f32⟩
  | .hbm, ⟨24, _⟩ => ⟨S8x384, .f32⟩
  | .hbm, ⟨25, _⟩ => ⟨S1x384, .f32⟩
  | .hbm, ⟨26, _⟩ => ⟨S384, .f32⟩
  | .hbm, ⟨27, _⟩ => ⟨S1x384, .f32⟩
  | .hbm, ⟨28, _⟩ => ⟨S8x384, .f32⟩
  | .hbm, ⟨29, _⟩ => ⟨S8x384, .f32⟩
  | .hbm, ⟨30, _⟩ => ⟨S1x1024x384, .f32⟩
  | .hbm, ⟨31, _⟩ => ⟨S1024x384, .f32⟩
  | .hbm, ⟨32, _⟩ => ⟨S8x384, .f32⟩
  | .hbm, ⟨33, _⟩ => ⟨S1x384, .f32⟩
  | .hbm, ⟨34, _⟩ => ⟨S384, .f32⟩
  | .hbm, ⟨35, _⟩ => ⟨S1x384, .f32⟩
  | .hbm, ⟨36, _⟩ => ⟨S8x384, .f32⟩
  | .hbm, ⟨37, _⟩ => ⟨S8x384, .f32⟩
  | .hbm, ⟨38, _⟩ => ⟨S1x8x384, .f32⟩
  | .hbm, ⟨39, _⟩ => ⟨S1x8x384, .f32⟩
  | .hbm, ⟨40, _⟩ => ⟨S2x8x384, .f32⟩
  | .hbm, ⟨41, _⟩ => ⟨S1x1024, .f32⟩
  | .hbm, ⟨42, _⟩ => ⟨S1x1024x384, .f32⟩
  | .hbm, ⟨43, _⟩ => ⟨S1024x384, .f32⟩
  | .hbm, ⟨44, _⟩ => ⟨S1x384, .f32⟩
  | .hbm, ⟨45, _⟩ => ⟨S1x384, .f32⟩
  | .hbm, ⟨46, _⟩ => ⟨S384, .f32⟩
  | .hbm, ⟨47, _⟩ => ⟨S1x384, .f32⟩
  | .hbm, ⟨48, _⟩ => ⟨S1x384, .f32⟩
  | .hbm, ⟨49, _⟩ => ⟨S1x1024, .f32⟩
  | .hbm, ⟨50, _⟩ => ⟨S1x1024x384, .f32⟩
  | .hbm, ⟨51, _⟩ => ⟨S1024x384, .f32⟩
  | .hbm, ⟨52, _⟩ => ⟨S1x384, .f32⟩
  | .hbm, ⟨53, _⟩ => ⟨S1x384, .f32⟩
  | .hbm, ⟨54, _⟩ => ⟨S384, .f32⟩
  | .hbm, ⟨55, _⟩ => ⟨S1x384, .f32⟩
  | .hbm, ⟨56, _⟩ => ⟨S1x384, .f32⟩
  | .hbm, ⟨57, _⟩ => ⟨S1x1x384, .f32⟩
  | .hbm, ⟨58, _⟩ => ⟨S1x1x384, .f32⟩
  | .hbm, ⟨59, _⟩ => ⟨S2x1x384, .f32⟩
  | .hbm, ⟨60, _⟩ => ⟨S2x8x384, .f32⟩
  | .hbm, ⟨61, _⟩ => ⟨S2x16x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== LruF.lean ====
abbrev S8192x2048 : Shape := ⟨2, ![8192, 2048]⟩
abbrev S1x2048 : Shape := ⟨2, ![1, 2048]⟩
abbrev S2x16x128x128 : Shape := ⟨4, ![2, 16, 128, 128]⟩
abbrev S2x2048 : Shape := ⟨2, ![2, 2048]⟩
abbrev S_ : Shape := ⟨0, ![]⟩
abbrev S2x1x2048 : Shape := ⟨3, ![2, 1, 2048]⟩
abbrev S16x128x128 : Shape := ⟨3, ![16, 128, 128]⟩
abbrev S8x2048 : Shape := ⟨2, ![8, 2048]⟩
abbrev S1024x512 : Shape := ⟨2, ![1024, 512]⟩
abbrev S16x512 : Shape := ⟨2, ![16, 512]⟩
abbrev S1x4x128x128 : Shape := ⟨4, ![1, 4, 128, 128]⟩
abbrev S1x1x512 : Shape := ⟨3, ![1, 1, 512]⟩
abbrev S1x512 : Shape := ⟨2, ![1, 512]⟩
abbrev S4x128x128 : Shape := ⟨3, ![4, 128, 128]⟩
abbrev S8x512 : Shape := ⟨2, ![8, 512]⟩
abbrev S4x2176x128 : Shape := ⟨3, ![4, 2176, 128]⟩
abbrev S1024x128 : Shape := ⟨2, ![1024, 128]⟩
abbrev S1x1x128x128 : Shape := ⟨4, ![1, 1, 128, 128]⟩
abbrev S128x128 : Shape := ⟨2, ![128, 128]⟩
abbrev S1x128 : Shape := ⟨2, ![1, 128]⟩
abbrev S8x128 : Shape := ⟨2, ![8, 128]⟩
abbrev S1x8x128 : Shape := ⟨3, ![1, 8, 128]⟩
abbrev S1040x512 : Shape := ⟨2, ![1040, 512]⟩
abbrev S1x128x128 : Shape := ⟨3, ![1, 128, 128]⟩
abbrev S128 : Shape := ⟨1, ![128]⟩
abbrev S2x512 : Shape := ⟨2, ![2, 512]⟩

abbrev nBuf : Space → Nat
  | .hbm => 32
  | .vmem => 40
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S2x16x128x128, .f32⟩
  | .hbm, ⟨6, _⟩ => ⟨S2x2048, .f32⟩
  | .hbm, ⟨7, _⟩ => ⟨S2x16x128x128, .f32⟩
  | .hbm, ⟨8, _⟩ => ⟨S2x2048, .f32⟩
  | .hbm, ⟨9, _⟩ => ⟨S2x2048, .f32⟩
  | .hbm, ⟨10, _⟩ => ⟨S_, .f32⟩
  | .hbm, ⟨11, _⟩ => ⟨S2x16x128x128, .f32⟩
  | .hbm, ⟨12, _⟩ => ⟨S2x16x128x128, .f32⟩
  | .hbm, ⟨13, _⟩ => ⟨S2x16x128x128, .bf16⟩
  | .hbm, ⟨14, _⟩ => ⟨S_, .f32⟩
  | .hbm, ⟨15, _⟩ => ⟨S2x16x128x128, .f32⟩
  | .hbm, ⟨16, _⟩ => ⟨S2x16x128x128, .f32⟩
  | .hbm, ⟨17, _⟩ => ⟨S2x16x128x128, .bf16⟩
  | .hbm, ⟨18, _⟩ => ⟨S2x1x2048, .f32⟩
  | .hbm, ⟨19, _⟩ => ⟨S_, .f32⟩
  | .hbm, ⟨20, _⟩ => ⟨S2x1x2048, .f32⟩
  | .hbm, ⟨21, _⟩ => ⟨S2x1x2048, .f32⟩
  | .hbm, ⟨22, _⟩ => ⟨S2x1x2048, .f32⟩
  | .hbm, ⟨23, _⟩ => ⟨S_, .f32⟩
  | .hbm, ⟨24, _⟩ => ⟨S2x1x2048, .f32⟩
  | .hbm, ⟨25, _⟩ => ⟨S2x1x2048, .f32⟩
  | .hbm, ⟨26, _⟩ => ⟨S2x1x2048, .f32⟩
  | .hbm, ⟨27, _⟩ => ⟨S8192x2048, .bf16⟩
  | .hbm, ⟨28, _⟩ => ⟨S16x128x128, .f32⟩
  | .hbm, ⟨29, _⟩ => ⟨S16x128x128, .f32⟩
  | .hbm, ⟨30, _⟩ => ⟨S8x2048, .f32⟩
  | .hbm, ⟨31, _⟩ => ⟨S1x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S16x512, .bf16⟩
  | .local _ .vmem, ⟨7, _⟩ => ⟨S16x512, .bf16⟩
  | .local _ .vmem, ⟨8, _⟩ => ⟨S1x4x128x128, .bf16⟩
  | .local _ .vmem, ⟨9, _⟩ => ⟨S1x4x128x128, .bf16⟩
  | .local _ .vmem, ⟨10, _⟩ => ⟨S1x4x128x128, .bf16⟩
  | .local _ .vmem, ⟨11, _⟩ => ⟨S1x4x128x128, .bf16⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1024x512, .bf16⟩
  | .local _ .vmem, ⟨23, _⟩ => ⟨S1024x512, .bf16⟩
  | .local _ .vmem, ⟨24, _⟩ => ⟨S4x128x128, .f32⟩
  | .local _ .vmem, ⟨25, _⟩ => ⟨S4x128x128, .f32⟩
  | .local _ .vmem, ⟨26, _⟩ => ⟨S4x128x128, .f32⟩
  | .local _ .vmem, ⟨27, _⟩ => ⟨S4x128x128, .f32⟩
  | .local _ .vmem, ⟨28, _⟩ => ⟨S8x512, .f32⟩
  | .local _ .vmem, ⟨29, _⟩ => ⟨S8x512, .f32⟩
  | .local _ .vmem, ⟨30, _⟩ => ⟨S1x512, .f32⟩
  | .local _ .vmem, ⟨31, _⟩ => ⟨S1x512, .f32⟩
  | .local _ .vmem, ⟨32, _⟩ => ⟨S4x2176x128, .f32⟩
  | .local _ .vmem, ⟨33, _⟩ => ⟨S4x2176x128, .f32⟩
  | .local _ .vmem, ⟨34, _⟩ => ⟨S1024x512, .f32⟩
  | .local _ .vmem, ⟨35, _⟩ => ⟨S1024x512, .bf16⟩
  | .local _ .vmem, ⟨36, _⟩ => ⟨S1024x512, .bf16⟩
  | .local _ .vmem, ⟨37, _⟩ => ⟨S1024x512, .bf16⟩
  | .local _ .vmem, ⟨38, _⟩ => ⟨S1024x512, .bf16⟩
  | .local _ .vmem, ⟨39, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v13_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_3078 : BitVec 32 := 0#32
  let c32_i32 : BitVec 32 := 32#32
  let v4390 : BitVec 32 := Scalar.addi c0_i32_3078 c32_i32
  let c1_i32 : BitVec 32 := 1#32
  ⟨c0_i32_3078, v4390, c1_i32⟩
def k0_off1 (k0_t1 : Fin k0_t1_loop.trips) (c3_i32 : BitVec 32) : Fin 3 → Nat :=
  let c0_7312 : Index := 0#32
  let c31_i32 : BitVec 32 := 31#32
  let c0_i32_3078 : BitVec 32 := 0#32
  let c1_i32 : BitVec 32 := 1#32
  let arg26 : BitVec 32 := Scf.iv c0_i32_3078 c1_i32 k0_t1
  let v10031 : BitVec 32 := Scalar.subi c31_i32 arg26
  let c4_i32 : BitVec 32 := 4#32
  let v10032 : BitVec 32 := Scalar.muli v10031 c4_i32
  let v10033 : BitVec 32 := Scalar.addi v10032 c3_i32
  let c17_i32 : BitVec 32 := 17#32
  let v10034 : BitVec 32 := Scalar.muli v10033 c17_i32
  let v10035 : Index := Scalar.indexCast v10034
  let c0_7313 : Index := 0#32
  ![0, v10035.toNat, 0]
def k0_off2 (k0_t1 : Fin k0_t1_loop.trips) (c3_i32 : BitVec 32) : Fin 3 → Nat :=
  let c1_7320 : Index := 1#32
  let c31_i32 : BitVec 32 := 31#32
  let c0_i32_3078 : BitVec 32 := 0#32
  let c1_i32 : BitVec 32 := 1#32
  let arg26 : BitVec 32 := Scf.iv c0_i32_3078 c1_i32 k0_t1
  let v10031 : BitVec 32 := Scalar.subi c31_i32 arg26
  let c4_i32 : BitVec 32 := 4#32
  let v10032 : BitVec 32 := Scalar.muli v10031 c4_i32
  let v10033 : BitVec 32 := Scalar.addi v10032 c3_i32
  let c17_i32 : BitVec 32 := 17#32
  let v10034 : BitVec 32 := Scalar.muli v10033 c17_i32
  let v10052 : Index := Scalar.indexCast v10034
  let c0_7321 : Index := 0#32
  ![1, v10052.toNat, 0]
def k0_off3 (k0_t1 : Fin k0_t1_loop.trips) (c3_i32 : BitVec 32) : Fin 3 → Nat :=
  let c2_7328 : Index := 2#32
  let c31_i32 : BitVec 32 := 31#32
  let c0_i32_3078 : BitVec 32 := 0#32
  let c1_i32 : BitVec 32 := 1#32
  let arg26 : BitVec 32 := Scf.iv c0_i32_3078 c1_i32 k0_t1
  let v10031 : BitVec 32 := Scalar.subi c31_i32 arg26
  let c4_i32 : BitVec 32 := 4#32
  let v10032 : BitVec 32 := Scalar.muli v10031 c4_i32
  let v10033 : BitVec 32 := Scalar.addi v10032 c3_i32
  let c17_i32 : BitVec 32 := 17#32
  let v10034 : BitVec 32 := Scalar.muli v10033 c17_i32
  let v10069 : Index := Scalar.indexCast v10034
  let c0_7329 : Index := 0#32
  ![2, v10069.toNat, 0]
def k0_off4 (k0_t1 : Fin k0_t1_loop.trips) (c3_i32 : BitVec 32) : Fin 3 → Nat :=
  let c3_7336 : Index := 3#32
  let c31_i32 : BitVec 32 := 31#32
  let c0_i32_3078 : BitVec 32 := 0#32
  let c1_i32 : BitVec 32 := 1#32
  let arg26 : BitVec 32 := Scf.iv c0_i32_3078 c1_i32 k0_t1
  let v10031 : BitVec 32 := Scalar.subi c31_i32 arg26
  let c4_i32 : BitVec 32 := 4#32
  let v10032 : BitVec 32 := Scalar.muli v10031 c4_i32
  let v10033 : BitVec 32 := Scalar.addi v10032 c3_i32
  let c17_i32 : BitVec 32 := 17#32
  let v10034 : BitVec 32 := Scalar.muli v10033 c17_i32
  let v10086 : Index := Scalar.indexCast v10034
  let c0_7337 : Index := 0#32
  ![3, v10086.toNat, 0]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== LruB.lean ====
abbrev S8192x2048 : Shape := ⟨2, ![8192, 2048]⟩
abbrev S1x2048 : Shape := ⟨2, ![1, 2048]⟩
abbrev S2x16x128x128 : Shape := ⟨4, ![2, 16, 128, 128]⟩
abbrev S2x2048 : Shape := ⟨2, ![2, 2048]⟩
abbrev S_ : Shape := ⟨0, ![]⟩
abbrev S2x1x2048 : Shape := ⟨3, ![2, 1, 2048]⟩
abbrev S16x128x128 : Shape := ⟨3, ![16, 128, 128]⟩
abbrev S8x2048 : Shape := ⟨2, ![8, 2048]⟩
abbrev S1024x512 : Shape := ⟨2, ![1024, 512]⟩
abbrev S16x512 : Shape := ⟨2, ![16, 512]⟩
abbrev S1x4x128x128 : Shape := ⟨4, ![1, 4, 128, 128]⟩
abbrev S1x1x512 : Shape := ⟨3, ![1, 1, 512]⟩
abbrev S1x512 : Shape := ⟨2, ![1, 512]⟩
abbrev S4x128x128 : Shape := ⟨3, ![4, 128, 128]⟩
abbrev S8x512 : Shape := ⟨2, ![8, 512]⟩
abbrev S4x2176x128 : Shape := ⟨3, ![4, 2176, 128]⟩
abbrev S1024x128 : Shape := ⟨2, ![1024, 128]⟩
abbrev S1x1x128x128 : Shape := ⟨4, ![1, 1, 128, 128]⟩
abbrev S128x128 : Shape := ⟨2, ![128, 128]⟩
abbrev S1x128 : Shape := ⟨2, ![1, 128]⟩
abbrev S8x128 : Shape := ⟨2, ![8, 128]⟩
abbrev S1x8x128 : Shape := ⟨3, ![1, 8, 128]⟩
abbrev S1040x512 : Shape := ⟨2, ![1040, 512]⟩
abbrev S1x128x128 : Shape := ⟨3, ![1, 128, 128]⟩
abbrev S128 : Shape := ⟨1, ![128]⟩
abbrev S2x512 : Shape := ⟨2, ![2, 512]⟩

abbrev nBuf : Space → Nat
  | .hbm => 32
  | .vmem => 40
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S2x16x128x128, .f32⟩
  | .hbm, ⟨6, _⟩ => ⟨S2x2048, .f32⟩
  | .hbm, ⟨7, _⟩ => ⟨S2x16x128x128, .f32⟩
  | .hbm, ⟨8, _⟩ => ⟨S2x2048, .f32⟩
  | .hbm, ⟨9, _⟩ => ⟨S2x2048, .f32⟩
  | .hbm, ⟨10, _⟩ => ⟨S_, .f32⟩
  | .hbm, ⟨11, _⟩ => ⟨S2x16x128x128, .f32⟩
  | .hbm, ⟨12, _⟩ => ⟨S2x16x128x128, .f32⟩
  | .hbm, ⟨13, _⟩ => ⟨S2x16x128x128, .bf16⟩
  | .hbm, ⟨14, _⟩ => ⟨S_, .f32⟩
  | .hbm, ⟨15, _⟩ => ⟨S2x16x128x128, .f32⟩
  | .hbm, ⟨16, _⟩ => ⟨S2x16x128x128, .f32⟩
  | .hbm, ⟨17, _⟩ => ⟨S2x16x128x128, .bf16⟩
  | .hbm, ⟨18, _⟩ => ⟨S2x1x2048, .f32⟩
  | .hbm, ⟨19, _⟩ => ⟨S_, .f32⟩
  | .hbm, ⟨20, _⟩ => ⟨S2x1x2048, .f32⟩
  | .hbm, ⟨21, _⟩ => ⟨S2x1x2048, .f32⟩
  | .hbm, ⟨22, _⟩ => ⟨S2x1x2048, .f32⟩
  | .hbm, ⟨23, _⟩ => ⟨S_, .f32⟩
  | .hbm, ⟨24, _⟩ => ⟨S2x1x2048, .f32⟩
  | .hbm, ⟨25, _⟩ => ⟨S2x1x2048, .f32⟩
  | .hbm, ⟨26, _⟩ => ⟨S2x1x2048, .f32⟩
  | .hbm, ⟨27, _⟩ => ⟨S8192x2048, .bf16⟩
  | .hbm, ⟨28, _⟩ => ⟨S16x128x128, .f32⟩
  | .hbm, ⟨29, _⟩ => ⟨S16x128x128, .f32⟩
  | .hbm, ⟨30, _⟩ => ⟨S8x2048, .f32⟩
  | .hbm, ⟨31, _⟩ => ⟨S1x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S16x512, .bf16⟩
  | .local _ .vmem, ⟨7, _⟩ => ⟨S16x512, .bf16⟩
  | .local _ .vmem, ⟨8, _⟩ => ⟨S1x4x128x128, .bf16⟩
  | .local _ .vmem, ⟨9, _⟩ => ⟨S1x4x128x128, .bf16⟩
  | .local _ .vmem, ⟨10, _⟩ => ⟨S1x4x128x128, .bf16⟩
  | .local _ .vmem, ⟨11, _⟩ => ⟨S1x4x128x128, .bf16⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1024x512, .bf16⟩
  | .local _ .vmem, ⟨23, _⟩ => ⟨S1024x512, .bf16⟩
  | .local _ .vmem, ⟨24, _⟩ => ⟨S4x128x128, .f32⟩
  | .local _ .vmem, ⟨25, _⟩ => ⟨S4x128x128, .f32⟩
  | .local _ .vmem, ⟨26, _⟩ => ⟨S4x128x128, .f32⟩
  | .local _ .vmem, ⟨27, _⟩ => ⟨S4x128x128, .f32⟩
  | .local _ .vmem, ⟨28, _⟩ => ⟨S8x512, .f32⟩
  | .local _ .vmem, ⟨29, _⟩ => ⟨S8x512, .f32⟩
  | .local _ .vmem, ⟨30, _⟩ => ⟨S1x512, .f32⟩
  | .local _ .vmem, ⟨31, _⟩ => ⟨S1x512, .f32⟩
  | .local _ .vmem, ⟨32, _⟩ => ⟨S4x2176x128, .f32⟩
  | .local _ .vmem, ⟨33, _⟩ => ⟨S4x2176x128, .f32⟩
  | .local _ .vmem, ⟨34, _⟩ => ⟨S1024x512, .f32⟩
  | .local _ .vmem, ⟨35, _⟩ => ⟨S1024x512, .bf16⟩
  | .local _ .vmem, ⟨36, _⟩ => ⟨S1024x512, .bf16⟩
  | .local _ .vmem, ⟨37, _⟩ => ⟨S1024x512, .bf16⟩
  | .local _ .vmem, ⟨38, _⟩ => ⟨S1024x512, .bf16⟩
  | .local _ .vmem, ⟨39, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v13_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_3078 : BitVec 32 := 0#32
  let c32_i32 : BitVec 32 := 32#32
  let v4389 : BitVec 32 := Scalar.addi c0_i32_3078 c32_i32
  let c1_i32 : BitVec 32 := 1#32
  ⟨c0_i32_3078, v4389, c1_i32⟩
def k0_off1 (k0_t1 : Fin k0_t1_loop.trips) (c0_i32_7311 : BitVec 32) : Fin 3 → Nat :=
  let c0_7312 : Index := 0#32
  let c0_i32_3078 : BitVec 32 := 0#32
  let c1_i32 : BitVec 32 := 1#32
  let arg26 : BitVec 32 := Scf.iv c0_i32_3078 c1_i32 k0_t1
  let c4_i32 : BitVec 32 := 4#32
  let v10030 : BitVec 32 := Scalar.muli arg26 c4_i32
  let v10031 : BitVec 32 := Scalar.addi v10030 c0_i32_7311
  let c17_i32 : BitVec 32 := 17#32
  let v10032 : BitVec 32 := Scalar.muli v10031 c17_i32
  let v10033 : Index := Scalar.indexCast v10032
  let c0_7313 : Index := 0#32
  ![0, v10033.toNat, 0]
def k0_off2 (k0_t1 : Fin k0_t1_loop.trips) (c0_i32_7311 : BitVec 32) : Fin 3 → Nat :=
  let c1_7320 : Index := 1#32
  let c0_i32_3078 : BitVec 32 := 0#32
  let c1_i32 : BitVec 32 := 1#32
  let arg26 : BitVec 32 := Scf.iv c0_i32_3078 c1_i32 k0_t1
  let c4_i32 : BitVec 32 := 4#32
  let v10030 : BitVec 32 := Scalar.muli arg26 c4_i32
  let v10031 : BitVec 32 := Scalar.addi v10030 c0_i32_7311
  let c17_i32 : BitVec 32 := 17#32
  let v10032 : BitVec 32 := Scalar.muli v10031 c17_i32
  let v10050 : Index := Scalar.indexCast v10032
  let c0_7321 : Index := 0#32
  ![1, v10050.toNat, 0]
def k0_off3 (k0_t1 : Fin k0_t1_loop.trips) (c0_i32_7311 : BitVec 32) : Fin 3 → Nat :=
  let c2_7328 : Index := 2#32
  let c0_i32_3078 : BitVec 32 := 0#32
  let c1_i32 : BitVec 32 := 1#32
  let arg26 : BitVec 32 := Scf.iv c0_i32_3078 c1_i32 k0_t1
  let c4_i32 : BitVec 32 := 4#32
  let v10030 : BitVec 32 := Scalar.muli arg26 c4_i32
  let v10031 : BitVec 32 := Scalar.addi v10030 c0_i32_7311
  let c17_i32 : BitVec 32 := 17#32
  let v10032 : BitVec 32 := Scalar.muli v10031 c17_i32
  let v10067 : Index := Scalar.indexCast v10032
  let c0_7329 : Index := 0#32
  ![2, v10067.toNat, 0]
def k0_off4 (k0_t1 : Fin k0_t1_loop.trips) (c0_i32_7311 : BitVec 32) : Fin 3 → Nat :=
  let c3_7336 : Index := 3#32
  let c0_i32_3078 : BitVec 32 := 0#32
  let c1_i32 : BitVec 32 := 1#32
  let arg26 : BitVec 32 := Scf.iv c0_i32_3078 c1_i32 k0_t1
  let c4_i32 : BitVec 32 := 4#32
  let v10030 : BitVec 32 := Scalar.muli arg26 c4_i32
  let v10031 : BitVec 32 := Scalar.addi v10030 c0_i32_7311
  let c17_i32 : BitVec 32 := 17#32
  let v10032 : BitVec 32 := Scalar.muli v10031 c17_i32
  let v10084 : Index := Scalar.indexCast v10032
  let c0_7337 : Index := 0#32
  ![3, v10084.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Proof.LruCtxBRun.lean ====
module

public import proofs.«01_k».proof.Proof.Gen.LruCtxB.Frame
public import proofs.«01_k».proof.Proof.Gen.LruCtxB.Loops
public import Idealize.ShloMosaic.Adequacy

/-! The recurrence's backward call: its body's run. -/

@[expose] public section

set_option maxRecDepth 16384

noncomputable section

namespace Cert.LruCtxB.Run

open Cert.LruCtxB Cert.LruCtxB.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
@[sl_loop] noncomputable def loopInv_k0_t1 (c : Dev nD) (E : Set ℕ) (i : grid0.Coords) (arg2 : Memref sig .tc .vmem S256x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S256x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x544x128 .f32) (harg18 : arg18.IsWhole) (arg19 : Memref sig .tc .vmem S4x544x128 .f32) (harg19 : arg19.IsWhole) (arg20 : Memref sig .tc .vmem S256x512 .f32) (harg20 : arg20.IsWhole) (arg21 : Memref sig .tc .vmem S256x512 .bf16) (harg21 : arg21.IsWhole) (arg22 : Memref sig .tc .vmem S256x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (v1052 : FVec F S256x128 .f32) (v1293 : FVec F S8x128 .f32) (init : FVec F S8x128 .f32 × FVec F S8x128 .f32 × FVec F S8x128 .f32 × FVec F S8x128 .f32 × FVec F S8x128 .f32 × FVec F S8x128 .f32 × FVec F S8x128 .f32 × FVec F S8x128 .f32) :
    Cert.LruCtxB.Gen.LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1052 v1293 init where
  inv := fun _ _ => iprop((∃ f, arg18.view.loc (c : Thread nD τ) ↦[arg18.view.set]{fullShare} f) ∗ (∃ f, arg19.view.loc (c : Thread nD τ) ↦[arg19.view.set]{fullShare} f))
  step := fun k acc => by
    have hk : k.val < 8 := k.isLt
    unfold k0_t1_body
    iintro ⟨⟨%f, HA⟩, ⟨%g, HB⟩⟩
    sl_exec
    sl_step
    isplitl [HA]
    · iexists _; iexact HA
    · iexists _; iexact HB

local notation "𝕄" => MT nD τ sig Unit (Elt F) ℕ (UR sig nD τ) ℕ

abbrev isFirst (i : grid0.Coords) : Prop :=
  Scalar.cmpi .ne (Scalar.extui (Scalar.cmpi .eq (BitVec.ofNat 32 (i 1).val) 0#32) : BitVec 32) 0#32 = 1#1

theorem isFirst_coords : ∀ t : Fin cfg0.N, isFirst (grid0.coords t) := by decide +kernel

set_option maxHeartbeats 16000000 in
theorem run (c : Dev nD) (i : grid0.Coords) (arg2 : Memref sig .tc .vmem S256x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S256x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x544x128 .f32) (harg18 : arg18.IsWhole) (arg19 : Memref sig .tc .vmem S4x544x128 .f32) (harg19 : arg19.IsWhole) (arg20 : Memref sig .tc .vmem S256x512 .f32) (harg20 : arg20.IsWhole) (arg21 : Memref sig .tc .vmem S256x512 .bf16) (harg21 : arg21.IsWhole) (arg22 : Memref sig .tc .vmem S256x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (hc : isFirst i)
    (x2 : Vec F S256x512 .f32) (x3 : Vec F S256x512 .bf16) (x4 : Vec F S256x512 .bf16) (x5 : Vec F S16x512 .bf16) (x6 : Vec F S1x4x128x128 .bf16) (x7 : Vec F S1x4x128x128 .bf16) (x8 : Vec F S1x1x512 .f32) (x9 : Vec F S1x1x512 .f32) (x10 : Vec F S1x1x512 .f32) (x11 : Vec F S1x512 .f32) (x12 : Vec F S1x512 .f32) :
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_lru_bwd_ctx_b i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    simp only [cc0_lru_bwd_ctx_b_eq_skeleton]; unfold cc0_lru_bwd_ctx_b_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc)

    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _, _; isplitr; swap; · iexact H25
    ipureintro; rfl

end Cert.LruCtxB.Run

end

end
-- ==== Proof.LruCtxBFrame.lean ====
module

public import proofs.«01_k».proof.Proof.LruCtxBRun
public import Idealize.ShloMosaic.Lib.Pipeline.FrameBody
public import Idealize.ShloMosaic.Lib.Claim

/-! The frame of the recurrence's backward call: the body's run at every point of the grid, the outputs' contents not named. -/

@[expose] public section

set_option maxRecDepth 16384

noncomputable section

namespace Cert.LruCtxB.Run

open Cert.LruCtxB Cert.LruCtxB.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not named: the outputs. -/
def forgets0 : Fin 16 → Bool := fun w => decide (11 ≤ w.val)

/-- The data of the pipeline: an input's buffer at its block, an output's at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨n + 16, h⟩ => absurd (show n + 16 < 16 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (st0_9 t) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (st0_10 t) fullShare (iblk m c 10 t) := by
  unfold Dat.leavesExact; rw [show cfg0.idle 10 (grid0.coords t) = false from rfl, after_10]

theorem Phi_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, leaves_0, leaves_1, leaves_2, leaves_3, leaves_4, leaves_5, leaves_6, leaves_7, leaves_8, leaves_9, leaves_10]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, Phi_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run c (grid0.coords t) _ _ _ _ _ _ _ _ _ _ _ _ _ _ _ _ _ _ _ _ _ _ _ _ _ _ _ _ _ _ _ _ _ _ _ _ _ _ _ _ _ _ _ _ _ _ _ _ (isFirst_coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation (c : Dev nD) : BodyObligation (dats (F := F) m 0 c) (defs₀ (F := F)) Variants.none () Set.univ forgets0 := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- The launch: the inputs' arrays and every buffer outside the pipeline as found, every counter at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The arguments, read off a run of the pipeline whose arrays are those at its entry. -/
theorem unchanged_of (rdat : (c : Dev nD) → Pipeline.RDat τ (Elt F) Unit ℕ (UR sig nD τ) ℕ (cfgs 0) c)
    (hA : ∀ c w, (rdat c).A w = V m c (Pipeline.arrRef spec0 w)) (r : PUnit × MemSt nD τ sig (Elt F))
    (h : Pipeline.RDat.FramePost (cfgs 0) rdat (V m) r) : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  fun c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c)),
      (Pipeline.RDat.FramePost.arr_in h c 10 rfl).trans ((hA c 10).trans (V_main_arg3 m c)),
      (Pipeline.RDat.FramePost.arr_in h c 9 rfl).trans ((hA c 9).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨unchanged_of m _ (A_eq m) r h.1, h.2⟩) (run_main m ρ)

end Cert.LruCtxB.Run

end

end
-- ==== Proof.LruFLoop.lean ====
module

public import proofs.«01_k».proof.Proof.Gen.LruF.Frame
public import proofs.«01_k».proof.Proof.Gen.LruF.Loops
public import Idealize.ShloMosaic.Adequacy

/-! The recurrence's backward call: its body's run. -/

@[expose] public section

set_option maxRecDepth 16384

noncomputable section

namespace Cert.LruF.Run

open Cert.LruF Cert.LruF.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
@[sl_loop] noncomputable def loopInv_k0_t1 (c : Dev nD) (E : Set ℕ) (i : grid0.Coords) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x2176x128 .f32) (harg18 : arg18.IsWhole) (arg19 : Memref sig .tc .vmem S4x2176x128 .f32) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S1024x512 .bf16) (harg25 : arg25.IsWhole) (v4382 : FVec F S8x128 .f32) (v4383 : FVec F S8x128 .f32) (cst_3072 : F .f32) (init : FVec F S8x128 .f32 × FVec F S8x128 .f32 × FVec F S8x128 .f32 × FVec F S8x128 .f32 × FVec F S8x128 .f32 × FVec F S8x128 .f32 × FVec F S8x128 .f32 × FVec F S8x128 .f32) :
    Cert.LruF.Gen.LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v4382 v4383 cst_3072 init where
  inv := fun _ _ => iprop((∃ f, arg18.view.loc (c : Thread nD τ) ↦[arg18.view.set]{fullShare} f) ∗ (∃ f, arg19.view.loc (c : Thread nD τ) ↦[arg19.view.set]{fullShare} f))
  step := fun k acc => by
    have hk : k.val < 32 := k.isLt
    unfold k0_t1_body
    iintro ⟨⟨%f, HA⟩, ⟨%g, HB⟩⟩
    sl_exec
    sl_step
    isplitl [HA]
    · iexists _; iexact HA
    · iexists _; iexact HB

local notation "𝕄" => MT nD τ sig Unit (Elt F) ℕ (UR sig nD τ) ℕ

abbrev isFirst (i : grid0.Coords) : Prop :=
  Scalar.cmpi .ne (Scalar.extui (Scalar.cmpi .eq (BitVec.ofNat 32 (i 1).val) 0#32) : BitVec 32) 0#32 = 1#1

abbrev isLast (i : grid0.Coords) : Prop :=
  Scalar.cmpi .ne (Scalar.extui (Scalar.cmpi .eq (BitVec.ofNat 32 (i 1).val) 7#32) : BitVec 32) 0#32 = 1#1

/-- What the body does from its buffers: it gives the inputs back as they were, and the outputs and the scratch at some contents. -/
abbrev Runs (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x2176x128 .f32) (harg18 : arg18.IsWhole) (arg19 : Memref sig .tc .vmem S4x2176x128 .f32) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S1024x512 .bf16) (harg25 : arg25.IsWhole)
    (x2 : Vec F S1024x512 .f32) (x3 : Vec F S1024x512 .bf16) (x4 : Vec F S1024x512 .bf16) (x5 : Vec F S16x512 .bf16) (x6 : Vec F S1x4x128x128 .bf16) (x7 : Vec F S1x4x128x128 .bf16) (x8 : Vec F S1x1x512 .f32) (x9 : Vec F S1x1x512 .f32) (x10 : Vec F S1x1x512 .f32) (x11 : Vec F S1x512 .f32) (x12 : Vec F S1x512 .f32) : Prop :=
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_lru_bwd_f i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K

end Cert.LruF.Run

end

end
-- ==== Proof.LruFFirst.lean ====
module

public import proofs.«01_k».proof.Proof.LruFLoop
public import Idealize.ShloMosaic.Adequacy

/-! The recurrence's backward call: its body's run at the first chunk of the sweep. -/

@[expose] public section

set_option maxRecDepth 16384

noncomputable section

namespace Cert.LruF.Run

open Cert.LruF Cert.LruF.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 100000000 in
theorem run_first (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x2176x128 .f32) (harg18 : arg18.IsWhole) (arg19 : Memref sig .tc .vmem S4x2176x128 .f32) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S1024x512 .bf16) (harg25 : arg25.IsWhole) (hc : isFirst i) (hl : ¬ isLast i)
    (x2 : Vec F S1024x512 .f32) (x3 : Vec F S1024x512 .bf16) (x4 : Vec F S1024x512 .bf16) (x5 : Vec F S16x512 .bf16) (x6 : Vec F S1x4x128x128 .bf16) (x7 : Vec F S1x4x128x128 .bf16) (x8 : Vec F S1x1x512 .f32) (x9 : Vec F S1x1x512 .f32) (x10 : Vec F S1x1x512 .f32) (x11 : Vec F S1x512 .f32) (x12 : Vec F S1x512 .f32) : Runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x2 x3 x4 x5 x6 x7 x8 x9 x10 x11 x12 := by
    unfold Runs
    intro E K
    simp only [cc0_lru_bwd_f_eq_skeleton]; unfold cc0_lru_bwd_f_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc | sl_exact hl)

    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _, _; isplitr; swap; · iexact H25
    ipureintro; rfl

end Cert.LruF.Run

end

end
-- ==== Proof.LruFMid.lean ====
module

public import proofs.«01_k».proof.Proof.LruFLoop
public import Idealize.ShloMosaic.Adequacy

/-! The recurrence's backward call: its body's run at a middle chunk of the sweep. -/

@[expose] public section

set_option maxRecDepth 16384

noncomputable section

namespace Cert.LruF.Run

open Cert.LruF Cert.LruF.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 100000000 in
theorem run_mid (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x2176x128 .f32) (harg18 : arg18.IsWhole) (arg19 : Memref sig .tc .vmem S4x2176x128 .f32) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S1024x512 .bf16) (harg25 : arg25.IsWhole) (hc : ¬ isFirst i) (hl : ¬ isLast i)
    (x2 : Vec F S1024x512 .f32) (x3 : Vec F S1024x512 .bf16) (x4 : Vec F S1024x512 .bf16) (x5 : Vec F S16x512 .bf16) (x6 : Vec F S1x4x128x128 .bf16) (x7 : Vec F S1x4x128x128 .bf16) (x8 : Vec F S1x1x512 .f32) (x9 : Vec F S1x1x512 .f32) (x10 : Vec F S1x1x512 .f32) (x11 : Vec F S1x512 .f32) (x12 : Vec F S1x512 .f32) : Runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x2 x3 x4 x5 x6 x7 x8 x9 x10 x11 x12 := by
    unfold Runs
    intro E K
    simp only [cc0_lru_bwd_f_eq_skeleton]; unfold cc0_lru_bwd_f_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc | sl_exact hl)

    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _, _; isplitr; swap; · iexact H25
    ipureintro; rfl

end Cert.LruF.Run

end

end
-- ==== Proof.LruFLast.lean ====
module

public import proofs.«01_k».proof.Proof.LruFLoop
public import Idealize.ShloMosaic.Adequacy

/-! The recurrence's backward call: its body's run at the last chunk of the sweep. -/

@[expose] public section

set_option maxRecDepth 16384

noncomputable section

namespace Cert.LruF.Run

open Cert.LruF Cert.LruF.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 100000000 in
theorem run_last (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x2176x128 .f32) (harg18 : arg18.IsWhole) (arg19 : Memref sig .tc .vmem S4x2176x128 .f32) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S1024x512 .bf16) (harg25 : arg25.IsWhole) (hc : ¬ isFirst i) (hl : isLast i)
    (x2 : Vec F S1024x512 .f32) (x3 : Vec F S1024x512 .bf16) (x4 : Vec F S1024x512 .bf16) (x5 : Vec F S16x512 .bf16) (x6 : Vec F S1x4x128x128 .bf16) (x7 : Vec F S1x4x128x128 .bf16) (x8 : Vec F S1x1x512 .f32) (x9 : Vec F S1x1x512 .f32) (x10 : Vec F S1x1x512 .f32) (x11 : Vec F S1x512 .f32) (x12 : Vec F S1x512 .f32) : Runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x2 x3 x4 x5 x6 x7 x8 x9 x10 x11 x12 := by
    unfold Runs
    intro E K
    simp only [cc0_lru_bwd_f_eq_skeleton]; unfold cc0_lru_bwd_f_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc | sl_exact hl)

    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _, _; isplitr; swap; · iexact H25
    ipureintro; rfl

end Cert.LruF.Run

end

end
-- ==== Proof.LruFRun.lean ====
module

public import proofs.«01_k».proof.Proof.LruFFirst
public import proofs.«01_k».proof.Proof.LruFMid
public import proofs.«01_k».proof.Proof.LruFLast
public import Idealize.ShloMosaic.Adequacy

/-! The recurrence's backward call: its body's run at any chunk of the sweep. -/

@[expose] public section

set_option maxRecDepth 16384

noncomputable section

namespace Cert.LruF.Run

open Cert.LruF Cert.LruF.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's run at any chunk. -/
theorem run (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x2176x128 .f32) (harg18 : arg18.IsWhole) (arg19 : Memref sig .tc .vmem S4x2176x128 .f32) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S1024x512 .bf16) (harg25 : arg25.IsWhole) (hn : isFirst i → ¬ isLast i)
    (x2 : Vec F S1024x512 .f32) (x3 : Vec F S1024x512 .bf16) (x4 : Vec F S1024x512 .bf16) (x5 : Vec F S16x512 .bf16) (x6 : Vec F S1x4x128x128 .bf16) (x7 : Vec F S1x4x128x128 .bf16) (x8 : Vec F S1x1x512 .f32) (x9 : Vec F S1x1x512 .f32) (x10 : Vec F S1x1x512 .f32) (x11 : Vec F S1x512 .f32) (x12 : Vec F S1x512 .f32) : Runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x2 x3 x4 x5 x6 x7 x8 x9 x10 x11 x12 := by
    unfold Runs
    intro E K
    by_cases hc : isFirst i
    · exact run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc (hn hc) x2 x3 x4 x5 x6 x7 x8 x9 x10 x11 x12 E K
    by_cases hl : isLast i
    · exact run_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc hl x2 x3 x4 x5 x6 x7 x8 x9 x10 x11 x12 E K
    · exact run_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc hl x2 x3 x4 x5 x6 x7 x8 x9 x10 x11 x12 E K

theorem first_last : ∀ t : Fin cfg0.N, isFirst (grid0.coords t) → ¬ isLast (grid0.coords t) := by decide +kernel

end Cert.LruF.Run

end

end
-- ==== Proof.LruFFrame.lean ====
module

public import proofs.«01_k».proof.Proof.LruFRun
public import Idealize.ShloMosaic.Lib.Pipeline.FrameBody
public import Idealize.ShloMosaic.Lib.Claim

/-! The frame of the recurrence's backward call: the body's run at every point of the grid, the outputs' contents not named. -/

@[expose] public section

set_option maxRecDepth 16384

noncomputable section

namespace Cert.LruF.Run

open Cert.LruF Cert.LruF.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not named: the outputs. -/
def forgets0 : Fin 16 → Bool := fun w => decide (11 ≤ w.val)

/-- The data of the pipeline: an input's buffer at its block, an output's at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨n + 16, h⟩ => absurd (show n + 16 < 16 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (st0_9 t) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (st0_10 t) fullShare (iblk m c 10 t) := by
  unfold Dat.leavesExact; rw [show cfg0.idle 10 (grid0.coords t) = false from rfl, after_10]

theorem Phi_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, leaves_0, leaves_1, leaves_2, leaves_3, leaves_4, leaves_5, leaves_6, leaves_7, leaves_8, leaves_9, leaves_10]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, Phi_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run c (grid0.coords t) _ _ _ _ _ _ _ _ _ _ _ _ _ _ _ _ _ _ _ _ _ _ _ _ _ _ _ _ _ _ _ _ _ _ _ _ _ _ _ _ _ _ _ _ _ _ _ _ (first_last t) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation (c : Dev nD) : BodyObligation (dats (F := F) m 0 c) (defs₀ (F := F)) Variants.none () Set.univ forgets0 := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- The launch: the inputs' arrays and every buffer outside the pipeline as found, every counter at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The arguments, read off a run of the pipeline whose arrays are those at its entry. -/
theorem unchanged_of (rdat : (c : Dev nD) → Pipeline.RDat τ (Elt F) Unit ℕ (UR sig nD τ) ℕ (cfgs 0) c)
    (hA : ∀ c w, (rdat c).A w = V m c (Pipeline.arrRef spec0 w)) (r : PUnit × MemSt nD τ sig (Elt F))
    (h : Pipeline.RDat.FramePost (cfgs 0) rdat (V m) r) : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  fun c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c)),
      (Pipeline.RDat.FramePost.arr_in h c 10 rfl).trans ((hA c 10).trans (V_main_arg3 m c)),
      (Pipeline.RDat.FramePost.arr_in h c 9 rfl).trans ((hA c 9).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨unchanged_of m _ (A_eq m) r h.1, h.2⟩) (run_main m ρ)

end Cert.LruF.Run

end

end
-- ==== Proof.LruBLoop.lean ====
module

public import proofs.«01_k».proof.Proof.Gen.LruB.Frame
public import proofs.«01_k».proof.Proof.Gen.LruB.Loops
public import Idealize.ShloMosaic.Adequacy

/-! The recurrence's backward call: its body's run. -/

@[expose] public section

set_option maxRecDepth 16384

noncomputable section

namespace Cert.LruB.Run

open Cert.LruB Cert.LruB.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
@[sl_loop] noncomputable def loopInv_k0_t1 (c : Dev nD) (E : Set ℕ) (i : grid0.Coords) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x2176x128 .f32) (harg18 : arg18.IsWhole) (arg19 : Memref sig .tc .vmem S4x2176x128 .f32) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S1024x512 .bf16) (harg25 : arg25.IsWhole) (v4381 : FVec F S8x128 .f32) (v4382 : FVec F S8x128 .f32) (v4383 : FVec F S8x128 .f32) (cst_3073 : F .f32) (init : FVec F S8x128 .f32 × FVec F S8x128 .f32 × FVec F S8x128 .f32 × FVec F S8x128 .f32 × FVec F S8x128 .f32 × FVec F S8x128 .f32 × FVec F S8x128 .f32 × FVec F S8x128 .f32) :
    Cert.LruB.Gen.LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v4381 v4382 v4383 cst_3073 init where
  inv := fun _ _ => iprop((∃ f, arg18.view.loc (c : Thread nD τ) ↦[arg18.view.set]{fullShare} f) ∗ (∃ f, arg19.view.loc (c : Thread nD τ) ↦[arg19.view.set]{fullShare} f))
  step := fun k acc => by
    have hk : k.val < 32 := k.isLt
    unfold k0_t1_body
    iintro ⟨⟨%f, HA⟩, ⟨%g, HB⟩⟩
    sl_exec
    sl_step
    isplitl [HA]
    · iexists _; iexact HA
    · iexists _; iexact HB

local notation "𝕄" => MT nD τ sig Unit (Elt F) ℕ (UR sig nD τ) ℕ

abbrev isFirst (i : grid0.Coords) : Prop :=
  Scalar.cmpi .ne (Scalar.extui (Scalar.cmpi .eq (BitVec.ofNat 32 (i 1).val) 0#32) : BitVec 32) 0#32 = 1#1

abbrev isLast (i : grid0.Coords) : Prop :=
  Scalar.cmpi .ne (Scalar.extui (Scalar.cmpi .eq (BitVec.ofNat 32 (i 1).val) 7#32) : BitVec 32) 0#32 = 1#1

/-- What the body does from its buffers: it gives the inputs back as they were, and the outputs and the scratch at some contents. -/
abbrev Runs (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x2176x128 .f32) (harg18 : arg18.IsWhole) (arg19 : Memref sig .tc .vmem S4x2176x128 .f32) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S1024x512 .bf16) (harg25 : arg25.IsWhole)
    (x2 : Vec F S1024x512 .f32) (x3 : Vec F S1024x512 .bf16) (x4 : Vec F S1024x512 .bf16) (x5 : Vec F S16x512 .bf16) (x6 : Vec F S1x4x128x128 .bf16) (x7 : Vec F S1x4x128x128 .bf16) (x8 : Vec F S1x1x512 .f32) (x9 : Vec F S1x1x512 .f32) (x10 : Vec F S1x1x512 .f32) (x11 : Vec F S1x512 .f32) (x12 : Vec F S1x512 .f32) : Prop :=
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_lru_bwd_b i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K

end Cert.LruB.Run

end

end
-- ==== Proof.LruBFirst.lean ====
module

public import proofs.«01_k».proof.Proof.LruBLoop
public import Idealize.ShloMosaic.Adequacy

/-! The recurrence's backward call: its body's run at the first chunk of the sweep. -/

@[expose] public section

set_option maxRecDepth 16384

noncomputable section

namespace Cert.LruB.Run

open Cert.LruB Cert.LruB.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 100000000 in
theorem run_first (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x2176x128 .f32) (harg18 : arg18.IsWhole) (arg19 : Memref sig .tc .vmem S4x2176x128 .f32) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S1024x512 .bf16) (harg25 : arg25.IsWhole) (hc : isFirst i) (hl : ¬ isLast i)
    (x2 : Vec F S1024x512 .f32) (x3 : Vec F S1024x512 .bf16) (x4 : Vec F S1024x512 .bf16) (x5 : Vec F S16x512 .bf16) (x6 : Vec F S1x4x128x128 .bf16) (x7 : Vec F S1x4x128x128 .bf16) (x8 : Vec F S1x1x512 .f32) (x9 : Vec F S1x1x512 .f32) (x10 : Vec F S1x1x512 .f32) (x11 : Vec F S1x512 .f32) (x12 : Vec F S1x512 .f32) : Runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x2 x3 x4 x5 x6 x7 x8 x9 x10 x11 x12 := by
    unfold Runs
    intro E K
    simp only [cc0_lru_bwd_b_eq_skeleton]; unfold cc0_lru_bwd_b_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc | sl_exact hl)

    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _, _; isplitr; swap; · iexact H25
    ipureintro; rfl

end Cert.LruB.Run

end

end
-- ==== Proof.LruBMid.lean ====
module

public import proofs.«01_k».proof.Proof.LruBLoop
public import Idealize.ShloMosaic.Adequacy

/-! The recurrence's backward call: its body's run at a middle chunk of the sweep. -/

@[expose] public section

set_option maxRecDepth 16384

noncomputable section

namespace Cert.LruB.Run

open Cert.LruB Cert.LruB.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 100000000 in
theorem run_mid (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x2176x128 .f32) (harg18 : arg18.IsWhole) (arg19 : Memref sig .tc .vmem S4x2176x128 .f32) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S1024x512 .bf16) (harg25 : arg25.IsWhole) (hc : ¬ isFirst i) (hl : ¬ isLast i)
    (x2 : Vec F S1024x512 .f32) (x3 : Vec F S1024x512 .bf16) (x4 : Vec F S1024x512 .bf16) (x5 : Vec F S16x512 .bf16) (x6 : Vec F S1x4x128x128 .bf16) (x7 : Vec F S1x4x128x128 .bf16) (x8 : Vec F S1x1x512 .f32) (x9 : Vec F S1x1x512 .f32) (x10 : Vec F S1x1x512 .f32) (x11 : Vec F S1x512 .f32) (x12 : Vec F S1x512 .f32) : Runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x2 x3 x4 x5 x6 x7 x8 x9 x10 x11 x12 := by
    unfold Runs
    intro E K
    simp only [cc0_lru_bwd_b_eq_skeleton]; unfold cc0_lru_bwd_b_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc | sl_exact hl)

    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _, _; isplitr; swap; · iexact H25
    ipureintro; rfl

end Cert.LruB.Run

end

end
-- ==== Proof.LruBLast.lean ====
module

public import proofs.«01_k».proof.Proof.LruBLoop
public import Idealize.ShloMosaic.Adequacy

/-! The recurrence's backward call: its body's run at the last chunk of the sweep. -/

@[expose] public section

set_option maxRecDepth 16384

noncomputable section

namespace Cert.LruB.Run

open Cert.LruB Cert.LruB.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 100000000 in
theorem run_last (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x2176x128 .f32) (harg18 : arg18.IsWhole) (arg19 : Memref sig .tc .vmem S4x2176x128 .f32) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S1024x512 .bf16) (harg25 : arg25.IsWhole) (hc : ¬ isFirst i) (hl : isLast i)
    (x2 : Vec F S1024x512 .f32) (x3 : Vec F S1024x512 .bf16) (x4 : Vec F S1024x512 .bf16) (x5 : Vec F S16x512 .bf16) (x6 : Vec F S1x4x128x128 .bf16) (x7 : Vec F S1x4x128x128 .bf16) (x8 : Vec F S1x1x512 .f32) (x9 : Vec F S1x1x512 .f32) (x10 : Vec F S1x1x512 .f32) (x11 : Vec F S1x512 .f32) (x12 : Vec F S1x512 .f32) : Runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x2 x3 x4 x5 x6 x7 x8 x9 x10 x11 x12 := by
    unfold Runs
    intro E K
    simp only [cc0_lru_bwd_b_eq_skeleton]; unfold cc0_lru_bwd_b_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc | sl_exact hl)

    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _, _; isplitr; swap; · iexact H25
    ipureintro; rfl

end Cert.LruB.Run

end

end
-- ==== Proof.LruBRun.lean ====
module

public import proofs.«01_k».proof.Proof.LruBFirst
public import proofs.«01_k».proof.Proof.LruBMid
public import proofs.«01_k».proof.Proof.LruBLast
public import Idealize.ShloMosaic.Adequacy

/-! The recurrence's backward call: its body's run at any chunk of the sweep. -/

@[expose] public section

set_option maxRecDepth 16384

noncomputable section

namespace Cert.LruB.Run

open Cert.LruB Cert.LruB.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's run at any chunk. -/
theorem run (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x2176x128 .f32) (harg18 : arg18.IsWhole) (arg19 : Memref sig .tc .vmem S4x2176x128 .f32) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S1024x512 .bf16) (harg25 : arg25.IsWhole) (hn : isFirst i → ¬ isLast i)
    (x2 : Vec F S1024x512 .f32) (x3 : Vec F S1024x512 .bf16) (x4 : Vec F S1024x512 .bf16) (x5 : Vec F S16x512 .bf16) (x6 : Vec F S1x4x128x128 .bf16) (x7 : Vec F S1x4x128x128 .bf16) (x8 : Vec F S1x1x512 .f32) (x9 : Vec F S1x1x512 .f32) (x10 : Vec F S1x1x512 .f32) (x11 : Vec F S1x512 .f32) (x12 : Vec F S1x512 .f32) : Runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x2 x3 x4 x5 x6 x7 x8 x9 x10 x11 x12 := by
    unfold Runs
    intro E K
    by_cases hc : isFirst i
    · exact run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc (hn hc) x2 x3 x4 x5 x6 x7 x8 x9 x10 x11 x12 E K
    by_cases hl : isLast i
    · exact run_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc hl x2 x3 x4 x5 x6 x7 x8 x9 x10 x11 x12 E K
    · exact run_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc hl x2 x3 x4 x5 x6 x7 x8 x9 x10 x11 x12 E K

theorem first_last : ∀ t : Fin cfg0.N, isFirst (grid0.coords t) → ¬ isLast (grid0.coords t) := by decide +kernel

end Cert.LruB.Run

end

end
-- ==== Proof.LruBFrame.lean ====
module

public import proofs.«01_k».proof.Proof.LruBRun
public import Idealize.ShloMosaic.Lib.Pipeline.FrameBody
public import Idealize.ShloMosaic.Lib.Claim

/-! The frame of the recurrence's backward call: the body's run at every point of the grid, the outputs' contents not named. -/

@[expose] public section

set_option maxRecDepth 16384

noncomputable section

namespace Cert.LruB.Run

open Cert.LruB Cert.LruB.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not named: the outputs. -/
def forgets0 : Fin 16 → Bool := fun w => decide (11 ≤ w.val)

/-- The data of the pipeline: an input's buffer at its block, an output's at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨n + 16, h⟩ => absurd (show n + 16 < 16 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (st0_9 t) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (st0_10 t) fullShare (iblk m c 10 t) := by
  unfold Dat.leavesExact; rw [show cfg0.idle 10 (grid0.coords t) = false from rfl, after_10]

theorem Phi_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, leaves_0, leaves_1, leaves_2, leaves_3, leaves_4, leaves_5, leaves_6, leaves_7, leaves_8, leaves_9, leaves_10]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, Phi_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run c (grid0.coords t) _ _ _ _ _ _ _ _ _ _ _ _ _ _ _ _ _ _ _ _ _ _ _ _ _ _ _ _ _ _ _ _ _ _ _ _ _ _ _ _ _ _ _ _ _ _ _ _ (first_last t) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation (c : Dev nD) : BodyObligation (dats (F := F) m 0 c) (defs₀ (F := F)) Variants.none () Set.univ forgets0 := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- The launch: the inputs' arrays and every buffer outside the pipeline as found, every counter at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The arguments, read off a run of the pipeline whose arrays are those at its entry. -/
theorem unchanged_of (rdat : (c : Dev nD) → Pipeline.RDat τ (Elt F) Unit ℕ (UR sig nD τ) ℕ (cfgs 0) c)
    (hA : ∀ c w, (rdat c).A w = V m c (Pipeline.arrRef spec0 w)) (r : PUnit × MemSt nD τ sig (Elt F))
    (h : Pipeline.RDat.FramePost (cfgs 0) rdat (V m) r) : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  fun c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c)),
      (Pipeline.RDat.FramePost.arr_in h c 10 rfl).trans ((hA c 10).trans (V_main_arg3 m c)),
      (Pipeline.RDat.FramePost.arr_in h c 9 rfl).trans ((hA c 9).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨unchanged_of m _ (A_eq m) r h.1, h.2⟩) (run_main m ρ)

end Cert.LruB.Run

end

end
-- ==== Proof.LruCtxRun.lean ====
module

public import proofs.«01_k».proof.Proof.Gen.LruCtx.Frame
public import proofs.«01_k».proof.Proof.Gen.LruCtx.Loops
public import Idealize.ShloMosaic.Adequacy

/-! The recurrence's backward call: its body's run. -/

@[expose] public section

set_option maxRecDepth 16384

noncomputable section

namespace Cert.LruCtx.Run

open Cert.LruCtx Cert.LruCtx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
@[sl_loop] noncomputable def loopInv_k0_t1 (c : Dev nD) (E : Set ℕ) (i : grid0.Coords) (arg2 : Memref sig .tc .vmem S256x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S256x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x544x128 .f32) (harg18 : arg18.IsWhole) (arg19 : Memref sig .tc .vmem S4x544x128 .f32) (harg19 : arg19.IsWhole) (arg20 : Memref sig .tc .vmem S256x512 .f32) (harg20 : arg20.IsWhole) (arg21 : Memref sig .tc .vmem S256x512 .bf16) (harg21 : arg21.IsWhole) (arg22 : Memref sig .tc .vmem S256x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (v1053 : FVec F S256x128 .f32) (v1294 : FVec F S8x128 .f32) (init : FVec F S8x128 .f32 × FVec F S8x128 .f32 × FVec F S8x128 .f32 × FVec F S8x128 .f32 × FVec F S8x128 .f32 × FVec F S8x128 .f32 × FVec F S8x128 .f32 × FVec F S8x128 .f32) :
    Cert.LruCtx.Gen.LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1053 v1294 init where
  inv := fun _ _ => iprop((∃ f, arg18.view.loc (c : Thread nD τ) ↦[arg18.view.set]{fullShare} f) ∗ (∃ f, arg19.view.loc (c : Thread nD τ) ↦[arg19.view.set]{fullShare} f))
  step := fun k acc => by
    have hk : k.val < 8 := k.isLt
    unfold k0_t1_body
    iintro ⟨⟨%f, HA⟩, ⟨%g, HB⟩⟩
    sl_exec
    sl_step
    isplitl [HA]
    · iexists _; iexact HA
    · iexists _; iexact HB

local notation "𝕄" => MT nD τ sig Unit (Elt F) ℕ (UR sig nD τ) ℕ

abbrev isFirst (i : grid0.Coords) : Prop :=
  Scalar.cmpi .ne (Scalar.extui (Scalar.cmpi .eq (BitVec.ofNat 32 (i 1).val) 0#32) : BitVec 32) 0#32 = 1#1

theorem isFirst_coords : ∀ t : Fin cfg0.N, isFirst (grid0.coords t) := by decide +kernel

set_option maxHeartbeats 16000000 in
theorem run (c : Dev nD) (i : grid0.Coords) (arg2 : Memref sig .tc .vmem S256x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S16x512 .bf16) (harg5 : arg5.IsWhole) (arg6 : Memref sig .tc .vmem S1x4x128x128 .bf16) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S256x512 .bf16) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S4x544x128 .f32) (harg18 : arg18.IsWhole) (arg19 : Memref sig .tc .vmem S4x544x128 .f32) (harg19 : arg19.IsWhole) (arg20 : Memref sig .tc .vmem S256x512 .f32) (harg20 : arg20.IsWhole) (arg21 : Memref sig .tc .vmem S256x512 .bf16) (harg21 : arg21.IsWhole) (arg22 : Memref sig .tc .vmem S256x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (hc : isFirst i)
    (x2 : Vec F S256x512 .f32) (x3 : Vec F S256x512 .bf16) (x4 : Vec F S256x512 .bf16) (x5 : Vec F S16x512 .bf16) (x6 : Vec F S1x4x128x128 .bf16) (x7 : Vec F S1x4x128x128 .bf16) (x8 : Vec F S1x1x512 .f32) (x9 : Vec F S1x1x512 .f32) (x10 : Vec F S1x1x512 .f32) (x11 : Vec F S1x512 .f32) (x12 : Vec F S1x512 .f32) :
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_lru_bwd_ctx_f i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    simp only [cc0_lru_bwd_ctx_f_eq_skeleton]; unfold cc0_lru_bwd_ctx_f_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc)

    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _, _; isplitr; swap; · iexact H25
    ipureintro; rfl

end Cert.LruCtx.Run

end

end
-- ==== Proof.LruCtxFrame.lean ====
module

public import proofs.«01_k».proof.Proof.LruCtxRun
public import Idealize.ShloMosaic.Lib.Pipeline.FrameBody
public import Idealize.ShloMosaic.Lib.Claim

/-! The frame of the recurrence's backward call: the body's run at every point of the grid, the outputs' contents not named. -/

@[expose] public section

set_option maxRecDepth 16384

noncomputable section

namespace Cert.LruCtx.Run

open Cert.LruCtx Cert.LruCtx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not named: the outputs. -/
def forgets0 : Fin 16 → Bool := fun w => decide (11 ≤ w.val)

/-- The data of the pipeline: an input's buffer at its block, an output's at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨n + 16, h⟩ => absurd (show n + 16 < 16 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (st0_9 t) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (st0_10 t) fullShare (iblk m c 10 t) := by
  unfold Dat.leavesExact; rw [show cfg0.idle 10 (grid0.coords t) = false from rfl, after_10]

theorem Phi_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, leaves_0, leaves_1, leaves_2, leaves_3, leaves_4, leaves_5, leaves_6, leaves_7, leaves_8, leaves_9, leaves_10]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, Phi_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run c (grid0.coords t) _ _ _ _ _ _ _ _ _ _ _ _ _ _ _ _ _ _ _ _ _ _ _ _ _ _ _ _ _ _ _ _ _ _ _ _ _ _ _ _ _ _ _ _ _ _ _ _ (isFirst_coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation (c : Dev nD) : BodyObligation (dats (F := F) m 0 c) (defs₀ (F := F)) Variants.none () Set.univ forgets0 := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- The launch: the inputs' arrays and every buffer outside the pipeline as found, every counter at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The arguments, read off a run of the pipeline whose arrays are those at its entry. -/
theorem unchanged_of (rdat : (c : Dev nD) → Pipeline.RDat τ (Elt F) Unit ℕ (UR sig nD τ) ℕ (cfgs 0) c)
    (hA : ∀ c w, (rdat c).A w = V m c (Pipeline.arrRef spec0 w)) (r : PUnit × MemSt nD τ sig (Elt F))
    (h : Pipeline.RDat.FramePost (cfgs 0) rdat (V m) r) : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  fun c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 10 rfl).trans ((hA c 10).trans (V_main_arg2 m c)),
      (Pipeline.RDat.FramePost.arr_in h c 9 rfl).trans ((hA c 9).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨unchanged_of m _ (A_eq m) r h.1, h.2⟩) (run_main m ρ)

end Cert.LruCtx.Run

end

end
-- ==== Proof.Shift.lean ====
module

public import Idealize.ShloMosaic.Lib.Pointwise

/-! A column extended by zeros, and sums of a column against a shifted one. -/

@[expose] public section

noncomputable section
namespace Cert.Shift

/-- The column `f`, two zeros before it and zeros after it: row `n` of the extension is row `n - 2` of `f`. -/
def ext {N : ℕ} (f : Fin N → EReal) (n : ℕ) : EReal := if h : 2 ≤ n ∧ n < N + 2 then f ⟨n - 2, by omega⟩ else 0

theorem ext_row {N : ℕ} (f : Fin N → EReal) (r : Fin N) : ext f (r + 2) = f r := by
  unfold ext
  rw [dif_pos (by omega)]
  rfl

/-- A shifted entry as a sum over all rows of which one at most counts. -/
theorem ext_mul {N : ℕ} (f : Fin N → EReal) (x : EReal) (n : ℕ) :
    ext f n * x = ∑ r : Fin N, if (r : ℕ) + 2 = n then f r * x else 0 := by
  unfold ext
  by_cases h : 2 ≤ n ∧ n < N + 2
  · rw [dif_pos h, Finset.sum_eq_single ⟨n - 2, by omega⟩]
    · rw [if_pos (by show n - 2 + 2 = n; omega)]
    · intro r _ hr
      rw [if_neg fun e => hr (Fin.ext (by show (r : ℕ) = n - 2; omega))]
    · intro hr
      exact absurd (Finset.mem_univ _) hr
  · rw [dif_neg h, zero_mul, Finset.sum_eq_zero]
    intro r _
    rw [if_neg (by omega)]

/-- Moving the shift from one factor of a correlation to the other. -/
theorem sum_shift {N : ℕ} (f g : Fin N → EReal) (k : ℕ) (hk : k ≤ 3) :
    ∑ r : Fin N, ext f (r + (4 - k)) * g r = ∑ r : Fin N, ext g (r + k) * f r := by
  simp only [ext_mul]
  rw [Finset.sum_comm]
  refine Finset.sum_congr rfl fun a _ => Finset.sum_congr rfl fun b _ => ?_
  by_cases h : (a : ℕ) + 2 = b + (4 - k)
  · rw [if_pos h, if_pos (by omega), mul_comm]
  · rw [if_neg h, if_neg (by omega)]

/-- The gradient of the input at row `r`, column `q`: the upstream gradient against the taps, the other way round. -/
def du {N : ℕ} (G : Fin N → EReal) (w : Fin 4 → EReal) (r : ℕ) : EReal :=
  ext G (r + 4) * w 0 + ext G (r + 3) * w 1 + ext G (r + 2) * w 2 + ext G (r + 1) * w 3

/-- Row `k` of the second result, whole: a tap's gradient is the upstream gradient, shifted, against the input. -/
def sums {N : ℕ} (G U : Fin N → EReal) (k : ℕ) : EReal :=
  if k = 4 then ∑ r, G r else if k ≤ 3 then ∑ r : Fin N, ext G (r + (4 - k)) * U r else 0

/-- A product read through a zero padding is the padded factor's shifted extension times the other factor. -/
theorem tap {N : ℕ} {p : Prop} [Decidable p] (f : p → EReal) (G : Fin N → EReal) (w : EReal) (n : ℕ) (hp : p ↔ 2 ≤ n ∧ n < N + 2)
    (hf : ∀ (h : p) (hn : n - 2 < N), f h = G ⟨n - 2, hn⟩ * w) : (if h : p then f h else 0) = ext G n * w := by
  unfold ext
  by_cases h : p
  · rw [dif_pos h, dif_pos (hp.1 h)]; exact hf h _
  · rw [dif_neg h, dif_neg fun e => h (hp.2 e), zero_mul]

/-- A column read behind two rows of zeros and before zeros. -/
theorem row_pad {N : ℕ} (f : Fin N → EReal) (n : ℕ) : (if _ : n < 2 then 0 else if h : n - 2 < N then f ⟨n - 2, h⟩ else 0) = ext f n := by
  unfold ext
  by_cases h : n < 2
  · rw [dif_pos h, dif_neg (by omega)]
  · rw [dif_neg h]
    by_cases h' : n - 2 < N
    · rw [dif_pos h', dif_pos (by omega)]
    · rw [dif_neg h', dif_neg (by omega)]

theorem four (a b c d : EReal) : a + b + c + d = d + c + b + a := by
  rw [add_comm (a + b + c) d, add_comm (a + b) c, add_comm a b, ← add_assoc, ← add_assoc]

end Cert.Shift
-- ==== Proof.Conv.lean ====
module

public import proofs.«01_k».proof.Proof.Gen.KernelIdeal.Value
public import Idealize.ShloMosaic.Lib.Pipeline.ValueKit
public import Idealize.ShloMosaic.Lib.Pipeline.ReadBack
public import Idealize.ShloMosaic.Lib.WritesUnit
public import Idealize.ShloMosaic.Lib.Pointwise
public import proofs.«01_k».proof.Proof.Shift

/-! What the kernel of the convolution's gradient leaves in its two result arrays, at one index. -/

@[expose] public section

set_option maxRecDepth 16384
noncomputable section
open Idealize.ShloMosaic Idealize.ShloMosaic.TcCoe Idealize.SL.Sem
open Idealize.ShloMosaic.Pipeline (Dat)
namespace Cert.KernelIdeal.Conv
open Cert.KernelIdeal Cert.KernelIdeal.Gen Cert.Shift
variable (m : (ℓ : Loc nD τ sig) → Buf (Elt Ideal) ℓ)

/-- Every window's block index at point `t`: row tile `t % 8`, column block `t / 8`; the two edge windows of an
    upstream array are the 16-row blocks before and after the tile, held inside the array at its two ends. -/
theorem idx_val : ∀ t : Fin cfg0.N, win0_0.index t = ![t.val % 8, t.val / 8] ∧ win0_1.index t = ![t.val % 8 * 64 - 1, t.val / 8]
    ∧ win0_2.index t = ![min (t.val % 8 * 64 + 64) 511, t.val / 8] ∧ win0_3.index t = ![t.val % 8, t.val / 8]
    ∧ win0_4.index t = ![t.val % 8 * 64 - 1, t.val / 8] ∧ win0_5.index t = ![min (t.val % 8 * 64 + 64) 511, t.val / 8]
    ∧ win0_6.index t = ![t.val % 8, t.val / 8] ∧ win0_7.index t = ![0, t.val / 8] ∧ win0_8.index t = ![t.val % 8, t.val / 8]
    ∧ win0_9.index t = ![0, t.val / 8] ∧ t.val < 16 :=
  (by decide +kernel : ∀ t : Fin grid0.N, _)

/-- The mask of the rows before the tile is on exactly at the first row tile. -/
theorem edge0 : ∀ t : Fin cfg0.N, Scalar.cmpi .eq (BitVec.ofNat 32 (grid0.coords t 1).val) 0#32 = if t.val % 8 = 0 then 1#1 else 0#1 :=
  (by decide +kernel : ∀ t : Fin grid0.N, _)
/-- The mask of the rows after the tile is on exactly at the last row tile. -/
theorem edge7 : ∀ t : Fin cfg0.N, Scalar.cmpi .eq (BitVec.ofNat 32 (grid0.coords t 1).val) 7#32 = if t.val % 8 = 7 then 1#1 else 0#1 :=
  (by decide +kernel : ∀ t : Fin grid0.N, _)

/-- Column `q` of the upstream gradient: the sum of the two directions' arrays. -/
def up (X0 X1 : FVec Ideal S8192x2048 .bf16) (q : Fin 2048) (r : Fin 8192) : EReal := X0 (ix2 r q) + X1 (ix2 r q)
/-- Column `q` of the layer's input. -/
def col (U : FVec Ideal S8192x2048 .f32) (q : Fin 2048) (r : Fin 8192) : EReal := U (ix2 r q)

/-- The upstream gradient of the run's arguments. -/
abbrev upM (c : Dev nD) : Fin 2048 → Fin 8192 → EReal :=
  up (m ((c : Thread nD τ).loc main_arg0)) (m ((c : Thread nD τ).loc main_arg1))
/-- The layer's input among the run's arguments. -/
abbrev colM (c : Dev nD) : Fin 2048 → Fin 8192 → EReal := col (m ((c : Thread nD τ).loc main_arg2))

variable (c : Dev nD) (t : Fin cfg0.N)

/-- The tile with eight rows of the neighbours on either side is the upstream gradient extended by zeros. -/
theorem ext_at (e : Fin 1040) (l : Fin 1024) (q : Fin 2048) (hq : (q : ℕ) = t.val / 8 * 1024 + l) (n : ℕ)
    (hn : n = t.val % 8 * 1024 + e - 6) :
    k0_pay6 (F := Ideal) (grid0.coords t) (iblk m c 0 t) (iblk m c 3 t) (iblk m c 1 t) (iblk m c 4 t) (iblk m c 2 t) (iblk m c 5 t) (ix2 e l)
      = ext (upM m c q) n := by
  have ht := (idx_val t).2.2.2.2.2.2.2.2.2.2
  subst hn
  have e0 := edge0 t
  have e7 := edge7 t
  unfold ext
  by_cases h1 : (e : ℕ) < 8
  · by_cases h0 : t.val % 8 = 0
    · rw [if_pos h0] at e0
      pointwise [k0_pay6, k0_pay5, e0]
      rw [dif_pos h1, dif_neg (by omega)]; exact mul_zero _
    · rw [if_neg h0] at e0
      pointwise [k0_pay6, k0_pay5, e0]
      rw [dif_pos h1, dif_pos (by omega)]
      show _ + _ = _ + _
      blk_point [iblk, V, idx_val t]
  · by_cases h2 : (e : ℕ) - 8 < 1024
    · pointwise [k0_pay6, k0_pay5]
      rw [dif_neg h1, dif_pos h2, dif_pos (by omega)]
      show _ + _ = _ + _
      blk_point [iblk, V, idx_val t]
    · by_cases h0 : t.val % 8 = 7
      · rw [if_pos h0] at e7
        pointwise [k0_pay6, k0_pay5, e7]
        rw [dif_neg h1, dif_neg h2, dif_neg (by omega)]; exact mul_zero _
      · rw [if_neg h0] at e7
        pointwise [k0_pay6, k0_pay5, e7]
        rw [dif_neg h1, dif_neg h2, dif_pos (by omega)]
        show _ + _ = _ + _
        blk_point [iblk, V, idx_val t]

/-- The row of the extension the tile's row `r` sits at, `k` rows on. -/
def at_ (t : Fin cfg0.N) (r : Fin 1024) (k : ℕ) : ℕ := t.val % 8 * 1024 + r + k

/-- The column of the array that lane `l` of point `t`'s blocks holds. -/
def lane (t : Fin cfg0.N) (l : Fin 1024) : Fin 2048 := ⟨t.val / 8 * 1024 + l, by have ht := (idx_val t).2.2.2.2.2.2.2.2.2.2; omega⟩

section Rows
variable (r l : Fin 1024) (q : Fin 2048) (hq : (q : ℕ) = t.val / 8 * 1024 + l)
include hq

/-- The rotation by one row: the row before. -/
theorem before_at : k0_pay7 (F := Ideal) (grid0.coords t) (iblk m c 0 t) (iblk m c 3 t) (iblk m c 1 t) (iblk m c 4 t) (iblk m c 2 t) (iblk m c 5 t) (ix2 r l)
    = ext (upM m c q) (at_ t r 1) := by
  pointwise [k0_pay7]
  exact ext_at m c t _ l q hq _ (by unfold at_; show _ = _ + (8 + (r : ℕ) + 1040 - 1) % 1040 - 6; omega)

/-- The rotation by all rows but one: the row after. -/
theorem after_at : k0_pay8 (F := Ideal) (grid0.coords t) (iblk m c 0 t) (iblk m c 3 t) (iblk m c 1 t) (iblk m c 4 t) (iblk m c 2 t) (iblk m c 5 t) (ix2 r l)
    = ext (upM m c q) (at_ t r 3) := by
  pointwise [k0_pay8]
  exact ext_at m c t _ l q hq _ (by unfold at_; show _ = _ + (8 + (r : ℕ) + 1040 - 1039) % 1040 - 6; omega)

/-- The rotation by all rows but two: the row after next. -/
theorem after2_at : k0_pay10 (F := Ideal) (k0_pay9 (grid0.coords t) (iblk m c 0 t) (iblk m c 3 t) (iblk m c 1 t) (iblk m c 4 t) (iblk m c 2 t) (iblk m c 5 t)) (ix2 r l)
    = ext (upM m c q) (at_ t r 4) := by
  pointwise [k0_pay10, k0_pay9]
  exact ext_at m c t _ l q hq _ (by unfold at_; show _ = _ + (8 + (r : ℕ) + 1040 - 1038) % 1040 - 6; omega)

/-- The tile itself. -/
theorem here_at : k0_pay5 (F := Ideal) (iblk m c 0 t) (iblk m c 3 t) (ix2 r l) = ext (upM m c q) (at_ t r 2) := by
  have ht := (idx_val t).2.2.2.2.2.2.2.2.2.2
  pointwise [k0_pay5]
  unfold at_ ext
  rw [dif_pos (by omega)]
  show _ + _ = _ + _
  blk_point [iblk, V, idx_val t]

/-- The input's tile. -/
theorem in_at : iblk m c 6 t (ix2 r l) = ext (colM m c q) (at_ t r 2) := by
  have ht := (idx_val t).2.2.2.2.2.2.2.2.2.2
  unfold at_ ext
  rw [dif_pos (by omega)]
  unfold colM col
  blk_ext [iblk, V, idx_val t]
end Rows

/-- What the body stores in the input's gradient. -/
theorem du_pay (r l : Fin 1024) : k0_pay11 (F := Ideal) (k0_pay5 (iblk m c 0 t) (iblk m c 3 t))
      (k0_pay7 (grid0.coords t) (iblk m c 0 t) (iblk m c 3 t) (iblk m c 1 t) (iblk m c 4 t) (iblk m c 2 t) (iblk m c 5 t))
      (k0_pay8 (grid0.coords t) (iblk m c 0 t) (iblk m c 3 t) (iblk m c 1 t) (iblk m c 4 t) (iblk m c 2 t) (iblk m c 5 t))
      (k0_pay9 (grid0.coords t) (iblk m c 0 t) (iblk m c 3 t) (iblk m c 1 t) (iblk m c 4 t) (iblk m c 2 t) (iblk m c 5 t))
      (iblk m c 7 t) (ix2 r l)
    = du (upM m c (lane t l)) (fun k => m ((c : Thread nD τ).loc main_arg3) (ix2 k (lane t l))) (t.val % 8 * 1024 + r) := by
  have hw : ∀ k : Fin 4, iblk m c 7 t (ix2 k l) = m ((c : Thread nD τ).loc main_arg3) (ix2 k (lane t l)) := fun k => by
    unfold lane
    blk_ext [iblk, V, idx_val t]
  have h0 := here_at m c t r l _ (rfl : (lane t l : ℕ) = _)
  have h1 := before_at m c t r l _ (rfl : (lane t l : ℕ) = _)
  have h2 := after_at m c t r l _ (rfl : (lane t l : ℕ) = _)
  have h3 := after2_at m c t r l _ (rfl : (lane t l : ℕ) = _)
  generalize k0_pay5 (F := Ideal) (iblk m c 0 t) (iblk m c 3 t) = A at *
  generalize k0_pay7 (F := Ideal) (grid0.coords t) (iblk m c 0 t) (iblk m c 3 t) (iblk m c 1 t) (iblk m c 4 t) (iblk m c 2 t) (iblk m c 5 t) = B at *
  generalize k0_pay8 (F := Ideal) (grid0.coords t) (iblk m c 0 t) (iblk m c 3 t) (iblk m c 1 t) (iblk m c 4 t) (iblk m c 2 t) (iblk m c 5 t) = C at *
  generalize k0_pay9 (F := Ideal) (grid0.coords t) (iblk m c 0 t) (iblk m c 3 t) (iblk m c 1 t) (iblk m c 4 t) (iblk m c 2 t) (iblk m c 5 t) = D at *
  pointwise [k0_pay11]
  unfold du
  refine Ideal.add_congr (Ideal.add_congr (Ideal.add_congr ?_ ?_) ?_) ?_
  · exact Ideal.mul_congr h3 (hw 0)
  · exact Ideal.mul_congr h2 (hw 1)
  · exact Ideal.mul_congr h0 (hw 2)
  · exact Ideal.mul_congr h1 (hw 3)

/-- The gradient of the input after the run. -/
theorem du_final : (dats m 0 c).arrAt 8 (cfgs 0).N
    = fun j : S8192x2048.Idx => du (upM m c (j 1)) (fun k => m ((c : Thread nD τ).loc main_arg3) (ix2 k (j 1))) (j 0).val := by
  refine (dats m 0 c).arrAt_eq_of_covers 8 _ (by decide +kernel) fun t _ y => ?_
  blk_simp
  rw [after0_8]
  have hp := du_pay m c t (y 0) (y 1)
  have e1 : lane t (y 1) = ((cfg0.win 8).blk t).view.emb y 1 := Fin.ext (by
    show t.val / 8 * 1024 + (y 1).val = _
    blk_simp [idx_val t])
  have e0 : t.val % 8 * 1024 + (y 0).val = win0_8.index t 0 * 1024 + (y 0).val := by rw [(idx_val t).2.2.2.2.2.2.2.2.1]; rfl
  rw [← eq_ix2 y, e1, e0] at hp
  by_cases h : t.val % 8 = 0
  · rw [outsAt0_A m c t h]; frame_out
    exact hp
  · rw [outsAt0_B m c t h]; frame_out
    exact hp

/-- Five stores of one row each, read at a row: the row's own store, and what was there before at the other rows. -/
theorem rows_at {κ : Kind} {sp : Space} (v : View sig κ sp S8x1024 .f32) (f : v.ty.Contents (Elt Ideal)) (w0 w1 w2 w3 w4 : FVec Ideal S1x1024 .f32)
    (L : List (View.Piece (Elt Ideal) S8x1024 .f32)) (r : Fin 8) (l : Fin 1024) :
    v.read (Elt Ideal) (v.writes (Elt Ideal) f ((⟨Rect.unit ![4, 0] ![1, 1024] inb_S8x1024_S1x1024_4_0, w4⟩ : View.Piece (Elt Ideal) S8x1024 .f32)
        :: ⟨Rect.unit ![3, 0] ![1, 1024] inb_S8x1024_S1x1024_3_0, w3⟩ :: ⟨Rect.unit ![2, 0] ![1, 1024] inb_S8x1024_S1x1024_2_0, w2⟩
        :: ⟨Rect.unit ![1, 0] ![1, 1024] inb_S8x1024_S1x1024_1_0, w1⟩ :: ⟨Rect.unit ![0, 0] ![1, 1024] inb_S8x1024_S1x1024_0_0, w0⟩ :: L)) (ix2 r l)
      = if (r : ℕ) = 4 then w4 (ix2 0 l) else if (r : ℕ) = 3 then w3 (ix2 0 l) else if (r : ℕ) = 2 then w2 (ix2 0 l)
        else if (r : ℕ) = 1 then w1 (ix2 0 l) else if (r : ℕ) = 0 then w0 (ix2 0 l) else v.read (Elt Ideal) (v.writes (Elt Ideal) f L) (ix2 r l) := by
  have one : ∀ (o : ℕ) (inb) (w : FVec Ideal S1x1024 .f32) (L : List (View.Piece (Elt Ideal) S8x1024 .f32)),
      v.read (Elt Ideal) (v.writes (Elt Ideal) f ((⟨Rect.unit ![o, 0] ![1, 1024] inb, w⟩ : View.Piece (Elt Ideal) S8x1024 .f32) :: L)) (ix2 r l)
        = if (r : ℕ) = o then w (ix2 0 l) else v.read (Elt Ideal) (v.writes (Elt Ideal) f L) (ix2 r l) := fun o inb w L => by
    by_cases h : (r : ℕ) = o
    · rw [if_pos h]
      exact View.read_writes_cons_unit_of_mem v f inb w L (ix2 r l) (ix2 (0 : Fin 1) l) rfl
        (Fin.forall_fin_two.mpr ⟨h, (Nat.zero_add _).symm⟩)
    · rw [if_neg h]
      exact View.read_writes_cons_unit_of_not_mem v f inb w L (ix2 r l) rfl (0 : Fin 2)
        (by show (r : ℕ) < o ∨ o + 1 ≤ r; omega)
  rw [one, one, one, one, one]

/-- The columns of the input's tile against the upstream gradient `k` rows on from the row before it. -/
def corr (k : ℕ) (l : Fin 1024) : EReal := ∑ r : Fin 1024, ext (upM m c (lane t l)) (at_ t r k) * ext (colM m c (lane t l)) (at_ t r 2)

/-- What point `t` adds to row `r` of the second result: a tap's gradient in rows 0 to 3, the bias' in row 4. -/
def part (r : Fin 8) (l : Fin 1024) : EReal :=
  if (r : ℕ) = 4 then ∑ a : Fin 1024, ext (upM m c (lane t l)) (at_ t a 2)
  else if (r : ℕ) ≤ 3 then corr m c t (4 - r) l else 0

/-- One point's five row stores add `part`, whatever the block held before. -/
theorem step_at (z : EReal) (v0 v1 v2 v3 v4 : FVec Ideal S1x1024 .f32) (r : Fin 8) (l : Fin 1024)
    (h0 : (r : ℕ) = 0 → v0 (ix2 0 l) = z) (h1 : (r : ℕ) = 1 → v1 (ix2 0 l) = z) (h2 : (r : ℕ) = 2 → v2 (ix2 0 l) = z)
    (h3 : (r : ℕ) = 3 → v3 (ix2 0 l) = z) (h4 : (r : ℕ) = 4 → v4 (ix2 0 l) = z) :
    (if (r : ℕ) = 4 then k0_pay3 (F := Ideal) (k0_pay5 (iblk m c 0 t) (iblk m c 3 t)) v4 (ix2 0 l)
      else if (r : ℕ) = 3 then k0_pay2 (F := Ideal) (k0_pay7 (grid0.coords t) (iblk m c 0 t) (iblk m c 3 t) (iblk m c 1 t) (iblk m c 4 t) (iblk m c 2 t) (iblk m c 5 t)) (iblk m c 6 t) v3 (ix2 0 l)
      else if (r : ℕ) = 2 then k0_pay1 (F := Ideal) (k0_pay14 v2) (k0_pay15 (k0_pay5 (iblk m c 0 t) (iblk m c 3 t)) (iblk m c 6 t)) (ix2 0 l)
      else if (r : ℕ) = 1 then k0_pay13 (F := Ideal) (k0_pay8 (grid0.coords t) (iblk m c 0 t) (iblk m c 3 t) (iblk m c 1 t) (iblk m c 4 t) (iblk m c 2 t) (iblk m c 5 t)) (iblk m c 6 t) v1 (ix2 0 l)
      else if (r : ℕ) = 0 then k0_pay12 (F := Ideal) (k0_pay9 (grid0.coords t) (iblk m c 0 t) (iblk m c 3 t) (iblk m c 1 t) (iblk m c 4 t) (iblk m c 2 t) (iblk m c 5 t)) (iblk m c 6 t) v0 (ix2 0 l)
      else z) = z + part m c t r l := by
  have g5 := fun a => here_at m c t a l _ (rfl : (lane t l : ℕ) = _)
  have g7 := fun a => before_at m c t a l _ (rfl : (lane t l : ℕ) = _)
  have g8 := fun a => after_at m c t a l _ (rfl : (lane t l : ℕ) = _)
  have g9 := fun a => after2_at m c t a l _ (rfl : (lane t l : ℕ) = _)
  have g6 := fun a => in_at m c t a l _ (rfl : (lane t l : ℕ) = _)
  generalize k0_pay5 (F := Ideal) (iblk m c 0 t) (iblk m c 3 t) = A at *
  generalize k0_pay7 (F := Ideal) (grid0.coords t) (iblk m c 0 t) (iblk m c 3 t) (iblk m c 1 t) (iblk m c 4 t) (iblk m c 2 t) (iblk m c 5 t) = B at *
  generalize k0_pay8 (F := Ideal) (grid0.coords t) (iblk m c 0 t) (iblk m c 3 t) (iblk m c 1 t) (iblk m c 4 t) (iblk m c 2 t) (iblk m c 5 t) = C at *
  generalize k0_pay9 (F := Ideal) (grid0.coords t) (iblk m c 0 t) (iblk m c 3 t) (iblk m c 1 t) (iblk m c 4 t) (iblk m c 2 t) (iblk m c 5 t) = D at *
  unfold part corr
  by_cases e4 : (r : ℕ) = 4
  · rw [if_pos e4, if_pos e4, ← h4 e4]
    pointwise [k0_pay3]
    exact congrArg _ (Finset.sum_congr rfl fun a _ => g5 a)
  rw [if_neg e4, if_neg e4]
  by_cases e3 : (r : ℕ) = 3
  · rw [if_pos e3, if_pos (by omega), ← h3 e3, e3]
    pointwise [k0_pay2]
    exact congrArg _ (Finset.sum_congr rfl fun a _ => Ideal.mul_congr (g7 a) (g6 a))
  rw [if_neg e3]
  by_cases e2 : (r : ℕ) = 2
  · rw [if_pos e2, if_pos (by omega), ← h2 e2, e2]
    pointwise [k0_pay1, k0_pay14, k0_pay15]
    exact congrArg _ (Finset.sum_congr rfl fun a _ => Ideal.mul_congr (g5 a) (g6 a))
  rw [if_neg e2]
  by_cases e1 : (r : ℕ) = 1
  · rw [if_pos e1, if_pos (by omega), ← h1 e1, e1]
    pointwise [k0_pay13]
    exact congrArg _ (Finset.sum_congr rfl fun a _ => Ideal.mul_congr (g8 a) (g6 a))
  rw [if_neg e1]
  by_cases e0 : (r : ℕ) = 0
  · rw [if_pos e0, if_pos (by omega), ← h0 e0, e0]
    pointwise [k0_pay12]
    exact congrArg _ (Finset.sum_congr rfl fun a _ => Ideal.mul_congr (g9 a) (g6 a))
  rw [if_neg e0, if_neg (by omega), add_zero]

/-- A row of a block loaded alone. -/
theorem row_ld (Z : FVec Ideal S8x1024 .f32) (o : ℕ) (inb : ∀ a, (![o, 0] : Fin 2 → ℕ) a + (![1, 1024] : Fin 2 → ℕ) a ≤ S8x1024.size a)
    (r : Fin 8) (l : Fin 1024) (h : (r : ℕ) = o) :
    Z ((Rect.unit (s := S8x1024) ![o, 0] ![1, 1024] inb).idx (ix2 (0 : Fin 1) l)) = Z (ix2 r l) := by
  subst h
  refine congrArg Z (funext (Fin.forall_fin_two.mpr ⟨Fin.ext ?_, Fin.ext ?_⟩))
  · exact Nat.add_zero _
  · show 0 + 1 * (l : ℕ) = l
    omega

/-- The first point of a column block leaves its own part. -/
theorem first_at (h : t.val % 8 = 0) (r : Fin 8) (l : Fin 1024) : (outsAt0 m c t.val t.isLt).2 (ix2 r l) = 0 + part m c t r l := by
  rw [outsAt0_A m c t h]; frame_open
  simp (disch := decide) only [↓ View.readCov_skip, ↓ View.readCov_cons_toLoadRect, ↓ View.readCov_fill]
  refine (rows_at _ _ _ _ _ _ _ _ r l).trans ?_
  frame_out
  refine (step_at m c t (k0_pay4 (F := Ideal) (ix2 r l)) _ _ _ _ _ r l (row_ld _ 0 _ r l) (row_ld _ 1 _ r l) (row_ld _ 2 _ r l) (row_ld _ 3 _ r l) (row_ld _ 4 _ r l)).trans ?_
  have hz : k0_pay4 (F := Ideal) (ix2 r l) = 0 := by pointwise [k0_pay4]
  rw [hz]

/-- Every other point adds its part to what the point before left. -/
theorem next_at (h : ¬ t.val % 8 = 0) (r : Fin 8) (l : Fin 1024) : (outsAt0 m c t.val t.isLt).2 (ix2 r l)
    = (outsAt0 m c (t.val - 1) (lt_of_le_of_lt (Nat.sub_le _ _) t.isLt)).2 (ix2 r l) + part m c t r l := by
  rw [outsAt0_B m c t h]; frame_out
  refine (rows_at _ _ _ _ _ _ _ _ r l).trans ?_
  rw [View.writes_nil, Memref.IsWhole.read_unread]
  exact step_at m c t _ _ _ _ _ _ r l (row_ld _ 0 _ r l) (row_ld _ 1 _ r l) (row_ld _ 2 _ r l) (row_ld _ 3 _ r l) (row_ld _ 4 _ r l)

theorem sums_run (hf : t.val % 8 = 7) (r : Fin 8) (l : Fin 1024) :
    (outsAt0 m c t.val t.isLt).2 (ix2 r l) = sums (upM m c (lane t l)) (colM m c (lane t l)) r := by
  have hs := Pipeline.eq_sum_fin_of_reset_step_apply_of_flush (fun n h => (outsAt0 m c n h).2) 8 (fun _ => 0) (fun t j => part m c t (j 0) (j 1))
    (fun t h j => (congrArg _ (eq_ix2 j)).trans (first_at m c t h (j 0) (j 1)))
    (fun t h j => by
      rw [eq_ix2 j]
      exact next_at m c t h (j 0) (j 1)) t hf (ix2 r l)
  refine hs.trans ?_
  rw [zero_add]
  show ∑ s : Fin 8, part m c ⟨8 * (t.val / 8) + s, _⟩ r l = _
  have hb : ∀ s : Fin 8, 8 * (t.val / 8) + (s : ℕ) < cfg0.N := fun s => Pipeline.run_point_lt_of_flush t hf s
  have hl : ∀ s : Fin 8, lane ⟨8 * (t.val / 8) + s, hb s⟩ l = lane t l := fun s => Fin.ext (by
    show (8 * (t.val / 8) + (s : ℕ)) / 8 * 1024 + (l : ℕ) = t.val / 8 * 1024 + l
    omega)
  have ha : ∀ (s : Fin 8) (a : Fin 1024) (k : ℕ), at_ ⟨8 * (t.val / 8) + s, hb s⟩ a k = (s * 1024 + a) + k := fun s a k => by
    show (8 * (t.val / 8) + (s : ℕ)) % 8 * 1024 + (a : ℕ) + k = _
    omega
  have hr : ∀ (f : Fin 8192 → EReal) (s : Fin 8) (a : Fin 1024), ext f (s * 1024 + a + 2) = f ⟨s * 1024 + a, by omega⟩ := fun f s a =>
    ext_row f ⟨s * 1024 + a, by omega⟩
  unfold part corr sums
  simp only [hl, ha, hr]
  by_cases h4 : (r : ℕ) = 4
  · simp only [if_pos h4]
    exact (Fin.sum_univ_tiles 8 1024 rfl _).symm
  · simp only [if_neg h4]
    by_cases h3 : (r : ℕ) ≤ 3
    · simp only [if_pos h3]
      exact (Fin.sum_univ_tiles 8 1024 rfl fun a : Fin 8192 => ext (upM m c (lane t l)) (a + (4 - r)) * colM m c (lane t l) a).symm
    · simp only [if_neg h3, Finset.sum_const_zero]

/-- The second result after the run: the four taps' gradients, the bias' gradient, three rows of zeros. -/
theorem sums_final : (dats m 0 c).arrAt 9 (cfgs 0).N
    = fun j : S8x2048.Idx => sums (upM m c (j 1)) (colM m c (j 1)) (j 0).val := by
  refine (dats m 0 c).arrAt_eq_of_covers 9 _ (by decide +kernel) fun t hf y => ?_
  blk_simp
  rw [after0_9]
  have hp := sums_run m c t ((flush0_9 t).mp hf) (y 0) (y 1)
  have e1 : lane t (y 1) = ((cfg0.win 9).blk t).view.emb y 1 := Fin.ext (by
    show t.val / 8 * 1024 + (y 1).val = _
    blk_simp [idx_val t])
  have e0 : (y 0).val = win0_9.index t 0 * 8 + (y 0).val := by rw [(idx_val t).2.2.2.2.2.2.2.2.2.1]; exact (Nat.zero_add _).symm
  rw [← eq_ix2 y, e1] at hp
  rw [← e0]
  exact hp

end Cert.KernelIdeal.Conv
-- ==== Proof.ConvRef.lean ====
module

public import proofs.«01_k».proof.Proof.Gen.ReferenceIdeal.Run
public import proofs.«01_k».proof.Proof.Conv
public import Idealize.ShloMosaic.Lib.Pointwise

/-! What the reference of the convolution's gradient leaves in its two results, at one index. -/

@[expose] public section

set_option maxRecDepth 16384
noncomputable section
open Idealize.ShloMosaic Idealize.ShloMosaic.TcCoe Idealize.SL.Sem
namespace Cert.ReferenceIdeal.Conv
open Cert.ReferenceIdeal Cert.ReferenceIdeal.Gen Cert.ReferenceIdeal.Value Cert.Shift
open Cert.KernelIdeal.Conv (up col)

/-- The two results of the reference at every index, and its arguments kept. -/
theorem run_main (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v87) = (fun j : S8192x2048.Idx => du (up (m ((c : Thread nD τ).loc main_arg0)) (m ((c : Thread nD τ).loc main_arg1)) (j 1))
          (fun k => m ((c : Thread nD τ).loc main_arg3) (ix2 k (j 1))) (j 0).val)
      ∧ r.2.mem ((c.tc : Thread nD τ).loc main_v90) = (fun j : S8x2048.Idx => sums (up (m ((c : Thread nD τ).loc main_arg0)) (m ((c : Thread nD τ).loc main_arg1)) (j 1))
          (col (m ((c : Thread nD τ).loc main_arg2)) (j 1)) (j 0).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2⟩) (run m ρ)
  · clear h
    generalize m ((c : Thread nD τ).loc main_arg0) = X0
    generalize m ((c : Thread nD τ).loc main_arg1) = X1
    generalize m ((c : Thread nD τ).loc main_arg3) = X3
    funext j
    rw [eq_ix2 j]
    generalize (j 0 : Fin 8192) = r
    generalize (j 1 : Fin 2048) = q
    pointwise
    rw [tap _ (up X0 X1 q) (X3 (ix2 3 q)) (r + 1), tap _ (up X0 X1 q) (X3 (ix2 2 q)) (r + 2), tap _ (up X0 X1 q) (X3 (ix2 1 q)) (r + 3),
      tap _ (up X0 X1 q) (X3 (ix2 0 q)) (r + 4)]
    · exact four _ _ _ _
    all_goals first
      | exact Fin.forall_fin_two.trans ⟨fun e => by have := e.1; simp at this; omega, fun e => ⟨by simp; omega, by simp; exact ⟨Nat.mod_one _, q.isLt⟩⟩⟩
      | refine fun _ _ => congrArg (fun x => up X0 X1 q x * _) (Fin.ext ?_)
        simp only []
        omega
  · clear h
    unfold res_main_v90
    generalize m ((c : Thread nD τ).loc main_arg0) = X0
    generalize m ((c : Thread nD τ).loc main_arg1) = X1
    generalize m ((c : Thread nD τ).loc main_arg2) = X2
    funext j
    rw [eq_ix2 j]
    generalize (j 0 : Fin 8) = r
    generalize (j 1 : Fin 2048) = q
    pointwise
    have hx (n : ℕ) : (if h : n < 2 then (0 : EReal) else if h : n - 2 < 8192 then X2 (ix2 ⟨n - 2, h⟩ q) else 0) = ext (col X2 q) n :=
      row_pad (col X2 q) n
    have hs (k : ℕ) (hk : k ≤ 3) : sums (up X0 X1 q) (col X2 q) k = ∑ x : Fin 8192, ext (col X2 q) (x + k) * up X0 X1 q x := by
      rw [sums, if_neg (by omega), if_pos hk, sum_shift _ _ _ hk]
    have h2 : ∑ x : Fin 8192, ext (col X2 q) (x + 2) * up X0 X1 q x = ∑ x : Fin 8192, col X2 q x * up X0 X1 q x :=
      Finset.sum_congr rfl fun x _ => by rw [ext_row]
    simp only [hx, Fin.sum_univ_one]
    fin_cases r
    · refine Eq.trans ?_ (hs 0 (by decide)).symm
      simp [up]
    · refine Eq.trans ?_ (hs 1 (by decide)).symm
      simp [up, add_comm]
    · refine Eq.trans ?_ ((hs 2 (by decide)).trans h2).symm
      simp [up, col]
    · refine Eq.trans ?_ (hs 3 (by decide)).symm
      simp [up, add_comm]
    all_goals simp [up, sums]
end Cert.ReferenceIdeal.Conv
end
-- ==== Proof.ConvCtx.lean ====
module

public import proofs.«01_k».proof.Proof.Gen.ConvCtxIdeal.Value
public import Idealize.ShloMosaic.Lib.Pipeline.ValueKit
public import Idealize.ShloMosaic.Lib.Pipeline.ReadBack
public import Idealize.ShloMosaic.Lib.WritesUnit
public import Idealize.ShloMosaic.Lib.Pointwise
public import proofs.«01_k».proof.Proof.Shift

/-! What the kernel of the convolution's gradient leaves in its two result arrays, at one index. -/

@[expose] public section

set_option maxRecDepth 16384
noncomputable section
open Idealize.ShloMosaic Idealize.ShloMosaic.TcCoe Idealize.SL.Sem
open Idealize.ShloMosaic.Pipeline (Dat)
namespace Cert.ConvCtxIdeal.Conv
open Cert.ConvCtxIdeal Cert.ConvCtxIdeal.Gen Cert.Shift
variable (m : (ℓ : Loc nD τ sig) → Buf (Elt Ideal) ℓ)

/-- Every window's block index at point `t`: column block `t`; the edge windows at the two ends of the array. -/
theorem idx_val : ∀ t : Fin cfg0.N, win0_0.index t = ![0, t.val] ∧ win0_1.index t = ![0, t.val]
    ∧ win0_2.index t = ![15, t.val] ∧ win0_3.index t = ![0, t.val] ∧ win0_4.index t = ![0, t.val] ∧ win0_5.index t = ![15, t.val]
    ∧ win0_6.index t = ![0, t.val] ∧ win0_7.index t = ![0, t.val] ∧ win0_8.index t = ![0, t.val] ∧ win0_9.index t = ![0, t.val]
    ∧ t.val < 2 :=
  (by decide +kernel : ∀ t : Fin grid0.N, _)

/-- The one row tile is the first and the last: both masks are on at every point. -/
theorem edge0 : ∀ t : Fin cfg0.N, Scalar.cmpi .eq (BitVec.ofNat 32 (grid0.coords t 1).val) 0#32 = 1#1 :=
  (by decide +kernel : ∀ t : Fin grid0.N, _)

/-- Column `q` of the upstream gradient: the sum of the two directions' arrays. -/
def up (X0 X1 : FVec Ideal S256x2048 .bf16) (q : Fin 2048) (r : Fin 256) : EReal := X0 (ix2 r q) + X1 (ix2 r q)
/-- Column `q` of the layer's input. -/
def col (U : FVec Ideal S256x2048 .f32) (q : Fin 2048) (r : Fin 256) : EReal := U (ix2 r q)

/-- The upstream gradient of the run's arguments. -/
abbrev upM (c : Dev nD) : Fin 2048 → Fin 256 → EReal :=
  up (m ((c : Thread nD τ).loc main_arg0)) (m ((c : Thread nD τ).loc main_arg1))
/-- The layer's input among the run's arguments. -/
abbrev colM (c : Dev nD) : Fin 2048 → Fin 256 → EReal := col (m ((c : Thread nD τ).loc main_arg2))

variable (c : Dev nD) (t : Fin cfg0.N)

/-- The tile with eight rows of the neighbours on either side is the upstream gradient extended by zeros. -/
theorem ext_at (e : Fin 272) (l : Fin 1024) (q : Fin 2048) (hq : (q : ℕ) = t.val * 1024 + l) (n : ℕ) (hn : n = e - 6) (h6 : 6 ≤ (e : ℕ)) :
    k0_pay6 (F := Ideal) (grid0.coords t) (iblk m c 0 t) (iblk m c 3 t) (iblk m c 1 t) (iblk m c 4 t) (iblk m c 2 t) (iblk m c 5 t) (ix2 e l)
      = ext (upM m c q) n := by
  have ht := (idx_val t).2.2.2.2.2.2.2.2.2.2
  subst hn
  have e0 := edge0 t
  unfold ext
  by_cases h1 : (e : ℕ) < 8
  · pointwise [k0_pay6, k0_pay5, e0]
    rw [dif_pos h1, dif_neg (by omega)]; exact mul_zero _
  · by_cases h2 : (e : ℕ) - 8 < 256
    · pointwise [k0_pay6, k0_pay5]
      rw [dif_neg h1, dif_pos h2, dif_pos (by omega)]
      show _ + _ = _ + _
      blk_point [iblk, V, idx_val t]
    · pointwise [k0_pay6, k0_pay5, e0]
      rw [dif_neg h1, dif_neg h2, dif_neg (by omega)]; exact mul_zero _

/-- The row of the extension the tile's row `r` sits at, `k` rows on. -/
def at_ (r : Fin 256) (k : ℕ) : ℕ := r + k

/-- The column of the array that lane `l` of point `t`'s blocks holds. -/
def lane (t : Fin cfg0.N) (l : Fin 1024) : Fin 2048 := ⟨t.val * 1024 + l, by have ht := (idx_val t).2.2.2.2.2.2.2.2.2.2; omega⟩

section Rows
variable (r : Fin 256) (l : Fin 1024) (q : Fin 2048) (hq : (q : ℕ) = t.val * 1024 + l)
include hq

/-- The rotation by one row: the row before. -/
theorem before_at : k0_pay7 (F := Ideal) (grid0.coords t) (iblk m c 0 t) (iblk m c 3 t) (iblk m c 1 t) (iblk m c 4 t) (iblk m c 2 t) (iblk m c 5 t) (ix2 r l)
    = ext (upM m c q) (at_ r 1) := by
  pointwise [k0_pay7]
  exact ext_at m c t _ l q hq _ (by unfold at_; show _ = (8 + (r : ℕ) + 272 - 1) % 272 - 6; omega) (by show 6 ≤ (8 + (r : ℕ) + 272 - 1) % 272; omega)

/-- The rotation by all rows but one: the row after. -/
theorem after_at : k0_pay8 (F := Ideal) (grid0.coords t) (iblk m c 0 t) (iblk m c 3 t) (iblk m c 1 t) (iblk m c 4 t) (iblk m c 2 t) (iblk m c 5 t) (ix2 r l)
    = ext (upM m c q) (at_ r 3) := by
  pointwise [k0_pay8]
  exact ext_at m c t _ l q hq _ (by unfold at_; show _ = (8 + (r : ℕ) + 272 - 271) % 272 - 6; omega) (by show 6 ≤ (8 + (r : ℕ) + 272 - 271) % 272; omega)

/-- The rotation by all rows but two: the row after next. -/
theorem after2_at : k0_pay10 (F := Ideal) (k0_pay9 (grid0.coords t) (iblk m c 0 t) (iblk m c 3 t) (iblk m c 1 t) (iblk m c 4 t) (iblk m c 2 t) (iblk m c 5 t)) (ix2 r l)
    = ext (upM m c q) (at_ r 4) := by
  pointwise [k0_pay10, k0_pay9]
  exact ext_at m c t _ l q hq _ (by unfold at_; show _ = (8 + (r : ℕ) + 272 - 270) % 272 - 6; omega) (by show 6 ≤ (8 + (r : ℕ) + 272 - 270) % 272; omega)

/-- The tile itself. -/
theorem here_at : k0_pay5 (F := Ideal) (iblk m c 0 t) (iblk m c 3 t) (ix2 r l) = ext (upM m c q) (at_ r 2) := by
  have ht := (idx_val t).2.2.2.2.2.2.2.2.2.2
  pointwise [k0_pay5]
  unfold at_ ext
  rw [dif_pos (by omega)]
  show _ + _ = _ + _
  blk_point [iblk, V, idx_val t]

/-- The input's tile. -/
theorem in_at : iblk m c 6 t (ix2 r l) = ext (colM m c q) (at_ r 2) := by
  have ht := (idx_val t).2.2.2.2.2.2.2.2.2.2
  unfold at_ ext
  rw [dif_pos (by omega)]
  unfold colM col
  blk_ext [iblk, V, idx_val t]
end Rows

/-- What the body stores in the input's gradient. -/
theorem du_pay (r : Fin 256) (l : Fin 1024) : k0_pay11 (F := Ideal) (k0_pay5 (iblk m c 0 t) (iblk m c 3 t))
      (k0_pay7 (grid0.coords t) (iblk m c 0 t) (iblk m c 3 t) (iblk m c 1 t) (iblk m c 4 t) (iblk m c 2 t) (iblk m c 5 t))
      (k0_pay8 (grid0.coords t) (iblk m c 0 t) (iblk m c 3 t) (iblk m c 1 t) (iblk m c 4 t) (iblk m c 2 t) (iblk m c 5 t))
      (k0_pay9 (grid0.coords t) (iblk m c 0 t) (iblk m c 3 t) (iblk m c 1 t) (iblk m c 4 t) (iblk m c 2 t) (iblk m c 5 t))
      (iblk m c 7 t) (ix2 r l)
    = du (upM m c (lane t l)) (fun k => m ((c : Thread nD τ).loc main_arg3) (ix2 k (lane t l))) r := by
  have hw : ∀ k : Fin 4, iblk m c 7 t (ix2 k l) = m ((c : Thread nD τ).loc main_arg3) (ix2 k (lane t l)) := fun k => by
    unfold lane
    blk_ext [iblk, V, idx_val t]
  have h0 := here_at m c t r l _ (rfl : (lane t l : ℕ) = _)
  have h1 := before_at m c t r l _ (rfl : (lane t l : ℕ) = _)
  have h2 := after_at m c t r l _ (rfl : (lane t l : ℕ) = _)
  have h3 := after2_at m c t r l _ (rfl : (lane t l : ℕ) = _)
  generalize k0_pay5 (F := Ideal) (iblk m c 0 t) (iblk m c 3 t) = A at *
  generalize k0_pay7 (F := Ideal) (grid0.coords t) (iblk m c 0 t) (iblk m c 3 t) (iblk m c 1 t) (iblk m c 4 t) (iblk m c 2 t) (iblk m c 5 t) = B at *
  generalize k0_pay8 (F := Ideal) (grid0.coords t) (iblk m c 0 t) (iblk m c 3 t) (iblk m c 1 t) (iblk m c 4 t) (iblk m c 2 t) (iblk m c 5 t) = C at *
  generalize k0_pay9 (F := Ideal) (grid0.coords t) (iblk m c 0 t) (iblk m c 3 t) (iblk m c 1 t) (iblk m c 4 t) (iblk m c 2 t) (iblk m c 5 t) = D at *
  pointwise [k0_pay11]
  unfold du
  refine Ideal.add_congr (Ideal.add_congr (Ideal.add_congr ?_ ?_) ?_) ?_
  · exact Ideal.mul_congr h3 (hw 0)
  · exact Ideal.mul_congr h2 (hw 1)
  · exact Ideal.mul_congr h0 (hw 2)
  · exact Ideal.mul_congr h1 (hw 3)

/-- The gradient of the input after the run. -/
theorem du_final : (dats m 0 c).arrAt 8 (cfgs 0).N
    = fun j : S256x2048.Idx => du (upM m c (j 1)) (fun k => m ((c : Thread nD τ).loc main_arg3) (ix2 k (j 1))) (j 0).val := by
  refine (dats m 0 c).arrAt_eq_of_covers 8 _ (by decide +kernel) fun t _ y => ?_
  blk_simp
  rw [after0_8]
  have hp := du_pay m c t (y 0) (y 1)
  have e1 : lane t (y 1) = ((cfg0.win 8).blk t).view.emb y 1 := Fin.ext (by
    show t.val * 1024 + (y 1).val = _
    blk_simp [idx_val t])
  have e0 : (y 0).val = win0_8.index t 0 * 256 + (y 0).val := by rw [(idx_val t).2.2.2.2.2.2.2.2.1]; exact (Nat.zero_add _).symm
  rw [← eq_ix2 y, e1, e0] at hp
  unfold outsAt0 out0_A_8
  frame_out
  exact hp

/-- Five stores of one row each, read at a row: the row's own store, and what was there before at the other rows. -/
theorem rows_at {κ : Kind} {sp : Space} (v : View sig κ sp S8x1024 .f32) (f : v.ty.Contents (Elt Ideal)) (w0 w1 w2 w3 w4 : FVec Ideal S1x1024 .f32)
    (L : List (View.Piece (Elt Ideal) S8x1024 .f32)) (r : Fin 8) (l : Fin 1024) :
    v.read (Elt Ideal) (v.writes (Elt Ideal) f ((⟨Rect.unit ![4, 0] ![1, 1024] inb_S8x1024_S1x1024_4_0, w4⟩ : View.Piece (Elt Ideal) S8x1024 .f32)
        :: ⟨Rect.unit ![3, 0] ![1, 1024] inb_S8x1024_S1x1024_3_0, w3⟩ :: ⟨Rect.unit ![2, 0] ![1, 1024] inb_S8x1024_S1x1024_2_0, w2⟩
        :: ⟨Rect.unit ![1, 0] ![1, 1024] inb_S8x1024_S1x1024_1_0, w1⟩ :: ⟨Rect.unit ![0, 0] ![1, 1024] inb_S8x1024_S1x1024_0_0, w0⟩ :: L)) (ix2 r l)
      = if (r : ℕ) = 4 then w4 (ix2 0 l) else if (r : ℕ) = 3 then w3 (ix2 0 l) else if (r : ℕ) = 2 then w2 (ix2 0 l)
        else if (r : ℕ) = 1 then w1 (ix2 0 l) else if (r : ℕ) = 0 then w0 (ix2 0 l) else v.read (Elt Ideal) (v.writes (Elt Ideal) f L) (ix2 r l) := by
  have one : ∀ (o : ℕ) (inb) (w : FVec Ideal S1x1024 .f32) (L : List (View.Piece (Elt Ideal) S8x1024 .f32)),
      v.read (Elt Ideal) (v.writes (Elt Ideal) f ((⟨Rect.unit ![o, 0] ![1, 1024] inb, w⟩ : View.Piece (Elt Ideal) S8x1024 .f32) :: L)) (ix2 r l)
        = if (r : ℕ) = o then w (ix2 0 l) else v.read (Elt Ideal) (v.writes (Elt Ideal) f L) (ix2 r l) := fun o inb w L => by
    by_cases h : (r : ℕ) = o
    · rw [if_pos h]
      exact View.read_writes_cons_unit_of_mem v f inb w L (ix2 r l) (ix2 (0 : Fin 1) l) rfl
        (Fin.forall_fin_two.mpr ⟨h, (Nat.zero_add _).symm⟩)
    · rw [if_neg h]
      exact View.read_writes_cons_unit_of_not_mem v f inb w L (ix2 r l) rfl (0 : Fin 2)
        (by show (r : ℕ) < o ∨ o + 1 ≤ r; omega)
  rw [one, one, one, one, one]

/-- The columns of the input's tile against the upstream gradient `k` rows on from the row before it. -/
def corr (k : ℕ) (l : Fin 1024) : EReal := ∑ r : Fin 256, ext (upM m c (lane t l)) (at_ r k) * ext (colM m c (lane t l)) (at_ r 2)

/-- What point `t` adds to row `r` of the second result: a tap's gradient in rows 0 to 3, the bias' in row 4. -/
def part (r : Fin 8) (l : Fin 1024) : EReal :=
  if (r : ℕ) = 4 then ∑ a : Fin 256, ext (upM m c (lane t l)) (at_ a 2)
  else if (r : ℕ) ≤ 3 then corr m c t (4 - r) l else 0

/-- One point's five row stores add `part`, whatever the block held before. -/
theorem step_at (z : EReal) (v0 v1 v2 v3 v4 : FVec Ideal S1x1024 .f32) (r : Fin 8) (l : Fin 1024)
    (h0 : (r : ℕ) = 0 → v0 (ix2 0 l) = z) (h1 : (r : ℕ) = 1 → v1 (ix2 0 l) = z) (h2 : (r : ℕ) = 2 → v2 (ix2 0 l) = z)
    (h3 : (r : ℕ) = 3 → v3 (ix2 0 l) = z) (h4 : (r : ℕ) = 4 → v4 (ix2 0 l) = z) :
    (if (r : ℕ) = 4 then k0_pay3 (F := Ideal) (k0_pay5 (iblk m c 0 t) (iblk m c 3 t)) v4 (ix2 0 l)
      else if (r : ℕ) = 3 then k0_pay2 (F := Ideal) (k0_pay7 (grid0.coords t) (iblk m c 0 t) (iblk m c 3 t) (iblk m c 1 t) (iblk m c 4 t) (iblk m c 2 t) (iblk m c 5 t)) (iblk m c 6 t) v3 (ix2 0 l)
      else if (r : ℕ) = 2 then k0_pay1 (F := Ideal) (k0_pay14 v2) (k0_pay15 (k0_pay5 (iblk m c 0 t) (iblk m c 3 t)) (iblk m c 6 t)) (ix2 0 l)
      else if (r : ℕ) = 1 then k0_pay13 (F := Ideal) (k0_pay8 (grid0.coords t) (iblk m c 0 t) (iblk m c 3 t) (iblk m c 1 t) (iblk m c 4 t) (iblk m c 2 t) (iblk m c 5 t)) (iblk m c 6 t) v1 (ix2 0 l)
      else if (r : ℕ) = 0 then k0_pay12 (F := Ideal) (k0_pay9 (grid0.coords t) (iblk m c 0 t) (iblk m c 3 t) (iblk m c 1 t) (iblk m c 4 t) (iblk m c 2 t) (iblk m c 5 t)) (iblk m c 6 t) v0 (ix2 0 l)
      else z) = z + part m c t r l := by
  have g5 := fun a => here_at m c t a l _ (rfl : (lane t l : ℕ) = _)
  have g7 := fun a => before_at m c t a l _ (rfl : (lane t l : ℕ) = _)
  have g8 := fun a => after_at m c t a l _ (rfl : (lane t l : ℕ) = _)
  have g9 := fun a => after2_at m c t a l _ (rfl : (lane t l : ℕ) = _)
  have g6 := fun a => in_at m c t a l _ (rfl : (lane t l : ℕ) = _)
  generalize k0_pay5 (F := Ideal) (iblk m c 0 t) (iblk m c 3 t) = A at *
  generalize k0_pay7 (F := Ideal) (grid0.coords t) (iblk m c 0 t) (iblk m c 3 t) (iblk m c 1 t) (iblk m c 4 t) (iblk m c 2 t) (iblk m c 5 t) = B at *
  generalize k0_pay8 (F := Ideal) (grid0.coords t) (iblk m c 0 t) (iblk m c 3 t) (iblk m c 1 t) (iblk m c 4 t) (iblk m c 2 t) (iblk m c 5 t) = C at *
  generalize k0_pay9 (F := Ideal) (grid0.coords t) (iblk m c 0 t) (iblk m c 3 t) (iblk m c 1 t) (iblk m c 4 t) (iblk m c 2 t) (iblk m c 5 t) = D at *
  unfold part corr
  by_cases e4 : (r : ℕ) = 4
  · rw [if_pos e4, if_pos e4, ← h4 e4]
    pointwise [k0_pay3]
    exact congrArg _ (Finset.sum_congr rfl fun a _ => g5 a)
  rw [if_neg e4, if_neg e4]
  by_cases e3 : (r : ℕ) = 3
  · rw [if_pos e3, if_pos (by omega), ← h3 e3, e3]
    pointwise [k0_pay2]
    exact congrArg _ (Finset.sum_congr rfl fun a _ => Ideal.mul_congr (g7 a) (g6 a))
  rw [if_neg e3]
  by_cases e2 : (r : ℕ) = 2
  · rw [if_pos e2, if_pos (by omega), ← h2 e2, e2]
    pointwise [k0_pay1, k0_pay14, k0_pay15]
    exact congrArg _ (Finset.sum_congr rfl fun a _ => Ideal.mul_congr (g5 a) (g6 a))
  rw [if_neg e2]
  by_cases e1 : (r : ℕ) = 1
  · rw [if_pos e1, if_pos (by omega), ← h1 e1, e1]
    pointwise [k0_pay13]
    exact congrArg _ (Finset.sum_congr rfl fun a _ => Ideal.mul_congr (g8 a) (g6 a))
  rw [if_neg e1]
  by_cases e0 : (r : ℕ) = 0
  · rw [if_pos e0, if_pos (by omega), ← h0 e0, e0]
    pointwise [k0_pay12]
    exact congrArg _ (Finset.sum_congr rfl fun a _ => Ideal.mul_congr (g9 a) (g6 a))
  rw [if_neg e0, if_neg (by omega), add_zero]

/-- A row of a block loaded alone. -/
theorem row_ld (Z : FVec Ideal S8x1024 .f32) (o : ℕ) (inb : ∀ a, (![o, 0] : Fin 2 → ℕ) a + (![1, 1024] : Fin 2 → ℕ) a ≤ S8x1024.size a)
    (r : Fin 8) (l : Fin 1024) (h : (r : ℕ) = o) :
    Z ((Rect.unit (s := S8x1024) ![o, 0] ![1, 1024] inb).idx (ix2 (0 : Fin 1) l)) = Z (ix2 r l) := by
  subst h
  refine congrArg Z (funext (Fin.forall_fin_two.mpr ⟨Fin.ext ?_, Fin.ext ?_⟩))
  · exact Nat.add_zero _
  · show 0 + 1 * (l : ℕ) = l
    omega

/-- A point leaves its own part. -/
theorem sums_run (r : Fin 8) (l : Fin 1024) :
    (outsAt0 m c t).2 (ix2 r l) = sums (upM m c (lane t l)) (colM m c (lane t l)) r := by
  unfold outsAt0 out0_A_9; frame_open
  simp (disch := decide) only [↓ View.readCov_skip, ↓ View.readCov_cons_toLoadRect, ↓ View.readCov_fill]
  refine (rows_at _ _ _ _ _ _ _ _ r l).trans ?_
  frame_out
  refine (step_at m c t (k0_pay4 (F := Ideal) (ix2 r l)) _ _ _ _ _ r l (row_ld _ 0 _ r l) (row_ld _ 1 _ r l) (row_ld _ 2 _ r l) (row_ld _ 3 _ r l) (row_ld _ 4 _ r l)).trans ?_
  have hz : k0_pay4 (F := Ideal) (ix2 r l) = 0 := by pointwise [k0_pay4]
  rw [hz, zero_add]
  unfold part corr sums at_
  simp only [ext_row]

/-- The second result after the run: the four taps' gradients, the bias' gradient, three rows of zeros. -/
theorem sums_final : (dats m 0 c).arrAt 9 (cfgs 0).N
    = fun j : S8x2048.Idx => sums (upM m c (j 1)) (colM m c (j 1)) (j 0).val := by
  refine (dats m 0 c).arrAt_eq_of_covers 9 _ (by decide +kernel) fun t hf y => ?_
  blk_simp
  rw [after0_9]
  have hp := sums_run m c t (y 0) (y 1)
  have e1 : lane t (y 1) = ((cfg0.win 9).blk t).view.emb y 1 := Fin.ext (by
    show t.val * 1024 + (y 1).val = _
    blk_simp [idx_val t])
  have e0 : (y 0).val = win0_9.index t 0 * 8 + (y 0).val := by rw [(idx_val t).2.2.2.2.2.2.2.2.2.1]; exact (Nat.zero_add _).symm
  rw [← eq_ix2 y, e1] at hp
  rw [← e0]
  exact hp

end Cert.ConvCtxIdeal.Conv
-- ==== Proof.ConvCtxRef.lean ====
module

public import proofs.«01_k».proof.Proof.Gen.ConvCtxRefIdeal.Run
public import proofs.«01_k».proof.Proof.ConvCtx
public import Idealize.ShloMosaic.Lib.Pointwise

/-! What the reference of the convolution's gradient leaves in its two results, at one index. -/

@[expose] public section

set_option maxRecDepth 16384
noncomputable section
open Idealize.ShloMosaic Idealize.ShloMosaic.TcCoe Idealize.SL.Sem
namespace Cert.ConvCtxRefIdeal.Conv
open Cert.ConvCtxRefIdeal Cert.ConvCtxRefIdeal.Gen Cert.ConvCtxRefIdeal.Value Cert.Shift
open Cert.ConvCtxIdeal.Conv (up col)

/-- The two results of the reference at every index, and its arguments kept. -/
theorem run_main (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v87) = (fun j : S256x2048.Idx => du (up (m ((c : Thread nD τ).loc main_arg0)) (m ((c : Thread nD τ).loc main_arg1)) (j 1))
          (fun k => m ((c : Thread nD τ).loc main_arg3) (ix2 k (j 1))) (j 0).val)
      ∧ r.2.mem ((c.tc : Thread nD τ).loc main_v90) = (fun j : S8x2048.Idx => sums (up (m ((c : Thread nD τ).loc main_arg0)) (m ((c : Thread nD τ).loc main_arg1)) (j 1))
          (col (m ((c : Thread nD τ).loc main_arg2)) (j 1)) (j 0).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2⟩) (run m ρ)
  · clear h
    generalize m ((c : Thread nD τ).loc main_arg0) = X0
    generalize m ((c : Thread nD τ).loc main_arg1) = X1
    generalize m ((c : Thread nD τ).loc main_arg3) = X3
    funext j
    rw [eq_ix2 j]
    generalize (j 0 : Fin 256) = r
    generalize (j 1 : Fin 2048) = q
    pointwise
    rw [tap _ (up X0 X1 q) (X3 (ix2 3 q)) (r + 1), tap _ (up X0 X1 q) (X3 (ix2 2 q)) (r + 2), tap _ (up X0 X1 q) (X3 (ix2 1 q)) (r + 3),
      tap _ (up X0 X1 q) (X3 (ix2 0 q)) (r + 4)]
    · exact four _ _ _ _
    all_goals first
      | exact Fin.forall_fin_two.trans ⟨fun e => by have := e.1; simp at this; omega, fun e => ⟨by simp; omega, by simp; exact ⟨Nat.mod_one _, q.isLt⟩⟩⟩
      | refine fun _ _ => congrArg (fun x => up X0 X1 q x * _) (Fin.ext ?_)
        simp only []
        omega
  · clear h
    unfold res_main_v90
    generalize m ((c : Thread nD τ).loc main_arg0) = X0
    generalize m ((c : Thread nD τ).loc main_arg1) = X1
    generalize m ((c : Thread nD τ).loc main_arg2) = X2
    funext j
    rw [eq_ix2 j]
    generalize (j 0 : Fin 8) = r
    generalize (j 1 : Fin 2048) = q
    pointwise
    have hx (n : ℕ) : (if h : n < 2 then (0 : EReal) else if h : n - 2 < 256 then X2 (ix2 ⟨n - 2, h⟩ q) else 0) = ext (col X2 q) n :=
      row_pad (col X2 q) n
    have hs (k : ℕ) (hk : k ≤ 3) : sums (up X0 X1 q) (col X2 q) k = ∑ x : Fin 256, ext (col X2 q) (x + k) * up X0 X1 q x := by
      rw [sums, if_neg (by omega), if_pos hk, sum_shift _ _ _ hk]
    have h2 : ∑ x : Fin 256, ext (col X2 q) (x + 2) * up X0 X1 q x = ∑ x : Fin 256, col X2 q x * up X0 X1 q x :=
      Finset.sum_congr rfl fun x _ => by rw [ext_row]
    simp only [hx, Fin.sum_univ_one]
    fin_cases r
    · refine Eq.trans ?_ (hs 0 (by decide)).symm
      simp [up]
    · refine Eq.trans ?_ (hs 1 (by decide)).symm
      simp [up, add_comm]
    · refine Eq.trans ?_ ((hs 2 (by decide)).trans h2).symm
      simp [up, col]
    · refine Eq.trans ?_ (hs 3 (by decide)).symm
      simp [up, add_comm]
    all_goals simp [up, sums]
end Cert.ConvCtxRefIdeal.Conv
end
-- ==== Proof.InLib.lean ====
module

public import Idealize.ShloMosaic.Lib.Pipeline.ValueKit
public import Idealize.ShloMosaic.Lib.Pipeline.ReadBack
public import Idealize.ShloMosaic.Lib.WritesUnit
public import Idealize.ShloMosaic.Lib.Pointwise

/-! The gradient of a modulated input product, as functions of its arrays, and reading blocks stored slab by slab or row by row. -/

@[expose] public section

set_option maxRecDepth 16384
noncomputable section
open Idealize.ShloMosaic Idealize.ShloMosaic.TcCoe Idealize.SL.Sem
namespace Cert.InLib

/-- A shape of two axes, of three, of one. -/
abbrev Sh2 (n k : ℕ) : Shape := ⟨2, ![n, k]⟩
abbrev Sh3 (n k l : ℕ) : Shape := ⟨3, ![n, k, l]⟩
abbrev Sh1 (n : ℕ) : Shape := ⟨1, ![n]⟩

section Stores
variable {sig : RefSig} {κ : Kind} {sp : Space}

/-- A slab stored alone: its own value there, what was before elsewhere. -/
theorem slab {n p q : ℕ} (v : View sig κ sp (Sh3 n p q) .f32) (f : v.ty.Contents (Elt Ideal)) (o : ℕ)
    (inb : ∀ a, (![o, 0, 0] : Fin 3 → ℕ) a + (![1, p, q] : Fin 3 → ℕ) a ≤ (Sh3 n p q).size a) (w : (Sh3 1 p q).Idx → EReal)
    (L : List (View.Piece (Elt Ideal) (Sh3 n p q) .f32)) (k : Fin n) (a : Fin p) (b : Fin q) :
    v.read (Elt Ideal) (v.writes (Elt Ideal) f ((⟨Rect.unit ![o, 0, 0] ![1, p, q] inb, w⟩ : View.Piece (Elt Ideal) (Sh3 n p q) .f32) :: L)) (ix3 k a b)
      = if (k : ℕ) = o then w (ix3 0 a b) else v.read (Elt Ideal) (v.writes (Elt Ideal) f L) (ix3 k a b) := by
  by_cases h : (k : ℕ) = o
  · rw [if_pos h]
    exact View.read_writes_cons_unit_of_mem v f inb w L (ix3 k a b) (ix3 (0 : Fin 1) a b) rfl
      (by intro i; fin_cases i; exacts [h, (Nat.zero_add _).symm, (Nat.zero_add _).symm])
  · rw [if_neg h]
    exact View.read_writes_cons_unit_of_not_mem v f inb w L (ix3 k a b) rfl (0 : Fin 3) (by show (k : ℕ) < o ∨ o + 1 ≤ k; omega)

/-- Eight slabs stored one after another, read at one place. -/
theorem slabs8 (v : View sig κ sp (Sh3 8 1024 512) .f32) (f : v.ty.Contents (Elt Ideal))
    (i0 : ∀ x, (![0, 0, 0] : Fin 3 → ℕ) x + (![1, 1024, 512] : Fin 3 → ℕ) x ≤ (Sh3 8 1024 512).size x) (i1 : ∀ x, (![1, 0, 0] : Fin 3 → ℕ) x + (![1, 1024, 512] : Fin 3 → ℕ) x ≤ (Sh3 8 1024 512).size x) (i2 : ∀ x, (![2, 0, 0] : Fin 3 → ℕ) x + (![1, 1024, 512] : Fin 3 → ℕ) x ≤ (Sh3 8 1024 512).size x) (i3 : ∀ x, (![3, 0, 0] : Fin 3 → ℕ) x + (![1, 1024, 512] : Fin 3 → ℕ) x ≤ (Sh3 8 1024 512).size x) (i4 : ∀ x, (![4, 0, 0] : Fin 3 → ℕ) x + (![1, 1024, 512] : Fin 3 → ℕ) x ≤ (Sh3 8 1024 512).size x) (i5 : ∀ x, (![5, 0, 0] : Fin 3 → ℕ) x + (![1, 1024, 512] : Fin 3 → ℕ) x ≤ (Sh3 8 1024 512).size x) (i6 : ∀ x, (![6, 0, 0] : Fin 3 → ℕ) x + (![1, 1024, 512] : Fin 3 → ℕ) x ≤ (Sh3 8 1024 512).size x) (i7 : ∀ x, (![7, 0, 0] : Fin 3 → ℕ) x + (![1, 1024, 512] : Fin 3 → ℕ) x ≤ (Sh3 8 1024 512).size x)
    (w0 w1 w2 w3 w4 w5 w6 w7 : (Sh3 1 1024 512).Idx → EReal) (L : List (View.Piece (Elt Ideal) (Sh3 8 1024 512) .f32)) (k : Fin 8) (a : Fin 1024) (b : Fin 512) :
    v.read (Elt Ideal) (v.writes (Elt Ideal) f ((⟨Rect.unit ![7, 0, 0] ![1, 1024, 512] i7, w7⟩ : View.Piece (Elt Ideal) (Sh3 8 1024 512) .f32) :: ⟨Rect.unit ![6, 0, 0] ![1, 1024, 512] i6, w6⟩ :: ⟨Rect.unit ![5, 0, 0] ![1, 1024, 512] i5, w5⟩ :: ⟨Rect.unit ![4, 0, 0] ![1, 1024, 512] i4, w4⟩ :: ⟨Rect.unit ![3, 0, 0] ![1, 1024, 512] i3, w3⟩ :: ⟨Rect.unit ![2, 0, 0] ![1, 1024, 512] i2, w2⟩ :: ⟨Rect.unit ![1, 0, 0] ![1, 1024, 512] i1, w1⟩ :: ⟨Rect.unit ![0, 0, 0] ![1, 1024, 512] i0, w0⟩ :: L)) (ix3 k a b)
      = if (k : ℕ) = 7 then w7 (ix3 0 a b) else if (k : ℕ) = 6 then w6 (ix3 0 a b) else if (k : ℕ) = 5 then w5 (ix3 0 a b) else if (k : ℕ) = 4 then w4 (ix3 0 a b) else if (k : ℕ) = 3 then w3 (ix3 0 a b) else if (k : ℕ) = 2 then w2 (ix3 0 a b) else if (k : ℕ) = 1 then w1 (ix3 0 a b) else if (k : ℕ) = 0 then w0 (ix3 0 a b) else v.read (Elt Ideal) (v.writes (Elt Ideal) f L) (ix3 k a b) := by
  rw [slab, slab, slab, slab, slab, slab, slab, slab]

/-- Four slabs stored one after another, read at one place. -/
theorem slabs4 (v : View sig κ sp (Sh3 4 1024 512) .f32) (f : v.ty.Contents (Elt Ideal))
    (i0 : ∀ x, (![0, 0, 0] : Fin 3 → ℕ) x + (![1, 1024, 512] : Fin 3 → ℕ) x ≤ (Sh3 4 1024 512).size x) (i1 : ∀ x, (![1, 0, 0] : Fin 3 → ℕ) x + (![1, 1024, 512] : Fin 3 → ℕ) x ≤ (Sh3 4 1024 512).size x) (i2 : ∀ x, (![2, 0, 0] : Fin 3 → ℕ) x + (![1, 1024, 512] : Fin 3 → ℕ) x ≤ (Sh3 4 1024 512).size x) (i3 : ∀ x, (![3, 0, 0] : Fin 3 → ℕ) x + (![1, 1024, 512] : Fin 3 → ℕ) x ≤ (Sh3 4 1024 512).size x)
    (w0 w1 w2 w3 : (Sh3 1 1024 512).Idx → EReal) (L : List (View.Piece (Elt Ideal) (Sh3 4 1024 512) .f32)) (k : Fin 4) (a : Fin 1024) (b : Fin 512) :
    v.read (Elt Ideal) (v.writes (Elt Ideal) f ((⟨Rect.unit ![3, 0, 0] ![1, 1024, 512] i3, w3⟩ : View.Piece (Elt Ideal) (Sh3 4 1024 512) .f32) :: ⟨Rect.unit ![2, 0, 0] ![1, 1024, 512] i2, w2⟩ :: ⟨Rect.unit ![1, 0, 0] ![1, 1024, 512] i1, w1⟩ :: ⟨Rect.unit ![0, 0, 0] ![1, 1024, 512] i0, w0⟩ :: L)) (ix3 k a b)
      = if (k : ℕ) = 3 then w3 (ix3 0 a b) else if (k : ℕ) = 2 then w2 (ix3 0 a b) else if (k : ℕ) = 1 then w1 (ix3 0 a b) else if (k : ℕ) = 0 then w0 (ix3 0 a b) else v.read (Elt Ideal) (v.writes (Elt Ideal) f L) (ix3 k a b) := by
  rw [slab, slab, slab, slab]

/-- A row stored alone. -/
theorem row {n p : ℕ} (v : View sig κ sp (Sh2 n p) .f32) (f : v.ty.Contents (Elt Ideal)) (o : ℕ)
    (inb : ∀ a, (![o, 0] : Fin 2 → ℕ) a + (![1, p] : Fin 2 → ℕ) a ≤ (Sh2 n p).size a) (w : (Sh2 1 p).Idx → EReal)
    (L : List (View.Piece (Elt Ideal) (Sh2 n p) .f32)) (r : Fin n) (l : Fin p) :
    v.read (Elt Ideal) (v.writes (Elt Ideal) f ((⟨Rect.unit ![o, 0] ![1, p] inb, w⟩ : View.Piece (Elt Ideal) (Sh2 n p) .f32) :: L)) (ix2 r l)
      = if (r : ℕ) = o then w (ix2 0 l) else v.read (Elt Ideal) (v.writes (Elt Ideal) f L) (ix2 r l) := by
  by_cases h : (r : ℕ) = o
  · rw [if_pos h]
    exact View.read_writes_cons_unit_of_mem v f inb w L (ix2 r l) (ix2 (0 : Fin 1) l) rfl
      (Fin.forall_fin_two.mpr ⟨h, (Nat.zero_add _).symm⟩)
  · rw [if_neg h]
    exact View.read_writes_cons_unit_of_not_mem v f inb w L (ix2 r l) rfl (0 : Fin 2) (by show (r : ℕ) < o ∨ o + 1 ≤ r; omega)
end Stores

/-- A slab loaded alone. -/
theorem slab_ld {n p q : ℕ} (Z : (Sh3 n p q).Idx → EReal) (o : ℕ)
    (inb : ∀ a, (![o, 0, 0] : Fin 3 → ℕ) a + (![1, p, q] : Fin 3 → ℕ) a ≤ (Sh3 n p q).size a) (k : Fin n) (a : Fin p) (b : Fin q) (h : (k : ℕ) = o) :
    Z ((Rect.unit (s := Sh3 n p q) ![o, 0, 0] ![1, p, q] inb).idx (ix3 (0 : Fin 1) a b)) = Z (ix3 k a b) := by
  subst h
  refine congrArg Z (funext fun i => Fin.ext ?_)
  fin_cases i
  · exact Nat.add_zero _
  · show 0 + 1 * (a : ℕ) = a
    omega
  · show 0 + 1 * (b : ℕ) = b
    omega

/-- A row loaded alone. -/
theorem row_ld {n p : ℕ} (Z : (Sh2 n p).Idx → EReal) (o : ℕ)
    (inb : ∀ a, (![o, 0] : Fin 2 → ℕ) a + (![1, p] : Fin 2 → ℕ) a ≤ (Sh2 n p).size a) (r : Fin n) (l : Fin p) (h : (r : ℕ) = o) :
    Z ((Rect.unit (s := Sh2 n p) ![o, 0] ![1, p] inb).idx (ix2 (0 : Fin 1) l)) = Z (ix2 r l) := by
  subst h
  refine congrArg Z (funext (Fin.forall_fin_two.mpr ⟨Fin.ext ?_, Fin.ext ?_⟩))
  · exact Nat.add_zero _
  · show 0 + 1 * (l : ℕ) = l
    omega

/-- Some columns of a block. -/
theorem col_ld {n p q : ℕ} (Z : (Sh2 n p).Idx → EReal) (o : ℕ)
    (inb : ∀ a, (![0, o] : Fin 2 → ℕ) a + (![n, q] : Fin 2 → ℕ) a ≤ (Sh2 n p).size a) (r : Fin n) (l : Fin q) (h : o + (l : ℕ) < p) :
    Z ((Rect.unit (s := Sh2 n p) ![0, o] ![n, q] inb).idx (ix2 r l)) = Z (ix2 r ⟨o + l, h⟩) := by
  refine congrArg Z (funext (Fin.forall_fin_two.mpr ⟨Fin.ext ?_, Fin.ext ?_⟩))
  · show 0 + 1 * (r : ℕ) = r
    omega
  · show o + 1 * (l : ℕ) = o + l
    omega

variable {N : ℕ}
/-- The two upstream arrays side by side. -/
def ct (U G : (Sh2 N 2048).Idx → EReal) (r : Fin N) (q : Fin 4096) : EReal :=
  if h : (q : ℕ) < 2048 then U (ix2 r ⟨q, h⟩) else G (ix2 r ⟨(q : ℕ) - 2048, by omega⟩)
/-- The modulated input. -/
def hh (X : (Sh2 N 1024).Idx → EReal) (S H : (Sh1 1024).Idx → EReal) (r : Fin N) (a : Fin 1024) : EReal :=
  X (ix2 r a) * (1 + S (ix1 a)) + H (ix1 a)
/-- One half of the modulated input's gradient: an upstream array against the weights' columns from `o` on. -/
def half {K : ℕ} (U : (Sh2 N 2048).Idx → EReal) (W : (Sh2 1024 K).Idx → EReal) (o : ℕ) (ho : o + 2048 ≤ K) (r : Fin N) (j : Fin 1024) : EReal :=
  ∑ x : Fin 2048, U (ix2 r x) * W (ix2 j ⟨o + x, by omega⟩)
/-- The modulated input's gradient. -/
def dh (U G : (Sh2 N 2048).Idx → EReal) (W : (Sh2 1024 4096).Idx → EReal) (r : Fin N) (j : Fin 1024) : EReal :=
  half U W 0 (by omega) r j + half G W 2048 (by omega) r j
/-- The weights' gradient at one place. -/
def gw (U G : (Sh2 N 2048).Idx → EReal) (X : (Sh2 N 1024).Idx → EReal) (S H : (Sh1 1024).Idx → EReal) (a : Fin 1024) (q : Fin 4096) : EReal :=
  ∑ r : Fin N, ct U G r q * hh X S H r a
/-- The same with one upstream array. -/
def gwc (U : (Sh2 N 2048).Idx → EReal) (X : (Sh2 N 1024).Idx → EReal) (S H : (Sh1 1024).Idx → EReal) (a : Fin 1024) (q : Fin 2048) : EReal :=
  ∑ r : Fin N, U (ix2 r q) * hh X S H r a
/-- A gradient of the first 2048 columns, in blocks of columns, zero beyond. -/
def ini (C : (Sh2 1024 2048).Idx → EReal) (k : Fin 8) (a : Fin 1024) (b : Fin 512) : EReal :=
  if h : (k : ℕ) < 4 then C (ix2 a ⟨k * 512 + b, by omega⟩) else 0
/-- The gradients of the scale and of the shift, the two first of eight rows. -/
def st (D : Fin N → Fin 1024 → EReal) (X : (Sh2 N 1024).Idx → EReal) (r : Fin 8) (j : Fin 1024) : EReal :=
  if (r : ℕ) = 0 then ∑ x : Fin N, X (ix2 x j) * D x j else if (r : ℕ) = 1 then ∑ x : Fin N, D x j else 0

/-- Four blocks of columns make a half. -/
theorem half_blocks {K : ℕ} (U : (Sh2 N 2048).Idx → EReal) (W : (Sh2 1024 K).Idx → EReal) (o : ℕ) (ho : o + 2048 ≤ K) (r : Fin N) (j : Fin 1024) :
    half U W o ho r j = ∑ k : Fin 4, ∑ b : Fin 512, U (ix2 r ⟨k * 512 + b, by omega⟩) * W (ix2 j ⟨o + (k * 512 + b), by omega⟩) :=
  Fin.sum_univ_tiles 4 512 rfl fun x : Fin 2048 => U (ix2 r x) * W (ix2 j ⟨o + x, by omega⟩)

/-- A block of the first upstream array and one of the second, as columns of the two side by side. -/
theorem ct_left (U G : (Sh2 N 2048).Idx → EReal) (r : Fin N) (q : Fin 4096) (n : ℕ) (hn : n < 2048) (e : (q : ℕ) = n) : ct U G r q = U (ix2 r ⟨n, hn⟩) := by
  subst e; exact dif_pos hn
theorem ct_right (U G : (Sh2 N 2048).Idx → EReal) (r : Fin N) (q : Fin 4096) (n : ℕ) (hn : n < 2048) (e : (q : ℕ) = 2048 + n) : ct U G r q = G (ix2 r ⟨n, hn⟩) := by
  unfold ct
  rw [dif_neg (by omega)]
  exact congrArg G (congrArg (ix2 r) (Fin.ext (by show (q : ℕ) - 2048 = n; omega)))

/-- The modulated input's gradient as one sum over all columns. -/
theorem dh_cols (U G : (Sh2 N 2048).Idx → EReal) (W : (Sh2 1024 4096).Idx → EReal) (r : Fin N) (j : Fin 1024) :
    dh U G W r j = ∑ q : Fin 4096, ct U G r q * W (ix2 j q) := by
  refine Eq.trans ?_ (Fin.sum_univ_add (a := 2048) (b := 2048) fun q : Fin (2048 + 2048) => ct U G r q * W (ix2 j q)).symm
  unfold dh half
  refine congrArg₂ (· + ·) (Finset.sum_congr rfl fun x _ => ?_) (Finset.sum_congr rfl fun x _ => ?_)
  · rw [ct_left U G r (Fin.castAdd 2048 x) x x.isLt rfl]
    exact congrArg (fun i => _ * W (ix2 j i)) (Fin.ext (Nat.zero_add _))
  · rw [ct_right U G r (Fin.natAdd 2048 x) x x.isLt rfl]
    rfl
/-- And over the eight blocks of columns. -/
theorem dh_blocks (U G : (Sh2 N 2048).Idx → EReal) (W : (Sh2 1024 4096).Idx → EReal) (r : Fin N) (j : Fin 1024) :
    dh U G W r j = ∑ k : Fin 8, ∑ b : Fin 512, ct U G r ⟨k * 512 + b, by omega⟩ * W (ix2 j ⟨k * 512 + b, by omega⟩) :=
  (dh_cols U G W r j).trans (Fin.sum_univ_tiles 8 512 rfl fun q : Fin 4096 => ct U G r q * W (ix2 j q))
end Cert.InLib
end
end
-- ==== Proof.OutLib.lean ====
module

public import proofs.«01_k».proof.Proof.InLib

/-! The gated output product and its gradients, and stores in blocks of rows and of columns. -/

@[expose] public section

set_option maxRecDepth 16384
noncomputable section
open Idealize.ShloMosaic Idealize.ShloMosaic.TcCoe Idealize.SL.Sem
namespace Cert.OutLib
open Cert.InLib

/-- Place `b` of group `k` of 512 channels. -/
abbrev ch (k : Fin 4) (b : Fin 512) : Fin 2048 := ⟨k * 512 + b, by omega⟩

section Stores
variable {sig : RefSig} {κ : Kind} {sp : Space} {e : EltTy}

/-- A group of columns stored alone. -/
theorem cols {n : ℕ} (v : View sig κ sp (Sh2 n 2048) e) (f : v.ty.Contents (Elt Ideal)) (o : ℕ)
    (inb : ∀ a, (![0, o] : Fin 2 → ℕ) a + (![n, 512] : Fin 2 → ℕ) a ≤ (Sh2 n 2048).size a) (w : (Sh2 n 512).Idx → Elt Ideal e)
    (L : List (View.Piece (Elt Ideal) (Sh2 n 2048) e)) (r : Fin n) (k : Fin 4) (b : Fin 512) (i : ℕ) (hi : o = i * 512) :
    v.read (Elt Ideal) (v.writes (Elt Ideal) f ((⟨Rect.unit ![0, o] ![n, 512] inb, w⟩ : View.Piece (Elt Ideal) (Sh2 n 2048) e) :: L)) (ix2 r (ch k b))
      = if (k : ℕ) = i then w (ix2 r b) else v.read (Elt Ideal) (v.writes (Elt Ideal) f L) (ix2 r (ch k b)) := by
  by_cases h : (k : ℕ) = i
  · rw [if_pos h]
    exact View.read_writes_cons_unit_of_mem v f inb w L (ix2 r (ch k b)) (ix2 r b) rfl
      (Fin.forall_fin_two.mpr ⟨(Nat.zero_add _).symm, by show (k : ℕ) * 512 + b = o + b; omega⟩)
  · rw [if_neg h]
    exact View.read_writes_cons_unit_of_not_mem v f inb w L (ix2 r (ch k b)) rfl (1 : Fin 2) (by show (k : ℕ) * 512 + b < o ∨ o + 512 ≤ (k : ℕ) * 512 + b; omega)

/-- Four groups of columns stored one after another. -/
theorem cols4 {n : ℕ} (v : View sig κ sp (Sh2 n 2048) e) (f : v.ty.Contents (Elt Ideal)) (i0) (i1) (i2) (i3) (w0 w1 w2 w3 : (Sh2 n 512).Idx → Elt Ideal e)
    (L : List (View.Piece (Elt Ideal) (Sh2 n 2048) e)) (r : Fin n) (k : Fin 4) (b : Fin 512) :
    v.read (Elt Ideal) (v.writes (Elt Ideal) f ((⟨Rect.unit ![0, 1536] ![n, 512] i3, w3⟩ : View.Piece (Elt Ideal) (Sh2 n 2048) e) :: ⟨Rect.unit ![0, 1024] ![n, 512] i2, w2⟩
        :: ⟨Rect.unit ![0, 512] ![n, 512] i1, w1⟩ :: ⟨Rect.unit ![0, 0] ![n, 512] i0, w0⟩ :: L)) (ix2 r (ch k b))
      = if (k : ℕ) = 3 then w3 (ix2 r b) else if (k : ℕ) = 2 then w2 (ix2 r b) else if (k : ℕ) = 1 then w1 (ix2 r b) else if (k : ℕ) = 0 then w0 (ix2 r b)
        else v.read (Elt Ideal) (v.writes (Elt Ideal) f L) (ix2 r (ch k b)) := by
  rw [cols _ _ 1536 i3 _ _ _ _ _ 3 rfl, cols _ _ 1024 i2 _ _ _ _ _ 2 rfl, cols _ _ 512 i1 _ _ _ _ _ 1 rfl, cols _ _ 0 i0 _ _ _ _ _ 0 rfl]

/-- A group of rows stored alone. -/
theorem rows {p : ℕ} (v : View sig κ sp (Sh2 2048 p) e) (f : v.ty.Contents (Elt Ideal)) (o : ℕ)
    (inb : ∀ a, (![o, 0] : Fin 2 → ℕ) a + (![512, p] : Fin 2 → ℕ) a ≤ (Sh2 2048 p).size a) (w : (Sh2 512 p).Idx → Elt Ideal e)
    (L : List (View.Piece (Elt Ideal) (Sh2 2048 p) e)) (k : Fin 4) (b : Fin 512) (j : Fin p) (i : ℕ) (hi : o = i * 512) :
    v.read (Elt Ideal) (v.writes (Elt Ideal) f ((⟨Rect.unit ![o, 0] ![512, p] inb, w⟩ : View.Piece (Elt Ideal) (Sh2 2048 p) e) :: L)) (ix2 (ch k b) j)
      = if (k : ℕ) = i then w (ix2 b j) else v.read (Elt Ideal) (v.writes (Elt Ideal) f L) (ix2 (ch k b) j) := by
  by_cases h : (k : ℕ) = i
  · rw [if_pos h]
    exact View.read_writes_cons_unit_of_mem v f inb w L (ix2 (ch k b) j) (ix2 b j) rfl
      (Fin.forall_fin_two.mpr ⟨by show (k : ℕ) * 512 + b = o + b; omega, (Nat.zero_add _).symm⟩)
  · rw [if_neg h]
    exact View.read_writes_cons_unit_of_not_mem v f inb w L (ix2 (ch k b) j) rfl (0 : Fin 2) (by show (k : ℕ) * 512 + b < o ∨ o + 512 ≤ (k : ℕ) * 512 + b; omega)

/-- Four groups of rows stored one after another. -/
theorem rows4 {p : ℕ} (v : View sig κ sp (Sh2 2048 p) e) (f : v.ty.Contents (Elt Ideal)) (i0) (i1) (i2) (i3) (w0 w1 w2 w3 : (Sh2 512 p).Idx → Elt Ideal e)
    (L : List (View.Piece (Elt Ideal) (Sh2 2048 p) e)) (k : Fin 4) (b : Fin 512) (j : Fin p) :
    v.read (Elt Ideal) (v.writes (Elt Ideal) f ((⟨Rect.unit ![1536, 0] ![512, p] i3, w3⟩ : View.Piece (Elt Ideal) (Sh2 2048 p) e) :: ⟨Rect.unit ![1024, 0] ![512, p] i2, w2⟩
        :: ⟨Rect.unit ![512, 0] ![512, p] i1, w1⟩ :: ⟨Rect.unit ![0, 0] ![512, p] i0, w0⟩ :: L)) (ix2 (ch k b) j)
      = if (k : ℕ) = 3 then w3 (ix2 b j) else if (k : ℕ) = 2 then w2 (ix2 b j) else if (k : ℕ) = 1 then w1 (ix2 b j) else if (k : ℕ) = 0 then w0 (ix2 b j)
        else v.read (Elt Ideal) (v.writes (Elt Ideal) f L) (ix2 (ch k b) j) := by
  rw [rows _ _ 1536 i3 _ _ _ _ _ 3 rfl, rows _ _ 1024 i2 _ _ _ _ _ 2 rfl, rows _ _ 512 i1 _ _ _ _ _ 1 rfl, rows _ _ 0 i0 _ _ _ _ _ 0 rfl]

/-- A group of the first row stored alone. -/
theorem head {n : ℕ} (v : View sig κ sp (Sh2 n 2048) e) (f : v.ty.Contents (Elt Ideal)) (o : ℕ)
    (inb : ∀ a, (![0, o] : Fin 2 → ℕ) a + (![1, 512] : Fin 2 → ℕ) a ≤ (Sh2 n 2048).size a) (w : (Sh2 1 512).Idx → Elt Ideal e)
    (L : List (View.Piece (Elt Ideal) (Sh2 n 2048) e)) (r : Fin n) (k : Fin 4) (b : Fin 512) (i : ℕ) (hi : o = i * 512) :
    v.read (Elt Ideal) (v.writes (Elt Ideal) f ((⟨Rect.unit ![0, o] ![1, 512] inb, w⟩ : View.Piece (Elt Ideal) (Sh2 n 2048) e) :: L)) (ix2 r (ch k b))
      = if (r : ℕ) = 0 ∧ (k : ℕ) = i then w (ix2 0 b) else v.read (Elt Ideal) (v.writes (Elt Ideal) f L) (ix2 r (ch k b)) := by
  by_cases h : (r : ℕ) = 0 ∧ (k : ℕ) = i
  · rw [if_pos h]
    exact View.read_writes_cons_unit_of_mem v f inb w L (ix2 r (ch k b)) (ix2 (0 : Fin 1) b) rfl
      (Fin.forall_fin_two.mpr ⟨h.1, by show (k : ℕ) * 512 + b = o + b; omega⟩)
  · rw [if_neg h]
    by_cases h' : (r : ℕ) = 0
    · exact View.read_writes_cons_unit_of_not_mem v f inb w L (ix2 r (ch k b)) rfl (1 : Fin 2) (by show (k : ℕ) * 512 + b < o ∨ o + 512 ≤ (k : ℕ) * 512 + b; omega)
    · exact View.read_writes_cons_unit_of_not_mem v f inb w L (ix2 r (ch k b)) rfl (0 : Fin 2) (by show (r : ℕ) < 0 ∨ 0 + 1 ≤ (r : ℕ); omega)

/-- Four groups of the first row stored one after another. -/
theorem head4 {n : ℕ} (v : View sig κ sp (Sh2 n 2048) e) (f : v.ty.Contents (Elt Ideal)) (i0) (i1) (i2) (i3) (w0 w1 w2 w3 : (Sh2 1 512).Idx → Elt Ideal e)
    (L : List (View.Piece (Elt Ideal) (Sh2 n 2048) e)) (r : Fin n) (k : Fin 4) (b : Fin 512) :
    v.read (Elt Ideal) (v.writes (Elt Ideal) f ((⟨Rect.unit ![0, 1536] ![1, 512] i3, w3⟩ : View.Piece (Elt Ideal) (Sh2 n 2048) e) :: ⟨Rect.unit ![0, 1024] ![1, 512] i2, w2⟩
        :: ⟨Rect.unit ![0, 512] ![1, 512] i1, w1⟩ :: ⟨Rect.unit ![0, 0] ![1, 512] i0, w0⟩ :: L)) (ix2 r (ch k b))
      = if (r : ℕ) = 0 ∧ (k : ℕ) = 3 then w3 (ix2 0 b) else if (r : ℕ) = 0 ∧ (k : ℕ) = 2 then w2 (ix2 0 b) else if (r : ℕ) = 0 ∧ (k : ℕ) = 1 then w1 (ix2 0 b)
        else if (r : ℕ) = 0 ∧ (k : ℕ) = 0 then w0 (ix2 0 b) else v.read (Elt Ideal) (v.writes (Elt Ideal) f L) (ix2 r (ch k b)) := by
  rw [head _ _ 1536 i3 _ _ _ _ _ 3 rfl, head _ _ 1024 i2 _ _ _ _ _ 2 rfl, head _ _ 512 i1 _ _ _ _ _ 1 rfl, head _ _ 0 i0 _ _ _ _ _ 0 rfl]

/-- Four slabs stored one after another. -/
theorem slabs {p q : ℕ} (v : View sig κ sp (Sh3 4 p q) .f32) (f : v.ty.Contents (Elt Ideal)) (i0) (i1) (i2) (i3) (w0 w1 w2 w3 : (Sh3 1 p q).Idx → EReal)
    (L : List (View.Piece (Elt Ideal) (Sh3 4 p q) .f32)) (k : Fin 4) (a : Fin p) (b : Fin q) :
    v.read (Elt Ideal) (v.writes (Elt Ideal) f ((⟨Rect.unit ![3, 0, 0] ![1, p, q] i3, w3⟩ : View.Piece (Elt Ideal) (Sh3 4 p q) .f32) :: ⟨Rect.unit ![2, 0, 0] ![1, p, q] i2, w2⟩
        :: ⟨Rect.unit ![1, 0, 0] ![1, p, q] i1, w1⟩ :: ⟨Rect.unit ![0, 0, 0] ![1, p, q] i0, w0⟩ :: L)) (ix3 k a b)
      = if (k : ℕ) = 3 then w3 (ix3 0 a b) else if (k : ℕ) = 2 then w2 (ix3 0 a b) else if (k : ℕ) = 1 then w1 (ix3 0 a b) else if (k : ℕ) = 0 then w0 (ix3 0 a b)
        else v.read (Elt Ideal) (v.writes (Elt Ideal) f L) (ix3 k a b) := by
  rw [slab, slab, slab, slab]
end Stores

/-- A group of columns loaded alone. -/
theorem cols_ld {n : ℕ} (Z : (Sh2 n 2048).Idx → EReal) (o : ℕ) (inb) (r : Fin n) (k : Fin 4) (b : Fin 512) (h : o = k * 512) :
    Z ((Rect.unit (s := Sh2 n 2048) ![0, o] ![n, 512] inb).idx (ix2 r b)) = Z (ix2 r (ch k b)) := by
  subst h; exact col_ld Z _ inb r b _
/-- A group of rows loaded alone. -/
theorem rows_ld {p : ℕ} (Z : (Sh2 2048 p).Idx → EReal) (o : ℕ)
    (inb : ∀ a, (![o, 0] : Fin 2 → ℕ) a + (![512, p] : Fin 2 → ℕ) a ≤ (Sh2 2048 p).size a) (k : Fin 4) (b : Fin 512) (j : Fin p) (h : o = k * 512) :
    Z ((Rect.unit (s := Sh2 2048 p) ![o, 0] ![512, p] inb).idx (ix2 b j)) = Z (ix2 (ch k b) j) := by
  subst h
  refine congrArg Z (funext (Fin.forall_fin_two.mpr ⟨Fin.ext ?_, Fin.ext ?_⟩))
  · show (k : ℕ) * 512 + 1 * (b : ℕ) = k * 512 + b
    omega
  · show 0 + 1 * (j : ℕ) = j
    omega
/-- A group of the first row loaded alone. -/
theorem head_ld {n : ℕ} (Z : (Sh2 n 2048).Idx → EReal) (o : ℕ)
    (inb : ∀ a, (![0, o] : Fin 2 → ℕ) a + (![1, 512] : Fin 2 → ℕ) a ≤ (Sh2 n 2048).size a) (r : Fin n) (k : Fin 4) (b : Fin 512) (hr : (r : ℕ) = 0) (h : o = k * 512) :
    Z ((Rect.unit (s := Sh2 n 2048) ![0, o] ![1, 512] inb).idx (ix2 (0 : Fin 1) b)) = Z (ix2 r (ch k b)) := by
  subst h
  refine congrArg Z (funext (Fin.forall_fin_two.mpr ⟨Fin.ext ?_, Fin.ext ?_⟩))
  · exact hr.symm
  · show (k : ℕ) * 512 + 1 * (b : ℕ) = k * 512 + b
    omega

/-! The logistic function by a hyperbolic tangent. -/

theorem half_word : Ideal.ofBits .f32 1056964608#32 = ((1 / 2 : ℝ) : EReal) := by
  simp [Ideal.ofBits, Ideal.ieee]
  exact_mod_cast (by norm_num : (8388608 : ℝ) * ((2 ^ 24 : ℝ))⁻¹ = 2⁻¹)

/-- Half a hyperbolic tangent of half the argument, plus a half, is the logistic function. -/
theorem sg_eq (z : EReal) : Ideal.ofBits .f32 1056964608#32 * Ideal.tanh (Ideal.ofBits .f32 1056964608#32 * z) + Ideal.ofBits .f32 1056964608#32
    = Ideal.logistic z := by
  rw [half_word]
  induction z with
  | bot =>
    rw [EReal.coe_mul_bot_of_pos (by norm_num), Ideal.tanh_bot, Ideal.logistic_bot, show (-1 : EReal) = ((-1 : ℝ) : EReal) by simp, ← EReal.coe_mul, ← EReal.coe_add]
    exact_mod_cast (by norm_num : (1 / 2 : ℝ) * -1 + 1 / 2 = 0)
  | top =>
    rw [EReal.coe_mul_top_of_pos (by norm_num), Ideal.tanh_top, Ideal.logistic_top]
    norm_cast; norm_num
  | coe r =>
    rw [← EReal.coe_mul, Ideal.tanh_coe, Ideal.logistic_coe, ← EReal.coe_mul, ← EReal.coe_add]
    refine congrArg _ ?_
    rw [Real.tanh_eq_sinh_div_cosh, Real.sinh_eq, Real.cosh_eq]
    have e : Real.exp (-r) = Real.exp (-(1 / 2 * r)) * Real.exp (-(1 / 2 * r)) := by rw [← Real.exp_add]; congr 1; ring
    have e1 : Real.exp (1 / 2 * r) * Real.exp (-(1 / 2 * r)) = 1 := by rw [← Real.exp_add]; simp
    rw [e]
    have h1 := Real.exp_pos (1 / 2 * r)
    have h2 := Real.exp_pos (-(1 / 2 * r))
    generalize Real.exp (1 / 2 * r) = u at *
    generalize Real.exp (-(1 / 2 * r)) = v at *
    field_simp
    nlinarith [e1]

section Spec
variable {N : ℕ}
/-- The gated activation's factor. -/
def silu (g : EReal) : EReal := g * Ideal.logistic g
/-- Its derivative. -/
def dsilu (g : EReal) : EReal := Ideal.logistic g * (1 + g * (1 - Ideal.logistic g))
/-- The branch's gradient. -/
def db (T : (Sh1 1024).Idx → EReal) (Z : (Sh2 N 1024).Idx → EReal) (r : Fin N) (j : Fin 1024) : EReal := T (ix1 j) * Z (ix2 r j)
/-- The output product's input's gradient. -/
def dp (D : Fin N → Fin 1024 → EReal) (W : (Sh2 2048 1024).Idx → EReal) (r : Fin N) (q : Fin 2048) : EReal := ∑ j, D r j * W (ix2 q j)
/-- The gradient before the gate. -/
def dy (D : Fin N → Fin 1024 → EReal) (W : (Sh2 2048 1024).Idx → EReal) (G : (Sh2 N 2048).Idx → EReal) (r : Fin N) (q : Fin 2048) : EReal :=
  dp D W r q * silu (G (ix2 r q))
/-- The gate's gradient. -/
def dgate (D : Fin N → Fin 1024 → EReal) (W : (Sh2 2048 1024).Idx → EReal) (G : (Sh2 N 2048).Idx → EReal) (Y : Fin N → Fin 2048 → EReal) (r : Fin N) (q : Fin 2048) : EReal :=
  dp D W r q * Y r q * dsilu (G (ix2 r q))
/-- The output weights' gradient. -/
def gwo (D : Fin N → Fin 1024 → EReal) (G : (Sh2 N 2048).Idx → EReal) (Y : Fin N → Fin 2048 → EReal) (q : Fin 2048) (j : Fin 1024) : EReal :=
  ∑ r, Y r q * silu (G (ix2 r q)) * D r j

/-- The group and the place of a channel. -/
def kk (q : Fin 2048) : Fin 4 := ⟨q / 512, by omega⟩
def bb (q : Fin 2048) : Fin 512 := ⟨q % 512, by omega⟩
theorem ch_kk (q : Fin 2048) : ch (kk q) (bb q) = q := Fin.ext (by show q / 512 * 512 + q % 512 = (q : ℕ); omega)

/-- What holds at every place of every group holds at every channel. -/
theorem by_ch {P : Fin 2048 → Prop} (h : ∀ k b, P (ch k b)) (q : Fin 2048) : P q := ch_kk q ▸ h (kk q) (bb q)

theorem kk_ch (k : Fin 4) (b : Fin 512) : kk (ch k b) = k := Fin.ext (by show (k * 512 + b : ℕ) / 512 = k; omega)
theorem bb_ch (k : Fin 4) (b : Fin 512) : bb (ch k b) = b := Fin.ext (by show (k * 512 + b : ℕ) % 512 = b; omega)

/-- The grouped product. -/
def po (M : (Sh2 N 2048).Idx → EReal) (P : (Sh3 4 512 512).Idx → EReal) (r : Fin N) (q : Fin 2048) : EReal :=
  ∑ e, M (ix2 r (ch (kk q) e)) * P (ix3 (kk q) e (bb q))
theorem po_swap (M : (Sh2 N 2048).Idx → EReal) (P : (Sh3 4 512 512).Idx → EReal) (r : Fin N) (q : Fin 2048) :
    ∑ x : Fin 512, P (ix3 ⟨q / 512, by omega⟩ x ⟨q % 512, by omega⟩) * M (ix2 r ⟨q / 512 * 512 + x, by omega⟩) = po M P r q :=
  Finset.sum_congr rfl fun _ _ => mul_comm _ _
/-- The scaled grouped product. -/
def ysc (M : (Sh2 N 2048).Idx → EReal) (P : (Sh3 4 512 512).Idx → EReal) (S : (Sh1 2048).Idx → EReal) (r : Fin N) (q : Fin 2048) : EReal := po M P r q * S (ix1 q)
/-- The grouped product's input's gradient. -/
def dd (Y : Fin N → Fin 2048 → EReal) (P : (Sh3 4 512 512).Idx → EReal) (S : (Sh1 2048).Idx → EReal) (r : Fin N) (q : Fin 2048) : EReal :=
  ∑ e, Y r (ch (kk q) e) * S (ix1 (ch (kk q) e)) * P (ix3 (kk q) (bb q) e)
/-- The grouped weights' gradient. -/
def gpw (Y : Fin N → Fin 2048 → EReal) (M : (Sh2 N 2048).Idx → EReal) (S : (Sh1 2048).Idx → EReal) (k : Fin 4) (a b : Fin 512) : EReal :=
  ∑ r, M (ix2 r (ch k a)) * (Y r (ch k b) * S (ix1 (ch k b)))
/-- The scales' gradient, in the first of eight rows. -/
def gps (Y V : Fin N → Fin 2048 → EReal) (r : Fin 8) (q : Fin 2048) : EReal := if (r : ℕ) = 0 then ∑ x, Y x q * V x q else 0

/-- The gate's gradient as the sum of its two products, at a finite cotangent. -/
theorem dsilu_sum (x : ℝ) (g : EReal) : (x : EReal) * dsilu g = x * Ideal.logistic g + g * x * (Ideal.logistic g * (1 - Ideal.logistic g)) := by
  unfold dsilu
  induction g with
  | bot => simp
  | top => rw [Ideal.logistic_top, show (1 : EReal) - 1 = 0 from EReal.sub_self (EReal.coe_ne_top 1) (EReal.coe_ne_bot 1)]; simp
  | coe r =>
    rw [Ideal.logistic_coe]
    generalize ((1 + Real.exp (-r))⁻¹ : ℝ) = s
    norm_cast
    push_cast
    ring_nf
end Spec

/-- Four groups, each read in its own case. -/
theorem pick4 {k : ℕ} (hk : k < 4) {a3 a2 a1 a0 z t : EReal} (h3 : k = 3 → a3 = t) (h2 : k = 2 → a2 = t) (h1 : k = 1 → a1 = t) (h0 : k = 0 → a0 = t) :
    (if k = 3 then a3 else if k = 2 then a2 else if k = 1 then a1 else if k = 0 then a0 else z) = t := by
  split_ifs with e3 e2 e1 e0
  exacts [h3 e3, h2 e2, h1 e1, h0 e0, absurd hk (by omega)]
/-- Four groups of the first row, each read in its own case, and the other rows. -/
theorem pickh {r k : ℕ} (hk : k < 4) {a3 a2 a1 a0 z t : EReal} (h3 : r = 0 → k = 3 → a3 = t) (h2 : r = 0 → k = 2 → a2 = t) (h1 : r = 0 → k = 1 → a1 = t)
    (h0 : r = 0 → k = 0 → a0 = t) (hz : ¬ r = 0 → z = t) :
    (if r = 0 ∧ k = 3 then a3 else if r = 0 ∧ k = 2 then a2 else if r = 0 ∧ k = 1 then a1 else if r = 0 ∧ k = 0 then a0 else z) = t := by
  split_ifs with e3 e2 e1 e0
  exacts [h3 e3.1 e3.2, h2 e2.1 e2.2, h1 e1.1 e1.2, h0 e0.1 e0.2, hz (by omega)]

/-! Finite arguments. -/

/-- A finite value. -/
def IsR (x : EReal) : Prop := ∃ r : ℝ, (r : EReal) = x
theorem IsR.mul {x y : EReal} (hx : IsR x) (hy : IsR y) : IsR (x * y) := by
  obtain ⟨a, rfl⟩ := hx; obtain ⟨b, rfl⟩ := hy; exact ⟨a * b, EReal.coe_mul a b⟩
theorem IsR.add {x y : EReal} (hx : IsR x) (hy : IsR y) : IsR (x + y) := by
  obtain ⟨a, rfl⟩ := hx; obtain ⟨b, rfl⟩ := hy; exact ⟨a + b, EReal.coe_add a b⟩
theorem IsR.sum {n : ℕ} {f : Fin n → EReal} (h : ∀ i, IsR (f i)) : IsR (∑ i, f i) :=
  Finset.sum_induction f IsR (fun _ _ => IsR.add) ⟨0, rfl⟩ fun i _ => h i
theorem top_word : Ideal.ofBits .f32 0x7F800000#32 = ⊤ := by simp [Ideal.ofBits, Ideal.ieee]
/-- An entry whose magnitude lies below the infinity is finite. -/
theorem isR_of {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) : IsR (x i) := by
  have h1 : Ideal.cmp .olt (max (x i : EReal) (-(x i : EReal))) (Ideal.ofBits .f32 0x7F800000#32) = 1#1 := congrFun h i
  rw [top_word] at h1
  have h2 : max (x i : EReal) (-(x i : EReal)) < ⊤ := by
    by_contra hc
    have h0 : Ideal.cmp .olt (max (x i : EReal) (-(x i : EReal))) ⊤ = BitVec.ofBool (decide (max (x i : EReal) (-(x i : EReal)) < ⊤)) := rfl
    rw [h0, decide_eq_false hc] at h1
    exact absurd h1 (by decide)
  obtain ⟨ht, hbt⟩ := max_lt_iff.mp h2
  have key : ∀ y : EReal, y < ⊤ → -y < ⊤ → IsR y := fun y h h' => by
    induction y with
    | bot => simp at h'
    | top => simp at h
    | coe r => exact ⟨r, rfl⟩
  exact key _ ht hbt
end Cert.OutLib
end
end
-- ==== Proof.Mod.lean ====
module

public import proofs.«01_k».proof.Proof.Gen.ModIdeal.Value
public import proofs.«01_k».proof.Proof.OutLib
public import Idealize.ShloMosaic.Lib.StableHlo.ReadAt

/-! What the modulation's backward call leaves in its three results, at one index. -/

@[expose] public section

set_option maxRecDepth 16384
noncomputable section
open Idealize.ShloMosaic Idealize.ShloMosaic.TcCoe Idealize.SL.Sem
namespace Cert.ModSpec
open Cert.InLib Cert.OutLib
/-- The weights' gradient: the conditions' silu against the columns' gradient, the context's rows on the first layer alone. -/
def gw (C : (Sh2 8 1024).Idx → EReal) (X : (Sh1 1024).Idx → EReal) (D : (Sh3 2 8 3072).Idx → EReal) (E : (Sh2 8 3072).Idx → EReal) (i : Fin 2) (a : Fin 1024) (b : Fin 384) : EReal :=
  (∑ r : Fin 8, silu (C (ix2 r a)) * D (ix3 i r ⟨b, by omega⟩)) + if (i : ℕ) = 0 then ∑ r : Fin 8, silu (X (ix1 a)) * E (ix2 r ⟨b, by omega⟩) else 0
/-- The bias's gradient. -/
def gb (D : (Sh3 2 8 3072).Idx → EReal) (E : (Sh2 8 3072).Idx → EReal) (i : Fin 2) (b : Fin 3072) : EReal :=
  (∑ r : Fin 8, D (ix3 i r b)) + if (i : ℕ) = 0 then ∑ r : Fin 8, E (ix2 r b) else 0
/-- What comes back to a context row's silu. -/
def back (E : (Sh2 8 3072).Idx → EReal) (W : (Sh3 2 1024 384).Idx → EReal) (r : Fin 8) (a : Fin 1024) : EReal := ∑ b : Fin 384, E (ix2 r ⟨b, by omega⟩) * W (ix3 0 a b)
/-- The context's gradient. -/
def gc (X : (Sh1 1024).Idx → EReal) (E : (Sh2 8 3072).Idx → EReal) (W : (Sh3 2 1024 384).Idx → EReal) (a : Fin 1024) : EReal := ∑ r : Fin 8, back E W r a * dsilu (X (ix1 a))
/-- The lower and the upper half of sixteen rows. -/
abbrev lo (r : Fin 8) : Fin 16 := ⟨r, by omega⟩
abbrev hi (r : Fin 8) : Fin 16 := ⟨8 + r, by omega⟩
theorem sum16 (f : Fin 16 → EReal) : ∑ r, f r = (∑ r, f (lo r)) + ∑ r, f (hi r) := Fin.sum_univ_add (a := 8) (b := 8) f
/-- A slab stored last, read at one place. -/
theorem slab_canon {n p q : ℕ} (o : ℕ) (inb : ∀ a, (![o, 0, 0] : Fin 3 → ℕ) a + (![1, p, q] : Fin 3 → ℕ) a ≤ (Sh3 n p q).size a) (w : (Sh3 1 p q).Idx → EReal)
    (L : List (View.Piece (Elt Ideal) (Sh3 n p q) .f32)) (k : Fin n) (a : Fin p) (b : Fin q) :
    View.canon ((⟨Rect.unit ![o, 0, 0] ![1, p, q] inb, w⟩ : View.Piece (Elt Ideal) (Sh3 n p q) .f32) :: L) (ix3 k a b)
      = if (k : ℕ) = o then w (ix3 0 a b) else View.canon L (ix3 k a b) := by
  by_cases h : (k : ℕ) = o
  · rw [if_pos h]
    refine Eq.trans (congrArg _ ?_) (View.canon_cons_emb (Val := Elt Ideal) (Rect.unit (s := Sh3 n p q) ![o, 0, 0] ![1, p, q] inb) w L (ix3 (0 : Fin 1) a b))
    funext i
    refine Fin.ext ?_
    fin_cases i
    · exact h.trans (Nat.add_zero _).symm
    · show (a : ℕ) = 0 + 1 * a
      omega
    · show (b : ℕ) = 0 + 1 * b
      omega
  · rw [if_neg h]
    refine View.canon_cons_of_not_mem _ L fun hy => h ?_
    have h0 := (Rect.mem_set_unit (inb := inb)).1 hy 0
    have h1 : o ≤ (k : ℕ) := h0.1
    have h2 : (k : ℕ) < o + 1 := h0.2
    omega
end Cert.ModSpec

namespace Cert.ModIdeal.Out
open Cert.ModIdeal Cert.ModIdeal.Gen Cert.ModIdeal.Value Cert.InLib Cert.OutLib Cert.ModSpec
variable (m : (ℓ : Loc nD τ sig) → Buf (Elt Ideal) ℓ) (c : Dev nD) (t : Fin cfg0.N)

/-- The run's arguments. -/
abbrev cc : (Sh2 8 1024).Idx → EReal := m ((c : Thread nD τ).loc main_arg0)
abbrev cx : (Sh1 1024).Idx → EReal := m ((c : Thread nD τ).loc main_arg1)
abbrev dc : (Sh3 2 8 3072).Idx → EReal := m ((c : Thread nD τ).loc main_arg2)
abbrev dx : (Sh2 8 3072).Idx → EReal := m ((c : Thread nD τ).loc main_arg3)
abbrev ww : (Sh3 2 1024 384).Idx → EReal := m ((c : Thread nD τ).loc main_arg4)

/-- The two layers' columns of the context rows: none on the second layer. -/
def dxs (i : Fin 2) (r : Fin 8) (b : Fin 3072) : EReal := if (i : ℕ) = 0 then dx m c (ix2 r b) else 0

theorem V_lo (r : Fin 8) (a : Fin 1024) : V m c main_v2 (ix2 (lo r) a) = cc m c (ix2 r a) := by
  unfold V; after_reads_at
theorem V_hi (r : Fin 8) (a : Fin 1024) : V m c main_v2 (ix2 (hi r) a) = cx m c (ix1 a) := by
  unfold V; after_reads_at
theorem V_dlo (i : Fin 2) (r : Fin 8) (b : Fin 3072) : V m c main_v6 (ix3 i (lo r) b) = dc m c (ix3 i r b) := by
  unfold V; after_reads_at
theorem V_dhi (i : Fin 2) (r : Fin 8) (b : Fin 3072) : V m c main_v6 (ix3 i (hi r) b) = dxs m c i r b := by
  unfold dxs
  fin_cases i
  · unfold V; after_reads_at; after_reads_at; try rfl
  · unfold V; after_reads_at; after_reads_at; try rfl
theorem V_elo (i : Fin 2) (r : Fin 16) (b : Fin 384) : V m c main_v7 (ix3 i r b) = V m c main_v6 (ix3 i r ⟨b, by omega⟩) := by
  unfold V; after_reads_at; after_reads_at
/-- Every window holds its whole array. -/
theorem idx_val : win0_0.index (t : Fin grid0.N) = ![0, 0] ∧ win0_1.index (t : Fin grid0.N) = ![0, 0, 0] ∧ win0_2.index (t : Fin grid0.N) = ![0, 0, 0]
    ∧ win0_3.index (t : Fin grid0.N) = ![0, 0, 0] ∧ win0_4.index (t : Fin grid0.N) = ![0, 0, 0] ∧ win0_5.index (t : Fin grid0.N) = ![0, 0, 0] ∧ win0_6.index (t : Fin grid0.N) = ![0, 0] :=
  by
  revert t; decide +kernel

theorem c_lo (r : Fin 8) (a : Fin 1024) : iblk m c 0 t (ix2 (lo r) a) = cc m c (ix2 r a) := by
  refine Eq.trans ?_ (V_lo m c r a); blk_ext [iblk, idx_val t]
theorem c_hi (r : Fin 8) (a : Fin 1024) : iblk m c 0 t (ix2 (hi r) a) = cx m c (ix1 a) := by
  refine Eq.trans ?_ (V_hi m c r a); blk_ext [iblk, idx_val t]
theorem d_lo (i : Fin 2) (r : Fin 8) (b : Fin 3072) : iblk m c 1 t (ix3 i (lo r) b) = dc m c (ix3 i r b) := by
  refine Eq.trans ?_ (V_dlo m c i r b); blk_ext [iblk, idx_val t]
theorem d_hi (i : Fin 2) (r : Fin 8) (b : Fin 3072) : iblk m c 1 t (ix3 i (hi r) b) = dxs m c i r b := by
  refine Eq.trans ?_ (V_dhi m c i r b); blk_ext [iblk, idx_val t]
theorem e_lo (i : Fin 2) (r : Fin 8) (b : Fin 384) : iblk m c 2 t (ix3 i (lo r) b) = dc m c (ix3 i r ⟨b, by omega⟩) := by
  refine Eq.trans ?_ ((V_elo m c i (lo r) b).trans (V_dlo m c i r _)); blk_ext [iblk, idx_val t]
theorem e_hi (i : Fin 2) (r : Fin 8) (b : Fin 384) : iblk m c 2 t (ix3 i (hi r) b) = dxs m c i r ⟨b, by omega⟩ := by
  refine Eq.trans ?_ ((V_elo m c i (hi r) b).trans (V_dhi m c i r _)); blk_ext [iblk, idx_val t]
theorem w_at (i : Fin 2) (a : Fin 1024) (b : Fin 384) : iblk m c 3 t (ix3 i a b) = ww m c (ix3 i a b) := by
  unfold ww; blk_ext [iblk, V, idx_val t]

/-- The products' sixteen rows, by halves. -/
theorem gw_sum (i : Fin 2) (a : Fin 1024) (b : Fin 384) (f : Fin 16 → EReal) (hf : ∀ r, f r = silu (iblk m c 0 t (ix2 r a)) * iblk m c 2 t (ix3 i r b)) :
    ∑ r, f r = gw (cc m c) (cx m c) (dc m c) (dx m c) i a b := by
  rw [sum16]
  unfold ModSpec.gw
  refine Ideal.add_congr (Finset.sum_congr rfl fun r _ => by rw [hf, c_lo, e_lo]) ?_
  by_cases h : (i : ℕ) = 0
  · rw [if_pos h]
    exact Finset.sum_congr rfl fun r _ => by rw [hf, c_hi, e_hi, dxs, if_pos h]
  · rw [if_neg h]
    exact Finset.sum_eq_zero fun r _ => by rw [hf, e_hi, dxs, if_neg h, mul_zero]
theorem gb_sum (i : Fin 2) (b : Fin 3072) (f : Fin 16 → EReal) (hf : ∀ r, f r = iblk m c 1 t (ix3 i r b)) : ∑ r, f r = gb (dc m c) (dx m c) i b := by
  rw [sum16]
  unfold gb
  refine Ideal.add_congr (Finset.sum_congr rfl fun r _ => by rw [hf, d_lo]) ?_
  by_cases h : (i : ℕ) = 0
  · rw [if_pos h]
    exact Finset.sum_congr rfl fun r _ => by rw [hf, d_hi, dxs, if_pos h]
  · rw [if_neg h]
    exact Finset.sum_eq_zero fun r _ => by rw [hf, d_hi, dxs, if_neg h]

theorem gw_at (i : Fin 2) (a : Fin 1024) (b : Fin 384) : out0_4 (iblk m c 0 t) (iblk m c 1 t) (iblk m c 2 t) (iblk m c 3 t) (ix3 i a b) = gw (cc m c) (cx m c) (dc m c) (dx m c) i a b := by
  unfold out0_4
  frame_open
  refine (slab_canon 1 _ _ _ i a b).trans ?_
  have hg := gw_sum m c t i a b
  by_cases h : (i : ℕ) = 1
  · rw [if_pos h]
    obtain rfl : i = 1 := Fin.ext h
    refine Eq.trans ?_ (hg _ fun r => rfl)
    pointwise [k0_pay1, k0_pay9, k0_pay6, k0_pay5, k0_pay4]
    exact Finset.sum_congr rfl fun x _ => Ideal.mul_congr (Ideal.mul_congr rfl (sg_eq _)) rfl
  · rw [if_neg h]
    obtain rfl : i = 0 := Fin.ext (by omega)
    refine (slab_canon 0 _ _ _ 0 a b).trans ?_
    rw [if_pos (show ((0 : Fin 2) : ℕ) = 0 from rfl)]
    refine Eq.trans ?_ (hg _ fun r => rfl)
    pointwise [k0_pay7, k0_pay6, k0_pay5, k0_pay4]
    exact Finset.sum_congr rfl fun x _ => Ideal.mul_congr (Ideal.mul_congr rfl (sg_eq _)) rfl
theorem gb_at (i : Fin 2) (b : Fin 3072) : out0_5 (iblk m c 0 t) (iblk m c 1 t) (iblk m c 2 t) (iblk m c 3 t) (ix3 i 0 b) = gb (dc m c) (dx m c) i b := by
  unfold out0_5
  frame_open
  refine (slab_canon 1 _ _ _ i 0 b).trans ?_
  have hg := gb_sum m c t i b
  by_cases h : (i : ℕ) = 1
  · rw [if_pos h]
    obtain rfl : i = 1 := Fin.ext h
    refine Eq.trans ?_ (hg _ fun r => rfl)
    pointwise [k0_pay2]
  · rw [if_neg h]
    obtain rfl : i = 0 := Fin.ext (by omega)
    refine (slab_canon 0 _ _ _ 0 0 b).trans ?_
    rw [if_pos (show ((0 : Fin 2) : ℕ) = 0 from rfl)]
    refine Eq.trans ?_ (hg _ fun r => rfl)
    pointwise [k0_pay8]
theorem gc_at (a : Fin 1024) : out0_6 (iblk m c 0 t) (iblk m c 1 t) (iblk m c 2 t) (iblk m c 3 t) (ix2 0 a) = gc (cx m c) (dx m c) (ww m c) a := by
  unfold out0_6
  frame_open
  frame_out
  pointwise [k0_pay3, k0_pay5, k0_pay4]
  unfold gc back dsilu
  refine Finset.sum_congr rfl fun r _ => Ideal.mul_congr (Finset.sum_congr rfl fun b _ => Ideal.mul_congr ?_ ?_) ?_
  · exact (e_hi m c t 0 r b).trans (if_pos rfl)
  · exact w_at m c t 0 a b
  · rw [sg_eq, show iblk m c 0 t (ix2 (⟨8 + (r : ℕ), by omega⟩ : Fin 16) a) = _ from c_hi m c t r a]

/-- The weights' gradient after the run. -/
theorem gw_final : (dats m 0 c).arrAt 4 cfg0.N = fun j : S2x1024x384.Idx => ModSpec.gw (cc m c) (cx m c) (dc m c) (dx m c) (j 0) (j 1) (j 2) := by
  have hp := gw_at m c
  refine (dats m 0 c).arrAt_eq_of_covers 4 _ (by decide +kernel) fun t hf y => ?_
  have hp := hp t (y 0) (y 1) (y 2)
  rw [after0_4]
  generalize out0_4 (iblk m c 0 t) (iblk m c 1 t) (iblk m c 2 t) (iblk m c 3 t) = A at *
  have e : ((cfg0.win 4).blk t).view.emb y = y := funext fun i => Fin.ext (by fin_cases i <;> blk_simp [idx_val t])
  rw [e]
  exact (congrArg A (eq_ix3 y)).trans hp
/-- The bias's gradient after the run. -/
theorem gb_final : (dats m 0 c).arrAt 5 cfg0.N = fun j : S2x1x3072.Idx => gb (dc m c) (dx m c) (j 0) (j 2) := by
  have hp := gb_at m c
  refine (dats m 0 c).arrAt_eq_of_covers 5 _ (by decide +kernel) fun t hf y => ?_
  have hp := hp t (y 0) (y 2)
  rw [after0_5]
  generalize out0_5 (iblk m c 0 t) (iblk m c 1 t) (iblk m c 2 t) (iblk m c 3 t) = A at *
  have e : ((cfg0.win 5).blk t).view.emb y = y := funext fun i => Fin.ext (by fin_cases i <;> blk_simp [idx_val t])
  rw [e]
  exact (congrArg A ((eq_ix3 y).trans (by rw [Subsingleton.elim (α := Fin 1) (y 1) 0]))).trans hp
/-- The context's gradient after the run. -/
theorem gc_final : (dats m 0 c).arrAt 6 cfg0.N = fun j : S1x1024.Idx => gc (cx m c) (dx m c) (ww m c) (j 1) := by
  have hp := gc_at m c
  refine (dats m 0 c).arrAt_eq_of_covers 6 _ (by decide +kernel) fun t hf y => ?_
  have hp := hp t (y 1)
  rw [after0_6]
  generalize out0_6 (iblk m c 0 t) (iblk m c 1 t) (iblk m c 2 t) (iblk m c 3 t) = A at *
  have e : ((cfg0.win 6).blk t).view.emb y = y := funext fun i => Fin.ext (by fin_cases i <;> blk_simp [idx_val t])
  rw [e]
  exact (congrArg A ((eq_ix2 y).trans (by rw [Subsingleton.elim (α := Fin 1) (y 0) 0]))).trans hp
end Cert.ModIdeal.Out
end
end
-- ==== Proof.ModRef.lean ====
module

public import proofs.«01_k».proof.Proof.Gen.ModRefIdeal.Run
public import proofs.«01_k».proof.Proof.Mod

/-! What the reference of the modulation's gradient leaves in its three results, at one index. -/

@[expose] public section

set_option maxRecDepth 16384
noncomputable section
open Idealize.ShloMosaic Idealize.ShloMosaic.TcCoe Idealize.SL.Sem
namespace Cert.ModRefIdeal.Out
open Cert.ModRefIdeal Cert.ModRefIdeal.Value Cert.InLib Cert.OutLib Cert.ModSpec
variable (m : (ℓ : Loc nD τ sig) → Buf (Elt Ideal) ℓ) (c : Dev nD)

/-- The run's arguments. -/
abbrev cc : (Sh2 8 1024).Idx → EReal := m ((c : Thread nD τ).loc main_arg0)
abbrev cx : (Sh1 1024).Idx → EReal := m ((c : Thread nD τ).loc main_arg1)
abbrev dc : (Sh3 2 8 3072).Idx → EReal := m ((c : Thread nD τ).loc main_arg2)
abbrev dx : (Sh2 8 3072).Idx → EReal := m ((c : Thread nD τ).loc main_arg3)
abbrev ww : (Sh3 2 1024 384).Idx → EReal := m ((c : Thread nD τ).loc main_arg4)

/-- The context's gradient as the reference forms it: two products, added. -/
def gcr (a : Fin 1024) : EReal := ∑ r : Fin 8, (back (dx m c) (ww m c) r a * Ideal.logistic (cx m c (ix1 a))
  + cx m c (ix1 a) * back (dx m c) (ww m c) r a * (Ideal.logistic (cx m c (ix1 a)) * (1 - Ideal.logistic (cx m c (ix1 a)))))

set_option maxHeartbeats 1000000 in
/-- The three results of the reference at every index, and its arguments kept. -/
theorem run_main (ρ : Dev nD → PrngReg) :
    θ_run defs (onTc (τ := τ) (main (F := Ideal))) ⟨m, fun _ => 0, ρ⟩ fun r => ∀ c : Dev nD,
      r.2.mem ((c.tc : Thread nD τ).loc main_v57) = (fun j : S2x1024x384.Idx => ModSpec.gw (cc m c) (cx m c) (dc m c) (dx m c) (j 0) (j 1) (j 2))
      ∧ r.2.mem ((c.tc : Thread nD τ).loc main_v62) = (fun j : S2x1x3072.Idx => gb (dc m c) (dx m c) (j 0) (j 2))
      ∧ r.2.mem ((c.tc : Thread nD τ).loc main_v63) = (fun j : S1x1024.Idx => gcr m c (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2.1.trans ?_, (h c).2.2.2⟩) (run m ρ)
  all_goals
    clear h
    funext j
    simp only [cc, cx, dc, dx, ww, gcr]
    generalize m ((c : Thread nD τ).loc main_arg0) = X0
    generalize m ((c : Thread nD τ).loc main_arg1) = X1
    generalize m ((c : Thread nD τ).loc main_arg2) = X2
    generalize m ((c : Thread nD τ).loc main_arg3) = X3
    generalize m ((c : Thread nD τ).loc main_arg4) = X4
  · obtain ⟨i, a, b, rfl⟩ : ∃ (i : Fin 2) (a : Fin 1024) (b : Fin 384), j = ix3 i a b := ⟨_, _, _, eq_ix3 j⟩
    show _ = ModSpec.gw X0 X1 X2 X3 i a b
    unfold ModSpec.gw silu
    fin_cases i
    · pointwise
      exact (add_comm _ _).trans (Ideal.add_congr (Finset.sum_congr rfl fun x _ => mul_comm _ _) (Finset.sum_congr rfl fun x _ => mul_comm _ _))
    · pointwise
      exact Finset.sum_congr rfl fun x _ => mul_comm _ _
  · obtain ⟨i, a, b, rfl⟩ : ∃ (i : Fin 2) (a : Fin 1) (b : Fin 3072), j = ix3 i a b := ⟨_, _, _, eq_ix3 j⟩
    show _ = gb X2 X3 i b
    unfold gb
    fin_cases i
    · pointwise
      exact add_comm _ _
    · pointwise
  · rw [eq_ix2 j]
    generalize (j 0 : Fin _) = a0
    generalize (j 1 : Fin _) = a
    unfold back
    pointwise
    refine (Fin.sum_univ_one _).trans ?_
    rfl
end Cert.ModRefIdeal.Out
end
end
-- ==== Proof.InCtxRun.lean ====
module

public import proofs.«01_k».proof.Proof.Gen.InCtxIdeal.Value
public import Idealize.ShloMosaic.Lib.Pipeline.FrameValue
public import Idealize.ShloMosaic.Lib.Pipeline.ValueKit

/-! The run of the context tokens' call with the weights' gradient, which the body copies out itself, held by value. -/

@[expose] public section

set_option maxRecDepth 16384
noncomputable section
namespace Cert.InCtxIdeal.In
open Cert.InCtxIdeal Cert.InCtxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

set_option maxHeartbeats 1000000 in
/-- The body's pieces of the two rows of sums, and what its copy leaves in the weights' gradient. -/
noncomputable def body (c : Dev nD) (i : grid0.Coords) (arg1 : Memref sig .tc .vmem S256x2048 .bf16) (harg1 : arg1.IsWhole) (arg2 : Memref sig .tc .vmem S256x1024 .f32) (harg2 : arg2.IsWhole)
    (arg3 : Memref sig .tc .vmem S1x1024 .f32) (harg3 : arg3.IsWhole) (arg4 : Memref sig .tc .vmem S1x1024 .f32) (harg4 : arg4.IsWhole) (arg5 : Memref sig .tc .vmem S4x1024x512 .bf16) (harg5 : arg5.IsWhole)
    (arg7 : Memref sig .tc .vmem S8x1024 .f32) (harg7 : arg7.IsWhole) (arg8 : Memref sig .tc .vmem S4x1024x512 .f32) (harg8 : arg8.IsWhole) (hc0 : cond0_0 i) (hc1 : cond0_1 i)
    (x0 : Vec F S256x2048 .bf16) (x1 : Vec F S256x1024 .f32) (x2 : Vec F S1x1024 .f32) (x3 : Vec F S1x1024 .f32) (x4 : Vec F S4x1024x512 .bf16) (xs0 : Vec F S4x1024x512 .f32) (fw0 : HbBuf0 (F := F) c hbM0_0) :
    Σ' (L5 : List (View.Piece (Elt F) S8x1024 .f32)), { gw0 : HbBuf0 (F := F) c hbM0_0 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg7 fullShare d) ∗ owns (c : Thread nD τ) arg8 fullShare xs0 ∗ semVal ((c : Thread nD τ), SemLoc.dma 6) 0 ∗ hbPt0 c hbM0_0 fw0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
              ∗ (∃ f, arg7.view.loc (c : Thread nD τ) ↦[arg7.view.set]{fullShare} arg7.view.writes (Elt F) f L5) ∗ (∃ d, owns (c : Thread nD τ) arg8 fullShare d) ∗ semVal ((c : Thread nD τ), SemLoc.dma 6) 0 ∗ hbPt0 c hbM0_0 gw0
              ∗ (∃ W', owes (c : Thread nD τ) 0 W')) -∗ K ⟨⟩))
          ⊢ wp frame (wpE (defs₀ (F := F)) Variants.none c none) Set.univ (cc0_bwd_in0_ctx i arg1 harg1 arg2 harg2 arg3 harg3 arg4 harg4 arg5 harg5 (Memref.whole main_v5_0) (Memref.isWhole_whole _) arg7 harg7 arg8 harg8 cc0_scratch1) K } := by
  refine ⟨?_, ?_, fun W K => ?run⟩
  case run =>
    simp only [cc0_bwd_in0_ctx_eq_skeleton]; unfold cc0_bwd_in0_ctx_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hq0, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [Hq0]; · iexact Hq0
    isplitl [Hh0]; · iexact Hh0
    iexists _; iexact HW

/-- What the copy leaves does not depend on what the scratch held. -/
theorem grad_indep (c : Dev nD) (i : grid0.Coords) (arg1 : Memref sig .tc .vmem S256x2048 .bf16) (harg1 : arg1.IsWhole) (arg2 : Memref sig .tc .vmem S256x1024 .f32) (harg2 : arg2.IsWhole)
    (arg3 : Memref sig .tc .vmem S1x1024 .f32) (harg3 : arg3.IsWhole) (arg4 : Memref sig .tc .vmem S1x1024 .f32) (harg4 : arg4.IsWhole) (arg5 : Memref sig .tc .vmem S4x1024x512 .bf16) (harg5 : arg5.IsWhole)
    (arg7 : Memref sig .tc .vmem S8x1024 .f32) (harg7 : arg7.IsWhole) (hc0 : cond0_0 i) (hc1 : cond0_1 i)
    (x0 : Vec F S256x2048 .bf16) (x1 : Vec F S256x1024 .f32) (x2 : Vec F S1x1024 .f32) (x3 : Vec F S1x1024 .f32) (x4 : Vec F S4x1024x512 .bf16) (xs0 xs1 : Vec F S4x1024x512 .f32) (fw0 : HbBuf0 (F := F) c hbM0_0) :
    (body c i arg1 harg1 arg2 harg2 arg3 harg3 arg4 harg4 arg5 harg5 arg7 harg7 scM0_0 (Memref.isWhole_whole _) hc0 hc1 x0 x1 x2 x3 x4 xs0 fw0).2.1
    = (body c i arg1 harg1 arg2 harg2 arg3 harg3 arg4 harg4 arg5 harg5 arg7 harg7 scM0_0 (Memref.isWhole_whole _) hc0 hc1 x0 x1 x2 x3 x4 xs1 fw0).2.1 := by
  frame_open
  refine congrArg (fun z => View.write (Elt F) (View.whole main_v5_0) fw0 z Finset.univ) (congrArg (ReadAs.same).apply ?_)
  exact View.read_writes_of_cover _ _ _ _ _ (fun y => View.cover_of_tiledBy _ ![1, 1024, 512] (by sl_kernel_rfl) y)
/-- The sums' pieces do not depend on what the scratch held. -/
theorem sums_indep (c : Dev nD) (i : grid0.Coords) (arg1 : Memref sig .tc .vmem S256x2048 .bf16) (harg1 : arg1.IsWhole) (arg2 : Memref sig .tc .vmem S256x1024 .f32) (harg2 : arg2.IsWhole)
    (arg3 : Memref sig .tc .vmem S1x1024 .f32) (harg3 : arg3.IsWhole) (arg4 : Memref sig .tc .vmem S1x1024 .f32) (harg4 : arg4.IsWhole) (arg5 : Memref sig .tc .vmem S4x1024x512 .bf16) (harg5 : arg5.IsWhole)
    (arg7 : Memref sig .tc .vmem S8x1024 .f32) (harg7 : arg7.IsWhole) (hc0 : cond0_0 i) (hc1 : cond0_1 i)
    (x0 : Vec F S256x2048 .bf16) (x1 : Vec F S256x1024 .f32) (x2 : Vec F S1x1024 .f32) (x3 : Vec F S1x1024 .f32) (x4 : Vec F S4x1024x512 .bf16) (xs0 xs1 : Vec F S4x1024x512 .f32) (fw0 : HbBuf0 (F := F) c hbM0_0) :
    (body c i arg1 harg1 arg2 harg2 arg3 harg3 arg4 harg4 arg5 harg5 arg7 harg7 scM0_0 (Memref.isWhole_whole _) hc0 hc1 x0 x1 x2 x3 x4 xs0 fw0).1
    = (body c i arg1 harg1 arg2 harg2 arg3 harg3 arg4 harg4 arg5 harg5 arg7 harg7 scM0_0 (Memref.isWhole_whole _) hc0 hc1 x0 x1 x2 x3 x4 xs1 fw0).1 := by
  frame_open
  rfl

/-- The body at point `t` of core `c`. -/
abbrev at_ (c : Dev nD) (t : Fin cfg0.N) (d : Vec F S4x1024x512 .f32) := body c (grid0.coords t) (ms0_0 t) (hs0_0 t) (ms0_1 t) (hs0_1 t) (ms0_2 t) (hs0_2 t) (ms0_3 t) (hs0_3 t) (ms0_4 t) (hs0_4 t) (ms0_5 t) (hs0_5 t)
  scM0_0 (Memref.isWhole_whole _) (hcond0_0 t) (hcond0_1 t) (iblk m c 0 t) (iblk m c 1 t) (iblk m c 2 t) (iblk m c 3 t) (iblk m c 4 t) d (V m c main_v5_0)

/-- A content of the scratch. -/
abbrev any : Vec F S4x1024x512 .f32 := constant S4x1024x512 .f32 0#32

/-- The sums' pieces cover their block. -/
theorem covers (c : Dev nD) (t : Fin cfg0.N) (y : S8x1024.Idx) : ∃ pc ∈ (at_ m c t any).1, y ∈ pc.1.set :=
  View.cover_of_tiledBy (at_ m c t any).1 ![1, 1024] (by sl_kernel_rfl) y

/-- What the body leaves in the sums' block and in the weights' gradient. -/
def sumsOf (c : Dev nD) (t : Fin cfg0.N) : Vec F S8x1024 .f32 := VO0_5.read (Elt F) (VO0_5.writes (Elt F) VO0_5.junk (at_ m c t any).1)
def gradOf (c : Dev nD) (t : Fin cfg0.N) : HbBuf0 (F := F) c hbM0_0 := (at_ m c t any).2.1

/-- The one point. -/
abbrev pt : Fin cfg0.N := ⟨0, by decide⟩
theorem eq_pt (t : Fin cfg0.N) : t = pt := Fin.ext (by have h := t.isLt; have e : cfg0.N = 1 := N_0; show t.val = 0; omega)

/-- The buffers after the run. -/
def left (c : Dev nD) : (b : Ref sig .tc) → Buf (Elt F) ((c.tc : Thread nD τ).loc b) := Function.update (V m c) main_v5_0 (gradOf m c pt)
theorem left_self (c : Dev nD) : left m c main_v5_0 = gradOf m c pt := by unfold left; simp only [Function.update_self]

/-- The pipeline's data, the copied-out buffer at its contents before and after the one point. -/
def dat (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => sumsOf m c t
  Φ s := Pipeline.ΦDRG osem0 spec0 H0 R0 (V m) (if s.val = 0 then V m else left m) c
  q _ := fullShare
  owed _ := 0
theorem dat_A (c : Dev nD) (w : Fin cfg0.W) : (dat m 0 c).A w = V m c (Pipeline.arrRef spec0 w) := by dsimp only [dat]

/-- The written buffer's ownership, and the invariant, conjunct by conjunct. -/
theorem routed_eq (G : (c : Dev nD) → (b : Ref sig .tc) → Buf (Elt F) ((c.tc : Thread nD τ).loc b)) (c : Dev nD) :
    (Pipeline.routed R0 c (G c) : sProp 𝕄) = iprop(hbPt0 c hbM0_0 (G c main_v5_0)) := by
  unfold Pipeline.routed; rw [BI.bigSep_eq_bigSepL_of_eq [main_v5_0] (by decide) (by decide)]; rfl
theorem inv_eq (G : (c : Dev nD) → (b : Ref sig .tc) → Buf (Elt F) ((c.tc : Thread nD τ).loc b)) (c : Dev nD) :
    (Pipeline.ΦDRG osem0 spec0 H0 R0 (V m) G c : sProp 𝕄)
      = iprop(iprop((∃ d, owns (c : Thread nD τ) scM0_0 fullShare d)) ∗ (∃ r, prngReg c r) ∗ iprop(semVal ((c : Thread nD τ), SemLoc.dma 6) 0) ∗ iprop(emp) ∗ iprop(hbPt0 c hbM0_0 (G c main_v5_0))) := by
  rw [Pipeline.ΦDRG_eq, scopedRest0_eq, ownSems00_eq, hbmPts0_eq, routed_eq]; simp only [scM0_0, owns_whole]; try rfl

set_option maxHeartbeats 2000000 in
/-- The body meets its obligation. -/
theorem sound (c : Dev nD) (t : Fin cfg0.N) :
    iprop((dat m 0 c).Φ t.castSucc ∗ (dat m 0 c).owesAt () t.castSucc
      ∗ (∃ d, owns (c : Thread nD τ) (ms0_0 t) fullShare ((dat m 0 c).before 0 t d)) ∗ (∃ d, owns (c : Thread nD τ) (ms0_1 t) fullShare ((dat m 0 c).before 1 t d))
      ∗ (∃ d, owns (c : Thread nD τ) (ms0_2 t) fullShare ((dat m 0 c).before 2 t d)) ∗ (∃ d, owns (c : Thread nD τ) (ms0_3 t) fullShare ((dat m 0 c).before 3 t d))
      ∗ (∃ d, owns (c : Thread nD τ) (ms0_4 t) fullShare ((dat m 0 c).before 4 t d)) ∗ (∃ d, owns (c : Thread nD τ) (ms0_5 t) fullShare ((dat m 0 c).before 5 t d)))
    ⊢ wp frame (wpE (defs₀ (F := F)) Variants.none c none) Set.univ (bodyAt0 t) (fun _ => iprop((dat m 0 c).Φ t.succ ∗ (dat m 0 c).owesAt () t.succ
      ∗ owns (c : Thread nD τ) (ms0_0 t) fullShare ((dat m 0 c).after 0 t) ∗ owns (c : Thread nD τ) (ms0_1 t) fullShare ((dat m 0 c).after 1 t)
      ∗ owns (c : Thread nD τ) (ms0_2 t) fullShare ((dat m 0 c).after 2 t) ∗ owns (c : Thread nD τ) (ms0_3 t) fullShare ((dat m 0 c).after 3 t)
      ∗ owns (c : Thread nD τ) (ms0_4 t) fullShare ((dat m 0 c).after 4 t) ∗ owns (c : Thread nD τ) (ms0_5 t) fullShare ((dat m 0 c).after 5 t))) := by
  obtain rfl := eq_pt t
  unfold bodyAt0
  simp only [before0_0_of m (dat m 0 c) (dat_A m c 0) (fun _ => rfl), before0_1_of m (dat m 0 c) (dat_A m c 1) (fun _ => rfl), before0_2_of m (dat m 0 c) (dat_A m c 2) (fun _ => rfl),
    before0_3_of m (dat m 0 c) (dat_A m c 3) (fun _ => rfl), before0_4_of m (dat m 0 c) (dat_A m c 4) (fun _ => rfl)]
  rw [show (dat m 0 c).Φ (pt : Fin cfg0.N).castSucc = Pipeline.ΦDRG osem0 spec0 H0 R0 (V m) (V m) c from rfl, show (dat m 0 c).Φ (pt : Fin cfg0.N).succ = Pipeline.ΦDRG osem0 spec0 H0 R0 (V m) (left m) c from rfl,
    inv_eq, inv_eq, left_self]
  unfold Dat.owesAt Pipeline.owesWithin
  rw [show (dat m 0 c).owed (pt : Fin cfg0.N).castSucc = 0 from rfl, show (dat m 0 c).owed (pt : Fin cfg0.N).succ = 0 from rfl]
  iintro ⟨⟨⟨%d, HS0⟩, Hg, Hq0, -, Hh0⟩, ⟨%W, -, HW⟩, ⟨%d0, H0⟩, ⟨%d1, H1⟩, ⟨%d2, H2⟩, ⟨%d3, H3⟩, ⟨%d4, H4⟩, ⟨%d5, H5⟩⟩
  iapply ((at_ m c pt d).2.2 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [Hq0]; · iexact Hq0
  isplitl [Hh0]; · iexact Hh0
  isplitl [HW]; · iexact HW
  rw [grad_indep (xs0 := d) (xs1 := any), sums_indep (xs0 := d) (xs1 := any)]
  iintro ⟨H0, H1, H2, H3, H4, ⟨%e5, H5⟩, HS0, Hq0, Hh0, ⟨%W', HW'⟩⟩
  isplitl [HS0 Hg Hq0 Hh0]
  · isplitl [HS0]; · iexact HS0
    isplitl [Hg]; · iexact Hg
    isplitl [Hq0]; · iexact Hq0
    isplitr; · iempintro
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro
  show _ = sumsOf m c pt
  unfold sumsOf
  exact View.read_writes_of_cover _ _ _ _ _ (covers m c pt)

theorem obligation (c : Dev nD) : BodyObligation (dat (F := F) m 0 c) (defs₀ (F := F)) Variants.none () Set.univ := fun t => by
  rw [bigSep_W0, bigSep_W0, defs₀_row]
  exact triple_restated (sound m c t) rfl .rfl fun _ => .rfl

set_option backward.isDefEq.respectTransparency.types false in
/-- The run, as the library states it. -/
theorem run_held : θ_run defs (onTc (τ := τ) (main (F := F))) ⟨m, fun _ => 0, ρ⟩ (Pipeline.FramePostRG cfgs (dat m) 0 R0 (V m) (left m)) :=
  Pipeline.θ_run_frame_dmaRG (Q' := _) cfgs (dat m) (0 : Fin 1) launch0 osem0 defs₀ Variants.none ownSemFacts0 H0 R0 H0_sub R0_sub m ρ main
    (hbody := fun c => (obligation m c).loose) (hshare := fun c => (dat m 0 c).share_full fun _ => rfl)
    (howed := fun _ _ => rfl) (V := V m) (hmain := hmain m Variants.none) (hA := dat_A m) (G := left m)
    (hin := fun _ => .rfl) (hout := fun _ => .rfl)

/-- The run: the weights' gradient, the sums' array, the arguments. -/
theorem run_all : θ_run defs (onTc (τ := τ) (main (F := F))) ⟨m, fun _ => 0, ρ⟩ fun r => ∀ c : Dev nD,
      r.2.mem ((c : Thread nD τ).loc main_v5_0) = gradOf m c pt
      ∧ r.2.mem ((c : Thread nD τ).loc main_v5_1) = (dat m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.written c (by decide : main_v5_0 ∈ R0)).trans (left_self m c), (h.toR c).1 5,
    ((h.toR c).1 0).trans (((dat m 0 c).arrAt_in 0 rfl _).trans ((dat_A m c 0).trans (V_main_arg0 m c))),
    ((h.toR c).1 1).trans (((dat m 0 c).arrAt_in 1 rfl _).trans ((dat_A m c 1).trans (V_main_arg1 m c))),
    ((h.toR c).2 main_arg2 (Finset.mem_sdiff.mpr ⟨Pipeline.mem_restRefs_of main_arg2 (by decide) (by decide), by decide⟩)).trans (V_main_arg2 m c),
    ((h.toR c).2 main_arg3 (Finset.mem_sdiff.mpr ⟨Pipeline.mem_restRefs_of main_arg3 (by decide) (by decide), by decide⟩)).trans (V_main_arg3 m c),
    ((h.toR c).2 main_arg4 (Finset.mem_sdiff.mpr ⟨Pipeline.mem_restRefs_of main_arg4 (by decide) (by decide), by decide⟩)).trans (V_main_arg4 m c)⟩)
    (run_held m ρ)
end Cert.InCtxIdeal.In
end
end
-- ==== Proof.InCtx.lean ====
module

public import proofs.«01_k».proof.Proof.InCtxRun
public import proofs.«01_k».proof.Proof.InLib
public import Idealize.ShloMosaic.Lib.StableHlo.ReadAt

/-! What the context tokens' call leaves in its two results, at one index. -/

@[expose] public section

set_option maxRecDepth 16384
noncomputable section
open Idealize.ShloMosaic Idealize.ShloMosaic.TcCoe Idealize.SL.Sem
namespace Cert.InCtxIdeal.In
open Cert.InCtxIdeal Cert.InCtxIdeal.Gen Cert.InLib
variable (m : (ℓ : Loc nD τ sig) → Buf (Elt Ideal) ℓ) (c : Dev nD)

/-- Every window holds its whole array. -/
theorem idx_val : win0_0.index (pt : Fin grid0.N) = ![0, 0] ∧ win0_1.index (pt : Fin grid0.N) = ![0, 0] ∧ win0_2.index (pt : Fin grid0.N) = ![0, 0]
    ∧ win0_3.index (pt : Fin grid0.N) = ![0, 0] ∧ win0_4.index (pt : Fin grid0.N) = ![0, 0, 0] ∧ win0_5.index (pt : Fin grid0.N) = ![0, 0] := by decide +kernel

/-- The run's arguments. -/
abbrev du : (Sh2 256 2048).Idx → EReal := m ((c : Thread nD τ).loc main_arg0)
abbrev xx : (Sh2 256 1024).Idx → EReal := m ((c : Thread nD τ).loc main_arg1)
abbrev sc : (Sh1 1024).Idx → EReal := m ((c : Thread nD τ).loc main_arg2)
abbrev sh : (Sh1 1024).Idx → EReal := m ((c : Thread nD τ).loc main_arg3)
abbrev ww : (Sh2 1024 2048).Idx → EReal := m ((c : Thread nD τ).loc main_arg4)

theorem du_at (x : Fin 256) (q : Fin 2048) : iblk m c 0 pt (ix2 x q) = du m c (ix2 x q) := by
  unfold du; blk_ext [iblk, V, idx_val]
theorem x_at (x : Fin 256) (q : Fin 1024) : iblk m c 1 pt (ix2 x q) = xx m c (ix2 x q) := by
  unfold xx; blk_ext [iblk, V, idx_val]
theorem V_s (a : Fin 1024) : V m c main_v0 (ix2 (0 : Fin 1) a) = sc m c (ix1 a) := by
  unfold V; after_reads_at
theorem V_h (a : Fin 1024) : V m c main_v1 (ix2 (0 : Fin 1) a) = sh m c (ix1 a) := by
  unfold V; after_reads_at
theorem V_w (k : Fin 4) (a : Fin 1024) (b : Fin 512) : V m c main_v4 (ix3 k a b) = ww m c (ix2 a ⟨k * 512 + b, by omega⟩) := by
  unfold V; after_reads_at
theorem s_at (a : Fin 1024) : iblk m c 2 pt (ix2 0 a) = sc m c (ix1 a) := by
  refine Eq.trans ?_ (V_s m c a); blk_ext [iblk, idx_val]
theorem h_at (a : Fin 1024) : iblk m c 3 pt (ix2 0 a) = sh m c (ix1 a) := by
  refine Eq.trans ?_ (V_h m c a); blk_ext [iblk, idx_val]
theorem w_at (k : Fin 4) (a : Fin 1024) (b : Fin 512) : iblk m c 4 pt (ix3 k a b) = ww m c (ix2 a ⟨k * 512 + b, by omega⟩) := by
  refine Eq.trans ?_ (V_w m c k a b); blk_ext [iblk, idx_val]

/-- The product of the modulated input with a block of upstream columns. -/
theorem prod (X : (Sh2 256 1024).Idx → EReal) (S H : (Sh2 1 1024).Idx → EReal) (k : Fin 4) (a : Fin 1024) (b : Fin 512)
    (hX : ∀ x, X (ix2 x a) = xx m c (ix2 x a)) (hS : S (ix2 0 a) = sc m c (ix1 a)) (hH : H (ix2 0 a) = sh m c (ix1 a)) (A : Fin 256 → EReal) (z : EReal) (hz : z = 0)
    (hA : ∀ x, A x = du m c (ix2 x ⟨k * 512 + b, by omega⟩)) :
    z + ∑ x : Fin 256, (X (ix2 x a) * (1 + S (ix2 0 a)) + H (ix2 0 a)) * A x = gwc (du m c) (xx m c) (sc m c) (sh m c) a ⟨k * 512 + b, by omega⟩ := by
  rw [hz, zero_add]
  exact Finset.sum_congr rfl fun x _ => by rw [mul_comm, hA x, hX x, hS, hH, hh]

/-- The four slab stores over zeros. -/
theorem step (A0 A1 A2 A3 : Vec Ideal S256x512 .bf16) (G0 G1 G2 G3 : Vec Ideal S1x1024x512 .f32)
    (X : Vec Ideal S256x1024 .f32) (S H : Vec Ideal S1x1024 .f32) (k : Fin 4) (a : Fin 1024) (b : Fin 512) (z' : EReal)
    (hX : ∀ x, X (ix2 x a) = xx m c (ix2 x a)) (hS : S (ix2 0 a) = sc m c (ix1 a)) (hH : H (ix2 0 a) = sh m c (ix1 a))
    (hA : ∀ x, A0 (ix2 x b) = du m c (ix2 x ⟨0 * 512 + b, by omega⟩) ∧ A1 (ix2 x b) = du m c (ix2 x ⟨1 * 512 + b, by omega⟩)
      ∧ A2 (ix2 x b) = du m c (ix2 x ⟨2 * 512 + b, by omega⟩) ∧ A3 (ix2 x b) = du m c (ix2 x ⟨3 * 512 + b, by omega⟩))
    (h0 : G0 (ix3 0 a b) = 0) (h1 : G1 (ix3 0 a b) = 0) (h2 : G2 (ix3 0 a b) = 0) (h3 : G3 (ix3 0 a b) = 0) :
    (if (k : ℕ) = 3 then k0_pay16 (F := Ideal) (k0_pay9 X S H) A3 G3 (ix3 0 a b)
      else if (k : ℕ) = 2 then k0_pay14 (F := Ideal) (k0_pay9 X S H) A2 G2 (ix3 0 a b)
      else if (k : ℕ) = 1 then k0_pay13 (F := Ideal) (k0_pay9 X S H) A1 (k0_pay12 G1) (constant S1024x512 .f32 0#32) (ix3 0 a b)
      else if (k : ℕ) = 0 then k0_pay10 (F := Ideal) X S H A0 G0 (ix3 0 a b) else z') = gwc (du m c) (xx m c) (sc m c) (sh m c) a ⟨k * 512 + b, by omega⟩ := by
  have hp := prod m c X S H k a b hX hS hH
  fin_cases k
  · refine Eq.trans ?_ (hp (fun x => A0 (ix2 x b)) _ h0 fun x => (hA x).1)
    pointwise [k0_pay10, k0_pay9]
  · refine Eq.trans ?_ (hp (fun x => A1 (ix2 x b)) _ h1 fun x => (hA x).2.1)
    pointwise [k0_pay13, k0_pay12, k0_pay9]
  · refine Eq.trans ?_ (hp (fun x => A2 (ix2 x b)) _ h2 fun x => (hA x).2.2.1)
    pointwise [k0_pay14, k0_pay9]
  · refine Eq.trans ?_ (hp (fun x => A3 (ix2 x b)) _ h3 fun x => (hA x).2.2.2)
    pointwise [k0_pay16, k0_pay9]

/-- The columns the four products load. -/
theorem col (k : Fin 4) (o : ℕ) (inb) (x : Fin 256) (b : Fin 512) (h : (k : ℕ) * 512 = o) :
    (iblk m c 0 pt : (Sh2 256 2048).Idx → EReal) ((Rect.unit (s := S256x2048) ![0, o] ![256, 512] inb).idx (ix2 x b)) = du m c (ix2 x ⟨k * 512 + b, by omega⟩) := by
  subst h
  exact (col_ld _ _ inb x b (by omega)).trans (du_at m c x _)
theorem cols (x : Fin 256) (b : Fin 512) : (iblk m c 0 pt : (Sh2 256 2048).Idx → EReal) ((Rect.unit (s := S256x2048) ![0, 0] ![256, 512] inb_S256x2048_S256x512_0_0).idx (ix2 x b)) = du m c (ix2 x ⟨0 * 512 + b, by omega⟩)
      ∧ (iblk m c 0 pt : (Sh2 256 2048).Idx → EReal) ((Rect.unit (s := S256x2048) ![0, 512] ![256, 512] inb_S256x2048_S256x512_0_512).idx (ix2 x b)) = du m c (ix2 x ⟨1 * 512 + b, by omega⟩)
      ∧ (iblk m c 0 pt : (Sh2 256 2048).Idx → EReal) ((Rect.unit (s := S256x2048) ![0, 1024] ![256, 512] inb_S256x2048_S256x512_0_1024).idx (ix2 x b)) = du m c (ix2 x ⟨2 * 512 + b, by omega⟩)
      ∧ (iblk m c 0 pt : (Sh2 256 2048).Idx → EReal) ((Rect.unit (s := S256x2048) ![0, 1536] ![256, 512] inb_S256x2048_S256x512_0_1536).idx (ix2 x b)) = du m c (ix2 x ⟨3 * 512 + b, by omega⟩) :=
  ⟨col m c 0 0 _ x b rfl, col m c 1 512 _ x b rfl, col m c 2 1024 _ x b rfl, col m c 3 1536 _ x b rfl⟩

/-- The weights' gradient after the run. -/
theorem gw_final : gradOf m c pt = fun j : S4x1024x512.Idx => gwc (du m c) (xx m c) (sc m c) (sh m c) (j 1) ⟨(j 0).val * 512 + (j 2).val, by
      have h0 : (j 0).val < 4 := (j 0).isLt
      have h2 : (j 2).val < 512 := (j 2).isLt
      omega⟩ := by
  funext j
  rw [eq_ix3 j]
  generalize (j 0 : Fin _) = k
  generalize (j 1 : Fin _) = a
  generalize (j 2 : Fin _) = b
  unfold gradOf
  frame_open
  refine (congrFun (View.write_whole_univ (Val := Elt Ideal) main_v5_0 _ _) (ix3 k a b)).trans ?_
  simp (disch := decide) only [↓ View.readCov_skip, ↓ View.readCov_cons_toLoadRect, ↓ View.readCov_fill]
  refine (slabs4 _ _ _ _ _ _ _ _ _ _ _ k a b).trans ?_
  frame_out
  exact step m c _ _ _ _ _ _ _ _ _ _ _ k a b _ (fun x => x_at m c x a) (s_at m c a) (h_at m c a) (fun x => cols m c x b)
    (by simp (disch := decide) only [↓ View.readCov_skip, ↓ View.readCov_cons_toLoadRect, ↓ View.readCov_fill]; pointwise [k0_pay5]) (by simp (disch := decide) only [↓ View.readCov_skip, ↓ View.readCov_cons_toLoadRect, ↓ View.readCov_fill]; pointwise [k0_pay6]) (by simp (disch := decide) only [↓ View.readCov_skip, ↓ View.readCov_cons_toLoadRect, ↓ View.readCov_fill]; pointwise [k0_pay7]) (by simp (disch := decide) only [↓ View.readCov_skip, ↓ View.readCov_cons_toLoadRect, ↓ View.readCov_fill]; pointwise [k0_pay8])

theorem slabs_w (j : Fin 1024) (b : Fin 512) : (iblk m c 4 pt : (Sh3 4 1024 512).Idx → EReal) ((Rect.unit (s := S4x1024x512) ![0, 0, 0] ![1, 1024, 512] inb_S4x1024x512_S1x1024x512_0_0_0).idx (ix3 (0 : Fin 1) j b)) = ww m c (ix2 j ⟨0 * 512 + b, by omega⟩)
      ∧ (iblk m c 4 pt : (Sh3 4 1024 512).Idx → EReal) ((Rect.unit (s := S4x1024x512) ![1, 0, 0] ![1, 1024, 512] inb_S4x1024x512_S1x1024x512_1_0_0).idx (ix3 (0 : Fin 1) j b)) = ww m c (ix2 j ⟨1 * 512 + b, by omega⟩)
      ∧ (iblk m c 4 pt : (Sh3 4 1024 512).Idx → EReal) ((Rect.unit (s := S4x1024x512) ![2, 0, 0] ![1, 1024, 512] inb_S4x1024x512_S1x1024x512_2_0_0).idx (ix3 (0 : Fin 1) j b)) = ww m c (ix2 j ⟨2 * 512 + b, by omega⟩)
      ∧ (iblk m c 4 pt : (Sh3 4 1024 512).Idx → EReal) ((Rect.unit (s := S4x1024x512) ![3, 0, 0] ![1, 1024, 512] inb_S4x1024x512_S1x1024x512_3_0_0).idx (ix3 (0 : Fin 1) j b)) = ww m c (ix2 j ⟨3 * 512 + b, by omega⟩) :=
  ⟨(slab_ld _ 0 _ 0 j b rfl).trans (w_at m c 0 j b), (slab_ld _ 1 _ 1 j b rfl).trans (w_at m c 1 j b), (slab_ld _ 2 _ 2 j b rfl).trans (w_at m c 2 j b), (slab_ld _ 3 _ 3 j b rfl).trans (w_at m c 3 j b)⟩

/-- The modulated input's gradient from four blocks of upstream columns and of weights. -/
theorem D_at (A0 A1 A2 A3 : Vec Ideal S256x512 .bf16) (B0 B1 B2 B3 : Vec Ideal S1x1024x512 .bf16) (x : Fin 256) (j : Fin 1024)
    (hA : ∀ b : Fin 512, A0 (ix2 x b) = du m c (ix2 x ⟨0 * 512 + b, by omega⟩) ∧ A1 (ix2 x b) = du m c (ix2 x ⟨1 * 512 + b, by omega⟩) ∧ A2 (ix2 x b) = du m c (ix2 x ⟨2 * 512 + b, by omega⟩) ∧ A3 (ix2 x b) = du m c (ix2 x ⟨3 * 512 + b, by omega⟩))
    (hB : ∀ b : Fin 512, B0 (ix3 0 j b) = ww m c (ix2 j ⟨0 * 512 + b, by omega⟩) ∧ B1 (ix3 0 j b) = ww m c (ix2 j ⟨1 * 512 + b, by omega⟩) ∧ B2 (ix3 0 j b) = ww m c (ix2 j ⟨2 * 512 + b, by omega⟩) ∧ B3 (ix3 0 j b) = ww m c (ix2 j ⟨3 * 512 + b, by omega⟩)) :
    k0_pay1 (F := Ideal) (k0_pay15 (k0_pay11 A0 B0) A1 B1 A2 B2) A3 B3 (ix2 x j) = half (du m c) (ww m c) 0 (by omega) x j := by
  rw [half_blocks, Fin.sum_univ_four]
  pointwise [k0_pay1, k0_pay15, k0_pay11]
  refine congrArg₂ (· + ·) (congrArg₂ (· + ·) (congrArg₂ (· + ·) ?_ ?_) ?_) ?_
  · exact Finset.sum_congr rfl fun b _ => Ideal.mul_congr ((hA b).1.trans (congrArg (fun i => du m c (ix2 x i)) (Fin.ext (by simp)))) ((hB b).1.trans (congrArg (fun i => ww m c (ix2 j i)) (Fin.ext (by simp))))
  · exact Finset.sum_congr rfl fun b _ => Ideal.mul_congr ((hA b).2.1) ((hB b).2.1.trans (congrArg (fun i => ww m c (ix2 j i)) (Fin.ext (by simp))))
  · exact Finset.sum_congr rfl fun b _ => Ideal.mul_congr ((hA b).2.2.1) ((hB b).2.2.1.trans (congrArg (fun i => ww m c (ix2 j i)) (Fin.ext (by simp))))
  · exact Finset.sum_congr rfl fun b _ => Ideal.mul_congr ((hA b).2.2.2) ((hB b).2.2.2.trans (congrArg (fun i => ww m c (ix2 j i)) (Fin.ext (by simp))))

/-- The two row stores over zeros. -/
theorem st_step (A0 A1 A2 A3 : Vec Ideal S256x512 .bf16) (B0 B1 B2 B3 : Vec Ideal S1x1024x512 .bf16) (X : Vec Ideal S256x1024 .f32) (v0 v1 : Vec Ideal S1x1024 .f32) (j : Fin 1024)
    (hX : ∀ x, X (ix2 x j) = xx m c (ix2 x j))
    (hA : ∀ (x : Fin 256) (b : Fin 512), A0 (ix2 x b) = du m c (ix2 x ⟨0 * 512 + b, by omega⟩) ∧ A1 (ix2 x b) = du m c (ix2 x ⟨1 * 512 + b, by omega⟩) ∧ A2 (ix2 x b) = du m c (ix2 x ⟨2 * 512 + b, by omega⟩) ∧ A3 (ix2 x b) = du m c (ix2 x ⟨3 * 512 + b, by omega⟩))
    (hB : ∀ b : Fin 512, B0 (ix3 0 j b) = ww m c (ix2 j ⟨0 * 512 + b, by omega⟩) ∧ B1 (ix3 0 j b) = ww m c (ix2 j ⟨1 * 512 + b, by omega⟩) ∧ B2 (ix3 0 j b) = ww m c (ix2 j ⟨2 * 512 + b, by omega⟩) ∧ B3 (ix3 0 j b) = ww m c (ix2 j ⟨3 * 512 + b, by omega⟩))
    (r : Fin 8) (z : EReal) (hz : z = 0) (h0 : (r : ℕ) = 0 → v0 (ix2 0 j) = z) (h1 : (r : ℕ) = 1 → v1 (ix2 0 j) = z) :
    (if (r : ℕ) = 1 then k0_pay3 (F := Ideal) (k0_pay15 (k0_pay11 A0 B0) A1 B1 A2 B2) A3 B3 v1 (ix2 0 j)
      else if (r : ℕ) = 0 then k0_pay2 (F := Ideal) X (k0_pay15 (k0_pay11 A0 B0) A1 B1 A2 B2) A3 B3 v0 (ix2 0 j)
      else z) = st (half (du m c) (ww m c) 0 (by omega)) (xx m c) r j := by
  have hD := fun x => D_at m c _ _ _ _ _ _ _ _ x j (hA x) hB
  unfold st
  by_cases e1 : (r : ℕ) = 1
  · rw [if_pos e1, if_neg (by omega), if_pos e1]
    unfold k0_pay3
    generalize k0_pay1 (F := Ideal) _ _ _ = D at *
    pointwise
    rw [h1 e1, hz, zero_add]
    exact Finset.sum_congr rfl fun x _ => hD x
  rw [if_neg e1]
  by_cases e0 : (r : ℕ) = 0
  · rw [if_pos e0, if_pos e0]
    unfold k0_pay2
    generalize k0_pay1 (F := Ideal) _ _ _ = D at *
    pointwise
    rw [h0 e0, hz, zero_add]
    exact Finset.sum_congr rfl fun x _ => (mul_comm _ _).trans (Ideal.mul_congr (hX x) (hD x))
  rw [if_neg e0, if_neg e0, if_neg e1, hz]

theorem st_at (r : Fin 8) (j : Fin 1024) : sumsOf m c pt (ix2 r j) = st (half (du m c) (ww m c) 0 (by omega)) (xx m c) r j := by
  have hz : k0_pay4 (F := Ideal) (ix2 r j) = 0 := by pointwise [k0_pay4]
  unfold sumsOf; frame_open
  simp (disch := decide) only [↓ View.readCov_skip, ↓ View.readCov_cons_toLoadRect, ↓ View.readCov_fill]
  refine (row _ _ _ _ _ _ r j).trans ((congrArg _ (row _ _ _ _ _ _ r j)).trans ?_)
  frame_out
  exact st_step m c _ _ _ _ _ _ _ _ (iblk m c 1 pt) _ _ j (fun x => x_at m c x j) (cols m c) (slabs_w m c j) r (k0_pay4 (F := Ideal) (ix2 r j)) hz (by simp (disch := decide) only [↓ View.readCov_skip, ↓ View.readCov_cons_toLoadRect, ↓ View.readCov_fill]; exact row_ld _ 0 _ r j) (by simp (disch := decide) only [↓ View.readCov_skip, ↓ View.readCov_cons_toLoadRect, ↓ View.readCov_fill]; exact row_ld _ 1 _ r j)

/-- The two rows of sums after the run. -/
theorem st_final : (dat m 0 c).arrAt 5 cfg0.N = fun j : S8x1024.Idx => st (half (du m c) (ww m c) 0 (by omega)) (xx m c) (j 0) (j 1) := by
  have hp := st_at m c
  have ha : (dat m 0 c).after 5 pt = sumsOf m c pt := by dsimp only [dat]
  generalize half (du m c) (ww m c) 0 (by omega) = D at *
  generalize xx m c = X at *
  generalize sumsOf m c pt = A at *
  refine (dat m 0 c).arrAt_eq_of_covers 5 _ (by decide +kernel) fun t hf y => ?_
  obtain rfl := eq_pt t
  have e : ((cfg0.win 5).blk pt).view.emb y = y := funext (Fin.forall_fin_two.mpr ⟨Fin.ext (by blk_simp [idx_val]), Fin.ext (by blk_simp [idx_val])⟩)
  have hp := hp (y 0) (y 1)
  rw [ha]
  refine Eq.trans ?_ (hp.trans (congrArg (fun z : S8x1024.Idx => st D X (z 0) (z 1)) e.symm))
  exact congrArg A (eq_ix2 y)
end Cert.InCtxIdeal.In
end
end
-- ==== Proof.InCtxRef.lean ====
module

public import proofs.«01_k».proof.Proof.Gen.InCtxRefIdeal.Run
public import proofs.«01_k».proof.Proof.InLib

/-! What the reference of the input product's gradient leaves in its three results, at one index. -/

@[expose] public section

set_option maxRecDepth 16384
noncomputable section
open Idealize.ShloMosaic Idealize.ShloMosaic.TcCoe Idealize.SL.Sem
namespace Cert.InCtxRefIdeal.In
open Cert.InCtxRefIdeal Cert.InCtxRefIdeal.Gen Cert.InCtxRefIdeal.Value Cert.InLib

/-- The two results of the reference at every index, and its arguments kept. -/
theorem run_main (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = (fun j : S4x1024x512.Idx =>
        gwc (m ((c : Thread nD τ).loc main_arg0)) (m ((c : Thread nD τ).loc main_arg1)) (m ((c : Thread nD τ).loc main_arg2)) (m ((c : Thread nD τ).loc main_arg3)) (j 1) ⟨(j 0).val * 512 + (j 2).val, by
            have h0 : (j 0).val < 4 := (j 0).isLt
            have h2 : (j 2).val < 512 := (j 2).isLt
            omega⟩)
      ∧ r.2.mem ((c.tc : Thread nD τ).loc main_v25) = (fun j : S8x1024.Idx =>
        st (half (m ((c : Thread nD τ).loc main_arg0)) (m ((c : Thread nD τ).loc main_arg4)) 0 (by omega)) (m ((c : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩) (run m ρ)
  all_goals
    clear h
    generalize m ((c : Thread nD τ).loc main_arg0) = X0
    generalize m ((c : Thread nD τ).loc main_arg1) = X1
    generalize m ((c : Thread nD τ).loc main_arg2) = X2
    generalize m ((c : Thread nD τ).loc main_arg3) = X3
    generalize m ((c : Thread nD τ).loc main_arg4) = X4
    funext j
  · rw [eq_ix3 j]
    generalize (j 0 : Fin _) = k
    generalize (j 1 : Fin _) = a
    generalize (j 2 : Fin _) = b
    pointwise
    rfl
  · have hw : ∀ (q : Fin 1024) (x : Fin 2048), (X4 : (Sh2 1024 2048).Idx → EReal) (ix2 q x) = (X4 : (Sh2 1024 2048).Idx → EReal) (ix2 q ⟨0 + x, by omega⟩) :=
      fun q x => congrArg (fun i => (X4 : (Sh2 1024 2048).Idx → EReal) (ix2 q i)) (Fin.ext (Nat.zero_add _).symm)
    rw [eq_ix2 j]
    generalize (j 0 : Fin _) = r
    generalize (j 1 : Fin _) = q
    pointwise
    simp only [Fin.sum_univ_one, hw]
    unfold st half
    by_cases h0 : (r : ℕ) = 0
    · rw [dif_pos (by omega), if_pos h0]; rfl
    rw [dif_neg (by omega), if_neg h0]
    by_cases h1 : (r : ℕ) = 1
    · rw [dif_pos (by omega), if_pos h1]; rfl
    · rw [dif_neg (by omega), if_neg h1]
end Cert.InCtxRefIdeal.In
end
end
-- ==== Proof.In1.lean ====
module

public import proofs.«01_k».proof.Proof.Gen.In1Ideal.Value
public import proofs.«01_k».proof.Proof.InLib
public import Idealize.ShloMosaic.Lib.StableHlo.ReadAt

/-! What the kernel of the input product's gradient leaves in its three result arrays, at one index. -/

@[expose] public section

set_option maxRecDepth 16384
noncomputable section
open Idealize.ShloMosaic Idealize.ShloMosaic.TcCoe Idealize.SL.Sem
namespace Cert.In1Ideal.In
open Cert.In1Ideal Cert.In1Ideal.Gen Cert.In1Ideal.Value Cert.InLib
variable (m : (ℓ : Loc nD τ sig) → Buf (Elt Ideal) ℓ) (c : Dev nD) (t : Fin cfg0.N)

/-- Every window's block index at point `t`: row tile `t`, or the whole array. -/
theorem idx_val : ∀ t : Fin cfg0.N, win0_0.index t = ![t.val, 0] ∧ win0_1.index t = ![t.val, 0]
    ∧ win0_2.index t = ![t.val, 0] ∧ win0_3.index t = ![t.val, 0]
    ∧ win0_4.index t = ![0, 0] ∧ win0_5.index t = ![0, 0]
    ∧ win0_6.index t = ![0, 0, 0] ∧ win0_7.index t = ![t.val, 0] ∧ win0_8.index t = ![0, 0]
    ∧ t.val < 16 :=
  (by decide +kernel : ∀ t : Fin grid0.N, _)

/-- The run's arguments. -/
abbrev du : (Sh2 8192 2048).Idx → EReal := m ((c : Thread nD τ).loc main_arg0)
abbrev dg : (Sh2 8192 2048).Idx → EReal := m ((c : Thread nD τ).loc main_arg1)
abbrev xx : (Sh2 8192 1024).Idx → EReal := m ((c : Thread nD τ).loc main_arg2)
abbrev dz : (Sh2 8192 1024).Idx → EReal := m ((c : Thread nD τ).loc main_arg3)
abbrev sc : (Sh1 1024).Idx → EReal := m ((c : Thread nD τ).loc main_arg4)
abbrev sh : (Sh1 1024).Idx → EReal := m ((c : Thread nD τ).loc main_arg5)
abbrev ww : (Sh2 1024 4096).Idx → EReal := m ((c : Thread nD τ).loc main_arg6)

/-- The row of the arrays that row `x` of point `t`'s blocks holds. -/
def rw_ (x : Fin 512) : Fin 8192 := ⟨t.val * 512 + x, by have := (idx_val t).2.2.2.2.2.2.2.2.2; omega⟩

theorem du_at (x : Fin 512) (q : Fin 2048) : iblk m c 0 t (ix2 x q) = du m c (ix2 (rw_ t x) q) := by
  unfold rw_ du; blk_ext [iblk, V, idx_val t]
theorem dg_at (x : Fin 512) (q : Fin 2048) : iblk m c 1 t (ix2 x q) = dg m c (ix2 (rw_ t x) q) := by
  unfold rw_ dg; blk_ext [iblk, V, idx_val t]
theorem x_at (x : Fin 512) (q : Fin 1024) : iblk m c 2 t (ix2 x q) = xx m c (ix2 (rw_ t x) q) := by
  unfold rw_ xx; blk_ext [iblk, V, idx_val t]
theorem dz_at (x : Fin 512) (q : Fin 1024) : iblk m c 3 t (ix2 x q) = dz m c (ix2 (rw_ t x) q) := by
  unfold rw_ dz; blk_ext [iblk, V, idx_val t]

theorem V_s (a : Fin 1024) : V m c main_v0 (ix2 (0 : Fin 1) a) = sc m c (ix1 a) := by
  unfold V; after_reads_at
theorem V_h (a : Fin 1024) : V m c main_v1 (ix2 (0 : Fin 1) a) = sh m c (ix1 a) := by
  unfold V; after_reads_at
theorem V_w (k : Fin 8) (a : Fin 1024) (b : Fin 512) : V m c main_v4 (ix3 k a b) = ww m c (ix2 a ⟨k * 512 + b, by omega⟩) := by
  unfold V; after_reads_at
theorem s_at (a : Fin 1024) : iblk m c 4 t (ix2 0 a) = sc m c (ix1 a) := by
  refine Eq.trans ?_ (V_s m c a); blk_ext [iblk, idx_val t]
theorem h_at (a : Fin 1024) : iblk m c 5 t (ix2 0 a) = sh m c (ix1 a) := by
  refine Eq.trans ?_ (V_h m c a); blk_ext [iblk, idx_val t]
theorem w_at (k : Fin 8) (a : Fin 1024) (b : Fin 512) : iblk m c 6 t (ix3 k a b) = ww m c (ix2 a ⟨k * 512 + b, by omega⟩) := by
  refine Eq.trans ?_ (V_w m c k a b); blk_ext [iblk, idx_val t]

/-- What point `t` adds to the weights' gradient. -/
def part (k : Fin 8) (a : Fin 1024) (b : Fin 512) : EReal :=
  ∑ x : Fin 512, ct (du m c) (dg m c) (rw_ t x) ⟨k * 512 + b, by omega⟩ * hh (xx m c) (sc m c) (sh m c) (rw_ t x) a

/-- Columns of the two upstream blocks, loaded alone. -/
theorem left_at (k : Fin 8) (o : ℕ) (inb) (x b : Fin 512) (h : (k : ℕ) * 512 = o) (ho : o + 512 ≤ 2048) :
    (iblk m c 0 t : (Sh2 512 2048).Idx → EReal) ((Rect.unit (s := S512x2048) ![0, o] ![512, 512] inb).idx (ix2 x b))
      = ct (du m c) (dg m c) (rw_ t x) ⟨k * 512 + b, by omega⟩ :=
  (col_ld _ o inb x b (by omega)).trans ((du_at m c t x _).trans (ct_left _ _ _ _ _ _ (congrArg (· + (b : ℕ)) h)).symm)
theorem right_at (k : Fin 8) (o : ℕ) (inb) (x b : Fin 512) (h : (k : ℕ) * 512 = 2048 + o) (ho : o + 512 ≤ 2048) :
    (iblk m c 1 t : (Sh2 512 2048).Idx → EReal) ((Rect.unit (s := S512x2048) ![0, o] ![512, 512] inb).idx (ix2 x b))
      = ct (du m c) (dg m c) (rw_ t x) ⟨k * 512 + b, by omega⟩ :=
  (col_ld _ o inb x b (by omega)).trans ((dg_at m c t x _).trans (ct_right _ _ _ _ _ _ (by show (k : ℕ) * 512 + b = 2048 + (o + b); omega)).symm)

/-- The product of a tile of the modulated input with a block of upstream columns. -/
theorem prod (X : (Sh2 512 1024).Idx → EReal) (S H : (Sh2 1 1024).Idx → EReal) (z : EReal) (k : Fin 8) (a : Fin 1024) (b : Fin 512)
    (hX : ∀ x, X (ix2 x a) = xx m c (ix2 (rw_ t x) a)) (hS : S (ix2 0 a) = sc m c (ix1 a)) (hH : H (ix2 0 a) = sh m c (ix1 a)) (A : Fin 512 → EReal)
    (hA : ∀ x, A x = ct (du m c) (dg m c) (rw_ t x) ⟨k * 512 + b, by omega⟩) :
    z + ∑ x : Fin 512, (X (ix2 x a) * (1 + S (ix2 0 a)) + H (ix2 0 a)) * A x = z + part m c t k a b := by
  refine congrArg (z + ·) (Finset.sum_congr rfl fun x _ => ?_)
  rw [mul_comm, hA x, hX x, hS, hH, hh]

/-- One point's eight slab stores add `part`, whatever the scratch held before. -/
theorem step (A0 A1 A2 A3 A4 A5 A6 A7 : Vec Ideal S512x512 .bf16) (G0 G1 G2 G3 G4 G5 G6 G7 : Vec Ideal S1x1024x512 .f32)
    (X : Vec Ideal S512x1024 .f32) (S H : Vec Ideal S1x1024 .f32) (k : Fin 8) (a : Fin 1024) (b : Fin 512) (z z' : EReal)
    (hX : ∀ x, X (ix2 x a) = xx m c (ix2 (rw_ t x) a)) (hS : S (ix2 0 a) = sc m c (ix1 a)) (hH : H (ix2 0 a) = sh m c (ix1 a))
    (hA : ∀ x, A0 (ix2 x b) = ct (du m c) (dg m c) (rw_ t x) ⟨0 * 512 + b, by omega⟩ ∧ A1 (ix2 x b) = ct (du m c) (dg m c) (rw_ t x) ⟨1 * 512 + b, by omega⟩
      ∧ A2 (ix2 x b) = ct (du m c) (dg m c) (rw_ t x) ⟨2 * 512 + b, by omega⟩ ∧ A3 (ix2 x b) = ct (du m c) (dg m c) (rw_ t x) ⟨3 * 512 + b, by omega⟩
      ∧ A4 (ix2 x b) = ct (du m c) (dg m c) (rw_ t x) ⟨4 * 512 + b, by omega⟩ ∧ A5 (ix2 x b) = ct (du m c) (dg m c) (rw_ t x) ⟨5 * 512 + b, by omega⟩
      ∧ A6 (ix2 x b) = ct (du m c) (dg m c) (rw_ t x) ⟨6 * 512 + b, by omega⟩ ∧ A7 (ix2 x b) = ct (du m c) (dg m c) (rw_ t x) ⟨7 * 512 + b, by omega⟩)
    (h0 : (k : ℕ) = 0 → G0 (ix3 0 a b) = z) (h1 : (k : ℕ) = 1 → G1 (ix3 0 a b) = z) (h2 : (k : ℕ) = 2 → G2 (ix3 0 a b) = z)
    (h3 : (k : ℕ) = 3 → G3 (ix3 0 a b) = z) (h4 : (k : ℕ) = 4 → G4 (ix3 0 a b) = z) (h5 : (k : ℕ) = 5 → G5 (ix3 0 a b) = z)
    (h6 : (k : ℕ) = 6 → G6 (ix3 0 a b) = z) (h7 : (k : ℕ) = 7 → G7 (ix3 0 a b) = z) :
    (if (k : ℕ) = 7 then k0_pay27 (F := Ideal) (k0_pay14 X S H) A7 G7 (ix3 0 a b)
      else if (k : ℕ) = 6 then k0_pay26 (F := Ideal) (k0_pay14 X S H) A6 G6 (ix3 0 a b)
      else if (k : ℕ) = 5 then k0_pay24 (F := Ideal) (k0_pay14 X S H) A5 G5 (ix3 0 a b)
      else if (k : ℕ) = 4 then k0_pay22 (F := Ideal) (k0_pay14 X S H) A4 G4 (ix3 0 a b)
      else if (k : ℕ) = 3 then k0_pay21 (F := Ideal) (k0_pay14 X S H) A3 G3 (ix3 0 a b)
      else if (k : ℕ) = 2 then k0_pay19 (F := Ideal) (k0_pay14 X S H) A2 G2 (ix3 0 a b)
      else if (k : ℕ) = 1 then k0_pay18 (F := Ideal) (k0_pay14 X S H) A1 (k0_pay17 G1) (constant S1024x512 .f32 0#32) (ix3 0 a b)
      else if (k : ℕ) = 0 then k0_pay15 (F := Ideal) X S H A0 G0 (ix3 0 a b) else z') = z + part m c t k a b := by
  have hp := prod m c t X S H z k a b hX hS hH
  fin_cases k
  · obtain rfl := h0 rfl; refine Eq.trans ?_ (hp (fun x => A0 (ix2 x b)) fun x => (hA x).1)
    pointwise [k0_pay15, k0_pay14, k0_pay13]
  · obtain rfl := h1 rfl; refine Eq.trans ?_ (hp (fun x => A1 (ix2 x b)) fun x => (hA x).2.1)
    pointwise [k0_pay18, k0_pay17, k0_pay14, k0_pay13]
  · obtain rfl := h2 rfl; refine Eq.trans ?_ (hp (fun x => A2 (ix2 x b)) fun x => (hA x).2.2.1)
    pointwise [k0_pay19, k0_pay14, k0_pay13]
  · obtain rfl := h3 rfl; refine Eq.trans ?_ (hp (fun x => A3 (ix2 x b)) fun x => (hA x).2.2.2.1)
    pointwise [k0_pay21, k0_pay14, k0_pay13]
  · obtain rfl := h4 rfl; refine Eq.trans ?_ (hp (fun x => A4 (ix2 x b)) fun x => (hA x).2.2.2.2.1)
    pointwise [k0_pay22, k0_pay14, k0_pay13]
  · obtain rfl := h5 rfl; refine Eq.trans ?_ (hp (fun x => A5 (ix2 x b)) fun x => (hA x).2.2.2.2.2.1)
    pointwise [k0_pay24, k0_pay14, k0_pay13]
  · obtain rfl := h6 rfl; refine Eq.trans ?_ (hp (fun x => A6 (ix2 x b)) fun x => (hA x).2.2.2.2.2.2.1)
    pointwise [k0_pay26, k0_pay14, k0_pay13]
  · obtain rfl := h7 rfl; refine Eq.trans ?_ (hp (fun x => A7 (ix2 x b)) fun x => (hA x).2.2.2.2.2.2.2)
    pointwise [k0_pay27, k0_pay14, k0_pay13]

/-- The columns the eight products load. -/
theorem cols (x b : Fin 512) : (iblk m c 0 t : (Sh2 512 2048).Idx → EReal) ((Rect.unit (s := S512x2048) ![0, 0] ![512, 512] inb_S512x2048_S512x512_0_0).idx (ix2 x b)) = ct (du m c) (dg m c) (rw_ t x) ⟨0 * 512 + b, by omega⟩
      ∧ (iblk m c 0 t : (Sh2 512 2048).Idx → EReal) ((Rect.unit (s := S512x2048) ![0, 512] ![512, 512] inb_S512x2048_S512x512_0_512).idx (ix2 x b)) = ct (du m c) (dg m c) (rw_ t x) ⟨1 * 512 + b, by omega⟩
      ∧ (iblk m c 0 t : (Sh2 512 2048).Idx → EReal) ((Rect.unit (s := S512x2048) ![0, 1024] ![512, 512] inb_S512x2048_S512x512_0_1024).idx (ix2 x b)) = ct (du m c) (dg m c) (rw_ t x) ⟨2 * 512 + b, by omega⟩
      ∧ (iblk m c 0 t : (Sh2 512 2048).Idx → EReal) ((Rect.unit (s := S512x2048) ![0, 1536] ![512, 512] inb_S512x2048_S512x512_0_1536).idx (ix2 x b)) = ct (du m c) (dg m c) (rw_ t x) ⟨3 * 512 + b, by omega⟩
      ∧ (iblk m c 1 t : (Sh2 512 2048).Idx → EReal) ((Rect.unit (s := S512x2048) ![0, 0] ![512, 512] inb_S512x2048_S512x512_0_0).idx (ix2 x b)) = ct (du m c) (dg m c) (rw_ t x) ⟨4 * 512 + b, by omega⟩
      ∧ (iblk m c 1 t : (Sh2 512 2048).Idx → EReal) ((Rect.unit (s := S512x2048) ![0, 512] ![512, 512] inb_S512x2048_S512x512_0_512).idx (ix2 x b)) = ct (du m c) (dg m c) (rw_ t x) ⟨5 * 512 + b, by omega⟩
      ∧ (iblk m c 1 t : (Sh2 512 2048).Idx → EReal) ((Rect.unit (s := S512x2048) ![0, 1024] ![512, 512] inb_S512x2048_S512x512_0_1024).idx (ix2 x b)) = ct (du m c) (dg m c) (rw_ t x) ⟨6 * 512 + b, by omega⟩
      ∧ (iblk m c 1 t : (Sh2 512 2048).Idx → EReal) ((Rect.unit (s := S512x2048) ![0, 1536] ![512, 512] inb_S512x2048_S512x512_0_1536).idx (ix2 x b)) = ct (du m c) (dg m c) (rw_ t x) ⟨7 * 512 + b, by omega⟩ :=
  ⟨left_at m c t 0 0 _ x b rfl (by decide), left_at m c t 1 512 _ x b rfl (by decide), left_at m c t 2 1024 _ x b rfl (by decide), left_at m c t 3 1536 _ x b rfl (by decide), right_at m c t 4 0 _ x b rfl (by decide), right_at m c t 5 512 _ x b rfl (by decide), right_at m c t 6 1024 _ x b rfl (by decide), right_at m c t 7 1536 _ x b rfl (by decide)⟩

/-- The first point leaves its own part. -/
theorem acc_first (h0 : t.val % 16 = 0) (k : Fin 8) (a : Fin 1024) (b : Fin 512) :
    (outsAt0 m c t.val t.isLt).2.2.1 (ix3 k a b) = 0 + part m c t k a b := by
  rw [outsAt0_A m c t h0 (by omega)]; frame_open
  simp (disch := decide) only [↓ View.readCov_skip, ↓ View.readCov_cons_toLoadRect, ↓ View.readCov_fill]
  refine (slabs8 _ _ _ _ _ _ _ _ _ _ _ _ _ _ _ _ _ _ _ k a b).trans ?_
  frame_out
  exact step m c t _ _ _ _ _ _ _ _ _ _ _ _ _ _ _ _ _ _ _ k a b _ _ (fun x => x_at m c t x a) (s_at m c t a) (h_at m c t a) (fun x => cols m c t x b)
    (fun _ => by pointwise [k0_pay5]) (fun _ => by pointwise [k0_pay6]) (fun _ => by pointwise [k0_pay7]) (fun _ => by pointwise [k0_pay8])
    (fun _ => by pointwise [k0_pay9]) (fun _ => by pointwise [k0_pay10]) (fun _ => by pointwise [k0_pay11]) (fun _ => by pointwise [k0_pay12])

/-- A slab of what the scratch held, loaded alone. -/
theorem old (Z : Vec Ideal S8x1024x512 .f32) (o : ℕ) (inb) (k : Fin 8) (a : Fin 1024) (b : Fin 512) (h : (k : ℕ) = o) :
    View.read (Elt Ideal) (View.whole cc0_scratch0) ((Memref.isWhole_whole cc0_scratch0).unread Z)
      ((Rect.unit (s := S8x1024x512) ![o, 0, 0] ![1, 1024, 512] inb).idx (ix3 (0 : Fin 1) a b)) = Z (ix3 k a b) :=
  (slab_ld (View.read (Elt Ideal) (View.whole cc0_scratch0) ((Memref.isWhole_whole cc0_scratch0).unread Z)) o inb k a b h).trans
    (congrFun (Memref.IsWhole.read_unread (Memref.isWhole_whole cc0_scratch0) Z) (ix3 k a b))

/-- Every other point adds its part to what the point before left. -/
theorem acc_next (h0 : ¬ t.val % 16 = 0) (k : Fin 8) (a : Fin 1024) (b : Fin 512) :
    (outsAt0 m c t.val t.isLt).2.2.1 (ix3 k a b)
      = (outsAt0 m c (t.val - 1) (lt_of_le_of_lt (Nat.sub_le _ _) t.isLt)).2.2.1 (ix3 k a b) + part m c t k a b := by
  by_cases h1 : t.val % 16 = 15
  · rw [outsAt0_C m c t h0 h1]; dsimp only; frame_open
    refine (slabs8 _ _ _ _ _ _ _ _ _ _ _ _ _ _ _ _ _ _ _ k a b).trans ?_
    frame_out
    exact step m c t _ _ _ _ _ _ _ _ _ _ _ _ _ _ _ _ _ _ _ k a b _ _ (fun x => x_at m c t x a) (s_at m c t a) (h_at m c t a) (fun x => cols m c t x b)
      (old _ 0 _ k a b) (old _ 1 _ k a b) (old _ 2 _ k a b) (old _ 3 _ k a b) (old _ 4 _ k a b)
      (old _ 5 _ k a b) (old _ 6 _ k a b) (old _ 7 _ k a b)
  · rw [outsAt0_B m c t h0 h1]; dsimp only; frame_open
    refine (slabs8 _ _ _ _ _ _ _ _ _ _ _ _ _ _ _ _ _ _ _ k a b).trans ?_
    frame_out
    exact step m c t _ _ _ _ _ _ _ _ _ _ _ _ _ _ _ _ _ _ _ k a b _ _ (fun x => x_at m c t x a) (s_at m c t a) (h_at m c t a) (fun x => cols m c t x b)
      (old _ 0 _ k a b) (old _ 1 _ k a b) (old _ 2 _ k a b) (old _ 3 _ k a b) (old _ 4 _ k a b)
      (old _ 5 _ k a b) (old _ 6 _ k a b) (old _ 7 _ k a b)

/-- The last point copies the scratch out. -/
theorem copied (h1 : t.val % 16 = 15) (k : Fin 8) (a : Fin 1024) (b : Fin 512) :
    ((outsAt0 m c t.val t.isLt).2.2.2 : FVec Ideal S8x1024x512 .f32) (ix3 k a b)
      = (outsAt0 m c (t.val - 1) (lt_of_le_of_lt (Nat.sub_le _ _) t.isLt)).2.2.1 (ix3 k a b) + part m c t k a b := by
  rw [outsAt0_C m c t (by omega) h1]; dsimp only; unfold hbw0_C_0
  frame_open
  refine (congrFun (View.write_whole_univ (Val := Elt Ideal) main_v5_1 _ _) (ix3 k a b)).trans ?_
  refine (slabs8 _ _ _ _ _ _ _ _ _ _ _ _ _ _ _ _ _ _ _ k a b).trans ?_
  frame_out
  exact step m c t _ _ _ _ _ _ _ _ _ _ _ _ _ _ _ _ _ _ _ k a b _ _ (fun x => x_at m c t x a) (s_at m c t a) (h_at m c t a) (fun x => cols m c t x b)
    (old _ 0 _ k a b) (old _ 1 _ k a b) (old _ 2 _ k a b) (old _ 3 _ k a b) (old _ 4 _ k a b)
    (old _ 5 _ k a b) (old _ 6 _ k a b) (old _ 7 _ k a b)

theorem slabs_w (j : Fin 1024) (b : Fin 512) : (iblk m c 6 t : (Sh3 8 1024 512).Idx → EReal) ((Rect.unit (s := S8x1024x512) ![0, 0, 0] ![1, 1024, 512] inb_S8x1024x512_S1x1024x512_0_0_0).idx (ix3 (0 : Fin 1) j b)) = ww m c (ix2 j ⟨0 * 512 + b, by omega⟩)
      ∧ (iblk m c 6 t : (Sh3 8 1024 512).Idx → EReal) ((Rect.unit (s := S8x1024x512) ![1, 0, 0] ![1, 1024, 512] inb_S8x1024x512_S1x1024x512_1_0_0).idx (ix3 (0 : Fin 1) j b)) = ww m c (ix2 j ⟨1 * 512 + b, by omega⟩)
      ∧ (iblk m c 6 t : (Sh3 8 1024 512).Idx → EReal) ((Rect.unit (s := S8x1024x512) ![2, 0, 0] ![1, 1024, 512] inb_S8x1024x512_S1x1024x512_2_0_0).idx (ix3 (0 : Fin 1) j b)) = ww m c (ix2 j ⟨2 * 512 + b, by omega⟩)
      ∧ (iblk m c 6 t : (Sh3 8 1024 512).Idx → EReal) ((Rect.unit (s := S8x1024x512) ![3, 0, 0] ![1, 1024, 512] inb_S8x1024x512_S1x1024x512_3_0_0).idx (ix3 (0 : Fin 1) j b)) = ww m c (ix2 j ⟨3 * 512 + b, by omega⟩)
      ∧ (iblk m c 6 t : (Sh3 8 1024 512).Idx → EReal) ((Rect.unit (s := S8x1024x512) ![4, 0, 0] ![1, 1024, 512] inb_S8x1024x512_S1x1024x512_4_0_0).idx (ix3 (0 : Fin 1) j b)) = ww m c (ix2 j ⟨4 * 512 + b, by omega⟩)
      ∧ (iblk m c 6 t : (Sh3 8 1024 512).Idx → EReal) ((Rect.unit (s := S8x1024x512) ![5, 0, 0] ![1, 1024, 512] inb_S8x1024x512_S1x1024x512_5_0_0).idx (ix3 (0 : Fin 1) j b)) = ww m c (ix2 j ⟨5 * 512 + b, by omega⟩)
      ∧ (iblk m c 6 t : (Sh3 8 1024 512).Idx → EReal) ((Rect.unit (s := S8x1024x512) ![6, 0, 0] ![1, 1024, 512] inb_S8x1024x512_S1x1024x512_6_0_0).idx (ix3 (0 : Fin 1) j b)) = ww m c (ix2 j ⟨6 * 512 + b, by omega⟩)
      ∧ (iblk m c 6 t : (Sh3 8 1024 512).Idx → EReal) ((Rect.unit (s := S8x1024x512) ![7, 0, 0] ![1, 1024, 512] inb_S8x1024x512_S1x1024x512_7_0_0).idx (ix3 (0 : Fin 1) j b)) = ww m c (ix2 j ⟨7 * 512 + b, by omega⟩) :=
  ⟨(slab_ld _ 0 _ 0 j b rfl).trans (w_at m c t 0 j b), (slab_ld _ 1 _ 1 j b rfl).trans (w_at m c t 1 j b), (slab_ld _ 2 _ 2 j b rfl).trans (w_at m c t 2 j b), (slab_ld _ 3 _ 3 j b rfl).trans (w_at m c t 3 j b), (slab_ld _ 4 _ 4 j b rfl).trans (w_at m c t 4 j b), (slab_ld _ 5 _ 5 j b rfl).trans (w_at m c t 5 j b), (slab_ld _ 6 _ 6 j b rfl).trans (w_at m c t 6 j b), (slab_ld _ 7 _ 7 j b rfl).trans (w_at m c t 7 j b)⟩

/-- The modulated input's gradient from eight blocks of upstream columns and of weights. -/
theorem dh_sum (A0 A1 A2 A3 A4 A5 A6 A7 B0 B1 B2 B3 B4 B5 B6 B7 : Fin 512 → EReal) (x : Fin 512) (j : Fin 1024)
    (hA : ∀ b : Fin 512, A0 b = ct (du m c) (dg m c) (rw_ t x) ⟨0 * 512 + b, by omega⟩ ∧ A1 b = ct (du m c) (dg m c) (rw_ t x) ⟨1 * 512 + b, by omega⟩ ∧ A2 b = ct (du m c) (dg m c) (rw_ t x) ⟨2 * 512 + b, by omega⟩ ∧ A3 b = ct (du m c) (dg m c) (rw_ t x) ⟨3 * 512 + b, by omega⟩ ∧ A4 b = ct (du m c) (dg m c) (rw_ t x) ⟨4 * 512 + b, by omega⟩ ∧ A5 b = ct (du m c) (dg m c) (rw_ t x) ⟨5 * 512 + b, by omega⟩ ∧ A6 b = ct (du m c) (dg m c) (rw_ t x) ⟨6 * 512 + b, by omega⟩ ∧ A7 b = ct (du m c) (dg m c) (rw_ t x) ⟨7 * 512 + b, by omega⟩)
    (hB : ∀ b : Fin 512, B0 b = ww m c (ix2 j ⟨0 * 512 + b, by omega⟩) ∧ B1 b = ww m c (ix2 j ⟨1 * 512 + b, by omega⟩) ∧ B2 b = ww m c (ix2 j ⟨2 * 512 + b, by omega⟩) ∧ B3 b = ww m c (ix2 j ⟨3 * 512 + b, by omega⟩) ∧ B4 b = ww m c (ix2 j ⟨4 * 512 + b, by omega⟩) ∧ B5 b = ww m c (ix2 j ⟨5 * 512 + b, by omega⟩) ∧ B6 b = ww m c (ix2 j ⟨6 * 512 + b, by omega⟩) ∧ B7 b = ww m c (ix2 j ⟨7 * 512 + b, by omega⟩)) :
    ∑ b, A0 b * B0 b + ∑ b, A1 b * B1 b + ∑ b, A2 b * B2 b + ∑ b, A3 b * B3 b + ∑ b, A4 b * B4 b + ∑ b, A5 b * B5 b + ∑ b, A6 b * B6 b + ∑ b, A7 b * B7 b = dh (du m c) (dg m c) (ww m c) (rw_ t x) j := by
  rw [dh_blocks, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact Finset.sum_congr rfl fun b _ => Ideal.mul_congr ((hA b).1) ((hB b).1)
  · exact Finset.sum_congr rfl fun b _ => Ideal.mul_congr ((hA b).2.1) ((hB b).2.1)
  · exact Finset.sum_congr rfl fun b _ => Ideal.mul_congr ((hA b).2.2.1) ((hB b).2.2.1)
  · exact Finset.sum_congr rfl fun b _ => Ideal.mul_congr ((hA b).2.2.2.1) ((hB b).2.2.2.1)
  · exact Finset.sum_congr rfl fun b _ => Ideal.mul_congr ((hA b).2.2.2.2.1) ((hB b).2.2.2.2.1)
  · exact Finset.sum_congr rfl fun b _ => Ideal.mul_congr ((hA b).2.2.2.2.2.1) ((hB b).2.2.2.2.2.1)
  · exact Finset.sum_congr rfl fun b _ => Ideal.mul_congr ((hA b).2.2.2.2.2.2.1) ((hB b).2.2.2.2.2.2.1)
  · exact Finset.sum_congr rfl fun b _ => Ideal.mul_congr ((hA b).2.2.2.2.2.2.2) ((hB b).2.2.2.2.2.2.2)

theorem D_at (A0 A1 A2 A3 A4 A5 A6 A7 : Vec Ideal S512x512 .bf16) (B0 B1 B2 B3 B4 B5 B6 B7 : Vec Ideal S1x1024x512 .bf16) (x : Fin 512) (j : Fin 1024)
    (hA : ∀ b : Fin 512, A0 (ix2 x b) = ct (du m c) (dg m c) (rw_ t x) ⟨0 * 512 + b, by omega⟩ ∧ A1 (ix2 x b) = ct (du m c) (dg m c) (rw_ t x) ⟨1 * 512 + b, by omega⟩ ∧ A2 (ix2 x b) = ct (du m c) (dg m c) (rw_ t x) ⟨2 * 512 + b, by omega⟩ ∧ A3 (ix2 x b) = ct (du m c) (dg m c) (rw_ t x) ⟨3 * 512 + b, by omega⟩ ∧ A4 (ix2 x b) = ct (du m c) (dg m c) (rw_ t x) ⟨4 * 512 + b, by omega⟩ ∧ A5 (ix2 x b) = ct (du m c) (dg m c) (rw_ t x) ⟨5 * 512 + b, by omega⟩ ∧ A6 (ix2 x b) = ct (du m c) (dg m c) (rw_ t x) ⟨6 * 512 + b, by omega⟩ ∧ A7 (ix2 x b) = ct (du m c) (dg m c) (rw_ t x) ⟨7 * 512 + b, by omega⟩)
    (hB : ∀ b : Fin 512, B0 (ix3 0 j b) = ww m c (ix2 j ⟨0 * 512 + b, by omega⟩) ∧ B1 (ix3 0 j b) = ww m c (ix2 j ⟨1 * 512 + b, by omega⟩) ∧ B2 (ix3 0 j b) = ww m c (ix2 j ⟨2 * 512 + b, by omega⟩) ∧ B3 (ix3 0 j b) = ww m c (ix2 j ⟨3 * 512 + b, by omega⟩) ∧ B4 (ix3 0 j b) = ww m c (ix2 j ⟨4 * 512 + b, by omega⟩) ∧ B5 (ix3 0 j b) = ww m c (ix2 j ⟨5 * 512 + b, by omega⟩) ∧ B6 (ix3 0 j b) = ww m c (ix2 j ⟨6 * 512 + b, by omega⟩) ∧ B7 (ix3 0 j b) = ww m c (ix2 j ⟨7 * 512 + b, by omega⟩)) :
    k0_pay28 (F := Ideal) (k0_pay23 (k0_pay20 (k0_pay16 A0 B0) A1 B1 A2 B2) A3 B3 A4 B4) (k0_pay25 A5 B5) A6 B6 A7 B7 (ix2 x j) = dh (du m c) (dg m c) (ww m c) (rw_ t x) j := by
  pointwise [k0_pay28, k0_pay23, k0_pay20, k0_pay16, k0_pay25]
  exact dh_sum m c t _ _ _ _ _ _ _ _ _ _ _ _ _ _ _ _ x j hA hB

/-- What point `t` leaves in the input's gradient. -/
theorem dx_at (x : Fin 512) (j : Fin 1024) : (outsAt0 m c t.val t.isLt).1 (ix2 x j)
    = Ideal.ofBits .f32 1068827891#32 * dz m c (ix2 (rw_ t x) j) + dh (du m c) (dg m c) (ww m c) (rw_ t x) j * (1 + sc m c (ix1 j)) := by
  have hd : ∀ (S : Vec Ideal S1x1024 .f32) (Z : Vec Ideal S512x1024 .f32) (D : Vec Ideal S512x1024 .f32) (e : S (ix2 0 j) = sc m c (ix1 j)) (e' : Z (ix2 x j) = dz m c (ix2 (rw_ t x) j))
      (e'' : D (ix2 x j) = dh (du m c) (dg m c) (ww m c) (rw_ t x) j), k0_pay3 (F := Ideal) (k0_pay13 S) D Z (ix2 x j)
        = Ideal.ofBits .f32 1068827891#32 * dz m c (ix2 (rw_ t x) j) + dh (du m c) (dg m c) (ww m c) (rw_ t x) j * (1 + sc m c (ix1 j)) := fun S Z D e e' e'' => by
    rw [← e, ← e', ← e'']
    pointwise [k0_pay3, k0_pay13]
  by_cases h0 : t.val % 16 = 0
  · rw [outsAt0_A m c t h0 (by omega)]; frame_out
    exact hd _ _ _ (s_at m c t j) (dz_at m c t x j) (D_at m c t _ _ _ _ _ _ _ _ _ _ _ _ _ _ _ _ x j (cols m c t x) (slabs_w m c t j))
  · by_cases h1 : t.val % 16 = 15
    · rw [outsAt0_C m c t h0 h1]; frame_out
      exact hd _ _ _ (s_at m c t j) (dz_at m c t x j) (D_at m c t _ _ _ _ _ _ _ _ _ _ _ _ _ _ _ _ x j (cols m c t x) (slabs_w m c t j))
    · rw [outsAt0_B m c t h0 h1]; frame_out
      exact hd _ _ _ (s_at m c t j) (dz_at m c t x j) (D_at m c t _ _ _ _ _ _ _ _ _ _ _ _ _ _ _ _ x j (cols m c t x) (slabs_w m c t j))

/-- What point `t` adds to the two rows of sums. -/
def sums (r : Fin 8) (j : Fin 1024) : EReal :=
  if (r : ℕ) = 0 then ∑ x : Fin 512, xx m c (ix2 (rw_ t x) j) * dh (du m c) (dg m c) (ww m c) (rw_ t x) j
  else if (r : ℕ) = 1 then ∑ x : Fin 512, dh (du m c) (dg m c) (ww m c) (rw_ t x) j else 0

/-- One point's two row stores add `sums`. -/
theorem st_step (A0 A1 A2 A3 A4 A5 A6 A7 : Vec Ideal S512x512 .bf16) (B0 B1 B2 B3 B4 B5 B6 B7 : Vec Ideal S1x1024x512 .bf16) (X : Vec Ideal S512x1024 .f32) (v0 v1 : Vec Ideal S1x1024 .f32) (j : Fin 1024)
    (hX : ∀ x, X (ix2 x j) = xx m c (ix2 (rw_ t x) j))
    (hA : ∀ (x b : Fin 512), A0 (ix2 x b) = ct (du m c) (dg m c) (rw_ t x) ⟨0 * 512 + b, by omega⟩ ∧ A1 (ix2 x b) = ct (du m c) (dg m c) (rw_ t x) ⟨1 * 512 + b, by omega⟩ ∧ A2 (ix2 x b) = ct (du m c) (dg m c) (rw_ t x) ⟨2 * 512 + b, by omega⟩ ∧ A3 (ix2 x b) = ct (du m c) (dg m c) (rw_ t x) ⟨3 * 512 + b, by omega⟩ ∧ A4 (ix2 x b) = ct (du m c) (dg m c) (rw_ t x) ⟨4 * 512 + b, by omega⟩ ∧ A5 (ix2 x b) = ct (du m c) (dg m c) (rw_ t x) ⟨5 * 512 + b, by omega⟩ ∧ A6 (ix2 x b) = ct (du m c) (dg m c) (rw_ t x) ⟨6 * 512 + b, by omega⟩ ∧ A7 (ix2 x b) = ct (du m c) (dg m c) (rw_ t x) ⟨7 * 512 + b, by omega⟩)
    (hB : ∀ b : Fin 512, B0 (ix3 0 j b) = ww m c (ix2 j ⟨0 * 512 + b, by omega⟩) ∧ B1 (ix3 0 j b) = ww m c (ix2 j ⟨1 * 512 + b, by omega⟩) ∧ B2 (ix3 0 j b) = ww m c (ix2 j ⟨2 * 512 + b, by omega⟩) ∧ B3 (ix3 0 j b) = ww m c (ix2 j ⟨3 * 512 + b, by omega⟩) ∧ B4 (ix3 0 j b) = ww m c (ix2 j ⟨4 * 512 + b, by omega⟩) ∧ B5 (ix3 0 j b) = ww m c (ix2 j ⟨5 * 512 + b, by omega⟩) ∧ B6 (ix3 0 j b) = ww m c (ix2 j ⟨6 * 512 + b, by omega⟩) ∧ B7 (ix3 0 j b) = ww m c (ix2 j ⟨7 * 512 + b, by omega⟩)) (r : Fin 8) (z : EReal) (h0 : (r : ℕ) = 0 → v0 (ix2 0 j) = z) (h1 : (r : ℕ) = 1 → v1 (ix2 0 j) = z) :
    (if (r : ℕ) = 1 then k0_pay2 (F := Ideal) (k0_pay28 (F := Ideal) (k0_pay23 (k0_pay20 (k0_pay16 A0 B0) A1 B1 A2 B2) A3 B3 A4 B4) (k0_pay25 A5 B5) A6 B6 A7 B7) v1 (ix2 0 j)
      else if (r : ℕ) = 0 then k0_pay1 (F := Ideal) (k0_pay29 v0) (k0_pay30 X (k0_pay23 (k0_pay20 (k0_pay16 A0 B0) A1 B1 A2 B2) A3 B3 A4 B4) (k0_pay25 A5 B5) A6 B6 A7 B7) (ix2 0 j)
      else z) = z + sums m c t r j := by
  have hD := fun x => D_at m c t _ _ _ _ _ _ _ _ _ _ _ _ _ _ _ _ x j (hA x) hB
  unfold sums
  by_cases e1 : (r : ℕ) = 1
  · rw [if_pos e1, if_neg (by omega), if_pos e1, ← h1 e1]
    generalize k0_pay28 (F := Ideal) _ _ _ _ _ _ = D at *
    pointwise [k0_pay2]
    exact congrArg _ (Finset.sum_congr rfl fun x _ => hD x)
  rw [if_neg e1]
  by_cases e0 : (r : ℕ) = 0
  · rw [if_pos e0, if_pos e0, ← h0 e0]
    unfold k0_pay30
    generalize k0_pay28 (F := Ideal) _ _ _ _ _ _ = D at *
    pointwise [k0_pay1, k0_pay29]
    exact congrArg _ (Finset.sum_congr rfl fun x _ => (mul_comm _ _).trans (Ideal.mul_congr (hX x) (hD x)))
  rw [if_neg e0, if_neg e0, if_neg e1, add_zero]

theorem st_first (h0 : t.val % 16 = 0) (r : Fin 8) (j : Fin 1024) : (outsAt0 m c t.val t.isLt).2.1 (ix2 r j) = 0 + sums m c t r j := by
  have hz : k0_pay4 (F := Ideal) (ix2 r j) = 0 := by pointwise [k0_pay4]
  rw [outsAt0_A m c t h0 (by omega)]; frame_open
  simp (disch := decide) only [↓ View.readCov_skip, ↓ View.readCov_cons_toLoadRect, ↓ View.readCov_fill]
  refine (row _ _ _ _ _ _ r j).trans ((congrArg _ (row _ _ _ _ _ _ r j)).trans ?_)
  frame_out
  exact (st_step m c t _ _ _ _ _ _ _ _ _ _ _ _ _ _ _ _ (iblk m c 2 t) _ _ j (fun x => x_at m c t x j) (cols m c t) (slabs_w m c t j) r (k0_pay4 (F := Ideal) (ix2 r j)) (row_ld _ 0 _ r j) (row_ld _ 1 _ r j)).trans (by rw [hz])

theorem st_next (h0 : ¬ t.val % 16 = 0) (r : Fin 8) (j : Fin 1024) : (outsAt0 m c t.val t.isLt).2.1 (ix2 r j)
    = (outsAt0 m c (t.val - 1) (lt_of_le_of_lt (Nat.sub_le _ _) t.isLt)).2.1 (ix2 r j) + sums m c t r j := by
  by_cases h1 : t.val % 16 = 15
  · rw [outsAt0_C m c t h0 h1]; frame_out
    refine (row _ _ _ _ _ _ r j).trans ((congrArg _ (row _ _ _ _ _ _ r j)).trans ?_)
    rw [View.writes_nil, Memref.IsWhole.read_unread]
    exact st_step m c t _ _ _ _ _ _ _ _ _ _ _ _ _ _ _ _ (iblk m c 2 t) _ _ j (fun x => x_at m c t x j) (cols m c t) (slabs_w m c t j) r _ (row_ld _ 0 _ r j) (row_ld _ 1 _ r j)
  · rw [outsAt0_B m c t h0 h1]; frame_out
    refine (row _ _ _ _ _ _ r j).trans ((congrArg _ (row _ _ _ _ _ _ r j)).trans ?_)
    rw [View.writes_nil, Memref.IsWhole.read_unread]
    exact st_step m c t _ _ _ _ _ _ _ _ _ _ _ _ _ _ _ _ (iblk m c 2 t) _ _ j (fun x => x_at m c t x j) (cols m c t) (slabs_w m c t j) r _ (row_ld _ 0 _ r j) (row_ld _ 1 _ r j)

/-- The tiles' rows, one tile after another, are the array's rows. -/
theorem tiles (t : Fin cfg0.N) (hf : t.val % 16 = 15) (f : Fin 8192 → EReal) :
    (∑ s : Fin 16, ∑ x : Fin 512, f (rw_ ⟨16 * (t.val / 16) + s, Pipeline.run_point_lt_of_flush t hf s⟩ x)) = ∑ r : Fin 8192, f r := by
  rw [Fin.sum_univ_tiles 16 512 rfl f]
  refine Finset.sum_congr rfl fun s _ => Finset.sum_congr rfl fun x _ => congrArg f (Fin.ext ?_)
  have ht := (idx_val t).2.2.2.2.2.2.2.2.2
  show (16 * (t.val / 16) + (s : ℕ)) * 512 + (x : ℕ) = s * 512 + x
  omega

/-- The scratch after the last point. -/
theorem gw_run (hf : t.val % 16 = 15) (k : Fin 8) (a : Fin 1024) (b : Fin 512) :
    (outsAt0 m c t.val t.isLt).2.2.1 (ix3 k a b) = gw (du m c) (dg m c) (xx m c) (sc m c) (sh m c) a ⟨k * 512 + b, by omega⟩ := by
  have hs := Pipeline.eq_sum_fin_of_reset_step_apply_of_flush (fun n h => (outsAt0 m c n h).2.2.1) 16 (fun _ => 0) (fun t j => part m c t (j 0) (j 1) (j 2))
    (fun t h j => (congrArg _ (eq_ix3 j)).trans (acc_first m c t h (j 0) (j 1) (j 2)))
    (fun t h j => by
      rw [eq_ix3 j]
      exact acc_next m c t h (j 0) (j 1) (j 2)) t hf (ix3 k a b)
  refine hs.trans ?_
  rw [zero_add]
  exact tiles t hf fun r => ct (du m c) (dg m c) r ⟨k * 512 + b, by omega⟩ * hh (xx m c) (sc m c) (sh m c) r a

/-- The weights' gradient after the run. -/
theorem gw_final (n : ℕ) (hn : n < cfg0.N) (h15 : n % 16 = 15) :
    (outsAt0 m c n hn).2.2.2 = (fun j : S8x1024x512.Idx => gw (du m c) (dg m c) (xx m c) (sc m c) (sh m c) (j 1) ⟨(j 0).val * 512 + (j 2).val, by
      have h0 : (j 0).val < 8 := (j 0).isLt
      have h2 : (j 2).val < 512 := (j 2).isLt
      omega⟩) := by
  funext j
  exact (congrArg (outsAt0 m c n hn).2.2.2 (eq_ix3 j)).trans ((copied m c ⟨n, hn⟩ h15 (j 0) (j 1) (j 2)).trans
    ((acc_next m c ⟨n, hn⟩ (by show ¬ n % 16 = 0; omega) (j 0) (j 1) (j 2)).symm.trans (gw_run m c ⟨n, hn⟩ h15 (j 0) (j 1) (j 2))))

theorem st_run (hf : t.val % 16 = 15) (r : Fin 8) (j : Fin 1024) :
    (outsAt0 m c t.val t.isLt).2.1 (ix2 r j) = st (dh (du m c) (dg m c) (ww m c)) (xx m c) r j := by
  have hs := Pipeline.eq_sum_fin_of_reset_step_apply_of_flush (fun n h => (outsAt0 m c n h).2.1) 16 (fun _ => 0) (fun t j => sums m c t (j 0) (j 1))
    (fun t h j => (congrArg _ (eq_ix2 j)).trans (st_first m c t h (j 0) (j 1)))
    (fun t h j => by
      rw [eq_ix2 j]
      exact st_next m c t h (j 0) (j 1)) t hf (ix2 r j)
  refine hs.trans ?_
  rw [zero_add]
  show ∑ s : Fin 16, sums m c ⟨16 * (t.val / 16) + s, _⟩ r j = _
  unfold sums st
  by_cases h0 : (r : ℕ) = 0
  · simp only [if_pos h0]
    exact tiles t hf fun x => xx m c (ix2 x j) * dh (du m c) (dg m c) (ww m c) x j
  simp only [if_neg h0]
  by_cases h1 : (r : ℕ) = 1
  · simp only [if_pos h1]
    exact tiles t hf fun x => dh (du m c) (dg m c) (ww m c) x j
  · simp only [if_neg h1, Finset.sum_const_zero]

/-- The two rows of sums after the run. -/
theorem st_final : (dats m 0 c).arrAt 8 (cfgs 0).N = fun j : S8x1024.Idx => st (dh (du m c) (dg m c) (ww m c)) (xx m c) (j 0) (j 1) := by
  refine (dats m 0 c).arrAt_eq_of_covers 8 _ (by decide +kernel) fun t hf y => ?_
  rw [after0_8]
  have hp := st_run m c t ((flush0_8 t).mp hf) (y 0) (y 1)
  rw [← eq_ix2 y] at hp
  have e : ((cfg0.win 8).blk t).view.emb y = y := funext (Fin.forall_fin_two.mpr ⟨Fin.ext (by blk_simp [idx_val t]), Fin.ext (by blk_simp [idx_val t])⟩)
  rw [← e] at hp
  exact (congrArg (outsAt0 m c t.val t.isLt).2.1 e.symm).trans hp

/-- The input's gradient after the run. -/
theorem dx_final : (dats m 0 c).arrAt 7 (cfgs 0).N = fun j : S8192x1024.Idx =>
    Ideal.ofBits .f32 1068827891#32 * dz m c (ix2 (j 0) (j 1)) + dh (du m c) (dg m c) (ww m c) (j 0) (j 1) * (1 + sc m c (ix1 (j 1))) := by
  refine (dats m 0 c).arrAt_eq_of_covers 7 _ (by decide +kernel) fun t hf y => ?_
  rw [after0_7]
  have hp := dx_at m c t (y 0) (y 1)
  have e0 : rw_ t (y 0) = ((cfg0.win 7).blk t).view.emb y 0 := Fin.ext (by
    show t.val * 512 + (y 0).val = _
    blk_simp [idx_val t])
  have e1 : (y 1 : Fin 1024) = ((cfg0.win 7).blk t).view.emb y 1 := Fin.ext (by blk_simp [idx_val t])
  rw [← eq_ix2 y, e0, e1] at hp
  exact hp
end Cert.In1Ideal.In
end
end
-- ==== Proof.In1Ref.lean ====
module

public import proofs.«01_k».proof.Proof.Gen.In1RefIdeal.Run
public import proofs.«01_k».proof.Proof.InLib

/-! What the reference of the input product's gradient leaves in its three results, at one index. -/

@[expose] public section

set_option maxRecDepth 16384
noncomputable section
open Idealize.ShloMosaic Idealize.ShloMosaic.TcCoe Idealize.SL.Sem
namespace Cert.In1RefIdeal.In
open Cert.In1RefIdeal Cert.In1RefIdeal.Gen Cert.In1RefIdeal.Value Cert.InLib

/-- The three results of the reference at every index, and its arguments kept. -/
theorem run_main (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = (fun j : S8192x1024.Idx =>
        Ideal.ofBits .f32 1068827891#32 * (m ((c : Thread nD τ).loc main_arg3) : (Sh2 8192 1024).Idx → EReal) (ix2 (j 0) (j 1))
          + dh (m ((c : Thread nD τ).loc main_arg0)) (m ((c : Thread nD τ).loc main_arg1)) (m ((c : Thread nD τ).loc main_arg6)) (j 0) (j 1)
            * (1 + (m ((c : Thread nD τ).loc main_arg4) : (Sh1 1024).Idx → EReal) (ix1 (j 1))))
      ∧ r.2.mem ((c.tc : Thread nD τ).loc main_v32) = (fun j : S8x1024x512.Idx =>
        gw (m ((c : Thread nD τ).loc main_arg0)) (m ((c : Thread nD τ).loc main_arg1)) (m ((c : Thread nD τ).loc main_arg2)) (m ((c : Thread nD τ).loc main_arg4))
          (m ((c : Thread nD τ).loc main_arg5)) (j 1) ⟨(j 0).val * 512 + (j 2).val, by
            have h0 : (j 0).val < 8 := (j 0).isLt
            have h2 : (j 2).val < 512 := (j 2).isLt
            omega⟩)
      ∧ r.2.mem ((c.tc : Thread nD τ).loc main_v36) = (fun j : S8x1024.Idx =>
        st (dh (m ((c : Thread nD τ).loc main_arg0)) (m ((c : Thread nD τ).loc main_arg1)) (m ((c : Thread nD τ).loc main_arg6))) (m ((c : Thread nD τ).loc main_arg2)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2.1.trans ?_, (h c).2.2.1.trans ?_, (h c).2.2.2⟩) (run m ρ)
  all_goals
    clear h
    generalize m ((c : Thread nD τ).loc main_arg0) = X0
    generalize m ((c : Thread nD τ).loc main_arg1) = X1
    generalize m ((c : Thread nD τ).loc main_arg2) = X2
    generalize m ((c : Thread nD τ).loc main_arg3) = X3
    generalize m ((c : Thread nD τ).loc main_arg4) = X4
    generalize m ((c : Thread nD τ).loc main_arg5) = X5
    generalize m ((c : Thread nD τ).loc main_arg6) = X6
    funext j
    have hw : ∀ (q : Fin 1024) (x : Fin 2048), (X6 : (Sh2 1024 4096).Idx → EReal) (ix2 q ⟨x, by omega⟩) = (X6 : (Sh2 1024 4096).Idx → EReal) (ix2 q ⟨0 + x, by omega⟩) :=
      fun q x => congrArg (fun i => (X6 : (Sh2 1024 4096).Idx → EReal) (ix2 q i)) (Fin.ext (Nat.zero_add _).symm)
  · rw [eq_ix2 j]
    generalize (j 0 : Fin _) = r
    generalize (j 1 : Fin _) = q
    pointwise
    unfold dh half
    exact Ideal.add_congr rfl (Ideal.mul_congr (Ideal.add_congr (Finset.sum_congr rfl fun x _ => Ideal.mul_congr rfl (hw q x)) rfl) rfl)
  · rw [eq_ix3 j]
    generalize (j 0 : Fin _) = k
    generalize (j 1 : Fin _) = a
    generalize (j 2 : Fin _) = b
    pointwise
    rfl
  · rw [eq_ix2 j]
    generalize (j 0 : Fin _) = r
    generalize (j 1 : Fin _) = q
    pointwise
    simp only [Fin.sum_univ_one, hw]
    unfold st dh half
    by_cases h0 : (r : ℕ) = 0
    · rw [dif_pos (by omega), if_pos h0]; rfl
    rw [dif_neg (by omega), if_neg h0]
    by_cases h1 : (r : ℕ) = 1
    · rw [dif_pos (by omega), if_pos h1]; rfl
    · rw [dif_neg (by omega), if_neg h1]
end Cert.In1RefIdeal.In
end
end
-- ==== Proof.In0.lean ====
module

public import proofs.«01_k».proof.Proof.Gen.In0Ideal.Value
public import proofs.«01_k».proof.Proof.InLib
public import Idealize.ShloMosaic.Lib.StableHlo.ReadAt

/-! What the kernel of the input product's gradient leaves in its three result arrays, at one index. -/

@[expose] public section

set_option maxRecDepth 16384
noncomputable section
open Idealize.ShloMosaic Idealize.ShloMosaic.TcCoe Idealize.SL.Sem
namespace Cert.In0Ideal.In
open Cert.In0Ideal Cert.In0Ideal.Gen Cert.In0Ideal.Value Cert.InLib
variable (m : (ℓ : Loc nD τ sig) → Buf (Elt Ideal) ℓ) (c : Dev nD) (t : Fin cfg0.N)

/-- Every window's block index at point `t`: row tile `t`, or the whole array. -/
theorem idx_val : ∀ t : Fin cfg0.N, win0_0.index t = ![t.val, 0] ∧ win0_1.index t = ![t.val, 0]
    ∧ win0_2.index t = ![t.val, 0] ∧ win0_3.index t = ![t.val, 0]
    ∧ win0_4.index t = ![0, 0] ∧ win0_5.index t = ![0, 0]
    ∧ win0_6.index t = ![0, 0, 0] ∧ win0_7.index t = ![t.val, 0] ∧ win0_8.index t = ![0, 0]
    ∧ t.val < 16 :=
  (by decide +kernel : ∀ t : Fin grid0.N, _)

/-- The run's arguments. -/
abbrev cw : (Sh2 1024 2048).Idx → EReal := m ((c : Thread nD τ).loc main_arg7)
abbrev du : (Sh2 8192 2048).Idx → EReal := m ((c : Thread nD τ).loc main_arg0)
abbrev dg : (Sh2 8192 2048).Idx → EReal := m ((c : Thread nD τ).loc main_arg1)
abbrev xx : (Sh2 8192 1024).Idx → EReal := m ((c : Thread nD τ).loc main_arg2)
abbrev dz : (Sh2 8192 1024).Idx → EReal := m ((c : Thread nD τ).loc main_arg3)
abbrev sc : (Sh1 1024).Idx → EReal := m ((c : Thread nD τ).loc main_arg4)
abbrev sh : (Sh1 1024).Idx → EReal := m ((c : Thread nD τ).loc main_arg5)
abbrev ww : (Sh2 1024 4096).Idx → EReal := m ((c : Thread nD τ).loc main_arg6)

/-- The row of the arrays that row `x` of point `t`'s blocks holds. -/
def rw_ (x : Fin 512) : Fin 8192 := ⟨t.val * 512 + x, by have := (idx_val t).2.2.2.2.2.2.2.2.2; omega⟩

theorem du_at (x : Fin 512) (q : Fin 2048) : iblk m c 0 t (ix2 x q) = du m c (ix2 (rw_ t x) q) := by
  unfold rw_ du; blk_ext [iblk, V, idx_val t]
theorem dg_at (x : Fin 512) (q : Fin 2048) : iblk m c 1 t (ix2 x q) = dg m c (ix2 (rw_ t x) q) := by
  unfold rw_ dg; blk_ext [iblk, V, idx_val t]
theorem x_at (x : Fin 512) (q : Fin 1024) : iblk m c 2 t (ix2 x q) = xx m c (ix2 (rw_ t x) q) := by
  unfold rw_ xx; blk_ext [iblk, V, idx_val t]
theorem dz_at (x : Fin 512) (q : Fin 1024) : iblk m c 3 t (ix2 x q) = dz m c (ix2 (rw_ t x) q) := by
  unfold rw_ dz; blk_ext [iblk, V, idx_val t]

theorem V_s (a : Fin 1024) : V m c main_v0 (ix2 (0 : Fin 1) a) = sc m c (ix1 a) := by
  unfold V; after_reads_at
theorem V_h (a : Fin 1024) : V m c main_v1 (ix2 (0 : Fin 1) a) = sh m c (ix1 a) := by
  unfold V; after_reads_at
theorem V_w (k : Fin 8) (a : Fin 1024) (b : Fin 512) : V m c main_v4 (ix3 k a b) = ww m c (ix2 a ⟨k * 512 + b, by omega⟩) := by
  unfold V; after_reads_at
theorem s_at (a : Fin 1024) : iblk m c 4 t (ix2 0 a) = sc m c (ix1 a) := by
  refine Eq.trans ?_ (V_s m c a); blk_ext [iblk, idx_val t]
theorem h_at (a : Fin 1024) : iblk m c 5 t (ix2 0 a) = sh m c (ix1 a) := by
  refine Eq.trans ?_ (V_h m c a); blk_ext [iblk, idx_val t]
theorem w_at (k : Fin 8) (a : Fin 1024) (b : Fin 512) : iblk m c 6 t (ix3 k a b) = ww m c (ix2 a ⟨k * 512 + b, by omega⟩) := by
  refine Eq.trans ?_ (V_w m c k a b); blk_ext [iblk, idx_val t]

/-- What point `t` adds to the weights' gradient. -/
def part (k : Fin 8) (a : Fin 1024) (b : Fin 512) : EReal :=
  ∑ x : Fin 512, ct (du m c) (dg m c) (rw_ t x) ⟨k * 512 + b, by omega⟩ * hh (xx m c) (sc m c) (sh m c) (rw_ t x) a

/-- Columns of the two upstream blocks, loaded alone. -/
theorem left_at (k : Fin 8) (o : ℕ) (inb) (x b : Fin 512) (h : (k : ℕ) * 512 = o) (ho : o + 512 ≤ 2048) :
    (iblk m c 0 t : (Sh2 512 2048).Idx → EReal) ((Rect.unit (s := S512x2048) ![0, o] ![512, 512] inb).idx (ix2 x b))
      = ct (du m c) (dg m c) (rw_ t x) ⟨k * 512 + b, by omega⟩ :=
  (col_ld _ o inb x b (by omega)).trans ((du_at m c t x _).trans (ct_left _ _ _ _ _ _ (congrArg (· + (b : ℕ)) h)).symm)
theorem right_at (k : Fin 8) (o : ℕ) (inb) (x b : Fin 512) (h : (k : ℕ) * 512 = 2048 + o) (ho : o + 512 ≤ 2048) :
    (iblk m c 1 t : (Sh2 512 2048).Idx → EReal) ((Rect.unit (s := S512x2048) ![0, o] ![512, 512] inb).idx (ix2 x b))
      = ct (du m c) (dg m c) (rw_ t x) ⟨k * 512 + b, by omega⟩ :=
  (col_ld _ o inb x b (by omega)).trans ((dg_at m c t x _).trans (ct_right _ _ _ _ _ _ (by show (k : ℕ) * 512 + b = 2048 + (o + b); omega)).symm)

/-- The product of a tile of the modulated input with a block of upstream columns. -/
theorem prod (X : (Sh2 512 1024).Idx → EReal) (S H : (Sh2 1 1024).Idx → EReal) (z : EReal) (k : Fin 8) (a : Fin 1024) (b : Fin 512)
    (hX : ∀ x, X (ix2 x a) = xx m c (ix2 (rw_ t x) a)) (hS : S (ix2 0 a) = sc m c (ix1 a)) (hH : H (ix2 0 a) = sh m c (ix1 a)) (A : Fin 512 → EReal)
    (hA : ∀ x, A x = ct (du m c) (dg m c) (rw_ t x) ⟨k * 512 + b, by omega⟩) :
    z + ∑ x : Fin 512, (X (ix2 x a) * (1 + S (ix2 0 a)) + H (ix2 0 a)) * A x = z + part m c t k a b := by
  refine congrArg (z + ·) (Finset.sum_congr rfl fun x _ => ?_)
  rw [mul_comm, hA x, hX x, hS, hH, hh]

/-- One point's eight slab stores add `part`, whatever the scratch held before. -/
theorem step (A0 A1 A2 A3 A4 A5 A6 A7 : Vec Ideal S512x512 .bf16) (G0 G1 G2 G3 G4 G5 G6 G7 : Vec Ideal S1x1024x512 .f32)
    (X : Vec Ideal S512x1024 .f32) (S H : Vec Ideal S1x1024 .f32) (k : Fin 8) (a : Fin 1024) (b : Fin 512) (z z' : EReal)
    (hX : ∀ x, X (ix2 x a) = xx m c (ix2 (rw_ t x) a)) (hS : S (ix2 0 a) = sc m c (ix1 a)) (hH : H (ix2 0 a) = sh m c (ix1 a))
    (hA : ∀ x, A0 (ix2 x b) = ct (du m c) (dg m c) (rw_ t x) ⟨0 * 512 + b, by omega⟩ ∧ A1 (ix2 x b) = ct (du m c) (dg m c) (rw_ t x) ⟨1 * 512 + b, by omega⟩
      ∧ A2 (ix2 x b) = ct (du m c) (dg m c) (rw_ t x) ⟨2 * 512 + b, by omega⟩ ∧ A3 (ix2 x b) = ct (du m c) (dg m c) (rw_ t x) ⟨3 * 512 + b, by omega⟩
      ∧ A4 (ix2 x b) = ct (du m c) (dg m c) (rw_ t x) ⟨4 * 512 + b, by omega⟩ ∧ A5 (ix2 x b) = ct (du m c) (dg m c) (rw_ t x) ⟨5 * 512 + b, by omega⟩
      ∧ A6 (ix2 x b) = ct (du m c) (dg m c) (rw_ t x) ⟨6 * 512 + b, by omega⟩ ∧ A7 (ix2 x b) = ct (du m c) (dg m c) (rw_ t x) ⟨7 * 512 + b, by omega⟩)
    (h0 : (k : ℕ) = 0 → G0 (ix3 0 a b) = z) (h1 : (k : ℕ) = 1 → G1 (ix3 0 a b) = z) (h2 : (k : ℕ) = 2 → G2 (ix3 0 a b) = z)
    (h3 : (k : ℕ) = 3 → G3 (ix3 0 a b) = z) (h4 : (k : ℕ) = 4 → G4 (ix3 0 a b) = z) (h5 : (k : ℕ) = 5 → G5 (ix3 0 a b) = z)
    (h6 : (k : ℕ) = 6 → G6 (ix3 0 a b) = z) (h7 : (k : ℕ) = 7 → G7 (ix3 0 a b) = z) :
    (if (k : ℕ) = 7 then k0_pay23 (F := Ideal) (k0_pay10 X S H) A7 G7 (ix3 0 a b)
      else if (k : ℕ) = 6 then k0_pay22 (F := Ideal) (k0_pay10 X S H) A6 G6 (ix3 0 a b)
      else if (k : ℕ) = 5 then k0_pay20 (F := Ideal) (k0_pay10 X S H) A5 G5 (ix3 0 a b)
      else if (k : ℕ) = 4 then k0_pay18 (F := Ideal) (k0_pay10 X S H) A4 G4 (ix3 0 a b)
      else if (k : ℕ) = 3 then k0_pay17 (F := Ideal) (k0_pay10 X S H) A3 G3 (ix3 0 a b)
      else if (k : ℕ) = 2 then k0_pay15 (F := Ideal) (k0_pay10 X S H) A2 G2 (ix3 0 a b)
      else if (k : ℕ) = 1 then k0_pay14 (F := Ideal) (k0_pay10 X S H) A1 (k0_pay13 G1) (constant S1024x512 .f32 0#32) (ix3 0 a b)
      else if (k : ℕ) = 0 then k0_pay11 (F := Ideal) X S H A0 G0 (ix3 0 a b) else z') = z + part m c t k a b := by
  have hp := prod m c t X S H z k a b hX hS hH
  fin_cases k
  · obtain rfl := h0 rfl; refine Eq.trans ?_ (hp (fun x => A0 (ix2 x b)) fun x => (hA x).1)
    pointwise [k0_pay11, k0_pay10, k0_pay9]
  · obtain rfl := h1 rfl; refine Eq.trans ?_ (hp (fun x => A1 (ix2 x b)) fun x => (hA x).2.1)
    pointwise [k0_pay14, k0_pay13, k0_pay10, k0_pay9]
  · obtain rfl := h2 rfl; refine Eq.trans ?_ (hp (fun x => A2 (ix2 x b)) fun x => (hA x).2.2.1)
    pointwise [k0_pay15, k0_pay10, k0_pay9]
  · obtain rfl := h3 rfl; refine Eq.trans ?_ (hp (fun x => A3 (ix2 x b)) fun x => (hA x).2.2.2.1)
    pointwise [k0_pay17, k0_pay10, k0_pay9]
  · obtain rfl := h4 rfl; refine Eq.trans ?_ (hp (fun x => A4 (ix2 x b)) fun x => (hA x).2.2.2.2.1)
    pointwise [k0_pay18, k0_pay10, k0_pay9]
  · obtain rfl := h5 rfl; refine Eq.trans ?_ (hp (fun x => A5 (ix2 x b)) fun x => (hA x).2.2.2.2.2.1)
    pointwise [k0_pay20, k0_pay10, k0_pay9]
  · obtain rfl := h6 rfl; refine Eq.trans ?_ (hp (fun x => A6 (ix2 x b)) fun x => (hA x).2.2.2.2.2.2.1)
    pointwise [k0_pay22, k0_pay10, k0_pay9]
  · obtain rfl := h7 rfl; refine Eq.trans ?_ (hp (fun x => A7 (ix2 x b)) fun x => (hA x).2.2.2.2.2.2.2)
    pointwise [k0_pay23, k0_pay10, k0_pay9]

/-- The columns the eight products load. -/
theorem cols (x b : Fin 512) : (iblk m c 0 t : (Sh2 512 2048).Idx → EReal) ((Rect.unit (s := S512x2048) ![0, 0] ![512, 512] inb_S512x2048_S512x512_0_0).idx (ix2 x b)) = ct (du m c) (dg m c) (rw_ t x) ⟨0 * 512 + b, by omega⟩
      ∧ (iblk m c 0 t : (Sh2 512 2048).Idx → EReal) ((Rect.unit (s := S512x2048) ![0, 512] ![512, 512] inb_S512x2048_S512x512_0_512).idx (ix2 x b)) = ct (du m c) (dg m c) (rw_ t x) ⟨1 * 512 + b, by omega⟩
      ∧ (iblk m c 0 t : (Sh2 512 2048).Idx → EReal) ((Rect.unit (s := S512x2048) ![0, 1024] ![512, 512] inb_S512x2048_S512x512_0_1024).idx (ix2 x b)) = ct (du m c) (dg m c) (rw_ t x) ⟨2 * 512 + b, by omega⟩
      ∧ (iblk m c 0 t : (Sh2 512 2048).Idx → EReal) ((Rect.unit (s := S512x2048) ![0, 1536] ![512, 512] inb_S512x2048_S512x512_0_1536).idx (ix2 x b)) = ct (du m c) (dg m c) (rw_ t x) ⟨3 * 512 + b, by omega⟩
      ∧ (iblk m c 1 t : (Sh2 512 2048).Idx → EReal) ((Rect.unit (s := S512x2048) ![0, 0] ![512, 512] inb_S512x2048_S512x512_0_0).idx (ix2 x b)) = ct (du m c) (dg m c) (rw_ t x) ⟨4 * 512 + b, by omega⟩
      ∧ (iblk m c 1 t : (Sh2 512 2048).Idx → EReal) ((Rect.unit (s := S512x2048) ![0, 512] ![512, 512] inb_S512x2048_S512x512_0_512).idx (ix2 x b)) = ct (du m c) (dg m c) (rw_ t x) ⟨5 * 512 + b, by omega⟩
      ∧ (iblk m c 1 t : (Sh2 512 2048).Idx → EReal) ((Rect.unit (s := S512x2048) ![0, 1024] ![512, 512] inb_S512x2048_S512x512_0_1024).idx (ix2 x b)) = ct (du m c) (dg m c) (rw_ t x) ⟨6 * 512 + b, by omega⟩
      ∧ (iblk m c 1 t : (Sh2 512 2048).Idx → EReal) ((Rect.unit (s := S512x2048) ![0, 1536] ![512, 512] inb_S512x2048_S512x512_0_1536).idx (ix2 x b)) = ct (du m c) (dg m c) (rw_ t x) ⟨7 * 512 + b, by omega⟩ :=
  ⟨left_at m c t 0 0 _ x b rfl (by decide), left_at m c t 1 512 _ x b rfl (by decide), left_at m c t 2 1024 _ x b rfl (by decide), left_at m c t 3 1536 _ x b rfl (by decide), right_at m c t 4 0 _ x b rfl (by decide), right_at m c t 5 512 _ x b rfl (by decide), right_at m c t 6 1024 _ x b rfl (by decide), right_at m c t 7 1536 _ x b rfl (by decide)⟩

theorem V_c (k : Fin 4) (a : Fin 1024) (b : Fin 512) : V m c main_v6 (ix3 k a b) = cw m c (ix2 a ⟨k * 512 + b, by omega⟩) := by
  unfold V; after_reads_at
/-- A slab of it, as the first point loads it. -/
theorem ini_at (k : Fin 8) (o : ℕ) (inb) (inb') (a : Fin 1024) (b : Fin 512) (ho : o < 4) (h : (k : ℕ) = o) :
    (View.whole cc0_scratch0).readCov (Val := Elt Ideal) [(⟨Rect.unit (s := S8x1024x512) ![0, 0, 0] ![4, 1024, 512] inb, ReadAs.same.apply (View.read (Elt Ideal) (View.whole main_v6) (V m c main_v6))⟩ : View.Piece (Elt Ideal) S8x1024x512 .f32)]
      (Rect.unit (s := S8x1024x512) ![o, 0, 0] ![1, 1024, 512] inb').toLoadRect (ix3 (0 : Fin 1) a b) = ini (cw m c) k a b := by
  unfold ini
  rw [dif_pos (by omega)]
  subst h
  refine Eq.trans ?_ (V_c m c ⟨k, ho⟩ a b)
  refine (slab_ld (View.read (Elt Ideal) (View.whole cc0_scratch0) ((View.whole cc0_scratch0).writes (Elt Ideal) (View.whole cc0_scratch0).junk _)) (k : ℕ) inb' k a b rfl).trans ?_
  exact View.read_writes_cons_unit_of_mem _ _ inb _ _ (ix3 k a b) (ix3 (⟨k, ho⟩ : Fin 4) a b) rfl
    (by intro i; fin_cases i; exacts [(Nat.zero_add _).symm, (Nat.zero_add _).symm, (Nat.zero_add _).symm])
theorem ini_zero (k : Fin 8) (a : Fin 1024) (b : Fin 512) (h : 4 ≤ (k : ℕ)) : ini (cw m c) k a b = 0 := dif_neg (by omega)

/-- The first point leaves its own part on top of it. -/
theorem acc_first (h0 : t.val % 16 = 0) (k : Fin 8) (a : Fin 1024) (b : Fin 512) :
    (outsAt0 m c t.val t.isLt).2.2.1 (ix3 k a b) = ini (cw m c) k a b + part m c t k a b := by
  rw [outsAt0_A m c t h0 (by omega)]; frame_open
  simp (disch := decide) only [↓ View.readCov_skip, ↓ View.readCov_cons_toLoadRect, ↓ View.readCov_fill]
  refine (slabs8 _ _ _ _ _ _ _ _ _ _ _ _ _ _ _ _ _ _ _ k a b).trans ?_
  frame_out
  exact step m c t _ _ _ _ _ _ _ _ _ _ _ _ _ _ _ _ _ _ _ k a b _ _ (fun x => x_at m c t x a) (s_at m c t a) (h_at m c t a) (fun x => cols m c t x b)
    (ini_at m c k 0 _ _ a b (by decide)) (ini_at m c k 1 _ _ a b (by decide)) (ini_at m c k 2 _ _ a b (by decide)) (ini_at m c k 3 _ _ a b (by decide))
    (fun h => (show k0_pay5 (F := Ideal) (ix3 0 a b) = 0 by pointwise [k0_pay5]).trans (ini_zero m c k a b (by omega)).symm)
    (fun h => (show k0_pay6 (F := Ideal) (ix3 0 a b) = 0 by pointwise [k0_pay6]).trans (ini_zero m c k a b (by omega)).symm)
    (fun h => (show k0_pay7 (F := Ideal) (ix3 0 a b) = 0 by pointwise [k0_pay7]).trans (ini_zero m c k a b (by omega)).symm)
    (fun h => (show k0_pay8 (F := Ideal) (ix3 0 a b) = 0 by pointwise [k0_pay8]).trans (ini_zero m c k a b (by omega)).symm)

/-- A slab of what the scratch held, loaded alone. -/
theorem old (Z : Vec Ideal S8x1024x512 .f32) (o : ℕ) (inb) (k : Fin 8) (a : Fin 1024) (b : Fin 512) (h : (k : ℕ) = o) :
    View.read (Elt Ideal) (View.whole cc0_scratch0) ((Memref.isWhole_whole cc0_scratch0).unread Z)
      ((Rect.unit (s := S8x1024x512) ![o, 0, 0] ![1, 1024, 512] inb).idx (ix3 (0 : Fin 1) a b)) = Z (ix3 k a b) :=
  (slab_ld (View.read (Elt Ideal) (View.whole cc0_scratch0) ((Memref.isWhole_whole cc0_scratch0).unread Z)) o inb k a b h).trans
    (congrFun (Memref.IsWhole.read_unread (Memref.isWhole_whole cc0_scratch0) Z) (ix3 k a b))

/-- Every other point adds its part to what the point before left. -/
theorem acc_next (h0 : ¬ t.val % 16 = 0) (k : Fin 8) (a : Fin 1024) (b : Fin 512) :
    (outsAt0 m c t.val t.isLt).2.2.1 (ix3 k a b)
      = (outsAt0 m c (t.val - 1) (lt_of_le_of_lt (Nat.sub_le _ _) t.isLt)).2.2.1 (ix3 k a b) + part m c t k a b := by
  by_cases h1 : t.val % 16 = 15
  · rw [outsAt0_C m c t h0 h1]; dsimp only; frame_open
    refine (slabs8 _ _ _ _ _ _ _ _ _ _ _ _ _ _ _ _ _ _ _ k a b).trans ?_
    frame_out
    exact step m c t _ _ _ _ _ _ _ _ _ _ _ _ _ _ _ _ _ _ _ k a b _ _ (fun x => x_at m c t x a) (s_at m c t a) (h_at m c t a) (fun x => cols m c t x b)
      (old _ 0 _ k a b) (old _ 1 _ k a b) (old _ 2 _ k a b) (old _ 3 _ k a b) (old _ 4 _ k a b)
      (old _ 5 _ k a b) (old _ 6 _ k a b) (old _ 7 _ k a b)
  · rw [outsAt0_B m c t h0 h1]; dsimp only; frame_open
    refine (slabs8 _ _ _ _ _ _ _ _ _ _ _ _ _ _ _ _ _ _ _ k a b).trans ?_
    frame_out
    exact step m c t _ _ _ _ _ _ _ _ _ _ _ _ _ _ _ _ _ _ _ k a b _ _ (fun x => x_at m c t x a) (s_at m c t a) (h_at m c t a) (fun x => cols m c t x b)
      (old _ 0 _ k a b) (old _ 1 _ k a b) (old _ 2 _ k a b) (old _ 3 _ k a b) (old _ 4 _ k a b)
      (old _ 5 _ k a b) (old _ 6 _ k a b) (old _ 7 _ k a b)

/-- The last point copies the scratch out. -/
theorem copied (h1 : t.val % 16 = 15) (k : Fin 8) (a : Fin 1024) (b : Fin 512) :
    ((outsAt0 m c t.val t.isLt).2.2.2 : FVec Ideal S8x1024x512 .f32) (ix3 k a b)
      = (outsAt0 m c (t.val - 1) (lt_of_le_of_lt (Nat.sub_le _ _) t.isLt)).2.2.1 (ix3 k a b) + part m c t k a b := by
  rw [outsAt0_C m c t (by omega) h1]; dsimp only; unfold hbw0_C_1
  frame_open
  refine (congrFun (View.write_whole_univ (Val := Elt Ideal) main_v7_1 _ _) (ix3 k a b)).trans ?_
  refine (slabs8 _ _ _ _ _ _ _ _ _ _ _ _ _ _ _ _ _ _ _ k a b).trans ?_
  frame_out
  exact step m c t _ _ _ _ _ _ _ _ _ _ _ _ _ _ _ _ _ _ _ k a b _ _ (fun x => x_at m c t x a) (s_at m c t a) (h_at m c t a) (fun x => cols m c t x b)
    (old _ 0 _ k a b) (old _ 1 _ k a b) (old _ 2 _ k a b) (old _ 3 _ k a b) (old _ 4 _ k a b)
    (old _ 5 _ k a b) (old _ 6 _ k a b) (old _ 7 _ k a b)

theorem slabs_w (j : Fin 1024) (b : Fin 512) : (iblk m c 6 t : (Sh3 8 1024 512).Idx → EReal) ((Rect.unit (s := S8x1024x512) ![0, 0, 0] ![1, 1024, 512] inb_S8x1024x512_S1x1024x512_0_0_0).idx (ix3 (0 : Fin 1) j b)) = ww m c (ix2 j ⟨0 * 512 + b, by omega⟩)
      ∧ (iblk m c 6 t : (Sh3 8 1024 512).Idx → EReal) ((Rect.unit (s := S8x1024x512) ![1, 0, 0] ![1, 1024, 512] inb_S8x1024x512_S1x1024x512_1_0_0).idx (ix3 (0 : Fin 1) j b)) = ww m c (ix2 j ⟨1 * 512 + b, by omega⟩)
      ∧ (iblk m c 6 t : (Sh3 8 1024 512).Idx → EReal) ((Rect.unit (s := S8x1024x512) ![2, 0, 0] ![1, 1024, 512] inb_S8x1024x512_S1x1024x512_2_0_0).idx (ix3 (0 : Fin 1) j b)) = ww m c (ix2 j ⟨2 * 512 + b, by omega⟩)
      ∧ (iblk m c 6 t : (Sh3 8 1024 512).Idx → EReal) ((Rect.unit (s := S8x1024x512) ![3, 0, 0] ![1, 1024, 512] inb_S8x1024x512_S1x1024x512_3_0_0).idx (ix3 (0 : Fin 1) j b)) = ww m c (ix2 j ⟨3 * 512 + b, by omega⟩)
      ∧ (iblk m c 6 t : (Sh3 8 1024 512).Idx → EReal) ((Rect.unit (s := S8x1024x512) ![4, 0, 0] ![1, 1024, 512] inb_S8x1024x512_S1x1024x512_4_0_0).idx (ix3 (0 : Fin 1) j b)) = ww m c (ix2 j ⟨4 * 512 + b, by omega⟩)
      ∧ (iblk m c 6 t : (Sh3 8 1024 512).Idx → EReal) ((Rect.unit (s := S8x1024x512) ![5, 0, 0] ![1, 1024, 512] inb_S8x1024x512_S1x1024x512_5_0_0).idx (ix3 (0 : Fin 1) j b)) = ww m c (ix2 j ⟨5 * 512 + b, by omega⟩)
      ∧ (iblk m c 6 t : (Sh3 8 1024 512).Idx → EReal) ((Rect.unit (s := S8x1024x512) ![6, 0, 0] ![1, 1024, 512] inb_S8x1024x512_S1x1024x512_6_0_0).idx (ix3 (0 : Fin 1) j b)) = ww m c (ix2 j ⟨6 * 512 + b, by omega⟩)
      ∧ (iblk m c 6 t : (Sh3 8 1024 512).Idx → EReal) ((Rect.unit (s := S8x1024x512) ![7, 0, 0] ![1, 1024, 512] inb_S8x1024x512_S1x1024x512_7_0_0).idx (ix3 (0 : Fin 1) j b)) = ww m c (ix2 j ⟨7 * 512 + b, by omega⟩) :=
  ⟨(slab_ld _ 0 _ 0 j b rfl).trans (w_at m c t 0 j b), (slab_ld _ 1 _ 1 j b rfl).trans (w_at m c t 1 j b), (slab_ld _ 2 _ 2 j b rfl).trans (w_at m c t 2 j b), (slab_ld _ 3 _ 3 j b rfl).trans (w_at m c t 3 j b), (slab_ld _ 4 _ 4 j b rfl).trans (w_at m c t 4 j b), (slab_ld _ 5 _ 5 j b rfl).trans (w_at m c t 5 j b), (slab_ld _ 6 _ 6 j b rfl).trans (w_at m c t 6 j b), (slab_ld _ 7 _ 7 j b rfl).trans (w_at m c t 7 j b)⟩

/-- The modulated input's gradient from eight blocks of upstream columns and of weights. -/
theorem dh_sum (A0 A1 A2 A3 A4 A5 A6 A7 B0 B1 B2 B3 B4 B5 B6 B7 : Fin 512 → EReal) (x : Fin 512) (j : Fin 1024)
    (hA : ∀ b : Fin 512, A0 b = ct (du m c) (dg m c) (rw_ t x) ⟨0 * 512 + b, by omega⟩ ∧ A1 b = ct (du m c) (dg m c) (rw_ t x) ⟨1 * 512 + b, by omega⟩ ∧ A2 b = ct (du m c) (dg m c) (rw_ t x) ⟨2 * 512 + b, by omega⟩ ∧ A3 b = ct (du m c) (dg m c) (rw_ t x) ⟨3 * 512 + b, by omega⟩ ∧ A4 b = ct (du m c) (dg m c) (rw_ t x) ⟨4 * 512 + b, by omega⟩ ∧ A5 b = ct (du m c) (dg m c) (rw_ t x) ⟨5 * 512 + b, by omega⟩ ∧ A6 b = ct (du m c) (dg m c) (rw_ t x) ⟨6 * 512 + b, by omega⟩ ∧ A7 b = ct (du m c) (dg m c) (rw_ t x) ⟨7 * 512 + b, by omega⟩)
    (hB : ∀ b : Fin 512, B0 b = ww m c (ix2 j ⟨0 * 512 + b, by omega⟩) ∧ B1 b = ww m c (ix2 j ⟨1 * 512 + b, by omega⟩) ∧ B2 b = ww m c (ix2 j ⟨2 * 512 + b, by omega⟩) ∧ B3 b = ww m c (ix2 j ⟨3 * 512 + b, by omega⟩) ∧ B4 b = ww m c (ix2 j ⟨4 * 512 + b, by omega⟩) ∧ B5 b = ww m c (ix2 j ⟨5 * 512 + b, by omega⟩) ∧ B6 b = ww m c (ix2 j ⟨6 * 512 + b, by omega⟩) ∧ B7 b = ww m c (ix2 j ⟨7 * 512 + b, by omega⟩)) :
    ∑ b, A0 b * B0 b + ∑ b, A1 b * B1 b + ∑ b, A2 b * B2 b + ∑ b, A3 b * B3 b + ∑ b, A4 b * B4 b + ∑ b, A5 b * B5 b + ∑ b, A6 b * B6 b + ∑ b, A7 b * B7 b = dh (du m c) (dg m c) (ww m c) (rw_ t x) j := by
  rw [dh_blocks, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact Finset.sum_congr rfl fun b _ => Ideal.mul_congr ((hA b).1) ((hB b).1)
  · exact Finset.sum_congr rfl fun b _ => Ideal.mul_congr ((hA b).2.1) ((hB b).2.1)
  · exact Finset.sum_congr rfl fun b _ => Ideal.mul_congr ((hA b).2.2.1) ((hB b).2.2.1)
  · exact Finset.sum_congr rfl fun b _ => Ideal.mul_congr ((hA b).2.2.2.1) ((hB b).2.2.2.1)
  · exact Finset.sum_congr rfl fun b _ => Ideal.mul_congr ((hA b).2.2.2.2.1) ((hB b).2.2.2.2.1)
  · exact Finset.sum_congr rfl fun b _ => Ideal.mul_congr ((hA b).2.2.2.2.2.1) ((hB b).2.2.2.2.2.1)
  · exact Finset.sum_congr rfl fun b _ => Ideal.mul_congr ((hA b).2.2.2.2.2.2.1) ((hB b).2.2.2.2.2.2.1)
  · exact Finset.sum_congr rfl fun b _ => Ideal.mul_congr ((hA b).2.2.2.2.2.2.2) ((hB b).2.2.2.2.2.2.2)

theorem D_at (A0 A1 A2 A3 A4 A5 A6 A7 : Vec Ideal S512x512 .bf16) (B0 B1 B2 B3 B4 B5 B6 B7 : Vec Ideal S1x1024x512 .bf16) (x : Fin 512) (j : Fin 1024)
    (hA : ∀ b : Fin 512, A0 (ix2 x b) = ct (du m c) (dg m c) (rw_ t x) ⟨0 * 512 + b, by omega⟩ ∧ A1 (ix2 x b) = ct (du m c) (dg m c) (rw_ t x) ⟨1 * 512 + b, by omega⟩ ∧ A2 (ix2 x b) = ct (du m c) (dg m c) (rw_ t x) ⟨2 * 512 + b, by omega⟩ ∧ A3 (ix2 x b) = ct (du m c) (dg m c) (rw_ t x) ⟨3 * 512 + b, by omega⟩ ∧ A4 (ix2 x b) = ct (du m c) (dg m c) (rw_ t x) ⟨4 * 512 + b, by omega⟩ ∧ A5 (ix2 x b) = ct (du m c) (dg m c) (rw_ t x) ⟨5 * 512 + b, by omega⟩ ∧ A6 (ix2 x b) = ct (du m c) (dg m c) (rw_ t x) ⟨6 * 512 + b, by omega⟩ ∧ A7 (ix2 x b) = ct (du m c) (dg m c) (rw_ t x) ⟨7 * 512 + b, by omega⟩)
    (hB : ∀ b : Fin 512, B0 (ix3 0 j b) = ww m c (ix2 j ⟨0 * 512 + b, by omega⟩) ∧ B1 (ix3 0 j b) = ww m c (ix2 j ⟨1 * 512 + b, by omega⟩) ∧ B2 (ix3 0 j b) = ww m c (ix2 j ⟨2 * 512 + b, by omega⟩) ∧ B3 (ix3 0 j b) = ww m c (ix2 j ⟨3 * 512 + b, by omega⟩) ∧ B4 (ix3 0 j b) = ww m c (ix2 j ⟨4 * 512 + b, by omega⟩) ∧ B5 (ix3 0 j b) = ww m c (ix2 j ⟨5 * 512 + b, by omega⟩) ∧ B6 (ix3 0 j b) = ww m c (ix2 j ⟨6 * 512 + b, by omega⟩) ∧ B7 (ix3 0 j b) = ww m c (ix2 j ⟨7 * 512 + b, by omega⟩)) :
    k0_pay24 (F := Ideal) (k0_pay19 (k0_pay16 (k0_pay12 A0 B0) A1 B1 A2 B2) A3 B3 A4 B4) (k0_pay21 A5 B5) A6 B6 A7 B7 (ix2 x j) = dh (du m c) (dg m c) (ww m c) (rw_ t x) j := by
  pointwise [k0_pay24, k0_pay19, k0_pay16, k0_pay12, k0_pay21]
  exact dh_sum m c t _ _ _ _ _ _ _ _ _ _ _ _ _ _ _ _ x j hA hB

/-- What point `t` leaves in the input's gradient. -/
theorem dx_at (x : Fin 512) (j : Fin 1024) : (outsAt0 m c t.val t.isLt).1 (ix2 x j)
    = Ideal.ofBits .f32 1068827891#32 * dz m c (ix2 (rw_ t x) j) + dh (du m c) (dg m c) (ww m c) (rw_ t x) j * (1 + sc m c (ix1 j)) := by
  have hd : ∀ (S : Vec Ideal S1x1024 .f32) (Z : Vec Ideal S512x1024 .f32) (D : Vec Ideal S512x1024 .f32) (e : S (ix2 0 j) = sc m c (ix1 j)) (e' : Z (ix2 x j) = dz m c (ix2 (rw_ t x) j))
      (e'' : D (ix2 x j) = dh (du m c) (dg m c) (ww m c) (rw_ t x) j), k0_pay3 (F := Ideal) (k0_pay9 S) D Z (ix2 x j)
        = Ideal.ofBits .f32 1068827891#32 * dz m c (ix2 (rw_ t x) j) + dh (du m c) (dg m c) (ww m c) (rw_ t x) j * (1 + sc m c (ix1 j)) := fun S Z D e e' e'' => by
    rw [← e, ← e', ← e'']
    pointwise [k0_pay3, k0_pay9]
  by_cases h0 : t.val % 16 = 0
  · rw [outsAt0_A m c t h0 (by omega)]; frame_out
    exact hd _ _ _ (s_at m c t j) (dz_at m c t x j) (D_at m c t _ _ _ _ _ _ _ _ _ _ _ _ _ _ _ _ x j (cols m c t x) (slabs_w m c t j))
  · by_cases h1 : t.val % 16 = 15
    · rw [outsAt0_C m c t h0 h1]; frame_out
      exact hd _ _ _ (s_at m c t j) (dz_at m c t x j) (D_at m c t _ _ _ _ _ _ _ _ _ _ _ _ _ _ _ _ x j (cols m c t x) (slabs_w m c t j))
    · rw [outsAt0_B m c t h0 h1]; frame_out
      exact hd _ _ _ (s_at m c t j) (dz_at m c t x j) (D_at m c t _ _ _ _ _ _ _ _ _ _ _ _ _ _ _ _ x j (cols m c t x) (slabs_w m c t j))

/-- What point `t` adds to the two rows of sums. -/
def sums (r : Fin 8) (j : Fin 1024) : EReal :=
  if (r : ℕ) = 0 then ∑ x : Fin 512, xx m c (ix2 (rw_ t x) j) * dh (du m c) (dg m c) (ww m c) (rw_ t x) j
  else if (r : ℕ) = 1 then ∑ x : Fin 512, dh (du m c) (dg m c) (ww m c) (rw_ t x) j else 0

/-- One point's two row stores add `sums`. -/
theorem st_step (A0 A1 A2 A3 A4 A5 A6 A7 : Vec Ideal S512x512 .bf16) (B0 B1 B2 B3 B4 B5 B6 B7 : Vec Ideal S1x1024x512 .bf16) (X : Vec Ideal S512x1024 .f32) (v0 v1 : Vec Ideal S1x1024 .f32) (j : Fin 1024)
    (hX : ∀ x, X (ix2 x j) = xx m c (ix2 (rw_ t x) j))
    (hA : ∀ (x b : Fin 512), A0 (ix2 x b) = ct (du m c) (dg m c) (rw_ t x) ⟨0 * 512 + b, by omega⟩ ∧ A1 (ix2 x b) = ct (du m c) (dg m c) (rw_ t x) ⟨1 * 512 + b, by omega⟩ ∧ A2 (ix2 x b) = ct (du m c) (dg m c) (rw_ t x) ⟨2 * 512 + b, by omega⟩ ∧ A3 (ix2 x b) = ct (du m c) (dg m c) (rw_ t x) ⟨3 * 512 + b, by omega⟩ ∧ A4 (ix2 x b) = ct (du m c) (dg m c) (rw_ t x) ⟨4 * 512 + b, by omega⟩ ∧ A5 (ix2 x b) = ct (du m c) (dg m c) (rw_ t x) ⟨5 * 512 + b, by omega⟩ ∧ A6 (ix2 x b) = ct (du m c) (dg m c) (rw_ t x) ⟨6 * 512 + b, by omega⟩ ∧ A7 (ix2 x b) = ct (du m c) (dg m c) (rw_ t x) ⟨7 * 512 + b, by omega⟩)
    (hB : ∀ b : Fin 512, B0 (ix3 0 j b) = ww m c (ix2 j ⟨0 * 512 + b, by omega⟩) ∧ B1 (ix3 0 j b) = ww m c (ix2 j ⟨1 * 512 + b, by omega⟩) ∧ B2 (ix3 0 j b) = ww m c (ix2 j ⟨2 * 512 + b, by omega⟩) ∧ B3 (ix3 0 j b) = ww m c (ix2 j ⟨3 * 512 + b, by omega⟩) ∧ B4 (ix3 0 j b) = ww m c (ix2 j ⟨4 * 512 + b, by omega⟩) ∧ B5 (ix3 0 j b) = ww m c (ix2 j ⟨5 * 512 + b, by omega⟩) ∧ B6 (ix3 0 j b) = ww m c (ix2 j ⟨6 * 512 + b, by omega⟩) ∧ B7 (ix3 0 j b) = ww m c (ix2 j ⟨7 * 512 + b, by omega⟩)) (r : Fin 8) (z : EReal) (h0 : (r : ℕ) = 0 → v0 (ix2 0 j) = z) (h1 : (r : ℕ) = 1 → v1 (ix2 0 j) = z) :
    (if (r : ℕ) = 1 then k0_pay2 (F := Ideal) (k0_pay24 (F := Ideal) (k0_pay19 (k0_pay16 (k0_pay12 A0 B0) A1 B1 A2 B2) A3 B3 A4 B4) (k0_pay21 A5 B5) A6 B6 A7 B7) v1 (ix2 0 j)
      else if (r : ℕ) = 0 then k0_pay1 (F := Ideal) (k0_pay25 v0) (k0_pay26 X (k0_pay19 (k0_pay16 (k0_pay12 A0 B0) A1 B1 A2 B2) A3 B3 A4 B4) (k0_pay21 A5 B5) A6 B6 A7 B7) (ix2 0 j)
      else z) = z + sums m c t r j := by
  have hD := fun x => D_at m c t _ _ _ _ _ _ _ _ _ _ _ _ _ _ _ _ x j (hA x) hB
  unfold sums
  by_cases e1 : (r : ℕ) = 1
  · rw [if_pos e1, if_neg (by omega), if_pos e1, ← h1 e1]
    generalize k0_pay24 (F := Ideal) _ _ _ _ _ _ = D at *
    pointwise [k0_pay2]
    exact congrArg _ (Finset.sum_congr rfl fun x _ => hD x)
  rw [if_neg e1]
  by_cases e0 : (r : ℕ) = 0
  · rw [if_pos e0, if_pos e0, ← h0 e0]
    unfold k0_pay26
    generalize k0_pay24 (F := Ideal) _ _ _ _ _ _ = D at *
    pointwise [k0_pay1, k0_pay25]
    exact congrArg _ (Finset.sum_congr rfl fun x _ => (mul_comm _ _).trans (Ideal.mul_congr (hX x) (hD x)))
  rw [if_neg e0, if_neg e0, if_neg e1, add_zero]

theorem st_first (h0 : t.val % 16 = 0) (r : Fin 8) (j : Fin 1024) : (outsAt0 m c t.val t.isLt).2.1 (ix2 r j) = 0 + sums m c t r j := by
  have hz : k0_pay4 (F := Ideal) (ix2 r j) = 0 := by pointwise [k0_pay4]
  rw [outsAt0_A m c t h0 (by omega)]; frame_open
  simp (disch := decide) only [↓ View.readCov_skip, ↓ View.readCov_cons_toLoadRect, ↓ View.readCov_fill]
  refine (row _ _ _ _ _ _ r j).trans ((congrArg _ (row _ _ _ _ _ _ r j)).trans ?_)
  frame_out
  exact (st_step m c t _ _ _ _ _ _ _ _ _ _ _ _ _ _ _ _ (iblk m c 2 t) _ _ j (fun x => x_at m c t x j) (cols m c t) (slabs_w m c t j) r (k0_pay4 (F := Ideal) (ix2 r j)) (row_ld _ 0 _ r j) (row_ld _ 1 _ r j)).trans (by rw [hz])

theorem st_next (h0 : ¬ t.val % 16 = 0) (r : Fin 8) (j : Fin 1024) : (outsAt0 m c t.val t.isLt).2.1 (ix2 r j)
    = (outsAt0 m c (t.val - 1) (lt_of_le_of_lt (Nat.sub_le _ _) t.isLt)).2.1 (ix2 r j) + sums m c t r j := by
  by_cases h1 : t.val % 16 = 15
  · rw [outsAt0_C m c t h0 h1]; frame_out
    refine (row _ _ _ _ _ _ r j).trans ((congrArg _ (row _ _ _ _ _ _ r j)).trans ?_)
    rw [View.writes_nil, Memref.IsWhole.read_unread]
    exact st_step m c t _ _ _ _ _ _ _ _ _ _ _ _ _ _ _ _ (iblk m c 2 t) _ _ j (fun x => x_at m c t x j) (cols m c t) (slabs_w m c t j) r _ (row_ld _ 0 _ r j) (row_ld _ 1 _ r j)
  · rw [outsAt0_B m c t h0 h1]; frame_out
    refine (row _ _ _ _ _ _ r j).trans ((congrArg _ (row _ _ _ _ _ _ r j)).trans ?_)
    rw [View.writes_nil, Memref.IsWhole.read_unread]
    exact st_step m c t _ _ _ _ _ _ _ _ _ _ _ _ _ _ _ _ (iblk m c 2 t) _ _ j (fun x => x_at m c t x j) (cols m c t) (slabs_w m c t j) r _ (row_ld _ 0 _ r j) (row_ld _ 1 _ r j)

/-- The tiles' rows, one tile after another, are the array's rows. -/
theorem tiles (t : Fin cfg0.N) (hf : t.val % 16 = 15) (f : Fin 8192 → EReal) :
    (∑ s : Fin 16, ∑ x : Fin 512, f (rw_ ⟨16 * (t.val / 16) + s, Pipeline.run_point_lt_of_flush t hf s⟩ x)) = ∑ r : Fin 8192, f r := by
  rw [Fin.sum_univ_tiles 16 512 rfl f]
  refine Finset.sum_congr rfl fun s _ => Finset.sum_congr rfl fun x _ => congrArg f (Fin.ext ?_)
  have ht := (idx_val t).2.2.2.2.2.2.2.2.2
  show (16 * (t.val / 16) + (s : ℕ)) * 512 + (x : ℕ) = s * 512 + x
  omega

/-- The scratch after the last point. -/
theorem gw_run (hf : t.val % 16 = 15) (k : Fin 8) (a : Fin 1024) (b : Fin 512) :
    (outsAt0 m c t.val t.isLt).2.2.1 (ix3 k a b) = ini (cw m c) k a b + gw (du m c) (dg m c) (xx m c) (sc m c) (sh m c) a ⟨k * 512 + b, by omega⟩ := by
  have hs := Pipeline.eq_sum_fin_of_reset_step_apply_of_flush (fun n h => (outsAt0 m c n h).2.2.1) 16 (fun j => ini (cw m c) (j 0) (j 1) (j 2)) (fun t j => part m c t (j 0) (j 1) (j 2))
    (fun t h j => (congrArg _ (eq_ix3 j)).trans (acc_first m c t h (j 0) (j 1) (j 2)))
    (fun t h j => by
      rw [eq_ix3 j]
      exact acc_next m c t h (j 0) (j 1) (j 2)) t hf (ix3 k a b)
  refine hs.trans ?_
  exact congrArg (ini (cw m c) k a b + ·) (tiles t hf fun r => ct (du m c) (dg m c) r ⟨k * 512 + b, by omega⟩ * hh (xx m c) (sc m c) (sh m c) r a)

/-- The weights' gradient after the run. -/
theorem gw_final (n : ℕ) (hn : n < cfg0.N) (h15 : n % 16 = 15) :
    (outsAt0 m c n hn).2.2.2 = (fun j : S8x1024x512.Idx => ini (cw m c) (j 0) (j 1) (j 2) + gw (du m c) (dg m c) (xx m c) (sc m c) (sh m c) (j 1) ⟨(j 0).val * 512 + (j 2).val, by
      have h0 : (j 0).val < 8 := (j 0).isLt
      have h2 : (j 2).val < 512 := (j 2).isLt
      omega⟩) := by
  funext j
  exact (congrArg (outsAt0 m c n hn).2.2.2 (eq_ix3 j)).trans ((copied m c ⟨n, hn⟩ h15 (j 0) (j 1) (j 2)).trans
    ((acc_next m c ⟨n, hn⟩ (by show ¬ n % 16 = 0; omega) (j 0) (j 1) (j 2)).symm.trans (gw_run m c ⟨n, hn⟩ h15 (j 0) (j 1) (j 2))))

theorem st_run (hf : t.val % 16 = 15) (r : Fin 8) (j : Fin 1024) :
    (outsAt0 m c t.val t.isLt).2.1 (ix2 r j) = st (dh (du m c) (dg m c) (ww m c)) (xx m c) r j := by
  have hs := Pipeline.eq_sum_fin_of_reset_step_apply_of_flush (fun n h => (outsAt0 m c n h).2.1) 16 (fun _ => 0) (fun t j => sums m c t (j 0) (j 1))
    (fun t h j => (congrArg _ (eq_ix2 j)).trans (st_first m c t h (j 0) (j 1)))
    (fun t h j => by
      rw [eq_ix2 j]
      exact st_next m c t h (j 0) (j 1)) t hf (ix2 r j)
  refine hs.trans ?_
  rw [zero_add]
  show ∑ s : Fin 16, sums m c ⟨16 * (t.val / 16) + s, _⟩ r j = _
  unfold sums st
  by_cases h0 : (r : ℕ) = 0
  · simp only [if_pos h0]
    exact tiles t hf fun x => xx m c (ix2 x j) * dh (du m c) (dg m c) (ww m c) x j
  simp only [if_neg h0]
  by_cases h1 : (r : ℕ) = 1
  · simp only [if_pos h1]
    exact tiles t hf fun x => dh (du m c) (dg m c) (ww m c) x j
  · simp only [if_neg h1, Finset.sum_const_zero]

/-- The two rows of sums after the run. -/
theorem st_final : (dats m 0 c).arrAt 8 (cfgs 0).N = fun j : S8x1024.Idx => st (dh (du m c) (dg m c) (ww m c)) (xx m c) (j 0) (j 1) := by
  refine (dats m 0 c).arrAt_eq_of_covers 8 _ (by decide +kernel) fun t hf y => ?_
  rw [after0_8]
  have hp := st_run m c t ((flush0_8 t).mp hf) (y 0) (y 1)
  rw [← eq_ix2 y] at hp
  have e : ((cfg0.win 8).blk t).view.emb y = y := funext (Fin.forall_fin_two.mpr ⟨Fin.ext (by blk_simp [idx_val t]), Fin.ext (by blk_simp [idx_val t])⟩)
  rw [← e] at hp
  exact (congrArg (outsAt0 m c t.val t.isLt).2.1 e.symm).trans hp

/-- The input's gradient after the run. -/
theorem dx_final : (dats m 0 c).arrAt 7 (cfgs 0).N = fun j : S8192x1024.Idx =>
    Ideal.ofBits .f32 1068827891#32 * dz m c (ix2 (j 0) (j 1)) + dh (du m c) (dg m c) (ww m c) (j 0) (j 1) * (1 + sc m c (ix1 (j 1))) := by
  refine (dats m 0 c).arrAt_eq_of_covers 7 _ (by decide +kernel) fun t hf y => ?_
  rw [after0_7]
  have hp := dx_at m c t (y 0) (y 1)
  have e0 : rw_ t (y 0) = ((cfg0.win 7).blk t).view.emb y 0 := Fin.ext (by
    show t.val * 512 + (y 0).val = _
    blk_simp [idx_val t])
  have e1 : (y 1 : Fin 1024) = ((cfg0.win 7).blk t).view.emb y 1 := Fin.ext (by blk_simp [idx_val t])
  rw [← eq_ix2 y, e0, e1] at hp
  exact hp
end Cert.In0Ideal.In
end
end
-- ==== Proof.In0Ref.lean ====
module

public import proofs.«01_k».proof.Proof.Gen.In0RefIdeal.Run
public import proofs.«01_k».proof.Proof.InLib

/-! What the reference of the input product's gradient leaves in its three results, at one index. -/

@[expose] public section

set_option maxRecDepth 16384
noncomputable section
open Idealize.ShloMosaic Idealize.ShloMosaic.TcCoe Idealize.SL.Sem
namespace Cert.In0RefIdeal.In
open Cert.In0RefIdeal Cert.In0RefIdeal.Gen Cert.In0RefIdeal.Value Cert.InLib

/-- The three results of the reference at every index, and its arguments kept. -/
theorem run_main (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = (fun j : S8192x1024.Idx =>
        Ideal.ofBits .f32 1068827891#32 * (m ((c : Thread nD τ).loc main_arg3) : (Sh2 8192 1024).Idx → EReal) (ix2 (j 0) (j 1))
          + dh (m ((c : Thread nD τ).loc main_arg0)) (m ((c : Thread nD τ).loc main_arg1)) (m ((c : Thread nD τ).loc main_arg6)) (j 0) (j 1)
            * (1 + (m ((c : Thread nD τ).loc main_arg4) : (Sh1 1024).Idx → EReal) (ix1 (j 1))))
      ∧ r.2.mem ((c.tc : Thread nD τ).loc main_v35) = (fun j : S8x1024x512.Idx =>
        ini (m ((c : Thread nD τ).loc main_arg7)) (j 0) (j 1) (j 2)
          + gw (m ((c : Thread nD τ).loc main_arg0)) (m ((c : Thread nD τ).loc main_arg1)) (m ((c : Thread nD τ).loc main_arg2)) (m ((c : Thread nD τ).loc main_arg4))
          (m ((c : Thread nD τ).loc main_arg5)) (j 1) ⟨(j 0).val * 512 + (j 2).val, by
            have h0 : (j 0).val < 8 := (j 0).isLt
            have h2 : (j 2).val < 512 := (j 2).isLt
            omega⟩)
      ∧ r.2.mem ((c.tc : Thread nD τ).loc main_v39) = (fun j : S8x1024.Idx =>
        st (dh (m ((c : Thread nD τ).loc main_arg0)) (m ((c : Thread nD τ).loc main_arg1)) (m ((c : Thread nD τ).loc main_arg6))) (m ((c : Thread nD τ).loc main_arg2)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ⟨(h c).1.trans ?_, (h c).2.1.trans ?_, (h c).2.2.1.trans ?_, (h c).2.2.2⟩) (run m ρ)
  all_goals
    clear h
    generalize m ((c : Thread nD τ).loc main_arg0) = X0
    generalize m ((c : Thread nD τ).loc main_arg1) = X1
    generalize m ((c : Thread nD τ).loc main_arg2) = X2
    generalize m ((c : Thread nD τ).loc main_arg3) = X3
    generalize m ((c : Thread nD τ).loc main_arg4) = X4
    generalize m ((c : Thread nD τ).loc main_arg5) = X5
    generalize m ((c : Thread nD τ).loc main_arg6) = X6
    generalize m ((c : Thread nD τ).loc main_arg7) = X7
    funext j
    have hw : ∀ (q : Fin 1024) (x : Fin 2048), (X6 : (Sh2 1024 4096).Idx → EReal) (ix2 q ⟨x, by omega⟩) = (X6 : (Sh2 1024 4096).Idx → EReal) (ix2 q ⟨0 + x, by omega⟩) :=
      fun q x => congrArg (fun i => (X6 : (Sh2 1024 4096).Idx → EReal) (ix2 q i)) (Fin.ext (Nat.zero_add _).symm)
  · rw [eq_ix2 j]
    generalize (j 0 : Fin _) = r
    generalize (j 1 : Fin _) = q
    pointwise
    unfold dh half
    exact Ideal.add_congr rfl (Ideal.mul_congr (Ideal.add_congr (Finset.sum_congr rfl fun x _ => Ideal.mul_congr rfl (hw q x)) rfl) rfl)
  · rw [eq_ix3 j]
    generalize (j 0 : Fin _) = k
    generalize (j 1 : Fin _) = a
    generalize (j 2 : Fin _) = b
    pointwise
    rw [add_comm]
    refine congrArg₂ (· + ·) ?_ rfl
    unfold ini
    by_cases h : (k : ℕ) < 4
    · rw [dif_pos (by omega), dif_pos h]
    · rw [dif_neg (by omega), dif_neg h]
  · rw [eq_ix2 j]
    generalize (j 0 : Fin _) = r
    generalize (j 1 : Fin _) = q
    pointwise
    simp only [Fin.sum_univ_one, hw]
    unfold st dh half
    by_cases h0 : (r : ℕ) = 0
    · rw [dif_pos (by omega), if_pos h0]; rfl
    rw [dif_neg (by omega), if_neg h0]
    by_cases h1 : (r : ℕ) = 1
    · rw [dif_pos (by omega), if_pos h1]; rfl
    · rw [dif_neg (by omega), if_neg h1]
end Cert.In0RefIdeal.In
end
end
-- ==== Proof.Out1B.lean ====
module

public import proofs.«01_k».proof.Proof.Gen.Out1BIdeal.Value
public import proofs.«01_k».proof.Proof.OutLib
public import Idealize.ShloMosaic.Lib.StableHlo.ReadAt

/-! What the kernel of the second layer's output gradient leaves in its five result arrays, at one index. -/

@[expose] public section

set_option maxRecDepth 16384
noncomputable section
open Idealize.ShloMosaic Idealize.ShloMosaic.TcCoe Idealize.SL.Sem
namespace Cert.Out1BIdeal.Out
open Cert.Out1BIdeal Cert.Out1BIdeal.Gen Cert.Out1BIdeal.Value Cert.InLib Cert.OutLib
variable (m : (ℓ : Loc nD τ sig) → Buf (Elt Ideal) ℓ) (c : Dev nD) (t : Fin cfg0.N)

/-- Every window's block index at point `t`: row tile `t`, or the whole array. -/
theorem idx_val : ∀ t : Fin cfg0.N, win0_0.index t = ![t.val, 0] ∧ win0_1.index t = ![t.val, 0]
    ∧ win0_2.index t = ![t.val, 0] ∧ win0_3.index t = ![t.val, 0]
    ∧ win0_4.index t = ![0, 0, 0] ∧ win0_5.index t = ![0, 0] ∧ win0_6.index t = ![0, 0] ∧ win0_7.index t = ![0, 0]
    ∧ win0_8.index t = ![t.val, 0] ∧ win0_9.index t = ![t.val, 0] ∧ win0_10.index t = ![0, 0]
    ∧ t.val < 16 :=
  (by decide +kernel : ∀ t : Fin grid0.N, _)

/-- The run's arguments. -/
abbrev dz : (Sh2 8192 1024).Idx → EReal := m ((c : Thread nD τ).loc main_arg0)
abbrev dm : (Sh2 8192 2048).Idx → EReal := m ((c : Thread nD τ).loc main_arg1)
abbrev gg : (Sh2 8192 2048).Idx → EReal := m ((c : Thread nD τ).loc main_arg2)
abbrev pw : (Sh3 4 512 512).Idx → EReal := m ((c : Thread nD τ).loc main_arg3)
abbrev ps : (Sh1 2048).Idx → EReal := m ((c : Thread nD τ).loc main_arg4)
abbrev gt : (Sh1 1024).Idx → EReal := m ((c : Thread nD τ).loc main_arg5)
abbrev wo : (Sh2 2048 1024).Idx → EReal := m ((c : Thread nD τ).loc main_arg6)
/-- The branch's gradient, the scaled grouped product and the gradient before the gate. -/
abbrev DB : Fin 8192 → Fin 1024 → EReal := db (gt m c) (dz m c)
abbrev YS : Fin 8192 → Fin 2048 → EReal := ysc (dm m c) (pw m c) (ps m c)
abbrev DY : Fin 8192 → Fin 2048 → EReal := dy (DB m c) (wo m c) (gg m c)

/-- The row of the arrays that row `x` of point `t`'s blocks holds. -/
def rw_ (x : Fin 512) : Fin 8192 := ⟨t.val * 512 + x, by have := (idx_val t).2.2.2.2.2.2.2.2.2.2.2; omega⟩

theorem V_m (r : Fin 8192) (q : Fin 2048) : V m c main_v0 (ix2 r q) = dm m c (ix2 r q) := by
  unfold V; after_reads_at
theorem V_g (r : Fin 8192) (q : Fin 2048) : V m c main_v7 (ix2 r q) = gg m c (ix2 r q) := by
  unfold V; after_reads_at
theorem V_w (k : Fin 4) (a b : Fin 512) : V m c main_v1 (ix3 k a b) = pw m c (ix3 k a b) := by
  unfold V; after_reads_at
theorem V_s (q : Fin 2048) : V m c main_v8 (ix2 (0 : Fin 1) q) = ps m c (ix1 q) := by
  unfold V; after_reads_at
theorem V_t (j : Fin 1024) : V m c main_v9 (ix2 (0 : Fin 1) j) = gt m c (ix1 j) := by
  unfold V; after_reads_at
theorem V_o (q : Fin 2048) (j : Fin 1024) : V m c main_v10 (ix2 q j) = wo m c (ix2 q j) := by
  unfold V; after_reads_at
theorem V_p (r : Fin 8192) (q : Fin 2048) : V m c main_v6 (ix2 r q) = po (dm m c) (pw m c) r q := by
  unfold po kk bb V; after_reads_at
  exact Finset.sum_congr rfl fun e _ => mul_comm _ _

theorem z_at (x : Fin 512) (j : Fin 1024) : iblk m c 0 t (ix2 x j) = dz m c (ix2 (rw_ t x) j) := by
  unfold rw_ dz; blk_ext [iblk, V, idx_val t]
theorem m_at (x : Fin 512) (q : Fin 2048) : iblk m c 1 t (ix2 x q) = dm m c (ix2 (rw_ t x) q) := by
  refine Eq.trans ?_ (V_m m c _ q); unfold rw_; blk_ext [iblk, idx_val t]
theorem p_at (x : Fin 512) (q : Fin 2048) : iblk m c 2 t (ix2 x q) = po (dm m c) (pw m c) (rw_ t x) q := by
  refine Eq.trans ?_ (V_p m c _ q); unfold rw_; blk_ext [iblk, idx_val t]
theorem g_at (x : Fin 512) (q : Fin 2048) : iblk m c 3 t (ix2 x q) = gg m c (ix2 (rw_ t x) q) := by
  refine Eq.trans ?_ (V_g m c _ q); unfold rw_; blk_ext [iblk, idx_val t]
theorem w_at (k : Fin 4) (a b : Fin 512) : iblk m c 4 t (ix3 k a b) = pw m c (ix3 k a b) := by
  refine Eq.trans ?_ (V_w m c k a b); blk_ext [iblk, idx_val t]
theorem s_at (q : Fin 2048) : iblk m c 5 t (ix2 0 q) = ps m c (ix1 q) := by
  refine Eq.trans ?_ (V_s m c q); blk_ext [iblk, idx_val t]
theorem t_at (j : Fin 1024) : iblk m c 6 t (ix2 0 j) = gt m c (ix1 j) := by
  refine Eq.trans ?_ (V_t m c j); blk_ext [iblk, idx_val t]
theorem o_at (q : Fin 2048) (j : Fin 1024) : iblk m c 7 t (ix2 q j) = wo m c (ix2 q j) := by
  refine Eq.trans ?_ (V_o m c q j); blk_ext [iblk, idx_val t]

/-- What the loads of group `k` hold at point `t`. -/
structure Ld (k : Fin 4) (GT : Vec Ideal S1x1024 .f32) (Z : Vec Ideal S512x1024 .f32) (A P G : Vec Ideal S512x512 .bf16) (S : Vec Ideal S1x512 .f32)
    (W : Vec Ideal S512x1024 .bf16) (PW : Vec Ideal S1x512x512 .bf16) : Prop where
  gt : ∀ j, GT (ix2 0 j) = gt m c (ix1 j)
  z : ∀ x j, Z (ix2 x j) = dz m c (ix2 (rw_ t x) j)
  a : ∀ x b, A (ix2 x b) = dm m c (ix2 (rw_ t x) (ch k b))
  p : ∀ x b, P (ix2 x b) = po (dm m c) (pw m c) (rw_ t x) (ch k b)
  g : ∀ x b, G (ix2 x b) = gg m c (ix2 (rw_ t x) (ch k b))
  s : ∀ b, S (ix2 0 b) = ps m c (ix1 (ch k b))
  w : ∀ b j, W (ix2 b j) = wo m c (ix2 (ch k b) j)
  pw : ∀ a b, PW (ix3 0 a b) = pw m c (ix3 k a b)

theorem ld (k : Fin 4) (o k' : ℕ) (ho : o = k * 512 := by rfl) (hk : (k : ℕ) = k' := by rfl)
    (i1 : ∀ a, (![0, o] : Fin 2 → ℕ) a + (![512, 512] : Fin 2 → ℕ) a ≤ S512x2048.size a := by decide)
    (i2 : ∀ a, (![0, o] : Fin 2 → ℕ) a + (![1, 512] : Fin 2 → ℕ) a ≤ S1x2048.size a := by decide)
    (i3 : ∀ a, (![o, 0] : Fin 2 → ℕ) a + (![512, 1024] : Fin 2 → ℕ) a ≤ S2048x1024.size a := by decide)
    (i4 : ∀ a, (![k', 0, 0] : Fin 3 → ℕ) a + (![1, 512, 512] : Fin 3 → ℕ) a ≤ S4x512x512.size a := by decide) :
    Ld m c t k (iblk m c 6 t) (iblk m c 0 t) (View.ld (iblk m c 1 t) (Rect.unit (s := S512x2048) ![0, o] ![512, 512] i1))
      (View.ld (iblk m c 2 t) (Rect.unit (s := S512x2048) ![0, o] ![512, 512] i1)) (View.ld (iblk m c 3 t) (Rect.unit (s := S512x2048) ![0, o] ![512, 512] i1))
      (View.ld (iblk m c 5 t) (Rect.unit (s := S1x2048) ![0, o] ![1, 512] i2)) (View.ld (iblk m c 7 t) (Rect.unit (s := S2048x1024) ![o, 0] ![512, 1024] i3))
      (View.ld (iblk m c 4 t) (Rect.unit (s := S4x512x512) ![k', 0, 0] ![1, 512, 512] i4)) :=
  ⟨t_at m c t, z_at m c t, fun x b => (cols_ld _ o i1 x k b ho).trans (m_at m c t x _), fun x b => (cols_ld _ o i1 x k b ho).trans (p_at m c t x _),
    fun x b => (cols_ld _ o i1 x k b ho).trans (g_at m c t x _), fun b => (cols_ld _ o i2 0 k b ho).trans (s_at m c t _),
    fun b j => (rows_ld _ o i3 k b j ho).trans (o_at m c t _ j), fun a b => (slab_ld _ k' i4 k a b hk).trans (w_at m c t k a b)⟩

/-- What point `t` adds to the scales', the output weights' and the grouped weights' gradients. -/
def sps (q : Fin 2048) : EReal := ∑ x : Fin 512, DY m c (rw_ t x) q * po (dm m c) (pw m c) (rw_ t x) q
def swo (q : Fin 2048) (j : Fin 1024) : EReal := ∑ x : Fin 512, YS m c (rw_ t x) q * silu (gg m c (ix2 (rw_ t x) q)) * DB m c (rw_ t x) j
def spw (k : Fin 4) (a b : Fin 512) : EReal := ∑ x : Fin 512, dm m c (ix2 (rw_ t x) (ch k a)) * (DY m c (rw_ t x) (ch k b) * ps m c (ix1 (ch k b)))

theorem grp3 {GT : Vec Ideal S1x1024 .f32} {Z : Vec Ideal S512x1024 .f32} {A P G : Vec Ideal S512x512 .bf16} {S : Vec Ideal S1x512 .f32}
    {W : Vec Ideal S512x1024 .bf16} {PW : Vec Ideal S1x512x512 .bf16} (h : Ld m c t 3 GT Z A P G S W PW) :
    (∀ x b, k0_pay3 (F := Ideal) (k0_pay58 S) (k0_pay65 (k0_pay7 GT Z) G W) PW (ix2 x b) = dd (DY m c) (pw m c) (ps m c) (rw_ t x) (ch 3 b))
    ∧ (∀ x b, k0_pay66 (F := Ideal) (k0_pay7 GT Z) (k0_pay59 P S) G W (ix2 x b) = dgate (DB m c) (wo m c) (gg m c) (YS m c) (rw_ t x) (ch 3 b))
    ∧ (∀ (V : Vec Ideal S1x512 .f32) b, k0_pay67 (F := Ideal) (k0_pay7 GT Z) (k0_pay57 P) G W V (ix2 0 b) = V (ix2 0 b) + sps m c t (ch 3 b))
    ∧ (∀ (O : Vec Ideal S512x1024 .f32) b j, k0_pay63 (F := Ideal) (k0_pay7 GT Z) (k0_pay59 P S) G O (ix2 b j) = O (ix2 b j) + swo m c t (ch 3 b) j)
    ∧ (∀ (U : Vec Ideal S1x512x512 .f32) a b, k0_pay2 (F := Ideal) (k0_pay56 A) (k0_pay58 S) (k0_pay65 (k0_pay7 GT Z) G W) U (ix3 0 a b) = U (ix3 0 a b) + spw m c t 3 a b) := by
  unfold sps swo spw dgate dd
  simp only [DY, YS, DB, dy, ysc, silu, dsilu, dp, db, kk_ch, bb_ch]
  refine ⟨fun x b => ?_, fun x b => ?_, fun V b => ?_, fun O b j => ?_, fun U a b => ?_⟩
  all_goals
    pointwise [k0_pay1, k0_pay2, k0_pay3, k0_pay7, k0_pay56, k0_pay57, k0_pay58, k0_pay59, k0_pay60, k0_pay61, k0_pay62, k0_pay63, k0_pay64, k0_pay65, k0_pay66, k0_pay67]
    simp only [h.gt, h.z, h.a, h.p, h.g, h.s, h.w, h.pw, sg_eq]

theorem grp2 {GT : Vec Ideal S1x1024 .f32} {Z : Vec Ideal S512x1024 .f32} {A P G : Vec Ideal S512x512 .bf16} {S : Vec Ideal S1x512 .f32}
    {W : Vec Ideal S512x1024 .bf16} {PW : Vec Ideal S1x512x512 .bf16} (h : Ld m c t 2 GT Z A P G S W PW) :
    (∀ x b, k0_pay55 (F := Ideal) (k0_pay43 S) (k0_pay50 (k0_pay7 GT Z) G W) PW (ix2 x b) = dd (DY m c) (pw m c) (ps m c) (rw_ t x) (ch 2 b))
    ∧ (∀ x b, k0_pay51 (F := Ideal) (k0_pay7 GT Z) P S G W (ix2 x b) = dgate (DB m c) (wo m c) (gg m c) (YS m c) (rw_ t x) (ch 2 b))
    ∧ (∀ (V : Vec Ideal S1x512 .f32) b, k0_pay52 (F := Ideal) (k0_pay42 P) (k0_pay50 (k0_pay7 GT Z) G W) V (ix2 0 b) = V (ix2 0 b) + sps m c t (ch 2 b))
    ∧ (∀ (O : Vec Ideal S512x1024 .f32) b j, k0_pay48 (F := Ideal) (k0_pay7 GT Z) P S G O (ix2 b j) = O (ix2 b j) + swo m c t (ch 2 b) j)
    ∧ (∀ (U : Vec Ideal S1x512x512 .f32) a b, k0_pay54 (F := Ideal) (k0_pay41 A) (k0_pay43 S) (k0_pay50 (k0_pay7 GT Z) G W) U (ix3 0 a b) = U (ix3 0 a b) + spw m c t 2 a b) := by
  unfold sps swo spw dgate dd
  simp only [DY, YS, DB, dy, ysc, silu, dsilu, dp, db, kk_ch, bb_ch]
  refine ⟨fun x b => ?_, fun x b => ?_, fun V b => ?_, fun O b j => ?_, fun U a b => ?_⟩
  all_goals
    pointwise [k0_pay7, k0_pay41, k0_pay42, k0_pay43, k0_pay44, k0_pay45, k0_pay46, k0_pay47, k0_pay48, k0_pay49, k0_pay50, k0_pay51, k0_pay52, k0_pay53, k0_pay54, k0_pay55]
    simp only [h.gt, h.z, h.a, h.p, h.g, h.s, h.w, h.pw, sg_eq]

theorem grp1 {GT : Vec Ideal S1x1024 .f32} {Z : Vec Ideal S512x1024 .f32} {A P G : Vec Ideal S512x512 .bf16} {S : Vec Ideal S1x512 .f32}
    {W : Vec Ideal S512x1024 .bf16} {PW : Vec Ideal S1x512x512 .bf16} (h : Ld m c t 1 GT Z A P G S W PW) :
    (∀ x b, k0_pay40 (F := Ideal) (k0_pay27 S) (k0_pay34 (k0_pay7 GT Z) G W) PW (ix2 x b) = dd (DY m c) (pw m c) (ps m c) (rw_ t x) (ch 1 b))
    ∧ (∀ x b, k0_pay36 (F := Ideal) (k0_pay29 G) (k0_pay30 G) (k0_pay35 (k0_pay7 GT Z) P S W) (FloatOps.ofBits FTy.f32 1065353216#32) (ix2 x b) = dgate (DB m c) (wo m c) (gg m c) (YS m c) (rw_ t x) (ch 1 b))
    ∧ (∀ (V : Vec Ideal S1x512 .f32) b, k0_pay37 (F := Ideal) (k0_pay26 P) (k0_pay34 (k0_pay7 GT Z) G W) V (ix2 0 b) = V (ix2 0 b) + sps m c t (ch 1 b))
    ∧ (∀ (O : Vec Ideal S512x1024 .f32) b j, k0_pay32 (F := Ideal) (k0_pay7 GT Z) P S G O (ix2 b j) = O (ix2 b j) + swo m c t (ch 1 b) j)
    ∧ (∀ (U : Vec Ideal S1x512x512 .f32) a b, k0_pay39 (F := Ideal) (k0_pay25 A) (k0_pay27 S) (k0_pay34 (k0_pay7 GT Z) G W) U (ix3 0 a b) = U (ix3 0 a b) + spw m c t 1 a b) := by
  unfold sps swo spw dgate dd
  simp only [DY, YS, DB, dy, ysc, silu, dsilu, dp, db, kk_ch, bb_ch]
  refine ⟨fun x b => ?_, fun x b => ?_, fun V b => ?_, fun O b j => ?_, fun U a b => ?_⟩
  all_goals
    pointwise [k0_pay7, k0_pay25, k0_pay26, k0_pay27, k0_pay28, k0_pay29, k0_pay30, k0_pay31, k0_pay32, k0_pay33, k0_pay34, k0_pay35, k0_pay36, k0_pay37, k0_pay38, k0_pay39, k0_pay40]
    simp only [h.gt, h.z, h.a, h.p, h.g, h.s, h.w, h.pw, sg_eq]

theorem grp0 {GT : Vec Ideal S1x1024 .f32} {Z : Vec Ideal S512x1024 .f32} {A P G : Vec Ideal S512x512 .bf16} {S : Vec Ideal S1x512 .f32}
    {W : Vec Ideal S512x1024 .bf16} {PW : Vec Ideal S1x512x512 .bf16} (h : Ld m c t 0 GT Z A P G S W PW) :
    (∀ x b, k0_pay24 (F := Ideal) (k0_pay21 (k0_pay7 GT Z) (k0_pay10 S) (k0_pay14 G) W) (k0_pay23 PW) (ix2 x b) = dd (DY m c) (pw m c) (ps m c) (rw_ t x) (ch 0 b))
    ∧ (∀ x b, k0_pay19 (F := Ideal) (k0_pay7 GT Z) (k0_pay11 P S) (k0_pay12 G) (k0_pay13 G) W (ix2 x b) = dgate (DB m c) (wo m c) (gg m c) (YS m c) (rw_ t x) (ch 0 b))
    ∧ (∀ (V : Vec Ideal S1x512 .f32) b, k0_pay20 (F := Ideal) (k0_pay7 GT Z) (k0_pay9 P) (k0_pay14 G) W V (ix2 0 b) = V (ix2 0 b) + sps m c t (ch 0 b))
    ∧ (∀ (O : Vec Ideal S512x1024 .f32) b j, k0_pay16 (F := Ideal) (k0_pay15 GT Z P S G O) (ix2 b j) = O (ix2 b j) + swo m c t (ch 0 b) j)
    ∧ (∀ (U : Vec Ideal S1x512x512 .f32) a b, k0_pay22 (F := Ideal) (k0_pay7 GT Z) (k0_pay8 A) (k0_pay10 S) (k0_pay14 G) W U (ix3 0 a b) = U (ix3 0 a b) + spw m c t 0 a b) := by
  unfold sps swo spw dgate dd
  simp only [DY, YS, DB, dy, ysc, silu, dsilu, dp, db, kk_ch, bb_ch]
  refine ⟨fun x b => ?_, fun x b => ?_, fun V b => ?_, fun O b j => ?_, fun U a b => ?_⟩
  all_goals
    pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    simp only [h.gt, h.z, h.a, h.p, h.g, h.s, h.w, h.pw, sg_eq]

/-- What point `t` leaves in the grouped product's input's gradient. -/
theorem dd_at_ch (x : Fin 512) (k : Fin 4) (b : Fin 512) : (outsAt0 m c t.val t.isLt).1 (ix2 x (ch k b)) = dd (DY m c) (pw m c) (ps m c) (rw_ t x) (ch k b) := by
  by_cases h0 : t.val % 16 = 0
  on_goal 2 => by_cases h1 : t.val % 16 = 15
  on_goal 1 => rw [outsAt0_A m c t h0 (by omega)]
  on_goal 2 => rw [outsAt0_C m c t h0 h1]
  on_goal 3 => rw [outsAt0_B m c t h0 h1]
  all_goals
    dsimp only; frame_open
    refine (cols4 _ _ _ _ _ _ _ _ _ _ _ x k b).trans ?_
    frame_out
    exact pick4 k.isLt
      (fun e => by obtain rfl : k = 3 := Fin.ext e; exact (grp3 m c t (ld m c t 3 1536 3)).1 x b)
      (fun e => by obtain rfl : k = 2 := Fin.ext e; exact (grp2 m c t (ld m c t 2 1024 2)).1 x b)
      (fun e => by obtain rfl : k = 1 := Fin.ext e; exact (grp1 m c t (ld m c t 1 512 1)).1 x b)
      (fun e => by obtain rfl : k = 0 := Fin.ext e; exact (grp0 m c t (ld m c t 0 0 0)).1 x b)

/-- What point `t` leaves in the gate's gradient. -/
theorem dg_at_ch (x : Fin 512) (k : Fin 4) (b : Fin 512) : (outsAt0 m c t.val t.isLt).2.1 (ix2 x (ch k b)) = dgate (DB m c) (wo m c) (gg m c) (YS m c) (rw_ t x) (ch k b) := by
  by_cases h0 : t.val % 16 = 0
  on_goal 2 => by_cases h1 : t.val % 16 = 15
  on_goal 1 => rw [outsAt0_A m c t h0 (by omega)]
  on_goal 2 => rw [outsAt0_C m c t h0 h1]
  on_goal 3 => rw [outsAt0_B m c t h0 h1]
  all_goals
    dsimp only; frame_open
    refine (cols4 _ _ _ _ _ _ _ _ _ _ _ x k b).trans ?_
    frame_out
    exact pick4 k.isLt
      (fun e => by obtain rfl : k = 3 := Fin.ext e; exact (grp3 m c t (ld m c t 3 1536 3)).2.1 x b)
      (fun e => by obtain rfl : k = 2 := Fin.ext e; exact (grp2 m c t (ld m c t 2 1024 2)).2.1 x b)
      (fun e => by obtain rfl : k = 1 := Fin.ext e; exact (grp1 m c t (ld m c t 1 512 1)).2.1 x b)
      (fun e => by obtain rfl : k = 0 := Fin.ext e; exact (grp0 m c t (ld m c t 0 0 0)).2.1 x b)

/-- What the point before left. -/
abbrev prev := outsAt0 m c (t.val - 1) (lt_of_le_of_lt (Nat.sub_le _ _) t.isLt)

/-- The first row's sums at point `t`. -/
def spr (r : Fin 8) (q : Fin 2048) : EReal := if (r : ℕ) = 0 then sps m c t q else 0

theorem ps_first_ch (h0 : t.val % 16 = 0) (r : Fin 8) (k : Fin 4) (b : Fin 512) : (outsAt0 m c t.val t.isLt).2.2.1 (ix2 r (ch k b)) = 0 + spr m c t r (ch k b) := by
  refine Eq.trans ?_ (congrArg (· + spr m c t r (ch k b)) (show k0_pay6 (F := Ideal) (ix2 r (ch k b)) = 0 by pointwise [k0_pay6]))
  rw [outsAt0_A m c t h0 (by omega)]; dsimp only; frame_open
  simp (disch := decide) only [↓ View.readCov_skip, ↓ View.readCov_cons_toLoadRect, ↓ View.readCov_fill]
  refine (head4 _ _ _ _ _ _ _ _ _ _ _ r k b).trans ?_
  frame_out
  unfold spr
  refine pickh k.isLt
    (fun z e => by obtain rfl : k = 3 := Fin.ext e; rw [if_pos z]; exact ((grp3 m c t (ld m c t 3 1536 3)).2.2.1 _ b).trans (Ideal.add_congr (head_ld _ 1536 _ r 3 b z rfl) rfl))
    (fun z e => by obtain rfl : k = 2 := Fin.ext e; rw [if_pos z]; exact ((grp2 m c t (ld m c t 2 1024 2)).2.2.1 _ b).trans (Ideal.add_congr (head_ld _ 1024 _ r 2 b z rfl) rfl))
    (fun z e => by obtain rfl : k = 1 := Fin.ext e; rw [if_pos z]; exact ((grp1 m c t (ld m c t 1 512 1)).2.2.1 _ b).trans (Ideal.add_congr (head_ld _ 512 _ r 1 b z rfl) rfl))
    (fun z e => by obtain rfl : k = 0 := Fin.ext e; rw [if_pos z]; exact ((grp0 m c t (ld m c t 0 0 0)).2.2.1 _ b).trans (Ideal.add_congr (head_ld _ 0 _ r 0 b z rfl) rfl))
    (fun z => by rw [if_neg z, add_zero])

theorem ps_next_ch (h0 : ¬ t.val % 16 = 0) (r : Fin 8) (k : Fin 4) (b : Fin 512) : (outsAt0 m c t.val t.isLt).2.2.1 (ix2 r (ch k b))
    = (prev m c t).2.2.1 (ix2 r (ch k b)) + spr m c t r (ch k b) := by
  by_cases h1 : t.val % 16 = 15
  on_goal 1 => rw [outsAt0_C m c t h0 h1]
  on_goal 2 => rw [outsAt0_B m c t h0 h1]
  all_goals
    dsimp only; frame_open
    refine (head4 _ _ _ _ _ _ _ _ _ _ _ r k b).trans ?_
    frame_out
    unfold spr
    refine pickh k.isLt
      (fun z e => by obtain rfl : k = 3 := Fin.ext e; rw [if_pos z]; exact ((grp3 m c t (ld m c t 3 1536 3)).2.2.1 _ b).trans (Ideal.add_congr (head_ld _ 1536 _ r 3 b z rfl) rfl))
      (fun z e => by obtain rfl : k = 2 := Fin.ext e; rw [if_pos z]; exact ((grp2 m c t (ld m c t 2 1024 2)).2.2.1 _ b).trans (Ideal.add_congr (head_ld _ 1024 _ r 2 b z rfl) rfl))
      (fun z e => by obtain rfl : k = 1 := Fin.ext e; rw [if_pos z]; exact ((grp1 m c t (ld m c t 1 512 1)).2.2.1 _ b).trans (Ideal.add_congr (head_ld _ 512 _ r 1 b z rfl) rfl))
      (fun z e => by obtain rfl : k = 0 := Fin.ext e; rw [if_pos z]; exact ((grp0 m c t (ld m c t 0 0 0)).2.2.1 _ b).trans (Ideal.add_congr (head_ld _ 0 _ r 0 b z rfl) rfl))
      (fun z => by rw [if_neg z, add_zero, View.writes_nil, Memref.IsWhole.read_unread])

/-- Rows and slabs of what the scratch held, loaded alone. -/
theorem old_rows (Z : Vec Ideal S2048x1024 .f32) (o : ℕ) (inb) (k : Fin 4) (b : Fin 512) (j : Fin 1024) (h : o = k * 512) :
    View.read (Elt Ideal) (View.whole cc0_scratch0) ((Memref.isWhole_whole cc0_scratch0).unread Z)
      ((Rect.unit (s := S2048x1024) ![o, 0] ![512, 1024] inb).idx (ix2 b j)) = Z (ix2 (ch k b) j) :=
  (rows_ld (View.read (Elt Ideal) (View.whole cc0_scratch0) ((Memref.isWhole_whole cc0_scratch0).unread Z)) o inb k b j h).trans
    (congrFun (Memref.IsWhole.read_unread (Memref.isWhole_whole cc0_scratch0) Z) (ix2 (ch k b) j))
theorem old_slab (Z : Vec Ideal S4x512x512 .f32) (o : ℕ) (inb) (k : Fin 4) (a b : Fin 512) (h : (k : ℕ) = o) :
    View.read (Elt Ideal) (View.whole cc0_scratch1) ((Memref.isWhole_whole cc0_scratch1).unread Z)
      ((Rect.unit (s := S4x512x512) ![o, 0, 0] ![1, 512, 512] inb).idx (ix3 (0 : Fin 1) a b)) = Z (ix3 k a b) :=
  (slab_ld (View.read (Elt Ideal) (View.whole cc0_scratch1) ((Memref.isWhole_whole cc0_scratch1).unread Z)) o inb k a b h).trans
    (congrFun (Memref.IsWhole.read_unread (Memref.isWhole_whole cc0_scratch1) Z) (ix3 k a b))

theorem wo_first_ch (h0 : t.val % 16 = 0) (k : Fin 4) (b : Fin 512) (j : Fin 1024) : (outsAt0 m c t.val t.isLt).2.2.2.1 (ix2 (ch k b) j) = 0 + swo m c t (ch k b) j := by
  rw [outsAt0_A m c t h0 (by omega)]; dsimp only; frame_open
  simp (disch := decide) only [↓ View.readCov_skip, ↓ View.readCov_cons_toLoadRect, ↓ View.readCov_fill]
  refine (rows4 _ _ _ _ _ _ _ _ _ _ _ k b j).trans ?_
  frame_out
  refine Eq.trans ?_ (congrArg (· + _) (show k0_pay4 (F := Ideal) (ix2 (ch k b) j) = 0 by pointwise [k0_pay4]))
  exact pick4 k.isLt
    (fun e => by obtain rfl : k = 3 := Fin.ext e; exact ((grp3 m c t (ld m c t 3 1536 3)).2.2.2.1 _ b j).trans (Ideal.add_congr (rows_ld _ 1536 _ 3 b j rfl) rfl))
    (fun e => by obtain rfl : k = 2 := Fin.ext e; exact ((grp2 m c t (ld m c t 2 1024 2)).2.2.2.1 _ b j).trans (Ideal.add_congr (rows_ld _ 1024 _ 2 b j rfl) rfl))
    (fun e => by obtain rfl : k = 1 := Fin.ext e; exact ((grp1 m c t (ld m c t 1 512 1)).2.2.2.1 _ b j).trans (Ideal.add_congr (rows_ld _ 512 _ 1 b j rfl) rfl))
    (fun e => by obtain rfl : k = 0 := Fin.ext e; exact ((grp0 m c t (ld m c t 0 0 0)).2.2.2.1 _ b j).trans (Ideal.add_congr (rows_ld _ 0 _ 0 b j rfl) rfl))

theorem wo_next_ch (h0 : ¬ t.val % 16 = 0) (k : Fin 4) (b : Fin 512) (j : Fin 1024) : (outsAt0 m c t.val t.isLt).2.2.2.1 (ix2 (ch k b) j)
    = (prev m c t).2.2.2.1 (ix2 (ch k b) j) + swo m c t (ch k b) j := by
  by_cases h1 : t.val % 16 = 15
  on_goal 1 => rw [outsAt0_C m c t h0 h1]
  on_goal 2 => rw [outsAt0_B m c t h0 h1]
  all_goals
    dsimp only; frame_open
    refine (rows4 _ _ _ _ _ _ _ _ _ _ _ k b j).trans ?_
    frame_out
    exact pick4 k.isLt
      (fun e => by obtain rfl : k = 3 := Fin.ext e; exact ((grp3 m c t (ld m c t 3 1536 3)).2.2.2.1 _ b j).trans (Ideal.add_congr (old_rows _ 1536 _ 3 b j rfl) rfl))
      (fun e => by obtain rfl : k = 2 := Fin.ext e; exact ((grp2 m c t (ld m c t 2 1024 2)).2.2.2.1 _ b j).trans (Ideal.add_congr (old_rows _ 1024 _ 2 b j rfl) rfl))
      (fun e => by obtain rfl : k = 1 := Fin.ext e; exact ((grp1 m c t (ld m c t 1 512 1)).2.2.2.1 _ b j).trans (Ideal.add_congr (old_rows _ 512 _ 1 b j rfl) rfl))
      (fun e => by obtain rfl : k = 0 := Fin.ext e; exact ((grp0 m c t (ld m c t 0 0 0)).2.2.2.1 _ b j).trans (Ideal.add_congr (old_rows _ 0 _ 0 b j rfl) rfl))

theorem pw_first (h0 : t.val % 16 = 0) (k : Fin 4) (a b : Fin 512) : (outsAt0 m c t.val t.isLt).2.2.2.2.1 (ix3 k a b) = 0 + spw m c t k a b := by
  rw [outsAt0_A m c t h0 (by omega)]; dsimp only; frame_open
  simp (disch := decide) only [↓ View.readCov_skip, ↓ View.readCov_cons_toLoadRect, ↓ View.readCov_fill]
  refine (slabs _ _ _ _ _ _ _ _ _ _ _ k a b).trans ?_
  frame_out
  refine Eq.trans ?_ (congrArg (· + _) (show k0_pay5 (F := Ideal) (ix3 k a b) = 0 by pointwise [k0_pay5]))
  exact pick4 k.isLt
    (fun e => by obtain rfl : k = 3 := Fin.ext e; exact ((grp3 m c t (ld m c t 3 1536 3)).2.2.2.2 _ a b).trans (Ideal.add_congr (slab_ld _ 3 _ 3 a b rfl) rfl))
    (fun e => by obtain rfl : k = 2 := Fin.ext e; exact ((grp2 m c t (ld m c t 2 1024 2)).2.2.2.2 _ a b).trans (Ideal.add_congr (slab_ld _ 2 _ 2 a b rfl) rfl))
    (fun e => by obtain rfl : k = 1 := Fin.ext e; exact ((grp1 m c t (ld m c t 1 512 1)).2.2.2.2 _ a b).trans (Ideal.add_congr (slab_ld _ 1 _ 1 a b rfl) rfl))
    (fun e => by obtain rfl : k = 0 := Fin.ext e; exact ((grp0 m c t (ld m c t 0 0 0)).2.2.2.2 _ a b).trans (Ideal.add_congr (slab_ld _ 0 _ 0 a b rfl) rfl))

theorem pw_next (h0 : ¬ t.val % 16 = 0) (k : Fin 4) (a b : Fin 512) : (outsAt0 m c t.val t.isLt).2.2.2.2.1 (ix3 k a b)
    = (prev m c t).2.2.2.2.1 (ix3 k a b) + spw m c t k a b := by
  by_cases h1 : t.val % 16 = 15
  on_goal 1 => rw [outsAt0_C m c t h0 h1]
  on_goal 2 => rw [outsAt0_B m c t h0 h1]
  all_goals
    dsimp only; frame_open
    refine (slabs _ _ _ _ _ _ _ _ _ _ _ k a b).trans ?_
    frame_out
    exact pick4 k.isLt
      (fun e => by obtain rfl : k = 3 := Fin.ext e; exact ((grp3 m c t (ld m c t 3 1536 3)).2.2.2.2 _ a b).trans (Ideal.add_congr (old_slab _ 3 _ 3 a b rfl) rfl))
      (fun e => by obtain rfl : k = 2 := Fin.ext e; exact ((grp2 m c t (ld m c t 2 1024 2)).2.2.2.2 _ a b).trans (Ideal.add_congr (old_slab _ 2 _ 2 a b rfl) rfl))
      (fun e => by obtain rfl : k = 1 := Fin.ext e; exact ((grp1 m c t (ld m c t 1 512 1)).2.2.2.2 _ a b).trans (Ideal.add_congr (old_slab _ 1 _ 1 a b rfl) rfl))
      (fun e => by obtain rfl : k = 0 := Fin.ext e; exact ((grp0 m c t (ld m c t 0 0 0)).2.2.2.2 _ a b).trans (Ideal.add_congr (old_slab _ 0 _ 0 a b rfl) rfl))

/-- The last point copies both scratches out. -/
theorem wo_copied_ch (h1 : t.val % 16 = 15) (k : Fin 4) (b : Fin 512) (j : Fin 1024) : ((outsAt0 m c t.val t.isLt).2.2.2.2.2.1 : FVec Ideal S2048x1024 .f32) (ix2 (ch k b) j)
    = (prev m c t).2.2.2.1 (ix2 (ch k b) j) + swo m c t (ch k b) j := by
  rw [outsAt0_C m c t (by omega) h1]; dsimp only; unfold hbw0_C_0
  frame_open
  refine (congrFun (View.write_whole_univ (Val := Elt Ideal) main_v11_2 _ _) (ix2 (ch k b) j)).trans ?_
  refine (rows4 _ _ _ _ _ _ _ _ _ _ _ k b j).trans ?_
  frame_out
  exact pick4 k.isLt
    (fun e => by obtain rfl : k = 3 := Fin.ext e; exact ((grp3 m c t (ld m c t 3 1536 3)).2.2.2.1 _ b j).trans (Ideal.add_congr (old_rows _ 1536 _ 3 b j rfl) rfl))
    (fun e => by obtain rfl : k = 2 := Fin.ext e; exact ((grp2 m c t (ld m c t 2 1024 2)).2.2.2.1 _ b j).trans (Ideal.add_congr (old_rows _ 1024 _ 2 b j rfl) rfl))
    (fun e => by obtain rfl : k = 1 := Fin.ext e; exact ((grp1 m c t (ld m c t 1 512 1)).2.2.2.1 _ b j).trans (Ideal.add_congr (old_rows _ 512 _ 1 b j rfl) rfl))
    (fun e => by obtain rfl : k = 0 := Fin.ext e; exact ((grp0 m c t (ld m c t 0 0 0)).2.2.2.1 _ b j).trans (Ideal.add_congr (old_rows _ 0 _ 0 b j rfl) rfl))

theorem pw_copied (h1 : t.val % 16 = 15) (k : Fin 4) (a b : Fin 512) : ((outsAt0 m c t.val t.isLt).2.2.2.2.2.2 : FVec Ideal S4x512x512 .f32) (ix3 k a b)
    = (prev m c t).2.2.2.2.1 (ix3 k a b) + spw m c t k a b := by
  rw [outsAt0_C m c t (by omega) h1]; dsimp only; unfold hbw0_C_1
  frame_open
  refine (congrFun (View.write_whole_univ (Val := Elt Ideal) main_v11_3 _ _) (ix3 k a b)).trans ?_
  refine (slabs _ _ _ _ _ _ _ _ _ _ _ k a b).trans ?_
  frame_out
  exact pick4 k.isLt
    (fun e => by obtain rfl : k = 3 := Fin.ext e; exact ((grp3 m c t (ld m c t 3 1536 3)).2.2.2.2 _ a b).trans (Ideal.add_congr (old_slab _ 3 _ 3 a b rfl) rfl))
    (fun e => by obtain rfl : k = 2 := Fin.ext e; exact ((grp2 m c t (ld m c t 2 1024 2)).2.2.2.2 _ a b).trans (Ideal.add_congr (old_slab _ 2 _ 2 a b rfl) rfl))
    (fun e => by obtain rfl : k = 1 := Fin.ext e; exact ((grp1 m c t (ld m c t 1 512 1)).2.2.2.2 _ a b).trans (Ideal.add_congr (old_slab _ 1 _ 1 a b rfl) rfl))
    (fun e => by obtain rfl : k = 0 := Fin.ext e; exact ((grp0 m c t (ld m c t 0 0 0)).2.2.2.2 _ a b).trans (Ideal.add_congr (old_slab _ 0 _ 0 a b rfl) rfl))

/-! The same at every channel. -/

theorem dd_at (x : Fin 512) (q : Fin 2048) : (outsAt0 m c t.val t.isLt).1 (ix2 x q) = dd (DY m c) (pw m c) (ps m c) (rw_ t x) q :=
  by_ch (P := fun q => (outsAt0 m c t.val t.isLt).1 (ix2 x q) = dd (DY m c) (pw m c) (ps m c) (rw_ t x) q) (fun k b => dd_at_ch m c t x k b) q
theorem dg_at (x : Fin 512) (q : Fin 2048) : (outsAt0 m c t.val t.isLt).2.1 (ix2 x q) = dgate (DB m c) (wo m c) (gg m c) (YS m c) (rw_ t x) q :=
  by_ch (P := fun q => (outsAt0 m c t.val t.isLt).2.1 (ix2 x q) = dgate (DB m c) (wo m c) (gg m c) (YS m c) (rw_ t x) q) (fun k b => dg_at_ch m c t x k b) q
theorem ps_first (h0 : t.val % 16 = 0) (r : Fin 8) (q : Fin 2048) : (outsAt0 m c t.val t.isLt).2.2.1 (ix2 r q) = 0 + spr m c t r q :=
  by_ch (P := fun q => (outsAt0 m c t.val t.isLt).2.2.1 (ix2 r q) = 0 + spr m c t r q) (fun k b => ps_first_ch m c t h0 r k b) q
theorem ps_next (h0 : ¬ t.val % 16 = 0) (r : Fin 8) (q : Fin 2048) : (outsAt0 m c t.val t.isLt).2.2.1 (ix2 r q)
    = (prev m c t).2.2.1 (ix2 r q) + spr m c t r q :=
  by_ch (P := fun q => (outsAt0 m c t.val t.isLt).2.2.1 (ix2 r q)
    = (prev m c t).2.2.1 (ix2 r q) + spr m c t r q) (fun k b => ps_next_ch m c t h0 r k b) q
theorem wo_first (h0 : t.val % 16 = 0) (q : Fin 2048) (j : Fin 1024) : (outsAt0 m c t.val t.isLt).2.2.2.1 (ix2 q j) = 0 + swo m c t q j :=
  by_ch (P := fun q => (outsAt0 m c t.val t.isLt).2.2.2.1 (ix2 q j) = 0 + swo m c t q j) (fun k b => wo_first_ch m c t h0 k b j) q
theorem wo_next (h0 : ¬ t.val % 16 = 0) (q : Fin 2048) (j : Fin 1024) : (outsAt0 m c t.val t.isLt).2.2.2.1 (ix2 q j)
    = (prev m c t).2.2.2.1 (ix2 q j) + swo m c t q j :=
  by_ch (P := fun q => (outsAt0 m c t.val t.isLt).2.2.2.1 (ix2 q j)
    = (prev m c t).2.2.2.1 (ix2 q j) + swo m c t q j) (fun k b => wo_next_ch m c t h0 k b j) q
theorem wo_copied (h1 : t.val % 16 = 15) (q : Fin 2048) (j : Fin 1024) : ((outsAt0 m c t.val t.isLt).2.2.2.2.2.1 : FVec Ideal S2048x1024 .f32) (ix2 q j)
    = (prev m c t).2.2.2.1 (ix2 q j) + swo m c t q j :=
  by_ch (P := fun q => ((outsAt0 m c t.val t.isLt).2.2.2.2.2.1 : FVec Ideal S2048x1024 .f32) (ix2 q j)
    = (prev m c t).2.2.2.1 (ix2 q j) + swo m c t q j) (fun k b => wo_copied_ch m c t h1 k b j) q

/-- The tiles' rows, one tile after another, are the array's rows. -/
theorem tiles (t : Fin cfg0.N) (hf : t.val % 16 = 15) (f : Fin 8192 → EReal) :
    (∑ s : Fin 16, ∑ x : Fin 512, f (rw_ ⟨16 * (t.val / 16) + s, Pipeline.run_point_lt_of_flush t hf s⟩ x)) = ∑ r : Fin 8192, f r := by
  rw [Fin.sum_univ_tiles 16 512 rfl f]
  refine Finset.sum_congr rfl fun s _ => Finset.sum_congr rfl fun x _ => congrArg f (Fin.ext ?_)
  have ht := (idx_val t).2.2.2.2.2.2.2.2.2.2.2
  show (16 * (t.val / 16) + (s : ℕ)) * 512 + (x : ℕ) = s * 512 + x
  omega

/-- The two scratches and the first row's sums after the last point. -/
theorem wo_run (hf : t.val % 16 = 15) (q : Fin 2048) (j : Fin 1024) :
    (outsAt0 m c t.val t.isLt).2.2.2.1 (ix2 q j) = gwo (DB m c) (gg m c) (YS m c) q j := by
  have hs := Pipeline.eq_sum_fin_of_reset_step_apply_of_flush (fun n h => (outsAt0 m c n h).2.2.2.1) 16 (fun _ => 0) (fun t j => swo m c t (j 0) (j 1))
    (fun t h j => by
      rw [eq_ix2 j]
      exact wo_first m c t h (j 0) (j 1))
    (fun t h j => by
      rw [eq_ix2 j]
      exact wo_next m c t h (j 0) (j 1)) t hf (ix2 q j)
  refine hs.trans ?_
  rw [zero_add]
  exact tiles t hf fun r => YS m c r q * silu (gg m c (ix2 r q)) * DB m c r j

theorem pw_run (hf : t.val % 16 = 15) (k : Fin 4) (a b : Fin 512) :
    (outsAt0 m c t.val t.isLt).2.2.2.2.1 (ix3 k a b) = gpw (DY m c) (dm m c) (ps m c) k a b := by
  have hs := Pipeline.eq_sum_fin_of_reset_step_apply_of_flush (fun n h => (outsAt0 m c n h).2.2.2.2.1) 16 (fun _ => 0) (fun t j => spw m c t (j 0) (j 1) (j 2))
    (fun t h j => (congrArg _ (eq_ix3 j)).trans (pw_first m c t h (j 0) (j 1) (j 2)))
    (fun t h j => by
      rw [eq_ix3 j]
      exact pw_next m c t h (j 0) (j 1) (j 2)) t hf (ix3 k a b)
  refine hs.trans ?_
  rw [zero_add]
  exact tiles t hf fun r => dm m c (ix2 r (ch k a)) * (DY m c r (ch k b) * ps m c (ix1 (ch k b)))

theorem ps_run (hf : t.val % 16 = 15) (r : Fin 8) (q : Fin 2048) :
    (outsAt0 m c t.val t.isLt).2.2.1 (ix2 r q) = gps (DY m c) (po (dm m c) (pw m c)) r q := by
  have hs := Pipeline.eq_sum_fin_of_reset_step_apply_of_flush (fun n h => (outsAt0 m c n h).2.2.1) 16 (fun _ => 0) (fun t j => spr m c t (j 0) (j 1))
    (fun t h j => by
      rw [eq_ix2 j]
      exact ps_first m c t h (j 0) (j 1))
    (fun t h j => by
      rw [eq_ix2 j]
      exact ps_next m c t h (j 0) (j 1)) t hf (ix2 r q)
  refine hs.trans ?_
  rw [zero_add]
  show ∑ s : Fin 16, spr m c ⟨16 * (t.val / 16) + s, _⟩ r q = _
  unfold spr gps
  by_cases h0 : (r : ℕ) = 0
  · simp only [if_pos h0]
    exact tiles t hf fun x => DY m c x q * po (dm m c) (pw m c) x q
  · simp only [if_neg h0, Finset.sum_const_zero]

/-- The output weights' and the grouped weights' gradients after the run. -/
theorem wo_final (n : ℕ) (hn : n < cfg0.N) (h15 : n % 16 = 15) :
    (outsAt0 m c n hn).2.2.2.2.2.1 = (fun j : S2048x1024.Idx => gwo (DB m c) (gg m c) (YS m c) (j 0) (j 1)) := by
  funext j
  have e0 := wo_copied m c ⟨n, hn⟩ h15 (j 0) (j 1)
  have e1 := wo_next m c ⟨n, hn⟩ (by show ¬ n % 16 = 0; omega) (j 0) (j 1)
  exact (congrArg (outsAt0 m c n hn).2.2.2.2.2.1 (eq_ix2 j)).trans (e0.trans (e1.symm.trans (wo_run m c ⟨n, hn⟩ h15 (j 0) (j 1))))

theorem pw_final (n : ℕ) (hn : n < cfg0.N) (h15 : n % 16 = 15) :
    (outsAt0 m c n hn).2.2.2.2.2.2 = (fun j : S4x512x512.Idx => gpw (DY m c) (dm m c) (ps m c) (j 0) (j 1) (j 2)) := by
  funext j
  exact (congrArg (outsAt0 m c n hn).2.2.2.2.2.2 (eq_ix3 j)).trans ((pw_copied m c ⟨n, hn⟩ h15 (j 0) (j 1) (j 2)).trans
    ((pw_next m c ⟨n, hn⟩ (by show ¬ n % 16 = 0; omega) (j 0) (j 1) (j 2)).symm.trans (pw_run m c ⟨n, hn⟩ h15 (j 0) (j 1) (j 2))))

/-- The scales' gradient after the run. -/
theorem ps_final : (dats m 0 c).arrAt 10 (cfgs 0).N = fun j : S8x2048.Idx => gps (DY m c) (po (dm m c) (pw m c)) (j 0) (j 1) := by
  refine (dats m 0 c).arrAt_eq_of_covers 10 _ (by decide +kernel) fun t hf y => ?_
  rw [after0_10]
  have hp := ps_run m c t ((flush0_10 t).mp hf) (y 0) (y 1)
  rw [← eq_ix2 y] at hp
  have e : ((cfg0.win 10).blk t).view.emb y = y := funext (Fin.forall_fin_two.mpr ⟨Fin.ext (by blk_simp [idx_val t]), Fin.ext (by blk_simp [idx_val t])⟩)
  rw [← e] at hp
  exact (congrArg (outsAt0 m c t.val t.isLt).2.2.1 e.symm).trans hp

/-- The grouped product's input's gradient after the run. -/
theorem dd_final : (dats m 0 c).arrAt 8 (cfgs 0).N = fun j : S8192x2048.Idx => dd (DY m c) (pw m c) (ps m c) (j 0) (j 1) := by
  refine (dats m 0 c).arrAt_eq_of_covers 8 _ (by decide +kernel) fun t hf y => ?_
  rw [after0_8]
  have hp := dd_at m c t (y 0) (y 1)
  have e0 : rw_ t (y 0) = ((cfg0.win 8).blk t).view.emb y 0 := Fin.ext (by
    show t.val * 512 + (y 0).val = _
    blk_simp [idx_val t])
  have e1 : (y 1 : Fin 2048) = ((cfg0.win 8).blk t).view.emb y 1 := Fin.ext (by blk_simp [idx_val t])
  rw [← eq_ix2 y, e0, e1] at hp
  exact hp

/-- The gate's gradient after the run. -/
theorem dg_final : (dats m 0 c).arrAt 9 (cfgs 0).N = fun j : S8192x2048.Idx => dgate (DB m c) (wo m c) (gg m c) (YS m c) (j 0) (j 1) := by
  refine (dats m 0 c).arrAt_eq_of_covers 9 _ (by decide +kernel) fun t hf y => ?_
  rw [after0_9]
  have hp := dg_at m c t (y 0) (y 1)
  have e0 : rw_ t (y 0) = ((cfg0.win 9).blk t).view.emb y 0 := Fin.ext (by
    show t.val * 512 + (y 0).val = _
    blk_simp [idx_val t])
  have e1 : (y 1 : Fin 2048) = ((cfg0.win 9).blk t).view.emb y 1 := Fin.ext (by blk_simp [idx_val t])
  rw [← eq_ix2 y, e0, e1] at hp
  exact hp
end Cert.Out1BIdeal.Out
end
end
-- ==== Proof.Out1BRef.lean ====
module

public import proofs.«01_k».proof.Proof.Gen.Out1BRefIdeal.Run
public import proofs.«01_k».proof.Proof.OutLib

/-! What the reference of the second layer's output gradient leaves in its five results, at one index. -/

@[expose] public section

set_option maxRecDepth 16384
noncomputable section
open Idealize.ShloMosaic Idealize.ShloMosaic.TcCoe Idealize.SL.Sem
namespace Cert.Out1BRefIdeal.Out
open Cert.Out1BRefIdeal Cert.Out1BRefIdeal.Gen Cert.Out1BRefIdeal.Value Cert.InLib Cert.OutLib
variable (m : (ℓ : Loc nD τ sig) → Buf (Elt Ideal) ℓ) (c : Dev nD)

/-- The run's arguments. -/
abbrev dz : (Sh2 8192 1024).Idx → EReal := m ((c : Thread nD τ).loc main_arg0)
abbrev dm : (Sh2 8192 2048).Idx → EReal := m ((c : Thread nD τ).loc main_arg1)
abbrev gg : (Sh2 8192 2048).Idx → EReal := m ((c : Thread nD τ).loc main_arg2)
abbrev pw : (Sh3 4 512 512).Idx → EReal := m ((c : Thread nD τ).loc main_arg3)
abbrev ps : (Sh1 2048).Idx → EReal := m ((c : Thread nD τ).loc main_arg4)
abbrev gt : (Sh1 1024).Idx → EReal := m ((c : Thread nD τ).loc main_arg5)
abbrev wo : (Sh2 2048 1024).Idx → EReal := m ((c : Thread nD τ).loc main_arg6)
/-- The branch's gradient, the scaled grouped product and the gradient before the gate. -/
abbrev DB : Fin 8192 → Fin 1024 → EReal := db (gt m c) (dz m c)
abbrev YS : Fin 8192 → Fin 2048 → EReal := ysc (dm m c) (pw m c) (ps m c)
abbrev DY : Fin 8192 → Fin 2048 → EReal := dy (DB m c) (wo m c) (gg m c)

/-- The gate's gradient as the reference forms it: two products, added. -/
def dgr (r : Fin 8192) (q : Fin 2048) : EReal :=
  YS m c r q * dp (DB m c) (wo m c) r q * Ideal.logistic (gg m c (ix2 r q))
    + gg m c (ix2 r q) * (YS m c r q * dp (DB m c) (wo m c) r q) * (Ideal.logistic (gg m c (ix2 r q)) * (1 - Ideal.logistic (gg m c (ix2 r q))))

set_option maxHeartbeats 1000000 in
/-- The five results of the reference at every index, and its arguments kept. -/
theorem run_main (ρ : Dev nD → PrngReg) :
    θ_run defs (onTc (τ := τ) (main (F := Ideal))) ⟨m, fun _ => 0, ρ⟩ fun r => ∀ c : Dev nD,
      r.2.mem ((c.tc : Thread nD τ).loc main_v33) = (fun j : S8192x2048.Idx => dd (DY m c) (pw m c) (ps m c) (j 0) (j 1))
      ∧ r.2.mem ((c.tc : Thread nD τ).loc main_v34) = (fun j : S8192x2048.Idx => dgr m c (j 0) (j 1))
      ∧ r.2.mem ((c.tc : Thread nD τ).loc main_v16) = (fun j : S2048x1024.Idx => gwo (DB m c) (gg m c) (YS m c) (j 0) (j 1))
      ∧ r.2.mem ((c.tc : Thread nD τ).loc main_v32) = (fun j : S4x512x512.Idx => gpw (DY m c) (dm m c) (ps m c) (j 0) (j 1) (j 2))
      ∧ r.2.mem ((c.tc : Thread nD τ).loc main_v37) = (fun j : S8x2048.Idx => gps (DY m c) (po (dm m c) (pw m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2⟩) (run m ρ)
  all_goals
    clear h
    funext j
    simp only [DY, DB, YS, dz, dm, gg, pw, ps, gt, wo, dgr]
    generalize m ((c : Thread nD τ).loc main_arg0) = X0
    generalize m ((c : Thread nD τ).loc main_arg1) = X1
    generalize m ((c : Thread nD τ).loc main_arg2) = X2
    generalize m ((c : Thread nD τ).loc main_arg3) = X3
    generalize m ((c : Thread nD τ).loc main_arg4) = X4
    generalize m ((c : Thread nD τ).loc main_arg5) = X5
    generalize m ((c : Thread nD τ).loc main_arg6) = X6
    have hp := fun r q => po_swap (N := 8192) X1 X3 r q
  · rw [eq_ix2 j]
    generalize (j 0 : Fin _) = r
    generalize (j 1 : Fin _) = q
    pointwise
    rfl
  · rw [eq_ix2 j]
    generalize (j 0 : Fin _) = r
    generalize (j 1 : Fin _) = q
    pointwise
    exact Ideal.add_congr (Ideal.mul_congr (Ideal.mul_congr (Ideal.mul_congr (hp r q) rfl) rfl) rfl)
      (Ideal.mul_congr (Ideal.mul_congr rfl (Ideal.mul_congr (Ideal.mul_congr (hp r q) rfl) rfl)) rfl)
  · rw [eq_ix2 j]
    generalize (j 0 : Fin _) = r
    generalize (j 1 : Fin _) = q
    pointwise
    exact Finset.sum_congr rfl fun x _ => (mul_comm _ _).trans (Ideal.mul_congr (Ideal.mul_congr (Ideal.mul_congr (hp x r) rfl) rfl) rfl)
  · rw [eq_ix3 j]
    generalize (j 0 : Fin _) = r
    generalize (j 1 : Fin _) = q
    generalize (j 2 : Fin _) = b
    pointwise
    exact Finset.sum_congr rfl fun x _ => mul_comm _ _
  · rw [eq_ix2 j]
    generalize (j 0 : Fin _) = r
    generalize (j 1 : Fin _) = q
    pointwise
    unfold gps
    by_cases h0 : (r : ℕ) = 0
    · rw [dif_pos (by omega), if_pos h0]
      refine (Fin.sum_univ_one _).trans (Finset.sum_congr rfl fun x _ => (mul_comm _ _).trans (Ideal.mul_congr rfl (hp x q)))
    · rw [dif_neg (by omega), if_neg h0]
end Cert.Out1BRefIdeal.Out
end
end
-- ==== Proof.LnLib.lean ====
module

public import proofs.«01_k».proof.Proof.OutLib

/-! A row's layer norm and its gradient: the form the kernels store and the form the reference's derivative has. -/

@[expose] public section

noncomputable section
open Idealize.ShloMosaic
namespace Cert.LnLib
open Cert.InLib Cert.OutLib

/-- The row's length, two, minus a half and the norm's small constant, as words. -/
abbrev nW : EReal := Ideal.ofBits .f32 0x44800000#32
abbrev twoW : EReal := Ideal.ofBits .f32 0x40000000#32
abbrev mhW : EReal := Ideal.ofBits .f32 0xBF000000#32
abbrev epsW : EReal := Ideal.ofBits .f32 0x3727C5AC#32
theorem n_word : nW = ((1024 : ℝ) : EReal) := by
  simp [Ideal.ofBits, Ideal.ieee, -EReal.coe_mul]; norm_num
theorem two_word : twoW = ((2 : ℝ) : EReal) := by
  simp [Ideal.ofBits, Ideal.ieee, -EReal.coe_mul]; norm_num
theorem mh_word : mhW = ((-(1 / 2) : ℝ) : EReal) := by
  simp [Ideal.ofBits, Ideal.ieee, -EReal.coe_mul, -EReal.coe_neg]; norm_num
theorem eps_word : ∃ e : ℝ, 0 < e ∧ epsW = (e : EReal) := by
  refine ⟨_, ?_, by simp [Ideal.ofBits, Ideal.ieee, -EReal.coe_mul]; rfl⟩
  norm_num

theorem div_coe (a b : ℝ) (hb : b ≠ 0) : Ideal.div (a : EReal) b = ((a / b : ℝ) : EReal) := by
  unfold Ideal.div
  rw [if_neg (by exact_mod_cast hb), div_eq_mul_inv, EReal.coe_mul, EReal.coe_inv]
theorem rsqrt_coe (b : ℝ) (hb : 0 < b) : Ideal.rsqrt (b : EReal) = (((√b)⁻¹ : ℝ) : EReal) := by
  show (if b < 0 then ⊥ else if b = 0 then ⊤ else (((√b)⁻¹ : ℝ) : EReal)) = _
  rw [if_neg hb.not_gt, if_neg hb.ne']
theorem sum_coe {n : ℕ} (f : Fin n → ℝ) : ∑ j, ((f j : ℝ) : EReal) = ((∑ j, f j : ℝ) : EReal) :=
  (map_sum (⟨⟨((↑) : ℝ → EReal), EReal.coe_zero⟩, EReal.coe_add⟩ : ℝ →+ EReal) f Finset.univ).symm

/-- The mean, the centred entries, the variance above its small constant, the scale and the normed entries. -/
def mean (f : Fin 1024 → EReal) : EReal := Ideal.div (∑ j, f j) nW
def zc (z : Fin 1024 → EReal) (j : Fin 1024) : EReal := z j - mean z
def sd (z : Fin 1024 → EReal) : EReal := mean (fun j => zc z j * zc z j) + epsW
def rs (z : Fin 1024 → EReal) : EReal := Ideal.rsqrt (sd z)
def xh (z : Fin 1024 → EReal) (j : Fin 1024) : EReal := zc z j * rs z
/-- The gradient before the norm as the kernels form it, of the gradient `p` of the normed entries. -/
def nb (z p : Fin 1024 → EReal) (j : Fin 1024) : EReal := rs z * (p j - mean p - xh z j * mean fun j => p j * xh z j)
/-- The variance's share of the derivative. -/
def vd (z p : Fin 1024 → EReal) : EReal := Ideal.div ((∑ j, zc z j * p j) * (mhW * Ideal.div (rs z) (sd z))) nW
/-- The derivative as the reference forms it. -/
def nbr (z p : Fin 1024 → EReal) (j : Fin 1024) : EReal :=
  p j * rs z + vd z p * (twoW * zc z j) + Ideal.div ((∑ j, -(p j * rs z)) + ∑ j, -(vd z p * (twoW * zc z j))) nW

variable (z p : Fin 1024 → ℝ)
theorem mean_coe (f : Fin 1024 → ℝ) : mean (fun j => (f j : EReal)) = (((∑ j, f j) / 1024 : ℝ) : EReal) := by
  unfold mean; rw [sum_coe, n_word, div_coe _ _ (by norm_num)]
theorem zc_coe (j : Fin 1024) : zc (fun j => (z j : EReal)) j = ((z j - (∑ j, z j) / 1024 : ℝ) : EReal) := by
  unfold zc; rw [mean_coe, EReal.coe_sub]
/-- Every part of a finite row's norm, as a real number: the scale is positive and its square undoes the variance. -/
theorem rs_coe : ∃ r s : ℝ, 0 < s ∧ r * r * s = 1 ∧ sd (fun j => (z j : EReal)) = (s : EReal) ∧ rs (fun j => (z j : EReal)) = (r : EReal) := by
  obtain ⟨e, he, hw⟩ := eps_word
  have hs : sd (fun j => (z j : EReal)) = (((∑ j, (z j - (∑ j, z j) / 1024) * (z j - (∑ j, z j) / 1024)) / 1024 + e : ℝ) : EReal) := by
    unfold sd
    simp only [zc_coe, ← EReal.coe_mul]
    rw [mean_coe, hw, ← EReal.coe_add]
  have hp : 0 < (∑ j, (z j - (∑ j, z j) / 1024) * (z j - (∑ j, z j) / 1024)) / 1024 + e :=
    add_pos_of_nonneg_of_pos (div_nonneg (Finset.sum_nonneg fun j _ => mul_self_nonneg _) (by norm_num)) he
  refine ⟨_, _, hp, ?_, hs, by unfold rs; rw [hs, rsqrt_coe _ hp]⟩
  rw [← mul_inv, Real.mul_self_sqrt hp.le, inv_mul_cancel₀ hp.ne']

/-- The centred entries add up to nothing. -/
theorem centred : ∑ j, (z j - (∑ j, z j) / 1024) = 0 := by
  rw [Finset.sum_sub_distrib, Finset.sum_const, Finset.card_univ, Fintype.card_fin]
  simp only [nsmul_eq_mul]; push_cast; ring

/-- The two forms of the gradient agree, as real numbers. -/
theorem nb_real (c p : Fin 1024 → ℝ) (r s : ℝ) (hs : 0 < s) (h : r * r * s = 1) (hc : ∑ j, c j = 0) (j : Fin 1024) :
    r * (p j - (∑ j, p j) / 1024 - c j * r * ((∑ j, p j * (c j * r)) / 1024))
      = p j * r + (∑ j, c j * p j) * (-(1 / 2) * (r / s)) / 1024 * (2 * c j)
        + ((∑ j, -(p j * r)) + ∑ j, -((∑ j, c j * p j) * (-(1 / 2) * (r / s)) / 1024 * (2 * c j))) / 1024 := by
  have e1 : ∑ j, p j * (c j * r) = (∑ j, c j * p j) * r := by rw [Finset.sum_mul]; exact Finset.sum_congr rfl fun j _ => by ring
  have e2 : ∑ j, -(p j * r) = -((∑ j, p j) * r) := by rw [Finset.sum_neg_distrib, Finset.sum_mul]
  have e3 : ∀ w : ℝ, ∑ j, -(w * (2 * c j)) = 0 := fun w => by
    rw [Finset.sum_neg_distrib, ← Finset.mul_sum, ← Finset.mul_sum, hc]; ring
  have e4 : r / s = r * r * r := by
    field_simp
    linear_combination (-r) * h
  rw [e1, e2, e3, e4]
  ring

theorem nb_eq_coe (j : Fin 1024) : nb (fun j => (z j : EReal)) (fun j => (p j : EReal)) j = nbr (fun j => (z j : EReal)) (fun j => (p j : EReal)) j
    ∧ IsR (nb (fun j => (z j : EReal)) (fun j => (p j : EReal)) j) := by
  obtain ⟨r, s, hs, h, e1, e2⟩ := rs_coe z
  have hk : nb (fun j => (z j : EReal)) (fun j => (p j : EReal)) j
      = ((r * (p j - (∑ j, p j) / 1024 - (z j - (∑ j, z j) / 1024) * r * ((∑ j, p j * ((z j - (∑ j, z j) / 1024) * r)) / 1024)) : ℝ) : EReal) := by
    unfold nb xh
    simp only [e2, zc_coe, ← EReal.coe_mul, mean_coe, ← EReal.coe_sub]
  have hv : vd (fun j => (z j : EReal)) (fun j => (p j : EReal)) = (((∑ j, (z j - (∑ j, z j) / 1024) * p j) * (-(1 / 2) * (r / s)) / 1024 : ℝ) : EReal) := by
    unfold vd
    simp only [e1, e2, zc_coe, ← EReal.coe_mul, sum_coe, div_coe _ _ hs.ne']
    rw [mh_word, n_word, ← EReal.coe_mul, ← EReal.coe_mul, div_coe _ _ (by norm_num)]
  refine ⟨?_, _, hk.symm⟩
  rw [hk, nb_real (fun j => z j - (∑ j, z j) / 1024) p r s hs h (centred z) j]
  unfold nbr
  rw [hv, two_word, n_word]
  simp only [e2, zc_coe, ← EReal.coe_mul, ← EReal.coe_neg, sum_coe, ← EReal.coe_add]
  rw [div_coe _ _ (by norm_num), ← EReal.coe_add]

/-- At a finite row and a finite gradient the two forms agree and are finite. -/
theorem nb_eq {z p : Fin 1024 → EReal} (hz : ∀ j, IsR (z j)) (hp : ∀ j, IsR (p j)) (j : Fin 1024) : nb z p j = nbr z p j ∧ IsR (nb z p j) := by
  choose z' hz' using hz
  choose p' hp' using hp
  obtain rfl : (fun j => (z' j : EReal)) = z := funext hz'
  obtain rfl : (fun j => (p' j : EReal)) = p := funext hp'
  exact nb_eq_coe z' p' j
/-- The normed entries of a finite row are finite. -/
theorem xh_isR {z : Fin 1024 → EReal} (hz : ∀ j, IsR (z j)) (j : Fin 1024) : IsR (xh z j) := by
  choose z' hz' using hz
  obtain rfl : (fun j => (z' j : EReal)) = z := funext hz'
  obtain ⟨r, s, hs, h, e1, e2⟩ := rs_coe z'
  unfold xh
  rw [e2, zc_coe]
  exact .mul ⟨_, rfl⟩ ⟨_, rfl⟩
/-! The rows around the norm: the residual with its gated branch, the scaled gradient. -/

variable {N : ℕ}
/-- The sum of the two scans. -/
def ysum (A B : (Sh2 N 2048).Idx → EReal) (r : Fin N) (q : Fin 2048) : EReal := A (ix2 r q) + B (ix2 r q)
/-- The branch: the gated sum times the output weights. -/
def branch (Y : Fin N → Fin 2048 → EReal) (G : (Sh2 N 2048).Idx → EReal) (W : (Sh2 2048 1024).Idx → EReal) (r : Fin N) (j : Fin 1024) : EReal :=
  ∑ q, Y r q * silu (G (ix2 r q)) * W (ix2 q j)
/-- The residual, scaled, and the gated branch. -/
def resid (X : (Sh2 N 1024).Idx → EReal) (T : (Sh1 1024).Idx → EReal) (B : Fin N → Fin 1024 → EReal) (r : Fin N) (j : Fin 1024) : EReal :=
  Ideal.ofBits .f32 0x3FB504F3#32 * X (ix2 r j) + T (ix1 j) * B r j
/-- A gradient times the norm's scale. -/
def scaled (D : (Sh2 N 1024).Idx → EReal) (L : (Sh1 1024).Idx → EReal) (r : Fin N) (j : Fin 1024) : EReal := D (ix2 r j) * L (ix1 j)
/-- The branch's gradient. -/
def gated (T : (Sh1 1024).Idx → EReal) (D : Fin N → Fin 1024 → EReal) (r : Fin N) (j : Fin 1024) : EReal := T (ix1 j) * D r j
/-- Three rows of sums over the rows of three arrays, the other rows nothing. -/
def st3 (A B C : Fin N → Fin 1024 → EReal) (r : Fin 8) (j : Fin 1024) : EReal :=
  if (r : ℕ) = 0 then ∑ x, A x j else if (r : ℕ) = 1 then ∑ x, B x j else if (r : ℕ) = 2 then ∑ x, C x j else 0
/-- The same with a fourth row. -/
def st4 (A B C D : Fin N → Fin 1024 → EReal) (r : Fin 8) (j : Fin 1024) : EReal :=
  if (r : ℕ) = 3 then ∑ x, D x j else st3 A B C r j
/-- The branch's sum, group of channels by group of channels. -/
theorem branch_ch (Y : Fin N → Fin 2048 → EReal) (G : (Sh2 N 2048).Idx → EReal) (W : (Sh2 2048 1024).Idx → EReal) (r : Fin N) (j : Fin 1024) :
    branch Y G W r j = 0 + (∑ b : Fin 512, Y r (ch 0 b) * silu (G (ix2 r (ch 0 b))) * W (ix2 (ch 0 b) j)) + (∑ b : Fin 512, Y r (ch 1 b) * silu (G (ix2 r (ch 1 b))) * W (ix2 (ch 1 b) j))
      + (∑ b : Fin 512, Y r (ch 2 b) * silu (G (ix2 r (ch 2 b))) * W (ix2 (ch 2 b) j)) + (∑ b : Fin 512, Y r (ch 3 b) * silu (G (ix2 r (ch 3 b))) * W (ix2 (ch 3 b) j)) := by
  unfold branch
  rw [Fin.sum_univ_tiles 4 512 rfl, Fin.sum_univ_four, zero_add]
/-! The squared error's gradient: the reference halves, divides and doubles where the kernel multiplies once. -/

abbrev invW : EReal := Ideal.ofBits .f32 0x3A800000#32
theorem inv_word : invW = ((1 / 1024 : ℝ) : EReal) := by
  simp [Ideal.ofBits, Ideal.ieee, -EReal.coe_mul]; norm_num
theorem one_word : Ideal.ofBits .f32 0x3F800000#32 = ((1 : ℝ) : EReal) := by
  simp [Ideal.ofBits, Ideal.ieee, -EReal.coe_mul]; norm_num
theorem loss_word (e : EReal) : Ideal.div (Ideal.ofBits .f32 0x3F000000#32 * Ideal.ofBits .f32 0x3F800000#32) nW * (twoW * e) = e * invW := by
  rw [half_word, one_word, n_word, two_word, inv_word, ← EReal.coe_mul, div_coe _ _ (by norm_num), ← mul_assoc, ← EReal.coe_mul, mul_comm e]
  norm_num
theorem alpha_isR : IsR (Ideal.ofBits .f32 0x3FB504F3#32) :=
  ⟨_, (by simp [Ideal.ofBits, Ideal.ieee, -EReal.coe_mul]; rfl : Ideal.ofBits .f32 0x3FB504F3#32 = _).symm⟩
/-! Finite arguments leave all of this finite. -/

theorem silu_isR {g : EReal} (h : IsR g) : IsR (silu g) := by
  obtain ⟨r, rfl⟩ := h
  exact .mul ⟨r, rfl⟩ ⟨_, (Ideal.logistic_coe r).symm⟩
theorem ysum_isR {A B : (Sh2 N 2048).Idx → EReal} (ha : ∀ i, IsR (A i)) (hb : ∀ i, IsR (B i)) (r : Fin N) (q : Fin 2048) : IsR (ysum A B r q) := .add (ha _) (hb _)
theorem branch_isR {Y : Fin N → Fin 2048 → EReal} {G : (Sh2 N 2048).Idx → EReal} {W : (Sh2 2048 1024).Idx → EReal} (hy : ∀ r q, IsR (Y r q)) (hg : ∀ i, IsR (G i))
    (hw : ∀ i, IsR (W i)) (r : Fin N) (j : Fin 1024) : IsR (branch Y G W r j) := .sum fun q => .mul (.mul (hy r q) (silu_isR (hg _))) (hw _)
theorem resid_isR {X : (Sh2 N 1024).Idx → EReal} {T : (Sh1 1024).Idx → EReal} {B : Fin N → Fin 1024 → EReal} (hx : ∀ i, IsR (X i)) (ht : ∀ i, IsR (T i))
    (hb : ∀ r j, IsR (B r j)) (r : Fin N) (j : Fin 1024) : IsR (resid X T B r j) := .add (.mul alpha_isR (hx _)) (.mul (ht _) (hb r j))
theorem scaled_isR {D : (Sh2 N 1024).Idx → EReal} {L : (Sh1 1024).Idx → EReal} (hd : ∀ i, IsR (D i)) (hl : ∀ i, IsR (L i)) (r : Fin N) (j : Fin 1024) :
    IsR (scaled D L r j) := .mul (hd _) (hl _)
/-- The gate's gradient in its two forms, where the scans' sum and the branch's gradient are finite. -/
theorem dgate_sum {D : Fin N → Fin 1024 → EReal} {W : (Sh2 2048 1024).Idx → EReal} {G : (Sh2 N 2048).Idx → EReal} {Y : Fin N → Fin 2048 → EReal}
    (hd : ∀ r j, IsR (D r j)) (hw : ∀ i, IsR (W i)) (hy : ∀ r q, IsR (Y r q)) (r : Fin N) (q : Fin 2048) :
    Y r q * dp D W r q * Ideal.logistic (G (ix2 r q)) + G (ix2 r q) * (Y r q * dp D W r q) * (Ideal.logistic (G (ix2 r q)) * (1 - Ideal.logistic (G (ix2 r q))))
      = dgate D W G Y r q := by
  obtain ⟨x, hx⟩ : IsR (Y r q * dp D W r q) := .mul (hy r q) (.sum fun j => .mul (hd r j) (hw _))
  unfold dgate
  rw [mul_comm (dp _ _ r q), ← hx, dsilu_sum]
/-! The normed row with its scale and shift, that row modulated, and its product with the next layer's weights. -/

def lnr (Z : Fin N → Fin 1024 → EReal) (L B : (Sh1 1024).Idx → EReal) (r : Fin N) (j : Fin 1024) : EReal := xh (Z r) j * L (ix1 j) + B (ix1 j)
def modr (X : Fin N → Fin 1024 → EReal) (S H : (Sh1 1024).Idx → EReal) (r : Fin N) (j : Fin 1024) : EReal := X r j * (1 + S (ix1 j)) + H (ix1 j)
def prd (H : Fin N → Fin 1024 → EReal) (W : (Sh2 1024 4096).Idx → EReal) (r : Fin N) (q : Fin 4096) : EReal := ∑ d, H r d * W (ix2 d q)
end Cert.LnLib
end
end
-- ==== Proof.Out0B.lean ====
module

public import proofs.«01_k».proof.Proof.Gen.Out0BIdeal.Value
public import proofs.«01_k».proof.Proof.LnLib
public import Idealize.ShloMosaic.Lib.StableHlo.ReadAt

/-! What the kernel of the first layer's output gradient leaves in its five result arrays, at one index. -/

@[expose] public section

set_option maxRecDepth 16384
noncomputable section
open Idealize.ShloMosaic Idealize.ShloMosaic.TcCoe Idealize.SL.Sem
namespace Cert.Out0BIdeal.Out
open Cert.Out0BIdeal Cert.Out0BIdeal.Gen Cert.Out0BIdeal.Value Cert.InLib Cert.OutLib Cert.LnLib
variable (m : (ℓ : Loc nD τ sig) → Buf (Elt Ideal) ℓ) (c : Dev nD) (t : Fin cfg0.N)

/-- Every window's block index at point `t`: row tile `t`, or the whole array. -/
theorem idx_val : ∀ t : Fin cfg0.N, win0_0.index t = ![t.val, 0] ∧ win0_1.index t = ![t.val, 0]
    ∧ win0_2.index t = ![t.val, 0] ∧ win0_3.index t = ![0, 0]
    ∧ win0_4.index t = ![t.val, 0] ∧ win0_5.index t = ![t.val, 0] ∧ win0_6.index t = ![t.val, 0] ∧ win0_7.index t = ![0, 0]
    ∧ win0_8.index t = ![0, 0] ∧ win0_9.index t = ![t.val, 0] ∧ win0_10.index t = ![t.val, 0] ∧ win0_11.index t = ![t.val, 0] ∧ win0_12.index t = ![0, 0]
    ∧ t.val < 16 :=
  (by decide +kernel : ∀ t : Fin grid0.N, _)
theorem lt16 : t.val < 16 := (idx_val t).2.2.2.2.2.2.2.2.2.2.2.2.2

/-- The run's arguments. -/
abbrev dx : (Sh2 8192 1024).Idx → EReal := m ((c : Thread nD τ).loc main_arg0)
abbrev xx : (Sh2 8192 1024).Idx → EReal := m ((c : Thread nD τ).loc main_arg1)
abbrev hf : (Sh2 8192 2048).Idx → EReal := m ((c : Thread nD τ).loc main_arg2)
abbrev hb : (Sh2 8192 2048).Idx → EReal := m ((c : Thread nD τ).loc main_arg3)
abbrev gg : (Sh2 8192 2048).Idx → EReal := m ((c : Thread nD τ).loc main_arg4)
abbrev gt : (Sh1 1024).Idx → EReal := m ((c : Thread nD τ).loc main_arg5)
abbrev wo : (Sh2 2048 1024).Idx → EReal := m ((c : Thread nD τ).loc main_arg6)
abbrev lg : (Sh1 1024).Idx → EReal := m ((c : Thread nD τ).loc main_arg7)
/-- The two scans' sum, the branch, the row before the norm, the normed row's gradient, the row's gradient and the branch's. -/
abbrev YS : Fin 8192 → Fin 2048 → EReal := ysum (hf m c) (hb m c)
abbrev BR : Fin 8192 → Fin 1024 → EReal := branch (YS m c) (gg m c) (wo m c)
abbrev ZR : Fin 8192 → Fin 1024 → EReal := resid (xx m c) (gt m c) (BR m c)
abbrev PR : Fin 8192 → Fin 1024 → EReal := scaled (dx m c) (lg m c)
abbrev DZ : Fin 8192 → Fin 1024 → EReal := fun r => nb (ZR m c r) (PR m c r)
abbrev DB : Fin 8192 → Fin 1024 → EReal := gated (gt m c) (DZ m c)

/-- The row of the arrays that row `x` of point `t`'s blocks holds. -/
def rw_ (x : Fin 512) : Fin 8192 := ⟨t.val * 512 + x, by have := lt16 t; omega⟩

theorem V_f (r : Fin 8192) (q : Fin 2048) : V m c main_v0 (ix2 r q) = hf m c (ix2 r q) := by
  unfold V; after_reads_at
theorem V_b (r : Fin 8192) (q : Fin 2048) : V m c main_v1 (ix2 r q) = hb m c (ix2 r q) := by
  unfold V; after_reads_at
theorem V_g (r : Fin 8192) (q : Fin 2048) : V m c main_v2 (ix2 r q) = gg m c (ix2 r q) := by
  unfold V; after_reads_at
theorem V_o (q : Fin 2048) (j : Fin 1024) : V m c main_v3 (ix2 q j) = wo m c (ix2 q j) := by
  unfold V; after_reads_at
theorem V_l (j : Fin 1024) : V m c main_v20 (ix2 (0 : Fin 1) j) = lg m c (ix1 j) := by
  unfold V; after_reads_at
theorem V_t (j : Fin 1024) : V m c main_v21 (ix2 (0 : Fin 1) j) = gt m c (ix1 j) := by
  unfold V; after_reads_at
theorem V_r (r : Fin 8192) (j : Fin 1024) : V m c main_v19 (ix2 r j) = BR m c r j := by
  unfold BR branch YS ysum silu V; after_reads_at
  simp only [← sg_eq]

theorem d_at (x : Fin 512) (j : Fin 1024) : iblk m c 0 t (ix2 x j) = dx m c (ix2 (rw_ t x) j) := by
  unfold rw_ dx; blk_ext [iblk, V, idx_val t]
theorem x_at (x : Fin 512) (j : Fin 1024) : iblk m c 1 t (ix2 x j) = xx m c (ix2 (rw_ t x) j) := by
  unfold rw_ xx; blk_ext [iblk, V, idx_val t]
theorem r_at (x : Fin 512) (j : Fin 1024) : iblk m c 2 t (ix2 x j) = BR m c (rw_ t x) j := by
  refine Eq.trans ?_ (V_r m c _ j); unfold rw_; blk_ext [iblk, idx_val t]
theorem l_at (j : Fin 1024) : iblk m c 3 t (ix2 0 j) = lg m c (ix1 j) := by
  refine Eq.trans ?_ (V_l m c j); blk_ext [iblk, idx_val t]
theorem f_at (x : Fin 512) (q : Fin 2048) : iblk m c 4 t (ix2 x q) = hf m c (ix2 (rw_ t x) q) := by
  refine Eq.trans ?_ (V_f m c _ q); unfold rw_; blk_ext [iblk, idx_val t]
theorem b_at (x : Fin 512) (q : Fin 2048) : iblk m c 5 t (ix2 x q) = hb m c (ix2 (rw_ t x) q) := by
  refine Eq.trans ?_ (V_b m c _ q); unfold rw_; blk_ext [iblk, idx_val t]
theorem g_at (x : Fin 512) (q : Fin 2048) : iblk m c 6 t (ix2 x q) = gg m c (ix2 (rw_ t x) q) := by
  refine Eq.trans ?_ (V_g m c _ q); unfold rw_; blk_ext [iblk, idx_val t]
theorem t_at (j : Fin 1024) : iblk m c 7 t (ix2 0 j) = gt m c (ix1 j) := by
  refine Eq.trans ?_ (V_t m c j); blk_ext [iblk, idx_val t]
theorem o_at (q : Fin 2048) (j : Fin 1024) : iblk m c 8 t (ix2 q j) = wo m c (ix2 q j) := by
  refine Eq.trans ?_ (V_o m c q j); blk_ext [iblk, idx_val t]

/-! The row's norm and its gradient, from the blocks of point `t`. -/

theorem zc_at (x : Fin 512) (j : Fin 1024) : k0_pay9 (F := Ideal) (iblk m c 2 t) (iblk m c 7 t) (iblk m c 1 t) (ix2 x j) = zc (ZR m c (rw_ t x)) j := by
  have hr := r_at m c t
  have ht := t_at m c t
  have hx := x_at m c t
  generalize iblk m c 2 t = B at *
  generalize iblk m c 7 t = T at *
  generalize iblk m c 1 t = X at *
  unfold zc mean ZR resid
  pointwise [k0_pay9, k0_pay7, k0_pay8]
  simp only [hr, ht, hx]
theorem rs_at (x : Fin 512) : k0_pay10 (F := Ideal) (iblk m c 2 t) (iblk m c 7 t) (iblk m c 1 t) (ix2 x 0) = rs (ZR m c (rw_ t x)) := by
  have h := zc_at m c t x
  unfold k0_pay10
  generalize k0_pay9 (F := Ideal) _ _ _ = C at *
  unfold rs sd mean
  pointwise []
  simp only [h]
theorem xh_at (x : Fin 512) (j : Fin 1024) : k0_pay11 (F := Ideal) (iblk m c 2 t) (iblk m c 7 t) (iblk m c 1 t) (ix2 x j) = xh (ZR m c (rw_ t x)) j := by
  have h := zc_at m c t x
  have h' := rs_at m c t x
  unfold k0_pay11
  generalize k0_pay9 (F := Ideal) _ _ _ = C at *
  generalize k0_pay10 (F := Ideal) _ _ _ = R at *
  unfold xh
  pointwise []
  simp only [h, h']
theorem p_at (x : Fin 512) (j : Fin 1024) : k0_pay12 (F := Ideal) (iblk m c 0 t) (iblk m c 3 t) (ix2 x j) = PR m c (rw_ t x) j := by
  have hr := d_at m c t
  have ht := l_at m c t
  generalize iblk m c 0 t = B at *
  generalize iblk m c 3 t = T at *
  unfold PR scaled
  pointwise [k0_pay12]
  simp only [hr, ht]
/-- The row's gradient as the kernel forms it, at point `t`. -/
abbrev dzb : FVec Ideal S512x1024 .f32 :=
  k0_pay15 (k0_pay10 (iblk m c 2 t) (iblk m c 7 t) (iblk m c 1 t)) (k0_pay11 (iblk m c 2 t) (iblk m c 7 t) (iblk m c 1 t))
    (k0_pay12 (iblk m c 0 t) (iblk m c 3 t)) (k0_pay13 (iblk m c 0 t) (iblk m c 3 t)) k0_pay14
theorem dz_blk (x : Fin 512) (j : Fin 1024) : dzb m c t (ix2 x j) = DZ m c (rw_ t x) j := by
  have h := p_at m c t x
  have h' := rs_at m c t x
  have h'' := xh_at m c t x
  unfold dzb k0_pay13
  generalize k0_pay12 (F := Ideal) _ _ = C at *
  generalize k0_pay10 (F := Ideal) _ _ _ = R at *
  generalize k0_pay11 (F := Ideal) _ _ _ = X at *
  unfold DZ nb mean
  pointwise [k0_pay14, k0_pay15]
  simp only [h, h', h'']
/-- The branch's gradient, at point `t`. -/
abbrev dbb : FVec Ideal S512x1024 .bf16 :=
  k0_pay19 (k0_pay8 (iblk m c 7 t)) (k0_pay10 (iblk m c 2 t) (iblk m c 7 t) (iblk m c 1 t)) (k0_pay11 (iblk m c 2 t) (iblk m c 7 t) (iblk m c 1 t))
    (k0_pay12 (iblk m c 0 t) (iblk m c 3 t)) (k0_pay13 (iblk m c 0 t) (iblk m c 3 t)) k0_pay14
theorem db_blk (x : Fin 512) (j : Fin 1024) : dbb m c t (ix2 x j) = DB m c (rw_ t x) j := by
  have h := dz_blk m c t x
  have ht := t_at m c t
  unfold dbb k0_pay19
  unfold dzb at h
  generalize k0_pay15 (F := Ideal) _ _ _ _ _ = C at *
  generalize iblk m c 7 t = T at *
  unfold DB gated
  pointwise [k0_pay8]
  simp only [h, ht]

/-- What the loads of group `k` hold at point `t`. -/
structure Ld (k : Fin 4) (D : FVec Ideal S512x1024 .bf16) (H B G : Vec Ideal S512x512 .bf16) (W : Vec Ideal S512x1024 .bf16) : Prop where
  d : ∀ x j, D (ix2 x j) = DB m c (rw_ t x) j
  h : ∀ x b, H (ix2 x b) = hf m c (ix2 (rw_ t x) (ch k b))
  b : ∀ x b, B (ix2 x b) = hb m c (ix2 (rw_ t x) (ch k b))
  g : ∀ x b, G (ix2 x b) = gg m c (ix2 (rw_ t x) (ch k b))
  w : ∀ b j, W (ix2 b j) = wo m c (ix2 (ch k b) j)

theorem ld (k : Fin 4) (o : ℕ) (ho : o = k * 512 := by rfl)
    (i1 : ∀ a, (![0, o] : Fin 2 → ℕ) a + (![512, 512] : Fin 2 → ℕ) a ≤ S512x2048.size a := by decide)
    (i3 : ∀ a, (![o, 0] : Fin 2 → ℕ) a + (![512, 1024] : Fin 2 → ℕ) a ≤ S2048x1024.size a := by decide) :
    Ld m c t k (dbb m c t) (View.ld (iblk m c 4 t) (Rect.unit (s := S512x2048) ![0, o] ![512, 512] i1))
      (View.ld (iblk m c 5 t) (Rect.unit (s := S512x2048) ![0, o] ![512, 512] i1)) (View.ld (iblk m c 6 t) (Rect.unit (s := S512x2048) ![0, o] ![512, 512] i1))
      (View.ld (iblk m c 8 t) (Rect.unit (s := S2048x1024) ![o, 0] ![512, 1024] i3)) :=
  ⟨db_blk m c t, fun x b => (cols_ld _ o i1 x k b ho).trans (f_at m c t x _), fun x b => (cols_ld _ o i1 x k b ho).trans (b_at m c t x _),
    fun x b => (cols_ld _ o i1 x k b ho).trans (g_at m c t x _), fun b j => (rows_ld _ o i3 k b j ho).trans (o_at m c t _ j)⟩

/-- What point `t` adds to the output weights' gradient. -/
def swo (q : Fin 2048) (j : Fin 1024) : EReal := ∑ x : Fin 512, YS m c (rw_ t x) q * silu (gg m c (ix2 (rw_ t x) q)) * DB m c (rw_ t x) j

section Groups
variable {D : FVec Ideal S512x1024 .bf16} {H B G : Vec Ideal S512x512 .bf16} {W : Vec Ideal S512x1024 .bf16}
theorem grp3 (h : Ld m c t 3 D H B G W) :
    (∀ x b, k0_pay3 (F := Ideal) D (k0_pay50 G) W (ix2 x b) = dy (DB m c) (wo m c) (gg m c) (rw_ t x) (ch 3 b))
    ∧ (∀ x b, k0_pay4 (F := Ideal) D (k0_pay47 H B) (k0_pay48 G) (k0_pay49 G) W (ix2 x b) = dgate (DB m c) (wo m c) (gg m c) (YS m c) (rw_ t x) (ch 3 b))
    ∧ (∀ (O : Vec Ideal S512x1024 .f32) b j, k0_pay1 (F := Ideal) (k0_pay51 D H B G O) (ix2 b j) = O (ix2 b j) + swo m c t (ch 3 b) j) := by
  unfold swo dgate dy dp silu dsilu
  refine ⟨fun x b => ?_, fun x b => ?_, fun O b j => ?_⟩
  all_goals
    simp only [← h.d, ← h.g, ← h.w, ysum, ← h.h, ← h.b]
    pointwise [k0_pay1, k0_pay2, k0_pay3, k0_pay4, k0_pay47, k0_pay48, k0_pay49, k0_pay50, k0_pay51]
    simp only [sg_eq]
theorem grp2 (h : Ld m c t 2 D H B G W) :
    (∀ x b, k0_pay45 (F := Ideal) D (k0_pay42 G) W (ix2 x b) = dy (DB m c) (wo m c) (gg m c) (rw_ t x) (ch 2 b))
    ∧ (∀ x b, k0_pay46 (F := Ideal) D (k0_pay39 H B) (k0_pay40 G) (k0_pay41 G) W (ix2 x b) = dgate (DB m c) (wo m c) (gg m c) (YS m c) (rw_ t x) (ch 2 b))
    ∧ (∀ (O : Vec Ideal S512x1024 .f32) b j, k0_pay43 (F := Ideal) D H B G O (ix2 b j) = O (ix2 b j) + swo m c t (ch 2 b) j) := by
  unfold swo dgate dy dp silu dsilu
  refine ⟨fun x b => ?_, fun x b => ?_, fun O b j => ?_⟩
  all_goals
    simp only [← h.d, ← h.g, ← h.w, ysum, ← h.h, ← h.b]
    pointwise [k0_pay39, k0_pay40, k0_pay41, k0_pay42, k0_pay43, k0_pay44, k0_pay45, k0_pay46]
    simp only [sg_eq]
theorem grp1 (h : Ld m c t 1 D H B G W) :
    (∀ x b, k0_pay37 (F := Ideal) D G W (ix2 x b) = dy (DB m c) (wo m c) (gg m c) (rw_ t x) (ch 1 b))
    ∧ (∀ x b, k0_pay38 (F := Ideal) (k0_pay31 H B) (k0_pay32 G) (k0_pay33 G) (k0_pay36 D W) (ix2 x b) = dgate (DB m c) (wo m c) (gg m c) (YS m c) (rw_ t x) (ch 1 b))
    ∧ (∀ (O : Vec Ideal S512x1024 .f32) b j, k0_pay35 (F := Ideal) D H B G O (ix2 b j) = O (ix2 b j) + swo m c t (ch 1 b) j) := by
  unfold swo dgate dy dp silu dsilu
  refine ⟨fun x b => ?_, fun x b => ?_, fun O b j => ?_⟩
  all_goals
    simp only [← h.d, ← h.g, ← h.w, ysum, ← h.h, ← h.b]
    pointwise [k0_pay31, k0_pay32, k0_pay33, k0_pay34, k0_pay35, k0_pay36, k0_pay37, k0_pay38]
    simp only [sg_eq]
theorem grp0 (h : Ld m c t 0 D H B G W) :
    (∀ x b, k0_pay26 (F := Ideal) D G W (ix2 x b) = dy (DB m c) (wo m c) (gg m c) (rw_ t x) (ch 0 b))
    ∧ (∀ x b, k0_pay30 (F := Ideal) (k0_pay22 G) (k0_pay27 D H B W) (k0_pay28 G) k0_pay29 (ix2 x b) = dgate (DB m c) (wo m c) (gg m c) (YS m c) (rw_ t x) (ch 0 b))
    ∧ (∀ (O : Vec Ideal S512x1024 .f32) b j, k0_pay24 (F := Ideal) D H B G O (ix2 b j) = O (ix2 b j) + swo m c t (ch 0 b) j) := by
  unfold swo dgate dy dp silu dsilu
  refine ⟨fun x b => ?_, fun x b => ?_, fun O b j => ?_⟩
  all_goals
    simp only [← h.d, ← h.g, ← h.w, ysum, ← h.h, ← h.b]
    pointwise [k0_pay20, k0_pay21, k0_pay22, k0_pay23, k0_pay24, k0_pay25, k0_pay26, k0_pay27, k0_pay28, k0_pay29, k0_pay30]
    simp only [sg_eq]
end Groups
/-- What point `t` leaves in the row's gradient. -/
theorem dz_at (x : Fin 512) (j : Fin 1024) : (outsAt0 m c t.val t.isLt).1 (ix2 x j) = DZ m c (rw_ t x) j := by
  by_cases h0 : t.val % 16 = 0
  on_goal 2 => by_cases h1 : t.val % 16 = 15
  on_goal 1 => rw [outsAt0_A m c t h0 (by omega)]
  on_goal 2 => rw [outsAt0_C m c t h0 h1]
  on_goal 3 => rw [outsAt0_B m c t h0 h1]
  all_goals
    dsimp only; frame_out
    exact dz_blk m c t x j

/-- What point `t` leaves in the scans' gradient. -/
theorem dy_at_ch (x : Fin 512) (k : Fin 4) (b : Fin 512) : (outsAt0 m c t.val t.isLt).2.1 (ix2 x (ch k b)) = dy (DB m c) (wo m c) (gg m c) (rw_ t x) (ch k b) := by
  by_cases h0 : t.val % 16 = 0
  on_goal 2 => by_cases h1 : t.val % 16 = 15
  on_goal 1 => rw [outsAt0_A m c t h0 (by omega)]
  on_goal 2 => rw [outsAt0_C m c t h0 h1]
  on_goal 3 => rw [outsAt0_B m c t h0 h1]
  all_goals
    dsimp only; frame_open
    refine (cols4 _ _ _ _ _ _ _ _ _ _ _ x k b).trans ?_
    frame_out
    exact pick4 k.isLt
      (fun e => by obtain rfl : k = 3 := Fin.ext e; exact (grp3 m c t (ld m c t 3 1536)).1 x b)
      (fun e => by obtain rfl : k = 2 := Fin.ext e; exact (grp2 m c t (ld m c t 2 1024)).1 x b)
      (fun e => by obtain rfl : k = 1 := Fin.ext e; exact (grp1 m c t (ld m c t 1 512)).1 x b)
      (fun e => by obtain rfl : k = 0 := Fin.ext e; exact (grp0 m c t (ld m c t 0 0)).1 x b)

/-- What point `t` leaves in the gate's gradient. -/
theorem dg_at_ch (x : Fin 512) (k : Fin 4) (b : Fin 512) : (outsAt0 m c t.val t.isLt).2.2.1 (ix2 x (ch k b)) = dgate (DB m c) (wo m c) (gg m c) (YS m c) (rw_ t x) (ch k b) := by
  by_cases h0 : t.val % 16 = 0
  on_goal 2 => by_cases h1 : t.val % 16 = 15
  on_goal 1 => rw [outsAt0_A m c t h0 (by omega)]
  on_goal 2 => rw [outsAt0_C m c t h0 h1]
  on_goal 3 => rw [outsAt0_B m c t h0 h1]
  all_goals
    dsimp only; frame_open
    refine (cols4 _ _ _ _ _ _ _ _ _ _ _ x k b).trans ?_
    frame_out
    exact pick4 k.isLt
      (fun e => by obtain rfl : k = 3 := Fin.ext e; exact (grp3 m c t (ld m c t 3 1536)).2.1 x b)
      (fun e => by obtain rfl : k = 2 := Fin.ext e; exact (grp2 m c t (ld m c t 2 1024)).2.1 x b)
      (fun e => by obtain rfl : k = 1 := Fin.ext e; exact (grp1 m c t (ld m c t 1 512)).2.1 x b)
      (fun e => by obtain rfl : k = 0 := Fin.ext e; exact (grp0 m c t (ld m c t 0 0)).2.1 x b)

/-- What the point before left. -/
abbrev prev := outsAt0 m c (t.val - 1) (lt_of_le_of_lt (Nat.sub_le _ _) t.isLt)

/-- The summands of the three rows of sums. -/
def ga (r : Fin 8192) (j : Fin 1024) : EReal := dx m c (ix2 r j) * xh (ZR m c r) j
def gb (r : Fin 8192) (j : Fin 1024) : EReal := dx m c (ix2 r j)
def gc (r : Fin 8192) (j : Fin 1024) : EReal := DZ m c r j * BR m c r j
/-- What point `t` adds to the three rows of sums. -/
def sums (r : Fin 8) (j : Fin 1024) : EReal :=
  if (r : ℕ) = 0 then ∑ x : Fin 512, ga m c (rw_ t x) j else if (r : ℕ) = 1 then ∑ x : Fin 512, gb m c (rw_ t x) j
  else if (r : ℕ) = 2 then ∑ x : Fin 512, gc m c (rw_ t x) j else 0

/-- One point's three row stores add `sums`. -/
theorem st_step (v0 v1 v2 : Vec Ideal S1x1024 .f32) (r : Fin 8) (j : Fin 1024) (z : EReal) (h0 : (r : ℕ) = 0 → v0 (ix2 0 j) = z)
    (h1 : (r : ℕ) = 1 → v1 (ix2 0 j) = z) (h2 : (r : ℕ) = 2 → v2 (ix2 0 j) = z) :
    (if (r : ℕ) = 2 then k0_pay18 (F := Ideal) (k0_pay7 (iblk m c 2 t)) (k0_pay10 (iblk m c 2 t) (iblk m c 7 t) (iblk m c 1 t)) (k0_pay11 (iblk m c 2 t) (iblk m c 7 t) (iblk m c 1 t))
          (k0_pay12 (iblk m c 0 t) (iblk m c 3 t)) (k0_pay13 (iblk m c 0 t) (iblk m c 3 t)) k0_pay14 v2 (ix2 0 j)
      else if (r : ℕ) = 1 then k0_pay17 (F := Ideal) (iblk m c 0 t) v1 (ix2 0 j)
      else if (r : ℕ) = 0 then k0_pay16 (F := Ideal) (iblk m c 0 t) (k0_pay11 (iblk m c 2 t) (iblk m c 7 t) (iblk m c 1 t)) v0 (ix2 0 j)
      else z) = z + sums m c t r j := by
  unfold sums
  by_cases e2 : (r : ℕ) = 2
  · rw [if_pos e2, if_neg (by omega), if_neg (by omega), if_pos e2, ← h2 e2]
    have h := fun x => dz_blk m c t x j
    have hr := fun x => r_at m c t x j
    unfold dzb at h
    unfold k0_pay18 gc
    generalize k0_pay15 (F := Ideal) _ _ _ _ _ = C at *
    generalize iblk m c 2 t = T at *
    pointwise [k0_pay7]
    simp only [h, hr]
  rw [if_neg e2]
  by_cases e1 : (r : ℕ) = 1
  · rw [if_pos e1, if_neg (by omega), if_pos e1, ← h1 e1]
    have hd := fun x => d_at m c t x j
    unfold gb
    generalize iblk m c 0 t = T at *
    pointwise [k0_pay17]
    simp only [hd]
  rw [if_neg e1]
  by_cases e0 : (r : ℕ) = 0
  · rw [if_pos e0, if_pos e0, ← h0 e0]
    have hd := fun x => d_at m c t x j
    have hx := fun x => xh_at m c t x j
    unfold ga
    generalize k0_pay11 (F := Ideal) _ _ _ = C at *
    generalize iblk m c 0 t = T at *
    pointwise [k0_pay16]
    simp only [hd, hx]
  rw [if_neg e0, if_neg e0, if_neg e1, if_neg e2, add_zero]

theorem st_first (h0 : t.val % 16 = 0) (r : Fin 8) (j : Fin 1024) : (outsAt0 m c t.val t.isLt).2.2.2.1 (ix2 r j) = 0 + sums m c t r j := by
  have hz : k0_pay6 (F := Ideal) (ix2 r j) = 0 := by pointwise [k0_pay6]
  rw [outsAt0_A m c t h0 (by omega)]; dsimp only; frame_open
  simp (disch := decide) only [↓ View.readCov_skip, ↓ View.readCov_cons_toLoadRect, ↓ View.readCov_fill]
  refine (row _ _ _ _ _ _ r j).trans ((congrArg _ ((row _ _ _ _ _ _ r j).trans (congrArg _ (row _ _ _ _ _ _ r j)))).trans ?_)
  frame_out
  exact (st_step m c t _ _ _ r j (k0_pay6 (F := Ideal) (ix2 r j)) (row_ld _ 0 _ r j) (row_ld _ 1 _ r j) (row_ld _ 2 _ r j)).trans (by rw [hz])

theorem st_next (h0 : ¬ t.val % 16 = 0) (r : Fin 8) (j : Fin 1024) : (outsAt0 m c t.val t.isLt).2.2.2.1 (ix2 r j)
    = (prev m c t).2.2.2.1 (ix2 r j) + sums m c t r j := by
  by_cases h1 : t.val % 16 = 15
  on_goal 1 => rw [outsAt0_C m c t h0 h1]
  on_goal 2 => rw [outsAt0_B m c t h0 h1]
  all_goals
    dsimp only; frame_out
    refine (row _ _ _ _ _ _ r j).trans ((congrArg _ ((row _ _ _ _ _ _ r j).trans (congrArg _ (row _ _ _ _ _ _ r j)))).trans ?_)
    rw [View.writes_nil, Memref.IsWhole.read_unread]
    exact st_step m c t _ _ _ r j _ (row_ld _ 0 _ r j) (row_ld _ 1 _ r j) (row_ld _ 2 _ r j)

/-- Rows of what the scratch held, loaded alone. -/
theorem old_rows (Z : Vec Ideal S2048x1024 .f32) (o : ℕ) (inb) (k : Fin 4) (b : Fin 512) (j : Fin 1024) (h : o = k * 512) :
    View.read (Elt Ideal) (View.whole cc0_scratch0) ((Memref.isWhole_whole cc0_scratch0).unread Z)
      ((Rect.unit (s := S2048x1024) ![o, 0] ![512, 1024] inb).idx (ix2 b j)) = Z (ix2 (ch k b) j) :=
  (rows_ld (View.read (Elt Ideal) (View.whole cc0_scratch0) ((Memref.isWhole_whole cc0_scratch0).unread Z)) o inb k b j h).trans
    (congrFun (Memref.IsWhole.read_unread (Memref.isWhole_whole cc0_scratch0) Z) (ix2 (ch k b) j))

theorem wo_first_ch (h0 : t.val % 16 = 0) (k : Fin 4) (b : Fin 512) (j : Fin 1024) : (outsAt0 m c t.val t.isLt).2.2.2.2.1 (ix2 (ch k b) j) = 0 + swo m c t (ch k b) j := by
  rw [outsAt0_A m c t h0 (by omega)]; dsimp only; frame_open
  simp (disch := decide) only [↓ View.readCov_skip, ↓ View.readCov_cons_toLoadRect, ↓ View.readCov_fill]
  refine (rows4 _ _ _ _ _ _ _ _ _ _ _ k b j).trans ?_
  frame_out
  refine Eq.trans ?_ (congrArg (· + _) (show k0_pay5 (F := Ideal) (ix2 (ch k b) j) = 0 by pointwise [k0_pay5]))
  exact pick4 k.isLt
    (fun e => by obtain rfl : k = 3 := Fin.ext e; exact ((grp3 m c t (ld m c t 3 1536)).2.2 _ b j).trans (Ideal.add_congr (rows_ld _ 1536 _ 3 b j rfl) rfl))
    (fun e => by obtain rfl : k = 2 := Fin.ext e; exact ((grp2 m c t (ld m c t 2 1024)).2.2 _ b j).trans (Ideal.add_congr (rows_ld _ 1024 _ 2 b j rfl) rfl))
    (fun e => by obtain rfl : k = 1 := Fin.ext e; exact ((grp1 m c t (ld m c t 1 512)).2.2 _ b j).trans (Ideal.add_congr (rows_ld _ 512 _ 1 b j rfl) rfl))
    (fun e => by obtain rfl : k = 0 := Fin.ext e; exact ((grp0 m c t (ld m c t 0 0)).2.2 _ b j).trans (Ideal.add_congr (rows_ld _ 0 _ 0 b j rfl) rfl))

theorem wo_next_ch (h0 : ¬ t.val % 16 = 0) (k : Fin 4) (b : Fin 512) (j : Fin 1024) : (outsAt0 m c t.val t.isLt).2.2.2.2.1 (ix2 (ch k b) j)
    = (prev m c t).2.2.2.2.1 (ix2 (ch k b) j) + swo m c t (ch k b) j := by
  by_cases h1 : t.val % 16 = 15
  on_goal 1 => rw [outsAt0_C m c t h0 h1]
  on_goal 2 => rw [outsAt0_B m c t h0 h1]
  all_goals
    dsimp only; frame_open
    refine (rows4 _ _ _ _ _ _ _ _ _ _ _ k b j).trans ?_
    frame_out
    exact pick4 k.isLt
      (fun e => by obtain rfl : k = 3 := Fin.ext e; exact ((grp3 m c t (ld m c t 3 1536)).2.2 _ b j).trans (Ideal.add_congr (old_rows _ 1536 _ 3 b j rfl) rfl))
      (fun e => by obtain rfl : k = 2 := Fin.ext e; exact ((grp2 m c t (ld m c t 2 1024)).2.2 _ b j).trans (Ideal.add_congr (old_rows _ 1024 _ 2 b j rfl) rfl))
      (fun e => by obtain rfl : k = 1 := Fin.ext e; exact ((grp1 m c t (ld m c t 1 512)).2.2 _ b j).trans (Ideal.add_congr (old_rows _ 512 _ 1 b j rfl) rfl))
      (fun e => by obtain rfl : k = 0 := Fin.ext e; exact ((grp0 m c t (ld m c t 0 0)).2.2 _ b j).trans (Ideal.add_congr (old_rows _ 0 _ 0 b j rfl) rfl))

/-- The last point copies the scratch out. -/
theorem wo_copied_ch (h1 : t.val % 16 = 15) (k : Fin 4) (b : Fin 512) (j : Fin 1024) : ((outsAt0 m c t.val t.isLt).2.2.2.2.2 : FVec Ideal S2048x1024 .f32) (ix2 (ch k b) j)
    = (prev m c t).2.2.2.2.1 (ix2 (ch k b) j) + swo m c t (ch k b) j := by
  rw [outsAt0_C m c t (by omega) h1]; dsimp only; unfold hbw0_C_0
  frame_open
  refine (congrFun (View.write_whole_univ (Val := Elt Ideal) main_v22_3 _ _) (ix2 (ch k b) j)).trans ?_
  refine (rows4 _ _ _ _ _ _ _ _ _ _ _ k b j).trans ?_
  frame_out
  exact pick4 k.isLt
    (fun e => by obtain rfl : k = 3 := Fin.ext e; exact ((grp3 m c t (ld m c t 3 1536)).2.2 _ b j).trans (Ideal.add_congr (old_rows _ 1536 _ 3 b j rfl) rfl))
    (fun e => by obtain rfl : k = 2 := Fin.ext e; exact ((grp2 m c t (ld m c t 2 1024)).2.2 _ b j).trans (Ideal.add_congr (old_rows _ 1024 _ 2 b j rfl) rfl))
    (fun e => by obtain rfl : k = 1 := Fin.ext e; exact ((grp1 m c t (ld m c t 1 512)).2.2 _ b j).trans (Ideal.add_congr (old_rows _ 512 _ 1 b j rfl) rfl))
    (fun e => by obtain rfl : k = 0 := Fin.ext e; exact ((grp0 m c t (ld m c t 0 0)).2.2 _ b j).trans (Ideal.add_congr (old_rows _ 0 _ 0 b j rfl) rfl))

/-! The same at every channel. -/

theorem dy_at (x : Fin 512) (q : Fin 2048) : (outsAt0 m c t.val t.isLt).2.1 (ix2 x q) = dy (DB m c) (wo m c) (gg m c) (rw_ t x) q :=
  by_ch (P := fun q => (outsAt0 m c t.val t.isLt).2.1 (ix2 x q) = dy (DB m c) (wo m c) (gg m c) (rw_ t x) q) (fun k b => dy_at_ch m c t x k b) q
theorem dg_at (x : Fin 512) (q : Fin 2048) : (outsAt0 m c t.val t.isLt).2.2.1 (ix2 x q) = dgate (DB m c) (wo m c) (gg m c) (YS m c) (rw_ t x) q :=
  by_ch (P := fun q => (outsAt0 m c t.val t.isLt).2.2.1 (ix2 x q) = dgate (DB m c) (wo m c) (gg m c) (YS m c) (rw_ t x) q) (fun k b => dg_at_ch m c t x k b) q
theorem wo_first (h0 : t.val % 16 = 0) (q : Fin 2048) (j : Fin 1024) : (outsAt0 m c t.val t.isLt).2.2.2.2.1 (ix2 q j) = 0 + swo m c t q j :=
  by_ch (P := fun q => (outsAt0 m c t.val t.isLt).2.2.2.2.1 (ix2 q j) = 0 + swo m c t q j) (fun k b => wo_first_ch m c t h0 k b j) q
theorem wo_next (h0 : ¬ t.val % 16 = 0) (q : Fin 2048) (j : Fin 1024) : (outsAt0 m c t.val t.isLt).2.2.2.2.1 (ix2 q j)
    = (prev m c t).2.2.2.2.1 (ix2 q j) + swo m c t q j :=
  by_ch (P := fun q => (outsAt0 m c t.val t.isLt).2.2.2.2.1 (ix2 q j)
    = (prev m c t).2.2.2.2.1 (ix2 q j) + swo m c t q j) (fun k b => wo_next_ch m c t h0 k b j) q
theorem wo_copied (h1 : t.val % 16 = 15) (q : Fin 2048) (j : Fin 1024) : ((outsAt0 m c t.val t.isLt).2.2.2.2.2 : FVec Ideal S2048x1024 .f32) (ix2 q j)
    = (prev m c t).2.2.2.2.1 (ix2 q j) + swo m c t q j :=
  by_ch (P := fun q => ((outsAt0 m c t.val t.isLt).2.2.2.2.2 : FVec Ideal S2048x1024 .f32) (ix2 q j)
    = (prev m c t).2.2.2.2.1 (ix2 q j) + swo m c t q j) (fun k b => wo_copied_ch m c t h1 k b j) q

/-- The tiles' rows, one tile after another, are the array's rows. -/
theorem tiles (t : Fin cfg0.N) (hf : t.val % 16 = 15) (f : Fin 8192 → EReal) :
    (∑ s : Fin 16, ∑ x : Fin 512, f (rw_ ⟨16 * (t.val / 16) + s, Pipeline.run_point_lt_of_flush t hf s⟩ x)) = ∑ r : Fin 8192, f r := by
  rw [Fin.sum_univ_tiles 16 512 rfl f]
  refine Finset.sum_congr rfl fun s _ => Finset.sum_congr rfl fun x _ => congrArg f (Fin.ext ?_)
  have ht := lt16 t
  show (16 * (t.val / 16) + (s : ℕ)) * 512 + (x : ℕ) = s * 512 + x
  omega

/-- The scratch and the three rows of sums after the last point. -/
theorem wo_run (hf : t.val % 16 = 15) (q : Fin 2048) (j : Fin 1024) :
    (outsAt0 m c t.val t.isLt).2.2.2.2.1 (ix2 q j) = gwo (DB m c) (gg m c) (YS m c) q j := by
  have hs := Pipeline.eq_sum_fin_of_reset_step_apply_of_flush (fun n h => (outsAt0 m c n h).2.2.2.2.1) 16 (fun _ => 0) (fun t j => swo m c t (j 0) (j 1))
    (fun t h j => by
      rw [eq_ix2 j]
      exact wo_first m c t h (j 0) (j 1))
    (fun t h j => by
      rw [eq_ix2 j]
      exact wo_next m c t h (j 0) (j 1)) t hf (ix2 q j)
  refine hs.trans ?_
  rw [zero_add]
  exact tiles t hf fun r => YS m c r q * silu (gg m c (ix2 r q)) * DB m c r j

theorem st_run (hf : t.val % 16 = 15) (r : Fin 8) (j : Fin 1024) :
    (outsAt0 m c t.val t.isLt).2.2.2.1 (ix2 r j) = st3 (ga m c) (gb m c) (gc m c) r j := by
  have hs := Pipeline.eq_sum_fin_of_reset_step_apply_of_flush (fun n h => (outsAt0 m c n h).2.2.2.1) 16 (fun _ => 0) (fun t j => sums m c t (j 0) (j 1))
    (fun t h j => by
      rw [eq_ix2 j]
      exact st_first m c t h (j 0) (j 1))
    (fun t h j => by
      rw [eq_ix2 j]
      exact st_next m c t h (j 0) (j 1)) t hf (ix2 r j)
  refine hs.trans ?_
  rw [zero_add]
  show ∑ s : Fin 16, sums m c ⟨16 * (t.val / 16) + s, _⟩ r j = _
  unfold sums st3
  by_cases h0 : (r : ℕ) = 0
  · simp only [if_pos h0]
    exact tiles t hf fun x => ga m c x j
  simp only [if_neg h0]
  by_cases h1 : (r : ℕ) = 1
  · simp only [if_pos h1]
    exact tiles t hf fun x => gb m c x j
  simp only [if_neg h1]
  by_cases h2 : (r : ℕ) = 2
  · simp only [if_pos h2]
    exact tiles t hf fun x => gc m c x j
  · simp only [if_neg h2, Finset.sum_const_zero]

/-- The output weights' gradient after the run. -/
theorem wo_final (n : ℕ) (hn : n < cfg0.N) (h15 : n % 16 = 15) :
    (outsAt0 m c n hn).2.2.2.2.2 = (fun j : S2048x1024.Idx => gwo (DB m c) (gg m c) (YS m c) (j 0) (j 1)) := by
  funext j
  have e0 := wo_copied m c ⟨n, hn⟩ h15 (j 0) (j 1)
  have e1 := wo_next m c ⟨n, hn⟩ (by show ¬ n % 16 = 0; omega) (j 0) (j 1)
  exact (congrArg (outsAt0 m c n hn).2.2.2.2.2 (eq_ix2 j)).trans (e0.trans (e1.symm.trans (wo_run m c ⟨n, hn⟩ h15 (j 0) (j 1))))

/-- The rows of sums after the run. -/
theorem st_final : (dats m 0 c).arrAt 12 (cfgs 0).N = fun j : S8x1024.Idx => st3 (ga m c) (gb m c) (gc m c) (j 0) (j 1) := by
  refine (dats m 0 c).arrAt_eq_of_covers 12 _ (by decide +kernel) fun t hf y => ?_
  rw [after0_12]
  have hp := st_run m c t ((flush0_12 t).mp hf) (y 0) (y 1)
  rw [← eq_ix2 y] at hp
  have e : ((cfg0.win 12).blk t).view.emb y = y := funext (Fin.forall_fin_two.mpr ⟨Fin.ext (by blk_simp [idx_val t]), Fin.ext (by blk_simp [idx_val t])⟩)
  rw [← e] at hp
  exact (congrArg (outsAt0 m c t.val t.isLt).2.2.2.1 e.symm).trans hp

/-- The row's gradient after the run. -/
theorem dz_final : (dats m 0 c).arrAt 9 (cfgs 0).N = fun j : S8192x1024.Idx => DZ m c (j 0) (j 1) := by
  refine (dats m 0 c).arrAt_eq_of_covers 9 _ (by decide +kernel) fun t hf y => ?_
  rw [after0_9]
  have hp := dz_at m c t (y 0) (y 1)
  have e0 : rw_ t (y 0) = ((cfg0.win 9).blk t).view.emb y 0 := Fin.ext (by
    show t.val * 512 + (y 0).val = _
    blk_simp [idx_val t])
  have e1 : (y 1 : Fin 1024) = ((cfg0.win 9).blk t).view.emb y 1 := Fin.ext (by blk_simp [idx_val t])
  rw [← eq_ix2 y, e0, e1] at hp
  exact hp

/-- The scans' gradient after the run. -/
theorem dy_final : (dats m 0 c).arrAt 10 (cfgs 0).N = fun j : S8192x2048.Idx => dy (DB m c) (wo m c) (gg m c) (j 0) (j 1) := by
  refine (dats m 0 c).arrAt_eq_of_covers 10 _ (by decide +kernel) fun t hf y => ?_
  rw [after0_10]
  have hp := dy_at m c t (y 0) (y 1)
  have e0 : rw_ t (y 0) = ((cfg0.win 10).blk t).view.emb y 0 := Fin.ext (by
    show t.val * 512 + (y 0).val = _
    blk_simp [idx_val t])
  have e1 : (y 1 : Fin 2048) = ((cfg0.win 10).blk t).view.emb y 1 := Fin.ext (by blk_simp [idx_val t])
  rw [← eq_ix2 y, e0, e1] at hp
  exact hp

/-- The gate's gradient after the run. -/
theorem dg_final : (dats m 0 c).arrAt 11 (cfgs 0).N = fun j : S8192x2048.Idx => dgate (DB m c) (wo m c) (gg m c) (YS m c) (j 0) (j 1) := by
  refine (dats m 0 c).arrAt_eq_of_covers 11 _ (by decide +kernel) fun t hf y => ?_
  rw [after0_11]
  have hp := dg_at m c t (y 0) (y 1)
  have e0 : rw_ t (y 0) = ((cfg0.win 11).blk t).view.emb y 0 := Fin.ext (by
    show t.val * 512 + (y 0).val = _
    blk_simp [idx_val t])
  have e1 : (y 1 : Fin 2048) = ((cfg0.win 11).blk t).view.emb y 1 := Fin.ext (by blk_simp [idx_val t])
  rw [← eq_ix2 y, e0, e1] at hp
  exact hp
end Cert.Out0BIdeal.Out
end
end
-- ==== Proof.Out0BRef.lean ====
module

public import proofs.«01_k».proof.Proof.Gen.Out0BRefIdeal.Run
public import proofs.«01_k».proof.Proof.LnLib

/-! What the reference of the first layer's output gradient leaves in its five results, at one index. -/

@[expose] public section

set_option maxRecDepth 16384
noncomputable section
open Idealize.ShloMosaic Idealize.ShloMosaic.TcCoe Idealize.SL.Sem
namespace Cert.Out0BRefIdeal.Out
open Cert.Out0BRefIdeal Cert.Out0BRefIdeal.Gen Cert.Out0BRefIdeal.Value Cert.InLib Cert.OutLib Cert.LnLib
variable (m : (ℓ : Loc nD τ sig) → Buf (Elt Ideal) ℓ) (c : Dev nD)

/-- The run's arguments. -/
abbrev dx : (Sh2 8192 1024).Idx → EReal := m ((c : Thread nD τ).loc main_arg0)
abbrev xx : (Sh2 8192 1024).Idx → EReal := m ((c : Thread nD τ).loc main_arg1)
abbrev hf : (Sh2 8192 2048).Idx → EReal := m ((c : Thread nD τ).loc main_arg2)
abbrev hb : (Sh2 8192 2048).Idx → EReal := m ((c : Thread nD τ).loc main_arg3)
abbrev gg : (Sh2 8192 2048).Idx → EReal := m ((c : Thread nD τ).loc main_arg4)
abbrev gt : (Sh1 1024).Idx → EReal := m ((c : Thread nD τ).loc main_arg5)
abbrev wo : (Sh2 2048 1024).Idx → EReal := m ((c : Thread nD τ).loc main_arg6)
abbrev lg : (Sh1 1024).Idx → EReal := m ((c : Thread nD τ).loc main_arg7)
/-- The two scans' sum, the branch, the row before the norm, the normed row's gradient, the row's gradient and the branch's. -/
abbrev YS : Fin 8192 → Fin 2048 → EReal := ysum (hf m c) (hb m c)
abbrev BR : Fin 8192 → Fin 1024 → EReal := branch (YS m c) (gg m c) (wo m c)
abbrev ZR : Fin 8192 → Fin 1024 → EReal := resid (xx m c) (gt m c) (BR m c)
abbrev PR : Fin 8192 → Fin 1024 → EReal := scaled (dx m c) (lg m c)
abbrev DZ : Fin 8192 → Fin 1024 → EReal := fun r => nbr (ZR m c r) (PR m c r)
abbrev DB : Fin 8192 → Fin 1024 → EReal := gated (gt m c) (DZ m c)
/-- The gate's gradient as the reference forms it: two products, added. -/
def dgr (r : Fin 8192) (q : Fin 2048) : EReal :=
  YS m c r q * dp (DB m c) (wo m c) r q * Ideal.logistic (gg m c (ix2 r q))
    + gg m c (ix2 r q) * (YS m c r q * dp (DB m c) (wo m c) r q) * (Ideal.logistic (gg m c (ix2 r q)) * (1 - Ideal.logistic (gg m c (ix2 r q))))
/-- The summands of the three rows of sums. -/
def ga (r : Fin 8192) (j : Fin 1024) : EReal := dx m c (ix2 r j) * xh (ZR m c r) j
def gb (r : Fin 8192) (j : Fin 1024) : EReal := dx m c (ix2 r j)
def gc (r : Fin 8192) (j : Fin 1024) : EReal := DZ m c r j * BR m c r j

theorem dz_at (r : Fin 8192) (j : Fin 1024) : res_main_v73 m c (ix2 r j) = DZ m c r j := by
  unfold res_main_v73 DZ PR ZR BR YS dx xx hf hb gg gt wo lg
  generalize m ((c : Thread nD τ).loc main_arg0) = X0
  generalize m ((c : Thread nD τ).loc main_arg1) = X1
  generalize m ((c : Thread nD τ).loc main_arg2) = X2
  generalize m ((c : Thread nD τ).loc main_arg3) = X3
  generalize m ((c : Thread nD τ).loc main_arg4) = X4
  generalize m ((c : Thread nD τ).loc main_arg5) = X5
  generalize m ((c : Thread nD τ).loc main_arg6) = X6
  generalize m ((c : Thread nD τ).loc main_arg7) = X7
  generalize hZ : addf (mulf (broadcastInDim _ _ _ _ : FVec Ideal S8192x1024 .f32) X1) (mulf _ _) = Z
  generalize hP : mulf (shapeCast (s := S8192x1024) _ X0 _ : FVec Ideal S8192x1024 .f32) (broadcastInDim _ _ _ _) = P
  have hz : ∀ j, Z (ix2 r j) = resid X1 X5 (branch (ysum X2 X3) X4 X6) r j := fun j => by
    subst hZ; unfold resid branch ysum silu; pointwise; rfl
  have hp : ∀ j, P (ix2 r j) = scaled X0 X7 r j := fun j => by
    subst hP; unfold scaled; pointwise
  clear hZ hP
  unfold nbr vd rs sd zc mean
  simp only [← hz, ← hp]
  pointwise
  simp only [Fin.sum_univ_one]
/-- The gradient before the output product, of the row's gradient `D`. -/
theorem dp_at (D : FVec Ideal S8192x1024 .f32) (hD : ∀ r j, D (ix2 r j) = DZ m c r j) (r : Fin 8192) (j : Fin 1024) :
    gt m c (ix1 j) * D (ix2 r j) = DB m c r j := congrArg _ (hD r j)

theorem dy_at (r : Fin 8192) (q : Fin 2048) : res_main_v91 m c (ix2 r q) = dy (DB m c) (wo m c) (gg m c) r q := by
  have h := dp_at m c (res_main_v73 m c) (dz_at m c)
  unfold res_main_v91 dy dp silu
  generalize hD : addf (addf (mulf (mulf (shapeCast (s := S8192x1024) _ (m ((c : Thread nD τ).loc main_arg0)) _ : FVec Ideal S8192x1024 .f32) _) _) (mulf _ _)) (broadcastInDim _ _ _ _) = D
  rw [show res_main_v73 m c = D from hD] at h
  clear hD
  simp only [← h, gt, wo, gg]
  generalize m ((c : Thread nD τ).loc main_arg0) = X0
  generalize m ((c : Thread nD τ).loc main_arg1) = X1
  generalize m ((c : Thread nD τ).loc main_arg2) = X2
  generalize m ((c : Thread nD τ).loc main_arg3) = X3
  generalize m ((c : Thread nD τ).loc main_arg4) = X4
  generalize m ((c : Thread nD τ).loc main_arg5) = X5
  generalize m ((c : Thread nD τ).loc main_arg6) = X6
  generalize m ((c : Thread nD τ).loc main_arg7) = X7
  pointwise
  rfl

theorem dg_at (r : Fin 8192) (q : Fin 2048) : res_main_v92 m c (ix2 r q) = dgr m c r q := by
  have h := dp_at m c (res_main_v73 m c) (dz_at m c)
  unfold res_main_v92 dgr dp
  generalize hD : addf (addf (mulf (mulf (shapeCast (s := S8192x1024) _ (m ((c : Thread nD τ).loc main_arg0)) _ : FVec Ideal S8192x1024 .f32) _) _) (mulf _ _)) (broadcastInDim _ _ _ _) = D
  rw [show res_main_v73 m c = D from hD] at h
  clear hD
  simp only [← h, gt, wo, gg, YS, ysum, hf, hb]
  generalize m ((c : Thread nD τ).loc main_arg0) = X0
  generalize m ((c : Thread nD τ).loc main_arg1) = X1
  generalize m ((c : Thread nD τ).loc main_arg2) = X2
  generalize m ((c : Thread nD τ).loc main_arg3) = X3
  generalize m ((c : Thread nD τ).loc main_arg4) = X4
  generalize m ((c : Thread nD τ).loc main_arg5) = X5
  generalize m ((c : Thread nD τ).loc main_arg6) = X6
  generalize m ((c : Thread nD τ).loc main_arg7) = X7
  pointwise
  rfl

theorem wo_at (q : Fin 2048) (j : Fin 1024) : res_main_v81 m c (ix2 q j) = gwo (DB m c) (gg m c) (YS m c) q j := by
  have h := dp_at m c (res_main_v73 m c) (dz_at m c)
  unfold res_main_v81 gwo silu
  generalize hD : addf (addf (mulf (mulf (shapeCast (s := S8192x1024) _ (m ((c : Thread nD τ).loc main_arg0)) _ : FVec Ideal S8192x1024 .f32) _) _) (mulf _ _)) (broadcastInDim _ _ _ _) = D
  rw [show res_main_v73 m c = D from hD] at h
  clear hD
  simp only [← h, gt, wo, gg, YS, ysum, hf, hb]
  generalize m ((c : Thread nD τ).loc main_arg0) = X0
  generalize m ((c : Thread nD τ).loc main_arg1) = X1
  generalize m ((c : Thread nD τ).loc main_arg2) = X2
  generalize m ((c : Thread nD τ).loc main_arg3) = X3
  generalize m ((c : Thread nD τ).loc main_arg4) = X4
  generalize m ((c : Thread nD τ).loc main_arg5) = X5
  generalize m ((c : Thread nD τ).loc main_arg6) = X6
  generalize m ((c : Thread nD τ).loc main_arg7) = X7
  pointwise
  show @Eq EReal _ _
  exact Finset.sum_congr rfl fun x _ => (mul_comm _ _).trans rfl

theorem st_at (r : Fin 8) (j : Fin 1024) : res_main_v90 m c (ix2 r j) = st3 (ga m c) (gb m c) (gc m c) r j := by
  have hd := dz_at m c
  unfold res_main_v90
  generalize hD : addf (addf (mulf (mulf (shapeCast (s := S8192x1024) _ (m ((c : Thread nD τ).loc main_arg0)) _ : FVec Ideal S8192x1024 .f32) _) _) (mulf _ _)) (broadcastInDim _ _ _ _) = D
  rw [show res_main_v73 m c = D from hD] at hd
  clear hD
  unfold st3 gc ga gb
  simp only [← hd]
  unfold ZR BR YS dx xx hf hb gg gt wo
  clear hd
  generalize m ((c : Thread nD τ).loc main_arg0) = X0
  generalize m ((c : Thread nD τ).loc main_arg1) = X1
  generalize m ((c : Thread nD τ).loc main_arg2) = X2
  generalize m ((c : Thread nD τ).loc main_arg3) = X3
  generalize m ((c : Thread nD τ).loc main_arg4) = X4
  generalize m ((c : Thread nD τ).loc main_arg5) = X5
  generalize m ((c : Thread nD τ).loc main_arg6) = X6
  generalize m ((c : Thread nD τ).loc main_arg7) = X7
  generalize hB : Host.dotGeneral (F := Ideal) dot_S8192x2048_S2048x1024_S8192x1024_1_0_0_1_n_n none (mulf (addf _ _) _) _ = B
  have hb : ∀ r j, B (ix2 r j) = branch (ysum X2 X3) X4 X6 r j := fun r j => by
    subst hB; unfold branch ysum silu; pointwise; rfl
  clear hB
  generalize hZ : addf (mulf (broadcastInDim _ _ _ _ : FVec Ideal S8192x1024 .f32) X1) (mulf _ _) = Z
  have hz : ∀ r j, Z (ix2 r j) = resid X1 X5 (branch (ysum X2 X3) X4 X6) r j := fun r j => by
    subst hZ; unfold resid; rw [← hb]; pointwise
  clear hZ
  simp only [← hb]
  unfold xh rs sd zc mean
  simp only [← hz]
  clear hb hz
  pointwise
  show @Eq EReal _ _
  by_cases h0 : (r : ℕ) = 0
  · rw [dif_pos (by omega), if_pos h0]
    exact (Fin.sum_univ_one _).trans (Finset.sum_congr rfl fun x _ => mul_comm _ _)
  rw [dif_neg (by omega), if_neg h0]
  by_cases h1 : (r : ℕ) = 1
  · rw [dif_pos (by omega), if_pos h1]
    exact Fin.sum_univ_one _
  rw [dif_neg (by omega), if_neg h1]
  by_cases h2 : (r : ℕ) = 2
  · rw [dif_pos (by omega), if_pos h2]
    exact Fin.sum_univ_one _
  · rw [dif_neg (by omega), if_neg h2]
/-- The five results of the reference at every index, and its arguments kept. -/
theorem run_main (ρ : Dev nD → PrngReg) :
    θ_run defs (onTc (τ := τ) (main (F := Ideal))) ⟨m, fun _ => 0, ρ⟩ fun r => ∀ c : Dev nD,
      r.2.mem ((c.tc : Thread nD τ).loc main_v73) = (fun j : S8192x1024.Idx => DZ m c (j 0) (j 1))
      ∧ r.2.mem ((c.tc : Thread nD τ).loc main_v91) = (fun j : S8192x2048.Idx => dy (DB m c) (wo m c) (gg m c) (j 0) (j 1))
      ∧ r.2.mem ((c.tc : Thread nD τ).loc main_v92) = (fun j : S8192x2048.Idx => dgr m c (j 0) (j 1))
      ∧ r.2.mem ((c.tc : Thread nD τ).loc main_v81) = (fun j : S2048x1024.Idx => gwo (DB m c) (gg m c) (YS m c) (j 0) (j 1))
      ∧ r.2.mem ((c.tc : Thread nD τ).loc main_v90) = (fun j : S8x1024.Idx => st3 (ga m c) (gb m c) (gc m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (funext fun j => (congrArg _ (eq_ix2 j)).trans (dz_at m c (j 0) (j 1))),
    (h c).2.1.trans (funext fun j => (congrArg _ (eq_ix2 j)).trans (dy_at m c (j 0) (j 1))),
    (h c).2.2.1.trans (funext fun j => (congrArg _ (eq_ix2 j)).trans (dg_at m c (j 0) (j 1))),
    (h c).2.2.2.1.trans (funext fun j => (congrArg _ (eq_ix2 j)).trans (wo_at m c (j 0) (j 1))),
    (h c).2.2.2.2.1.trans (funext fun j => (congrArg _ (eq_ix2 j)).trans (st_at m c (j 0) (j 1))), (h c).2.2.2.2.2⟩) (run m ρ)
end Cert.Out0BRefIdeal.Out
end
end
-- ==== Proof.Out1.lean ====
module

public import proofs.«01_k».proof.Proof.Gen.Out1Ideal.Value
public import proofs.«01_k».proof.Proof.LnLib
public import Idealize.ShloMosaic.Lib.StableHlo.ReadAt

/-! What the kernel of the second layer's output, its loss and the loss's gradient leaves in its three result arrays, at one index. -/

@[expose] public section

set_option maxRecDepth 16384
noncomputable section
open Idealize.ShloMosaic Idealize.ShloMosaic.TcCoe Idealize.SL.Sem
namespace Cert.Out1Ideal.Out
open Cert.Out1Ideal Cert.Out1Ideal.Gen Cert.Out1Ideal.Value Cert.InLib Cert.OutLib Cert.LnLib
variable (m : (ℓ : Loc nD τ sig) → Buf (Elt Ideal) ℓ) (c : Dev nD) (t : Fin cfg0.N)

/-- Every window's block index at point `t`: row tile `t`, or the whole array. -/
theorem idx_val : ∀ t : Fin cfg0.N, win0_0.index t = ![t.val, 0] ∧ win0_1.index t = ![0, 0, 0]
    ∧ win0_2.index t = ![0, 0] ∧ win0_3.index t = ![t.val, 0]
    ∧ win0_4.index t = ![t.val, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![0, 0] ∧ win0_12.index t = ![t.val, 0]
    ∧ t.val < 16 :=
  (by decide +kernel : ∀ t : Fin grid0.N, _)
theorem lt16 : t.val < 16 := (idx_val t).2.2.2.2.2.2.2.2.2.2.2.2.2

/-- The run's arguments. -/
abbrev dm : (Sh2 8192 2048).Idx → EReal := m ((c : Thread nD τ).loc main_arg0)
abbrev pw : (Sh3 4 512 512).Idx → EReal := m ((c : Thread nD τ).loc main_arg1)
abbrev ps : (Sh1 2048).Idx → EReal := m ((c : Thread nD τ).loc main_arg2)
abbrev gg : (Sh2 8192 2048).Idx → EReal := m ((c : Thread nD τ).loc main_arg3)
abbrev xx : (Sh2 8192 1024).Idx → EReal := m ((c : Thread nD τ).loc main_arg4)
abbrev gt : (Sh1 1024).Idx → EReal := m ((c : Thread nD τ).loc main_arg5)
abbrev wo : (Sh2 2048 1024).Idx → EReal := m ((c : Thread nD τ).loc main_arg6)
abbrev lg : (Sh1 1024).Idx → EReal := m ((c : Thread nD τ).loc main_arg7)
abbrev lb : (Sh1 1024).Idx → EReal := m ((c : Thread nD τ).loc main_arg8)
abbrev tg : (Sh2 8192 1024).Idx → EReal := m ((c : Thread nD τ).loc main_arg9)
/-- The scaled grouped product, the branch, the row before the norm, the error and its gradient, the normed row's and the row's gradient. -/
abbrev YS : Fin 8192 → Fin 2048 → EReal := ysc (dm m c) (pw m c) (ps m c)
abbrev BR : Fin 8192 → Fin 1024 → EReal := branch (YS m c) (gg m c) (wo m c)
abbrev ZR : Fin 8192 → Fin 1024 → EReal := resid (xx m c) (gt m c) (BR m c)
def ER (r : Fin 8192) (j : Fin 1024) : EReal := xh (ZR m c r) j * lg m c (ix1 j) + lb m c (ix1 j) - tg m c (ix2 r j)
def DY (r : Fin 8192) (j : Fin 1024) : EReal := ER m c r j * invW
def PR (r : Fin 8192) (j : Fin 1024) : EReal := DY m c r j * lg m c (ix1 j)
abbrev DZ : Fin 8192 → Fin 1024 → EReal := fun r => nb (ZR m c r) (PR m c r)

/-- The row of the arrays that row `x` of point `t`'s blocks holds. -/
def rw_ (x : Fin 512) : Fin 8192 := ⟨t.val * 512 + x, by have := lt16 t; omega⟩

theorem V_m (r : Fin 8192) (q : Fin 2048) : V m c main_v0 (ix2 r q) = dm m c (ix2 r q) := by
  unfold V; after_reads_at
theorem V_w (k : Fin 4) (a b : Fin 512) : V m c main_v1 (ix3 k a b) = pw m c (ix3 k a b) := by
  unfold V; after_reads_at
theorem V_s (q : Fin 2048) : V m c main_v2 (ix2 (0 : Fin 1) q) = ps m c (ix1 q) := by
  unfold V; after_reads_at
theorem V_g (r : Fin 8192) (q : Fin 2048) : V m c main_v3 (ix2 r q) = gg m c (ix2 r q) := by
  unfold V; after_reads_at
theorem V_t (j : Fin 1024) : V m c main_v4 (ix2 (0 : Fin 1) j) = gt m c (ix1 j) := by
  unfold V; after_reads_at
theorem V_o (q : Fin 2048) (j : Fin 1024) : V m c main_v5 (ix2 q j) = wo m c (ix2 q j) := by
  unfold V; after_reads_at
theorem V_l (j : Fin 1024) : V m c main_v6 (ix2 (0 : Fin 1) j) = lg m c (ix1 j) := by
  unfold V; after_reads_at
theorem V_b (j : Fin 1024) : V m c main_v7 (ix2 (0 : Fin 1) j) = lb m c (ix1 j) := by
  unfold V; after_reads_at

theorem m_at (x : Fin 512) (q : Fin 2048) : iblk m c 0 t (ix2 x q) = dm m c (ix2 (rw_ t x) q) := by
  refine Eq.trans ?_ (V_m m c _ q); unfold rw_; blk_ext [iblk, idx_val t]
theorem w_at (k : Fin 4) (a b : Fin 512) : iblk m c 1 t (ix3 k a b) = pw m c (ix3 k a b) := by
  refine Eq.trans ?_ (V_w m c k a b); blk_ext [iblk, idx_val t]
theorem s_at (q : Fin 2048) : iblk m c 2 t (ix2 0 q) = ps m c (ix1 q) := by
  refine Eq.trans ?_ (V_s m c q); blk_ext [iblk, idx_val t]
theorem g_at (x : Fin 512) (q : Fin 2048) : iblk m c 3 t (ix2 x q) = gg m c (ix2 (rw_ t x) q) := by
  refine Eq.trans ?_ (V_g m c _ q); unfold rw_; blk_ext [iblk, idx_val t]
theorem x_at (x : Fin 512) (j : Fin 1024) : iblk m c 4 t (ix2 x j) = xx m c (ix2 (rw_ t x) j) := by
  unfold rw_ xx; blk_ext [iblk, V, idx_val t]
theorem t_at (j : Fin 1024) : iblk m c 5 t (ix2 0 j) = gt m c (ix1 j) := by
  refine Eq.trans ?_ (V_t m c j); blk_ext [iblk, idx_val t]
theorem o_at (q : Fin 2048) (j : Fin 1024) : iblk m c 6 t (ix2 q j) = wo m c (ix2 q j) := by
  refine Eq.trans ?_ (V_o m c q j); blk_ext [iblk, idx_val t]
theorem l_at (j : Fin 1024) : iblk m c 7 t (ix2 0 j) = lg m c (ix1 j) := by
  refine Eq.trans ?_ (V_l m c j); blk_ext [iblk, idx_val t]
theorem b_at (j : Fin 1024) : iblk m c 8 t (ix2 0 j) = lb m c (ix1 j) := by
  refine Eq.trans ?_ (V_b m c j); blk_ext [iblk, idx_val t]
theorem e_at (x : Fin 512) (j : Fin 1024) : iblk m c 9 t (ix2 x j) = tg m c (ix2 (rw_ t x) j) := by
  unfold rw_ tg; blk_ext [iblk, V, idx_val t]

/-- What the loads of group `k` hold at point `t`. -/
structure Ld (k : Fin 4) (A : Vec Ideal S512x512 .bf16) (P : Vec Ideal S1x512x512 .bf16) (S : Vec Ideal S1x512 .f32) (G : Vec Ideal S512x512 .bf16)
    (W : Vec Ideal S512x1024 .bf16) : Prop where
  a : ∀ x b, A (ix2 x b) = dm m c (ix2 (rw_ t x) (ch k b))
  p : ∀ a b, P (ix3 0 a b) = pw m c (ix3 k a b)
  s : ∀ b, S (ix2 0 b) = ps m c (ix1 (ch k b))
  g : ∀ x b, G (ix2 x b) = gg m c (ix2 (rw_ t x) (ch k b))
  w : ∀ b j, W (ix2 b j) = wo m c (ix2 (ch k b) j)

theorem ld (k : Fin 4) (o k' : ℕ) (ho : o = k * 512 := by rfl) (hk : (k : ℕ) = k' := by rfl)
    (i1 : ∀ a, (![0, o] : Fin 2 → ℕ) a + (![512, 512] : Fin 2 → ℕ) a ≤ S512x2048.size a := by decide)
    (i2 : ∀ a, (![0, o] : Fin 2 → ℕ) a + (![1, 512] : Fin 2 → ℕ) a ≤ S1x2048.size a := by decide)
    (i3 : ∀ a, (![o, 0] : Fin 2 → ℕ) a + (![512, 1024] : Fin 2 → ℕ) a ≤ S2048x1024.size a := by decide)
    (i4 : ∀ a, (![k', 0, 0] : Fin 3 → ℕ) a + (![1, 512, 512] : Fin 3 → ℕ) a ≤ S4x512x512.size a := by decide) :
    Ld m c t k (View.ld (iblk m c 0 t) (Rect.unit (s := S512x2048) ![0, o] ![512, 512] i1)) (View.ld (iblk m c 1 t) (Rect.unit (s := S4x512x512) ![k', 0, 0] ![1, 512, 512] i4))
      (View.ld (iblk m c 2 t) (Rect.unit (s := S1x2048) ![0, o] ![1, 512] i2)) (View.ld (iblk m c 3 t) (Rect.unit (s := S512x2048) ![0, o] ![512, 512] i1))
      (View.ld (iblk m c 6 t) (Rect.unit (s := S2048x1024) ![o, 0] ![512, 1024] i3)) :=
  ⟨fun x b => (cols_ld _ o i1 x k b ho).trans (m_at m c t x _), fun a b => (slab_ld _ k' i4 k a b hk).trans (w_at m c t k a b),
    fun b => (cols_ld _ o i2 0 k b ho).trans (s_at m c t _), fun x b => (cols_ld _ o i1 x k b ho).trans (g_at m c t x _),
    fun b j => (rows_ld _ o i3 k b j ho).trans (o_at m c t _ j)⟩

/-- What group `k` adds to the branch. -/
def part (k : Fin 4) (x : Fin 512) (j : Fin 1024) : EReal := ∑ b : Fin 512, YS m c (rw_ t x) (ch k b) * silu (gg m c (ix2 (rw_ t x) (ch k b))) * wo m c (ix2 (ch k b) j)

section Groups
variable {A : Vec Ideal S512x512 .bf16} {P : Vec Ideal S1x512x512 .bf16} {S : Vec Ideal S1x512 .f32} {G : Vec Ideal S512x512 .bf16} {W : Vec Ideal S512x1024 .bf16}
theorem grp0 (h : Ld m c t 0 A P S G W) :
    (∀ x b, k0_pay5 (F := Ideal) A P (ix2 x b) = po (dm m c) (pw m c) (rw_ t x) (ch 0 b))
    ∧ (∀ x j, k0_pay6 (F := Ideal) A P S G W (ix2 x j) = 0 + part m c t 0 x j) := by
  unfold part YS ysc po silu
  simp only [kk_ch, bb_ch, ← h.a, ← h.p, ← h.s, ← h.g, ← h.w]
  refine ⟨fun x b => ?_, fun x j => ?_⟩
  all_goals
    pointwise [k0_pay4, k0_pay5, k0_pay6]
    try simp only [sg_eq]
theorem grp1 (h : Ld m c t 1 A P S G W) :
    (∀ x b, k0_pay9 (F := Ideal) (k0_pay7 A) P (ix2 x b) = po (dm m c) (pw m c) (rw_ t x) (ch 1 b))
    ∧ (∀ (O : FVec Ideal S512x1024 .f32) x j, k0_pay10 (F := Ideal) O (k0_pay7 A) P S G W (ix2 x j) = O (ix2 x j) + part m c t 1 x j) := by
  unfold part YS ysc po silu
  simp only [kk_ch, bb_ch, ← h.a, ← h.p, ← h.s, ← h.g, ← h.w]
  refine ⟨fun x b => ?_, fun O x j => ?_⟩
  all_goals
    pointwise [k0_pay7, k0_pay8, k0_pay9, k0_pay10]
    try simp only [sg_eq]
theorem grp2 (h : Ld m c t 2 A P S G W) :
    (∀ x b, k0_pay12 (F := Ideal) A P (ix2 x b) = po (dm m c) (pw m c) (rw_ t x) (ch 2 b))
    ∧ (∀ (O : FVec Ideal S512x1024 .f32) x j, k0_pay13 (F := Ideal) O (k0_pay11 A P) S G W (ix2 x j) = O (ix2 x j) + part m c t 2 x j) := by
  unfold part YS ysc po silu
  simp only [kk_ch, bb_ch, ← h.a, ← h.p, ← h.s, ← h.g, ← h.w]
  refine ⟨fun x b => ?_, fun O x j => ?_⟩
  all_goals
    pointwise [k0_pay11, k0_pay12, k0_pay13]
    try simp only [sg_eq]
theorem grp3 (h : Ld m c t 3 A P S G W) :
    (∀ x b, k0_pay15 (F := Ideal) A P (ix2 x b) = po (dm m c) (pw m c) (rw_ t x) (ch 3 b))
    ∧ (∀ (O : FVec Ideal S512x1024 .f32) x j, k0_pay19 (F := Ideal) O (k0_pay16 A P S) (k0_pay17 G) (k0_pay18 G) W (ix2 x j) = O (ix2 x j) + part m c t 3 x j) := by
  unfold part YS ysc po silu
  simp only [kk_ch, bb_ch, ← h.a, ← h.p, ← h.s, ← h.g, ← h.w]
  refine ⟨fun x b => ?_, fun O x j => ?_⟩
  all_goals
    pointwise [k0_pay14, k0_pay15, k0_pay16, k0_pay17, k0_pay18, k0_pay19]
    try simp only [sg_eq]
end Groups

/-! The loads of point `t`, group by group, and the branch over the first three groups. -/

abbrev lA (o : ℕ) (i : ∀ a, (![0, o] : Fin 2 → ℕ) a + (![512, 512] : Fin 2 → ℕ) a ≤ S512x2048.size a := by decide) : Vec Ideal S512x512 .bf16 :=
  View.ld (iblk m c 0 t) (Rect.unit (s := S512x2048) ![0, o] ![512, 512] i)
abbrev lP (k : ℕ) (i : ∀ a, (![k, 0, 0] : Fin 3 → ℕ) a + (![1, 512, 512] : Fin 3 → ℕ) a ≤ S4x512x512.size a := by decide) : Vec Ideal S1x512x512 .bf16 :=
  View.ld (iblk m c 1 t) (Rect.unit (s := S4x512x512) ![k, 0, 0] ![1, 512, 512] i)
abbrev lS (o : ℕ) (i : ∀ a, (![0, o] : Fin 2 → ℕ) a + (![1, 512] : Fin 2 → ℕ) a ≤ S1x2048.size a := by decide) : Vec Ideal S1x512 .f32 :=
  View.ld (iblk m c 2 t) (Rect.unit (s := S1x2048) ![0, o] ![1, 512] i)
abbrev lG (o : ℕ) (i : ∀ a, (![0, o] : Fin 2 → ℕ) a + (![512, 512] : Fin 2 → ℕ) a ≤ S512x2048.size a := by decide) : Vec Ideal S512x512 .bf16 :=
  View.ld (iblk m c 3 t) (Rect.unit (s := S512x2048) ![0, o] ![512, 512] i)
abbrev lW (o : ℕ) (i : ∀ a, (![o, 0] : Fin 2 → ℕ) a + (![512, 1024] : Fin 2 → ℕ) a ≤ S2048x1024.size a := by decide) : Vec Ideal S512x1024 .bf16 :=
  View.ld (iblk m c 6 t) (Rect.unit (s := S2048x1024) ![o, 0] ![512, 1024] i)
abbrev acc : FVec Ideal S512x1024 .f32 :=
  k0_pay13 (k0_pay10 (k0_pay6 (lA m c t 0) (lP m c t 0) (lS m c t 0) (lG m c t 0) (lW m c t 0)) (k0_pay7 (lA m c t 512)) (lP m c t 1) (lS m c t 512) (lG m c t 512) (lW m c t 512))
    (k0_pay11 (lA m c t 1024) (lP m c t 2)) (lS m c t 1024) (lG m c t 1024) (lW m c t 1024)
abbrev y3 : FVec Ideal S512x512 .f32 := k0_pay16 (lA m c t 1536) (lP m c t 3) (lS m c t 1536)
abbrev g3 : FVec Ideal S512x512 .f32 := k0_pay17 (lG m c t 1536)
abbrev h3 : FVec Ideal S512x512 .f32 := k0_pay18 (lG m c t 1536)

theorem br_at (x : Fin 512) (j : Fin 1024) : k0_pay19 (F := Ideal) (acc m c t) (y3 m c t) (g3 m c t) (h3 m c t) (lW m c t 1536) (ix2 x j) = BR m c (rw_ t x) j := by
  refine Eq.trans ?_ (branch_ch _ _ _ _ _).symm
  refine ((grp3 m c t (ld m c t 3 1536 3)).2 _ x j).trans (Ideal.add_congr ?_ rfl)
  refine ((grp2 m c t (ld m c t 2 1024 2)).2 _ x j).trans (Ideal.add_congr ?_ rfl)
  refine ((grp1 m c t (ld m c t 1 512 1)).2 _ x j).trans (Ideal.add_congr ?_ rfl)
  exact (grp0 m c t (ld m c t 0 0 0)).2 x j

/-! The row's norm, the error and the gradients, from the blocks of point `t`. -/

theorem zc_at (x : Fin 512) (j : Fin 1024) : k0_pay20 (F := Ideal) (acc m c t) (y3 m c t) (g3 m c t) (h3 m c t) (lW m c t 1536) (iblk m c 4 t) (iblk m c 5 t) (ix2 x j)
    = zc (ZR m c (rw_ t x)) j := by
  have hr := br_at m c t
  have ht := t_at m c t
  have hx := x_at m c t
  unfold k0_pay20
  generalize k0_pay19 (F := Ideal) _ _ _ _ _ = B at *
  generalize iblk m c 5 t = T at *
  generalize iblk m c 4 t = X at *
  unfold zc mean ZR resid
  pointwise []
  simp only [hr, ht, hx]
abbrev rsb : FVec Ideal S512x1 .f32 := k0_pay21 (acc m c t) (y3 m c t) (g3 m c t) (h3 m c t) (lW m c t 1536) (iblk m c 4 t) (iblk m c 5 t)
abbrev xhb : FVec Ideal S512x1024 .f32 := k0_pay22 (acc m c t) (y3 m c t) (g3 m c t) (h3 m c t) (lW m c t 1536) (iblk m c 4 t) (iblk m c 5 t)
abbrev xgb : FVec Ideal S512x1024 .f32 := k0_pay24 (acc m c t) (y3 m c t) (g3 m c t) (h3 m c t) (lW m c t 1536) (iblk m c 4 t) (iblk m c 5 t) (iblk m c 7 t)
abbrev erb : FVec Ideal S512x1024 .f32 := k0_pay25 (xgb m c t) (iblk m c 8 t) (iblk m c 9 t)
abbrev dzb : FVec Ideal S512x1024 .f32 := k0_pay27 (rsb m c t) (xhb m c t) (k0_pay23 (iblk m c 7 t)) (xgb m c t) (iblk m c 8 t) (iblk m c 9 t)
theorem rs_at (x : Fin 512) : rsb m c t (ix2 x 0) = rs (ZR m c (rw_ t x)) := by
  have h := zc_at m c t x
  unfold rsb k0_pay21
  generalize k0_pay20 (F := Ideal) _ _ _ _ _ _ _ = C at *
  unfold rs sd mean
  pointwise []
  simp only [h]
theorem xh_at (x : Fin 512) (j : Fin 1024) : xhb m c t (ix2 x j) = xh (ZR m c (rw_ t x)) j := by
  have h := zc_at m c t x
  have h' := rs_at m c t x
  unfold xhb k0_pay22
  unfold rsb at h'
  generalize k0_pay20 (F := Ideal) _ _ _ _ _ _ _ = C at *
  generalize k0_pay21 (F := Ideal) _ _ _ _ _ _ _ = R at *
  unfold xh
  pointwise []
  simp only [h, h']
theorem er_at (x : Fin 512) (j : Fin 1024) : erb m c t (ix2 x j) = ER m c (rw_ t x) j := by
  have h := xh_at m c t x
  have hl := l_at m c t
  have hb := b_at m c t
  have he := e_at m c t
  unfold erb xgb k0_pay24
  unfold xhb at h
  generalize k0_pay22 (F := Ideal) _ _ _ _ _ _ _ = C at *
  generalize iblk m c 7 t = L at *
  generalize iblk m c 8 t = B at *
  generalize iblk m c 9 t = E at *
  unfold ER
  pointwise [k0_pay23, k0_pay25]
  simp only [h, hl, hb, he]
theorem dy_at (x : Fin 512) (j : Fin 1024) : k0_pay26 (F := Ideal) (xgb m c t) (iblk m c 8 t) (iblk m c 9 t) (ix2 x j) = DY m c (rw_ t x) j := by
  have h := er_at m c t x
  unfold k0_pay26
  unfold erb at h
  generalize k0_pay25 (F := Ideal) _ _ _ = C at *
  unfold DY
  pointwise []
  simp only [h]
theorem dz_blk (x : Fin 512) (j : Fin 1024) : dzb m c t (ix2 x j) = DZ m c (rw_ t x) j := by
  have h := dy_at m c t x
  have h' := rs_at m c t x
  have h'' := xh_at m c t x
  have hl := l_at m c t
  unfold dzb k0_pay27
  generalize k0_pay26 (F := Ideal) _ _ _ = C at *
  generalize rsb m c t = R at *
  generalize xhb m c t = X at *
  generalize iblk m c 7 t = L at *
  unfold DZ nb mean PR
  pointwise [k0_pay23]
  simp only [h, h', h'', hl]

/-- What point `t` leaves in the row's gradient. -/
theorem dz_at (x : Fin 512) (j : Fin 1024) : (outsAt0 m c t.val t.isLt).1 (ix2 x j) = DZ m c (rw_ t x) j := by
  by_cases h0 : t.val % 16 = 0
  on_goal 1 => rw [outsAt0_A m c t h0]
  on_goal 2 => rw [outsAt0_B m c t h0]
  all_goals
    dsimp only; frame_out
    exact dz_blk m c t x j

/-- What point `t` leaves in the grouped product. -/
theorem po_at_ch (x : Fin 512) (k : Fin 4) (b : Fin 512) : (outsAt0 m c t.val t.isLt).2.2 (ix2 x (ch k b)) = po (dm m c) (pw m c) (rw_ t x) (ch k b) := by
  by_cases h0 : t.val % 16 = 0
  on_goal 1 => rw [outsAt0_A m c t h0]
  on_goal 2 => rw [outsAt0_B m c t h0]
  all_goals
    dsimp only; frame_open
    refine (cols4 _ _ _ _ _ _ _ _ _ _ _ x k b).trans ?_
    frame_out
    exact pick4 k.isLt
      (fun e => by obtain rfl : k = 3 := Fin.ext e; exact (grp3 m c t (ld m c t 3 1536 3)).1 x b)
      (fun e => by obtain rfl : k = 2 := Fin.ext e; exact (grp2 m c t (ld m c t 2 1024 2)).1 x b)
      (fun e => by obtain rfl : k = 1 := Fin.ext e; exact (grp1 m c t (ld m c t 1 512 1)).1 x b)
      (fun e => by obtain rfl : k = 0 := Fin.ext e; exact (grp0 m c t (ld m c t 0 0 0)).1 x b)
theorem po_at (x : Fin 512) (q : Fin 2048) : (outsAt0 m c t.val t.isLt).2.2 (ix2 x q) = po (dm m c) (pw m c) (rw_ t x) q :=
  by_ch (P := fun q => (outsAt0 m c t.val t.isLt).2.2 (ix2 x q) = po (dm m c) (pw m c) (rw_ t x) q) (fun k b => po_at_ch m c t x k b) q

/-- What the point before left. -/
abbrev prev := outsAt0 m c (t.val - 1) (lt_of_le_of_lt (Nat.sub_le _ _) t.isLt)

/-- The summands of the four rows of sums. -/
def ga (r : Fin 8192) (j : Fin 1024) : EReal := DY m c r j * xh (ZR m c r) j
def gc (r : Fin 8192) (j : Fin 1024) : EReal := DZ m c r j * BR m c r j
def gd (r : Fin 8192) (j : Fin 1024) : EReal := ER m c r j * ER m c r j
/-- What point `t` adds to the four rows of sums. -/
def sums (r : Fin 8) (j : Fin 1024) : EReal :=
  st4 (N := 512) (fun x => ga m c (rw_ t x)) (fun x => DY m c (rw_ t x)) (fun x => gc m c (rw_ t x)) (fun x => gd m c (rw_ t x)) r j

/-- One point's four row stores add `sums`. -/
theorem st_step (v0 v1 v2 v3 : Vec Ideal S1x1024 .f32) (r : Fin 8) (j : Fin 1024) (z : EReal) (h0 : (r : ℕ) = 0 → v0 (ix2 0 j) = z)
    (h1 : (r : ℕ) = 1 → v1 (ix2 0 j) = z) (h2 : (r : ℕ) = 2 → v2 (ix2 0 j) = z) (h3' : (r : ℕ) = 3 → v3 (ix2 0 j) = z) :
    (if (r : ℕ) = 3 then k0_pay2 (F := Ideal) (erb m c t) v3 (ix2 0 j)
      else if (r : ℕ) = 2 then k0_pay1 (F := Ideal) (k0_pay19 (acc m c t) (y3 m c t) (g3 m c t) (h3 m c t) (lW m c t 1536)) (dzb m c t) v2 (ix2 0 j)
      else if (r : ℕ) = 1 then k0_pay29 (F := Ideal) (xgb m c t) (iblk m c 8 t) (iblk m c 9 t) v1 (ix2 0 j)
      else if (r : ℕ) = 0 then k0_pay28 (F := Ideal) (xhb m c t) (xgb m c t) (iblk m c 8 t) (iblk m c 9 t) v0 (ix2 0 j)
      else z) = z + sums m c t r j := by
  unfold sums st4 st3
  by_cases e3 : (r : ℕ) = 3
  · rw [if_pos e3, if_pos e3, ← h3' e3]
    have h := fun x => er_at m c t x j
    unfold gd
    generalize erb m c t = C at *
    pointwise [k0_pay2]
    simp only [h]
  rw [if_neg e3, if_neg e3]
  by_cases e2 : (r : ℕ) = 2
  · rw [if_pos e2, if_neg (by omega), if_neg (by omega), if_pos e2, ← h2 e2]
    have h := fun x => dz_blk m c t x j
    have hr := fun x => br_at m c t x j
    unfold gc
    generalize dzb m c t = C at *
    generalize k0_pay19 (F := Ideal) _ _ _ _ _ = T at *
    pointwise [k0_pay1]
    simp only [h, hr]
  rw [if_neg e2]
  by_cases e1 : (r : ℕ) = 1
  · rw [if_pos e1, if_neg (by omega), if_pos e1, ← h1 e1]
    have hd := fun x => dy_at m c t x j
    unfold k0_pay29
    generalize k0_pay26 (F := Ideal) _ _ _ = T at *
    pointwise []
    simp only [hd]
  rw [if_neg e1]
  by_cases e0 : (r : ℕ) = 0
  · rw [if_pos e0, if_pos e0, ← h0 e0]
    have hd := fun x => dy_at m c t x j
    have hx := fun x => xh_at m c t x j
    unfold ga k0_pay28
    generalize xhb m c t = C at *
    generalize k0_pay26 (F := Ideal) _ _ _ = T at *
    pointwise []
    simp only [hd, hx]
  rw [if_neg e0, if_neg e0, if_neg e1, if_neg e2, add_zero]

theorem st_first (h0 : t.val % 16 = 0) (r : Fin 8) (j : Fin 1024) : (outsAt0 m c t.val t.isLt).2.1 (ix2 r j) = 0 + sums m c t r j := by
  have hz : k0_pay3 (F := Ideal) (ix2 r j) = 0 := by pointwise [k0_pay3]
  rw [outsAt0_A m c t h0]; dsimp only; frame_open
  simp (disch := decide) only [↓ View.readCov_skip, ↓ View.readCov_cons_toLoadRect, ↓ View.readCov_fill]
  refine (row _ _ _ _ _ _ r j).trans ((congrArg _ ((row _ _ _ _ _ _ r j).trans (congrArg _ ((row _ _ _ _ _ _ r j).trans (congrArg _ (row _ _ _ _ _ _ r j)))))).trans ?_)
  frame_out
  exact (st_step m c t _ _ _ _ r j (k0_pay3 (F := Ideal) (ix2 r j)) (row_ld _ 0 _ r j) (row_ld _ 1 _ r j) (row_ld _ 2 _ r j) (row_ld _ 3 _ r j)).trans (by rw [hz])

theorem st_next (h0 : ¬ t.val % 16 = 0) (r : Fin 8) (j : Fin 1024) : (outsAt0 m c t.val t.isLt).2.1 (ix2 r j)
    = (prev m c t).2.1 (ix2 r j) + sums m c t r j := by
  rw [outsAt0_B m c t h0]; dsimp only; frame_out
  refine (row _ _ _ _ _ _ r j).trans ((congrArg _ ((row _ _ _ _ _ _ r j).trans (congrArg _ ((row _ _ _ _ _ _ r j).trans (congrArg _ (row _ _ _ _ _ _ r j)))))).trans ?_)
  rw [View.writes_nil, Memref.IsWhole.read_unread]
  exact st_step m c t _ _ _ _ r j _ (row_ld _ 0 _ r j) (row_ld _ 1 _ r j) (row_ld _ 2 _ r j) (row_ld _ 3 _ r j)

/-- The tiles' rows, one tile after another, are the array's rows. -/
theorem tiles (t : Fin cfg0.N) (hf : t.val % 16 = 15) (f : Fin 8192 → EReal) :
    (∑ s : Fin 16, ∑ x : Fin 512, f (rw_ ⟨16 * (t.val / 16) + s, Pipeline.run_point_lt_of_flush t hf s⟩ x)) = ∑ r : Fin 8192, f r := by
  rw [Fin.sum_univ_tiles 16 512 rfl f]
  refine Finset.sum_congr rfl fun s _ => Finset.sum_congr rfl fun x _ => congrArg f (Fin.ext ?_)
  have ht := lt16 t
  show (16 * (t.val / 16) + (s : ℕ)) * 512 + (x : ℕ) = s * 512 + x
  omega

theorem st_run (hf : t.val % 16 = 15) (r : Fin 8) (j : Fin 1024) :
    (outsAt0 m c t.val t.isLt).2.1 (ix2 r j) = st4 (ga m c) (DY m c) (gc m c) (gd m c) r j := by
  have hs := Pipeline.eq_sum_fin_of_reset_step_apply_of_flush (fun n h => (outsAt0 m c n h).2.1) 16 (fun _ => 0) (fun t j => sums m c t (j 0) (j 1))
    (fun t h j => by
      rw [eq_ix2 j]
      exact st_first m c t h (j 0) (j 1))
    (fun t h j => by
      rw [eq_ix2 j]
      exact st_next m c t h (j 0) (j 1)) t hf (ix2 r j)
  refine hs.trans ?_
  rw [zero_add]
  show ∑ s : Fin 16, sums m c ⟨16 * (t.val / 16) + s, _⟩ r j = _
  unfold sums st4 st3
  by_cases h3 : (r : ℕ) = 3
  · simp only [if_pos h3]
    exact tiles t hf fun x => gd m c x j
  simp only [if_neg h3]
  by_cases h0 : (r : ℕ) = 0
  · simp only [if_pos h0]
    exact tiles t hf fun x => ga m c x j
  simp only [if_neg h0]
  by_cases h1 : (r : ℕ) = 1
  · simp only [if_pos h1]
    exact tiles t hf fun x => DY m c x j
  simp only [if_neg h1]
  by_cases h2 : (r : ℕ) = 2
  · simp only [if_pos h2]
    exact tiles t hf fun x => gc m c x j
  · simp only [if_neg h2, Finset.sum_const_zero]

/-- The rows of sums after the run. -/
theorem st_final : (dats m 0 c).arrAt 11 (cfgs 0).N = fun j : S8x1024.Idx => st4 (ga m c) (DY m c) (gc m c) (gd m c) (j 0) (j 1) := by
  refine (dats m 0 c).arrAt_eq_of_covers 11 _ (by decide +kernel) fun t hf y => ?_
  rw [after0_11]
  have hp := st_run m c t ((flush0_11 t).mp hf) (y 0) (y 1)
  rw [← eq_ix2 y] at hp
  have e : ((cfg0.win 11).blk t).view.emb y = y := funext (Fin.forall_fin_two.mpr ⟨Fin.ext (by blk_simp [idx_val t]), Fin.ext (by blk_simp [idx_val t])⟩)
  rw [← e] at hp
  exact (congrArg (outsAt0 m c t.val t.isLt).2.1 e.symm).trans hp

/-- The row's gradient after the run. -/
theorem dz_final : (dats m 0 c).arrAt 10 (cfgs 0).N = fun j : S8192x1024.Idx => DZ m c (j 0) (j 1) := by
  refine (dats m 0 c).arrAt_eq_of_covers 10 _ (by decide +kernel) fun t hf y => ?_
  rw [after0_10]
  have hp := dz_at m c t (y 0) (y 1)
  have e0 : rw_ t (y 0) = ((cfg0.win 10).blk t).view.emb y 0 := Fin.ext (by
    show t.val * 512 + (y 0).val = _
    blk_simp [idx_val t])
  have e1 : (y 1 : Fin 1024) = ((cfg0.win 10).blk t).view.emb y 1 := Fin.ext (by blk_simp [idx_val t])
  rw [← eq_ix2 y, e0, e1] at hp
  exact hp

/-- The grouped product after the run. -/
theorem po_final : (dats m 0 c).arrAt 12 (cfgs 0).N = fun j : S8192x2048.Idx => po (dm m c) (pw m c) (j 0) (j 1) := by
  refine (dats m 0 c).arrAt_eq_of_covers 12 _ (by decide +kernel) fun t hf y => ?_
  rw [after0_12]
  have hp := po_at m c t (y 0) (y 1)
  have e0 : rw_ t (y 0) = ((cfg0.win 12).blk t).view.emb y 0 := Fin.ext (by
    show t.val * 512 + (y 0).val = _
    blk_simp [idx_val t])
  have e1 : (y 1 : Fin 2048) = ((cfg0.win 12).blk t).view.emb y 1 := Fin.ext (by blk_simp [idx_val t])
  rw [← eq_ix2 y, e0, e1] at hp
  exact hp
end Cert.Out1Ideal.Out
end
end
-- ==== Proof.Out1Ref.lean ====
module

public import proofs.«01_k».proof.Proof.Gen.Out1RefIdeal.Run
public import proofs.«01_k».proof.Proof.LnLib

/-! What the reference of the second layer's output, its loss and the loss's gradient leaves in its three results, at one index. -/

@[expose] public section

set_option maxRecDepth 16384
noncomputable section
open Idealize.ShloMosaic Idealize.ShloMosaic.TcCoe Idealize.SL.Sem
namespace Cert.Out1RefIdeal.Out
open Idealize.ShloMosaic.StableHlo (launchContents)
open Cert.Out1RefIdeal Cert.Out1RefIdeal.Gen Cert.Out1RefIdeal.Value Cert.InLib Cert.OutLib Cert.LnLib
variable (m : (ℓ : Loc nD τ sig) → Buf (Elt Ideal) ℓ) (c : Dev nD)

/-- The run's arguments. -/
abbrev dm : (Sh2 8192 2048).Idx → EReal := m ((c : Thread nD τ).loc main_arg0)
abbrev pw : (Sh3 4 512 512).Idx → EReal := m ((c : Thread nD τ).loc main_arg1)
abbrev ps : (Sh1 2048).Idx → EReal := m ((c : Thread nD τ).loc main_arg2)
abbrev gg : (Sh2 8192 2048).Idx → EReal := m ((c : Thread nD τ).loc main_arg3)
abbrev xx : (Sh2 8192 1024).Idx → EReal := m ((c : Thread nD τ).loc main_arg4)
abbrev gt : (Sh1 1024).Idx → EReal := m ((c : Thread nD τ).loc main_arg5)
abbrev wo : (Sh2 2048 1024).Idx → EReal := m ((c : Thread nD τ).loc main_arg6)
abbrev lg : (Sh1 1024).Idx → EReal := m ((c : Thread nD τ).loc main_arg7)
abbrev lb : (Sh1 1024).Idx → EReal := m ((c : Thread nD τ).loc main_arg8)
abbrev tg : (Sh2 8192 1024).Idx → EReal := m ((c : Thread nD τ).loc main_arg9)
/-- The scaled grouped product, the branch, the row before the norm, the error and its gradient, the normed row's and the row's gradient. -/
abbrev YS : Fin 8192 → Fin 2048 → EReal := ysc (dm m c) (pw m c) (ps m c)
abbrev BR : Fin 8192 → Fin 1024 → EReal := branch (YS m c) (gg m c) (wo m c)
abbrev ZR : Fin 8192 → Fin 1024 → EReal := resid (xx m c) (gt m c) (BR m c)
def ER (r : Fin 8192) (j : Fin 1024) : EReal := xh (ZR m c r) j * lg m c (ix1 j) + lb m c (ix1 j) - tg m c (ix2 r j)
def DY (r : Fin 8192) (j : Fin 1024) : EReal := ER m c r j * invW
def PR (r : Fin 8192) (j : Fin 1024) : EReal := DY m c r j * lg m c (ix1 j)
abbrev DZ : Fin 8192 → Fin 1024 → EReal := fun r => nbr (ZR m c r) (PR m c r)
/-- The summands of the four rows of sums. -/
def ga (r : Fin 8192) (j : Fin 1024) : EReal := DY m c r j * xh (ZR m c r) j
def gc (r : Fin 8192) (j : Fin 1024) : EReal := DZ m c r j * BR m c r j
def gd (r : Fin 8192) (j : Fin 1024) : EReal := ER m c r j * ER m c r j

/-- The contents the run starts from. -/
abbrev L := launchContents m c
theorem a0 : L m c (Proc.devRef .tc main_arg0) = dm m c := rfl
theorem a1 : L m c (Proc.devRef .tc main_arg1) = pw m c := rfl
theorem a2 : L m c (Proc.devRef .tc main_arg2) = ps m c := rfl
theorem a3 : L m c (Proc.devRef .tc main_arg3) = gg m c := rfl
theorem a4 : L m c (Proc.devRef .tc main_arg4) = xx m c := rfl
theorem a5 : L m c (Proc.devRef .tc main_arg5) = gt m c := rfl
theorem a6 : L m c (Proc.devRef .tc main_arg6) = wo m c := rfl
theorem a7 : L m c (Proc.devRef .tc main_arg7) = lg m c := rfl
theorem a8 : L m c (Proc.devRef .tc main_arg8) = lb m c := rfl
theorem a9 : L m c (Proc.devRef .tc main_arg9) = tg m c := rfl

theorem po_at (r : Fin 8192) (q : Fin 2048) : res_main_v3 (L m c) (ix2 r q) = po (dm m c) (pw m c) r q := by
  unfold res_main_v3
  rw [a0, a1]
  generalize dm m c = X0
  generalize pw m c = X1
  rw [← po_swap]
  pointwise
theorem y_at (r : Fin 8192) (q : Fin 2048) : res_main_v6 (L m c) (ix2 r q) = YS m c r q := by
  have h := po_at m c r q
  unfold res_main_v6 YS ysc
  rw [a2]
  generalize res_main_v3 (L m c) = C at *
  generalize ps m c = X at *
  pointwise
  rw [h]
theorem br_at (r : Fin 8192) (j : Fin 1024) : res_main_v11 (L m c) (ix2 r j) = BR m c r j := by
  have h := y_at m c r
  unfold res_main_v11 BR branch silu
  rw [a3, a6]
  simp only [← h]
  generalize res_main_v6 (L m c) = C at *
  generalize gg m c = X3 at *
  generalize wo m c = X6 at *
  pointwise
  rfl
theorem z_at (r : Fin 8192) (j : Fin 1024) : res_main_v15 (L m c) (ix2 r j) = ZR m c r j := by
  have h := br_at m c r j
  unfold res_main_v15 ZR resid
  rw [a4, a5, ← h]
  generalize res_main_v11 (L m c) = C at *
  generalize xx m c = X4 at *
  generalize gt m c = X5 at *
  pointwise
theorem mean_at (r : Fin 8192) : res_main_v19 (L m c) (ix2 r 0) = mean (ZR m c r) := by
  have h := z_at m c r
  unfold res_main_v19 mean
  simp only [← h]
  generalize res_main_v15 (L m c) = C at *
  pointwise
theorem zc_at (r : Fin 8192) (j : Fin 1024) : res_main_v21 (L m c) (ix2 r j) = zc (ZR m c r) j := by
  have h := z_at m c r j
  have h' := mean_at m c r
  unfold res_main_v21 zc
  rw [← h, ← h']
  generalize res_main_v15 (L m c) = C at *
  generalize res_main_v19 (L m c) = M at *
  pointwise
theorem zc_at' (r : Fin 8192) (j : Fin 1024) : res_main_v30 (L m c) (ix2 r j) = zc (ZR m c r) j := zc_at m c r j
theorem sd_at (r : Fin 8192) : res_main_v32 (L m c) (ix2 r 0) = sd (ZR m c r) := by
  have h := zc_at m c r
  unfold res_main_v32 sd mean
  simp only [← h]
  generalize res_main_v21 (L m c) = C at *
  pointwise
theorem rs_at (r : Fin 8192) : res_main_v33 (L m c) (ix2 r 0) = rs (ZR m c r) := congrArg Ideal.rsqrt (sd_at m c r)
theorem xh_at (r : Fin 8192) (j : Fin 1024) : res_main_v38 (L m c) (ix2 r j) = xh (ZR m c r) j := by
  have h := zc_at' m c r j
  have h' := rs_at m c r
  unfold res_main_v38 xh
  rw [← h, ← h']
  generalize res_main_v30 (L m c) = C at *
  generalize res_main_v33 (L m c) = M at *
  pointwise
theorem lg_at (j : Fin 1024) : res_main_v39 (L m c) (ix2 0 j) = lg m c (ix1 j) := by
  unfold res_main_v39
  rw [a7]
  generalize lg m c = X
  pointwise
theorem er_at (r : Fin 8192) (j : Fin 1024) : res_main_v45 (L m c) (ix2 r j) = ER m c r j := by
  have h := xh_at m c r j
  have h' := lg_at m c j
  unfold res_main_v45 ER
  rw [← h, ← h', a8, a9]
  generalize res_main_v38 (L m c) = C at *
  generalize res_main_v39 (L m c) = M at *
  generalize lb m c = X8 at *
  generalize tg m c = X9 at *
  pointwise
theorem dy_at (r : Fin 8192) (j : Fin 1024) : res_main_v60 (L m c) (ix2 r j) = DY m c r j := by
  have h := er_at m c r j
  unfold res_main_v60 DY
  rw [← h, ← loss_word]
  generalize res_main_v45 (L m c) = C at *
  pointwise
theorem p_at (r : Fin 8192) (j : Fin 1024) : res_main_v68 (L m c) (ix2 r j) = PR m c r j := by
  have h := dy_at m c r j
  have h' := lg_at m c j
  unfold res_main_v68 PR
  rw [← h, ← h']
  generalize res_main_v60 (L m c) = C at *
  generalize res_main_v39 (L m c) = M at *
  pointwise
theorem ps_at (r : Fin 8192) (j : Fin 1024) : res_main_v74 (L m c) (ix2 r j) = PR m c r j * rs (ZR m c r) := by
  have h := p_at m c r j
  have h' := rs_at m c r
  unfold res_main_v74
  rw [← h, ← h']
  generalize res_main_v68 (L m c) = C at *
  generalize res_main_v33 (L m c) = M at *
  pointwise
theorem vd_at (r : Fin 8192) (j : Fin 1024) : res_main_v83 (L m c) (ix2 r j) = vd (ZR m c r) (PR m c r) * (twoW * zc (ZR m c r) j) := by
  have hp := p_at m c r
  have hz := zc_at' m c r
  have hz' := zc_at m c r
  have hs := sd_at m c r
  have hr := rs_at m c r
  unfold res_main_v83 vd
  simp only [← hp, ← hz', ← hs, ← hr]
  rw [show res_main_v30 (L m c) = res_main_v21 (L m c) from rfl]
  clear hz
  generalize res_main_v68 (L m c) = P at *
  generalize res_main_v21 (L m c) = Z at *
  generalize res_main_v32 (L m c) = S at *
  generalize res_main_v33 (L m c) = R at *
  pointwise
  simp only [Fin.sum_univ_one]
/-- The reference computes the error a second time for the loss. -/
theorem z_again : res_main_v106 (L m c) = res_main_v15 (L m c) := rfl
theorem er_again : res_main_v131 (L m c) = res_main_v45 (L m c) := rfl

theorem dz_at (X : FVec Ideal S8192x1024 .f32) (hX : X = addf (addf (res_main_v74 (L m c)) (res_main_v83 (L m c))) (broadcastInDim S8192x1024 ![0] bcast_S8192_S8192x1024_0 (Host.reduceAdd (Host.divf (addf (shapeCast _ (Host.reduceAdd (Host.negf (res_main_v74 (L m c))) (constant S_ .f32 0x00000000#32) reducesTo_S8192x1024_S8192_d1 h_S_) shapeCasts_S8192_S8192x1) (shapeCast _ (Host.reduceAdd (Host.negf (res_main_v83 (L m c))) (constant S_ .f32 0x00000000#32) reducesTo_S8192x1024_S8192_d1 h_S_) shapeCasts_S8192_S8192x1)) (broadcastInDim S8192x1 ![] bcast_S_S8192x1 (constant S_ .f32 0x44800000#32))) (constant S_ .f32 0x00000000#32) reducesTo_S8192x1_S8192_d1 h_S_)))
    (r : Fin 8192) (j : Fin 1024) : X (ix2 r j) = DZ m c r j := by
  subst hX
  have h := ps_at m c r
  have h' := vd_at m c r
  unfold DZ nbr
  simp only [← h, ← h']
  generalize res_main_v74 (L m c) = P at *
  generalize res_main_v83 (L m c) = Z at *
  pointwise
  simp only [Fin.sum_univ_one]

set_option maxHeartbeats 1000000 in
/-- The three results of the reference at every index, and its arguments kept. -/
theorem run_main (ρ : Dev nD → PrngReg) :
    θ_run defs (onTc (τ := τ) (main (F := Ideal))) ⟨m, fun _ => 0, ρ⟩ fun r => ∀ c : Dev nD,
      r.2.mem ((c.tc : Thread nD τ).loc main_v93) = (fun j : S8192x1024.Idx => DZ m c (j 0) (j 1))
      ∧ r.2.mem ((c.tc : Thread nD τ).loc main_v139) = (fun j : S8x1024.Idx => st4 (ga m c) (DY m c) (gc m c) (gd m c) (j 0) (j 1))
      ∧ r.2.mem ((c.tc : Thread nD τ).loc main_v140) = (fun j : S8192x2048.Idx => po (dm m c) (pw m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ⟨(h c).1.trans ?_, (h c).2.1.trans ?_, (h c).2.2.1.trans ?_, (h c).2.2.2⟩) (run m ρ)
  · exact funext fun j => (congrArg _ (eq_ix2 j)).trans (dz_at m c _ rfl (j 0) (j 1))
  · clear h
    generalize hX : addf (addf (res_main_v74 (launchContents m c)) (res_main_v83 (launchContents m c))) (broadcastInDim _ _ _ _) = X
    have hd := dz_at m c X hX.symm
    clear hX
    have hb := br_at m c
    have hx := xh_at m c
    have hy := dy_at m c
    have he := er_at m c
    rw [show res_main_v131 (launchContents m c) = res_main_v45 (launchContents m c) from er_again m c]
    funext j
    obtain ⟨r, j, rfl⟩ : ∃ a b, j = ix2 a b := ⟨j 0, j 1, eq_ix2 j⟩
    show _ = st4 (ga m c) (DY m c) (gc m c) (gd m c) r j
    unfold st4 st3 ga gc gd
    simp only [← hd, ← hb, ← hx, ← hy, ← he]
    generalize res_main_v11 (launchContents m c) = B at *
    generalize res_main_v38 (launchContents m c) = C at *
    generalize res_main_v60 (launchContents m c) = D at *
    generalize res_main_v45 (launchContents m c) = E at *
    clear hd hb hx hy he
    pointwise
    show @Eq EReal _ _
    by_cases h0 : (r : ℕ) = 0
    · rw [dif_pos (by omega), if_neg (by omega), if_pos h0]
      exact (Fin.sum_univ_one _).trans (Finset.sum_congr rfl fun x _ => mul_comm _ _)
    rw [dif_neg (by omega), if_neg h0]
    by_cases h1 : (r : ℕ) = 1
    · rw [dif_pos (by omega), if_neg (by omega), if_pos h1]
      exact Fin.sum_univ_one _
    rw [dif_neg (by omega), if_neg h1]
    by_cases h2 : (r : ℕ) = 2
    · rw [dif_pos (by omega), if_neg (by omega), if_pos h2]
      exact Fin.sum_univ_one _
    rw [dif_neg (by omega), if_neg h2]
    by_cases h3 : (r : ℕ) = 3
    · rw [dif_pos (by omega), if_pos h3]
    · rw [dif_neg (by omega), if_neg h3]
  · exact funext fun j => (congrArg _ (eq_ix2 j)).trans (po_at m c (j 0) (j 1))
end Cert.Out1RefIdeal.Out
end
end
-- ==== Proof.ColsLib.lean ====
module

public import proofs.«01_k».proof.Proof.LnLib
public import Idealize.ShloMosaic.Lib.Pipeline.ValueKit

/-! Four groups of columns stored one after another, read at one place. -/

@[expose] public section

set_option maxRecDepth 16384
noncomputable section
open Idealize.ShloMosaic Idealize.ShloMosaic.TcCoe Idealize.SL.Sem
namespace Cert.ColsLib
open Cert.InLib Cert.OutLib Cert.LnLib

/-- A group of columns stored last, read at one place. -/
theorem cols_canon {n : ℕ} {e : EltTy} (o : ℕ) (inb : ∀ a, (![0, o] : Fin 2 → ℕ) a + (![n, 512] : Fin 2 → ℕ) a ≤ (Sh2 n 2048).size a) (w : (Sh2 n 512).Idx → Elt Ideal e)
    (L : List (View.Piece (Elt Ideal) (Sh2 n 2048) e)) (x : Fin n) (k : Fin 4) (b : Fin 512) (i : ℕ) (hi : o = i * 512) :
    View.canon ((⟨Rect.unit ![0, o] ![n, 512] inb, w⟩ : View.Piece (Elt Ideal) (Sh2 n 2048) e) :: L) (ix2 x (ch k b))
      = if (k : ℕ) = i then w (ix2 x b) else View.canon L (ix2 x (ch k b)) := by
  by_cases h : (k : ℕ) = i
  · rw [if_pos h]
    refine Eq.trans (congrArg _ ?_) (View.canon_cons_emb (Val := Elt Ideal) (Rect.unit (s := Sh2 n 2048) ![0, o] ![n, 512] inb) w L (ix2 x b))
    refine funext (Fin.forall_fin_two.mpr ⟨Fin.ext ?_, Fin.ext ?_⟩)
    · show (x : ℕ) = 0 + 1 * x
      omega
    · show (k : ℕ) * 512 + b = o + 1 * b
      omega
  · rw [if_neg h]
    refine View.canon_cons_of_not_mem _ L fun hy => h ?_
    have h0 := (Rect.mem_set_unit (inb := inb)).1 hy 1
    have h1 : o ≤ (k : ℕ) * 512 + b := h0.1
    have h2 : (k : ℕ) * 512 + b < o + 512 := h0.2
    omega
theorem cols4_canon {n : ℕ} {e : EltTy} (i0) (i1) (i2) (i3) (w0 w1 w2 w3 : (Sh2 n 512).Idx → Elt Ideal e) (x : Fin n) (k : Fin 4) (b : Fin 512) :
    View.canon [(⟨Rect.unit ![0, 1536] ![n, 512] i3, w3⟩ : View.Piece (Elt Ideal) (Sh2 n 2048) e), ⟨Rect.unit ![0, 1024] ![n, 512] i2, w2⟩,
        ⟨Rect.unit ![0, 512] ![n, 512] i1, w1⟩, ⟨Rect.unit ![0, 0] ![n, 512] i0, w0⟩] (ix2 x (ch k b))
      = if (k : ℕ) = 3 then w3 (ix2 x b) else if (k : ℕ) = 2 then w2 (ix2 x b) else if (k : ℕ) = 1 then w1 (ix2 x b) else if (k : ℕ) = 0 then w0 (ix2 x b)
        else View.canon [] (ix2 x (ch k b)) := by
  rw [cols_canon 1536 i3 _ _ _ _ _ 3 rfl, cols_canon 1024 i2 _ _ _ _ _ 2 rfl, cols_canon 512 i1 _ _ _ _ _ 1 rfl, cols_canon 0 i0 _ _ _ _ _ 0 rfl]
end Cert.ColsLib
end
end
-- ==== Proof.Out0F.lean ====
module

public import proofs.«01_k».proof.Proof.Gen.Out0FIdeal.Value
public import proofs.«01_k».proof.Proof.ColsLib
public import Idealize.ShloMosaic.Lib.StableHlo.ReadAt

/-! What the kernel of the first layer's output, its norm and the second layer's input product leaves in its four result arrays, at one index. -/

@[expose] public section

set_option maxRecDepth 16384
noncomputable section
open Idealize.ShloMosaic Idealize.ShloMosaic.TcCoe Idealize.SL.Sem
namespace Cert.Out0FIdeal.Out
open Cert.Out0FIdeal Cert.Out0FIdeal.Gen Cert.Out0FIdeal.Value Cert.InLib Cert.OutLib Cert.LnLib Cert.ColsLib

variable (m : (ℓ : Loc nD τ sig) → Buf (Elt Ideal) ℓ) (c : Dev nD) (t : Fin cfg0.N)

/-- Every window's block index at point `t`: row tile `t`, or the whole array. -/
theorem idx_val : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0, 0] ∧ win0_11.index t = ![t.val, 0] ∧ win0_12.index t = ![t.val, 0]
    ∧ win0_13.index t = ![t.val, 0] ∧ win0_14.index t = ![t.val, 0] ∧ t.val < 16 :=
  (by decide +kernel : ∀ t : Fin grid0.N, _)
theorem lt16 : t.val < 16 := (idx_val t).2.2.2.2.2.2.2.2.2.2.2.2.2.2.2

/-- The run's arguments. -/
abbrev hf : (Sh2 8192 2048).Idx → EReal := m ((c : Thread nD τ).loc main_arg0)
abbrev hb : (Sh2 8192 2048).Idx → EReal := m ((c : Thread nD τ).loc main_arg1)
abbrev gg : (Sh2 8192 2048).Idx → EReal := m ((c : Thread nD τ).loc main_arg2)
abbrev xx : (Sh2 8192 1024).Idx → EReal := m ((c : Thread nD τ).loc main_arg3)
abbrev gt : (Sh1 1024).Idx → EReal := m ((c : Thread nD τ).loc main_arg4)
abbrev wo : (Sh2 2048 1024).Idx → EReal := m ((c : Thread nD τ).loc main_arg5)
abbrev lg : (Sh1 1024).Idx → EReal := m ((c : Thread nD τ).loc main_arg6)
abbrev lb : (Sh1 1024).Idx → EReal := m ((c : Thread nD τ).loc main_arg7)
abbrev sc : (Sh1 1024).Idx → EReal := m ((c : Thread nD τ).loc main_arg8)
abbrev sh : (Sh1 1024).Idx → EReal := m ((c : Thread nD τ).loc main_arg9)
abbrev w1 : (Sh2 1024 4096).Idx → EReal := m ((c : Thread nD τ).loc main_arg10)
/-- The sum of the scans, the branch, the row before the norm, the normed row, that row modulated and its product. -/
abbrev YS : Fin 8192 → Fin 2048 → EReal := ysum (hf m c) (hb m c)
abbrev BR : Fin 8192 → Fin 1024 → EReal := branch (YS m c) (gg m c) (wo m c)
abbrev ZR : Fin 8192 → Fin 1024 → EReal := resid (xx m c) (gt m c) (BR m c)
abbrev X1 : Fin 8192 → Fin 1024 → EReal := lnr (ZR m c) (lg m c) (lb m c)
abbrev H1 : Fin 8192 → Fin 1024 → EReal := modr (X1 m c) (sc m c) (sh m c)
abbrev UU : Fin 8192 → Fin 4096 → EReal := prd (H1 m c) (w1 m c)

/-- The row of the arrays that row `x` of point `t`'s blocks holds. -/
def rw_ (x : Fin 512) : Fin 8192 := ⟨t.val * 512 + x, by have := lt16 t; omega⟩

theorem V_f (r : Fin 8192) (q : Fin 2048) : V m c main_v3 (ix2 r q) = hf m c (ix2 r q) := by
  unfold V; after_reads_at
theorem V_h (r : Fin 8192) (q : Fin 2048) : V m c main_v4 (ix2 r q) = hb m c (ix2 r q) := by
  unfold V; after_reads_at
theorem V_g (r : Fin 8192) (q : Fin 2048) : V m c main_v5 (ix2 r q) = gg m c (ix2 r q) := by
  unfold V; after_reads_at
theorem V_o (q : Fin 2048) (j : Fin 1024) : V m c main_v7 (ix2 q j) = wo m c (ix2 q j) := by
  unfold V; after_reads_at
theorem V_w (k : Fin 8) (a : Fin 1024) (b : Fin 512) : V m c main_v2 (ix3 k a b) = w1 m c (ix2 a ⟨k * 512 + b, by omega⟩) := by
  unfold V; after_reads_at
theorem V_t (j : Fin 1024) : V m c main_v6 (ix2 (0 : Fin 1) j) = gt m c (ix1 j) := by
  unfold V; after_reads_at
theorem V_l (j : Fin 1024) : V m c main_v8 (ix2 (0 : Fin 1) j) = lg m c (ix1 j) := by
  unfold V; after_reads_at
theorem V_b (j : Fin 1024) : V m c main_v9 (ix2 (0 : Fin 1) j) = lb m c (ix1 j) := by
  unfold V; after_reads_at
theorem V_s (j : Fin 1024) : V m c main_v10 (ix2 (0 : Fin 1) j) = sc m c (ix1 j) := by
  unfold V; after_reads_at
theorem V_i (j : Fin 1024) : V m c main_v11 (ix2 (0 : Fin 1) j) = sh m c (ix1 j) := by
  unfold V; after_reads_at

theorem f_at (x : Fin 512) (q : Fin 2048) : iblk m c 0 t (ix2 x q) = hf m c (ix2 (rw_ t x) q) := by
  refine Eq.trans ?_ (V_f m c _ q); unfold rw_; blk_ext [iblk, idx_val t]
theorem h_at (x : Fin 512) (q : Fin 2048) : iblk m c 1 t (ix2 x q) = hb m c (ix2 (rw_ t x) q) := by
  refine Eq.trans ?_ (V_h m c _ q); unfold rw_; blk_ext [iblk, idx_val t]
theorem g_at (x : Fin 512) (q : Fin 2048) : iblk m c 2 t (ix2 x q) = gg m c (ix2 (rw_ t x) q) := by
  refine Eq.trans ?_ (V_g m c _ q); unfold rw_; blk_ext [iblk, idx_val t]
theorem x_at (x : Fin 512) (j : Fin 1024) : iblk m c 3 t (ix2 x j) = xx m c (ix2 (rw_ t x) j) := by
  unfold rw_ xx; blk_ext [iblk, V, idx_val t]
theorem o_at (q : Fin 2048) (j : Fin 1024) : iblk m c 5 t (ix2 q j) = wo m c (ix2 q j) := by
  refine Eq.trans ?_ (V_o m c q j); blk_ext [iblk, idx_val t]
theorem w_at (k : Fin 8) (a : Fin 1024) (b : Fin 512) : iblk m c 10 t (ix3 k a b) = w1 m c (ix2 a ⟨k * 512 + b, by omega⟩) := by
  refine Eq.trans ?_ (V_w m c k a b); blk_ext [iblk, idx_val t]
theorem t_at (j : Fin 1024) : iblk m c 4 t (ix2 0 j) = gt m c (ix1 j) := by
  refine Eq.trans ?_ (V_t m c j); blk_ext [iblk, idx_val t]
theorem l_at (j : Fin 1024) : iblk m c 6 t (ix2 0 j) = lg m c (ix1 j) := by
  refine Eq.trans ?_ (V_l m c j); blk_ext [iblk, idx_val t]
theorem b_at (j : Fin 1024) : iblk m c 7 t (ix2 0 j) = lb m c (ix1 j) := by
  refine Eq.trans ?_ (V_b m c j); blk_ext [iblk, idx_val t]
theorem s_at (j : Fin 1024) : iblk m c 8 t (ix2 0 j) = sc m c (ix1 j) := by
  refine Eq.trans ?_ (V_s m c j); blk_ext [iblk, idx_val t]
theorem i_at (j : Fin 1024) : iblk m c 9 t (ix2 0 j) = sh m c (ix1 j) := by
  refine Eq.trans ?_ (V_i m c j); blk_ext [iblk, idx_val t]

/-- What the loads of group `k` hold at point `t`. -/
structure Ld (k : Fin 4) (A B G : Vec Ideal S512x512 .bf16) (W : Vec Ideal S512x1024 .bf16) : Prop where
  a : ∀ x b, A (ix2 x b) = hf m c (ix2 (rw_ t x) (ch k b))
  b : ∀ x b, B (ix2 x b) = hb m c (ix2 (rw_ t x) (ch k b))
  g : ∀ x b, G (ix2 x b) = gg m c (ix2 (rw_ t x) (ch k b))
  w : ∀ b j, W (ix2 b j) = wo m c (ix2 (ch k b) j)

theorem ld (k : Fin 4) (o : ℕ) (ho : o = k * 512 := by rfl)
    (i1 : ∀ a, (![0, o] : Fin 2 → ℕ) a + (![512, 512] : Fin 2 → ℕ) a ≤ S512x2048.size a := by decide)
    (i3 : ∀ a, (![o, 0] : Fin 2 → ℕ) a + (![512, 1024] : Fin 2 → ℕ) a ≤ S2048x1024.size a := by decide) :
    Ld m c t k (View.ld (iblk m c 0 t) (Rect.unit (s := S512x2048) ![0, o] ![512, 512] i1)) (View.ld (iblk m c 1 t) (Rect.unit (s := S512x2048) ![0, o] ![512, 512] i1))
      (View.ld (iblk m c 2 t) (Rect.unit (s := S512x2048) ![0, o] ![512, 512] i1)) (View.ld (iblk m c 5 t) (Rect.unit (s := S2048x1024) ![o, 0] ![512, 1024] i3)) :=
  ⟨fun x b => (cols_ld _ o i1 x k b ho).trans (f_at m c t x _), fun x b => (cols_ld _ o i1 x k b ho).trans (h_at m c t x _),
    fun x b => (cols_ld _ o i1 x k b ho).trans (g_at m c t x _), fun b j => (rows_ld _ o i3 k b j ho).trans (o_at m c t _ j)⟩

/-- What group `k` adds to the branch. -/
def part (k : Fin 4) (x : Fin 512) (j : Fin 1024) : EReal := ∑ b : Fin 512, YS m c (rw_ t x) (ch k b) * silu (gg m c (ix2 (rw_ t x) (ch k b))) * wo m c (ix2 (ch k b) j)

theorem grp0 {A B G : Vec Ideal S512x512 .bf16} {W : Vec Ideal S512x1024 .bf16} (h : Ld m c t 0 A B G W) (x : Fin 512) (j : Fin 1024) :
    k0_pay2 (F := Ideal) G A B W (ix2 x j) = part m c t 0 x j := by
  unfold part YS ysum silu
  simp only [← h.a, ← h.b, ← h.g, ← h.w]
  pointwise [k0_pay2]
  try simp only [sg_eq]
theorem grp12 {A B G A' B' G' : Vec Ideal S512x512 .bf16} {W W' : Vec Ideal S512x1024 .bf16} (h : Ld m c t 1 A B G W) (h' : Ld m c t 2 A' B' G' W')
    (O : FVec Ideal S512x1024 .f32) (x : Fin 512) (j : Fin 1024) :
    k0_pay6 (F := Ideal) O (k0_pay3 G) (k0_pay4 A B) (k0_pay5 G) (Scalar.ofBits .f32 0x3F000000#32) W G' A' B' W' (ix2 x j) = O (ix2 x j) + part m c t 1 x j + part m c t 2 x j := by
  unfold part YS ysum silu
  simp only [← h.a, ← h.b, ← h.g, ← h.w, ← h'.a, ← h'.b, ← h'.g, ← h'.w]
  pointwise [k0_pay3, k0_pay4, k0_pay5, k0_pay6]
  try simp only [sg_eq]
theorem grp3 {A B G : Vec Ideal S512x512 .bf16} {W : Vec Ideal S512x1024 .bf16} (h : Ld m c t 3 A B G W)
    (O : FVec Ideal S512x1024 .f32) (x : Fin 512) (j : Fin 1024) :
    k0_pay9 (F := Ideal) O (k0_pay7 G) (k0_pay8 A) B W (ix2 x j) = O (ix2 x j) + part m c t 3 x j := by
  unfold part YS ysum silu
  simp only [← h.a, ← h.b, ← h.g, ← h.w]
  pointwise [k0_pay7, k0_pay8, k0_pay9]
  try simp only [sg_eq]

/-- The branch over three groups, over all four, the normed row and the modulated row, from the blocks of point `t`. -/
abbrev accb : FVec Ideal S512x1024 .f32 := k0_pay21 (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev brb : FVec Ideal S512x1024 .f32 := k0_pay9 (accb m c t) (k0_pay22 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 1 t) r0_6) (View.ld (iblk m c 5 t) r0_7)
abbrev xhb : FVec Ideal S512x1024 .f32 := k0_pay24 (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev hhb : FVec Ideal S512x1024 .bf16 := k0_pay25 (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem br_at (x : Fin 512) (j : Fin 1024) : brb m c t (ix2 x j) = BR m c (rw_ t x) j := by
  rw [BR, branch_ch, zero_add]
  unfold brb k0_pay22 k0_pay23
  refine (grp3 m c t (ld m c t 3 1536) _ x j).trans (Ideal.add_congr ?_ rfl)
  unfold accb k0_pay21
  refine (grp12 m c t (ld m c t 1 512) (ld m c t 2 1024) _ x j).trans (Ideal.add_congr (Ideal.add_congr ?_ rfl) rfl)
  exact grp0 m c t (ld m c t 0 0) x j

theorem ld_row (Z : Vec Ideal S1x1024 .f32) : View.ld Z r0_9 = Z := View.ld_unit_lit _ Z (by decide)
theorem ld_all (Z : Vec Ideal S512x1024 .f32) : View.ld Z r0_8 = Z := View.ld_unit_lit _ Z (by decide)

theorem xh_at (x : Fin 512) (j : Fin 1024) : xhb m c t (ix2 x j) = xh (ZR m c (rw_ t x)) j := by
  have hr := br_at m c t
  have ht := t_at m c t
  have hx := x_at m c t
  unfold xhb k0_pay24
  rw [ld_row, ld_all]
  unfold k0_pay10
  unfold brb accb at hr
  generalize k0_pay9 (F := Ideal) _ _ _ _ _ = B at *
  generalize iblk m c 4 t = T at *
  generalize iblk m c 3 t = X at *
  unfold xh rs sd zc mean ZR resid
  pointwise []
  simp only [hr, ht, hx]
theorem x1_at (x : Fin 512) (j : Fin 1024) : k0_pay11 (F := Ideal) (xhb m c t) (iblk m c 6 t) (iblk m c 7 t) (ix2 x j) = X1 m c (rw_ t x) j := by
  have h := xh_at m c t x
  have hl := l_at m c t
  have hb := b_at m c t
  generalize xhb m c t = C at *
  generalize iblk m c 6 t = L at *
  generalize iblk m c 7 t = B at *
  unfold X1 lnr
  pointwise [k0_pay11]
  simp only [h, hl, hb]
theorem h1_at (x : Fin 512) (j : Fin 1024) : k0_pay13 (F := Ideal) (xhb m c t) (iblk m c 6 t) (iblk m c 7 t) (iblk m c 8 t) (iblk m c 9 t) (ix2 x j) = H1 m c (rw_ t x) j := by
  have h := x1_at m c t x
  have hs := s_at m c t
  have hi := i_at m c t
  unfold k0_pay13
  generalize k0_pay11 (F := Ideal) _ _ _ = C at *
  generalize iblk m c 8 t = S at *
  generalize iblk m c 9 t = I at *
  unfold H1 modr
  pointwise []
  simp only [h, hs, hi]
theorem hh_at (x : Fin 512) (j : Fin 1024) : hhb m c t (ix2 x j) = H1 m c (rw_ t x) j := by
  rw [← h1_at m c t]
  unfold hhb k0_pay25
  rw [ld_row, ld_row, ld_row, ld_row]

/-- One block of columns of the product. -/
theorem prod_at (k : Fin 8) (q : Fin 4096) (b : Fin 512) (hq : (q : ℕ) = k * 512 + b) (H : Vec Ideal S512x1024 .bf16) (W : Vec Ideal S1x1024x512 .bf16)
    (hH : ∀ x j, H (ix2 x j) = H1 m c (rw_ t x) j) (hW : ∀ a, W (ix3 0 a b) = iblk m c 10 t (ix3 k a b)) (x : Fin 512) : k0_pay1 (F := Ideal) H W (ix2 x b) = UU m c (rw_ t x) q := by
  have e : q = ⟨k * 512 + b, by omega⟩ := Fin.ext hq
  rw [e]
  unfold UU prd
  simp only [← w_at m c t, ← hH, ← hW]
  pointwise [k0_pay1]
theorem pw_at (k : Fin 8) (k' : ℕ) (hk : (k : ℕ) = k' := by rfl)
    (i4 : ∀ a, (![k', 0, 0] : Fin 3 → ℕ) a + (![1, 1024, 512] : Fin 3 → ℕ) a ≤ S8x1024x512.size a := by decide) (q : Fin 4096) (b : Fin 512) (hq : (q : ℕ) = k * 512 + b)
    (H : Vec Ideal S512x1024 .bf16) (hH : ∀ x j, H (ix2 x j) = H1 m c (rw_ t x) j) (x : Fin 512) :
    k0_pay1 (F := Ideal) H (View.ld (iblk m c 10 t) (Rect.unit (s := S8x1024x512) ![k', 0, 0] ![1, 1024, 512] i4)) (ix2 x b) = UU m c (rw_ t x) q :=
  prod_at m c t k q b hq H _ hH (fun a => slab_ld _ k' i4 k a b hk) x

/-- The column of the product that column `q` of the first, of the second half is. -/
def lo (q : Fin 2048) : Fin 4096 := ⟨q, by omega⟩
def hi (q : Fin 2048) : Fin 4096 := ⟨2048 + q, by omega⟩

/-- What point `t` leaves in the four results. -/
theorem x1_blk (x : Fin 512) (j : Fin 1024) : (dats m 0 c).after 11 t (ix2 x j) = X1 m c (rw_ t x) j := by
  rw [after0_11, ← x1_at m c t]
  unfold out0_11
  rw [ld_row, ld_row]
  exact congrFun (View.canon_cons_unit_lit _ _ _ (by decide)) _
theorem br_blk (x : Fin 512) (j : Fin 1024) : (dats m 0 c).after 12 t (ix2 x j) = BR m c (rw_ t x) j := by
  rw [after0_12, ← br_at m c t]
  unfold out0_12
  refine (congrFun (View.canon_cons_unit_lit _ _ _ (by decide)) _).trans ?_
  rfl
theorem u_blk_ch (x : Fin 512) (k : Fin 4) (b : Fin 512) : (dats m 0 c).after 13 t (ix2 x (ch k b)) = UU m c (rw_ t x) (lo (ch k b)) := by
  rw [after0_13]
  unfold out0_13
  rw [ld_row, ld_row, ld_row, ld_row]
  refine (cols4_canon _ _ _ _ _ _ _ _ x k b).trans ?_
  exact pick4 k.isLt
    (fun e => by obtain rfl : k = 3 := Fin.ext e; exact pw_at m c t 3 3 rfl _ _ b rfl _ (hh_at m c t) x)
    (fun e => by obtain rfl : k = 2 := Fin.ext e; exact pw_at m c t 2 2 rfl _ _ b rfl _ (hh_at m c t) x)
    (fun e => by obtain rfl : k = 1 := Fin.ext e; exact pw_at m c t 1 1 rfl _ _ b rfl _ (h1_at m c t) x)
    (fun e => by obtain rfl : k = 0 := Fin.ext e; exact pw_at m c t 0 0 rfl _ _ b rfl _ (h1_at m c t) x)
theorem g_blk_ch (x : Fin 512) (k : Fin 4) (b : Fin 512) : (dats m 0 c).after 14 t (ix2 x (ch k b)) = UU m c (rw_ t x) (hi (ch k b)) := by
  rw [after0_14]
  unfold out0_14
  refine (cols4_canon _ _ _ _ _ _ _ _ x k b).trans ?_
  have e (i : ℕ) : 2048 + (i * 512 + (b : ℕ)) = (4 + i) * 512 + b := by omega
  exact pick4 k.isLt
    (fun h => by obtain rfl : k = 3 := Fin.ext h; exact pw_at m c t 7 7 rfl _ _ b (e 3) _ (hh_at m c t) x)
    (fun h => by obtain rfl : k = 2 := Fin.ext h; exact pw_at m c t 6 6 rfl _ _ b (e 2) _ (hh_at m c t) x)
    (fun h => by obtain rfl : k = 1 := Fin.ext h; exact pw_at m c t 5 5 rfl _ _ b (e 1) _ (hh_at m c t) x)
    (fun h => by obtain rfl : k = 0 := Fin.ext h; exact pw_at m c t 4 4 rfl _ _ b (e 0) _ (hh_at m c t) x)
theorem u_blk (x : Fin 512) (q : Fin 2048) : (dats m 0 c).after 13 t (ix2 x q) = UU m c (rw_ t x) (lo q) :=
  by_ch (P := fun q => (dats m 0 c).after 13 t (ix2 x q) = UU m c (rw_ t x) (lo q)) (fun k b => u_blk_ch m c t x k b) q
theorem g_blk (x : Fin 512) (q : Fin 2048) : (dats m 0 c).after 14 t (ix2 x q) = UU m c (rw_ t x) (hi q) :=
  by_ch (P := fun q => (dats m 0 c).after 14 t (ix2 x q) = UU m c (rw_ t x) (hi q)) (fun k b => g_blk_ch m c t x k b) q

/-! The four results after the run. -/

theorem x1_final : (dats m 0 c).arrAt 11 (cfgs 0).N = fun j : S8192x1024.Idx => X1 m c (j 0) (j 1) := by
  refine (dats m 0 c).arrAt_eq_of_covers 11 _ (by decide +kernel) fun t hf y => ?_
  have hp := x1_blk m c t (y 0) (y 1)
  have e0 : rw_ t (y 0) = ((cfg0.win 11).blk t).view.emb y 0 := Fin.ext (by
    show t.val * 512 + (y 0).val = _
    blk_simp [idx_val t])
  have e1 : (y 1 : Fin 1024) = ((cfg0.win 11).blk t).view.emb y 1 := Fin.ext (by blk_simp [idx_val t])
  rw [← eq_ix2 y, e0, e1] at hp
  exact hp
theorem br_final : (dats m 0 c).arrAt 12 (cfgs 0).N = fun j : S8192x1024.Idx => BR m c (j 0) (j 1) := by
  refine (dats m 0 c).arrAt_eq_of_covers 12 _ (by decide +kernel) fun t hf y => ?_
  have hp := br_blk m c t (y 0) (y 1)
  have e0 : rw_ t (y 0) = ((cfg0.win 12).blk t).view.emb y 0 := Fin.ext (by
    show t.val * 512 + (y 0).val = _
    blk_simp [idx_val t])
  have e1 : (y 1 : Fin 1024) = ((cfg0.win 12).blk t).view.emb y 1 := Fin.ext (by blk_simp [idx_val t])
  rw [← eq_ix2 y, e0, e1] at hp
  exact hp
theorem u_final : (dats m 0 c).arrAt 13 (cfgs 0).N = fun j : S8192x2048.Idx => UU m c (j 0) (lo (j 1)) := by
  refine (dats m 0 c).arrAt_eq_of_covers 13 _ (by decide +kernel) fun t hf y => ?_
  have hp := u_blk m c t (y 0) (y 1)
  have e0 : rw_ t (y 0) = ((cfg0.win 13).blk t).view.emb y 0 := Fin.ext (by
    show t.val * 512 + (y 0).val = _
    blk_simp [idx_val t])
  have e1 : (y 1 : Fin 2048) = ((cfg0.win 13).blk t).view.emb y 1 := Fin.ext (by blk_simp [idx_val t])
  rw [← eq_ix2 y, e0, e1] at hp
  exact hp
theorem g_final : (dats m 0 c).arrAt 14 (cfgs 0).N = fun j : S8192x2048.Idx => UU m c (j 0) (hi (j 1)) := by
  refine (dats m 0 c).arrAt_eq_of_covers 14 _ (by decide +kernel) fun t hf y => ?_
  have hp := g_blk m c t (y 0) (y 1)
  have e0 : rw_ t (y 0) = ((cfg0.win 14).blk t).view.emb y 0 := Fin.ext (by
    show t.val * 512 + (y 0).val = _
    blk_simp [idx_val t])
  have e1 : (y 1 : Fin 2048) = ((cfg0.win 14).blk t).view.emb y 1 := Fin.ext (by blk_simp [idx_val t])
  rw [← eq_ix2 y, e0, e1] at hp
  exact hp
end Cert.Out0FIdeal.Out
end
end
-- ==== Proof.Out0FRef.lean ====
module

public import proofs.«01_k».proof.Proof.Gen.Out0FRefIdeal.Run
public import proofs.«01_k».proof.Proof.LnLib

/-! What the reference of the first layer's output, its norm and the second layer's input product leaves in its four results, at one index. -/

@[expose] public section

set_option maxRecDepth 16384
noncomputable section
open Idealize.ShloMosaic Idealize.ShloMosaic.TcCoe Idealize.SL.Sem
namespace Cert.Out0FRefIdeal.Out
open Cert.Out0FRefIdeal Cert.Out0FRefIdeal.Gen Cert.Out0FRefIdeal.Value Cert.InLib Cert.OutLib Cert.LnLib

/-! The reference's steps, each from the arrays it reads: the branch, the row before the norm, its mean, the centred row, its
variance, the reciprocal root, the normed row, the row with its scale and shift, the modulated row, its product. -/

def brE (a b g : FVec Ideal S8192x2048 .f32) (w : FVec Ideal S2048x1024 .f32) : FVec Ideal S8192x1024 .f32 :=
  Host.dotGeneral dot_S8192x2048_S2048x1024_S8192x1024_1_0_0_1_n_n none (mulf (addf a b) (mulf g (Host.divf (broadcastInDim S8192x2048 ![] bcast_S_S8192x2048 (constant S_ .f32 0x3F800000#32)) (addf (broadcastInDim S8192x2048 ![] bcast_S_S8192x2048 (constant S_ .f32 0x3F800000#32)) (Host.exp (Host.negf g)))))) w
def rowE (v : FVec Ideal S1024 .f32) : FVec Ideal S8192x1024 .f32 := broadcastInDim S8192x1024 ![0, 1] bcast_S1x1024_S8192x1024_0_1 (broadcastInDim S1x1024 ![1] bcast_S1024_S1x1024_1 v)
def zE (br x : FVec Ideal S8192x1024 .f32) (t : FVec Ideal S1024 .f32) : FVec Ideal S8192x1024 .f32 :=
  addf (mulf (broadcastInDim S8192x1024 ![] bcast_S_S8192x1024 (constant S_ .f32 0x3FB504F3#32)) x) (mulf (rowE t) br)
def meanE (z : FVec Ideal S8192x1024 .f32) : FVec Ideal S8192x1 .f32 :=
  Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32))
def cE (z : FVec Ideal S8192x1024 .f32) (u : FVec Ideal S8192x1 .f32) : FVec Ideal S8192x1024 .f32 := subf z (broadcastInDim S8192x1024 ![0, 1] bcast_S8192x1_S8192x1024_0_1 u)
def rsE (v : FVec Ideal S8192x1 .f32) : FVec Ideal S8192x1 .f32 := Host.rsqrt (addf v (broadcastInDim S8192x1 ![] bcast_S_S8192x1 (constant S_ .f32 0x3727C5AC#32)))
def xhE (y : FVec Ideal S8192x1024 .f32) (u : FVec Ideal S8192x1 .f32) : FVec Ideal S8192x1024 .f32 := mulf y (broadcastInDim S8192x1024 ![0, 1] bcast_S8192x1_S8192x1024_0_1 u)
def x1E (y : FVec Ideal S8192x1024 .f32) (l b : FVec Ideal S1024 .f32) : FVec Ideal S8192x1024 .f32 := addf (mulf y (rowE l)) (rowE b)
def hE (y : FVec Ideal S8192x1024 .f32) (s h : FVec Ideal S1024 .f32) : FVec Ideal S8192x1024 .f32 := addf (mulf y (rowE (addf (broadcastInDim S1024 ![] bcast_S_S1024 (constant S_ .f32 0x3F800000#32)) s))) (rowE h)
def uE (y : FVec Ideal S8192x1024 .f32) (w : FVec Ideal S1024x4096 .f32) : FVec Ideal S8192x4096 .f32 := Host.dotGeneral dot_S8192x1024_S1024x4096_S8192x4096_1_0_0_1_n_n none y w

variable (m : (ℓ : Loc nD τ sig) → Buf (Elt Ideal) ℓ) (c : Dev nD)

/-- The run's arguments. -/
abbrev hf : (Sh2 8192 2048).Idx → EReal := m ((c : Thread nD τ).loc main_arg0)
abbrev hb : (Sh2 8192 2048).Idx → EReal := m ((c : Thread nD τ).loc main_arg1)
abbrev gg : (Sh2 8192 2048).Idx → EReal := m ((c : Thread nD τ).loc main_arg2)
abbrev xx : (Sh2 8192 1024).Idx → EReal := m ((c : Thread nD τ).loc main_arg3)
abbrev gt : (Sh1 1024).Idx → EReal := m ((c : Thread nD τ).loc main_arg4)
abbrev wo : (Sh2 2048 1024).Idx → EReal := m ((c : Thread nD τ).loc main_arg5)
abbrev lg : (Sh1 1024).Idx → EReal := m ((c : Thread nD τ).loc main_arg6)
abbrev lb : (Sh1 1024).Idx → EReal := m ((c : Thread nD τ).loc main_arg7)
abbrev sc : (Sh1 1024).Idx → EReal := m ((c : Thread nD τ).loc main_arg8)
abbrev sh : (Sh1 1024).Idx → EReal := m ((c : Thread nD τ).loc main_arg9)
abbrev w1 : (Sh2 1024 4096).Idx → EReal := m ((c : Thread nD τ).loc main_arg10)
/-- The sum of the scans, the branch, the row before the norm, the normed row, that row modulated and its product. -/
abbrev YS : Fin 8192 → Fin 2048 → EReal := ysum (hf m c) (hb m c)
abbrev BR : Fin 8192 → Fin 1024 → EReal := branch (YS m c) (gg m c) (wo m c)
abbrev ZR : Fin 8192 → Fin 1024 → EReal := resid (xx m c) (gt m c) (BR m c)
abbrev X1 : Fin 8192 → Fin 1024 → EReal := lnr (ZR m c) (lg m c) (lb m c)
abbrev H1 : Fin 8192 → Fin 1024 → EReal := modr (X1 m c) (sc m c) (sh m c)
abbrev UU : Fin 8192 → Fin 4096 → EReal := prd (H1 m c) (w1 m c)

/-- The steps at the run's arguments. -/
def rBr : FVec Ideal S8192x1024 .f32 := brE (hf m c) (hb m c) (gg m c) (wo m c)
def rZ : FVec Ideal S8192x1024 .f32 := zE (rBr m c) (xx m c) (gt m c)
def rM : FVec Ideal S8192x1 .f32 := meanE (rZ m c)
def rC : FVec Ideal S8192x1024 .f32 := cE (rZ m c) (rM m c)
def rV : FVec Ideal S8192x1 .f32 := meanE (mulf (rC m c) (rC m c))
def rR : FVec Ideal S8192x1 .f32 := rsE (rV m c)
def rXh : FVec Ideal S8192x1024 .f32 := xhE (rC m c) (rR m c)
def rX1 : FVec Ideal S8192x1024 .f32 := x1E (rXh m c) (lg m c) (lb m c)
def rH : FVec Ideal S8192x1024 .f32 := hE (rX1 m c) (sc m c) (sh m c)
def rU : FVec Ideal S8192x4096 .f32 := uE (rH m c) (w1 m c)

theorem out0_eq : res_out0 m c = rX1 m c := rfl
theorem out2_eq : res_out2 m c = truncf .bf16 (extractStridedSlice S8192x2048 ![0, 0] (rU m c) slices_S8192x4096_S8192x2048_0_0) bitsLt_bf16_f32 := rfl
theorem out3_eq : res_out3 m c = truncf .bf16 (extractStridedSlice S8192x2048 ![0, 2048] (rU m c) slices_S8192x4096_S8192x2048_0_2048) bitsLt_bf16_f32 := rfl

theorem br_at (r : Fin 8192) (j : Fin 1024) : rBr m c (ix2 r j) = BR m c r j := by
  unfold rBr brE BR branch YS ysum silu
  generalize hf m c = X0
  generalize hb m c = X1
  generalize gg m c = X2
  generalize wo m c = X5
  pointwise
  rfl
theorem z_at (r : Fin 8192) (j : Fin 1024) : rZ m c (ix2 r j) = ZR m c r j := by
  have h := br_at m c r j
  unfold rZ zE rowE ZR resid
  rw [← h]
  generalize rBr m c = C at *
  generalize xx m c = X4 at *
  generalize gt m c = X5 at *
  pointwise
theorem mean_of (Z : FVec Ideal S8192x1024 .f32) (r : Fin 8192) : meanE Z (ix2 r 0) = mean fun j => Z (ix2 r j) := by
  unfold meanE mean
  pointwise
theorem mean_at (r : Fin 8192) : rM m c (ix2 r 0) = mean (ZR m c r) := by
  unfold rM
  rw [mean_of]
  exact congrArg mean (funext fun j => z_at m c r j)
theorem zc_at (r : Fin 8192) (j : Fin 1024) : rC m c (ix2 r j) = zc (ZR m c r) j := by
  have h := z_at m c r j
  have h' := mean_at m c r
  unfold rC cE zc
  rw [← h, ← h']
  generalize rZ m c = C at *
  generalize rM m c = M at *
  pointwise
theorem rs_at (r : Fin 8192) : rR m c (ix2 r 0) = rs (ZR m c r) := by
  have h := zc_at m c r
  refine congrArg Ideal.rsqrt ?_
  unfold sd mean
  simp only [← h]
  have hv := mean_of (mulf (rC m c) (rC m c)) r
  unfold mean at hv
  refine Eq.trans ?_ (congrArg (fun v => v + _) (hv.trans ?_))
  · rfl
  · rfl
theorem xh_at (r : Fin 8192) (j : Fin 1024) : rXh m c (ix2 r j) = xh (ZR m c r) j := by
  have h := zc_at m c r j
  have h' := rs_at m c r
  unfold rXh xhE xh
  rw [← h, ← h']
  generalize rC m c = C at *
  generalize rR m c = M at *
  pointwise
theorem x1_at (r : Fin 8192) (j : Fin 1024) : rX1 m c (ix2 r j) = X1 m c r j := by
  have h := xh_at m c r j
  unfold rX1 x1E rowE X1 lnr
  rw [← h]
  generalize rXh m c = C at *
  generalize lg m c = L at *
  generalize lb m c = B at *
  pointwise
theorem h1_at (r : Fin 8192) (j : Fin 1024) : rH m c (ix2 r j) = H1 m c r j := by
  have h := x1_at m c r j
  unfold rH hE rowE H1 modr
  rw [← h]
  generalize rX1 m c = C at *
  generalize sc m c = S at *
  generalize sh m c = I at *
  pointwise
theorem u_at (r : Fin 8192) (q : Fin 4096) : rU m c (ix2 r q) = UU m c r q := by
  have h := h1_at m c r
  unfold rU uE UU prd
  simp only [← h]
  generalize rH m c = C at *
  generalize w1 m c = W at *
  pointwise

/-- The column of the product that column `q` of the first, of the second half is. -/
def lo (q : Fin 2048) : Fin 4096 := ⟨q, by omega⟩
def hi (q : Fin 2048) : Fin 4096 := ⟨2048 + q, by omega⟩
theorem lo_at (r : Fin 8192) (q : Fin 2048) : res_out2 m c (ix2 r q) = UU m c r (lo q) := by
  rw [out2_eq, ← u_at m c]
  unfold lo
  generalize rU m c = C
  pointwise
theorem hi_at (r : Fin 8192) (q : Fin 2048) : res_out3 m c (ix2 r q) = UU m c r (hi q) := by
  rw [out3_eq, ← u_at m c]
  unfold hi
  generalize rU m c = C
  pointwise

/-- The run of the reference with its four results by index. -/
theorem run_main (ρ : Dev nD → PrngReg) :
    θ_run defs (onTc (τ := τ) (main (F := Ideal))) ⟨m, fun _ => 0, ρ⟩ fun r => ∀ c : Dev nD,
      r.2.mem ((c.tc : Thread nD τ).loc main_v33) = (fun j : S8192x1024.Idx => X1 m c (j 0) (j 1))
      ∧ r.2.mem ((c.tc : Thread nD τ).loc main_v45) = (fun j : S8192x1024.Idx => BR m c (j 0) (j 1))
      ∧ r.2.mem ((c.tc : Thread nD τ).loc main_v46) = (fun j : S8192x2048.Idx => UU m c (j 0) (lo (j 1)))
      ∧ r.2.mem ((c.tc : Thread nD τ).loc main_v47) = (fun j : S8192x2048.Idx => UU m c (j 0) (hi (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run _ _ _).mono (fun _ h c => ?_) (Value.run m ρ)
  obtain ⟨h0, h1, h2, h3, hk⟩ := h c
  refine ⟨h0.trans ?_, h1.trans ?_, h2.trans ?_, h3.trans ?_, hk⟩
  · exact funext fun j => (congrArg _ (eq_ix2 j)).trans ((congrFun (out0_eq m c) _).trans (x1_at m c (j 0) (j 1)))
  · exact funext fun j => (congrArg (rBr m c) (eq_ix2 j)).trans (br_at m c (j 0) (j 1))
  · exact funext fun j => (congrArg _ (eq_ix2 j)).trans (lo_at m c (j 0) (j 1))
  · exact funext fun j => (congrArg _ (eq_ix2 j)).trans (hi_at m c (j 0) (j 1))
end Cert.Out0FRefIdeal.Out
end
end
-- ==== Proof.InF.lean ====
module

public import proofs.«01_k».proof.Proof.Gen.InFIdeal.Value
public import proofs.«01_k».proof.Proof.ColsLib
public import Idealize.ShloMosaic.Lib.StableHlo.ReadAt

/-! What the kernel of the first layer's input product leaves in its two result arrays, at one index. -/

@[expose] public section

set_option maxRecDepth 16384
noncomputable section
open Idealize.ShloMosaic Idealize.ShloMosaic.TcCoe Idealize.SL.Sem
namespace Cert.InFIdeal.Out
open Cert.InFIdeal Cert.InFIdeal.Gen Cert.InFIdeal.Value Cert.InLib Cert.OutLib Cert.LnLib Cert.ColsLib
variable (m : (ℓ : Loc nD τ sig) → Buf (Elt Ideal) ℓ) (c : Dev nD) (t : Fin cfg0.N)

/-- Every window's block index at point `t`: row tile `t`, or the whole array. -/
theorem idx_val : ∀ t : Fin cfg0.N, win0_0.index t = ![t.val, 0] ∧ win0_1.index t = ![0, 0] ∧ win0_2.index t = ![0, 0] ∧ win0_3.index t = ![0, 0, 0]
    ∧ win0_4.index t = ![t.val, 0] ∧ win0_5.index t = ![t.val, 0] ∧ t.val < 16 :=
  (by decide +kernel : ∀ t : Fin grid0.N, _)
theorem ltN : t.val < 16 := (idx_val t).2.2.2.2.2.2

/-- The run's arguments. -/
abbrev xx : (Sh2 8192 1024).Idx → EReal := m ((c : Thread nD τ).loc main_arg0)
abbrev sc : (Sh1 1024).Idx → EReal := m ((c : Thread nD τ).loc main_arg1)
abbrev sh : (Sh1 1024).Idx → EReal := m ((c : Thread nD τ).loc main_arg2)
abbrev w1 : (Sh2 1024 4096).Idx → EReal := m ((c : Thread nD τ).loc main_arg3)
/-- The modulated row and its product. -/
abbrev H1 : Fin 8192 → Fin 1024 → EReal := modr (fun r j => xx m c (ix2 r j)) (sc m c) (sh m c)
abbrev UU : Fin 8192 → Fin 4096 → EReal := prd (H1 m c) (w1 m c)

/-- The row of the arrays that row `x` of point `t`'s blocks holds. -/
def rw_ (x : Fin 512) : Fin 8192 := ⟨t.val * 512 + x, by have := ltN t; omega⟩

theorem V_w (k : Fin 8) (a : Fin 1024) (b : Fin 512) : V m c main_v4 (ix3 k a b) = w1 m c (ix2 a ⟨k * 512 + b, by omega⟩) := by
  unfold V; after_reads_at
theorem V_s (j : Fin 1024) : V m c main_v0 (ix2 (0 : Fin 1) j) = sc m c (ix1 j) := by
  unfold V; after_reads_at
theorem V_i (j : Fin 1024) : V m c main_v1 (ix2 (0 : Fin 1) j) = sh m c (ix1 j) := by
  unfold V; after_reads_at

theorem x_at (x : Fin 512) (j : Fin 1024) : iblk m c 0 t (ix2 x j) = xx m c (ix2 (rw_ t x) j) := by
  unfold rw_ xx; blk_ext [iblk, V, idx_val t]
theorem s_at (j : Fin 1024) : iblk m c 1 t (ix2 0 j) = sc m c (ix1 j) := by
  refine Eq.trans ?_ (V_s m c j); blk_ext [iblk, idx_val t]
theorem i_at (j : Fin 1024) : iblk m c 2 t (ix2 0 j) = sh m c (ix1 j) := by
  refine Eq.trans ?_ (V_i m c j); blk_ext [iblk, idx_val t]
theorem w_at (k : Fin 8) (a : Fin 1024) (b : Fin 512) : iblk m c 3 t (ix3 k a b) = w1 m c (ix2 a ⟨k * 512 + b, by omega⟩) := by
  refine Eq.trans ?_ (V_w m c k a b); blk_ext [iblk, idx_val t]

theorem ld_row (Z : Vec Ideal S1x1024 .f32) : View.ld Z r0_1 = Z := View.ld_unit_lit _ Z (by decide)
theorem ld_all (Z : Vec Ideal S512x1024 .f32) : View.ld Z r0_0 = Z := View.ld_unit_lit _ Z (by decide)

theorem h1_at (x : Fin 512) (j : Fin 1024) : k0_pay5 (F := Ideal) (iblk m c 0 t) (iblk m c 1 t) (iblk m c 2 t) (ix2 x j) = H1 m c (rw_ t x) j := by
  have h := x_at m c t x j
  have hs := s_at m c t j
  have hi := i_at m c t j
  generalize iblk m c 0 t = C at *
  generalize iblk m c 1 t = S at *
  generalize iblk m c 2 t = I at *
  unfold H1 modr
  show _ = xx m c (ix2 (rw_ t x) j) * _ + _
  rw [← h, ← hs, ← hi]
  pointwise [k0_pay5]

/-- One block of columns of the product. -/
theorem pw_at (k : Fin 8) (k' : ℕ) (hk : (k : ℕ) = k' := by rfl)
    (i4 : ∀ a, (![k', 0, 0] : Fin 3 → ℕ) a + (![1, 1024, 512] : Fin 3 → ℕ) a ≤ S8x1024x512.size a := by decide) (q : Fin 4096) (b : Fin 512) (hq : (q : ℕ) = k * 512 + b)
    (H : FVec Ideal S512x1024 .bf16) (hH : ∀ x j, H (ix2 x j) = H1 m c (rw_ t x) j) (x : Fin 512) :
    k0_pay1 (F := Ideal) H (View.ld (iblk m c 3 t) (Rect.unit (s := S8x1024x512) ![k', 0, 0] ![1, 1024, 512] i4)) (ix2 x b) = UU m c (rw_ t x) q := by
  have e : q = ⟨k * 512 + b, by omega⟩ := Fin.ext hq
  have hW : ∀ a, View.ld (iblk m c 3 t) (Rect.unit (s := S8x1024x512) ![k', 0, 0] ![1, 1024, 512] i4) (ix3 0 a b) = iblk m c 3 t (ix3 k a b) := fun a => slab_ld _ k' i4 k a b hk
  generalize View.ld (iblk m c 3 t) (Rect.unit (s := S8x1024x512) ![k', 0, 0] ![1, 1024, 512] i4) = W at *
  rw [e]
  unfold UU prd
  simp only [← w_at m c t, ← hH, ← hW]
  pointwise [k0_pay1]
theorem pu_at (k : Fin 8) (k' : ℕ) (hk : (k : ℕ) = k' := by rfl)
    (i4 : ∀ a, (![k', 0, 0] : Fin 3 → ℕ) a + (![1, 1024, 512] : Fin 3 → ℕ) a ≤ S8x1024x512.size a := by decide) (q : Fin 4096) (b : Fin 512) (hq : (q : ℕ) = k * 512 + b)
    (x : Fin 512) :
    k0_pay6 (F := Ideal) (iblk m c 0 t) (iblk m c 1 t) (iblk m c 2 t) (View.ld (iblk m c 3 t) (Rect.unit (s := S8x1024x512) ![k', 0, 0] ![1, 1024, 512] i4)) (ix2 x b) = UU m c (rw_ t x) q :=
  pw_at m c t k k' hk i4 q b hq _ (h1_at m c t) x

/-- The column of the product that column `q` of the first, of the second half is. -/
def lo (q : Fin 2048) : Fin 4096 := ⟨q, by omega⟩
def hi (q : Fin 2048) : Fin 4096 := ⟨2048 + q, by omega⟩

/-- What point `t` leaves in the two results. -/
theorem u_blk_ch (x : Fin 512) (k : Fin 4) (b : Fin 512) : (dats m 0 c).after 4 t (ix2 x (ch k b)) = UU m c (rw_ t x) (lo (ch k b)) := by
  rw [after0_4]
  unfold out0_4
  rw [ld_row, ld_row, ld_all]
  refine (cols4_canon _ _ _ _ _ _ _ _ x k b).trans ?_
  exact pick4 k.isLt
    (fun e => by obtain rfl : k = 3 := Fin.ext e; exact pu_at m c t 3 3 rfl _ _ b rfl x)
    (fun e => by obtain rfl : k = 2 := Fin.ext e; exact pu_at m c t 2 2 rfl _ _ b rfl x)
    (fun e => by obtain rfl : k = 1 := Fin.ext e; exact pu_at m c t 1 1 rfl _ _ b rfl x)
    (fun e => by obtain rfl : k = 0 := Fin.ext e; exact pu_at m c t 0 0 rfl _ _ b rfl x)
theorem g_blk_ch (x : Fin 512) (k : Fin 4) (b : Fin 512) : (dats m 0 c).after 5 t (ix2 x (ch k b)) = UU m c (rw_ t x) (hi (ch k b)) := by
  rw [after0_5]
  unfold out0_5 k0_pay10
  rw [ld_row, ld_row, ld_all]
  refine (cols4_canon _ _ _ _ _ _ _ _ x k b).trans ?_
  have e (i : ℕ) : 2048 + (i * 512 + (b : ℕ)) = (4 + i) * 512 + b := by omega
  exact pick4 k.isLt
    (fun h => by obtain rfl : k = 3 := Fin.ext h; exact pw_at m c t 7 7 rfl _ _ b (e 3) _ (h1_at m c t) x)
    (fun h => by obtain rfl : k = 2 := Fin.ext h; exact pw_at m c t 6 6 rfl _ _ b (e 2) _ (h1_at m c t) x)
    (fun h => by obtain rfl : k = 1 := Fin.ext h; exact pw_at m c t 5 5 rfl _ _ b (e 1) _ (h1_at m c t) x)
    (fun h => by obtain rfl : k = 0 := Fin.ext h; exact pw_at m c t 4 4 rfl _ _ b (e 0) _ (h1_at m c t) x)
theorem u_blk (x : Fin 512) (q : Fin 2048) : (dats m 0 c).after 4 t (ix2 x q) = UU m c (rw_ t x) (lo q) :=
  by_ch (P := fun q => (dats m 0 c).after 4 t (ix2 x q) = UU m c (rw_ t x) (lo q)) (fun k b => u_blk_ch m c t x k b) q
theorem g_blk (x : Fin 512) (q : Fin 2048) : (dats m 0 c).after 5 t (ix2 x q) = UU m c (rw_ t x) (hi q) :=
  by_ch (P := fun q => (dats m 0 c).after 5 t (ix2 x q) = UU m c (rw_ t x) (hi q)) (fun k b => g_blk_ch m c t x k b) q

/-! The two results after the run. -/

theorem u_final : (dats m 0 c).arrAt 4 (cfgs 0).N = fun j : S8192x2048.Idx => UU m c (j 0) (lo (j 1)) := by
  refine (dats m 0 c).arrAt_eq_of_covers 4 _ (by decide +kernel) fun t hf y => ?_
  have hp := u_blk m c t (y 0) (y 1)
  have e0 : rw_ t (y 0) = ((cfg0.win 4).blk t).view.emb y 0 := Fin.ext (by
    show t.val * 512 + (y 0).val = _
    blk_simp [idx_val t])
  have e1 : (y 1 : Fin 2048) = ((cfg0.win 4).blk t).view.emb y 1 := Fin.ext (by blk_simp [idx_val t])
  rw [← eq_ix2 y, e0, e1] at hp
  exact hp
theorem g_final : (dats m 0 c).arrAt 5 (cfgs 0).N = fun j : S8192x2048.Idx => UU m c (j 0) (hi (j 1)) := by
  refine (dats m 0 c).arrAt_eq_of_covers 5 _ (by decide +kernel) fun t hf y => ?_
  have hp := g_blk m c t (y 0) (y 1)
  have e0 : rw_ t (y 0) = ((cfg0.win 5).blk t).view.emb y 0 := Fin.ext (by
    show t.val * 512 + (y 0).val = _
    blk_simp [idx_val t])
  have e1 : (y 1 : Fin 2048) = ((cfg0.win 5).blk t).view.emb y 1 := Fin.ext (by blk_simp [idx_val t])
  rw [← eq_ix2 y, e0, e1] at hp
  exact hp
end Cert.InFIdeal.Out
end
end
-- ==== Proof.InFRef.lean ====
module

public import proofs.«01_k».proof.Proof.Gen.InFRefIdeal.Run
public import proofs.«01_k».proof.Proof.LnLib

/-! What the reference of the first layer's input product leaves in its two results, at one index. -/

@[expose] public section

set_option maxRecDepth 16384
noncomputable section
open Idealize.ShloMosaic Idealize.ShloMosaic.TcCoe Idealize.SL.Sem
namespace Cert.InFRefIdeal.Out
open Cert.InFRefIdeal Cert.InFRefIdeal.Gen Cert.InFRefIdeal.Value Cert.InLib Cert.OutLib Cert.LnLib
variable (m : (ℓ : Loc nD τ sig) → Buf (Elt Ideal) ℓ) (c : Dev nD)

/-- The run's arguments. -/
abbrev xx : (Sh2 8192 1024).Idx → EReal := m ((c : Thread nD τ).loc main_arg0)
abbrev sc : (Sh1 1024).Idx → EReal := m ((c : Thread nD τ).loc main_arg1)
abbrev sh : (Sh1 1024).Idx → EReal := m ((c : Thread nD τ).loc main_arg2)
abbrev w1 : (Sh2 1024 4096).Idx → EReal := m ((c : Thread nD τ).loc main_arg3)
/-- The modulated row and its product. -/
abbrev H1 : Fin 8192 → Fin 1024 → EReal := modr (fun r j => xx m c (ix2 r j)) (sc m c) (sh m c)
abbrev UU : Fin 8192 → Fin 4096 → EReal := prd (H1 m c) (w1 m c)
/-- The column of the product that column `q` of the first, of the second half is. -/
def lo (q : Fin 2048) : Fin 4096 := ⟨q, by omega⟩
def hi (q : Fin 2048) : Fin 4096 := ⟨2048 + q, by omega⟩

/-- The run of the reference with its two results by index. -/
theorem run_main (ρ : Dev nD → PrngReg) :
    θ_run defs (onTc (τ := τ) (main (F := Ideal))) ⟨m, fun _ => 0, ρ⟩ fun r => ∀ c : Dev nD,
      r.2.mem ((c.tc : Thread nD τ).loc main_v9) = (fun j : S8192x2048.Idx => UU m c (j 0) (lo (j 1)))
      ∧ r.2.mem ((c.tc : Thread nD τ).loc main_v11) = (fun j : S8192x2048.Idx => UU m c (j 0) (hi (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun _ h c => ?_) (Value.run m ρ)
  obtain ⟨h0, h1, hk⟩ := h c
  refine ⟨h0.trans (funext fun j => ?_), h1.trans (funext fun j => ?_), hk⟩
  · obtain ⟨r, q, rfl⟩ : ∃ r q, j = ix2 r q := ⟨_, _, eq_ix2 j⟩
    unfold UU prd H1 modr lo
    pointwise
  · obtain ⟨r, q, rfl⟩ : ∃ r q, j = ix2 r q := ⟨_, _, eq_ix2 j⟩
    unfold UU prd H1 modr hi
    pointwise
end Cert.InFRefIdeal.Out
end
end
-- ==== Proof.InCtxF.lean ====
module

public import proofs.«01_k».proof.Proof.Gen.InCtxFIdeal.Value
public import proofs.«01_k».proof.Proof.ColsLib
public import Idealize.ShloMosaic.Lib.StableHlo.ReadAt

/-! What the kernel of the first layer's input product on the context tokens leaves in its two result arrays, at one index. -/

@[expose] public section

set_option maxRecDepth 16384
noncomputable section
open Idealize.ShloMosaic Idealize.ShloMosaic.TcCoe Idealize.SL.Sem
namespace Cert.InCtxFIdeal.Out
open Cert.InCtxFIdeal Cert.InCtxFIdeal.Gen Cert.InCtxFIdeal.Value Cert.InLib Cert.OutLib Cert.LnLib Cert.ColsLib
variable (m : (ℓ : Loc nD τ sig) → Buf (Elt Ideal) ℓ) (c : Dev nD) (t : Fin cfg0.N)

/-- Every window's block index at point `t`: row tile `t`, or the whole array. -/
theorem idx_val : ∀ t : Fin cfg0.N, win0_0.index t = ![t.val, 0] ∧ win0_1.index t = ![0, 0] ∧ win0_2.index t = ![0, 0] ∧ win0_3.index t = ![0, 0, 0]
    ∧ win0_4.index t = ![t.val, 0] ∧ win0_5.index t = ![t.val, 0] ∧ t.val < 1 :=
  (by decide +kernel : ∀ t : Fin grid0.N, _)
theorem ltN : t.val < 1 := (idx_val t).2.2.2.2.2.2

/-- The run's arguments. -/
abbrev xx : (Sh2 256 1024).Idx → EReal := m ((c : Thread nD τ).loc main_arg0)
abbrev sc : (Sh1 1024).Idx → EReal := m ((c : Thread nD τ).loc main_arg1)
abbrev sh : (Sh1 1024).Idx → EReal := m ((c : Thread nD τ).loc main_arg2)
abbrev w1 : (Sh2 1024 4096).Idx → EReal := m ((c : Thread nD τ).loc main_arg3)
/-- The modulated row and its product. -/
abbrev H1 : Fin 256 → Fin 1024 → EReal := modr (fun r j => xx m c (ix2 r j)) (sc m c) (sh m c)
abbrev UU : Fin 256 → Fin 4096 → EReal := prd (H1 m c) (w1 m c)

/-- The row of the arrays that row `x` of point `t`'s blocks holds. -/
def rw_ (x : Fin 256) : Fin 256 := ⟨t.val * 256 + x, by have := ltN t; omega⟩

theorem V_w (k : Fin 8) (a : Fin 1024) (b : Fin 512) : V m c main_v4 (ix3 k a b) = w1 m c (ix2 a ⟨k * 512 + b, by omega⟩) := by
  unfold V; after_reads_at
theorem V_s (j : Fin 1024) : V m c main_v0 (ix2 (0 : Fin 1) j) = sc m c (ix1 j) := by
  unfold V; after_reads_at
theorem V_i (j : Fin 1024) : V m c main_v1 (ix2 (0 : Fin 1) j) = sh m c (ix1 j) := by
  unfold V; after_reads_at

theorem x_at (x : Fin 256) (j : Fin 1024) : iblk m c 0 t (ix2 x j) = xx m c (ix2 (rw_ t x) j) := by
  unfold rw_ xx; blk_ext [iblk, V, idx_val t]
theorem s_at (j : Fin 1024) : iblk m c 1 t (ix2 0 j) = sc m c (ix1 j) := by
  refine Eq.trans ?_ (V_s m c j); blk_ext [iblk, idx_val t]
theorem i_at (j : Fin 1024) : iblk m c 2 t (ix2 0 j) = sh m c (ix1 j) := by
  refine Eq.trans ?_ (V_i m c j); blk_ext [iblk, idx_val t]
theorem w_at (k : Fin 8) (a : Fin 1024) (b : Fin 512) : iblk m c 3 t (ix3 k a b) = w1 m c (ix2 a ⟨k * 512 + b, by omega⟩) := by
  refine Eq.trans ?_ (V_w m c k a b); blk_ext [iblk, idx_val t]

theorem ld_row (Z : Vec Ideal S1x1024 .f32) : View.ld Z r0_1 = Z := View.ld_unit_lit _ Z (by decide)
theorem ld_all (Z : Vec Ideal S256x1024 .f32) : View.ld Z r0_0 = Z := View.ld_unit_lit _ Z (by decide)

theorem h1_at (x : Fin 256) (j : Fin 1024) : k0_pay5 (F := Ideal) (iblk m c 0 t) (iblk m c 1 t) (iblk m c 2 t) (ix2 x j) = H1 m c (rw_ t x) j := by
  have h := x_at m c t x j
  have hs := s_at m c t j
  have hi := i_at m c t j
  generalize iblk m c 0 t = C at *
  generalize iblk m c 1 t = S at *
  generalize iblk m c 2 t = I at *
  unfold H1 modr
  show _ = xx m c (ix2 (rw_ t x) j) * _ + _
  rw [← h, ← hs, ← hi]
  pointwise [k0_pay5]

/-- One block of columns of the product. -/
theorem pw_at (k : Fin 8) (k' : ℕ) (hk : (k : ℕ) = k' := by rfl)
    (i4 : ∀ a, (![k', 0, 0] : Fin 3 → ℕ) a + (![1, 1024, 512] : Fin 3 → ℕ) a ≤ S8x1024x512.size a := by decide) (q : Fin 4096) (b : Fin 512) (hq : (q : ℕ) = k * 512 + b)
    (H : FVec Ideal S256x1024 .bf16) (hH : ∀ x j, H (ix2 x j) = H1 m c (rw_ t x) j) (x : Fin 256) :
    k0_pay1 (F := Ideal) H (View.ld (iblk m c 3 t) (Rect.unit (s := S8x1024x512) ![k', 0, 0] ![1, 1024, 512] i4)) (ix2 x b) = UU m c (rw_ t x) q := by
  have e : q = ⟨k * 512 + b, by omega⟩ := Fin.ext hq
  have hW : ∀ a, View.ld (iblk m c 3 t) (Rect.unit (s := S8x1024x512) ![k', 0, 0] ![1, 1024, 512] i4) (ix3 0 a b) = iblk m c 3 t (ix3 k a b) := fun a => slab_ld _ k' i4 k a b hk
  generalize View.ld (iblk m c 3 t) (Rect.unit (s := S8x1024x512) ![k', 0, 0] ![1, 1024, 512] i4) = W at *
  rw [e]
  unfold UU prd
  simp only [← w_at m c t, ← hH, ← hW]
  pointwise [k0_pay1]
theorem pu_at (k : Fin 8) (k' : ℕ) (hk : (k : ℕ) = k' := by rfl)
    (i4 : ∀ a, (![k', 0, 0] : Fin 3 → ℕ) a + (![1, 1024, 512] : Fin 3 → ℕ) a ≤ S8x1024x512.size a := by decide) (q : Fin 4096) (b : Fin 512) (hq : (q : ℕ) = k * 512 + b)
    (x : Fin 256) :
    k0_pay6 (F := Ideal) (iblk m c 0 t) (iblk m c 1 t) (iblk m c 2 t) (View.ld (iblk m c 3 t) (Rect.unit (s := S8x1024x512) ![k', 0, 0] ![1, 1024, 512] i4)) (ix2 x b) = UU m c (rw_ t x) q :=
  pw_at m c t k k' hk i4 q b hq _ (h1_at m c t) x

/-- The column of the product that column `q` of the first, of the second half is. -/
def lo (q : Fin 2048) : Fin 4096 := ⟨q, by omega⟩
def hi (q : Fin 2048) : Fin 4096 := ⟨2048 + q, by omega⟩

/-- What point `t` leaves in the two results. -/
theorem u_blk_ch (x : Fin 256) (k : Fin 4) (b : Fin 512) : (dats m 0 c).after 4 t (ix2 x (ch k b)) = UU m c (rw_ t x) (lo (ch k b)) := by
  rw [after0_4]
  unfold out0_4
  rw [ld_row, ld_row, ld_all]
  refine (cols4_canon _ _ _ _ _ _ _ _ x k b).trans ?_
  exact pick4 k.isLt
    (fun e => by obtain rfl : k = 3 := Fin.ext e; exact pu_at m c t 3 3 rfl _ _ b rfl x)
    (fun e => by obtain rfl : k = 2 := Fin.ext e; exact pu_at m c t 2 2 rfl _ _ b rfl x)
    (fun e => by obtain rfl : k = 1 := Fin.ext e; exact pu_at m c t 1 1 rfl _ _ b rfl x)
    (fun e => by obtain rfl : k = 0 := Fin.ext e; exact pu_at m c t 0 0 rfl _ _ b rfl x)
theorem g_blk_ch (x : Fin 256) (k : Fin 4) (b : Fin 512) : (dats m 0 c).after 5 t (ix2 x (ch k b)) = UU m c (rw_ t x) (hi (ch k b)) := by
  rw [after0_5]
  unfold out0_5 k0_pay10
  rw [ld_row, ld_row, ld_all]
  refine (cols4_canon _ _ _ _ _ _ _ _ x k b).trans ?_
  have e (i : ℕ) : 2048 + (i * 512 + (b : ℕ)) = (4 + i) * 512 + b := by omega
  exact pick4 k.isLt
    (fun h => by obtain rfl : k = 3 := Fin.ext h; exact pw_at m c t 7 7 rfl _ _ b (e 3) _ (h1_at m c t) x)
    (fun h => by obtain rfl : k = 2 := Fin.ext h; exact pw_at m c t 6 6 rfl _ _ b (e 2) _ (h1_at m c t) x)
    (fun h => by obtain rfl : k = 1 := Fin.ext h; exact pw_at m c t 5 5 rfl _ _ b (e 1) _ (h1_at m c t) x)
    (fun h => by obtain rfl : k = 0 := Fin.ext h; exact pw_at m c t 4 4 rfl _ _ b (e 0) _ (h1_at m c t) x)
theorem u_blk (x : Fin 256) (q : Fin 2048) : (dats m 0 c).after 4 t (ix2 x q) = UU m c (rw_ t x) (lo q) :=
  by_ch (P := fun q => (dats m 0 c).after 4 t (ix2 x q) = UU m c (rw_ t x) (lo q)) (fun k b => u_blk_ch m c t x k b) q
theorem g_blk (x : Fin 256) (q : Fin 2048) : (dats m 0 c).after 5 t (ix2 x q) = UU m c (rw_ t x) (hi q) :=
  by_ch (P := fun q => (dats m 0 c).after 5 t (ix2 x q) = UU m c (rw_ t x) (hi q)) (fun k b => g_blk_ch m c t x k b) q

/-! The two results after the run. -/

theorem u_final : (dats m 0 c).arrAt 4 (cfgs 0).N = fun j : S256x2048.Idx => UU m c (j 0) (lo (j 1)) := by
  refine (dats m 0 c).arrAt_eq_of_covers 4 _ (by decide +kernel) fun t hf y => ?_
  have hp := u_blk m c t (y 0) (y 1)
  have e0 : rw_ t (y 0) = ((cfg0.win 4).blk t).view.emb y 0 := Fin.ext (by
    show t.val * 256 + (y 0).val = _
    blk_simp [idx_val t])
  have e1 : (y 1 : Fin 2048) = ((cfg0.win 4).blk t).view.emb y 1 := Fin.ext (by blk_simp [idx_val t])
  rw [← eq_ix2 y, e0, e1] at hp
  exact hp
theorem g_final : (dats m 0 c).arrAt 5 (cfgs 0).N = fun j : S256x2048.Idx => UU m c (j 0) (hi (j 1)) := by
  refine (dats m 0 c).arrAt_eq_of_covers 5 _ (by decide +kernel) fun t hf y => ?_
  have hp := g_blk m c t (y 0) (y 1)
  have e0 : rw_ t (y 0) = ((cfg0.win 5).blk t).view.emb y 0 := Fin.ext (by
    show t.val * 256 + (y 0).val = _
    blk_simp [idx_val t])
  have e1 : (y 1 : Fin 2048) = ((cfg0.win 5).blk t).view.emb y 1 := Fin.ext (by blk_simp [idx_val t])
  rw [← eq_ix2 y, e0, e1] at hp
  exact hp
end Cert.InCtxFIdeal.Out
end
end
-- ==== Proof.InCtxFRef.lean ====
module

public import proofs.«01_k».proof.Proof.Gen.InCtxFRefIdeal.Run
public import proofs.«01_k».proof.Proof.LnLib

/-! What the reference of the first layer's input product on the context tokens leaves in its two results, at one index. -/

@[expose] public section

set_option maxRecDepth 16384
noncomputable section
open Idealize.ShloMosaic Idealize.ShloMosaic.TcCoe Idealize.SL.Sem
namespace Cert.InCtxFRefIdeal.Out
open Cert.InCtxFRefIdeal Cert.InCtxFRefIdeal.Gen Cert.InCtxFRefIdeal.Value Cert.InLib Cert.OutLib Cert.LnLib
variable (m : (ℓ : Loc nD τ sig) → Buf (Elt Ideal) ℓ) (c : Dev nD)

/-- The run's arguments. -/
abbrev xx : (Sh2 256 1024).Idx → EReal := m ((c : Thread nD τ).loc main_arg0)
abbrev sc : (Sh1 1024).Idx → EReal := m ((c : Thread nD τ).loc main_arg1)
abbrev sh : (Sh1 1024).Idx → EReal := m ((c : Thread nD τ).loc main_arg2)
abbrev w1 : (Sh2 1024 4096).Idx → EReal := m ((c : Thread nD τ).loc main_arg3)
/-- The modulated row and its product. -/
abbrev H1 : Fin 256 → Fin 1024 → EReal := modr (fun r j => xx m c (ix2 r j)) (sc m c) (sh m c)
abbrev UU : Fin 256 → Fin 4096 → EReal := prd (H1 m c) (w1 m c)
/-- The column of the product that column `q` of the first, of the second half is. -/
def lo (q : Fin 2048) : Fin 4096 := ⟨q, by omega⟩
def hi (q : Fin 2048) : Fin 4096 := ⟨2048 + q, by omega⟩

/-- The run of the reference with its two results by index. -/
theorem run_main (ρ : Dev nD → PrngReg) :
    θ_run defs (onTc (τ := τ) (main (F := Ideal))) ⟨m, fun _ => 0, ρ⟩ fun r => ∀ c : Dev nD,
      r.2.mem ((c.tc : Thread nD τ).loc main_v9) = (fun j : S256x2048.Idx => UU m c (j 0) (lo (j 1)))
      ∧ r.2.mem ((c.tc : Thread nD τ).loc main_v11) = (fun j : S256x2048.Idx => UU m c (j 0) (hi (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun _ h c => ?_) (Value.run m ρ)
  obtain ⟨h0, h1, hk⟩ := h c
  refine ⟨h0.trans (funext fun j => ?_), h1.trans (funext fun j => ?_), hk⟩
  · obtain ⟨r, q, rfl⟩ : ∃ r q, j = ix2 r q := ⟨_, _, eq_ix2 j⟩
    unfold UU prd H1 modr lo
    pointwise
  · obtain ⟨r, q, rfl⟩ : ∃ r q, j = ix2 r q := ⟨_, _, eq_ix2 j⟩
    unfold UU prd H1 modr hi
    pointwise
end Cert.InCtxFRefIdeal.Out
end
end
-- ==== Proof.ModFLib.lean ====
module

public import proofs.«01_k».proof.Proof.OutLib
public import Idealize.ShloMosaic.Lib.Pipeline.ValueKit

/-! The modulation's forward call: what it computes, at one index. -/

@[expose] public section

set_option maxRecDepth 16384
noncomputable section
open Idealize.ShloMosaic Idealize.ShloMosaic.TcCoe Idealize.SL.Sem
namespace Cert.ModFLib
open Cert.InLib Cert.OutLib
/-- The condition of row `r`: its own sequence's, or the context's. -/
def cnd (C : (Sh2 8 1024).Idx → EReal) (X : (Sh1 1024).Idx → EReal) (r : Fin 16) (a : Fin 1024) : EReal :=
  if h : (r : ℕ) < 8 then C (ix2 ⟨r, h⟩ a) else X (ix1 a)
/-- One layer's modulation of one row. -/
def mf (C : (Sh2 8 1024).Idx → EReal) (X : (Sh1 1024).Idx → EReal) (W : (Sh3 2 1024 384).Idx → EReal) (B : (Sh2 2 384).Idx → EReal) (i : Fin 2) (r : Fin 16) (b : Fin 384) : EReal :=
  (∑ a : Fin 1024, silu (cnd C X r a) * W (ix3 i a b)) + B (ix2 i b)
end Cert.ModFLib
end
end
-- ==== Proof.ModF.lean ====
module

public import proofs.«01_k».proof.Proof.Gen.ModFIdeal.Value
public import proofs.«01_k».proof.Proof.ModFLib
public import proofs.«01_k».proof.Proof.Mod
public import Idealize.ShloMosaic.Lib.StableHlo.ReadAt

/-! What the modulation's forward call leaves in its result, at one index. -/

@[expose] public section

set_option maxRecDepth 16384
noncomputable section
open Idealize.ShloMosaic Idealize.ShloMosaic.TcCoe Idealize.SL.Sem
namespace Cert.ModFIdeal.Out
open Cert.ModFIdeal Cert.ModFIdeal.Gen Cert.ModFIdeal.Value Cert.InLib Cert.OutLib Cert.ModFLib
open Cert.ModSpec (lo hi slab_canon)
variable (m : (ℓ : Loc nD τ sig) → Buf (Elt Ideal) ℓ) (c : Dev nD) (t : Fin cfg0.N)

/-- The run's arguments. -/
abbrev cc : (Sh2 8 1024).Idx → EReal := m ((c : Thread nD τ).loc main_arg0)
abbrev cx : (Sh1 1024).Idx → EReal := m ((c : Thread nD τ).loc main_arg1)
abbrev ww : (Sh3 2 1024 384).Idx → EReal := m ((c : Thread nD τ).loc main_arg2)
abbrev bb : (Sh2 2 384).Idx → EReal := m ((c : Thread nD τ).loc main_arg3)

theorem V_lo (r : Fin 8) (a : Fin 1024) : V m c main_v2 (ix2 (lo r) a) = cc m c (ix2 r a) := by
  unfold V; after_reads_at
theorem V_hi (r : Fin 8) (a : Fin 1024) : V m c main_v2 (ix2 (hi r) a) = cx m c (ix1 a) := by
  unfold V; after_reads_at
theorem V_b (i : Fin 2) (b : Fin 384) : V m c main_v3 (ix3 i 0 b) = bb m c (ix2 i b) := by
  unfold V; after_reads_at
/-- Every window holds its whole array. -/
theorem idx_val : win0_0.index (t : Fin grid0.N) = ![0, 0] ∧ win0_1.index (t : Fin grid0.N) = ![0, 0, 0] ∧ win0_2.index (t : Fin grid0.N) = ![0, 0, 0]
    ∧ win0_3.index (t : Fin grid0.N) = ![0, 0, 0] := by
  revert t; decide +kernel

theorem c_lo (r : Fin 8) (a : Fin 1024) : iblk m c 0 t (ix2 (lo r) a) = cc m c (ix2 r a) := by
  refine Eq.trans ?_ (V_lo m c r a); blk_ext [iblk, idx_val t]
theorem c_hi (r : Fin 8) (a : Fin 1024) : iblk m c 0 t (ix2 (hi r) a) = cx m c (ix1 a) := by
  refine Eq.trans ?_ (V_hi m c r a); blk_ext [iblk, idx_val t]
theorem w_at (i : Fin 2) (a : Fin 1024) (b : Fin 384) : iblk m c 1 t (ix3 i a b) = ww m c (ix3 i a b) := by
  unfold ww; blk_ext [iblk, V, idx_val t]
theorem b_at (i : Fin 2) (b : Fin 384) : iblk m c 2 t (ix3 i 0 b) = bb m c (ix2 i b) := by
  refine Eq.trans ?_ (V_b m c i b); blk_ext [iblk, idx_val t]
/-- The conditions' sixteen rows: a row of its own for each sequence, the context's row for the others. -/
theorem c_at (r : Fin 16) (a : Fin 1024) : iblk m c 0 t (ix2 r a) = cnd (cc m c) (cx m c) r a := by
  unfold cnd
  by_cases h : (r : ℕ) < 8
  · rw [dif_pos h]; exact c_lo m c t ⟨r, h⟩ a
  · rw [dif_neg h]
    have e : r = hi ⟨(r : ℕ) - 8, by omega⟩ := Fin.ext (show (r : ℕ) = 8 + (r - 8) by omega)
    rw [e]; exact c_hi m c t _ a

/-- The result at one point, from the blocks. -/
theorem pt (i : Fin 2) (r : Fin 16) (b : Fin 384) : out0_3 (iblk m c 0 t) (iblk m c 1 t) (iblk m c 2 t) (ix3 i r b) = mf (cc m c) (cx m c) (ww m c) (bb m c) i r b := by
  unfold out0_3 mf silu
  simp only [← c_at m c t, ← w_at m c t, ← b_at m c t]
  generalize iblk m c 0 t = C
  generalize iblk m c 1 t = W
  generalize iblk m c 2 t = B
  frame_open
  refine (slab_canon 1 _ _ _ i r b).trans ?_
  by_cases h : (i : ℕ) = 1
  · rw [if_pos h]
    obtain rfl : i = 1 := Fin.ext h
    pointwise [k0_pay3, k0_pay1]
    refine Ideal.add_congr (Finset.sum_congr rfl fun x _ => Ideal.mul_congr (Ideal.mul_congr rfl (sg_eq _)) rfl) rfl
  · rw [if_neg h]
    obtain rfl : i = 0 := Fin.ext (by omega)
    refine (slab_canon 0 _ _ _ 0 r b).trans ?_
    rw [if_pos (show ((0 : Fin 2) : ℕ) = 0 from rfl)]
    pointwise [k0_pay2, k0_pay1]
    refine Ideal.add_congr (Finset.sum_congr rfl fun x _ => Ideal.mul_congr (Ideal.mul_congr rfl (sg_eq _)) rfl) rfl

theorem mf_final : (dats m 0 c).arrAt 3 (cfgs 0).N = fun j : S2x16x384.Idx => mf (cc m c) (cx m c) (ww m c) (bb m c) (j 0) (j 1) (j 2) := by
  refine (dats m 0 c).arrAt_eq_of_covers 3 _ (by decide +kernel) fun t hf y => ?_
  have hp := pt m c t (y 0) (y 1) (y 2)
  rw [← after0_3] at hp
  have e0 : (y 0 : Fin 2) = ((cfg0.win 3).blk t).view.emb y 0 := Fin.ext (by blk_simp [idx_val t])
  have e1 : (y 1 : Fin 16) = ((cfg0.win 3).blk t).view.emb y 1 := Fin.ext (by blk_simp [idx_val t])
  have e2 : (y 2 : Fin 384) = ((cfg0.win 3).blk t).view.emb y 2 := Fin.ext (by blk_simp [idx_val t])
  rw [← eq_ix3 y, e0, e1, e2] at hp
  exact hp
end Cert.ModFIdeal.Out
end
end
-- ==== Proof.ModFRef.lean ====
module

public import proofs.«01_k».proof.Proof.Gen.ModFRefIdeal.Run
public import proofs.«01_k».proof.Proof.ModFLib
public import proofs.«01_k».proof.Proof.Mod

/-! What the reference of the modulation's forward call leaves in its result, at one index. -/

@[expose] public section

set_option maxRecDepth 16384
noncomputable section
open Idealize.ShloMosaic Idealize.ShloMosaic.TcCoe Idealize.SL.Sem
namespace Cert.ModFRefIdeal.Out
open Cert.ModFRefIdeal Cert.ModFRefIdeal.Gen Cert.ModFRefIdeal.Value Cert.InLib Cert.OutLib Cert.ModFLib
open Cert.ModSpec (lo hi slab_canon)
variable (m : (ℓ : Loc nD τ sig) → Buf (Elt Ideal) ℓ) (c : Dev nD)

/-- The run's arguments. -/
abbrev cc : (Sh2 8 1024).Idx → EReal := m ((c : Thread nD τ).loc main_arg0)
abbrev cx : (Sh1 1024).Idx → EReal := m ((c : Thread nD τ).loc main_arg1)
abbrev ww : (Sh3 2 1024 384).Idx → EReal := m ((c : Thread nD τ).loc main_arg2)
abbrev bb : (Sh2 2 384).Idx → EReal := m ((c : Thread nD τ).loc main_arg3)

theorem halves {P : Fin 16 → Prop} (h0 : ∀ r, P (lo r)) (h1 : ∀ r, P (hi r)) (r : Fin 16) : P r := by
  by_cases h : (r : ℕ) < 8
  · exact h0 ⟨r, h⟩
  · have e : r = hi ⟨(r : ℕ) - 8, by omega⟩ := Fin.ext (show (r : ℕ) = 8 + (r - 8) by omega)
    rw [e]; exact h1 _
theorem cnd_lo (C : (Sh2 8 1024).Idx → EReal) (X : (Sh1 1024).Idx → EReal) (r : Fin 8) (a : Fin 1024) : cnd C X (lo r) a = C (ix2 r a) := by
  unfold cnd; exact dif_pos r.isLt
theorem cnd_hi (C : (Sh2 8 1024).Idx → EReal) (X : (Sh1 1024).Idx → EReal) (r : Fin 8) (a : Fin 1024) : cnd C X (hi r) a = X (ix1 a) := by
  unfold cnd; exact dif_neg (show ¬ (8 + (r : ℕ)) < 8 by omega)

set_option maxHeartbeats 1000000 in
/-- The result of the reference at every index, and its arguments kept. -/
theorem run_main (ρ : Dev nD → PrngReg) :
    θ_run defs (onTc (τ := τ) (main (F := Ideal))) ⟨m, fun _ => 0, ρ⟩ fun r => ∀ c : Dev nD,
      r.2.mem ((c.tc : Thread nD τ).loc main_v41) = (fun j : S2x16x384.Idx => mf (cc m c) (cx m c) (ww m c) (bb m c) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (run m ρ)
  clear h
  funext j
  simp only [cc, cx, ww, bb]
  generalize m ((c : Thread nD τ).loc main_arg0) = X0
  generalize m ((c : Thread nD τ).loc main_arg1) = X1
  generalize m ((c : Thread nD τ).loc main_arg2) = X2
  generalize m ((c : Thread nD τ).loc main_arg3) = X3
  obtain ⟨i, r, b, rfl⟩ : ∃ (i : Fin 2) (r : Fin 16) (b : Fin 384), j = ix3 i r b := ⟨_, _, _, eq_ix3 j⟩
  show _ = mf X0 X1 X2 X3 i r b
  unfold mf silu
  revert r
  refine halves (fun r => ?_) fun r => ?_
  · simp only [cnd_lo]
    fin_cases i
    · pointwise
      rfl
    · pointwise
      rfl
  · simp only [cnd_hi]
    fin_cases i
    · pointwise
      rfl
    · pointwise
      rfl
end Cert.ModFRefIdeal.Out
end
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ConvCtx.Frame
public import proofs.«01_k».proof.Proof.Gen.ConvCtxIdeal.Value
public import proofs.«01_k».proof.Proof.Gen.ConvCtxRefIdeal.Run
public import proofs.«01_k».proof.Proof.Gen.Mod.Frame
public import proofs.«01_k».proof.Proof.Gen.ModIdeal.Value
public import proofs.«01_k».proof.Proof.Gen.ModRefIdeal.Run
public import proofs.«01_k».proof.Proof.Gen.InCtx.Frame
public import proofs.«01_k».proof.Proof.Gen.InCtxIdeal.Value
public import proofs.«01_k».proof.Proof.Gen.InCtxRefIdeal.Run
public import proofs.«01_k».proof.Proof.Gen.In1.Frame
public import proofs.«01_k».proof.Proof.Gen.In1Ideal.Value
public import proofs.«01_k».proof.Proof.Gen.In1RefIdeal.Run
public import proofs.«01_k».proof.Proof.Gen.In0.Frame
public import proofs.«01_k».proof.Proof.Gen.In0Ideal.Value
public import proofs.«01_k».proof.Proof.Gen.In0RefIdeal.Run
public import proofs.«01_k».proof.Proof.Gen.Out1B.Frame
public import proofs.«01_k».proof.Proof.Gen.Out1BIdeal.Value
public import proofs.«01_k».proof.Proof.Gen.Out1BRefIdeal.Run
public import proofs.«01_k».proof.Proof.Gen.Out0B.Frame
public import proofs.«01_k».proof.Proof.Gen.Out0BIdeal.Value
public import proofs.«01_k».proof.Proof.Gen.Out0BRefIdeal.Run
public import proofs.«01_k».proof.Proof.Gen.Out1.Frame
public import proofs.«01_k».proof.Proof.Gen.Out1Ideal.Value
public import proofs.«01_k».proof.Proof.Gen.Out1RefIdeal.Run
public import proofs.«01_k».proof.Proof.Gen.Out0F.Frame
public import proofs.«01_k».proof.Proof.Gen.Out0FIdeal.Value
public import proofs.«01_k».proof.Proof.Gen.Out0FRefIdeal.Run
public import proofs.«01_k».proof.Proof.Gen.InF.Frame
public import proofs.«01_k».proof.Proof.Gen.InFIdeal.Value
public import proofs.«01_k».proof.Proof.Gen.InFRefIdeal.Run
public import proofs.«01_k».proof.Proof.Gen.InCtxF.Frame
public import proofs.«01_k».proof.Proof.Gen.InCtxFIdeal.Value
public import proofs.«01_k».proof.Proof.Gen.InCtxFRefIdeal.Run
public import proofs.«01_k».proof.Proof.Gen.ModF.Frame
public import proofs.«01_k».proof.Proof.Gen.ModFIdeal.Value
public import proofs.«01_k».proof.Proof.Gen.ModFRefIdeal.Run
public import proofs.«01_k».proof.Proof.Gen.LruCtxB.Frame
public import proofs.«01_k».proof.Proof.Gen.LruCtxB.Loops
public import proofs.«01_k».proof.Proof.Gen.LruCtxBIdeal
public import proofs.«01_k».proof.Proof.LruCtxBFrame
public import proofs.«01_k».proof.Proof.Gen.LruF.Frame
public import proofs.«01_k».proof.Proof.Gen.LruF.Loops
public import proofs.«01_k».proof.Proof.Gen.LruFIdeal
public import proofs.«01_k».proof.Proof.LruFFrame
public import proofs.«01_k».proof.Proof.Gen.LruB.Frame
public import proofs.«01_k».proof.Proof.Gen.LruB.Loops
public import proofs.«01_k».proof.Proof.Gen.LruBIdeal
public import proofs.«01_k».proof.Proof.LruBFrame
public import proofs.«01_k».proof.Proof.Gen.LruCtx.Frame
public import proofs.«01_k».proof.Proof.Gen.LruCtx.Loops
public import proofs.«01_k».proof.Proof.Gen.LruCtxIdeal
public import proofs.«01_k».proof.Proof.LruCtxFrame
public import proofs.«01_k».proof.Proof.Conv
public import proofs.«01_k».proof.Proof.ConvRef
public import proofs.«01_k».proof.Proof.ConvCtx
public import proofs.«01_k».proof.Proof.ConvCtxRef
public import proofs.«01_k».proof.Proof.Gen.Pre_mod_finite
public import proofs.«01_k».proof.Proof.Mod
public import proofs.«01_k».proof.Proof.ModRef
public import proofs.«01_k».proof.Proof.InCtx
public import proofs.«01_k».proof.Proof.InCtxRef
public import proofs.«01_k».proof.Proof.In1
public import proofs.«01_k».proof.Proof.In1Ref
public import proofs.«01_k».proof.Proof.In0
public import proofs.«01_k».proof.Proof.In0Ref
public import proofs.«01_k».proof.Proof.Gen.Pre_out1b_finite
public import proofs.«01_k».proof.Proof.Out1B
public import proofs.«01_k».proof.Proof.Out1BRef
public import proofs.«01_k».proof.Proof.Gen.Pre_out0b_finite
public import proofs.«01_k».proof.Proof.Out0B
public import proofs.«01_k».proof.Proof.Out0BRef
public import proofs.«01_k».proof.Proof.Gen.Pre_out1_finite
public import proofs.«01_k».proof.Proof.Out1
public import proofs.«01_k».proof.Proof.Out1Ref
public import proofs.«01_k».proof.Proof.Out0F
public import proofs.«01_k».proof.Proof.Out0FRef
public import proofs.«01_k».proof.Proof.InF
public import proofs.«01_k».proof.Proof.InFRef
public import proofs.«01_k».proof.Proof.InCtxF
public import proofs.«01_k».proof.Proof.InCtxFRef
public import proofs.«01_k».proof.Proof.ModF
public import proofs.«01_k».proof.Proof.ModFRef
public import Idealize.ShloMosaic.Adequacy
public import Idealize.ShloMosaic.Init

/-! The claims, put together. -/

@[expose] public section

set_option maxRecDepth 16384

noncomputable section

namespace Cert.Proof

open Idealize.ShloMosaic Idealize.ShloMosaic.TcCoe Idealize.ShloMosaic.Tactic Idealize.SL.Sem

theorem conv_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Conv.run_main m ρ)

/-- Both programs leave `du` and `sums` of the arguments. -/
theorem conv : Cert.algebraic_KernelIdeal_ReferenceIdeal := fun m ρ m' ρ' _ hag =>
  ⟨_, _, (θ_run _ _ _).mono (fun _ h c => ⟨(h c).1.trans (Cert.KernelIdeal.Conv.du_final m c),
      (h c).2.1.trans (Cert.KernelIdeal.Conv.sums_final m c), (h c).2.2⟩) (Cert.KernelIdeal.Value.run_blocks m ρ),
    (θ_run _ _ _).mono (fun _ h c => ⟨(h c).1.trans (by rw [(hag c).1, (hag c).2.1, (hag c).2.2.2]),
      (h c).2.1.trans (by rw [(hag c).1, (hag c).2.1, (hag c).2.2.1]), (h c).2.2⟩) (Cert.ReferenceIdeal.Conv.run_main m' ρ')⟩

theorem conv_ctx_frame : Cert.quiescent_ConvCtxRefIdeal := fun m ρ _ =>
  (θ_run Cert.ConvCtxRefIdeal.defs _ _).mono (fun r h => ⟨fun c => (h c).2.2, sem_eq_zero_of_no_sems (by decide) r.2⟩)
    (Cert.ConvCtxRefIdeal.Conv.run_main m ρ)

/-- Both programs leave `du` and `sums` of the arguments. -/
theorem conv_ctx : Cert.algebraic_ConvCtxIdeal_ConvCtxRefIdeal := fun m ρ m' ρ' _ hag =>
  ⟨_, _, (θ_run _ _ _).mono (fun _ h c => ⟨(h c).1.trans (Cert.ConvCtxIdeal.Conv.du_final m c),
      (h c).2.1.trans (Cert.ConvCtxIdeal.Conv.sums_final m c), (h c).2.2⟩) (Cert.ConvCtxIdeal.Value.run_blocks m ρ),
    (θ_run _ _ _).mono (fun _ h c => ⟨(h c).1.trans (by rw [(hag c).1, (hag c).2.1, (hag c).2.2.2]),
      (h c).2.1.trans (by rw [(hag c).1, (hag c).2.1, (hag c).2.2.1]), (h c).2.2⟩) (Cert.ConvCtxRefIdeal.Conv.run_main m' ρ')⟩

/-- The two printed programs of this call are one text: what is shown of the one at any elements is shown of the other. -/
theorem lru_ctx_ideal : Cert.quiescent_LruCtxIdeal := by
  refine Eq.mp ?_ (fun m ρ (_ : True) => Cert.LruCtx.Run.frame (F := Ideal) m ρ)
  sl_kernel_rfl

/-- A finite gradient times the silu's derivative, in the kernel's form and in the reference's. -/
theorem mod_ctx (m' : (ℓ : Loc Cert.ModRefIdeal.nD Cert.ModRefIdeal.τ Cert.ModRefIdeal.sig) → Buf (Elt Ideal) ℓ) (c : Dev Cert.ModRefIdeal.nD)
    (hd : ∀ i, Cert.OutLib.IsR (Cert.ModRefIdeal.Out.dx m' c i)) (hw : ∀ i, Cert.OutLib.IsR (Cert.ModRefIdeal.Out.ww m' c i)) (a : Fin 1024) : Cert.ModRefIdeal.Out.gcr m' c a = Cert.ModSpec.gc (Cert.ModRefIdeal.Out.cx m' c) (Cert.ModRefIdeal.Out.dx m' c) (Cert.ModRefIdeal.Out.ww m' c) a := by
  unfold Cert.ModRefIdeal.Out.gcr Cert.ModSpec.gc
  refine Finset.sum_congr rfl fun r _ => ?_
  obtain ⟨x, hx⟩ : Cert.OutLib.IsR (Cert.ModSpec.back (Cert.ModRefIdeal.Out.dx m' c) (Cert.ModRefIdeal.Out.ww m' c) r a) := .sum fun b => .mul (hd _) (hw _)
  rw [← hx, Cert.OutLib.dsilu_sum]

theorem mod_frame : Cert.quiescent_ModRefIdeal := fun m ρ _ =>
  (θ_run Cert.ModRefIdeal.defs _ _).mono (fun r h => ⟨fun c => (h c).2.2.2, sem_eq_zero_of_no_sems (by decide) r.2⟩)
    (Cert.ModRefIdeal.Out.run_main m ρ)
/-- At finite arguments both programs leave the same three gradients of the modulation. -/
theorem mod : Cert.algebraic_ModIdeal_ModRefIdeal_pre_mod_finite := fun m ρ m' ρ' hpre hag =>
  ⟨_, _, _, (θ_run _ _ _).mono (fun _ h c => by
      obtain ⟨h0, h1, h2, hk⟩ := h c
      exact ⟨h0.trans (Cert.ModIdeal.Out.gw_final m c), h1.trans (Cert.ModIdeal.Out.gb_final m c), h2.trans (Cert.ModIdeal.Out.gc_final m c), hk⟩) (Cert.ModIdeal.Value.run_blocks m ρ),
    (θ_run _ _ _).mono (fun _ h c => by
      obtain ⟨h0, h1, h2, hk⟩ := h c
      obtain ⟨e0, e1, e2, e3, e4⟩ := hag c
      obtain ⟨p3, p4⟩ := hpre c
      have hc : (fun j : Cert.ModRefIdeal.S1x1024.Idx => Cert.ModRefIdeal.Out.gcr m' c (j 1)) = _ := funext fun j =>
        mod_ctx m' c (fun i => by rw [Cert.ModRefIdeal.Out.dx, e3]; exact Cert.OutLib.isR_of _ _ p3 i) (fun i => by rw [Cert.ModRefIdeal.Out.ww, e4]; exact Cert.OutLib.isR_of _ _ p4 i) (j 1)
      rw [hc] at h2
      simp only [Cert.ModRefIdeal.Out.cc, Cert.ModRefIdeal.Out.cx, Cert.ModRefIdeal.Out.dc, Cert.ModRefIdeal.Out.dx, Cert.ModRefIdeal.Out.ww, e0, e1, e2, e3, e4] at h0 h1 h2
      exact ⟨h0, h1, h2, hk⟩)
      (Cert.ModRefIdeal.Out.run_main m' ρ')⟩

theorem in_ctx_frame : Cert.quiescent_InCtxRefIdeal := fun m ρ _ =>
  (θ_run Cert.InCtxRefIdeal.defs _ _).mono (fun r h => ⟨fun c => (h c).2.2, sem_eq_zero_of_no_sems (by decide) r.2⟩)
    (Cert.InCtxRefIdeal.In.run_main m ρ)
/-- Both programs leave the same two gradients of the context tokens' input product. -/
theorem in_ctx : Cert.algebraic_InCtxIdeal_InCtxRefIdeal := fun m ρ m' ρ' _ hag =>
  ⟨_, _, (θ_run _ _ _).mono (fun _ h c =>
      ⟨(h c).1.trans (Cert.InCtxIdeal.In.gw_final m c), (h c).2.1.trans (Cert.InCtxIdeal.In.st_final m c), (h c).2.2⟩) (Cert.InCtxIdeal.In.run_all m ρ),
    (θ_run _ _ _).mono (fun _ h c => by
      obtain ⟨hg, hs, hk⟩ := h c
      obtain ⟨e0, e1, e2, e3, e4⟩ := hag c
      exact ⟨hg.trans (by rw [e0, e1, e2, e3]), hs.trans (by rw [e0, e1, e4]), hk⟩)
      (Cert.InCtxRefIdeal.In.run_main m' ρ')⟩

theorem in1_frame : Cert.quiescent_In1RefIdeal := fun m ρ _ =>
  (θ_run Cert.In1RefIdeal.defs _ _).mono (fun r h => ⟨fun c => (h c).2.2.2, sem_eq_zero_of_no_sems (by decide) r.2⟩)
    (Cert.In1RefIdeal.In.run_main m ρ)
/-- Both programs leave the same three gradients of the second layer's input product. -/
theorem in1 : Cert.algebraic_In1Ideal_In1RefIdeal := fun m ρ m' ρ' _ hag =>
  ⟨_, _, _, (θ_run _ _ _).mono (fun _ h c => by
      obtain ⟨hx, hs, a0, a1, a2, a3, a4, a5, a6, hg⟩ := h c
      exact ⟨hx.trans (Cert.In1Ideal.In.dx_final m c), hg.trans (Cert.In1Ideal.In.gw_final m c _ _ (by decide)),
        hs.trans (Cert.In1Ideal.In.st_final m c), a0, a1, a2, a3, a4, a5, a6⟩) (Cert.In1Ideal.Value.run_blocks m ρ),
    (θ_run _ _ _).mono (fun _ h c => by
      obtain ⟨hx, hg, hs, hk⟩ := h c
      obtain ⟨e0, e1, e2, e3, e4, e5, e6⟩ := hag c
      exact ⟨hx.trans (by rw [e0, e1, e3, e4, e6]), hg.trans (by rw [e0, e1, e2, e4, e5]), hs.trans (by rw [e0, e1, e2, e6]), hk⟩)
      (Cert.In1RefIdeal.In.run_main m' ρ')⟩

theorem in0_frame : Cert.quiescent_In0RefIdeal := fun m ρ _ =>
  (θ_run Cert.In0RefIdeal.defs _ _).mono (fun r h => ⟨fun c => (h c).2.2.2, sem_eq_zero_of_no_sems (by decide) r.2⟩)
    (Cert.In0RefIdeal.In.run_main m ρ)
/-- Both programs leave the same three gradients of the first layer's input product. -/
theorem in0 : Cert.algebraic_In0Ideal_In0RefIdeal := fun m ρ m' ρ' _ hag =>
  ⟨_, _, _, (θ_run _ _ _).mono (fun _ h c => by
      obtain ⟨hx, hs, a0, a1, a2, a3, a4, a5, a6, a7, hg⟩ := h c
      exact ⟨hx.trans (Cert.In0Ideal.In.dx_final m c), hg.trans (Cert.In0Ideal.In.gw_final m c _ _ (by decide)),
        hs.trans (Cert.In0Ideal.In.st_final m c), a0, a1, a2, a3, a4, a5, a6, a7⟩) (Cert.In0Ideal.Value.run_blocks m ρ),
    (θ_run _ _ _).mono (fun _ h c => by
      obtain ⟨hx, hg, hs, hk⟩ := h c
      obtain ⟨e0, e1, e2, e3, e4, e5, e6, e7⟩ := hag c
      exact ⟨hx.trans (by rw [e0, e1, e3, e4, e6]), hg.trans (by rw [e0, e1, e2, e4, e5, e7]), hs.trans (by rw [e0, e1, e2, e6]), hk⟩)
      (Cert.In0RefIdeal.In.run_main m' ρ')⟩

/-- A finite cotangent times the gate's derivative, in the kernel's form and in the reference's. -/
theorem out1b_gate (m' : (ℓ : Loc Cert.Out1BRefIdeal.nD Cert.Out1BRefIdeal.τ Cert.Out1BRefIdeal.sig) → Buf (Elt Ideal) ℓ) (c : Dev Cert.Out1BRefIdeal.nD)
    (hz : ∀ i, Cert.OutLib.IsR (Cert.Out1BRefIdeal.Out.dz m' c i)) (hm : ∀ i, Cert.OutLib.IsR (Cert.Out1BRefIdeal.Out.dm m' c i)) (hw : ∀ i, Cert.OutLib.IsR (Cert.Out1BRefIdeal.Out.pw m' c i))
    (hs : ∀ i, Cert.OutLib.IsR (Cert.Out1BRefIdeal.Out.ps m' c i)) (ht : ∀ i, Cert.OutLib.IsR (Cert.Out1BRefIdeal.Out.gt m' c i)) (ho : ∀ i, Cert.OutLib.IsR (Cert.Out1BRefIdeal.Out.wo m' c i))
    (r : Fin 8192) (q : Fin 2048) : Cert.Out1BRefIdeal.Out.dgr m' c r q
      = Cert.OutLib.dgate (Cert.Out1BRefIdeal.Out.DB m' c) (Cert.Out1BRefIdeal.Out.wo m' c) (Cert.Out1BRefIdeal.Out.gg m' c) (Cert.Out1BRefIdeal.Out.YS m' c) r q := by
  obtain ⟨x, hx⟩ : Cert.OutLib.IsR (Cert.Out1BRefIdeal.Out.YS m' c r q * Cert.OutLib.dp (Cert.Out1BRefIdeal.Out.DB m' c) (Cert.Out1BRefIdeal.Out.wo m' c) r q) :=
    .mul (.mul (.sum fun e => .mul (hm _) (hw _)) (hs _)) (.sum fun j => .mul (.mul (ht _) (hz _)) (ho _))
  unfold Cert.Out1BRefIdeal.Out.dgr Cert.OutLib.dgate
  rw [mul_comm (Cert.OutLib.dp _ _ r q), ← hx, Cert.OutLib.dsilu_sum]

theorem out1b_frame : Cert.quiescent_Out1BRefIdeal := fun m ρ _ =>
  (θ_run Cert.Out1BRefIdeal.defs _ _).mono (fun r h => ⟨fun c => (h c).2.2.2.2.2, sem_eq_zero_of_no_sems (by decide) r.2⟩)
    (Cert.Out1BRefIdeal.Out.run_main m ρ)
/-- At finite arguments both programs leave the same five gradients of the second layer's output. -/
theorem out1b : Cert.algebraic_Out1BIdeal_Out1BRefIdeal_pre_out1b_finite := fun m ρ m' ρ' hpre hag =>
  ⟨_, _, _, _, _, (θ_run _ _ _).mono (fun _ h c => by
      obtain ⟨h0, h1, h4, a0, a1, a2, a3, a4, a5, a6, h2, h3⟩ := h c
      exact ⟨h0.trans (Cert.Out1BIdeal.Out.dd_final m c), h1.trans (Cert.Out1BIdeal.Out.dg_final m c), h2.trans (Cert.Out1BIdeal.Out.wo_final m c _ _ (by decide)),
        h3.trans (Cert.Out1BIdeal.Out.pw_final m c _ _ (by decide)), h4.trans (Cert.Out1BIdeal.Out.ps_final m c), a0, a1, a2, a3, a4, a5, a6⟩) (Cert.Out1BIdeal.Value.run_blocks m ρ),
    (θ_run _ _ _).mono (fun _ h c => by
      obtain ⟨h0, h1, h2, h3, h4, hk⟩ := h c
      obtain ⟨e0, e1, e2, e3, e4, e5, e6⟩ := hag c
      obtain ⟨p0, p1, p3, p4, p5, p6⟩ := hpre c
      have hd : (fun j : Cert.Out1BRefIdeal.S8192x2048.Idx => Cert.Out1BRefIdeal.Out.dgr m' c (j 0) (j 1)) = _ := funext fun j =>
        out1b_gate m' c (fun i => by rw [Cert.Out1BRefIdeal.Out.dz, e0]; exact Cert.OutLib.isR_of _ _ p0 i) (fun i => by rw [Cert.Out1BRefIdeal.Out.dm, e1]; exact Cert.OutLib.isR_of _ _ p1 i)
          (fun i => by rw [Cert.Out1BRefIdeal.Out.pw, e3]; exact Cert.OutLib.isR_of _ _ p3 i) (fun i => by rw [Cert.Out1BRefIdeal.Out.ps, e4]; exact Cert.OutLib.isR_of _ _ p4 i)
          (fun i => by rw [Cert.Out1BRefIdeal.Out.gt, e5]; exact Cert.OutLib.isR_of _ _ p5 i) (fun i => by rw [Cert.Out1BRefIdeal.Out.wo, e6]; exact Cert.OutLib.isR_of _ _ p6 i) (j 0) (j 1)
      rw [hd] at h1
      simp only [Cert.Out1BRefIdeal.Out.DB, Cert.Out1BRefIdeal.Out.YS, Cert.Out1BRefIdeal.Out.DY, Cert.Out1BRefIdeal.Out.dz, Cert.Out1BRefIdeal.Out.dm, Cert.Out1BRefIdeal.Out.gg,
        Cert.Out1BRefIdeal.Out.pw, Cert.Out1BRefIdeal.Out.ps, Cert.Out1BRefIdeal.Out.gt, Cert.Out1BRefIdeal.Out.wo, e0, e1, e2, e3, e4, e5, e6] at h0 h1 h2 h3 h4
      exact ⟨h0, h1, h2, h3, h4, hk⟩)
      (Cert.Out1BRefIdeal.Out.run_main m' ρ')⟩

/-- At finite arguments the row's gradient has the kernel's form. -/
theorem out0b_norm (m' : (ℓ : Loc Cert.Out0BRefIdeal.nD Cert.Out0BRefIdeal.τ Cert.Out0BRefIdeal.sig) → Buf (Elt Ideal) ℓ) (c : Dev Cert.Out0BRefIdeal.nD)
    (h0 : ∀ i, Cert.OutLib.IsR (Cert.Out0BRefIdeal.Out.dx m' c i)) (h1 : ∀ i, Cert.OutLib.IsR (Cert.Out0BRefIdeal.Out.xx m' c i)) (h2 : ∀ i, Cert.OutLib.IsR (Cert.Out0BRefIdeal.Out.hf m' c i))
    (h3 : ∀ i, Cert.OutLib.IsR (Cert.Out0BRefIdeal.Out.hb m' c i)) (h4 : ∀ i, Cert.OutLib.IsR (Cert.Out0BRefIdeal.Out.gg m' c i)) (h5 : ∀ i, Cert.OutLib.IsR (Cert.Out0BRefIdeal.Out.gt m' c i))
    (h6 : ∀ i, Cert.OutLib.IsR (Cert.Out0BRefIdeal.Out.wo m' c i)) (h7 : ∀ i, Cert.OutLib.IsR (Cert.Out0BRefIdeal.Out.lg m' c i)) (r : Fin 8192) (j : Fin 1024) :
    Cert.LnLib.nb (Cert.Out0BRefIdeal.Out.ZR m' c r) (Cert.Out0BRefIdeal.Out.PR m' c r) j = Cert.Out0BRefIdeal.Out.DZ m' c r j ∧ Cert.OutLib.IsR (Cert.LnLib.nb (Cert.Out0BRefIdeal.Out.ZR m' c r) (Cert.Out0BRefIdeal.Out.PR m' c r) j) :=
  Cert.LnLib.nb_eq (fun j => Cert.LnLib.resid_isR h1 h5 (fun r j => Cert.LnLib.branch_isR (fun r q => Cert.LnLib.ysum_isR h2 h3 r q) h4 h6 r j) r j)
    (fun j => Cert.LnLib.scaled_isR h0 h7 r j) j

theorem out0b_frame : Cert.quiescent_Out0BRefIdeal := fun m ρ _ =>
  (θ_run Cert.Out0BRefIdeal.defs _ _).mono (fun r h => ⟨fun c => (h c).2.2.2.2.2, sem_eq_zero_of_no_sems (by decide) r.2⟩)
    (Cert.Out0BRefIdeal.Out.run_main m ρ)
/-- At finite arguments both programs leave the same five gradients of the first layer's output. -/
theorem out0b : Cert.algebraic_Out0BIdeal_Out0BRefIdeal_pre_out0b_finite := fun m ρ m' ρ' hpre hag =>
  ⟨_, _, _, _, _, (θ_run _ _ _).mono (fun _ h c => by
      obtain ⟨h0, h1, h2, h4, a0, a1, a2, a3, a4, a5, a6, a7, h3⟩ := h c
      exact ⟨h0.trans (Cert.Out0BIdeal.Out.dz_final m c), h1.trans (Cert.Out0BIdeal.Out.dy_final m c), h2.trans (Cert.Out0BIdeal.Out.dg_final m c), h3.trans (Cert.Out0BIdeal.Out.wo_final m c _ _ (by decide)),
        h4.trans (Cert.Out0BIdeal.Out.st_final m c), a0, a1, a2, a3, a4, a5, a6, a7⟩) (Cert.Out0BIdeal.Value.run_blocks m ρ),
    (θ_run _ _ _).mono (fun _ h c => by
      obtain ⟨h0, h1, h2, h3, h4, hk⟩ := h c
      obtain ⟨e0, e1, e2, e3, e4, e5, e6, e7⟩ := hag c
      obtain ⟨p0, p1, p2, p3, p4, p5, p6, p7⟩ := hpre c
      have f2 : ∀ i, Cert.OutLib.IsR (Cert.Out0BRefIdeal.Out.hf m' c i) := fun i => by rw [Cert.Out0BRefIdeal.Out.hf, e2]; exact Cert.OutLib.isR_of _ _ p2 i
      have f3 : ∀ i, Cert.OutLib.IsR (Cert.Out0BRefIdeal.Out.hb m' c i) := fun i => by rw [Cert.Out0BRefIdeal.Out.hb, e3]; exact Cert.OutLib.isR_of _ _ p3 i
      have f5 : ∀ i, Cert.OutLib.IsR (Cert.Out0BRefIdeal.Out.gt m' c i) := fun i => by rw [Cert.Out0BRefIdeal.Out.gt, e5]; exact Cert.OutLib.isR_of _ _ p5 i
      have f6 : ∀ i, Cert.OutLib.IsR (Cert.Out0BRefIdeal.Out.wo m' c i) := fun i => by rw [Cert.Out0BRefIdeal.Out.wo, e6]; exact Cert.OutLib.isR_of _ _ p6 i
      have hn := out0b_norm m' c (fun i => by rw [Cert.Out0BRefIdeal.Out.dx, e0]; exact Cert.OutLib.isR_of _ _ p0 i) (fun i => by rw [Cert.Out0BRefIdeal.Out.xx, e1]; exact Cert.OutLib.isR_of _ _ p1 i) f2 f3
        (fun i => by rw [Cert.Out0BRefIdeal.Out.gg, e4]; exact Cert.OutLib.isR_of _ _ p4 i) f5 f6 (fun i => by rw [Cert.Out0BRefIdeal.Out.lg, e7]; exact Cert.OutLib.isR_of _ _ p7 i)
      have hd : Cert.Out0BRefIdeal.Out.DZ m' c = fun r => Cert.LnLib.nb (Cert.Out0BRefIdeal.Out.ZR m' c r) (Cert.Out0BRefIdeal.Out.PR m' c r) := funext fun r => funext fun j => (hn r j).1.symm
      have hg : Cert.Out0BRefIdeal.Out.dgr m' c = Cert.OutLib.dgate (Cert.Out0BRefIdeal.Out.DB m' c) (Cert.Out0BRefIdeal.Out.wo m' c) (Cert.Out0BRefIdeal.Out.gg m' c) (Cert.Out0BRefIdeal.Out.YS m' c) := funext fun r => funext fun q =>
        Cert.LnLib.dgate_sum (fun r j => .mul (f5 _) ((hn r j).1 ▸ (hn r j).2)) f6 (fun r q => Cert.LnLib.ysum_isR f2 f3 r q) r q
      have hc : Cert.Out0BRefIdeal.Out.gc m' c = fun r j => Cert.LnLib.nb (Cert.Out0BRefIdeal.Out.ZR m' c r) (Cert.Out0BRefIdeal.Out.PR m' c r) j * Cert.Out0BRefIdeal.Out.BR m' c r j := funext fun r => funext fun j => by
        rw [Cert.Out0BRefIdeal.Out.gc, hd]
      rw [hd] at h0
      rw [Cert.Out0BRefIdeal.Out.DB, hd] at h1 h3
      rw [hg, Cert.Out0BRefIdeal.Out.DB, hd] at h2
      rw [hc] at h4
      unfold Cert.Out0BRefIdeal.Out.ga Cert.Out0BRefIdeal.Out.gb at h4
      simp only [Cert.Out0BRefIdeal.Out.YS, Cert.Out0BRefIdeal.Out.BR, Cert.Out0BRefIdeal.Out.ZR, Cert.Out0BRefIdeal.Out.PR, Cert.Out0BRefIdeal.Out.dx, Cert.Out0BRefIdeal.Out.xx, Cert.Out0BRefIdeal.Out.hf, Cert.Out0BRefIdeal.Out.hb, Cert.Out0BRefIdeal.Out.gg, Cert.Out0BRefIdeal.Out.gt, Cert.Out0BRefIdeal.Out.wo, Cert.Out0BRefIdeal.Out.lg,
        e0, e1, e2, e3, e4, e5, e6, e7] at h0 h1 h2 h3 h4
      exact ⟨h0, h1, h2, h3, h4, hk⟩)
      (Cert.Out0BRefIdeal.Out.run_main m' ρ')⟩

/-- At finite arguments the row's gradient has the kernel's form. -/
theorem out1_norm (m' : (ℓ : Loc Cert.Out1RefIdeal.nD Cert.Out1RefIdeal.τ Cert.Out1RefIdeal.sig) → Buf (Elt Ideal) ℓ) (c : Dev Cert.Out1RefIdeal.nD)
    (h0 : ∀ i, Cert.OutLib.IsR (Cert.Out1RefIdeal.Out.dm m' c i))
    (h1 : ∀ i, Cert.OutLib.IsR (Cert.Out1RefIdeal.Out.pw m' c i))
    (h2 : ∀ i, Cert.OutLib.IsR (Cert.Out1RefIdeal.Out.ps m' c i))
    (h3 : ∀ i, Cert.OutLib.IsR (Cert.Out1RefIdeal.Out.gg m' c i))
    (h4 : ∀ i, Cert.OutLib.IsR (Cert.Out1RefIdeal.Out.xx m' c i))
    (h5 : ∀ i, Cert.OutLib.IsR (Cert.Out1RefIdeal.Out.gt m' c i))
    (h6 : ∀ i, Cert.OutLib.IsR (Cert.Out1RefIdeal.Out.wo m' c i))
    (h7 : ∀ i, Cert.OutLib.IsR (Cert.Out1RefIdeal.Out.lg m' c i))
    (h8 : ∀ i, Cert.OutLib.IsR (Cert.Out1RefIdeal.Out.lb m' c i))
    (h9 : ∀ i, Cert.OutLib.IsR (Cert.Out1RefIdeal.Out.tg m' c i)) :
    Cert.Out1RefIdeal.Out.DZ m' c = fun r => Cert.LnLib.nb (Cert.Out1RefIdeal.Out.ZR m' c r) (Cert.Out1RefIdeal.Out.PR m' c r) := by
  have hz : ∀ r j, Cert.OutLib.IsR (Cert.Out1RefIdeal.Out.ZR m' c r j) := fun r j =>
    Cert.LnLib.resid_isR h4 h5 (fun r j => Cert.LnLib.branch_isR (fun r q => .mul (.sum fun e => .mul (h0 _) (h1 _)) (h2 _)) h3 h6 r j) r j
  have hp : ∀ r j, Cert.OutLib.IsR (Cert.Out1RefIdeal.Out.PR m' c r j) := fun r j => by
    obtain ⟨e, he⟩ : Cert.OutLib.IsR (Cert.Out1RefIdeal.Out.tg m' c (ix2 r j)) := h9 _
    unfold Cert.Out1RefIdeal.Out.PR Cert.Out1RefIdeal.Out.DY Cert.Out1RefIdeal.Out.ER
    rw [← he, sub_eq_add_neg, ← EReal.coe_neg]
    exact .mul (.mul (.add (.add (.mul (Cert.LnLib.xh_isR (hz r) j) (h7 _)) (h8 _)) ⟨_, rfl⟩) ⟨_, Cert.LnLib.inv_word.symm⟩) (h7 _)
  exact funext fun r => funext fun j => (Cert.LnLib.nb_eq (hz r) (hp r) j).1.symm

theorem out1_frame : Cert.quiescent_Out1RefIdeal := fun m ρ _ =>
  (θ_run Cert.Out1RefIdeal.defs _ _).mono (fun r h => ⟨fun c => (h c).2.2.2, sem_eq_zero_of_no_sems (by decide) r.2⟩)
    (Cert.Out1RefIdeal.Out.run_main m ρ)
/-- At finite arguments both programs leave the same gradient, the same rows of sums and the same grouped product. -/
theorem out1 : Cert.algebraic_Out1Ideal_Out1RefIdeal_pre_out1_finite := fun m ρ m' ρ' hpre hag =>
  ⟨_, _, _, (θ_run _ _ _).mono (fun _ h c => by
      obtain ⟨h0, h1, h2, hk⟩ := h c
      exact ⟨h0.trans (Cert.Out1Ideal.Out.dz_final m c), h1.trans (Cert.Out1Ideal.Out.st_final m c), h2.trans (Cert.Out1Ideal.Out.po_final m c), hk⟩) (Cert.Out1Ideal.Value.run_blocks m ρ),
    (θ_run _ _ _).mono (fun _ h c => by
      obtain ⟨h0, h1, h2, hk⟩ := h c
      obtain ⟨e0, e1, e2, e3, e4, e5, e6, e7, e8, e9⟩ := hag c
      obtain ⟨p0, p1, p2, p3, p4, p5, p6, p7, p8, p9⟩ := hpre c
      have hd := out1_norm m' c (fun i => by rw [Cert.Out1RefIdeal.Out.dm, e0]; exact Cert.OutLib.isR_of _ _ p0 i)
        (fun i => by rw [Cert.Out1RefIdeal.Out.pw, e1]; exact Cert.OutLib.isR_of _ _ p1 i)
        (fun i => by rw [Cert.Out1RefIdeal.Out.ps, e2]; exact Cert.OutLib.isR_of _ _ p2 i)
        (fun i => by rw [Cert.Out1RefIdeal.Out.gg, e3]; exact Cert.OutLib.isR_of _ _ p3 i)
        (fun i => by rw [Cert.Out1RefIdeal.Out.xx, e4]; exact Cert.OutLib.isR_of _ _ p4 i)
        (fun i => by rw [Cert.Out1RefIdeal.Out.gt, e5]; exact Cert.OutLib.isR_of _ _ p5 i)
        (fun i => by rw [Cert.Out1RefIdeal.Out.wo, e6]; exact Cert.OutLib.isR_of _ _ p6 i)
        (fun i => by rw [Cert.Out1RefIdeal.Out.lg, e7]; exact Cert.OutLib.isR_of _ _ p7 i)
        (fun i => by rw [Cert.Out1RefIdeal.Out.lb, e8]; exact Cert.OutLib.isR_of _ _ p8 i)
        (fun i => by rw [Cert.Out1RefIdeal.Out.tg, e9]; exact Cert.OutLib.isR_of _ _ p9 i)
      have hc : Cert.Out1RefIdeal.Out.gc m' c = fun r j => Cert.LnLib.nb (Cert.Out1RefIdeal.Out.ZR m' c r) (Cert.Out1RefIdeal.Out.PR m' c r) j * Cert.Out1RefIdeal.Out.BR m' c r j := funext fun r => funext fun j => by
        rw [Cert.Out1RefIdeal.Out.gc, hd]
      rw [hd] at h0
      rw [hc] at h1
      have hP : Cert.Out1RefIdeal.Out.PR m' c = Cert.Out1Ideal.Out.PR m c := by
        funext r j
        unfold Cert.Out1RefIdeal.Out.PR Cert.Out1RefIdeal.Out.DY Cert.Out1RefIdeal.Out.ER Cert.Out1Ideal.Out.PR Cert.Out1Ideal.Out.DY Cert.Out1Ideal.Out.ER
        simp only [Cert.Out1RefIdeal.Out.YS, Cert.Out1RefIdeal.Out.BR, Cert.Out1RefIdeal.Out.ZR, Cert.Out1RefIdeal.Out.dm, Cert.Out1RefIdeal.Out.pw, Cert.Out1RefIdeal.Out.ps, Cert.Out1RefIdeal.Out.gg, Cert.Out1RefIdeal.Out.xx, Cert.Out1RefIdeal.Out.gt, Cert.Out1RefIdeal.Out.wo, Cert.Out1RefIdeal.Out.lg, Cert.Out1RefIdeal.Out.lb, Cert.Out1RefIdeal.Out.tg, e0, e1, e2, e3, e4, e5, e6, e7, e8, e9]
      have hY : Cert.Out1RefIdeal.Out.DY m' c = Cert.Out1Ideal.Out.DY m c := by
        funext r j
        unfold Cert.Out1RefIdeal.Out.DY Cert.Out1RefIdeal.Out.ER Cert.Out1Ideal.Out.DY Cert.Out1Ideal.Out.ER
        simp only [Cert.Out1RefIdeal.Out.YS, Cert.Out1RefIdeal.Out.BR, Cert.Out1RefIdeal.Out.ZR, Cert.Out1RefIdeal.Out.dm, Cert.Out1RefIdeal.Out.pw, Cert.Out1RefIdeal.Out.ps, Cert.Out1RefIdeal.Out.gg, Cert.Out1RefIdeal.Out.xx, Cert.Out1RefIdeal.Out.gt, Cert.Out1RefIdeal.Out.wo, Cert.Out1RefIdeal.Out.lg, Cert.Out1RefIdeal.Out.lb, Cert.Out1RefIdeal.Out.tg, e0, e1, e2, e3, e4, e5, e6, e7, e8, e9]
      have hE : Cert.Out1RefIdeal.Out.gd m' c = Cert.Out1Ideal.Out.gd m c := by
        funext r j
        unfold Cert.Out1RefIdeal.Out.gd Cert.Out1RefIdeal.Out.ER Cert.Out1Ideal.Out.gd Cert.Out1Ideal.Out.ER
        simp only [Cert.Out1RefIdeal.Out.YS, Cert.Out1RefIdeal.Out.BR, Cert.Out1RefIdeal.Out.ZR, Cert.Out1RefIdeal.Out.dm, Cert.Out1RefIdeal.Out.pw, Cert.Out1RefIdeal.Out.ps, Cert.Out1RefIdeal.Out.gg, Cert.Out1RefIdeal.Out.xx, Cert.Out1RefIdeal.Out.gt, Cert.Out1RefIdeal.Out.wo, Cert.Out1RefIdeal.Out.lg, Cert.Out1RefIdeal.Out.lb, Cert.Out1RefIdeal.Out.tg, e0, e1, e2, e3, e4, e5, e6, e7, e8, e9]
      unfold Cert.Out1RefIdeal.Out.ga at h1
      rw [hP] at h0 h1
      rw [hY, hE] at h1
      simp only [Cert.Out1RefIdeal.Out.YS, Cert.Out1RefIdeal.Out.BR, Cert.Out1RefIdeal.Out.ZR, Cert.Out1RefIdeal.Out.dm, Cert.Out1RefIdeal.Out.pw, Cert.Out1RefIdeal.Out.ps, Cert.Out1RefIdeal.Out.gg, Cert.Out1RefIdeal.Out.xx, Cert.Out1RefIdeal.Out.gt, Cert.Out1RefIdeal.Out.wo, Cert.Out1RefIdeal.Out.lg, Cert.Out1RefIdeal.Out.lb, Cert.Out1RefIdeal.Out.tg, e0, e1, e2, e3, e4, e5, e6, e7, e8, e9] at h0 h1 h2
      exact ⟨h0, h1, h2, hk⟩)
      (Cert.Out1RefIdeal.Out.run_main m' ρ')⟩

theorem out0f_frame : Cert.quiescent_Out0FRefIdeal := fun m ρ _ =>
  (θ_run Cert.Out0FRefIdeal.defs _ _).mono (fun r h => ⟨fun c => (h c).2.2.2.2, sem_eq_zero_of_no_sems (by decide) r.2⟩)
    (Cert.Out0FRefIdeal.Out.run_main m ρ)
/-- Both programs leave the same normed row, branch and two halves of the next layer's input product. -/
theorem out0f : Cert.algebraic_Out0FIdeal_Out0FRefIdeal := fun m ρ m' ρ' _ hag =>
  ⟨_, _, _, _, (θ_run _ _ _).mono (fun _ h c => by
      obtain ⟨h0, h1, h2, h3, hk⟩ := h c
      exact ⟨h0.trans (Cert.Out0FIdeal.Out.x1_final m c), h1.trans (Cert.Out0FIdeal.Out.br_final m c), h2.trans (Cert.Out0FIdeal.Out.u_final m c),
        h3.trans (Cert.Out0FIdeal.Out.g_final m c), hk⟩) (Cert.Out0FIdeal.Value.run_blocks m ρ),
    (θ_run _ _ _).mono (fun _ h c => by
      obtain ⟨h0, h1, h2, h3, hk⟩ := h c
      obtain ⟨e0, e1, e2, e3, e4, e5, e6, e7, e8, e9, e10⟩ := hag c
      simp only [Cert.Out0FRefIdeal.Out.X1, Cert.Out0FRefIdeal.Out.H1, Cert.Out0FRefIdeal.Out.UU, Cert.Out0FRefIdeal.Out.ZR, Cert.Out0FRefIdeal.Out.BR, Cert.Out0FRefIdeal.Out.YS, Cert.Out0FRefIdeal.Out.hf, Cert.Out0FRefIdeal.Out.hb, Cert.Out0FRefIdeal.Out.gg, Cert.Out0FRefIdeal.Out.xx, Cert.Out0FRefIdeal.Out.gt, Cert.Out0FRefIdeal.Out.wo, Cert.Out0FRefIdeal.Out.lg, Cert.Out0FRefIdeal.Out.lb, Cert.Out0FRefIdeal.Out.sc, Cert.Out0FRefIdeal.Out.sh, Cert.Out0FRefIdeal.Out.w1, e0, e1, e2, e3, e4, e5, e6, e7, e8, e9, e10] at h0 h1 h2 h3
      exact ⟨h0, h1, h2, h3, hk⟩)
      (Cert.Out0FRefIdeal.Out.run_main m' ρ')⟩

/-- The two printed programs of this call are one text: what is shown of the one at any elements is shown of the other. -/
theorem lru_ctx_b_ideal : Cert.quiescent_LruCtxBIdeal := by
  refine Eq.mp ?_ (fun m ρ (_ : True) => Cert.LruCtxB.Run.frame (F := Ideal) m ρ)
  sl_kernel_rfl

theorem inf_frame : Cert.quiescent_InFRefIdeal := fun m ρ _ =>
  (θ_run Cert.InFRefIdeal.defs _ _).mono (fun r h => ⟨fun c => (h c).2.2, sem_eq_zero_of_no_sems (by decide) r.2⟩)
    (Cert.InFRefIdeal.Out.run_main m ρ)
/-- Both programs leave the same two halves of the first layer's input product. -/
theorem inf : Cert.algebraic_InFIdeal_InFRefIdeal := fun m ρ m' ρ' _ hag =>
  ⟨_, _, (θ_run _ _ _).mono (fun _ h c => by
      obtain ⟨h0, h1, hk⟩ := h c
      exact ⟨h0.trans (Cert.InFIdeal.Out.u_final m c), h1.trans (Cert.InFIdeal.Out.g_final m c), hk⟩) (Cert.InFIdeal.Value.run_blocks m ρ),
    (θ_run _ _ _).mono (fun _ h c => by
      obtain ⟨h0, h1, hk⟩ := h c
      obtain ⟨e0, e1, e2, e3⟩ := hag c
      simp only [Cert.InFRefIdeal.Out.UU, Cert.InFRefIdeal.Out.H1, Cert.InFRefIdeal.Out.xx, Cert.InFRefIdeal.Out.sc, Cert.InFRefIdeal.Out.sh, Cert.InFRefIdeal.Out.w1, e0, e1, e2, e3] at h0 h1
      exact ⟨h0, h1, hk⟩)
      (Cert.InFRefIdeal.Out.run_main m' ρ')⟩

theorem inctxf_frame : Cert.quiescent_InCtxFRefIdeal := fun m ρ _ =>
  (θ_run Cert.InCtxFRefIdeal.defs _ _).mono (fun r h => ⟨fun c => (h c).2.2, sem_eq_zero_of_no_sems (by decide) r.2⟩)
    (Cert.InCtxFRefIdeal.Out.run_main m ρ)
/-- Both programs leave the same two halves of the first layer's input product on the context tokens. -/
theorem inctxf : Cert.algebraic_InCtxFIdeal_InCtxFRefIdeal := fun m ρ m' ρ' _ hag =>
  ⟨_, _, (θ_run _ _ _).mono (fun _ h c => by
      obtain ⟨h0, h1, hk⟩ := h c
      exact ⟨h0.trans (Cert.InCtxFIdeal.Out.u_final m c), h1.trans (Cert.InCtxFIdeal.Out.g_final m c), hk⟩) (Cert.InCtxFIdeal.Value.run_blocks m ρ),
    (θ_run _ _ _).mono (fun _ h c => by
      obtain ⟨h0, h1, hk⟩ := h c
      obtain ⟨e0, e1, e2, e3⟩ := hag c
      simp only [Cert.InCtxFRefIdeal.Out.UU, Cert.InCtxFRefIdeal.Out.H1, Cert.InCtxFRefIdeal.Out.xx, Cert.InCtxFRefIdeal.Out.sc, Cert.InCtxFRefIdeal.Out.sh, Cert.InCtxFRefIdeal.Out.w1, e0, e1, e2, e3] at h0 h1
      exact ⟨h0, h1, hk⟩)
      (Cert.InCtxFRefIdeal.Out.run_main m' ρ')⟩

theorem modf_frame : Cert.quiescent_ModFRefIdeal := fun m ρ _ =>
  (θ_run Cert.ModFRefIdeal.defs _ _).mono (fun r h => ⟨fun c => (h c).2, sem_eq_zero_of_no_sems (by decide) r.2⟩)
    (Cert.ModFRefIdeal.Out.run_main m ρ)
/-- Both programs leave the same modulation. -/
theorem modf : Cert.algebraic_ModFIdeal_ModFRefIdeal := fun m ρ m' ρ' _ hag =>
  ⟨_, (θ_run _ _ _).mono (fun _ h c => ⟨(h c).1.trans (Cert.ModFIdeal.Out.mf_final m c), (h c).2⟩) (Cert.ModFIdeal.Value.run_blocks m ρ),
    (θ_run _ _ _).mono (fun _ h c => by
      obtain ⟨h0, hk⟩ := h c
      obtain ⟨e0, e1, e2, e3⟩ := hag c
      simp only [Cert.ModFRefIdeal.Out.cc, Cert.ModFRefIdeal.Out.cx, Cert.ModFRefIdeal.Out.ww, Cert.ModFRefIdeal.Out.bb, e0, e1, e2, e3] at h0
      exact ⟨h0, hk⟩)
      (Cert.ModFRefIdeal.Out.run_main m' ρ')⟩

/-- The two printed programs of this call are one text: what is shown of the one at any elements is shown of the other. -/
theorem lru_f_ideal : Cert.quiescent_LruFIdeal := by
  refine Eq.mp ?_ (fun m ρ (_ : True) => Cert.LruF.Run.frame (F := Ideal) m ρ)
  sl_kernel_rfl

/-- The two printed programs of this call are one text: what is shown of the one at any elements is shown of the other. -/
theorem lru_b_ideal : Cert.quiescent_LruBIdeal := by
  refine Eq.mp ?_ (fun m ρ (_ : True) => Cert.LruB.Run.frame (F := Ideal) m ρ)
  sl_kernel_rfl

theorem claim : Cert.Claim := ⟨Cert.Kernel.Gen.facts, Cert.KernelIdeal.Gen.facts, Cert.ReferenceIdeal.Gen.facts, Cert.ConvCtx.Gen.facts, Cert.ConvCtxIdeal.Gen.facts, Cert.ConvCtxRefIdeal.Gen.facts, Cert.LruCtx.Gen.facts, Cert.LruCtxIdeal.Gen.facts, Cert.Mod.Gen.facts, Cert.ModIdeal.Gen.facts, Cert.ModRefIdeal.Gen.facts, Cert.InCtx.Gen.facts, Cert.InCtxIdeal.Gen.facts, Cert.InCtxRefIdeal.Gen.facts, Cert.In1.Gen.facts, Cert.In1Ideal.Gen.facts, Cert.In1RefIdeal.Gen.facts, Cert.In0.Gen.facts, Cert.In0Ideal.Gen.facts, Cert.In0RefIdeal.Gen.facts, Cert.Out1B.Gen.facts, Cert.Out1BIdeal.Gen.facts, Cert.Out1BRefIdeal.Gen.facts, Cert.Out0B.Gen.facts, Cert.Out0BIdeal.Gen.facts, Cert.Out0BRefIdeal.Gen.facts, Cert.Out1.Gen.facts, Cert.Out1Ideal.Gen.facts, Cert.Out1RefIdeal.Gen.facts, Cert.Out0F.Gen.facts, Cert.Out0FIdeal.Gen.facts, Cert.Out0FRefIdeal.Gen.facts, Cert.LruCtxB.Gen.facts, Cert.LruCtxBIdeal.Gen.facts, Cert.InF.Gen.facts, Cert.InFIdeal.Gen.facts, Cert.InFRefIdeal.Gen.facts, Cert.InCtxF.Gen.facts, Cert.InCtxFIdeal.Gen.facts, Cert.InCtxFRefIdeal.Gen.facts, Cert.ModF.Gen.facts, Cert.ModFIdeal.Gen.facts, Cert.ModFRefIdeal.Gen.facts, Cert.LruF.Gen.facts, Cert.LruFIdeal.Gen.facts, Cert.LruB.Gen.facts, Cert.LruBIdeal.Gen.facts, Cert.Pre_mod_finite.Gen.facts, Cert.Pre_out1b_finite.Gen.facts, Cert.Pre_out0b_finite.Gen.facts, Cert.Pre_out1_finite.Gen.facts,
  fun m ρ _ => Cert.Kernel.Gen.frame m ρ,
  fun m ρ _ => Cert.KernelIdeal.Gen.frame m ρ,
  conv_frame,
  fun m ρ _ => Cert.ConvCtx.Gen.frame m ρ,
  fun m ρ _ => Cert.ConvCtxIdeal.Gen.frame m ρ,
  conv_ctx_frame,
  fun m ρ _ => Cert.LruCtx.Run.frame m ρ,
  lru_ctx_ideal,
  fun m ρ _ => Cert.Mod.Gen.frame m ρ,
  fun m ρ _ => Cert.ModIdeal.Gen.frame m ρ,
  fun m ρ _ => Cert.ModIdeal.Gen.frame m ρ,
  mod_frame,
  fun m ρ _ => mod_frame m ρ trivial,
  fun m ρ _ => Cert.InCtx.Gen.frame m ρ,
  fun m ρ _ => Cert.InCtxIdeal.Gen.frame m ρ,
  in_ctx_frame,
  fun m ρ _ => Cert.In1.Gen.frame m ρ,
  fun m ρ _ => Cert.In1Ideal.Gen.frame m ρ,
  in1_frame,
  fun m ρ _ => Cert.In0.Gen.frame m ρ,
  fun m ρ _ => Cert.In0Ideal.Gen.frame m ρ,
  in0_frame,
  fun m ρ _ => Cert.Out1B.Gen.frame m ρ,
  fun m ρ _ => Cert.Out1BIdeal.Gen.frame m ρ,
  fun m ρ _ => Cert.Out1BIdeal.Gen.frame m ρ,
  out1b_frame,
  fun m ρ _ => out1b_frame m ρ trivial,
  fun m ρ _ => Cert.Out0B.Gen.frame m ρ,
  fun m ρ _ => Cert.Out0BIdeal.Gen.frame m ρ,
  fun m ρ _ => Cert.Out0BIdeal.Gen.frame m ρ,
  out0b_frame,
  fun m ρ _ => out0b_frame m ρ trivial,
  fun m ρ _ => Cert.Out1.Gen.frame m ρ,
  fun m ρ _ => Cert.Out1Ideal.Gen.frame m ρ,
  fun m ρ _ => Cert.Out1Ideal.Gen.frame m ρ,
  out1_frame,
  fun m ρ _ => out1_frame m ρ trivial,
  fun m ρ _ => Cert.Out0F.Gen.frame m ρ,
  fun m ρ _ => Cert.Out0FIdeal.Gen.frame m ρ,
  out0f_frame,
  fun m ρ _ => Cert.LruCtxB.Run.frame m ρ,
  lru_ctx_b_ideal,
  fun m ρ _ => Cert.InF.Gen.frame m ρ,
  fun m ρ _ => Cert.InFIdeal.Gen.frame m ρ,
  inf_frame,
  fun m ρ _ => Cert.InCtxF.Gen.frame m ρ,
  fun m ρ _ => Cert.InCtxFIdeal.Gen.frame m ρ,
  inctxf_frame,
  fun m ρ _ => Cert.ModF.Gen.frame m ρ,
  fun m ρ _ => Cert.ModFIdeal.Gen.frame m ρ,
  modf_frame,
  fun m ρ _ => Cert.LruF.Run.frame m ρ,
  lru_f_ideal,
  fun m ρ _ => Cert.LruB.Run.frame m ρ,
  lru_b_ideal,
  trivial, conv, trivial, conv_ctx, trivial, trivial, mod, trivial, in_ctx, trivial, in1, trivial, in0, trivial, out1b, trivial, out0b, trivial, out1, trivial, out0f, trivial, trivial, inf, trivial, inctxf, trivial, modf, trivial, trivial⟩

end Cert.Proof

end

end
